-- ==== Defs.lean ====
def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))) = (fun _ => 1#1)

def Pre_GlaKernel (m : (ℓ : Loc Cert.GlaKernel.nD Cert.GlaKernel.τ Cert.GlaKernel.sig) → Buf (Elt Bits) ℓ) : Prop :=
  True

def Pre_GlaKernelIdeal (m : (ℓ : Loc Cert.GlaKernelIdeal.nD Cert.GlaKernelIdeal.τ Cert.GlaKernelIdeal.sig) → Buf (Elt Ideal) ℓ) : Prop :=
  True

def Pre_GlaKernelIdeal_gla_finite [hPre_gla_finite : Cert.Pre_gla_finite.Facts] (m : (ℓ : Loc Cert.GlaKernelIdeal.nD Cert.GlaKernelIdeal.τ Cert.GlaKernelIdeal.sig) → Buf (Elt Ideal) ℓ) : Prop :=
  ∀ c : Dev Cert.GlaKernelIdeal.nD,
    (Cert.Pre_gla_finite.fn (F := Ideal) (m ((c.tc : Thread Cert.GlaKernelIdeal.nD Cert.GlaKernelIdeal.τ).loc Cert.GlaKernelIdeal.main_arg0)) (m ((c.tc : Thread Cert.GlaKernelIdeal.nD Cert.GlaKernelIdeal.τ).loc Cert.GlaKernelIdeal.main_arg1)) (m ((c.tc : Thread Cert.GlaKernelIdeal.nD Cert.GlaKernelIdeal.τ).loc Cert.GlaKernelIdeal.main_arg2)) (m ((c.tc : Thread Cert.GlaKernelIdeal.nD Cert.GlaKernelIdeal.τ).loc Cert.GlaKernelIdeal.main_arg3)) (m ((c.tc : Thread Cert.GlaKernelIdeal.nD Cert.GlaKernelIdeal.τ).loc Cert.GlaKernelIdeal.main_arg4))) = (fun _ => 1#1)

def Pre_GlaReferenceIdeal (m : (ℓ : Loc Cert.GlaReferenceIdeal.nD Cert.GlaReferenceIdeal.τ Cert.GlaReferenceIdeal.sig) → Buf (Elt Ideal) ℓ) : Prop :=
  True

def Pre_GlaReferenceIdeal_gla_finite [hPre_gla_finite : Cert.Pre_gla_finite.Facts] (m : (ℓ : Loc Cert.GlaReferenceIdeal.nD Cert.GlaReferenceIdeal.τ Cert.GlaReferenceIdeal.sig) → Buf (Elt Ideal) ℓ) : Prop :=
  ∀ c : Dev Cert.GlaReferenceIdeal.nD,
    (Cert.Pre_gla_finite.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_post_finite [hPre_post_finite : Cert.Pre_post_finite.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_post_finite [hPre_post_finite : Cert.Pre_post_finite.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3))) = (fun _ => 1#1)

def Pre_WindowKernel (m : (ℓ : Loc Cert.WindowKernel.nD Cert.WindowKernel.τ Cert.WindowKernel.sig) → Buf (Elt Bits) ℓ) : Prop :=
  True

def Pre_WindowKernelIdeal (m : (ℓ : Loc Cert.WindowKernelIdeal.nD Cert.WindowKernelIdeal.τ Cert.WindowKernelIdeal.sig) → Buf (Elt Ideal) ℓ) : Prop :=
  True

def Pre_WindowKernelIdeal_window_finite [hPre_window_finite : Cert.Pre_window_finite.Facts] (m : (ℓ : Loc Cert.WindowKernelIdeal.nD Cert.WindowKernelIdeal.τ Cert.WindowKernelIdeal.sig) → Buf (Elt Ideal) ℓ) : Prop :=
  ∀ c : Dev Cert.WindowKernelIdeal.nD,
    (Cert.Pre_window_finite.fn (F := Ideal) (m ((c.tc : Thread Cert.WindowKernelIdeal.nD Cert.WindowKernelIdeal.τ).loc Cert.WindowKernelIdeal.main_arg0)) (m ((c.tc : Thread Cert.WindowKernelIdeal.nD Cert.WindowKernelIdeal.τ).loc Cert.WindowKernelIdeal.main_arg1))) = (fun _ => 1#1)

def Pre_WindowReferenceIdeal (m : (ℓ : Loc Cert.WindowReferenceIdeal.nD Cert.WindowReferenceIdeal.τ Cert.WindowReferenceIdeal.sig) → Buf (Elt Ideal) ℓ) : Prop :=
  True

def Pre_WindowReferenceIdeal_window_finite [hPre_window_finite : Cert.Pre_window_finite.Facts] (m : (ℓ : Loc Cert.WindowReferenceIdeal.nD Cert.WindowReferenceIdeal.τ Cert.WindowReferenceIdeal.sig) → Buf (Elt Ideal) ℓ) : Prop :=
  ∀ c : Dev Cert.WindowReferenceIdeal.nD,
    (Cert.Pre_window_finite.fn (F := Ideal) (m ((c.tc : Thread Cert.WindowReferenceIdeal.nD Cert.WindowReferenceIdeal.τ).loc Cert.WindowReferenceIdeal.main_arg0)) (m ((c.tc : Thread Cert.WindowReferenceIdeal.nD Cert.WindowReferenceIdeal.τ).loc Cert.WindowReferenceIdeal.main_arg1))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActKernelIdeal_act_finite [hPre_act_finite : Cert.Pre_act_finite.Facts] (m : (ℓ : Loc Cert.ActKernelIdeal.nD Cert.ActKernelIdeal.τ Cert.ActKernelIdeal.sig) → Buf (Elt Ideal) ℓ) : Prop :=
  ∀ c : Dev Cert.ActKernelIdeal.nD,
    (Cert.Pre_act_finite.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_act_finite [hPre_act_finite : Cert.Pre_act_finite.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_act_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))) = (fun _ => 1#1)

def Pre_NormFwdKernel (m : (ℓ : Loc Cert.NormFwdKernel.nD Cert.NormFwdKernel.τ Cert.NormFwdKernel.sig) → Buf (Elt Bits) ℓ) : Prop :=
  True

def Pre_NormFwdKernelIdeal (m : (ℓ : Loc Cert.NormFwdKernelIdeal.nD Cert.NormFwdKernelIdeal.τ Cert.NormFwdKernelIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_PostFwdKernel (m : (ℓ : Loc Cert.PostFwdKernel.nD Cert.PostFwdKernel.τ Cert.PostFwdKernel.sig) → Buf (Elt Bits) ℓ) : Prop :=
  True

def Pre_PostFwdKernelIdeal (m : (ℓ : Loc Cert.PostFwdKernelIdeal.nD Cert.PostFwdKernelIdeal.τ Cert.PostFwdKernelIdeal.sig) → Buf (Elt Ideal) ℓ) : Prop :=
  True

def Pre_PostFwdReferenceIdeal (m : (ℓ : Loc Cert.PostFwdReferenceIdeal.nD Cert.PostFwdReferenceIdeal.τ Cert.PostFwdReferenceIdeal.sig) → Buf (Elt Ideal) ℓ) : Prop :=
  True

def Pre_MixFwdKernel (m : (ℓ : Loc Cert.MixFwdKernel.nD Cert.MixFwdKernel.τ Cert.MixFwdKernel.sig) → Buf (Elt Bits) ℓ) : Prop :=
  True

def Pre_MixFwdKernelIdeal (m : (ℓ : Loc Cert.MixFwdKernelIdeal.nD Cert.MixFwdKernelIdeal.τ Cert.MixFwdKernelIdeal.sig) → Buf (Elt Ideal) ℓ) : Prop :=
  True

def Pre_MixFwdReferenceIdeal (m : (ℓ : Loc Cert.MixFwdReferenceIdeal.nD Cert.MixFwdReferenceIdeal.τ Cert.MixFwdReferenceIdeal.sig) → Buf (Elt Ideal) ℓ) : Prop :=
  True

def Pre_GateupFwdKernel (m : (ℓ : Loc Cert.GateupFwdKernel.nD Cert.GateupFwdKernel.τ Cert.GateupFwdKernel.sig) → Buf (Elt Bits) ℓ) : Prop :=
  True

def Pre_GateupFwdKernelIdeal (m : (ℓ : Loc Cert.GateupFwdKernelIdeal.nD Cert.GateupFwdKernelIdeal.τ Cert.GateupFwdKernelIdeal.sig) → Buf (Elt Ideal) ℓ) : Prop :=
  True

def Pre_GateupFwdReferenceIdeal (m : (ℓ : Loc Cert.GateupFwdReferenceIdeal.nD Cert.GateupFwdReferenceIdeal.τ Cert.GateupFwdReferenceIdeal.sig) → Buf (Elt Ideal) ℓ) : Prop :=
  True

def Pre_WindowFwdKernel (m : (ℓ : Loc Cert.WindowFwdKernel.nD Cert.WindowFwdKernel.τ Cert.WindowFwdKernel.sig) → Buf (Elt Bits) ℓ) : Prop :=
  True

def Pre_WindowFwdKernelIdeal (m : (ℓ : Loc Cert.WindowFwdKernelIdeal.nD Cert.WindowFwdKernelIdeal.τ Cert.WindowFwdKernelIdeal.sig) → Buf (Elt Ideal) ℓ) : Prop :=
  True

def Pre_WindowFwdKernelIdeal_window_fwd_finite [hPre_window_fwd_finite : Cert.Pre_window_fwd_finite.Facts] (m : (ℓ : Loc Cert.WindowFwdKernelIdeal.nD Cert.WindowFwdKernelIdeal.τ Cert.WindowFwdKernelIdeal.sig) → Buf (Elt Ideal) ℓ) : Prop :=
  ∀ c : Dev Cert.WindowFwdKernelIdeal.nD,
    (Cert.Pre_window_fwd_finite.fn (F := Ideal) (m ((c.tc : Thread Cert.WindowFwdKernelIdeal.nD Cert.WindowFwdKernelIdeal.τ).loc Cert.WindowFwdKernelIdeal.main_arg0))) = (fun _ => 1#1)

def Pre_WindowFwdReferenceIdeal (m : (ℓ : Loc Cert.WindowFwdReferenceIdeal.nD Cert.WindowFwdReferenceIdeal.τ Cert.WindowFwdReferenceIdeal.sig) → Buf (Elt Ideal) ℓ) : Prop :=
  True

def Pre_WindowFwdReferenceIdeal_window_fwd_finite [hPre_window_fwd_finite : Cert.Pre_window_fwd_finite.Facts] (m : (ℓ : Loc Cert.WindowFwdReferenceIdeal.nD Cert.WindowFwdReferenceIdeal.τ Cert.WindowFwdReferenceIdeal.sig) → Buf (Elt Ideal) ℓ) : Prop :=
  ∀ c : Dev Cert.WindowFwdReferenceIdeal.nD,
    (Cert.Pre_window_fwd_finite.fn (F := Ideal) (m ((c.tc : Thread Cert.WindowFwdReferenceIdeal.nD Cert.WindowFwdReferenceIdeal.τ).loc Cert.WindowFwdReferenceIdeal.main_arg0))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_ResidKernel (m : (ℓ : Loc Cert.ResidKernel.nD Cert.ResidKernel.τ Cert.ResidKernel.sig) → Buf (Elt Bits) ℓ) : Prop :=
  True

def Pre_ResidKernelIdeal (m : (ℓ : Loc Cert.ResidKernelIdeal.nD Cert.ResidKernelIdeal.τ Cert.ResidKernelIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_BackKernel (m : (ℓ : Loc Cert.BackKernel.nD Cert.BackKernel.τ Cert.BackKernel.sig) → Buf (Elt Bits) ℓ) : Prop :=
  True

def Pre_BackKernelIdeal (m : (ℓ : Loc Cert.BackKernelIdeal.nD Cert.BackKernelIdeal.τ Cert.BackKernelIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_TotalKernel (m : (ℓ : Loc Cert.TotalKernel.nD Cert.TotalKernel.τ Cert.TotalKernel.sig) → Buf (Elt Bits) ℓ) : Prop :=
  True

def Pre_TotalKernelIdeal (m : (ℓ : Loc Cert.TotalKernelIdeal.nD Cert.TotalKernelIdeal.τ Cert.TotalKernelIdeal.sig) → Buf (Elt Ideal) ℓ) : Prop :=
  True

def Pre_TotalReferenceIdeal (m : (ℓ : Loc Cert.TotalReferenceIdeal.nD Cert.TotalReferenceIdeal.τ Cert.TotalReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_WprojKernel (m : (ℓ : Loc Cert.WprojKernel.nD Cert.WprojKernel.τ Cert.WprojKernel.sig) → Buf (Elt Bits) ℓ) : Prop :=
  True

def Pre_WprojKernelIdeal (m : (ℓ : Loc Cert.WprojKernelIdeal.nD Cert.WprojKernelIdeal.τ Cert.WprojKernelIdeal.sig) → Buf (Elt Ideal) ℓ) : Prop :=
  True

def Pre_WprojReferenceIdeal (m : (ℓ : Loc Cert.WprojReferenceIdeal.nD Cert.WprojReferenceIdeal.τ Cert.WprojReferenceIdeal.sig) → Buf (Elt Ideal) ℓ) : Prop :=
  True

def Pre_WdownKernel (m : (ℓ : Loc Cert.WdownKernel.nD Cert.WdownKernel.τ Cert.WdownKernel.sig) → Buf (Elt Bits) ℓ) : Prop :=
  True

def Pre_WdownKernelIdeal (m : (ℓ : Loc Cert.WdownKernelIdeal.nD Cert.WdownKernelIdeal.τ Cert.WdownKernelIdeal.sig) → Buf (Elt Ideal) ℓ) : Prop :=
  True

def Pre_WdownReferenceIdeal (m : (ℓ : Loc Cert.WdownReferenceIdeal.nD Cert.WdownReferenceIdeal.τ Cert.WdownReferenceIdeal.sig) → Buf (Elt Ideal) ℓ) : Prop :=
  True

def Pre_WgateKernel (m : (ℓ : Loc Cert.WgateKernel.nD Cert.WgateKernel.τ Cert.WgateKernel.sig) → Buf (Elt Bits) ℓ) : Prop :=
  True

def Pre_WgateKernelIdeal (m : (ℓ : Loc Cert.WgateKernelIdeal.nD Cert.WgateKernelIdeal.τ Cert.WgateKernelIdeal.sig) → Buf (Elt Ideal) ℓ) : Prop :=
  True

def Pre_WgateReferenceIdeal (m : (ℓ : Loc Cert.WgateReferenceIdeal.nD Cert.WgateReferenceIdeal.τ Cert.WgateReferenceIdeal.sig) → Buf (Elt Ideal) ℓ) : Prop :=
  True

def Pre_AdamGateKernel (m : (ℓ : Loc Cert.AdamGateKernel.nD Cert.AdamGateKernel.τ Cert.AdamGateKernel.sig) → Buf (Elt Bits) ℓ) : Prop :=
  True

def Pre_AdamGateKernelIdeal (m : (ℓ : Loc Cert.AdamGateKernelIdeal.nD Cert.AdamGateKernelIdeal.τ Cert.AdamGateKernelIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_ProjBackKernel (m : (ℓ : Loc Cert.ProjBackKernel.nD Cert.ProjBackKernel.τ Cert.ProjBackKernel.sig) → Buf (Elt Bits) ℓ) : Prop :=
  True

def Pre_ProjBackKernelIdeal (m : (ℓ : Loc Cert.ProjBackKernelIdeal.nD Cert.ProjBackKernelIdeal.τ Cert.ProjBackKernelIdeal.sig) → Buf (Elt Ideal) ℓ) : Prop :=
  True

def Pre_ProjBackReferenceIdeal (m : (ℓ : Loc Cert.ProjBackReferenceIdeal.nD Cert.ProjBackReferenceIdeal.τ Cert.ProjBackReferenceIdeal.sig) → Buf (Elt Ideal) ℓ) : Prop :=
  True

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_GlaKernel [hGlaKernel : Cert.GlaKernel.Facts] : Prop :=
  ∀ (m : (ℓ : Loc Cert.GlaKernel.nD Cert.GlaKernel.τ Cert.GlaKernel.sig) → Buf (Elt Bits) ℓ) (g : Dev Cert.GlaKernel.nD → PrngReg), Pre_GlaKernel m →
    θ_run (Cert.GlaKernel.defs (F := Bits)) (onTc (τ := Cert.GlaKernel.τ) (Cert.GlaKernel.main (F := Bits))) ⟨m, fun _ => 0, g⟩ (fun r => (∀ c : Dev Cert.GlaKernel.nD,
      r.2.mem ((c.tc : Thread Cert.GlaKernel.nD Cert.GlaKernel.τ).loc Cert.GlaKernel.main_arg0) = m ((c.tc : Thread Cert.GlaKernel.nD Cert.GlaKernel.τ).loc Cert.GlaKernel.main_arg0)
      ∧ r.2.mem ((c.tc : Thread Cert.GlaKernel.nD Cert.GlaKernel.τ).loc Cert.GlaKernel.main_arg1) = m ((c.tc : Thread Cert.GlaKernel.nD Cert.GlaKernel.τ).loc Cert.GlaKernel.main_arg1)
      ∧ r.2.mem ((c.tc : Thread Cert.GlaKernel.nD Cert.GlaKernel.τ).loc Cert.GlaKernel.main_arg2) = m ((c.tc : Thread Cert.GlaKernel.nD Cert.GlaKernel.τ).loc Cert.GlaKernel.main_arg2)
      ∧ r.2.mem ((c.tc : Thread Cert.GlaKernel.nD Cert.GlaKernel.τ).loc Cert.GlaKernel.main_arg3) = m ((c.tc : Thread Cert.GlaKernel.nD Cert.GlaKernel.τ).loc Cert.GlaKernel.main_arg3)
      ∧ r.2.mem ((c.tc : Thread Cert.GlaKernel.nD Cert.GlaKernel.τ).loc Cert.GlaKernel.main_arg4) = m ((c.tc : Thread Cert.GlaKernel.nD Cert.GlaKernel.τ).loc Cert.GlaKernel.main_arg4))
      ∧ r.2.sem = fun _ => 0)

def quiescent_GlaKernelIdeal [hGlaKernelIdeal : Cert.GlaKernelIdeal.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg), Pre_GlaKernelIdeal m →
    θ_run (Cert.GlaKernelIdeal.defs (F := Ideal)) (onTc (τ := Cert.GlaKernelIdeal.τ) (Cert.GlaKernelIdeal.main (F := Ideal))) ⟨m, fun _ => 0, g⟩ (fun r => (∀ c : Dev Cert.GlaKernelIdeal.nD,
      r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
      ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
      ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
      ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
      ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ r.2.sem = fun _ => 0)

def quiescent_GlaKernelIdeal_pre_gla_finite [hGlaKernelIdeal : Cert.GlaKernelIdeal.Facts] [hPre_gla_finite : Cert.Pre_gla_finite.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg), Pre_GlaKernelIdeal_gla_finite m →
    θ_run (Cert.GlaKernelIdeal.defs (F := Ideal)) (onTc (τ := Cert.GlaKernelIdeal.τ) (Cert.GlaKernelIdeal.main (F := Ideal))) ⟨m, fun _ => 0, g⟩ (fun r => (∀ c : Dev Cert.GlaKernelIdeal.nD,
      r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
      ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
      ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
      ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
      ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4))
      ∧ r.2.sem = fun _ => 0)

def quiescent_GlaReferenceIdeal_pre_gla_finite [hGlaReferenceIdeal : Cert.GlaReferenceIdeal.Facts] [hPre_gla_finite : Cert.Pre_gla_finite.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal_gla_finite m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ r.2.sem = fun _ => 0)

def quiescent_PostKernelIdeal_pre_post_finite [hPostKernelIdeal : Cert.PostKernelIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_post_finite m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3))
      ∧ r.2.sem = fun _ => 0)

def quiescent_PostReferenceIdeal_pre_post_finite [hPostReferenceIdeal : Cert.PostReferenceIdeal.Facts] [hPre_post_finite : Cert.Pre_post_finite.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_post_finite m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3))
      ∧ r.2.sem = fun _ => 0)

def quiescent_WindowKernel [hWindowKernel : Cert.WindowKernel.Facts] : Prop :=
  ∀ (m : (ℓ : Loc Cert.WindowKernel.nD Cert.WindowKernel.τ Cert.WindowKernel.sig) → Buf (Elt Bits) ℓ) (g : Dev Cert.WindowKernel.nD → PrngReg), Pre_WindowKernel m →
    θ_run (Cert.WindowKernel.defs (F := Bits)) (onTc (τ := Cert.WindowKernel.τ) (Cert.WindowKernel.main (F := Bits))) ⟨m, fun _ => 0, g⟩ (fun r => (∀ c : Dev Cert.WindowKernel.nD,
      r.2.mem ((c.tc : Thread Cert.WindowKernel.nD Cert.WindowKernel.τ).loc Cert.WindowKernel.main_arg0) = m ((c.tc : Thread Cert.WindowKernel.nD Cert.WindowKernel.τ).loc Cert.WindowKernel.main_arg0)
      ∧ r.2.mem ((c.tc : Thread Cert.WindowKernel.nD Cert.WindowKernel.τ).loc Cert.WindowKernel.main_arg1) = m ((c.tc : Thread Cert.WindowKernel.nD Cert.WindowKernel.τ).loc Cert.WindowKernel.main_arg1))
      ∧ r.2.sem = fun _ => 0)

def quiescent_WindowKernelIdeal [hWindowKernelIdeal : Cert.WindowKernelIdeal.Facts] : Prop :=
  ∀ (m : (ℓ : Loc Cert.WindowKernelIdeal.nD Cert.WindowKernelIdeal.τ Cert.WindowKernelIdeal.sig) → Buf (Elt Ideal) ℓ) (g : Dev Cert.WindowKernelIdeal.nD → PrngReg), Pre_WindowKernelIdeal m →
    θ_run (Cert.WindowKernelIdeal.defs (F := Ideal)) (onTc (τ := Cert.WindowKernelIdeal.τ) (Cert.WindowKernelIdeal.main (F := Ideal))) ⟨m, fun _ => 0, g⟩ (fun r => (∀ c : Dev Cert.WindowKernelIdeal.nD,
      r.2.mem ((c.tc : Thread Cert.WindowKernelIdeal.nD Cert.WindowKernelIdeal.τ).loc Cert.WindowKernelIdeal.main_arg0) = m ((c.tc : Thread Cert.WindowKernelIdeal.nD Cert.WindowKernelIdeal.τ).loc Cert.WindowKernelIdeal.main_arg0)
      ∧ r.2.mem ((c.tc : Thread Cert.WindowKernelIdeal.nD Cert.WindowKernelIdeal.τ).loc Cert.WindowKernelIdeal.main_arg1) = m ((c.tc : Thread Cert.WindowKernelIdeal.nD Cert.WindowKernelIdeal.τ).loc Cert.WindowKernelIdeal.main_arg1))
      ∧ r.2.sem = fun _ => 0)

def quiescent_WindowKernelIdeal_pre_window_finite [hWindowKernelIdeal : Cert.WindowKernelIdeal.Facts] [hPre_window_finite : Cert.Pre_window_finite.Facts] : Prop :=
  ∀ (m : (ℓ : Loc Cert.WindowKernelIdeal.nD Cert.WindowKernelIdeal.τ Cert.WindowKernelIdeal.sig) → Buf (Elt Ideal) ℓ) (g : Dev Cert.WindowKernelIdeal.nD → PrngReg), Pre_WindowKernelIdeal_window_finite m →
    θ_run (Cert.WindowKernelIdeal.defs (F := Ideal)) (onTc (τ := Cert.WindowKernelIdeal.τ) (Cert.WindowKernelIdeal.main (F := Ideal))) ⟨m, fun _ => 0, g⟩ (fun r => (∀ c : Dev Cert.WindowKernelIdeal.nD,
      r.2.mem ((c.tc : Thread Cert.WindowKernelIdeal.nD Cert.WindowKernelIdeal.τ).loc Cert.WindowKernelIdeal.main_arg0) = m ((c.tc : Thread Cert.WindowKernelIdeal.nD Cert.WindowKernelIdeal.τ).loc Cert.WindowKernelIdeal.main_arg0)
      ∧ r.2.mem ((c.tc : Thread Cert.WindowKernelIdeal.nD Cert.WindowKernelIdeal.τ).loc Cert.WindowKernelIdeal.main_arg1) = m ((c.tc : Thread Cert.WindowKernelIdeal.nD Cert.WindowKernelIdeal.τ).loc Cert.WindowKernelIdeal.main_arg1))
      ∧ r.2.sem = fun _ => 0)

def quiescent_WindowReferenceIdeal [hWindowReferenceIdeal : Cert.WindowReferenceIdeal.Facts] : Prop :=
  ∀ (m : (ℓ : Loc Cert.WindowReferenceIdeal.nD Cert.WindowReferenceIdeal.τ Cert.WindowReferenceIdeal.sig) → Buf (Elt Ideal) ℓ) (g : Dev Cert.WindowReferenceIdeal.nD → PrngReg), Pre_WindowReferenceIdeal m →
    θ_run (Cert.WindowReferenceIdeal.defs (F := Ideal)) (onTc (τ := Cert.WindowReferenceIdeal.τ) (Cert.WindowReferenceIdeal.main (F := Ideal))) ⟨m, fun _ => 0, g⟩ (fun r => (∀ c : Dev Cert.WindowReferenceIdeal.nD,
      r.2.mem ((c.tc : Thread Cert.WindowReferenceIdeal.nD Cert.WindowReferenceIdeal.τ).loc Cert.WindowReferenceIdeal.main_arg0) = m ((c.tc : Thread Cert.WindowReferenceIdeal.nD Cert.WindowReferenceIdeal.τ).loc Cert.WindowReferenceIdeal.main_arg0)
      ∧ r.2.mem ((c.tc : Thread Cert.WindowReferenceIdeal.nD Cert.WindowReferenceIdeal.τ).loc Cert.WindowReferenceIdeal.main_arg1) = m ((c.tc : Thread Cert.WindowReferenceIdeal.nD Cert.WindowReferenceIdeal.τ).loc Cert.WindowReferenceIdeal.main_arg1))
      ∧ r.2.sem = fun _ => 0)

def quiescent_WindowReferenceIdeal_pre_window_finite [hWindowReferenceIdeal : Cert.WindowReferenceIdeal.Facts] [hPre_window_finite : Cert.Pre_window_finite.Facts] : Prop :=
  ∀ (m : (ℓ : Loc Cert.WindowReferenceIdeal.nD Cert.WindowReferenceIdeal.τ Cert.WindowReferenceIdeal.sig) → Buf (Elt Ideal) ℓ) (g : Dev Cert.WindowReferenceIdeal.nD → PrngReg), Pre_WindowReferenceIdeal_window_finite m →
    θ_run (Cert.WindowReferenceIdeal.defs (F := Ideal)) (onTc (τ := Cert.WindowReferenceIdeal.τ) (Cert.WindowReferenceIdeal.main (F := Ideal))) ⟨m, fun _ => 0, g⟩ (fun r => (∀ c : Dev Cert.WindowReferenceIdeal.nD,
      r.2.mem ((c.tc : Thread Cert.WindowReferenceIdeal.nD Cert.WindowReferenceIdeal.τ).loc Cert.WindowReferenceIdeal.main_arg0) = m ((c.tc : Thread Cert.WindowReferenceIdeal.nD Cert.WindowReferenceIdeal.τ).loc Cert.WindowReferenceIdeal.main_arg0)
      ∧ r.2.mem ((c.tc : Thread Cert.WindowReferenceIdeal.nD Cert.WindowReferenceIdeal.τ).loc Cert.WindowReferenceIdeal.main_arg1) = m ((c.tc : Thread Cert.WindowReferenceIdeal.nD Cert.WindowReferenceIdeal.τ).loc Cert.WindowReferenceIdeal.main_arg1))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2)
      ∧ r.2.mem ((c.tc : Thread Cert.ActKernel.nD Cert.ActKernel.τ).loc Cert.ActKernel.main_arg3) = m ((c.tc : Thread Cert.ActKernel.nD Cert.ActKernel.τ).loc Cert.ActKernel.main_arg3))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActKernelIdeal_pre_act_finite [hActKernelIdeal : Cert.ActKernelIdeal.Facts] [hPre_act_finite : Cert.Pre_act_finite.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal_act_finite m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_ActReferenceIdeal_pre_act_finite [hActReferenceIdeal : Cert.ActReferenceIdeal.Facts] [hPre_act_finite : Cert.Pre_act_finite.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_act_finite m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_NormFwdKernel [hNormFwdKernel : Cert.NormFwdKernel.Facts] : Prop :=
  ∀ (m : (ℓ : Loc Cert.NormFwdKernel.nD Cert.NormFwdKernel.τ Cert.NormFwdKernel.sig) → Buf (Elt Bits) ℓ) (g : Dev Cert.NormFwdKernel.nD → PrngReg), Pre_NormFwdKernel m →
    θ_run (Cert.NormFwdKernel.defs (F := Bits)) (onTc (τ := Cert.NormFwdKernel.τ) (Cert.NormFwdKernel.main (F := Bits))) ⟨m, fun _ => 0, g⟩ (fun r => (∀ c : Dev Cert.NormFwdKernel.nD,
      r.2.mem ((c.tc : Thread Cert.NormFwdKernel.nD Cert.NormFwdKernel.τ).loc Cert.NormFwdKernel.main_arg0) = m ((c.tc : Thread Cert.NormFwdKernel.nD Cert.NormFwdKernel.τ).loc Cert.NormFwdKernel.main_arg0)
      ∧ r.2.mem ((c.tc : Thread Cert.NormFwdKernel.nD Cert.NormFwdKernel.τ).loc Cert.NormFwdKernel.main_arg1) = m ((c.tc : Thread Cert.NormFwdKernel.nD Cert.NormFwdKernel.τ).loc Cert.NormFwdKernel.main_arg1))
      ∧ r.2.sem = fun _ => 0)

def quiescent_NormFwdKernelIdeal [hNormFwdKernelIdeal : Cert.NormFwdKernelIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg), Pre_NormFwdKernelIdeal m →
    θ_run (Cert.NormFwdKernelIdeal.defs (F := Ideal)) (onTc (τ := Cert.NormFwdKernelIdeal.τ) (Cert.NormFwdKernelIdeal.main (F := Ideal))) ⟨m, fun _ => 0, g⟩ (fun r => (∀ c : Dev Cert.NormFwdKernelIdeal.nD,
      r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
      ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_PostFwdKernel [hPostFwdKernel : Cert.PostFwdKernel.Facts] : Prop :=
  ∀ (m : (ℓ : Loc Cert.PostFwdKernel.nD Cert.PostFwdKernel.τ Cert.PostFwdKernel.sig) → Buf (Elt Bits) ℓ) (g : Dev Cert.PostFwdKernel.nD → PrngReg), Pre_PostFwdKernel m →
    θ_run (Cert.PostFwdKernel.defs (F := Bits)) (onTc (τ := Cert.PostFwdKernel.τ) (Cert.PostFwdKernel.main (F := Bits))) ⟨m, fun _ => 0, g⟩ (fun r => (∀ c : Dev Cert.PostFwdKernel.nD,
      r.2.mem ((c.tc : Thread Cert.PostFwdKernel.nD Cert.PostFwdKernel.τ).loc Cert.PostFwdKernel.main_arg0) = m ((c.tc : Thread Cert.PostFwdKernel.nD Cert.PostFwdKernel.τ).loc Cert.PostFwdKernel.main_arg0)
      ∧ r.2.mem ((c.tc : Thread Cert.PostFwdKernel.nD Cert.PostFwdKernel.τ).loc Cert.PostFwdKernel.main_arg1) = m ((c.tc : Thread Cert.PostFwdKernel.nD Cert.PostFwdKernel.τ).loc Cert.PostFwdKernel.main_arg1)
      ∧ r.2.mem ((c.tc : Thread Cert.PostFwdKernel.nD Cert.PostFwdKernel.τ).loc Cert.PostFwdKernel.main_arg2) = m ((c.tc : Thread Cert.PostFwdKernel.nD Cert.PostFwdKernel.τ).loc Cert.PostFwdKernel.main_arg2))
      ∧ r.2.sem = fun _ => 0)

def quiescent_PostFwdKernelIdeal [hPostFwdKernelIdeal : Cert.PostFwdKernelIdeal.Facts] : Prop :=
  ∀ (m : (ℓ : Loc Cert.PostFwdKernelIdeal.nD Cert.PostFwdKernelIdeal.τ Cert.PostFwdKernelIdeal.sig) → Buf (Elt Ideal) ℓ) (g : Dev Cert.PostFwdKernelIdeal.nD → PrngReg), Pre_PostFwdKernelIdeal m →
    θ_run (Cert.PostFwdKernelIdeal.defs (F := Ideal)) (onTc (τ := Cert.PostFwdKernelIdeal.τ) (Cert.PostFwdKernelIdeal.main (F := Ideal))) ⟨m, fun _ => 0, g⟩ (fun r => (∀ c : Dev Cert.PostFwdKernelIdeal.nD,
      r.2.mem ((c.tc : Thread Cert.PostFwdKernelIdeal.nD Cert.PostFwdKernelIdeal.τ).loc Cert.PostFwdKernelIdeal.main_arg0) = m ((c.tc : Thread Cert.PostFwdKernelIdeal.nD Cert.PostFwdKernelIdeal.τ).loc Cert.PostFwdKernelIdeal.main_arg0)
      ∧ r.2.mem ((c.tc : Thread Cert.PostFwdKernelIdeal.nD Cert.PostFwdKernelIdeal.τ).loc Cert.PostFwdKernelIdeal.main_arg1) = m ((c.tc : Thread Cert.PostFwdKernelIdeal.nD Cert.PostFwdKernelIdeal.τ).loc Cert.PostFwdKernelIdeal.main_arg1)
      ∧ r.2.mem ((c.tc : Thread Cert.PostFwdKernelIdeal.nD Cert.PostFwdKernelIdeal.τ).loc Cert.PostFwdKernelIdeal.main_arg2) = m ((c.tc : Thread Cert.PostFwdKernelIdeal.nD Cert.PostFwdKernelIdeal.τ).loc Cert.PostFwdKernelIdeal.main_arg2))
      ∧ r.2.sem = fun _ => 0)

def quiescent_PostFwdReferenceIdeal [hPostFwdReferenceIdeal : Cert.PostFwdReferenceIdeal.Facts] : Prop :=
  ∀ (m : (ℓ : Loc Cert.PostFwdReferenceIdeal.nD Cert.PostFwdReferenceIdeal.τ Cert.PostFwdReferenceIdeal.sig) → Buf (Elt Ideal) ℓ) (g : Dev Cert.PostFwdReferenceIdeal.nD → PrngReg), Pre_PostFwdReferenceIdeal m →
    θ_run (Cert.PostFwdReferenceIdeal.defs (F := Ideal)) (onTc (τ := Cert.PostFwdReferenceIdeal.τ) (Cert.PostFwdReferenceIdeal.main (F := Ideal))) ⟨m, fun _ => 0, g⟩ (fun r => (∀ c : Dev Cert.PostFwdReferenceIdeal.nD,
      r.2.mem ((c.tc : Thread Cert.PostFwdReferenceIdeal.nD Cert.PostFwdReferenceIdeal.τ).loc Cert.PostFwdReferenceIdeal.main_arg0) = m ((c.tc : Thread Cert.PostFwdReferenceIdeal.nD Cert.PostFwdReferenceIdeal.τ).loc Cert.PostFwdReferenceIdeal.main_arg0)
      ∧ r.2.mem ((c.tc : Thread Cert.PostFwdReferenceIdeal.nD Cert.PostFwdReferenceIdeal.τ).loc Cert.PostFwdReferenceIdeal.main_arg1) = m ((c.tc : Thread Cert.PostFwdReferenceIdeal.nD Cert.PostFwdReferenceIdeal.τ).loc Cert.PostFwdReferenceIdeal.main_arg1)
      ∧ r.2.mem ((c.tc : Thread Cert.PostFwdReferenceIdeal.nD Cert.PostFwdReferenceIdeal.τ).loc Cert.PostFwdReferenceIdeal.main_arg2) = m ((c.tc : Thread Cert.PostFwdReferenceIdeal.nD Cert.PostFwdReferenceIdeal.τ).loc Cert.PostFwdReferenceIdeal.main_arg2))
      ∧ r.2.sem = fun _ => 0)

def quiescent_MixFwdKernel [hMixFwdKernel : Cert.MixFwdKernel.Facts] : Prop :=
  ∀ (m : (ℓ : Loc Cert.MixFwdKernel.nD Cert.MixFwdKernel.τ Cert.MixFwdKernel.sig) → Buf (Elt Bits) ℓ) (g : Dev Cert.MixFwdKernel.nD → PrngReg), Pre_MixFwdKernel m →
    θ_run (Cert.MixFwdKernel.defs (F := Bits)) (onTc (τ := Cert.MixFwdKernel.τ) (Cert.MixFwdKernel.main (F := Bits))) ⟨m, fun _ => 0, g⟩ (fun r => (∀ c : Dev Cert.MixFwdKernel.nD,
      r.2.mem ((c.tc : Thread Cert.MixFwdKernel.nD Cert.MixFwdKernel.τ).loc Cert.MixFwdKernel.main_arg0) = m ((c.tc : Thread Cert.MixFwdKernel.nD Cert.MixFwdKernel.τ).loc Cert.MixFwdKernel.main_arg0)
      ∧ r.2.mem ((c.tc : Thread Cert.MixFwdKernel.nD Cert.MixFwdKernel.τ).loc Cert.MixFwdKernel.main_arg1) = m ((c.tc : Thread Cert.MixFwdKernel.nD Cert.MixFwdKernel.τ).loc Cert.MixFwdKernel.main_arg1)
      ∧ r.2.mem ((c.tc : Thread Cert.MixFwdKernel.nD Cert.MixFwdKernel.τ).loc Cert.MixFwdKernel.main_arg2) = m ((c.tc : Thread Cert.MixFwdKernel.nD Cert.MixFwdKernel.τ).loc Cert.MixFwdKernel.main_arg2)
      ∧ r.2.mem ((c.tc : Thread Cert.MixFwdKernel.nD Cert.MixFwdKernel.τ).loc Cert.MixFwdKernel.main_arg3) = m ((c.tc : Thread Cert.MixFwdKernel.nD Cert.MixFwdKernel.τ).loc Cert.MixFwdKernel.main_arg3)
      ∧ r.2.mem ((c.tc : Thread Cert.MixFwdKernel.nD Cert.MixFwdKernel.τ).loc Cert.MixFwdKernel.main_arg4) = m ((c.tc : Thread Cert.MixFwdKernel.nD Cert.MixFwdKernel.τ).loc Cert.MixFwdKernel.main_arg4))
      ∧ r.2.sem = fun _ => 0)

def quiescent_MixFwdKernelIdeal [hMixFwdKernelIdeal : Cert.MixFwdKernelIdeal.Facts] : Prop :=
  ∀ (m : (ℓ : Loc Cert.MixFwdKernelIdeal.nD Cert.MixFwdKernelIdeal.τ Cert.MixFwdKernelIdeal.sig) → Buf (Elt Ideal) ℓ) (g : Dev Cert.MixFwdKernelIdeal.nD → PrngReg), Pre_MixFwdKernelIdeal m →
    θ_run (Cert.MixFwdKernelIdeal.defs (F := Ideal)) (onTc (τ := Cert.MixFwdKernelIdeal.τ) (Cert.MixFwdKernelIdeal.main (F := Ideal))) ⟨m, fun _ => 0, g⟩ (fun r => (∀ c : Dev Cert.MixFwdKernelIdeal.nD,
      r.2.mem ((c.tc : Thread Cert.MixFwdKernelIdeal.nD Cert.MixFwdKernelIdeal.τ).loc Cert.MixFwdKernelIdeal.main_arg0) = m ((c.tc : Thread Cert.MixFwdKernelIdeal.nD Cert.MixFwdKernelIdeal.τ).loc Cert.MixFwdKernelIdeal.main_arg0)
      ∧ r.2.mem ((c.tc : Thread Cert.MixFwdKernelIdeal.nD Cert.MixFwdKernelIdeal.τ).loc Cert.MixFwdKernelIdeal.main_arg1) = m ((c.tc : Thread Cert.MixFwdKernelIdeal.nD Cert.MixFwdKernelIdeal.τ).loc Cert.MixFwdKernelIdeal.main_arg1)
      ∧ r.2.mem ((c.tc : Thread Cert.MixFwdKernelIdeal.nD Cert.MixFwdKernelIdeal.τ).loc Cert.MixFwdKernelIdeal.main_arg2) = m ((c.tc : Thread Cert.MixFwdKernelIdeal.nD Cert.MixFwdKernelIdeal.τ).loc Cert.MixFwdKernelIdeal.main_arg2)
      ∧ r.2.mem ((c.tc : Thread Cert.MixFwdKernelIdeal.nD Cert.MixFwdKernelIdeal.τ).loc Cert.MixFwdKernelIdeal.main_arg3) = m ((c.tc : Thread Cert.MixFwdKernelIdeal.nD Cert.MixFwdKernelIdeal.τ).loc Cert.MixFwdKernelIdeal.main_arg3)
      ∧ r.2.mem ((c.tc : Thread Cert.MixFwdKernelIdeal.nD Cert.MixFwdKernelIdeal.τ).loc Cert.MixFwdKernelIdeal.main_arg4) = m ((c.tc : Thread Cert.MixFwdKernelIdeal.nD Cert.MixFwdKernelIdeal.τ).loc Cert.MixFwdKernelIdeal.main_arg4))
      ∧ r.2.sem = fun _ => 0)

def quiescent_MixFwdReferenceIdeal [hMixFwdReferenceIdeal : Cert.MixFwdReferenceIdeal.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4))
      ∧ r.2.sem = fun _ => 0)

def quiescent_GateupFwdKernel [hGateupFwdKernel : Cert.GateupFwdKernel.Facts] : Prop :=
  ∀ (m : (ℓ : Loc Cert.GateupFwdKernel.nD Cert.GateupFwdKernel.τ Cert.GateupFwdKernel.sig) → Buf (Elt Bits) ℓ) (g : Dev Cert.GateupFwdKernel.nD → PrngReg), Pre_GateupFwdKernel m →
    θ_run (Cert.GateupFwdKernel.defs (F := Bits)) (onTc (τ := Cert.GateupFwdKernel.τ) (Cert.GateupFwdKernel.main (F := Bits))) ⟨m, fun _ => 0, g⟩ (fun r => (∀ c : Dev Cert.GateupFwdKernel.nD,
      r.2.mem ((c.tc : Thread Cert.GateupFwdKernel.nD Cert.GateupFwdKernel.τ).loc Cert.GateupFwdKernel.main_arg0) = m ((c.tc : Thread Cert.GateupFwdKernel.nD Cert.GateupFwdKernel.τ).loc Cert.GateupFwdKernel.main_arg0)
      ∧ r.2.mem ((c.tc : Thread Cert.GateupFwdKernel.nD Cert.GateupFwdKernel.τ).loc Cert.GateupFwdKernel.main_arg1) = m ((c.tc : Thread Cert.GateupFwdKernel.nD Cert.GateupFwdKernel.τ).loc Cert.GateupFwdKernel.main_arg1)
      ∧ r.2.mem ((c.tc : Thread Cert.GateupFwdKernel.nD Cert.GateupFwdKernel.τ).loc Cert.GateupFwdKernel.main_arg2) = m ((c.tc : Thread Cert.GateupFwdKernel.nD Cert.GateupFwdKernel.τ).loc Cert.GateupFwdKernel.main_arg2))
      ∧ r.2.sem = fun _ => 0)

def quiescent_GateupFwdKernelIdeal [hGateupFwdKernelIdeal : Cert.GateupFwdKernelIdeal.Facts] : Prop :=
  ∀ (m : (ℓ : Loc Cert.GateupFwdKernelIdeal.nD Cert.GateupFwdKernelIdeal.τ Cert.GateupFwdKernelIdeal.sig) → Buf (Elt Ideal) ℓ) (g : Dev Cert.GateupFwdKernelIdeal.nD → PrngReg), Pre_GateupFwdKernelIdeal m →
    θ_run (Cert.GateupFwdKernelIdeal.defs (F := Ideal)) (onTc (τ := Cert.GateupFwdKernelIdeal.τ) (Cert.GateupFwdKernelIdeal.main (F := Ideal))) ⟨m, fun _ => 0, g⟩ (fun r => (∀ c : Dev Cert.GateupFwdKernelIdeal.nD,
      r.2.mem ((c.tc : Thread Cert.GateupFwdKernelIdeal.nD Cert.GateupFwdKernelIdeal.τ).loc Cert.GateupFwdKernelIdeal.main_arg0) = m ((c.tc : Thread Cert.GateupFwdKernelIdeal.nD Cert.GateupFwdKernelIdeal.τ).loc Cert.GateupFwdKernelIdeal.main_arg0)
      ∧ r.2.mem ((c.tc : Thread Cert.GateupFwdKernelIdeal.nD Cert.GateupFwdKernelIdeal.τ).loc Cert.GateupFwdKernelIdeal.main_arg1) = m ((c.tc : Thread Cert.GateupFwdKernelIdeal.nD Cert.GateupFwdKernelIdeal.τ).loc Cert.GateupFwdKernelIdeal.main_arg1)
      ∧ r.2.mem ((c.tc : Thread Cert.GateupFwdKernelIdeal.nD Cert.GateupFwdKernelIdeal.τ).loc Cert.GateupFwdKernelIdeal.main_arg2) = m ((c.tc : Thread Cert.GateupFwdKernelIdeal.nD Cert.GateupFwdKernelIdeal.τ).loc Cert.GateupFwdKernelIdeal.main_arg2))
      ∧ r.2.sem = fun _ => 0)

def quiescent_GateupFwdReferenceIdeal [hGateupFwdReferenceIdeal : Cert.GateupFwdReferenceIdeal.Facts] : Prop :=
  ∀ (m : (ℓ : Loc Cert.GateupFwdReferenceIdeal.nD Cert.GateupFwdReferenceIdeal.τ Cert.GateupFwdReferenceIdeal.sig) → Buf (Elt Ideal) ℓ) (g : Dev Cert.GateupFwdReferenceIdeal.nD → PrngReg), Pre_GateupFwdReferenceIdeal m →
    θ_run (Cert.GateupFwdReferenceIdeal.defs (F := Ideal)) (onTc (τ := Cert.GateupFwdReferenceIdeal.τ) (Cert.GateupFwdReferenceIdeal.main (F := Ideal))) ⟨m, fun _ => 0, g⟩ (fun r => (∀ c : Dev Cert.GateupFwdReferenceIdeal.nD,
      r.2.mem ((c.tc : Thread Cert.GateupFwdReferenceIdeal.nD Cert.GateupFwdReferenceIdeal.τ).loc Cert.GateupFwdReferenceIdeal.main_arg0) = m ((c.tc : Thread Cert.GateupFwdReferenceIdeal.nD Cert.GateupFwdReferenceIdeal.τ).loc Cert.GateupFwdReferenceIdeal.main_arg0)
      ∧ r.2.mem ((c.tc : Thread Cert.GateupFwdReferenceIdeal.nD Cert.GateupFwdReferenceIdeal.τ).loc Cert.GateupFwdReferenceIdeal.main_arg1) = m ((c.tc : Thread Cert.GateupFwdReferenceIdeal.nD Cert.GateupFwdReferenceIdeal.τ).loc Cert.GateupFwdReferenceIdeal.main_arg1)
      ∧ r.2.mem ((c.tc : Thread Cert.GateupFwdReferenceIdeal.nD Cert.GateupFwdReferenceIdeal.τ).loc Cert.GateupFwdReferenceIdeal.main_arg2) = m ((c.tc : Thread Cert.GateupFwdReferenceIdeal.nD Cert.GateupFwdReferenceIdeal.τ).loc Cert.GateupFwdReferenceIdeal.main_arg2))
      ∧ r.2.sem = fun _ => 0)

def quiescent_WindowFwdKernel [hWindowFwdKernel : Cert.WindowFwdKernel.Facts] : Prop :=
  ∀ (m : (ℓ : Loc Cert.WindowFwdKernel.nD Cert.WindowFwdKernel.τ Cert.WindowFwdKernel.sig) → Buf (Elt Bits) ℓ) (g : Dev Cert.WindowFwdKernel.nD → PrngReg), Pre_WindowFwdKernel m →
    θ_run (Cert.WindowFwdKernel.defs (F := Bits)) (onTc (τ := Cert.WindowFwdKernel.τ) (Cert.WindowFwdKernel.main (F := Bits))) ⟨m, fun _ => 0, g⟩ (fun r => (∀ c : Dev Cert.WindowFwdKernel.nD,
      r.2.mem ((c.tc : Thread Cert.WindowFwdKernel.nD Cert.WindowFwdKernel.τ).loc Cert.WindowFwdKernel.main_arg0) = m ((c.tc : Thread Cert.WindowFwdKernel.nD Cert.WindowFwdKernel.τ).loc Cert.WindowFwdKernel.main_arg0))
      ∧ r.2.sem = fun _ => 0)

def quiescent_WindowFwdKernelIdeal [hWindowFwdKernelIdeal : Cert.WindowFwdKernelIdeal.Facts] : Prop :=
  ∀ (m : (ℓ : Loc Cert.WindowFwdKernelIdeal.nD Cert.WindowFwdKernelIdeal.τ Cert.WindowFwdKernelIdeal.sig) → Buf (Elt Ideal) ℓ) (g : Dev Cert.WindowFwdKernelIdeal.nD → PrngReg), Pre_WindowFwdKernelIdeal m →
    θ_run (Cert.WindowFwdKernelIdeal.defs (F := Ideal)) (onTc (τ := Cert.WindowFwdKernelIdeal.τ) (Cert.WindowFwdKernelIdeal.main (F := Ideal))) ⟨m, fun _ => 0, g⟩ (fun r => (∀ c : Dev Cert.WindowFwdKernelIdeal.nD,
      r.2.mem ((c.tc : Thread Cert.WindowFwdKernelIdeal.nD Cert.WindowFwdKernelIdeal.τ).loc Cert.WindowFwdKernelIdeal.main_arg0) = m ((c.tc : Thread Cert.WindowFwdKernelIdeal.nD Cert.WindowFwdKernelIdeal.τ).loc Cert.WindowFwdKernelIdeal.main_arg0))
      ∧ r.2.sem = fun _ => 0)

def quiescent_WindowFwdKernelIdeal_pre_window_fwd_finite [hWindowFwdKernelIdeal : Cert.WindowFwdKernelIdeal.Facts] [hPre_window_fwd_finite : Cert.Pre_window_fwd_finite.Facts] : Prop :=
  ∀ (m : (ℓ : Loc Cert.WindowFwdKernelIdeal.nD Cert.WindowFwdKernelIdeal.τ Cert.WindowFwdKernelIdeal.sig) → Buf (Elt Ideal) ℓ) (g : Dev Cert.WindowFwdKernelIdeal.nD → PrngReg), Pre_WindowFwdKernelIdeal_window_fwd_finite m →
    θ_run (Cert.WindowFwdKernelIdeal.defs (F := Ideal)) (onTc (τ := Cert.WindowFwdKernelIdeal.τ) (Cert.WindowFwdKernelIdeal.main (F := Ideal))) ⟨m, fun _ => 0, g⟩ (fun r => (∀ c : Dev Cert.WindowFwdKernelIdeal.nD,
      r.2.mem ((c.tc : Thread Cert.WindowFwdKernelIdeal.nD Cert.WindowFwdKernelIdeal.τ).loc Cert.WindowFwdKernelIdeal.main_arg0) = m ((c.tc : Thread Cert.WindowFwdKernelIdeal.nD Cert.WindowFwdKernelIdeal.τ).loc Cert.WindowFwdKernelIdeal.main_arg0))
      ∧ r.2.sem = fun _ => 0)

def quiescent_WindowFwdReferenceIdeal [hWindowFwdReferenceIdeal : Cert.WindowFwdReferenceIdeal.Facts] : Prop :=
  ∀ (m : (ℓ : Loc Cert.WindowFwdReferenceIdeal.nD Cert.WindowFwdReferenceIdeal.τ Cert.WindowFwdReferenceIdeal.sig) → Buf (Elt Ideal) ℓ) (g : Dev Cert.WindowFwdReferenceIdeal.nD → PrngReg), Pre_WindowFwdReferenceIdeal m →
    θ_run (Cert.WindowFwdReferenceIdeal.defs (F := Ideal)) (onTc (τ := Cert.WindowFwdReferenceIdeal.τ) (Cert.WindowFwdReferenceIdeal.main (F := Ideal))) ⟨m, fun _ => 0, g⟩ (fun r => (∀ c : Dev Cert.WindowFwdReferenceIdeal.nD,
      r.2.mem ((c.tc : Thread Cert.WindowFwdReferenceIdeal.nD Cert.WindowFwdReferenceIdeal.τ).loc Cert.WindowFwdReferenceIdeal.main_arg0) = m ((c.tc : Thread Cert.WindowFwdReferenceIdeal.nD Cert.WindowFwdReferenceIdeal.τ).loc Cert.WindowFwdReferenceIdeal.main_arg0))
      ∧ r.2.sem = fun _ => 0)

def quiescent_WindowFwdReferenceIdeal_pre_window_fwd_finite [hWindowFwdReferenceIdeal : Cert.WindowFwdReferenceIdeal.Facts] [hPre_window_fwd_finite : Cert.Pre_window_fwd_finite.Facts] : Prop :=
  ∀ (m : (ℓ : Loc Cert.WindowFwdReferenceIdeal.nD Cert.WindowFwdReferenceIdeal.τ Cert.WindowFwdReferenceIdeal.sig) → Buf (Elt Ideal) ℓ) (g : Dev Cert.WindowFwdReferenceIdeal.nD → PrngReg), Pre_WindowFwdReferenceIdeal_window_fwd_finite m →
    θ_run (Cert.WindowFwdReferenceIdeal.defs (F := Ideal)) (onTc (τ := Cert.WindowFwdReferenceIdeal.τ) (Cert.WindowFwdReferenceIdeal.main (F := Ideal))) ⟨m, fun _ => 0, g⟩ (fun r => (∀ c : Dev Cert.WindowFwdReferenceIdeal.nD,
      r.2.mem ((c.tc : Thread Cert.WindowFwdReferenceIdeal.nD Cert.WindowFwdReferenceIdeal.τ).loc Cert.WindowFwdReferenceIdeal.main_arg0) = m ((c.tc : Thread Cert.WindowFwdReferenceIdeal.nD Cert.WindowFwdReferenceIdeal.τ).loc Cert.WindowFwdReferenceIdeal.main_arg0))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1))
      ∧ r.2.sem = fun _ => 0)

def quiescent_ResidKernel [hResidKernel : Cert.ResidKernel.Facts] : Prop :=
  ∀ (m : (ℓ : Loc Cert.ResidKernel.nD Cert.ResidKernel.τ Cert.ResidKernel.sig) → Buf (Elt Bits) ℓ) (g : Dev Cert.ResidKernel.nD → PrngReg), Pre_ResidKernel m →
    θ_run (Cert.ResidKernel.defs (F := Bits)) (onTc (τ := Cert.ResidKernel.τ) (Cert.ResidKernel.main (F := Bits))) ⟨m, fun _ => 0, g⟩ (fun r => (∀ c : Dev Cert.ResidKernel.nD,
      r.2.mem ((c.tc : Thread Cert.ResidKernel.nD Cert.ResidKernel.τ).loc Cert.ResidKernel.main_arg0) = m ((c.tc : Thread Cert.ResidKernel.nD Cert.ResidKernel.τ).loc Cert.ResidKernel.main_arg0)
      ∧ r.2.mem ((c.tc : Thread Cert.ResidKernel.nD Cert.ResidKernel.τ).loc Cert.ResidKernel.main_arg1) = m ((c.tc : Thread Cert.ResidKernel.nD Cert.ResidKernel.τ).loc Cert.ResidKernel.main_arg1)
      ∧ r.2.mem ((c.tc : Thread Cert.ResidKernel.nD Cert.ResidKernel.τ).loc Cert.ResidKernel.main_arg2) = m ((c.tc : Thread Cert.ResidKernel.nD Cert.ResidKernel.τ).loc Cert.ResidKernel.main_arg2))
      ∧ r.2.sem = fun _ => 0)

def quiescent_ResidKernelIdeal [hResidKernelIdeal : Cert.ResidKernelIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg), Pre_ResidKernelIdeal m →
    θ_run (Cert.ResidKernelIdeal.defs (F := Ideal)) (onTc (τ := Cert.ResidKernelIdeal.τ) (Cert.ResidKernelIdeal.main (F := Ideal))) ⟨m, fun _ => 0, g⟩ (fun r => (∀ c : Dev Cert.ResidKernelIdeal.nD,
      r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
      ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
      ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2))
      ∧ r.2.sem = fun _ => 0)

def quiescent_BackKernel [hBackKernel : Cert.BackKernel.Facts] : Prop :=
  ∀ (m : (ℓ : Loc Cert.BackKernel.nD Cert.BackKernel.τ Cert.BackKernel.sig) → Buf (Elt Bits) ℓ) (g : Dev Cert.BackKernel.nD → PrngReg), Pre_BackKernel m →
    θ_run (Cert.BackKernel.defs (F := Bits)) (onTc (τ := Cert.BackKernel.τ) (Cert.BackKernel.main (F := Bits))) ⟨m, fun _ => 0, g⟩ (fun r => (∀ c : Dev Cert.BackKernel.nD,
      r.2.mem ((c.tc : Thread Cert.BackKernel.nD Cert.BackKernel.τ).loc Cert.BackKernel.main_arg0) = m ((c.tc : Thread Cert.BackKernel.nD Cert.BackKernel.τ).loc Cert.BackKernel.main_arg0)
      ∧ r.2.mem ((c.tc : Thread Cert.BackKernel.nD Cert.BackKernel.τ).loc Cert.BackKernel.main_arg1) = m ((c.tc : Thread Cert.BackKernel.nD Cert.BackKernel.τ).loc Cert.BackKernel.main_arg1))
      ∧ r.2.sem = fun _ => 0)

def quiescent_BackKernelIdeal [hBackKernelIdeal : Cert.BackKernelIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def quiescent_TotalKernel [hTotalKernel : Cert.TotalKernel.Facts] : Prop :=
  ∀ (m : (ℓ : Loc Cert.TotalKernel.nD Cert.TotalKernel.τ Cert.TotalKernel.sig) → Buf (Elt Bits) ℓ) (g : Dev Cert.TotalKernel.nD → PrngReg), Pre_TotalKernel m →
    θ_run (Cert.TotalKernel.defs (F := Bits)) (onTc (τ := Cert.TotalKernel.τ) (Cert.TotalKernel.main (F := Bits))) ⟨m, fun _ => 0, g⟩ (fun r => (∀ c : Dev Cert.TotalKernel.nD,
      r.2.mem ((c.tc : Thread Cert.TotalKernel.nD Cert.TotalKernel.τ).loc Cert.TotalKernel.main_arg0) = m ((c.tc : Thread Cert.TotalKernel.nD Cert.TotalKernel.τ).loc Cert.TotalKernel.main_arg0))
      ∧ r.2.sem = fun _ => 0)

def quiescent_TotalKernelIdeal [hTotalKernelIdeal : Cert.TotalKernelIdeal.Facts] : Prop :=
  ∀ (m : (ℓ : Loc Cert.TotalKernelIdeal.nD Cert.TotalKernelIdeal.τ Cert.TotalKernelIdeal.sig) → Buf (Elt Ideal) ℓ) (g : Dev Cert.TotalKernelIdeal.nD → PrngReg), Pre_TotalKernelIdeal m →
    θ_run (Cert.TotalKernelIdeal.defs (F := Ideal)) (onTc (τ := Cert.TotalKernelIdeal.τ) (Cert.TotalKernelIdeal.main (F := Ideal))) ⟨m, fun _ => 0, g⟩ (fun r => (∀ c : Dev Cert.TotalKernelIdeal.nD,
      r.2.mem ((c.tc : Thread Cert.TotalKernelIdeal.nD Cert.TotalKernelIdeal.τ).loc Cert.TotalKernelIdeal.main_arg0) = m ((c.tc : Thread Cert.TotalKernelIdeal.nD Cert.TotalKernelIdeal.τ).loc Cert.TotalKernelIdeal.main_arg0))
      ∧ r.2.sem = fun _ => 0)

def quiescent_TotalReferenceIdeal [hTotalReferenceIdeal : Cert.TotalReferenceIdeal.Facts] : Prop :=
  ∀ (m : (ℓ : Loc Cert.TotalReferenceIdeal.nD Cert.TotalReferenceIdeal.τ Cert.TotalReferenceIdeal.sig) → Buf (Elt Ideal) ℓ) (g : Dev Cert.TotalReferenceIdeal.nD → PrngReg), Pre_TotalReferenceIdeal m →
    θ_run (Cert.TotalReferenceIdeal.defs (F := Ideal)) (onTc (τ := Cert.TotalReferenceIdeal.τ) (Cert.TotalReferenceIdeal.main (F := Ideal))) ⟨m, fun _ => 0, g⟩ (fun r => (∀ c : Dev Cert.TotalReferenceIdeal.nD,
      r.2.mem ((c.tc : Thread Cert.TotalReferenceIdeal.nD Cert.TotalReferenceIdeal.τ).loc Cert.TotalReferenceIdeal.main_arg0) = m ((c.tc : Thread Cert.TotalReferenceIdeal.nD Cert.TotalReferenceIdeal.τ).loc Cert.TotalReferenceIdeal.main_arg0))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_WprojKernel [hWprojKernel : Cert.WprojKernel.Facts] : Prop :=
  ∀ (m : (ℓ : Loc Cert.WprojKernel.nD Cert.WprojKernel.τ Cert.WprojKernel.sig) → Buf (Elt Bits) ℓ) (g : Dev Cert.WprojKernel.nD → PrngReg), Pre_WprojKernel m →
    θ_run (Cert.WprojKernel.defs (F := Bits)) (onTc (τ := Cert.WprojKernel.τ) (Cert.WprojKernel.main (F := Bits))) ⟨m, fun _ => 0, g⟩ (fun r => (∀ c : Dev Cert.WprojKernel.nD,
      r.2.mem ((c.tc : Thread Cert.WprojKernel.nD Cert.WprojKernel.τ).loc Cert.WprojKernel.main_arg0) = m ((c.tc : Thread Cert.WprojKernel.nD Cert.WprojKernel.τ).loc Cert.WprojKernel.main_arg0)
      ∧ r.2.mem ((c.tc : Thread Cert.WprojKernel.nD Cert.WprojKernel.τ).loc Cert.WprojKernel.main_arg1) = m ((c.tc : Thread Cert.WprojKernel.nD Cert.WprojKernel.τ).loc Cert.WprojKernel.main_arg1))
      ∧ r.2.sem = fun _ => 0)

def quiescent_WprojKernelIdeal [hWprojKernelIdeal : Cert.WprojKernelIdeal.Facts] : Prop :=
  ∀ (m : (ℓ : Loc Cert.WprojKernelIdeal.nD Cert.WprojKernelIdeal.τ Cert.WprojKernelIdeal.sig) → Buf (Elt Ideal) ℓ) (g : Dev Cert.WprojKernelIdeal.nD → PrngReg), Pre_WprojKernelIdeal m →
    θ_run (Cert.WprojKernelIdeal.defs (F := Ideal)) (onTc (τ := Cert.WprojKernelIdeal.τ) (Cert.WprojKernelIdeal.main (F := Ideal))) ⟨m, fun _ => 0, g⟩ (fun r => (∀ c : Dev Cert.WprojKernelIdeal.nD,
      r.2.mem ((c.tc : Thread Cert.WprojKernelIdeal.nD Cert.WprojKernelIdeal.τ).loc Cert.WprojKernelIdeal.main_arg0) = m ((c.tc : Thread Cert.WprojKernelIdeal.nD Cert.WprojKernelIdeal.τ).loc Cert.WprojKernelIdeal.main_arg0)
      ∧ r.2.mem ((c.tc : Thread Cert.WprojKernelIdeal.nD Cert.WprojKernelIdeal.τ).loc Cert.WprojKernelIdeal.main_arg1) = m ((c.tc : Thread Cert.WprojKernelIdeal.nD Cert.WprojKernelIdeal.τ).loc Cert.WprojKernelIdeal.main_arg1))
      ∧ r.2.sem = fun _ => 0)

def quiescent_WprojReferenceIdeal [hWprojReferenceIdeal : Cert.WprojReferenceIdeal.Facts] : Prop :=
  ∀ (m : (ℓ : Loc Cert.WprojReferenceIdeal.nD Cert.WprojReferenceIdeal.τ Cert.WprojReferenceIdeal.sig) → Buf (Elt Ideal) ℓ) (g : Dev Cert.WprojReferenceIdeal.nD → PrngReg), Pre_WprojReferenceIdeal m →
    θ_run (Cert.WprojReferenceIdeal.defs (F := Ideal)) (onTc (τ := Cert.WprojReferenceIdeal.τ) (Cert.WprojReferenceIdeal.main (F := Ideal))) ⟨m, fun _ => 0, g⟩ (fun r => (∀ c : Dev Cert.WprojReferenceIdeal.nD,
      r.2.mem ((c.tc : Thread Cert.WprojReferenceIdeal.nD Cert.WprojReferenceIdeal.τ).loc Cert.WprojReferenceIdeal.main_arg0) = m ((c.tc : Thread Cert.WprojReferenceIdeal.nD Cert.WprojReferenceIdeal.τ).loc Cert.WprojReferenceIdeal.main_arg0)
      ∧ r.2.mem ((c.tc : Thread Cert.WprojReferenceIdeal.nD Cert.WprojReferenceIdeal.τ).loc Cert.WprojReferenceIdeal.main_arg1) = m ((c.tc : Thread Cert.WprojReferenceIdeal.nD Cert.WprojReferenceIdeal.τ).loc Cert.WprojReferenceIdeal.main_arg1))
      ∧ r.2.sem = fun _ => 0)

def quiescent_WdownKernel [hWdownKernel : Cert.WdownKernel.Facts] : Prop :=
  ∀ (m : (ℓ : Loc Cert.WdownKernel.nD Cert.WdownKernel.τ Cert.WdownKernel.sig) → Buf (Elt Bits) ℓ) (g : Dev Cert.WdownKernel.nD → PrngReg), Pre_WdownKernel m →
    θ_run (Cert.WdownKernel.defs (F := Bits)) (onTc (τ := Cert.WdownKernel.τ) (Cert.WdownKernel.main (F := Bits))) ⟨m, fun _ => 0, g⟩ (fun r => (∀ c : Dev Cert.WdownKernel.nD,
      r.2.mem ((c.tc : Thread Cert.WdownKernel.nD Cert.WdownKernel.τ).loc Cert.WdownKernel.main_arg0) = m ((c.tc : Thread Cert.WdownKernel.nD Cert.WdownKernel.τ).loc Cert.WdownKernel.main_arg0)
      ∧ r.2.mem ((c.tc : Thread Cert.WdownKernel.nD Cert.WdownKernel.τ).loc Cert.WdownKernel.main_arg1) = m ((c.tc : Thread Cert.WdownKernel.nD Cert.WdownKernel.τ).loc Cert.WdownKernel.main_arg1))
      ∧ r.2.sem = fun _ => 0)

def quiescent_WdownKernelIdeal [hWdownKernelIdeal : Cert.WdownKernelIdeal.Facts] : Prop :=
  ∀ (m : (ℓ : Loc Cert.WdownKernelIdeal.nD Cert.WdownKernelIdeal.τ Cert.WdownKernelIdeal.sig) → Buf (Elt Ideal) ℓ) (g : Dev Cert.WdownKernelIdeal.nD → PrngReg), Pre_WdownKernelIdeal m →
    θ_run (Cert.WdownKernelIdeal.defs (F := Ideal)) (onTc (τ := Cert.WdownKernelIdeal.τ) (Cert.WdownKernelIdeal.main (F := Ideal))) ⟨m, fun _ => 0, g⟩ (fun r => (∀ c : Dev Cert.WdownKernelIdeal.nD,
      r.2.mem ((c.tc : Thread Cert.WdownKernelIdeal.nD Cert.WdownKernelIdeal.τ).loc Cert.WdownKernelIdeal.main_arg0) = m ((c.tc : Thread Cert.WdownKernelIdeal.nD Cert.WdownKernelIdeal.τ).loc Cert.WdownKernelIdeal.main_arg0)
      ∧ r.2.mem ((c.tc : Thread Cert.WdownKernelIdeal.nD Cert.WdownKernelIdeal.τ).loc Cert.WdownKernelIdeal.main_arg1) = m ((c.tc : Thread Cert.WdownKernelIdeal.nD Cert.WdownKernelIdeal.τ).loc Cert.WdownKernelIdeal.main_arg1))
      ∧ r.2.sem = fun _ => 0)

def quiescent_WdownReferenceIdeal [hWdownReferenceIdeal : Cert.WdownReferenceIdeal.Facts] : Prop :=
  ∀ (m : (ℓ : Loc Cert.WdownReferenceIdeal.nD Cert.WdownReferenceIdeal.τ Cert.WdownReferenceIdeal.sig) → Buf (Elt Ideal) ℓ) (g : Dev Cert.WdownReferenceIdeal.nD → PrngReg), Pre_WdownReferenceIdeal m →
    θ_run (Cert.WdownReferenceIdeal.defs (F := Ideal)) (onTc (τ := Cert.WdownReferenceIdeal.τ) (Cert.WdownReferenceIdeal.main (F := Ideal))) ⟨m, fun _ => 0, g⟩ (fun r => (∀ c : Dev Cert.WdownReferenceIdeal.nD,
      r.2.mem ((c.tc : Thread Cert.WdownReferenceIdeal.nD Cert.WdownReferenceIdeal.τ).loc Cert.WdownReferenceIdeal.main_arg0) = m ((c.tc : Thread Cert.WdownReferenceIdeal.nD Cert.WdownReferenceIdeal.τ).loc Cert.WdownReferenceIdeal.main_arg0)
      ∧ r.2.mem ((c.tc : Thread Cert.WdownReferenceIdeal.nD Cert.WdownReferenceIdeal.τ).loc Cert.WdownReferenceIdeal.main_arg1) = m ((c.tc : Thread Cert.WdownReferenceIdeal.nD Cert.WdownReferenceIdeal.τ).loc Cert.WdownReferenceIdeal.main_arg1))
      ∧ r.2.sem = fun _ => 0)

def quiescent_WgateKernel [hWgateKernel : Cert.WgateKernel.Facts] : Prop :=
  ∀ (m : (ℓ : Loc Cert.WgateKernel.nD Cert.WgateKernel.τ Cert.WgateKernel.sig) → Buf (Elt Bits) ℓ) (g : Dev Cert.WgateKernel.nD → PrngReg), Pre_WgateKernel m →
    θ_run (Cert.WgateKernel.defs (F := Bits)) (onTc (τ := Cert.WgateKernel.τ) (Cert.WgateKernel.main (F := Bits))) ⟨m, fun _ => 0, g⟩ (fun r => (∀ c : Dev Cert.WgateKernel.nD,
      r.2.mem ((c.tc : Thread Cert.WgateKernel.nD Cert.WgateKernel.τ).loc Cert.WgateKernel.main_arg0) = m ((c.tc : Thread Cert.WgateKernel.nD Cert.WgateKernel.τ).loc Cert.WgateKernel.main_arg0)
      ∧ r.2.mem ((c.tc : Thread Cert.WgateKernel.nD Cert.WgateKernel.τ).loc Cert.WgateKernel.main_arg1) = m ((c.tc : Thread Cert.WgateKernel.nD Cert.WgateKernel.τ).loc Cert.WgateKernel.main_arg1))
      ∧ r.2.sem = fun _ => 0)

def quiescent_WgateKernelIdeal [hWgateKernelIdeal : Cert.WgateKernelIdeal.Facts] : Prop :=
  ∀ (m : (ℓ : Loc Cert.WgateKernelIdeal.nD Cert.WgateKernelIdeal.τ Cert.WgateKernelIdeal.sig) → Buf (Elt Ideal) ℓ) (g : Dev Cert.WgateKernelIdeal.nD → PrngReg), Pre_WgateKernelIdeal m →
    θ_run (Cert.WgateKernelIdeal.defs (F := Ideal)) (onTc (τ := Cert.WgateKernelIdeal.τ) (Cert.WgateKernelIdeal.main (F := Ideal))) ⟨m, fun _ => 0, g⟩ (fun r => (∀ c : Dev Cert.WgateKernelIdeal.nD,
      r.2.mem ((c.tc : Thread Cert.WgateKernelIdeal.nD Cert.WgateKernelIdeal.τ).loc Cert.WgateKernelIdeal.main_arg0) = m ((c.tc : Thread Cert.WgateKernelIdeal.nD Cert.WgateKernelIdeal.τ).loc Cert.WgateKernelIdeal.main_arg0)
      ∧ r.2.mem ((c.tc : Thread Cert.WgateKernelIdeal.nD Cert.WgateKernelIdeal.τ).loc Cert.WgateKernelIdeal.main_arg1) = m ((c.tc : Thread Cert.WgateKernelIdeal.nD Cert.WgateKernelIdeal.τ).loc Cert.WgateKernelIdeal.main_arg1))
      ∧ r.2.sem = fun _ => 0)

def quiescent_WgateReferenceIdeal [hWgateReferenceIdeal : Cert.WgateReferenceIdeal.Facts] : Prop :=
  ∀ (m : (ℓ : Loc Cert.WgateReferenceIdeal.nD Cert.WgateReferenceIdeal.τ Cert.WgateReferenceIdeal.sig) → Buf (Elt Ideal) ℓ) (g : Dev Cert.WgateReferenceIdeal.nD → PrngReg), Pre_WgateReferenceIdeal m →
    θ_run (Cert.WgateReferenceIdeal.defs (F := Ideal)) (onTc (τ := Cert.WgateReferenceIdeal.τ) (Cert.WgateReferenceIdeal.main (F := Ideal))) ⟨m, fun _ => 0, g⟩ (fun r => (∀ c : Dev Cert.WgateReferenceIdeal.nD,
      r.2.mem ((c.tc : Thread Cert.WgateReferenceIdeal.nD Cert.WgateReferenceIdeal.τ).loc Cert.WgateReferenceIdeal.main_arg0) = m ((c.tc : Thread Cert.WgateReferenceIdeal.nD Cert.WgateReferenceIdeal.τ).loc Cert.WgateReferenceIdeal.main_arg0)
      ∧ r.2.mem ((c.tc : Thread Cert.WgateReferenceIdeal.nD Cert.WgateReferenceIdeal.τ).loc Cert.WgateReferenceIdeal.main_arg1) = m ((c.tc : Thread Cert.WgateReferenceIdeal.nD Cert.WgateReferenceIdeal.τ).loc Cert.WgateReferenceIdeal.main_arg1))
      ∧ r.2.sem = fun _ => 0)

def quiescent_AdamGateKernel [hAdamGateKernel : Cert.AdamGateKernel.Facts] : Prop :=
  ∀ (m : (ℓ : Loc Cert.AdamGateKernel.nD Cert.AdamGateKernel.τ Cert.AdamGateKernel.sig) → Buf (Elt Bits) ℓ) (g : Dev Cert.AdamGateKernel.nD → PrngReg), Pre_AdamGateKernel m →
    θ_run (Cert.AdamGateKernel.defs (F := Bits)) (onTc (τ := Cert.AdamGateKernel.τ) (Cert.AdamGateKernel.main (F := Bits))) ⟨m, fun _ => 0, g⟩ (fun r => (∀ c : Dev Cert.AdamGateKernel.nD,
      r.2.mem ((c.tc : Thread Cert.AdamGateKernel.nD Cert.AdamGateKernel.τ).loc Cert.AdamGateKernel.main_arg0) = m ((c.tc : Thread Cert.AdamGateKernel.nD Cert.AdamGateKernel.τ).loc Cert.AdamGateKernel.main_arg0)
      ∧ r.2.mem ((c.tc : Thread Cert.AdamGateKernel.nD Cert.AdamGateKernel.τ).loc Cert.AdamGateKernel.main_arg1) = m ((c.tc : Thread Cert.AdamGateKernel.nD Cert.AdamGateKernel.τ).loc Cert.AdamGateKernel.main_arg1)
      ∧ r.2.mem ((c.tc : Thread Cert.AdamGateKernel.nD Cert.AdamGateKernel.τ).loc Cert.AdamGateKernel.main_arg2) = m ((c.tc : Thread Cert.AdamGateKernel.nD Cert.AdamGateKernel.τ).loc Cert.AdamGateKernel.main_arg2)
      ∧ r.2.mem ((c.tc : Thread Cert.AdamGateKernel.nD Cert.AdamGateKernel.τ).loc Cert.AdamGateKernel.main_arg3) = m ((c.tc : Thread Cert.AdamGateKernel.nD Cert.AdamGateKernel.τ).loc Cert.AdamGateKernel.main_arg3))
      ∧ r.2.sem = fun _ => 0)

def quiescent_AdamGateKernelIdeal [hAdamGateKernelIdeal : Cert.AdamGateKernelIdeal.Facts] : Prop :=
  ∀ (m : (ℓ : Loc Cert.AdamGateKernelIdeal.nD Cert.AdamGateKernelIdeal.τ Cert.AdamGateKernelIdeal.sig) → Buf (Elt Ideal) ℓ) (g : Dev Cert.AdamGateKernelIdeal.nD → PrngReg), Pre_AdamGateKernelIdeal m →
    θ_run (Cert.AdamGateKernelIdeal.defs (F := Ideal)) (onTc (τ := Cert.AdamGateKernelIdeal.τ) (Cert.AdamGateKernelIdeal.main (F := Ideal))) ⟨m, fun _ => 0, g⟩ (fun r => (∀ c : Dev Cert.AdamGateKernelIdeal.nD,
      r.2.mem ((c.tc : Thread Cert.AdamGateKernelIdeal.nD Cert.AdamGateKernelIdeal.τ).loc Cert.AdamGateKernelIdeal.main_arg0) = m ((c.tc : Thread Cert.AdamGateKernelIdeal.nD Cert.AdamGateKernelIdeal.τ).loc Cert.AdamGateKernelIdeal.main_arg0)
      ∧ r.2.mem ((c.tc : Thread Cert.AdamGateKernelIdeal.nD Cert.AdamGateKernelIdeal.τ).loc Cert.AdamGateKernelIdeal.main_arg1) = m ((c.tc : Thread Cert.AdamGateKernelIdeal.nD Cert.AdamGateKernelIdeal.τ).loc Cert.AdamGateKernelIdeal.main_arg1)
      ∧ r.2.mem ((c.tc : Thread Cert.AdamGateKernelIdeal.nD Cert.AdamGateKernelIdeal.τ).loc Cert.AdamGateKernelIdeal.main_arg2) = m ((c.tc : Thread Cert.AdamGateKernelIdeal.nD Cert.AdamGateKernelIdeal.τ).loc Cert.AdamGateKernelIdeal.main_arg2)
      ∧ r.2.mem ((c.tc : Thread Cert.AdamGateKernelIdeal.nD Cert.AdamGateKernelIdeal.τ).loc Cert.AdamGateKernelIdeal.main_arg3) = m ((c.tc : Thread Cert.AdamGateKernelIdeal.nD Cert.AdamGateKernelIdeal.τ).loc Cert.AdamGateKernelIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_ProjBackKernel [hProjBackKernel : Cert.ProjBackKernel.Facts] : Prop :=
  ∀ (m : (ℓ : Loc Cert.ProjBackKernel.nD Cert.ProjBackKernel.τ Cert.ProjBackKernel.sig) → Buf (Elt Bits) ℓ) (g : Dev Cert.ProjBackKernel.nD → PrngReg), Pre_ProjBackKernel m →
    θ_run (Cert.ProjBackKernel.defs (F := Bits)) (onTc (τ := Cert.ProjBackKernel.τ) (Cert.ProjBackKernel.main (F := Bits))) ⟨m, fun _ => 0, g⟩ (fun r => (∀ c : Dev Cert.ProjBackKernel.nD,
      r.2.mem ((c.tc : Thread Cert.ProjBackKernel.nD Cert.ProjBackKernel.τ).loc Cert.ProjBackKernel.main_arg0) = m ((c.tc : Thread Cert.ProjBackKernel.nD Cert.ProjBackKernel.τ).loc Cert.ProjBackKernel.main_arg0)
      ∧ r.2.mem ((c.tc : Thread Cert.ProjBackKernel.nD Cert.ProjBackKernel.τ).loc Cert.ProjBackKernel.main_arg1) = m ((c.tc : Thread Cert.ProjBackKernel.nD Cert.ProjBackKernel.τ).loc Cert.ProjBackKernel.main_arg1))
      ∧ r.2.sem = fun _ => 0)

def quiescent_ProjBackKernelIdeal [hProjBackKernelIdeal : Cert.ProjBackKernelIdeal.Facts] : Prop :=
  ∀ (m : (ℓ : Loc Cert.ProjBackKernelIdeal.nD Cert.ProjBackKernelIdeal.τ Cert.ProjBackKernelIdeal.sig) → Buf (Elt Ideal) ℓ) (g : Dev Cert.ProjBackKernelIdeal.nD → PrngReg), Pre_ProjBackKernelIdeal m →
    θ_run (Cert.ProjBackKernelIdeal.defs (F := Ideal)) (onTc (τ := Cert.ProjBackKernelIdeal.τ) (Cert.ProjBackKernelIdeal.main (F := Ideal))) ⟨m, fun _ => 0, g⟩ (fun r => (∀ c : Dev Cert.ProjBackKernelIdeal.nD,
      r.2.mem ((c.tc : Thread Cert.ProjBackKernelIdeal.nD Cert.ProjBackKernelIdeal.τ).loc Cert.ProjBackKernelIdeal.main_arg0) = m ((c.tc : Thread Cert.ProjBackKernelIdeal.nD Cert.ProjBackKernelIdeal.τ).loc Cert.ProjBackKernelIdeal.main_arg0)
      ∧ r.2.mem ((c.tc : Thread Cert.ProjBackKernelIdeal.nD Cert.ProjBackKernelIdeal.τ).loc Cert.ProjBackKernelIdeal.main_arg1) = m ((c.tc : Thread Cert.ProjBackKernelIdeal.nD Cert.ProjBackKernelIdeal.τ).loc Cert.ProjBackKernelIdeal.main_arg1))
      ∧ r.2.sem = fun _ => 0)

def quiescent_ProjBackReferenceIdeal [hProjBackReferenceIdeal : Cert.ProjBackReferenceIdeal.Facts] : Prop :=
  ∀ (m : (ℓ : Loc Cert.ProjBackReferenceIdeal.nD Cert.ProjBackReferenceIdeal.τ Cert.ProjBackReferenceIdeal.sig) → Buf (Elt Ideal) ℓ) (g : Dev Cert.ProjBackReferenceIdeal.nD → PrngReg), Pre_ProjBackReferenceIdeal m →
    θ_run (Cert.ProjBackReferenceIdeal.defs (F := Ideal)) (onTc (τ := Cert.ProjBackReferenceIdeal.τ) (Cert.ProjBackReferenceIdeal.main (F := Ideal))) ⟨m, fun _ => 0, g⟩ (fun r => (∀ c : Dev Cert.ProjBackReferenceIdeal.nD,
      r.2.mem ((c.tc : Thread Cert.ProjBackReferenceIdeal.nD Cert.ProjBackReferenceIdeal.τ).loc Cert.ProjBackReferenceIdeal.main_arg0) = m ((c.tc : Thread Cert.ProjBackReferenceIdeal.nD Cert.ProjBackReferenceIdeal.τ).loc Cert.ProjBackReferenceIdeal.main_arg0)
      ∧ r.2.mem ((c.tc : Thread Cert.ProjBackReferenceIdeal.nD Cert.ProjBackReferenceIdeal.τ).loc Cert.ProjBackReferenceIdeal.main_arg1) = m ((c.tc : Thread Cert.ProjBackReferenceIdeal.nD Cert.ProjBackReferenceIdeal.τ).loc Cert.ProjBackReferenceIdeal.main_arg1))
      ∧ r.2.sem = fun _ => 0)

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v15_0)) (v1 : (c : Dev Cert.NormKernelIdeal.nD) → Buf (Elt Ideal) ((c.tc : Thread Cert.NormKernelIdeal.nD Cert.NormKernelIdeal.τ).loc Cert.NormKernelIdeal.main_v15_1)) (v2 : (c : Dev Cert.NormKernelIdeal.nD) → Buf (Elt Ideal) ((c.tc : Thread Cert.NormKernelIdeal.nD Cert.NormKernelIdeal.τ).loc Cert.NormKernelIdeal.main_v15_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v15_0) = v0 c
          ∧ r.2.mem ((c.tc : Thread Cert.NormKernelIdeal.nD Cert.NormKernelIdeal.τ).loc Cert.NormKernelIdeal.main_v15_1) = v1 c
          ∧ r.2.mem ((c.tc : Thread Cert.NormKernelIdeal.nD Cert.NormKernelIdeal.τ).loc Cert.NormKernelIdeal.main_v15_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v38) = v0 c
          ∧ r.2.mem ((c.tc : Thread Cert.NormReferenceIdeal.nD Cert.NormReferenceIdeal.τ).loc Cert.NormReferenceIdeal.main_v39) = v1 c
          ∧ r.2.mem ((c.tc : Thread Cert.NormReferenceIdeal.nD Cert.NormReferenceIdeal.τ).loc Cert.NormReferenceIdeal.main_v42) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_GlaKernel_GlaKernelIdeal : Prop :=
  True

def algebraic_GlaKernelIdeal_GlaReferenceIdeal_pre_gla_finite [hGlaKernelIdeal : Cert.GlaKernelIdeal.Facts] [hGlaReferenceIdeal : Cert.GlaReferenceIdeal.Facts] [hPre_gla_finite : Cert.Pre_gla_finite.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaKernelIdeal_gla_finite m →
    (∀ c : Dev Cert.GlaKernelIdeal.nD,
      m' ((c.tc : Thread Cert.GlaReferenceIdeal.nD Cert.GlaReferenceIdeal.τ).loc Cert.GlaReferenceIdeal.main_arg0) = m ((c.tc : Thread Cert.GlaKernelIdeal.nD Cert.GlaKernelIdeal.τ).loc Cert.GlaKernelIdeal.main_arg0)
      ∧ m' ((c.tc : Thread Cert.GlaReferenceIdeal.nD Cert.GlaReferenceIdeal.τ).loc Cert.GlaReferenceIdeal.main_arg1) = m ((c.tc : Thread Cert.GlaKernelIdeal.nD Cert.GlaKernelIdeal.τ).loc Cert.GlaKernelIdeal.main_arg1)
      ∧ m' ((c.tc : Thread Cert.GlaReferenceIdeal.nD Cert.GlaReferenceIdeal.τ).loc Cert.GlaReferenceIdeal.main_arg2) = m ((c.tc : Thread Cert.GlaKernelIdeal.nD Cert.GlaKernelIdeal.τ).loc Cert.GlaKernelIdeal.main_arg2)
      ∧ m' ((c.tc : Thread Cert.GlaReferenceIdeal.nD Cert.GlaReferenceIdeal.τ).loc Cert.GlaReferenceIdeal.main_arg3) = m ((c.tc : Thread Cert.GlaKernelIdeal.nD Cert.GlaKernelIdeal.τ).loc Cert.GlaKernelIdeal.main_arg3)
      ∧ m' ((c.tc : Thread Cert.GlaReferenceIdeal.nD Cert.GlaReferenceIdeal.τ).loc Cert.GlaReferenceIdeal.main_arg4) = m ((c.tc : Thread Cert.GlaKernelIdeal.nD Cert.GlaKernelIdeal.τ).loc Cert.GlaKernelIdeal.main_arg4)) →
    ∃ (v0 : (c : Dev Cert.GlaKernelIdeal.nD) → Buf (Elt Ideal) ((c.tc : Thread Cert.GlaKernelIdeal.nD Cert.GlaKernelIdeal.τ).loc Cert.GlaKernelIdeal.main_v11_0)) (v1 : (c : Dev Cert.GlaKernelIdeal.nD) → Buf (Elt Ideal) ((c.tc : Thread Cert.GlaKernelIdeal.nD Cert.GlaKernelIdeal.τ).loc Cert.GlaKernelIdeal.main_v17_0)) (v2 : (c : Dev Cert.GlaKernelIdeal.nD) → Buf (Elt Ideal) ((c.tc : Thread Cert.GlaKernelIdeal.nD Cert.GlaKernelIdeal.τ).loc Cert.GlaKernelIdeal.main_v17_1)) (v3 : (c : Dev Cert.GlaKernelIdeal.nD) → Buf (Elt Ideal) ((c.tc : Thread Cert.GlaKernelIdeal.nD Cert.GlaKernelIdeal.τ).loc Cert.GlaKernelIdeal.main_v17_2)),
      θ_run (Cert.GlaKernelIdeal.defs (F := Ideal)) (onTc (τ := Cert.GlaKernelIdeal.τ) (Cert.GlaKernelIdeal.main (F := Ideal))) ⟨m, fun _ => 0, g⟩ (fun r => ∀ c : Dev Cert.GlaKernelIdeal.nD,
          r.2.mem ((c.tc : Thread Cert.GlaKernelIdeal.nD Cert.GlaKernelIdeal.τ).loc Cert.GlaKernelIdeal.main_v11_0) = v0 c
          ∧ r.2.mem ((c.tc : Thread Cert.GlaKernelIdeal.nD Cert.GlaKernelIdeal.τ).loc Cert.GlaKernelIdeal.main_v17_0) = v1 c
          ∧ r.2.mem ((c.tc : Thread Cert.GlaKernelIdeal.nD Cert.GlaKernelIdeal.τ).loc Cert.GlaKernelIdeal.main_v17_1) = v2 c
          ∧ r.2.mem ((c.tc : Thread Cert.GlaKernelIdeal.nD Cert.GlaKernelIdeal.τ).loc Cert.GlaKernelIdeal.main_v17_2) = v3 c
          ∧ r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
          ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
          ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
          ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
          ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v111) = v0 c
          ∧ r.2.mem ((c.tc : Thread Cert.GlaReferenceIdeal.nD Cert.GlaReferenceIdeal.τ).loc Cert.GlaReferenceIdeal.main_v116) = v1 c
          ∧ r.2.mem ((c.tc : Thread Cert.GlaReferenceIdeal.nD Cert.GlaReferenceIdeal.τ).loc Cert.GlaReferenceIdeal.main_v115) = v2 c
          ∧ r.2.mem ((c.tc : Thread Cert.GlaReferenceIdeal.nD Cert.GlaReferenceIdeal.τ).loc Cert.GlaReferenceIdeal.main_v117) = v3 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v9_0)) (v1 : (c : Dev Cert.MixKernelIdeal.nD) → Buf (Elt Ideal) ((c.tc : Thread Cert.MixKernelIdeal.nD Cert.MixKernelIdeal.τ).loc Cert.MixKernelIdeal.main_v9_1)) (v2 : (c : Dev Cert.MixKernelIdeal.nD) → Buf (Elt Ideal) ((c.tc : Thread Cert.MixKernelIdeal.nD Cert.MixKernelIdeal.τ).loc Cert.MixKernelIdeal.main_v9_2)) (v3 : (c : Dev Cert.MixKernelIdeal.nD) → Buf (Elt Ideal) ((c.tc : Thread Cert.MixKernelIdeal.nD Cert.MixKernelIdeal.τ).loc Cert.MixKernelIdeal.main_v9_3)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v9_0) = v0 c
          ∧ r.2.mem ((c.tc : Thread Cert.MixKernelIdeal.nD Cert.MixKernelIdeal.τ).loc Cert.MixKernelIdeal.main_v9_1) = v1 c
          ∧ r.2.mem ((c.tc : Thread Cert.MixKernelIdeal.nD Cert.MixKernelIdeal.τ).loc Cert.MixKernelIdeal.main_v9_2) = v2 c
          ∧ r.2.mem ((c.tc : Thread Cert.MixKernelIdeal.nD Cert.MixKernelIdeal.τ).loc Cert.MixKernelIdeal.main_v9_3) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v26) = v0 c
          ∧ r.2.mem ((c.tc : Thread Cert.MixReferenceIdeal.nD Cert.MixReferenceIdeal.τ).loc Cert.MixReferenceIdeal.main_v27) = v1 c
          ∧ r.2.mem ((c.tc : Thread Cert.MixReferenceIdeal.nD Cert.MixReferenceIdeal.τ).loc Cert.MixReferenceIdeal.main_v28) = v2 c
          ∧ r.2.mem ((c.tc : Thread Cert.MixReferenceIdeal.nD Cert.MixReferenceIdeal.τ).loc Cert.MixReferenceIdeal.main_v29) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_PostKernel_PostKernelIdeal : Prop :=
  True

def algebraic_PostKernelIdeal_PostReferenceIdeal_pre_post_finite [hPostKernelIdeal : Cert.PostKernelIdeal.Facts] [hPostReferenceIdeal : Cert.PostReferenceIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal_post_finite m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)) →
    ∃ (v0 : (c : Dev Cert.PostKernelIdeal.nD) → Buf (Elt Ideal) ((c.tc : Thread Cert.PostKernelIdeal.nD Cert.PostKernelIdeal.τ).loc Cert.PostKernelIdeal.main_v14_0)) (v1 : (c : Dev Cert.PostKernelIdeal.nD) → Buf (Elt Ideal) ((c.tc : Thread Cert.PostKernelIdeal.nD Cert.PostKernelIdeal.τ).loc Cert.PostKernelIdeal.main_v14_1)) (v2 : (c : Dev Cert.PostKernelIdeal.nD) → Buf (Elt Ideal) ((c.tc : Thread Cert.PostKernelIdeal.nD Cert.PostKernelIdeal.τ).loc Cert.PostKernelIdeal.main_v14_2)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v14_0) = v0 c
          ∧ r.2.mem ((c.tc : Thread Cert.PostKernelIdeal.nD Cert.PostKernelIdeal.τ).loc Cert.PostKernelIdeal.main_v14_1) = v1 c
          ∧ r.2.mem ((c.tc : Thread Cert.PostKernelIdeal.nD Cert.PostKernelIdeal.τ).loc Cert.PostKernelIdeal.main_v14_2) = v2 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v58) = v0 c
          ∧ r.2.mem ((c.tc : Thread Cert.PostReferenceIdeal.nD Cert.PostReferenceIdeal.τ).loc Cert.PostReferenceIdeal.main_v61) = v1 c
          ∧ r.2.mem ((c.tc : Thread Cert.PostReferenceIdeal.nD Cert.PostReferenceIdeal.τ).loc Cert.PostReferenceIdeal.main_v62) = v2 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3))

def preserves_WindowKernel_WindowKernelIdeal : Prop :=
  True

def algebraic_WindowKernelIdeal_WindowReferenceIdeal_pre_window_finite [hWindowKernelIdeal : Cert.WindowKernelIdeal.Facts] [hWindowReferenceIdeal : Cert.WindowReferenceIdeal.Facts] [hPre_window_finite : Cert.Pre_window_finite.Facts] : Prop :=
  ∀ (m : (ℓ : Loc Cert.WindowKernelIdeal.nD Cert.WindowKernelIdeal.τ Cert.WindowKernelIdeal.sig) → Buf (Elt Ideal) ℓ) (g : Dev Cert.WindowKernelIdeal.nD → PrngReg)
    (m' : (ℓ : Loc Cert.WindowReferenceIdeal.nD Cert.WindowReferenceIdeal.τ Cert.WindowReferenceIdeal.sig) → Buf (Elt Ideal) ℓ) (g' : Dev Cert.WindowReferenceIdeal.nD → PrngReg), Pre_WindowKernelIdeal_window_finite m →
    (∀ c : Dev Cert.WindowKernelIdeal.nD,
      m' ((c.tc : Thread Cert.WindowReferenceIdeal.nD Cert.WindowReferenceIdeal.τ).loc Cert.WindowReferenceIdeal.main_arg0) = m ((c.tc : Thread Cert.WindowKernelIdeal.nD Cert.WindowKernelIdeal.τ).loc Cert.WindowKernelIdeal.main_arg0)
      ∧ m' ((c.tc : Thread Cert.WindowReferenceIdeal.nD Cert.WindowReferenceIdeal.τ).loc Cert.WindowReferenceIdeal.main_arg1) = m ((c.tc : Thread Cert.WindowKernelIdeal.nD Cert.WindowKernelIdeal.τ).loc Cert.WindowKernelIdeal.main_arg1)) →
    ∃ (v0 : (c : Dev Cert.WindowKernelIdeal.nD) → Buf (Elt Ideal) ((c.tc : Thread Cert.WindowKernelIdeal.nD Cert.WindowKernelIdeal.τ).loc Cert.WindowKernelIdeal.main_v3)),
      θ_run (Cert.WindowKernelIdeal.defs (F := Ideal)) (onTc (τ := Cert.WindowKernelIdeal.τ) (Cert.WindowKernelIdeal.main (F := Ideal))) ⟨m, fun _ => 0, g⟩ (fun r => ∀ c : Dev Cert.WindowKernelIdeal.nD,
          r.2.mem ((c.tc : Thread Cert.WindowKernelIdeal.nD Cert.WindowKernelIdeal.τ).loc Cert.WindowKernelIdeal.main_v3) = v0 c
          ∧ r.2.mem ((c.tc : Thread Cert.WindowKernelIdeal.nD Cert.WindowKernelIdeal.τ).loc Cert.WindowKernelIdeal.main_arg0) = m ((c.tc : Thread Cert.WindowKernelIdeal.nD Cert.WindowKernelIdeal.τ).loc Cert.WindowKernelIdeal.main_arg0)
          ∧ r.2.mem ((c.tc : Thread Cert.WindowKernelIdeal.nD Cert.WindowKernelIdeal.τ).loc Cert.WindowKernelIdeal.main_arg1) = m ((c.tc : Thread Cert.WindowKernelIdeal.nD Cert.WindowKernelIdeal.τ).loc Cert.WindowKernelIdeal.main_arg1))
      ∧ θ_run (Cert.WindowReferenceIdeal.defs (F := Ideal)) (onTc (τ := Cert.WindowReferenceIdeal.τ) (Cert.WindowReferenceIdeal.main (F := Ideal))) ⟨m', fun _ => 0, g'⟩ (fun r => ∀ c : Dev Cert.WindowReferenceIdeal.nD,
          r.2.mem ((c.tc : Thread Cert.WindowReferenceIdeal.nD Cert.WindowReferenceIdeal.τ).loc Cert.WindowReferenceIdeal.main_v146) = v0 c
          ∧ r.2.mem ((c.tc : Thread Cert.WindowReferenceIdeal.nD Cert.WindowReferenceIdeal.τ).loc Cert.WindowReferenceIdeal.main_arg0) = m' ((c.tc : Thread Cert.WindowReferenceIdeal.nD Cert.WindowReferenceIdeal.τ).loc Cert.WindowReferenceIdeal.main_arg0)
          ∧ r.2.mem ((c.tc : Thread Cert.WindowReferenceIdeal.nD Cert.WindowReferenceIdeal.τ).loc Cert.WindowReferenceIdeal.main_arg1) = m' ((c.tc : Thread Cert.WindowReferenceIdeal.nD Cert.WindowReferenceIdeal.τ).loc Cert.WindowReferenceIdeal.main_arg1))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v5_0)) (v1 : (c : Dev Cert.LossKernelIdeal.nD) → Buf (Elt Ideal) ((c.tc : Thread Cert.LossKernelIdeal.nD Cert.LossKernelIdeal.τ).loc Cert.LossKernelIdeal.main_v5_1)) (v2 : (c : Dev Cert.LossKernelIdeal.nD) → Buf (Elt Ideal) ((c.tc : Thread Cert.LossKernelIdeal.nD Cert.LossKernelIdeal.τ).loc Cert.LossKernelIdeal.main_v5_2)) (v3 : (c : Dev Cert.LossKernelIdeal.nD) → Buf (Elt Ideal) ((c.tc : Thread Cert.LossKernelIdeal.nD Cert.LossKernelIdeal.τ).loc Cert.LossKernelIdeal.main_v5_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v5_0) = v0 c
          ∧ r.2.mem ((c.tc : Thread Cert.LossKernelIdeal.nD Cert.LossKernelIdeal.τ).loc Cert.LossKernelIdeal.main_v5_1) = v1 c
          ∧ r.2.mem ((c.tc : Thread Cert.LossKernelIdeal.nD Cert.LossKernelIdeal.τ).loc Cert.LossKernelIdeal.main_v5_2) = v2 c
          ∧ r.2.mem ((c.tc : Thread Cert.LossKernelIdeal.nD Cert.LossKernelIdeal.τ).loc Cert.LossKernelIdeal.main_v5_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v55) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v56) = v2 c
          ∧ r.2.mem ((c.tc : Thread Cert.LossReferenceIdeal.nD Cert.LossReferenceIdeal.τ).loc Cert.LossReferenceIdeal.main_v59) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_ActKernel_ActKernelIdeal : Prop :=
  True

def algebraic_ActKernelIdeal_ActReferenceIdeal_pre_act_finite [hActKernelIdeal : Cert.ActKernelIdeal.Facts] [hActReferenceIdeal : Cert.ActReferenceIdeal.Facts] [hPre_act_finite : Cert.Pre_act_finite.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal_act_finite m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)
      ∧ m' ((c.tc : Thread Cert.ActReferenceIdeal.nD Cert.ActReferenceIdeal.τ).loc Cert.ActReferenceIdeal.main_arg3) = m ((c.tc : Thread Cert.ActKernelIdeal.nD Cert.ActKernelIdeal.τ).loc Cert.ActKernelIdeal.main_arg3)) →
    ∃ (v0 : (c : Dev Cert.ActKernelIdeal.nD) → Buf (Elt Ideal) ((c.tc : Thread Cert.ActKernelIdeal.nD Cert.ActKernelIdeal.τ).loc Cert.ActKernelIdeal.main_v26_0)) (v1 : (c : Dev Cert.ActKernelIdeal.nD) → Buf (Elt Ideal) ((c.tc : Thread Cert.ActKernelIdeal.nD Cert.ActKernelIdeal.τ).loc Cert.ActKernelIdeal.main_v26_1)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v26_0) = v0 c
          ∧ r.2.mem ((c.tc : Thread Cert.ActKernelIdeal.nD Cert.ActKernelIdeal.τ).loc Cert.ActKernelIdeal.main_v26_1) = v1 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
          ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v14) = v0 c
          ∧ r.2.mem ((c.tc : Thread Cert.ActReferenceIdeal.nD Cert.ActReferenceIdeal.τ).loc Cert.ActReferenceIdeal.main_v15) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_NormFwdKernel_NormFwdKernelIdeal : Prop :=
  True

def algebraic_NormFwdKernelIdeal_NormFwdReferenceIdeal [hNormFwdKernelIdeal : Cert.NormFwdKernelIdeal.Facts] [hNormFwdReferenceIdeal : Cert.NormFwdReferenceIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdKernelIdeal m →
    (∀ c : Dev Cert.NormFwdKernelIdeal.nD,
      m' ((c.tc : Thread Cert.NormFwdReferenceIdeal.nD Cert.NormFwdReferenceIdeal.τ).loc Cert.NormFwdReferenceIdeal.main_arg0) = m ((c.tc : Thread Cert.NormFwdKernelIdeal.nD Cert.NormFwdKernelIdeal.τ).loc Cert.NormFwdKernelIdeal.main_arg0)
      ∧ m' ((c.tc : Thread Cert.NormFwdReferenceIdeal.nD Cert.NormFwdReferenceIdeal.τ).loc Cert.NormFwdReferenceIdeal.main_arg1) = m ((c.tc : Thread Cert.NormFwdKernelIdeal.nD Cert.NormFwdKernelIdeal.τ).loc Cert.NormFwdKernelIdeal.main_arg1)) →
    ∃ (v0 : (c : Dev Cert.NormFwdKernelIdeal.nD) → Buf (Elt Ideal) ((c.tc : Thread Cert.NormFwdKernelIdeal.nD Cert.NormFwdKernelIdeal.τ).loc Cert.NormFwdKernelIdeal.main_v1_0)) (v1 : (c : Dev Cert.NormFwdKernelIdeal.nD) → Buf (Elt Ideal) ((c.tc : Thread Cert.NormFwdKernelIdeal.nD Cert.NormFwdKernelIdeal.τ).loc Cert.NormFwdKernelIdeal.main_v1_1)),
      θ_run (Cert.NormFwdKernelIdeal.defs (F := Ideal)) (onTc (τ := Cert.NormFwdKernelIdeal.τ) (Cert.NormFwdKernelIdeal.main (F := Ideal))) ⟨m, fun _ => 0, g⟩ (fun r => ∀ c : Dev Cert.NormFwdKernelIdeal.nD,
          r.2.mem ((c.tc : Thread Cert.NormFwdKernelIdeal.nD Cert.NormFwdKernelIdeal.τ).loc Cert.NormFwdKernelIdeal.main_v1_0) = v0 c
          ∧ r.2.mem ((c.tc : Thread Cert.NormFwdKernelIdeal.nD Cert.NormFwdKernelIdeal.τ).loc Cert.NormFwdKernelIdeal.main_v1_1) = v1 c
          ∧ r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
          ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v13) = v0 c
          ∧ r.2.mem ((c.tc : Thread Cert.NormFwdReferenceIdeal.nD Cert.NormFwdReferenceIdeal.τ).loc Cert.NormFwdReferenceIdeal.main_v7) = v1 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_PostFwdKernel_PostFwdKernelIdeal : Prop :=
  True

def algebraic_PostFwdKernelIdeal_PostFwdReferenceIdeal [hPostFwdKernelIdeal : Cert.PostFwdKernelIdeal.Facts] [hPostFwdReferenceIdeal : Cert.PostFwdReferenceIdeal.Facts] : Prop :=
  ∀ (m : (ℓ : Loc Cert.PostFwdKernelIdeal.nD Cert.PostFwdKernelIdeal.τ Cert.PostFwdKernelIdeal.sig) → Buf (Elt Ideal) ℓ) (g : Dev Cert.PostFwdKernelIdeal.nD → PrngReg)
    (m' : (ℓ : Loc Cert.PostFwdReferenceIdeal.nD Cert.PostFwdReferenceIdeal.τ Cert.PostFwdReferenceIdeal.sig) → Buf (Elt Ideal) ℓ) (g' : Dev Cert.PostFwdReferenceIdeal.nD → PrngReg), Pre_PostFwdKernelIdeal m →
    (∀ c : Dev Cert.PostFwdKernelIdeal.nD,
      m' ((c.tc : Thread Cert.PostFwdReferenceIdeal.nD Cert.PostFwdReferenceIdeal.τ).loc Cert.PostFwdReferenceIdeal.main_arg0) = m ((c.tc : Thread Cert.PostFwdKernelIdeal.nD Cert.PostFwdKernelIdeal.τ).loc Cert.PostFwdKernelIdeal.main_arg0)
      ∧ m' ((c.tc : Thread Cert.PostFwdReferenceIdeal.nD Cert.PostFwdReferenceIdeal.τ).loc Cert.PostFwdReferenceIdeal.main_arg1) = m ((c.tc : Thread Cert.PostFwdKernelIdeal.nD Cert.PostFwdKernelIdeal.τ).loc Cert.PostFwdKernelIdeal.main_arg1)
      ∧ m' ((c.tc : Thread Cert.PostFwdReferenceIdeal.nD Cert.PostFwdReferenceIdeal.τ).loc Cert.PostFwdReferenceIdeal.main_arg2) = m ((c.tc : Thread Cert.PostFwdKernelIdeal.nD Cert.PostFwdKernelIdeal.τ).loc Cert.PostFwdKernelIdeal.main_arg2)) →
    ∃ (v0 : (c : Dev Cert.PostFwdKernelIdeal.nD) → Buf (Elt Ideal) ((c.tc : Thread Cert.PostFwdKernelIdeal.nD Cert.PostFwdKernelIdeal.τ).loc Cert.PostFwdKernelIdeal.main_v8)),
      θ_run (Cert.PostFwdKernelIdeal.defs (F := Ideal)) (onTc (τ := Cert.PostFwdKernelIdeal.τ) (Cert.PostFwdKernelIdeal.main (F := Ideal))) ⟨m, fun _ => 0, g⟩ (fun r => ∀ c : Dev Cert.PostFwdKernelIdeal.nD,
          r.2.mem ((c.tc : Thread Cert.PostFwdKernelIdeal.nD Cert.PostFwdKernelIdeal.τ).loc Cert.PostFwdKernelIdeal.main_v8) = v0 c
          ∧ r.2.mem ((c.tc : Thread Cert.PostFwdKernelIdeal.nD Cert.PostFwdKernelIdeal.τ).loc Cert.PostFwdKernelIdeal.main_arg0) = m ((c.tc : Thread Cert.PostFwdKernelIdeal.nD Cert.PostFwdKernelIdeal.τ).loc Cert.PostFwdKernelIdeal.main_arg0)
          ∧ r.2.mem ((c.tc : Thread Cert.PostFwdKernelIdeal.nD Cert.PostFwdKernelIdeal.τ).loc Cert.PostFwdKernelIdeal.main_arg1) = m ((c.tc : Thread Cert.PostFwdKernelIdeal.nD Cert.PostFwdKernelIdeal.τ).loc Cert.PostFwdKernelIdeal.main_arg1)
          ∧ r.2.mem ((c.tc : Thread Cert.PostFwdKernelIdeal.nD Cert.PostFwdKernelIdeal.τ).loc Cert.PostFwdKernelIdeal.main_arg2) = m ((c.tc : Thread Cert.PostFwdKernelIdeal.nD Cert.PostFwdKernelIdeal.τ).loc Cert.PostFwdKernelIdeal.main_arg2))
      ∧ θ_run (Cert.PostFwdReferenceIdeal.defs (F := Ideal)) (onTc (τ := Cert.PostFwdReferenceIdeal.τ) (Cert.PostFwdReferenceIdeal.main (F := Ideal))) ⟨m', fun _ => 0, g'⟩ (fun r => ∀ c : Dev Cert.PostFwdReferenceIdeal.nD,
          r.2.mem ((c.tc : Thread Cert.PostFwdReferenceIdeal.nD Cert.PostFwdReferenceIdeal.τ).loc Cert.PostFwdReferenceIdeal.main_v22) = v0 c
          ∧ r.2.mem ((c.tc : Thread Cert.PostFwdReferenceIdeal.nD Cert.PostFwdReferenceIdeal.τ).loc Cert.PostFwdReferenceIdeal.main_arg0) = m' ((c.tc : Thread Cert.PostFwdReferenceIdeal.nD Cert.PostFwdReferenceIdeal.τ).loc Cert.PostFwdReferenceIdeal.main_arg0)
          ∧ r.2.mem ((c.tc : Thread Cert.PostFwdReferenceIdeal.nD Cert.PostFwdReferenceIdeal.τ).loc Cert.PostFwdReferenceIdeal.main_arg1) = m' ((c.tc : Thread Cert.PostFwdReferenceIdeal.nD Cert.PostFwdReferenceIdeal.τ).loc Cert.PostFwdReferenceIdeal.main_arg1)
          ∧ r.2.mem ((c.tc : Thread Cert.PostFwdReferenceIdeal.nD Cert.PostFwdReferenceIdeal.τ).loc Cert.PostFwdReferenceIdeal.main_arg2) = m' ((c.tc : Thread Cert.PostFwdReferenceIdeal.nD Cert.PostFwdReferenceIdeal.τ).loc Cert.PostFwdReferenceIdeal.main_arg2))

def preserves_MixFwdKernel_MixFwdKernelIdeal : Prop :=
  True

def algebraic_MixFwdKernelIdeal_MixFwdReferenceIdeal [hMixFwdKernelIdeal : Cert.MixFwdKernelIdeal.Facts] [hMixFwdReferenceIdeal : Cert.MixFwdReferenceIdeal.Facts] : Prop :=
  ∀ (m : (ℓ : Loc Cert.MixFwdKernelIdeal.nD Cert.MixFwdKernelIdeal.τ Cert.MixFwdKernelIdeal.sig) → Buf (Elt Ideal) ℓ) (g : Dev Cert.MixFwdKernelIdeal.nD → PrngReg)
    (m' : (ℓ : Loc Cert.MixFwdReferenceIdeal.nD Cert.MixFwdReferenceIdeal.τ Cert.MixFwdReferenceIdeal.sig) → Buf (Elt Ideal) ℓ) (g' : Dev Cert.MixFwdReferenceIdeal.nD → PrngReg), Pre_MixFwdKernelIdeal m →
    (∀ c : Dev Cert.MixFwdKernelIdeal.nD,
      m' ((c.tc : Thread Cert.MixFwdReferenceIdeal.nD Cert.MixFwdReferenceIdeal.τ).loc Cert.MixFwdReferenceIdeal.main_arg0) = m ((c.tc : Thread Cert.MixFwdKernelIdeal.nD Cert.MixFwdKernelIdeal.τ).loc Cert.MixFwdKernelIdeal.main_arg0)
      ∧ m' ((c.tc : Thread Cert.MixFwdReferenceIdeal.nD Cert.MixFwdReferenceIdeal.τ).loc Cert.MixFwdReferenceIdeal.main_arg1) = m ((c.tc : Thread Cert.MixFwdKernelIdeal.nD Cert.MixFwdKernelIdeal.τ).loc Cert.MixFwdKernelIdeal.main_arg1)
      ∧ m' ((c.tc : Thread Cert.MixFwdReferenceIdeal.nD Cert.MixFwdReferenceIdeal.τ).loc Cert.MixFwdReferenceIdeal.main_arg2) = m ((c.tc : Thread Cert.MixFwdKernelIdeal.nD Cert.MixFwdKernelIdeal.τ).loc Cert.MixFwdKernelIdeal.main_arg2)
      ∧ m' ((c.tc : Thread Cert.MixFwdReferenceIdeal.nD Cert.MixFwdReferenceIdeal.τ).loc Cert.MixFwdReferenceIdeal.main_arg3) = m ((c.tc : Thread Cert.MixFwdKernelIdeal.nD Cert.MixFwdKernelIdeal.τ).loc Cert.MixFwdKernelIdeal.main_arg3)
      ∧ m' ((c.tc : Thread Cert.MixFwdReferenceIdeal.nD Cert.MixFwdReferenceIdeal.τ).loc Cert.MixFwdReferenceIdeal.main_arg4) = m ((c.tc : Thread Cert.MixFwdKernelIdeal.nD Cert.MixFwdKernelIdeal.τ).loc Cert.MixFwdKernelIdeal.main_arg4)) →
    ∃ (v0 : (c : Dev Cert.MixFwdKernelIdeal.nD) → Buf (Elt Ideal) ((c.tc : Thread Cert.MixFwdKernelIdeal.nD Cert.MixFwdKernelIdeal.τ).loc Cert.MixFwdKernelIdeal.main_v9)),
      θ_run (Cert.MixFwdKernelIdeal.defs (F := Ideal)) (onTc (τ := Cert.MixFwdKernelIdeal.τ) (Cert.MixFwdKernelIdeal.main (F := Ideal))) ⟨m, fun _ => 0, g⟩ (fun r => ∀ c : Dev Cert.MixFwdKernelIdeal.nD,
          r.2.mem ((c.tc : Thread Cert.MixFwdKernelIdeal.nD Cert.MixFwdKernelIdeal.τ).loc Cert.MixFwdKernelIdeal.main_v9) = v0 c
          ∧ r.2.mem ((c.tc : Thread Cert.MixFwdKernelIdeal.nD Cert.MixFwdKernelIdeal.τ).loc Cert.MixFwdKernelIdeal.main_arg0) = m ((c.tc : Thread Cert.MixFwdKernelIdeal.nD Cert.MixFwdKernelIdeal.τ).loc Cert.MixFwdKernelIdeal.main_arg0)
          ∧ r.2.mem ((c.tc : Thread Cert.MixFwdKernelIdeal.nD Cert.MixFwdKernelIdeal.τ).loc Cert.MixFwdKernelIdeal.main_arg1) = m ((c.tc : Thread Cert.MixFwdKernelIdeal.nD Cert.MixFwdKernelIdeal.τ).loc Cert.MixFwdKernelIdeal.main_arg1)
          ∧ r.2.mem ((c.tc : Thread Cert.MixFwdKernelIdeal.nD Cert.MixFwdKernelIdeal.τ).loc Cert.MixFwdKernelIdeal.main_arg2) = m ((c.tc : Thread Cert.MixFwdKernelIdeal.nD Cert.MixFwdKernelIdeal.τ).loc Cert.MixFwdKernelIdeal.main_arg2)
          ∧ r.2.mem ((c.tc : Thread Cert.MixFwdKernelIdeal.nD Cert.MixFwdKernelIdeal.τ).loc Cert.MixFwdKernelIdeal.main_arg3) = m ((c.tc : Thread Cert.MixFwdKernelIdeal.nD Cert.MixFwdKernelIdeal.τ).loc Cert.MixFwdKernelIdeal.main_arg3)
          ∧ r.2.mem ((c.tc : Thread Cert.MixFwdKernelIdeal.nD Cert.MixFwdKernelIdeal.τ).loc Cert.MixFwdKernelIdeal.main_arg4) = m ((c.tc : Thread Cert.MixFwdKernelIdeal.nD Cert.MixFwdKernelIdeal.τ).loc Cert.MixFwdKernelIdeal.main_arg4))
      ∧ θ_run (Cert.MixFwdReferenceIdeal.defs (F := Ideal)) (onTc (τ := Cert.MixFwdReferenceIdeal.τ) (Cert.MixFwdReferenceIdeal.main (F := Ideal))) ⟨m', fun _ => 0, g'⟩ (fun r => ∀ c : Dev Cert.MixFwdReferenceIdeal.nD,
          r.2.mem ((c.tc : Thread Cert.MixFwdReferenceIdeal.nD Cert.MixFwdReferenceIdeal.τ).loc Cert.MixFwdReferenceIdeal.main_v11) = v0 c
          ∧ r.2.mem ((c.tc : Thread Cert.MixFwdReferenceIdeal.nD Cert.MixFwdReferenceIdeal.τ).loc Cert.MixFwdReferenceIdeal.main_arg0) = m' ((c.tc : Thread Cert.MixFwdReferenceIdeal.nD Cert.MixFwdReferenceIdeal.τ).loc Cert.MixFwdReferenceIdeal.main_arg0)
          ∧ r.2.mem ((c.tc : Thread Cert.MixFwdReferenceIdeal.nD Cert.MixFwdReferenceIdeal.τ).loc Cert.MixFwdReferenceIdeal.main_arg1) = m' ((c.tc : Thread Cert.MixFwdReferenceIdeal.nD Cert.MixFwdReferenceIdeal.τ).loc Cert.MixFwdReferenceIdeal.main_arg1)
          ∧ r.2.mem ((c.tc : Thread Cert.MixFwdReferenceIdeal.nD Cert.MixFwdReferenceIdeal.τ).loc Cert.MixFwdReferenceIdeal.main_arg2) = m' ((c.tc : Thread Cert.MixFwdReferenceIdeal.nD Cert.MixFwdReferenceIdeal.τ).loc Cert.MixFwdReferenceIdeal.main_arg2)
          ∧ r.2.mem ((c.tc : Thread Cert.MixFwdReferenceIdeal.nD Cert.MixFwdReferenceIdeal.τ).loc Cert.MixFwdReferenceIdeal.main_arg3) = m' ((c.tc : Thread Cert.MixFwdReferenceIdeal.nD Cert.MixFwdReferenceIdeal.τ).loc Cert.MixFwdReferenceIdeal.main_arg3)
          ∧ r.2.mem ((c.tc : Thread Cert.MixFwdReferenceIdeal.nD Cert.MixFwdReferenceIdeal.τ).loc Cert.MixFwdReferenceIdeal.main_arg4) = m' ((c.tc : Thread Cert.MixFwdReferenceIdeal.nD Cert.MixFwdReferenceIdeal.τ).loc Cert.MixFwdReferenceIdeal.main_arg4))

def preserves_GateupFwdKernel_GateupFwdKernelIdeal : Prop :=
  True

def algebraic_GateupFwdKernelIdeal_GateupFwdReferenceIdeal [hGateupFwdKernelIdeal : Cert.GateupFwdKernelIdeal.Facts] [hGateupFwdReferenceIdeal : Cert.GateupFwdReferenceIdeal.Facts] : Prop :=
  ∀ (m : (ℓ : Loc Cert.GateupFwdKernelIdeal.nD Cert.GateupFwdKernelIdeal.τ Cert.GateupFwdKernelIdeal.sig) → Buf (Elt Ideal) ℓ) (g : Dev Cert.GateupFwdKernelIdeal.nD → PrngReg)
    (m' : (ℓ : Loc Cert.GateupFwdReferenceIdeal.nD Cert.GateupFwdReferenceIdeal.τ Cert.GateupFwdReferenceIdeal.sig) → Buf (Elt Ideal) ℓ) (g' : Dev Cert.GateupFwdReferenceIdeal.nD → PrngReg), Pre_GateupFwdKernelIdeal m →
    (∀ c : Dev Cert.GateupFwdKernelIdeal.nD,
      m' ((c.tc : Thread Cert.GateupFwdReferenceIdeal.nD Cert.GateupFwdReferenceIdeal.τ).loc Cert.GateupFwdReferenceIdeal.main_arg0) = m ((c.tc : Thread Cert.GateupFwdKernelIdeal.nD Cert.GateupFwdKernelIdeal.τ).loc Cert.GateupFwdKernelIdeal.main_arg0)
      ∧ m' ((c.tc : Thread Cert.GateupFwdReferenceIdeal.nD Cert.GateupFwdReferenceIdeal.τ).loc Cert.GateupFwdReferenceIdeal.main_arg1) = m ((c.tc : Thread Cert.GateupFwdKernelIdeal.nD Cert.GateupFwdKernelIdeal.τ).loc Cert.GateupFwdKernelIdeal.main_arg1)
      ∧ m' ((c.tc : Thread Cert.GateupFwdReferenceIdeal.nD Cert.GateupFwdReferenceIdeal.τ).loc Cert.GateupFwdReferenceIdeal.main_arg2) = m ((c.tc : Thread Cert.GateupFwdKernelIdeal.nD Cert.GateupFwdKernelIdeal.τ).loc Cert.GateupFwdKernelIdeal.main_arg2)) →
    ∃ (v0 : (c : Dev Cert.GateupFwdKernelIdeal.nD) → Buf (Elt Ideal) ((c.tc : Thread Cert.GateupFwdKernelIdeal.nD Cert.GateupFwdKernelIdeal.τ).loc Cert.GateupFwdKernelIdeal.main_v7_0)) (v1 : (c : Dev Cert.GateupFwdKernelIdeal.nD) → Buf (Elt Ideal) ((c.tc : Thread Cert.GateupFwdKernelIdeal.nD Cert.GateupFwdKernelIdeal.τ).loc Cert.GateupFwdKernelIdeal.main_v7_1)) (v2 : (c : Dev Cert.GateupFwdKernelIdeal.nD) → Buf (Elt Ideal) ((c.tc : Thread Cert.GateupFwdKernelIdeal.nD Cert.GateupFwdKernelIdeal.τ).loc Cert.GateupFwdKernelIdeal.main_v7_2)) (v3 : (c : Dev Cert.GateupFwdKernelIdeal.nD) → Buf (Elt Ideal) ((c.tc : Thread Cert.GateupFwdKernelIdeal.nD Cert.GateupFwdKernelIdeal.τ).loc Cert.GateupFwdKernelIdeal.main_v7_3)),
      θ_run (Cert.GateupFwdKernelIdeal.defs (F := Ideal)) (onTc (τ := Cert.GateupFwdKernelIdeal.τ) (Cert.GateupFwdKernelIdeal.main (F := Ideal))) ⟨m, fun _ => 0, g⟩ (fun r => ∀ c : Dev Cert.GateupFwdKernelIdeal.nD,
          r.2.mem ((c.tc : Thread Cert.GateupFwdKernelIdeal.nD Cert.GateupFwdKernelIdeal.τ).loc Cert.GateupFwdKernelIdeal.main_v7_0) = v0 c
          ∧ r.2.mem ((c.tc : Thread Cert.GateupFwdKernelIdeal.nD Cert.GateupFwdKernelIdeal.τ).loc Cert.GateupFwdKernelIdeal.main_v7_1) = v1 c
          ∧ r.2.mem ((c.tc : Thread Cert.GateupFwdKernelIdeal.nD Cert.GateupFwdKernelIdeal.τ).loc Cert.GateupFwdKernelIdeal.main_v7_2) = v2 c
          ∧ r.2.mem ((c.tc : Thread Cert.GateupFwdKernelIdeal.nD Cert.GateupFwdKernelIdeal.τ).loc Cert.GateupFwdKernelIdeal.main_v7_3) = v3 c
          ∧ r.2.mem ((c.tc : Thread Cert.GateupFwdKernelIdeal.nD Cert.GateupFwdKernelIdeal.τ).loc Cert.GateupFwdKernelIdeal.main_arg0) = m ((c.tc : Thread Cert.GateupFwdKernelIdeal.nD Cert.GateupFwdKernelIdeal.τ).loc Cert.GateupFwdKernelIdeal.main_arg0)
          ∧ r.2.mem ((c.tc : Thread Cert.GateupFwdKernelIdeal.nD Cert.GateupFwdKernelIdeal.τ).loc Cert.GateupFwdKernelIdeal.main_arg1) = m ((c.tc : Thread Cert.GateupFwdKernelIdeal.nD Cert.GateupFwdKernelIdeal.τ).loc Cert.GateupFwdKernelIdeal.main_arg1)
          ∧ r.2.mem ((c.tc : Thread Cert.GateupFwdKernelIdeal.nD Cert.GateupFwdKernelIdeal.τ).loc Cert.GateupFwdKernelIdeal.main_arg2) = m ((c.tc : Thread Cert.GateupFwdKernelIdeal.nD Cert.GateupFwdKernelIdeal.τ).loc Cert.GateupFwdKernelIdeal.main_arg2))
      ∧ θ_run (Cert.GateupFwdReferenceIdeal.defs (F := Ideal)) (onTc (τ := Cert.GateupFwdReferenceIdeal.τ) (Cert.GateupFwdReferenceIdeal.main (F := Ideal))) ⟨m', fun _ => 0, g'⟩ (fun r => ∀ c : Dev Cert.GateupFwdReferenceIdeal.nD,
          r.2.mem ((c.tc : Thread Cert.GateupFwdReferenceIdeal.nD Cert.GateupFwdReferenceIdeal.τ).loc Cert.GateupFwdReferenceIdeal.main_v6) = v0 c
          ∧ r.2.mem ((c.tc : Thread Cert.GateupFwdReferenceIdeal.nD Cert.GateupFwdReferenceIdeal.τ).loc Cert.GateupFwdReferenceIdeal.main_v7) = v1 c
          ∧ r.2.mem ((c.tc : Thread Cert.GateupFwdReferenceIdeal.nD Cert.GateupFwdReferenceIdeal.τ).loc Cert.GateupFwdReferenceIdeal.main_v8) = v2 c
          ∧ r.2.mem ((c.tc : Thread Cert.GateupFwdReferenceIdeal.nD Cert.GateupFwdReferenceIdeal.τ).loc Cert.GateupFwdReferenceIdeal.main_v9) = v3 c
          ∧ r.2.mem ((c.tc : Thread Cert.GateupFwdReferenceIdeal.nD Cert.GateupFwdReferenceIdeal.τ).loc Cert.GateupFwdReferenceIdeal.main_arg0) = m' ((c.tc : Thread Cert.GateupFwdReferenceIdeal.nD Cert.GateupFwdReferenceIdeal.τ).loc Cert.GateupFwdReferenceIdeal.main_arg0)
          ∧ r.2.mem ((c.tc : Thread Cert.GateupFwdReferenceIdeal.nD Cert.GateupFwdReferenceIdeal.τ).loc Cert.GateupFwdReferenceIdeal.main_arg1) = m' ((c.tc : Thread Cert.GateupFwdReferenceIdeal.nD Cert.GateupFwdReferenceIdeal.τ).loc Cert.GateupFwdReferenceIdeal.main_arg1)
          ∧ r.2.mem ((c.tc : Thread Cert.GateupFwdReferenceIdeal.nD Cert.GateupFwdReferenceIdeal.τ).loc Cert.GateupFwdReferenceIdeal.main_arg2) = m' ((c.tc : Thread Cert.GateupFwdReferenceIdeal.nD Cert.GateupFwdReferenceIdeal.τ).loc Cert.GateupFwdReferenceIdeal.main_arg2))

def preserves_WindowFwdKernel_WindowFwdKernelIdeal : Prop :=
  True

def algebraic_WindowFwdKernelIdeal_WindowFwdReferenceIdeal_pre_window_fwd_finite [hWindowFwdKernelIdeal : Cert.WindowFwdKernelIdeal.Facts] [hWindowFwdReferenceIdeal : Cert.WindowFwdReferenceIdeal.Facts] [hPre_window_fwd_finite : Cert.Pre_window_fwd_finite.Facts] : Prop :=
  ∀ (m : (ℓ : Loc Cert.WindowFwdKernelIdeal.nD Cert.WindowFwdKernelIdeal.τ Cert.WindowFwdKernelIdeal.sig) → Buf (Elt Ideal) ℓ) (g : Dev Cert.WindowFwdKernelIdeal.nD → PrngReg)
    (m' : (ℓ : Loc Cert.WindowFwdReferenceIdeal.nD Cert.WindowFwdReferenceIdeal.τ Cert.WindowFwdReferenceIdeal.sig) → Buf (Elt Ideal) ℓ) (g' : Dev Cert.WindowFwdReferenceIdeal.nD → PrngReg), Pre_WindowFwdKernelIdeal_window_fwd_finite m →
    (∀ c : Dev Cert.WindowFwdKernelIdeal.nD,
      m' ((c.tc : Thread Cert.WindowFwdReferenceIdeal.nD Cert.WindowFwdReferenceIdeal.τ).loc Cert.WindowFwdReferenceIdeal.main_arg0) = m ((c.tc : Thread Cert.WindowFwdKernelIdeal.nD Cert.WindowFwdKernelIdeal.τ).loc Cert.WindowFwdKernelIdeal.main_arg0)) →
    ∃ (v0 : (c : Dev Cert.WindowFwdKernelIdeal.nD) → Buf (Elt Ideal) ((c.tc : Thread Cert.WindowFwdKernelIdeal.nD Cert.WindowFwdKernelIdeal.τ).loc Cert.WindowFwdKernelIdeal.main_v2)),
      θ_run (Cert.WindowFwdKernelIdeal.defs (F := Ideal)) (onTc (τ := Cert.WindowFwdKernelIdeal.τ) (Cert.WindowFwdKernelIdeal.main (F := Ideal))) ⟨m, fun _ => 0, g⟩ (fun r => ∀ c : Dev Cert.WindowFwdKernelIdeal.nD,
          r.2.mem ((c.tc : Thread Cert.WindowFwdKernelIdeal.nD Cert.WindowFwdKernelIdeal.τ).loc Cert.WindowFwdKernelIdeal.main_v2) = v0 c
          ∧ r.2.mem ((c.tc : Thread Cert.WindowFwdKernelIdeal.nD Cert.WindowFwdKernelIdeal.τ).loc Cert.WindowFwdKernelIdeal.main_arg0) = m ((c.tc : Thread Cert.WindowFwdKernelIdeal.nD Cert.WindowFwdKernelIdeal.τ).loc Cert.WindowFwdKernelIdeal.main_arg0))
      ∧ θ_run (Cert.WindowFwdReferenceIdeal.defs (F := Ideal)) (onTc (τ := Cert.WindowFwdReferenceIdeal.τ) (Cert.WindowFwdReferenceIdeal.main (F := Ideal))) ⟨m', fun _ => 0, g'⟩ (fun r => ∀ c : Dev Cert.WindowFwdReferenceIdeal.nD,
          r.2.mem ((c.tc : Thread Cert.WindowFwdReferenceIdeal.nD Cert.WindowFwdReferenceIdeal.τ).loc Cert.WindowFwdReferenceIdeal.main_v79) = v0 c
          ∧ r.2.mem ((c.tc : Thread Cert.WindowFwdReferenceIdeal.nD Cert.WindowFwdReferenceIdeal.τ).loc Cert.WindowFwdReferenceIdeal.main_arg0) = m' ((c.tc : Thread Cert.WindowFwdReferenceIdeal.nD Cert.WindowFwdReferenceIdeal.τ).loc Cert.WindowFwdReferenceIdeal.main_arg0))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v2) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)) →
    ∃ (v0 : (c : Dev Cert.WgradKernelIdeal.nD) → Buf (Elt Ideal) ((c.tc : Thread Cert.WgradKernelIdeal.nD Cert.WgradKernelIdeal.τ).loc Cert.WgradKernelIdeal.main_v1)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v1) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v2) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1))

def preserves_ResidKernel_ResidKernelIdeal : Prop :=
  True

def algebraic_ResidKernelIdeal_ResidReferenceIdeal [hResidKernelIdeal : Cert.ResidKernelIdeal.Facts] [hResidReferenceIdeal : Cert.ResidReferenceIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidKernelIdeal m →
    (∀ c : Dev Cert.ResidKernelIdeal.nD,
      m' ((c.tc : Thread Cert.ResidReferenceIdeal.nD Cert.ResidReferenceIdeal.τ).loc Cert.ResidReferenceIdeal.main_arg0) = m ((c.tc : Thread Cert.ResidKernelIdeal.nD Cert.ResidKernelIdeal.τ).loc Cert.ResidKernelIdeal.main_arg0)
      ∧ m' ((c.tc : Thread Cert.ResidReferenceIdeal.nD Cert.ResidReferenceIdeal.τ).loc Cert.ResidReferenceIdeal.main_arg1) = m ((c.tc : Thread Cert.ResidKernelIdeal.nD Cert.ResidKernelIdeal.τ).loc Cert.ResidKernelIdeal.main_arg1)
      ∧ m' ((c.tc : Thread Cert.ResidReferenceIdeal.nD Cert.ResidReferenceIdeal.τ).loc Cert.ResidReferenceIdeal.main_arg2) = m ((c.tc : Thread Cert.ResidKernelIdeal.nD Cert.ResidKernelIdeal.τ).loc Cert.ResidKernelIdeal.main_arg2)) →
    ∃ (v0 : (c : Dev Cert.ResidKernelIdeal.nD) → Buf (Elt Ideal) ((c.tc : Thread Cert.ResidKernelIdeal.nD Cert.ResidKernelIdeal.τ).loc Cert.ResidKernelIdeal.main_v2)),
      θ_run (Cert.ResidKernelIdeal.defs (F := Ideal)) (onTc (τ := Cert.ResidKernelIdeal.τ) (Cert.ResidKernelIdeal.main (F := Ideal))) ⟨m, fun _ => 0, g⟩ (fun r => ∀ c : Dev Cert.ResidKernelIdeal.nD,
          r.2.mem ((c.tc : Thread Cert.ResidKernelIdeal.nD Cert.ResidKernelIdeal.τ).loc Cert.ResidKernelIdeal.main_v2) = v0 c
          ∧ r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
          ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
          ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v1) = v0 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2))

def preserves_BackKernel_BackKernelIdeal : Prop :=
  True

def algebraic_BackKernelIdeal_BackReferenceIdeal [hBackKernelIdeal : Cert.BackKernelIdeal.Facts] [hBackReferenceIdeal : Cert.BackReferenceIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackKernelIdeal m →
    (∀ c : Dev Cert.BackKernelIdeal.nD,
      m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0)
      ∧ m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1)) →
    ∃ (v0 : (c : Dev Cert.BackKernelIdeal.nD) → Buf (Elt Ideal) ((c.tc : Thread Cert.BackKernelIdeal.nD Cert.BackKernelIdeal.τ).loc Cert.BackKernelIdeal.main_v1)),
      θ_run (Cert.BackKernelIdeal.defs (F := Ideal)) (onTc (τ := Cert.BackKernelIdeal.τ) (Cert.BackKernelIdeal.main (F := Ideal))) ⟨m, fun _ => 0, g⟩ (fun r => ∀ c : Dev Cert.BackKernelIdeal.nD,
          r.2.mem ((c.tc : Thread Cert.BackKernelIdeal.nD Cert.BackKernelIdeal.τ).loc Cert.BackKernelIdeal.main_v1) = v0 c
          ∧ r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
          ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v1) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1))

def preserves_TotalKernel_TotalKernelIdeal : Prop :=
  True

def algebraic_TotalKernelIdeal_TotalReferenceIdeal [hTotalKernelIdeal : Cert.TotalKernelIdeal.Facts] [hTotalReferenceIdeal : Cert.TotalReferenceIdeal.Facts] : Prop :=
  ∀ (m : (ℓ : Loc Cert.TotalKernelIdeal.nD Cert.TotalKernelIdeal.τ Cert.TotalKernelIdeal.sig) → Buf (Elt Ideal) ℓ) (g : Dev Cert.TotalKernelIdeal.nD → PrngReg)
    (m' : (ℓ : Loc Cert.TotalReferenceIdeal.nD Cert.TotalReferenceIdeal.τ Cert.TotalReferenceIdeal.sig) → Buf (Elt Ideal) ℓ) (g' : Dev Cert.TotalReferenceIdeal.nD → PrngReg), Pre_TotalKernelIdeal m →
    (∀ c : Dev Cert.TotalKernelIdeal.nD,
      m' ((c.tc : Thread Cert.TotalReferenceIdeal.nD Cert.TotalReferenceIdeal.τ).loc Cert.TotalReferenceIdeal.main_arg0) = m ((c.tc : Thread Cert.TotalKernelIdeal.nD Cert.TotalKernelIdeal.τ).loc Cert.TotalKernelIdeal.main_arg0)) →
    ∃ (v0 : (c : Dev Cert.TotalKernelIdeal.nD) → Buf (Elt Ideal) ((c.tc : Thread Cert.TotalKernelIdeal.nD Cert.TotalKernelIdeal.τ).loc Cert.TotalKernelIdeal.main_v0)),
      θ_run (Cert.TotalKernelIdeal.defs (F := Ideal)) (onTc (τ := Cert.TotalKernelIdeal.τ) (Cert.TotalKernelIdeal.main (F := Ideal))) ⟨m, fun _ => 0, g⟩ (fun r => ∀ c : Dev Cert.TotalKernelIdeal.nD,
          r.2.mem ((c.tc : Thread Cert.TotalKernelIdeal.nD Cert.TotalKernelIdeal.τ).loc Cert.TotalKernelIdeal.main_v0) = v0 c
          ∧ r.2.mem ((c.tc : Thread Cert.TotalKernelIdeal.nD Cert.TotalKernelIdeal.τ).loc Cert.TotalKernelIdeal.main_arg0) = m ((c.tc : Thread Cert.TotalKernelIdeal.nD Cert.TotalKernelIdeal.τ).loc Cert.TotalKernelIdeal.main_arg0))
      ∧ θ_run (Cert.TotalReferenceIdeal.defs (F := Ideal)) (onTc (τ := Cert.TotalReferenceIdeal.τ) (Cert.TotalReferenceIdeal.main (F := Ideal))) ⟨m', fun _ => 0, g'⟩ (fun r => ∀ c : Dev Cert.TotalReferenceIdeal.nD,
          r.2.mem ((c.tc : Thread Cert.TotalReferenceIdeal.nD Cert.TotalReferenceIdeal.τ).loc Cert.TotalReferenceIdeal.main_v0) = v0 c
          ∧ r.2.mem ((c.tc : Thread Cert.TotalReferenceIdeal.nD Cert.TotalReferenceIdeal.τ).loc Cert.TotalReferenceIdeal.main_arg0) = m' ((c.tc : Thread Cert.TotalReferenceIdeal.nD Cert.TotalReferenceIdeal.τ).loc Cert.TotalReferenceIdeal.main_arg0))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_WprojKernel_WprojKernelIdeal : Prop :=
  True

def algebraic_WprojKernelIdeal_WprojReferenceIdeal [hWprojKernelIdeal : Cert.WprojKernelIdeal.Facts] [hWprojReferenceIdeal : Cert.WprojReferenceIdeal.Facts] : Prop :=
  ∀ (m : (ℓ : Loc Cert.WprojKernelIdeal.nD Cert.WprojKernelIdeal.τ Cert.WprojKernelIdeal.sig) → Buf (Elt Ideal) ℓ) (g : Dev Cert.WprojKernelIdeal.nD → PrngReg)
    (m' : (ℓ : Loc Cert.WprojReferenceIdeal.nD Cert.WprojReferenceIdeal.τ Cert.WprojReferenceIdeal.sig) → Buf (Elt Ideal) ℓ) (g' : Dev Cert.WprojReferenceIdeal.nD → PrngReg), Pre_WprojKernelIdeal m →
    (∀ c : Dev Cert.WprojKernelIdeal.nD,
      m' ((c.tc : Thread Cert.WprojReferenceIdeal.nD Cert.WprojReferenceIdeal.τ).loc Cert.WprojReferenceIdeal.main_arg0) = m ((c.tc : Thread Cert.WprojKernelIdeal.nD Cert.WprojKernelIdeal.τ).loc Cert.WprojKernelIdeal.main_arg0)
      ∧ m' ((c.tc : Thread Cert.WprojReferenceIdeal.nD Cert.WprojReferenceIdeal.τ).loc Cert.WprojReferenceIdeal.main_arg1) = m ((c.tc : Thread Cert.WprojKernelIdeal.nD Cert.WprojKernelIdeal.τ).loc Cert.WprojKernelIdeal.main_arg1)) →
    ∃ (v0 : (c : Dev Cert.WprojKernelIdeal.nD) → Buf (Elt Ideal) ((c.tc : Thread Cert.WprojKernelIdeal.nD Cert.WprojKernelIdeal.τ).loc Cert.WprojKernelIdeal.main_v1)),
      θ_run (Cert.WprojKernelIdeal.defs (F := Ideal)) (onTc (τ := Cert.WprojKernelIdeal.τ) (Cert.WprojKernelIdeal.main (F := Ideal))) ⟨m, fun _ => 0, g⟩ (fun r => ∀ c : Dev Cert.WprojKernelIdeal.nD,
          r.2.mem ((c.tc : Thread Cert.WprojKernelIdeal.nD Cert.WprojKernelIdeal.τ).loc Cert.WprojKernelIdeal.main_v1) = v0 c
          ∧ r.2.mem ((c.tc : Thread Cert.WprojKernelIdeal.nD Cert.WprojKernelIdeal.τ).loc Cert.WprojKernelIdeal.main_arg0) = m ((c.tc : Thread Cert.WprojKernelIdeal.nD Cert.WprojKernelIdeal.τ).loc Cert.WprojKernelIdeal.main_arg0)
          ∧ r.2.mem ((c.tc : Thread Cert.WprojKernelIdeal.nD Cert.WprojKernelIdeal.τ).loc Cert.WprojKernelIdeal.main_arg1) = m ((c.tc : Thread Cert.WprojKernelIdeal.nD Cert.WprojKernelIdeal.τ).loc Cert.WprojKernelIdeal.main_arg1))
      ∧ θ_run (Cert.WprojReferenceIdeal.defs (F := Ideal)) (onTc (τ := Cert.WprojReferenceIdeal.τ) (Cert.WprojReferenceIdeal.main (F := Ideal))) ⟨m', fun _ => 0, g'⟩ (fun r => ∀ c : Dev Cert.WprojReferenceIdeal.nD,
          r.2.mem ((c.tc : Thread Cert.WprojReferenceIdeal.nD Cert.WprojReferenceIdeal.τ).loc Cert.WprojReferenceIdeal.main_v2) = v0 c
          ∧ r.2.mem ((c.tc : Thread Cert.WprojReferenceIdeal.nD Cert.WprojReferenceIdeal.τ).loc Cert.WprojReferenceIdeal.main_arg0) = m' ((c.tc : Thread Cert.WprojReferenceIdeal.nD Cert.WprojReferenceIdeal.τ).loc Cert.WprojReferenceIdeal.main_arg0)
          ∧ r.2.mem ((c.tc : Thread Cert.WprojReferenceIdeal.nD Cert.WprojReferenceIdeal.τ).loc Cert.WprojReferenceIdeal.main_arg1) = m' ((c.tc : Thread Cert.WprojReferenceIdeal.nD Cert.WprojReferenceIdeal.τ).loc Cert.WprojReferenceIdeal.main_arg1))

def preserves_WdownKernel_WdownKernelIdeal : Prop :=
  True

def algebraic_WdownKernelIdeal_WdownReferenceIdeal [hWdownKernelIdeal : Cert.WdownKernelIdeal.Facts] [hWdownReferenceIdeal : Cert.WdownReferenceIdeal.Facts] : Prop :=
  ∀ (m : (ℓ : Loc Cert.WdownKernelIdeal.nD Cert.WdownKernelIdeal.τ Cert.WdownKernelIdeal.sig) → Buf (Elt Ideal) ℓ) (g : Dev Cert.WdownKernelIdeal.nD → PrngReg)
    (m' : (ℓ : Loc Cert.WdownReferenceIdeal.nD Cert.WdownReferenceIdeal.τ Cert.WdownReferenceIdeal.sig) → Buf (Elt Ideal) ℓ) (g' : Dev Cert.WdownReferenceIdeal.nD → PrngReg), Pre_WdownKernelIdeal m →
    (∀ c : Dev Cert.WdownKernelIdeal.nD,
      m' ((c.tc : Thread Cert.WdownReferenceIdeal.nD Cert.WdownReferenceIdeal.τ).loc Cert.WdownReferenceIdeal.main_arg0) = m ((c.tc : Thread Cert.WdownKernelIdeal.nD Cert.WdownKernelIdeal.τ).loc Cert.WdownKernelIdeal.main_arg0)
      ∧ m' ((c.tc : Thread Cert.WdownReferenceIdeal.nD Cert.WdownReferenceIdeal.τ).loc Cert.WdownReferenceIdeal.main_arg1) = m ((c.tc : Thread Cert.WdownKernelIdeal.nD Cert.WdownKernelIdeal.τ).loc Cert.WdownKernelIdeal.main_arg1)) →
    ∃ (v0 : (c : Dev Cert.WdownKernelIdeal.nD) → Buf (Elt Ideal) ((c.tc : Thread Cert.WdownKernelIdeal.nD Cert.WdownKernelIdeal.τ).loc Cert.WdownKernelIdeal.main_v2)),
      θ_run (Cert.WdownKernelIdeal.defs (F := Ideal)) (onTc (τ := Cert.WdownKernelIdeal.τ) (Cert.WdownKernelIdeal.main (F := Ideal))) ⟨m, fun _ => 0, g⟩ (fun r => ∀ c : Dev Cert.WdownKernelIdeal.nD,
          r.2.mem ((c.tc : Thread Cert.WdownKernelIdeal.nD Cert.WdownKernelIdeal.τ).loc Cert.WdownKernelIdeal.main_v2) = v0 c
          ∧ r.2.mem ((c.tc : Thread Cert.WdownKernelIdeal.nD Cert.WdownKernelIdeal.τ).loc Cert.WdownKernelIdeal.main_arg0) = m ((c.tc : Thread Cert.WdownKernelIdeal.nD Cert.WdownKernelIdeal.τ).loc Cert.WdownKernelIdeal.main_arg0)
          ∧ r.2.mem ((c.tc : Thread Cert.WdownKernelIdeal.nD Cert.WdownKernelIdeal.τ).loc Cert.WdownKernelIdeal.main_arg1) = m ((c.tc : Thread Cert.WdownKernelIdeal.nD Cert.WdownKernelIdeal.τ).loc Cert.WdownKernelIdeal.main_arg1))
      ∧ θ_run (Cert.WdownReferenceIdeal.defs (F := Ideal)) (onTc (τ := Cert.WdownReferenceIdeal.τ) (Cert.WdownReferenceIdeal.main (F := Ideal))) ⟨m', fun _ => 0, g'⟩ (fun r => ∀ c : Dev Cert.WdownReferenceIdeal.nD,
          r.2.mem ((c.tc : Thread Cert.WdownReferenceIdeal.nD Cert.WdownReferenceIdeal.τ).loc Cert.WdownReferenceIdeal.main_v2) = v0 c
          ∧ r.2.mem ((c.tc : Thread Cert.WdownReferenceIdeal.nD Cert.WdownReferenceIdeal.τ).loc Cert.WdownReferenceIdeal.main_arg0) = m' ((c.tc : Thread Cert.WdownReferenceIdeal.nD Cert.WdownReferenceIdeal.τ).loc Cert.WdownReferenceIdeal.main_arg0)
          ∧ r.2.mem ((c.tc : Thread Cert.WdownReferenceIdeal.nD Cert.WdownReferenceIdeal.τ).loc Cert.WdownReferenceIdeal.main_arg1) = m' ((c.tc : Thread Cert.WdownReferenceIdeal.nD Cert.WdownReferenceIdeal.τ).loc Cert.WdownReferenceIdeal.main_arg1))

def preserves_WgateKernel_WgateKernelIdeal : Prop :=
  True

def algebraic_WgateKernelIdeal_WgateReferenceIdeal [hWgateKernelIdeal : Cert.WgateKernelIdeal.Facts] [hWgateReferenceIdeal : Cert.WgateReferenceIdeal.Facts] : Prop :=
  ∀ (m : (ℓ : Loc Cert.WgateKernelIdeal.nD Cert.WgateKernelIdeal.τ Cert.WgateKernelIdeal.sig) → Buf (Elt Ideal) ℓ) (g : Dev Cert.WgateKernelIdeal.nD → PrngReg)
    (m' : (ℓ : Loc Cert.WgateReferenceIdeal.nD Cert.WgateReferenceIdeal.τ Cert.WgateReferenceIdeal.sig) → Buf (Elt Ideal) ℓ) (g' : Dev Cert.WgateReferenceIdeal.nD → PrngReg), Pre_WgateKernelIdeal m →
    (∀ c : Dev Cert.WgateKernelIdeal.nD,
      m' ((c.tc : Thread Cert.WgateReferenceIdeal.nD Cert.WgateReferenceIdeal.τ).loc Cert.WgateReferenceIdeal.main_arg0) = m ((c.tc : Thread Cert.WgateKernelIdeal.nD Cert.WgateKernelIdeal.τ).loc Cert.WgateKernelIdeal.main_arg0)
      ∧ m' ((c.tc : Thread Cert.WgateReferenceIdeal.nD Cert.WgateReferenceIdeal.τ).loc Cert.WgateReferenceIdeal.main_arg1) = m ((c.tc : Thread Cert.WgateKernelIdeal.nD Cert.WgateKernelIdeal.τ).loc Cert.WgateKernelIdeal.main_arg1)) →
    ∃ (v0 : (c : Dev Cert.WgateKernelIdeal.nD) → Buf (Elt Ideal) ((c.tc : Thread Cert.WgateKernelIdeal.nD Cert.WgateKernelIdeal.τ).loc Cert.WgateKernelIdeal.main_v2)),
      θ_run (Cert.WgateKernelIdeal.defs (F := Ideal)) (onTc (τ := Cert.WgateKernelIdeal.τ) (Cert.WgateKernelIdeal.main (F := Ideal))) ⟨m, fun _ => 0, g⟩ (fun r => ∀ c : Dev Cert.WgateKernelIdeal.nD,
          r.2.mem ((c.tc : Thread Cert.WgateKernelIdeal.nD Cert.WgateKernelIdeal.τ).loc Cert.WgateKernelIdeal.main_v2) = v0 c
          ∧ r.2.mem ((c.tc : Thread Cert.WgateKernelIdeal.nD Cert.WgateKernelIdeal.τ).loc Cert.WgateKernelIdeal.main_arg0) = m ((c.tc : Thread Cert.WgateKernelIdeal.nD Cert.WgateKernelIdeal.τ).loc Cert.WgateKernelIdeal.main_arg0)
          ∧ r.2.mem ((c.tc : Thread Cert.WgateKernelIdeal.nD Cert.WgateKernelIdeal.τ).loc Cert.WgateKernelIdeal.main_arg1) = m ((c.tc : Thread Cert.WgateKernelIdeal.nD Cert.WgateKernelIdeal.τ).loc Cert.WgateKernelIdeal.main_arg1))
      ∧ θ_run (Cert.WgateReferenceIdeal.defs (F := Ideal)) (onTc (τ := Cert.WgateReferenceIdeal.τ) (Cert.WgateReferenceIdeal.main (F := Ideal))) ⟨m', fun _ => 0, g'⟩ (fun r => ∀ c : Dev Cert.WgateReferenceIdeal.nD,
          r.2.mem ((c.tc : Thread Cert.WgateReferenceIdeal.nD Cert.WgateReferenceIdeal.τ).loc Cert.WgateReferenceIdeal.main_v4) = v0 c
          ∧ r.2.mem ((c.tc : Thread Cert.WgateReferenceIdeal.nD Cert.WgateReferenceIdeal.τ).loc Cert.WgateReferenceIdeal.main_arg0) = m' ((c.tc : Thread Cert.WgateReferenceIdeal.nD Cert.WgateReferenceIdeal.τ).loc Cert.WgateReferenceIdeal.main_arg0)
          ∧ r.2.mem ((c.tc : Thread Cert.WgateReferenceIdeal.nD Cert.WgateReferenceIdeal.τ).loc Cert.WgateReferenceIdeal.main_arg1) = m' ((c.tc : Thread Cert.WgateReferenceIdeal.nD Cert.WgateReferenceIdeal.τ).loc Cert.WgateReferenceIdeal.main_arg1))

def preserves_AdamGateKernel_AdamGateKernelIdeal : Prop :=
  True

def algebraic_AdamGateKernelIdeal_AdamGateReferenceIdeal [hAdamGateKernelIdeal : Cert.AdamGateKernelIdeal.Facts] [hAdamGateReferenceIdeal : Cert.AdamGateReferenceIdeal.Facts] : Prop :=
  ∀ (m : (ℓ : Loc Cert.AdamGateKernelIdeal.nD Cert.AdamGateKernelIdeal.τ Cert.AdamGateKernelIdeal.sig) → Buf (Elt Ideal) ℓ) (g : Dev Cert.AdamGateKernelIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateKernelIdeal m →
    (∀ c : Dev Cert.AdamGateKernelIdeal.nD,
      m' ((c.tc : Thread Cert.AdamGateReferenceIdeal.nD Cert.AdamGateReferenceIdeal.τ).loc Cert.AdamGateReferenceIdeal.main_arg0) = m ((c.tc : Thread Cert.AdamGateKernelIdeal.nD Cert.AdamGateKernelIdeal.τ).loc Cert.AdamGateKernelIdeal.main_arg0)
      ∧ m' ((c.tc : Thread Cert.AdamGateReferenceIdeal.nD Cert.AdamGateReferenceIdeal.τ).loc Cert.AdamGateReferenceIdeal.main_arg1) = m ((c.tc : Thread Cert.AdamGateKernelIdeal.nD Cert.AdamGateKernelIdeal.τ).loc Cert.AdamGateKernelIdeal.main_arg1)
      ∧ m' ((c.tc : Thread Cert.AdamGateReferenceIdeal.nD Cert.AdamGateReferenceIdeal.τ).loc Cert.AdamGateReferenceIdeal.main_arg2) = m ((c.tc : Thread Cert.AdamGateKernelIdeal.nD Cert.AdamGateKernelIdeal.τ).loc Cert.AdamGateKernelIdeal.main_arg2)
      ∧ m' ((c.tc : Thread Cert.AdamGateReferenceIdeal.nD Cert.AdamGateReferenceIdeal.τ).loc Cert.AdamGateReferenceIdeal.main_arg3) = m ((c.tc : Thread Cert.AdamGateKernelIdeal.nD Cert.AdamGateKernelIdeal.τ).loc Cert.AdamGateKernelIdeal.main_arg3)) →
    ∃ (v0 : (c : Dev Cert.AdamGateKernelIdeal.nD) → Buf (Elt Ideal) ((c.tc : Thread Cert.AdamGateKernelIdeal.nD Cert.AdamGateKernelIdeal.τ).loc Cert.AdamGateKernelIdeal.main_v0_0)) (v1 : (c : Dev Cert.AdamGateKernelIdeal.nD) → Buf (Elt Ideal) ((c.tc : Thread Cert.AdamGateKernelIdeal.nD Cert.AdamGateKernelIdeal.τ).loc Cert.AdamGateKernelIdeal.main_v0_1)) (v2 : (c : Dev Cert.AdamGateKernelIdeal.nD) → Buf (Elt Ideal) ((c.tc : Thread Cert.AdamGateKernelIdeal.nD Cert.AdamGateKernelIdeal.τ).loc Cert.AdamGateKernelIdeal.main_v0_2)) (v3 : (c : Dev Cert.AdamGateKernelIdeal.nD) → Buf (Elt Ideal) ((c.tc : Thread Cert.AdamGateKernelIdeal.nD Cert.AdamGateKernelIdeal.τ).loc Cert.AdamGateKernelIdeal.main_v0_3)),
      θ_run (Cert.AdamGateKernelIdeal.defs (F := Ideal)) (onTc (τ := Cert.AdamGateKernelIdeal.τ) (Cert.AdamGateKernelIdeal.main (F := Ideal))) ⟨m, fun _ => 0, g⟩ (fun r => ∀ c : Dev Cert.AdamGateKernelIdeal.nD,
          r.2.mem ((c.tc : Thread Cert.AdamGateKernelIdeal.nD Cert.AdamGateKernelIdeal.τ).loc Cert.AdamGateKernelIdeal.main_v0_0) = v0 c
          ∧ r.2.mem ((c.tc : Thread Cert.AdamGateKernelIdeal.nD Cert.AdamGateKernelIdeal.τ).loc Cert.AdamGateKernelIdeal.main_v0_1) = v1 c
          ∧ r.2.mem ((c.tc : Thread Cert.AdamGateKernelIdeal.nD Cert.AdamGateKernelIdeal.τ).loc Cert.AdamGateKernelIdeal.main_v0_2) = v2 c
          ∧ r.2.mem ((c.tc : Thread Cert.AdamGateKernelIdeal.nD Cert.AdamGateKernelIdeal.τ).loc Cert.AdamGateKernelIdeal.main_v0_3) = v3 c
          ∧ r.2.mem ((c.tc : Thread Cert.AdamGateKernelIdeal.nD Cert.AdamGateKernelIdeal.τ).loc Cert.AdamGateKernelIdeal.main_arg0) = m ((c.tc : Thread Cert.AdamGateKernelIdeal.nD Cert.AdamGateKernelIdeal.τ).loc Cert.AdamGateKernelIdeal.main_arg0)
          ∧ r.2.mem ((c.tc : Thread Cert.AdamGateKernelIdeal.nD Cert.AdamGateKernelIdeal.τ).loc Cert.AdamGateKernelIdeal.main_arg1) = m ((c.tc : Thread Cert.AdamGateKernelIdeal.nD Cert.AdamGateKernelIdeal.τ).loc Cert.AdamGateKernelIdeal.main_arg1)
          ∧ r.2.mem ((c.tc : Thread Cert.AdamGateKernelIdeal.nD Cert.AdamGateKernelIdeal.τ).loc Cert.AdamGateKernelIdeal.main_arg2) = m ((c.tc : Thread Cert.AdamGateKernelIdeal.nD Cert.AdamGateKernelIdeal.τ).loc Cert.AdamGateKernelIdeal.main_arg2)
          ∧ r.2.mem ((c.tc : Thread Cert.AdamGateKernelIdeal.nD Cert.AdamGateKernelIdeal.τ).loc Cert.AdamGateKernelIdeal.main_arg3) = m ((c.tc : Thread Cert.AdamGateKernelIdeal.nD Cert.AdamGateKernelIdeal.τ).loc Cert.AdamGateKernelIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v23) = v0 c
          ∧ r.2.mem ((c.tc : Thread Cert.AdamGateReferenceIdeal.nD Cert.AdamGateReferenceIdeal.τ).loc Cert.AdamGateReferenceIdeal.main_v4) = v1 c
          ∧ r.2.mem ((c.tc : Thread Cert.AdamGateReferenceIdeal.nD Cert.AdamGateReferenceIdeal.τ).loc Cert.AdamGateReferenceIdeal.main_v10) = v2 c
          ∧ r.2.mem ((c.tc : Thread Cert.AdamGateReferenceIdeal.nD Cert.AdamGateReferenceIdeal.τ).loc Cert.AdamGateReferenceIdeal.main_arg1) = v3 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_ProjBackKernel_ProjBackKernelIdeal : Prop :=
  True

def algebraic_ProjBackKernelIdeal_ProjBackReferenceIdeal [hProjBackKernelIdeal : Cert.ProjBackKernelIdeal.Facts] [hProjBackReferenceIdeal : Cert.ProjBackReferenceIdeal.Facts] : Prop :=
  ∀ (m : (ℓ : Loc Cert.ProjBackKernelIdeal.nD Cert.ProjBackKernelIdeal.τ Cert.ProjBackKernelIdeal.sig) → Buf (Elt Ideal) ℓ) (g : Dev Cert.ProjBackKernelIdeal.nD → PrngReg)
    (m' : (ℓ : Loc Cert.ProjBackReferenceIdeal.nD Cert.ProjBackReferenceIdeal.τ Cert.ProjBackReferenceIdeal.sig) → Buf (Elt Ideal) ℓ) (g' : Dev Cert.ProjBackReferenceIdeal.nD → PrngReg), Pre_ProjBackKernelIdeal m →
    (∀ c : Dev Cert.ProjBackKernelIdeal.nD,
      m' ((c.tc : Thread Cert.ProjBackReferenceIdeal.nD Cert.ProjBackReferenceIdeal.τ).loc Cert.ProjBackReferenceIdeal.main_arg0) = m ((c.tc : Thread Cert.ProjBackKernelIdeal.nD Cert.ProjBackKernelIdeal.τ).loc Cert.ProjBackKernelIdeal.main_arg0)
      ∧ m' ((c.tc : Thread Cert.ProjBackReferenceIdeal.nD Cert.ProjBackReferenceIdeal.τ).loc Cert.ProjBackReferenceIdeal.main_arg1) = m ((c.tc : Thread Cert.ProjBackKernelIdeal.nD Cert.ProjBackKernelIdeal.τ).loc Cert.ProjBackKernelIdeal.main_arg1)) →
    ∃ (v0 : (c : Dev Cert.ProjBackKernelIdeal.nD) → Buf (Elt Ideal) ((c.tc : Thread Cert.ProjBackKernelIdeal.nD Cert.ProjBackKernelIdeal.τ).loc Cert.ProjBackKernelIdeal.main_v1)),
      θ_run (Cert.ProjBackKernelIdeal.defs (F := Ideal)) (onTc (τ := Cert.ProjBackKernelIdeal.τ) (Cert.ProjBackKernelIdeal.main (F := Ideal))) ⟨m, fun _ => 0, g⟩ (fun r => ∀ c : Dev Cert.ProjBackKernelIdeal.nD,
          r.2.mem ((c.tc : Thread Cert.ProjBackKernelIdeal.nD Cert.ProjBackKernelIdeal.τ).loc Cert.ProjBackKernelIdeal.main_v1) = v0 c
          ∧ r.2.mem ((c.tc : Thread Cert.ProjBackKernelIdeal.nD Cert.ProjBackKernelIdeal.τ).loc Cert.ProjBackKernelIdeal.main_arg0) = m ((c.tc : Thread Cert.ProjBackKernelIdeal.nD Cert.ProjBackKernelIdeal.τ).loc Cert.ProjBackKernelIdeal.main_arg0)
          ∧ r.2.mem ((c.tc : Thread Cert.ProjBackKernelIdeal.nD Cert.ProjBackKernelIdeal.τ).loc Cert.ProjBackKernelIdeal.main_arg1) = m ((c.tc : Thread Cert.ProjBackKernelIdeal.nD Cert.ProjBackKernelIdeal.τ).loc Cert.ProjBackKernelIdeal.main_arg1))
      ∧ θ_run (Cert.ProjBackReferenceIdeal.defs (F := Ideal)) (onTc (τ := Cert.ProjBackReferenceIdeal.τ) (Cert.ProjBackReferenceIdeal.main (F := Ideal))) ⟨m', fun _ => 0, g'⟩ (fun r => ∀ c : Dev Cert.ProjBackReferenceIdeal.nD,
          r.2.mem ((c.tc : Thread Cert.ProjBackReferenceIdeal.nD Cert.ProjBackReferenceIdeal.τ).loc Cert.ProjBackReferenceIdeal.main_v1) = v0 c
          ∧ r.2.mem ((c.tc : Thread Cert.ProjBackReferenceIdeal.nD Cert.ProjBackReferenceIdeal.τ).loc Cert.ProjBackReferenceIdeal.main_arg0) = m' ((c.tc : Thread Cert.ProjBackReferenceIdeal.nD Cert.ProjBackReferenceIdeal.τ).loc Cert.ProjBackReferenceIdeal.main_arg0)
          ∧ r.2.mem ((c.tc : Thread Cert.ProjBackReferenceIdeal.nD Cert.ProjBackReferenceIdeal.τ).loc Cert.ProjBackReferenceIdeal.main_arg1) = m' ((c.tc : Thread Cert.ProjBackReferenceIdeal.nD Cert.ProjBackReferenceIdeal.τ).loc Cert.ProjBackReferenceIdeal.main_arg1))

def Claim : Prop :=
  ∃ (hNormKernel : Cert.NormKernel.Facts) (hNormKernelIdeal : Cert.NormKernelIdeal.Facts) (hNormReferenceIdeal : Cert.NormReferenceIdeal.Facts) (hGlaKernel : Cert.GlaKernel.Facts) (hGlaKernelIdeal : Cert.GlaKernelIdeal.Facts) (hGlaReferenceIdeal : Cert.GlaReferenceIdeal.Facts) (hMixKernel : Cert.MixKernel.Facts) (hMixKernelIdeal : Cert.MixKernelIdeal.Facts) (hMixReferenceIdeal : Cert.MixReferenceIdeal.Facts) (hPostKernel : Cert.PostKernel.Facts) (hPostKernelIdeal : Cert.PostKernelIdeal.Facts) (hPostReferenceIdeal : Cert.PostReferenceIdeal.Facts) (hWindowKernel : Cert.WindowKernel.Facts) (hWindowKernelIdeal : Cert.WindowKernelIdeal.Facts) (hWindowReferenceIdeal : Cert.WindowReferenceIdeal.Facts) (hLossKernel : Cert.LossKernel.Facts) (hLossKernelIdeal : Cert.LossKernelIdeal.Facts) (hLossReferenceIdeal : Cert.LossReferenceIdeal.Facts) (hActKernel : Cert.ActKernel.Facts) (hActKernelIdeal : Cert.ActKernelIdeal.Facts) (hActReferenceIdeal : Cert.ActReferenceIdeal.Facts) (hNormFwdKernel : Cert.NormFwdKernel.Facts) (hNormFwdKernelIdeal : Cert.NormFwdKernelIdeal.Facts) (hNormFwdReferenceIdeal : Cert.NormFwdReferenceIdeal.Facts) (hPostFwdKernel : Cert.PostFwdKernel.Facts) (hPostFwdKernelIdeal : Cert.PostFwdKernelIdeal.Facts) (hPostFwdReferenceIdeal : Cert.PostFwdReferenceIdeal.Facts) (hMixFwdKernel : Cert.MixFwdKernel.Facts) (hMixFwdKernelIdeal : Cert.MixFwdKernelIdeal.Facts) (hMixFwdReferenceIdeal : Cert.MixFwdReferenceIdeal.Facts) (hGateupFwdKernel : Cert.GateupFwdKernel.Facts) (hGateupFwdKernelIdeal : Cert.GateupFwdKernelIdeal.Facts) (hGateupFwdReferenceIdeal : Cert.GateupFwdReferenceIdeal.Facts) (hWindowFwdKernel : Cert.WindowFwdKernel.Facts) (hWindowFwdKernelIdeal : Cert.WindowFwdKernelIdeal.Facts) (hWindowFwdReferenceIdeal : Cert.WindowFwdReferenceIdeal.Facts) (hProjKernel : Cert.ProjKernel.Facts) (hProjKernelIdeal : Cert.ProjKernelIdeal.Facts) (hProjReferenceIdeal : Cert.ProjReferenceIdeal.Facts) (hWgradKernel : Cert.WgradKernel.Facts) (hWgradKernelIdeal : Cert.WgradKernelIdeal.Facts) (hWgradReferenceIdeal : Cert.WgradReferenceIdeal.Facts) (hResidKernel : Cert.ResidKernel.Facts) (hResidKernelIdeal : Cert.ResidKernelIdeal.Facts) (hResidReferenceIdeal : Cert.ResidReferenceIdeal.Facts) (hBackKernel : Cert.BackKernel.Facts) (hBackKernelIdeal : Cert.BackKernelIdeal.Facts) (hBackReferenceIdeal : Cert.BackReferenceIdeal.Facts) (hTotalKernel : Cert.TotalKernel.Facts) (hTotalKernelIdeal : Cert.TotalKernelIdeal.Facts) (hTotalReferenceIdeal : Cert.TotalReferenceIdeal.Facts) (hAdamKernel : Cert.AdamKernel.Facts) (hAdamKernelIdeal : Cert.AdamKernelIdeal.Facts) (hAdamReferenceIdeal : Cert.AdamReferenceIdeal.Facts) (hWprojKernel : Cert.WprojKernel.Facts) (hWprojKernelIdeal : Cert.WprojKernelIdeal.Facts) (hWprojReferenceIdeal : Cert.WprojReferenceIdeal.Facts) (hWdownKernel : Cert.WdownKernel.Facts) (hWdownKernelIdeal : Cert.WdownKernelIdeal.Facts) (hWdownReferenceIdeal : Cert.WdownReferenceIdeal.Facts) (hWgateKernel : Cert.WgateKernel.Facts) (hWgateKernelIdeal : Cert.WgateKernelIdeal.Facts) (hWgateReferenceIdeal : Cert.WgateReferenceIdeal.Facts) (hAdamGateKernel : Cert.AdamGateKernel.Facts) (hAdamGateKernelIdeal : Cert.AdamGateKernelIdeal.Facts) (hAdamGateReferenceIdeal : Cert.AdamGateReferenceIdeal.Facts) (hProjBackKernel : Cert.ProjBackKernel.Facts) (hProjBackKernelIdeal : Cert.ProjBackKernelIdeal.Facts) (hProjBackReferenceIdeal : Cert.ProjBackReferenceIdeal.Facts) (hPre_norm_finite : Cert.Pre_norm_finite.Facts) (hPre_gla_finite : Cert.Pre_gla_finite.Facts) (hPre_post_finite : Cert.Pre_post_finite.Facts) (hPre_window_finite : Cert.Pre_window_finite.Facts) (hPre_loss_finite : Cert.Pre_loss_finite.Facts) (hPre_act_finite : Cert.Pre_act_finite.Facts) (hPre_window_fwd_finite : Cert.Pre_window_fwd_finite.Facts),
    quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_GlaKernel (hGlaKernel := hGlaKernel)
    ∧ quiescent_GlaKernelIdeal (hGlaKernelIdeal := hGlaKernelIdeal)
    ∧ quiescent_GlaKernelIdeal_pre_gla_finite (hGlaKernelIdeal := hGlaKernelIdeal) (hPre_gla_finite := hPre_gla_finite)
    ∧ quiescent_GlaReferenceIdeal (hGlaReferenceIdeal := hGlaReferenceIdeal)
    ∧ quiescent_GlaReferenceIdeal_pre_gla_finite (hGlaReferenceIdeal := hGlaReferenceIdeal) (hPre_gla_finite := hPre_gla_finite)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_PostKernel (hPostKernel := hPostKernel)
    ∧ quiescent_PostKernelIdeal (hPostKernelIdeal := hPostKernelIdeal)
    ∧ quiescent_PostKernelIdeal_pre_post_finite (hPostKernelIdeal := hPostKernelIdeal) (hPre_post_finite := hPre_post_finite)
    ∧ quiescent_PostReferenceIdeal (hPostReferenceIdeal := hPostReferenceIdeal)
    ∧ quiescent_PostReferenceIdeal_pre_post_finite (hPostReferenceIdeal := hPostReferenceIdeal) (hPre_post_finite := hPre_post_finite)
    ∧ quiescent_WindowKernel (hWindowKernel := hWindowKernel)
    ∧ quiescent_WindowKernelIdeal (hWindowKernelIdeal := hWindowKernelIdeal)
    ∧ quiescent_WindowKernelIdeal_pre_window_finite (hWindowKernelIdeal := hWindowKernelIdeal) (hPre_window_finite := hPre_window_finite)
    ∧ quiescent_WindowReferenceIdeal (hWindowReferenceIdeal := hWindowReferenceIdeal)
    ∧ quiescent_WindowReferenceIdeal_pre_window_finite (hWindowReferenceIdeal := hWindowReferenceIdeal) (hPre_window_finite := hPre_window_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_ActKernel (hActKernel := hActKernel)
    ∧ quiescent_ActKernelIdeal (hActKernelIdeal := hActKernelIdeal)
    ∧ quiescent_ActKernelIdeal_pre_act_finite (hActKernelIdeal := hActKernelIdeal) (hPre_act_finite := hPre_act_finite)
    ∧ quiescent_ActReferenceIdeal (hActReferenceIdeal := hActReferenceIdeal)
    ∧ quiescent_ActReferenceIdeal_pre_act_finite (hActReferenceIdeal := hActReferenceIdeal) (hPre_act_finite := hPre_act_finite)
    ∧ quiescent_NormFwdKernel (hNormFwdKernel := hNormFwdKernel)
    ∧ quiescent_NormFwdKernelIdeal (hNormFwdKernelIdeal := hNormFwdKernelIdeal)
    ∧ quiescent_NormFwdReferenceIdeal (hNormFwdReferenceIdeal := hNormFwdReferenceIdeal)
    ∧ quiescent_PostFwdKernel (hPostFwdKernel := hPostFwdKernel)
    ∧ quiescent_PostFwdKernelIdeal (hPostFwdKernelIdeal := hPostFwdKernelIdeal)
    ∧ quiescent_PostFwdReferenceIdeal (hPostFwdReferenceIdeal := hPostFwdReferenceIdeal)
    ∧ quiescent_MixFwdKernel (hMixFwdKernel := hMixFwdKernel)
    ∧ quiescent_MixFwdKernelIdeal (hMixFwdKernelIdeal := hMixFwdKernelIdeal)
    ∧ quiescent_MixFwdReferenceIdeal (hMixFwdReferenceIdeal := hMixFwdReferenceIdeal)
    ∧ quiescent_GateupFwdKernel (hGateupFwdKernel := hGateupFwdKernel)
    ∧ quiescent_GateupFwdKernelIdeal (hGateupFwdKernelIdeal := hGateupFwdKernelIdeal)
    ∧ quiescent_GateupFwdReferenceIdeal (hGateupFwdReferenceIdeal := hGateupFwdReferenceIdeal)
    ∧ quiescent_WindowFwdKernel (hWindowFwdKernel := hWindowFwdKernel)
    ∧ quiescent_WindowFwdKernelIdeal (hWindowFwdKernelIdeal := hWindowFwdKernelIdeal)
    ∧ quiescent_WindowFwdKernelIdeal_pre_window_fwd_finite (hWindowFwdKernelIdeal := hWindowFwdKernelIdeal) (hPre_window_fwd_finite := hPre_window_fwd_finite)
    ∧ quiescent_WindowFwdReferenceIdeal (hWindowFwdReferenceIdeal := hWindowFwdReferenceIdeal)
    ∧ quiescent_WindowFwdReferenceIdeal_pre_window_fwd_finite (hWindowFwdReferenceIdeal := hWindowFwdReferenceIdeal) (hPre_window_fwd_finite := hPre_window_fwd_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ quiescent_ResidKernel (hResidKernel := hResidKernel)
    ∧ quiescent_ResidKernelIdeal (hResidKernelIdeal := hResidKernelIdeal)
    ∧ quiescent_ResidReferenceIdeal (hResidReferenceIdeal := hResidReferenceIdeal)
    ∧ quiescent_BackKernel (hBackKernel := hBackKernel)
    ∧ quiescent_BackKernelIdeal (hBackKernelIdeal := hBackKernelIdeal)
    ∧ quiescent_BackReferenceIdeal (hBackReferenceIdeal := hBackReferenceIdeal)
    ∧ quiescent_TotalKernel (hTotalKernel := hTotalKernel)
    ∧ quiescent_TotalKernelIdeal (hTotalKernelIdeal := hTotalKernelIdeal)
    ∧ quiescent_TotalReferenceIdeal (hTotalReferenceIdeal := hTotalReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_WprojKernel (hWprojKernel := hWprojKernel)
    ∧ quiescent_WprojKernelIdeal (hWprojKernelIdeal := hWprojKernelIdeal)
    ∧ quiescent_WprojReferenceIdeal (hWprojReferenceIdeal := hWprojReferenceIdeal)
    ∧ quiescent_WdownKernel (hWdownKernel := hWdownKernel)
    ∧ quiescent_WdownKernelIdeal (hWdownKernelIdeal := hWdownKernelIdeal)
    ∧ quiescent_WdownReferenceIdeal (hWdownReferenceIdeal := hWdownReferenceIdeal)
    ∧ quiescent_WgateKernel (hWgateKernel := hWgateKernel)
    ∧ quiescent_WgateKernelIdeal (hWgateKernelIdeal := hWgateKernelIdeal)
    ∧ quiescent_WgateReferenceIdeal (hWgateReferenceIdeal := hWgateReferenceIdeal)
    ∧ quiescent_AdamGateKernel (hAdamGateKernel := hAdamGateKernel)
    ∧ quiescent_AdamGateKernelIdeal (hAdamGateKernelIdeal := hAdamGateKernelIdeal)
    ∧ quiescent_AdamGateReferenceIdeal (hAdamGateReferenceIdeal := hAdamGateReferenceIdeal)
    ∧ quiescent_ProjBackKernel (hProjBackKernel := hProjBackKernel)
    ∧ quiescent_ProjBackKernelIdeal (hProjBackKernelIdeal := hProjBackKernelIdeal)
    ∧ quiescent_ProjBackReferenceIdeal (hProjBackReferenceIdeal := hProjBackReferenceIdeal)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_GlaKernel_GlaKernelIdeal
    ∧ algebraic_GlaKernelIdeal_GlaReferenceIdeal_pre_gla_finite (hGlaKernelIdeal := hGlaKernelIdeal) (hGlaReferenceIdeal := hGlaReferenceIdeal) (hPre_gla_finite := hPre_gla_finite)
    ∧ preserves_MixKernel_MixKernelIdeal
    ∧ algebraic_MixKernelIdeal_MixReferenceIdeal (hMixKernelIdeal := hMixKernelIdeal) (hMixReferenceIdeal := hMixReferenceIdeal)
    ∧ preserves_PostKernel_PostKernelIdeal
    ∧ algebraic_PostKernelIdeal_PostReferenceIdeal_pre_post_finite (hPostKernelIdeal := hPostKernelIdeal) (hPostReferenceIdeal := hPostReferenceIdeal) (hPre_post_finite := hPre_post_finite)
    ∧ preserves_WindowKernel_WindowKernelIdeal
    ∧ algebraic_WindowKernelIdeal_WindowReferenceIdeal_pre_window_finite (hWindowKernelIdeal := hWindowKernelIdeal) (hWindowReferenceIdeal := hWindowReferenceIdeal) (hPre_window_finite := hPre_window_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_ActKernel_ActKernelIdeal
    ∧ algebraic_ActKernelIdeal_ActReferenceIdeal_pre_act_finite (hActKernelIdeal := hActKernelIdeal) (hActReferenceIdeal := hActReferenceIdeal) (hPre_act_finite := hPre_act_finite)
    ∧ preserves_NormFwdKernel_NormFwdKernelIdeal
    ∧ algebraic_NormFwdKernelIdeal_NormFwdReferenceIdeal (hNormFwdKernelIdeal := hNormFwdKernelIdeal) (hNormFwdReferenceIdeal := hNormFwdReferenceIdeal)
    ∧ preserves_PostFwdKernel_PostFwdKernelIdeal
    ∧ algebraic_PostFwdKernelIdeal_PostFwdReferenceIdeal (hPostFwdKernelIdeal := hPostFwdKernelIdeal) (hPostFwdReferenceIdeal := hPostFwdReferenceIdeal)
    ∧ preserves_MixFwdKernel_MixFwdKernelIdeal
    ∧ algebraic_MixFwdKernelIdeal_MixFwdReferenceIdeal (hMixFwdKernelIdeal := hMixFwdKernelIdeal) (hMixFwdReferenceIdeal := hMixFwdReferenceIdeal)
    ∧ preserves_GateupFwdKernel_GateupFwdKernelIdeal
    ∧ algebraic_GateupFwdKernelIdeal_GateupFwdReferenceIdeal (hGateupFwdKernelIdeal := hGateupFwdKernelIdeal) (hGateupFwdReferenceIdeal := hGateupFwdReferenceIdeal)
    ∧ preserves_WindowFwdKernel_WindowFwdKernelIdeal
    ∧ algebraic_WindowFwdKernelIdeal_WindowFwdReferenceIdeal_pre_window_fwd_finite (hWindowFwdKernelIdeal := hWindowFwdKernelIdeal) (hWindowFwdReferenceIdeal := hWindowFwdReferenceIdeal) (hPre_window_fwd_finite := hPre_window_fwd_finite)
    ∧ preserves_ProjKernel_ProjKernelIdeal
    ∧ algebraic_ProjKernelIdeal_ProjReferenceIdeal (hProjKernelIdeal := hProjKernelIdeal) (hProjReferenceIdeal := hProjReferenceIdeal)
    ∧ preserves_WgradKernel_WgradKernelIdeal
    ∧ algebraic_WgradKernelIdeal_WgradReferenceIdeal (hWgradKernelIdeal := hWgradKernelIdeal) (hWgradReferenceIdeal := hWgradReferenceIdeal)
    ∧ preserves_ResidKernel_ResidKernelIdeal
    ∧ algebraic_ResidKernelIdeal_ResidReferenceIdeal (hResidKernelIdeal := hResidKernelIdeal) (hResidReferenceIdeal := hResidReferenceIdeal)
    ∧ preserves_BackKernel_BackKernelIdeal
    ∧ algebraic_BackKernelIdeal_BackReferenceIdeal (hBackKernelIdeal := hBackKernelIdeal) (hBackReferenceIdeal := hBackReferenceIdeal)
    ∧ preserves_TotalKernel_TotalKernelIdeal
    ∧ algebraic_TotalKernelIdeal_TotalReferenceIdeal (hTotalKernelIdeal := hTotalKernelIdeal) (hTotalReferenceIdeal := hTotalReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_WprojKernel_WprojKernelIdeal
    ∧ algebraic_WprojKernelIdeal_WprojReferenceIdeal (hWprojKernelIdeal := hWprojKernelIdeal) (hWprojReferenceIdeal := hWprojReferenceIdeal)
    ∧ preserves_WdownKernel_WdownKernelIdeal
    ∧ algebraic_WdownKernelIdeal_WdownReferenceIdeal (hWdownKernelIdeal := hWdownKernelIdeal) (hWdownReferenceIdeal := hWdownReferenceIdeal)
    ∧ preserves_WgateKernel_WgateKernelIdeal
    ∧ algebraic_WgateKernelIdeal_WgateReferenceIdeal (hWgateKernelIdeal := hWgateKernelIdeal) (hWgateReferenceIdeal := hWgateReferenceIdeal)
    ∧ preserves_AdamGateKernel_AdamGateKernelIdeal
    ∧ algebraic_AdamGateKernelIdeal_AdamGateReferenceIdeal (hAdamGateKernelIdeal := hAdamGateKernelIdeal) (hAdamGateReferenceIdeal := hAdamGateReferenceIdeal)
    ∧ preserves_ProjBackKernel_ProjBackKernelIdeal
    ∧ algebraic_ProjBackKernelIdeal_ProjBackReferenceIdeal (hProjBackKernelIdeal := hProjBackKernelIdeal) (hProjBackReferenceIdeal := hProjBackReferenceIdeal)
-- ==== Pre_act_finite.lean ====
abbrev S2064x5632 : Shape := ⟨2, ![2064, 5632]⟩
abbrev S5632x2048 : Shape := ⟨2, ![5632, 2048]⟩
abbrev S2064x2048 : Shape := ⟨2, ![2064, 2048]⟩
abbrev S_ : Shape := ⟨0, ![]⟩

class Facts : Prop where
  bcast_S_S2064x5632 : S_.BroadcastsInDim S2064x5632 (![] : Fin 0 → Fin S2064x5632.rank)
  reducesTo_S2064x5632_S_d0_1 : S2064x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2064x2048 : S_.BroadcastsInDim S2064x2048 (![] : Fin 0 → Fin S2064x2048.rank)
  reducesTo_S2064x2048_S_d0_1 : S2064x2048.ReducesTo [0, 1] S_

variable [Facts]

def fn_part1 {F : FTy → Type} [FloatOps F] (main_v13 : IVec S_ 1) (main_v16 : IVec S2064x2048 1) : IVec S_ 1 :=
  let main_c_5 : IVec S_ 1 := constantI S_ 1 1#1
  let main_v17 : IVec S_ 1 := (fun x v => Host.reduce IntOp.andi x v reducesTo_S2064x2048_S_d0_1 h_S_) main_v16 main_c_5
  let main_v18 : IVec S_ 1 := andi main_v13 main_v17
  main_v18

def fn {F : FTy → Type} [FloatOps F] (main_arg0 : FVec F S2064x5632 .f32) (main_arg1 : FVec F S2064x5632 .f32) (main_arg2 : FVec F S5632x2048 .f32) (main_arg3 : FVec F S2064x2048 .f32) : IVec S_ 1 :=
  let main_v0 : FVec F S2064x5632 .f32 := Host.absf main_arg0
  let main_cst : FVec F S_ .f32 := constant S_ .f32 0x7F800000#32
  let main_v1 : FVec F S2064x5632 .f32 := broadcastInDim S2064x5632 ![] bcast_S_S2064x5632 main_cst
  let main_v2 : IVec S2064x5632 1 := cmpf .olt main_v0 main_v1
  let main_c : IVec S_ 1 := constantI S_ 1 1#1
  let main_v3 : IVec S_ 1 := (fun x v => Host.reduce IntOp.andi x v reducesTo_S2064x5632_S_d0_1 h_S_) main_v2 main_c
  let main_v4 : FVec F S2064x5632 .f32 := Host.absf main_arg1
  let main_cst_0 : FVec F S_ .f32 := constant S_ .f32 0x7F800000#32
  let main_v5 : FVec F S2064x5632 .f32 := broadcastInDim S2064x5632 ![] bcast_S_S2064x5632 main_cst_0
  let main_v6 : IVec S2064x5632 1 := cmpf .olt main_v4 main_v5
  let main_c_1 : IVec S_ 1 := constantI S_ 1 1#1
  let main_v7 : IVec S_ 1 := (fun x v => Host.reduce IntOp.andi x v reducesTo_S2064x5632_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S2064x2048 .f32 := Host.absf main_arg3
  let main_cst_4 : FVec F S_ .f32 := constant S_ .f32 0x7F800000#32
  let main_v15 : FVec F S2064x2048 .f32 := broadcastInDim S2064x2048 ![] bcast_S_S2064x2048 main_cst_4
  let main_v16 : IVec S2064x2048 1 := cmpf .olt main_v14 main_v15
  fn_part1 (F := F) main_v13 main_v16
-- ==== Pre_gla_finite.lean ====
abbrev S2064x6160 : Shape := ⟨2, ![2064, 6160]⟩
abbrev S16x1024 : Shape := ⟨2, ![16, 1024]⟩
abbrev S1024 : Shape := ⟨1, ![1024]⟩
abbrev S2064x2048 : Shape := ⟨2, ![2064, 2048]⟩
abbrev S_ : Shape := ⟨0, ![]⟩

class Facts : Prop where
  bcast_S_S2064x6160 : S_.BroadcastsInDim S2064x6160 (![] : Fin 0 → Fin S2064x6160.rank)
  reducesTo_S2064x6160_S_d0_1 : S2064x6160.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_
  bcast_S_S2064x2048 : S_.BroadcastsInDim S2064x2048 (![] : Fin 0 → Fin S2064x2048.rank)
  reducesTo_S2064x2048_S_d0_1 : S2064x2048.ReducesTo [0, 1] S_

variable [Facts]

def fn_part1 {F : FTy → Type} [FloatOps F] (main_v13 : IVec S_ 1) (main_v16 : IVec S2064x2048 1) : IVec S_ 1 :=
  let main_c_5 : IVec S_ 1 := constantI S_ 1 1#1
  let main_v17 : IVec S_ 1 := (fun x v => Host.reduce IntOp.andi x v reducesTo_S2064x2048_S_d0_1 h_S_) main_v16 main_c_5
  let main_v18 : IVec S_ 1 := andi main_v13 main_v17
  main_v18

def fn {F : FTy → Type} [FloatOps F] (main_arg0 : FVec F S2064x6160 .f32) (main_arg1 : FVec F S16x1024 .f32) (main_arg2 : FVec F S1024 .f32) (main_arg3 : FVec F S2064x2048 .f32) (main_arg4 : FVec F S2064x2048 .f32) : IVec S_ 1 :=
  let main_v0 : FVec F S2064x6160 .f32 := Host.absf main_arg0
  let main_cst : FVec F S_ .f32 := constant S_ .f32 0x7F800000#32
  let main_v1 : FVec F S2064x6160 .f32 := broadcastInDim S2064x6160 ![] bcast_S_S2064x6160 main_cst
  let main_v2 : IVec S2064x6160 1 := cmpf .olt main_v0 main_v1
  let main_c : IVec S_ 1 := constantI S_ 1 1#1
  let main_v3 : IVec S_ 1 := (fun x v => Host.reduce IntOp.andi x v reducesTo_S2064x6160_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2064x2048 .f32 := Host.absf main_arg3
  let main_cst_4 : FVec F S_ .f32 := constant S_ .f32 0x7F800000#32
  let main_v15 : FVec F S2064x2048 .f32 := broadcastInDim S2064x2048 ![] bcast_S_S2064x2048 main_cst_4
  let main_v16 : IVec S2064x2048 1 := cmpf .olt main_v14 main_v15
  fn_part1 (F := F) main_v13 main_v16
-- ==== Pre_loss_finite.lean ====
abbrev S2064x2048 : Shape := ⟨2, ![2064, 2048]⟩
abbrev S2048 : Shape := ⟨1, ![2048]⟩
abbrev S2048x2048 : Shape := ⟨2, ![2048, 2048]⟩
abbrev S_ : Shape := ⟨0, ![]⟩

class Facts : Prop where
  bcast_S_S2064x2048 : S_.BroadcastsInDim S2064x2048 (![] : Fin 0 → Fin S2064x2048.rank)
  reducesTo_S2064x2048_S_d0_1 : S2064x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2064x2048 .f32) (main_arg1 : FVec F S2048 .f32) (main_arg2 : FVec F S2048x2048 .f32) : IVec S_ 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_c : IVec S_ 1 := constantI S_ 1 1#1
  let main_v3 : IVec S_ 1 := (fun x v => Host.reduce IntOp.andi x v reducesTo_S2064x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_norm_finite.lean ====
abbrev S2064x2048 : Shape := ⟨2, ![2064, 2048]⟩
abbrev S2048 : Shape := ⟨1, ![2048]⟩
abbrev S_ : Shape := ⟨0, ![]⟩

class Facts : Prop where
  bcast_S_S2064x2048 : S_.BroadcastsInDim S2064x2048 (![] : Fin 0 → Fin S2064x2048.rank)
  reducesTo_S2064x2048_S_d0_1 : S2064x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2064x2048 .f32) (main_arg1 : FVec F S2048 .f32) (main_arg2 : FVec F S2064x2048 .f32) (main_arg3 : FVec F S2064x2048 .f32) : IVec S_ 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_c : IVec S_ 1 := constantI S_ 1 1#1
  let main_v3 : IVec S_ 1 := (fun x v => Host.reduce IntOp.andi x v reducesTo_S2064x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2064x2048 .f32 := Host.absf main_arg2
  let main_cst_2 : FVec F S_ .f32 := constant S_ .f32 0x7F800000#32
  let main_v10 : FVec F S2064x2048 .f32 := broadcastInDim S2064x2048 ![] bcast_S_S2064x2048 main_cst_2
  let main_v11 : IVec S2064x2048 1 := cmpf .olt main_v9 main_v10
  let main_c_3 : IVec S_ 1 := constantI S_ 1 1#1
  let main_v12 : IVec S_ 1 := (fun x v => Host.reduce IntOp.andi x v reducesTo_S2064x2048_S_d0_1 h_S_) main_v11 main_c_3
  let main_v13 : IVec S_ 1 := andi main_v8 main_v12
  main_v13
-- ==== Pre_post_finite.lean ====
abbrev S4x2064x512 : Shape := ⟨3, ![4, 2064, 512]⟩
abbrev S2064x6160 : Shape := ⟨2, ![2064, 6160]⟩
abbrev S512 : Shape := ⟨1, ![512]⟩
abbrev S2064x2048 : Shape := ⟨2, ![2064, 2048]⟩
abbrev S_ : Shape := ⟨0, ![]⟩

class Facts : Prop where
  bcast_S_S4x2064x512 : S_.BroadcastsInDim S4x2064x512 (![] : Fin 0 → Fin S4x2064x512.rank)
  reducesTo_S4x2064x512_S_d0_1_2 : S4x2064x512.ReducesTo [0, 1, 2] S_
  h_S_ : 0 < S_.numel
  bcast_S_S2064x6160 : S_.BroadcastsInDim S2064x6160 (![] : Fin 0 → Fin S2064x6160.rank)
  reducesTo_S2064x6160_S_d0_1 : S2064x6160.ReducesTo [0, 1] S_
  bcast_S_S512 : S_.BroadcastsInDim S512 (![] : Fin 0 → Fin S512.rank)
  reducesTo_S512_S_d0 : S512.ReducesTo [0] S_
  bcast_S_S2064x2048 : S_.BroadcastsInDim S2064x2048 (![] : Fin 0 → Fin S2064x2048.rank)
  reducesTo_S2064x2048_S_d0_1 : S2064x2048.ReducesTo [0, 1] S_

variable [Facts]

def fn_part1 {F : FTy → Type} [FloatOps F] (main_v13 : IVec S_ 1) (main_v16 : IVec S2064x2048 1) : IVec S_ 1 :=
  let main_c_5 : IVec S_ 1 := constantI S_ 1 1#1
  let main_v17 : IVec S_ 1 := (fun x v => Host.reduce IntOp.andi x v reducesTo_S2064x2048_S_d0_1 h_S_) main_v16 main_c_5
  let main_v18 : IVec S_ 1 := andi main_v13 main_v17
  main_v18

def fn {F : FTy → Type} [FloatOps F] (main_arg0 : FVec F S4x2064x512 .f32) (main_arg1 : FVec F S2064x6160 .f32) (main_arg2 : FVec F S512 .f32) (main_arg3 : FVec F S2064x2048 .f32) : IVec S_ 1 :=
  let main_v0 : FVec F S4x2064x512 .f32 := Host.absf main_arg0
  let main_cst : FVec F S_ .f32 := constant S_ .f32 0x7F800000#32
  let main_v1 : FVec F S4x2064x512 .f32 := broadcastInDim S4x2064x512 ![] bcast_S_S4x2064x512 main_cst
  let main_v2 : IVec S4x2064x512 1 := cmpf .olt main_v0 main_v1
  let main_c : IVec S_ 1 := constantI S_ 1 1#1
  let main_v3 : IVec S_ 1 := (fun x v => Host.reduce IntOp.andi x v reducesTo_S4x2064x512_S_d0_1_2 h_S_) main_v2 main_c
  let main_v4 : FVec F S2064x6160 .f32 := Host.absf main_arg1
  let main_cst_0 : FVec F S_ .f32 := constant S_ .f32 0x7F800000#32
  let main_v5 : FVec F S2064x6160 .f32 := broadcastInDim S2064x6160 ![] bcast_S_S2064x6160 main_cst_0
  let main_v6 : IVec S2064x6160 1 := cmpf .olt main_v4 main_v5
  let main_c_1 : IVec S_ 1 := constantI S_ 1 1#1
  let main_v7 : IVec S_ 1 := (fun x v => Host.reduce IntOp.andi x v reducesTo_S2064x6160_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2064x2048 .f32 := Host.absf main_arg3
  let main_cst_4 : FVec F S_ .f32 := constant S_ .f32 0x7F800000#32
  let main_v15 : FVec F S2064x2048 .f32 := broadcastInDim S2064x2048 ![] bcast_S_S2064x2048 main_cst_4
  let main_v16 : IVec S2064x2048 1 := cmpf .olt main_v14 main_v15
  fn_part1 (F := F) main_v13 main_v16
-- ==== Pre_window_finite.lean ====
abbrev S2064x2048 : Shape := ⟨2, ![2064, 2048]⟩
abbrev S2064x4x512 : Shape := ⟨3, ![2064, 4, 512]⟩
abbrev S_ : Shape := ⟨0, ![]⟩

class Facts : Prop where
  bcast_S_S2064x4x512 : S_.BroadcastsInDim S2064x4x512 (![] : Fin 0 → Fin S2064x4x512.rank)
  reducesTo_S2064x4x512_S_d0_1_2 : S2064x4x512.ReducesTo [0, 1, 2] S_
  h_S_ : 0 < S_.numel

variable [Facts]

def fn {F : FTy → Type} [FloatOps F] (main_arg0 : FVec F S2064x2048 .f32) (main_arg1 : FVec F S2064x4x512 .f32) : IVec S_ 1 :=
  let main_v0 : FVec F S2064x4x512 .f32 := Host.absf main_arg1
  let main_cst : FVec F S_ .f32 := constant S_ .f32 0x7F800000#32
  let main_v1 : FVec F S2064x4x512 .f32 := broadcastInDim S2064x4x512 ![] bcast_S_S2064x4x512 main_cst
  let main_v2 : IVec S2064x4x512 1 := cmpf .olt main_v0 main_v1
  let main_c : IVec S_ 1 := constantI S_ 1 1#1
  let main_v3 : IVec S_ 1 := (fun x v => Host.reduce IntOp.andi x v reducesTo_S2064x4x512_S_d0_1_2 h_S_) main_v2 main_c
  main_v3
-- ==== Pre_window_fwd_finite.lean ====
abbrev S2064x2048 : Shape := ⟨2, ![2064, 2048]⟩
abbrev S_ : Shape := ⟨0, ![]⟩

class Facts : Prop where
  bcast_S_S2064x2048 : S_.BroadcastsInDim S2064x2048 (![] : Fin 0 → Fin S2064x2048.rank)
  reducesTo_S2064x2048_S_d0_1 : S2064x2048.ReducesTo [0, 1] S_
  h_S_ : 0 < S_.numel

variable [Facts]

def fn {F : FTy → Type} [FloatOps F] (main_arg0 : FVec F S2064x2048 .f32) : IVec S_ 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_c : IVec S_ 1 := constantI S_ 1 1#1
  let main_v3 : IVec S_ 1 := (fun x v => Host.reduce IntOp.andi x v reducesTo_S2064x2048_S_d0_1 h_S_) main_v2 main_c
  main_v3
-- ==== NormKernel.lean ====
abbrev S2064x2048 : Shape := ⟨2, ![2064, 2048]⟩
abbrev S2048 : Shape := ⟨1, ![2048]⟩
abbrev S_ : Shape := ⟨0, ![]⟩
abbrev S48x2048 : Shape := ⟨2, ![48, 2048]⟩
abbrev S2112x2048 : Shape := ⟨2, ![2112, 2048]⟩
abbrev S2112 : Shape := ⟨1, ![2112]⟩
abbrev S2112x1 : Shape := ⟨2, ![2112, 1]⟩
abbrev S1x2048 : Shape := ⟨2, ![1, 2048]⟩
abbrev S352x2048 : Shape := ⟨2, ![352, 2048]⟩
abbrev S352x1 : Shape := ⟨2, ![352, 1]⟩
abbrev S352 : Shape := ⟨1, ![352]⟩

abbrev nBuf : Space → Nat
  | .hbm => 28
  | .vmem => 14
  | .smem => 0
  | _ => 0

abbrev bufTy : (tb : Table) → Fin (tcTables nBuf tb) → BufTy
  | .hbm, ⟨0, _⟩ => ⟨S2064x2048, .f32⟩
  | .hbm, ⟨1, _⟩ => ⟨S2048, .f32⟩
  | .hbm, ⟨2, _⟩ => ⟨S2064x2048, .f32⟩
  | .hbm, ⟨3, _⟩ => ⟨S2064x2048, .f32⟩
  | .hbm, ⟨4, _⟩ => ⟨S_, .f32⟩
  | .hbm, ⟨5, _⟩ => ⟨S48x2048, .f32⟩
  | .hbm, ⟨6, _⟩ => ⟨S2112x2048, .f32⟩
  | .hbm, ⟨7, _⟩ => ⟨S2112x2048, .f32⟩
  | .hbm, ⟨8, _⟩ => ⟨S_, .f32⟩
  | .hbm, ⟨9, _⟩ => ⟨S2112, .f32⟩
  | .hbm, ⟨10, _⟩ => ⟨S2112x1, .f32⟩
  | .hbm, ⟨11, _⟩ => ⟨S_, .f32⟩
  | .hbm, ⟨12, _⟩ => ⟨S2112x1, .f32⟩
  | .hbm, ⟨13, _⟩ => ⟨S2112x1, .f32⟩
  | .hbm, ⟨14, _⟩ => ⟨S_, .f32⟩
  | .hbm, ⟨15, _⟩ => ⟨S2112x1, .f32⟩
  | .hbm, ⟨16, _⟩ => ⟨S2112x1, .f32⟩
  | .hbm, ⟨17, _⟩ => ⟨S2112x1, .f32⟩
  | .hbm, ⟨18, _⟩ => ⟨S_, .f32⟩
  | .hbm, ⟨19, _⟩ => ⟨S48x2048, .f32⟩
  | .hbm, ⟨20, _⟩ => ⟨S2112x2048, .f32⟩
  | .hbm, ⟨21, _⟩ => ⟨S1x2048, .f32⟩
  | .hbm, ⟨22, _⟩ => ⟨S_, .f32⟩
  | .hbm, ⟨23, _⟩ => ⟨S48x2048, .f32⟩
  | .hbm, ⟨24, _⟩ => ⟨S2112x2048, .f32⟩
  | .hbm, ⟨25, _⟩ => ⟨S2112x2048, .f32⟩
  | .hbm, ⟨26, _⟩ => ⟨S1x2048, .f32⟩
  | .hbm, ⟨27, _⟩ => ⟨S2112x2048, .bf16⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S1x2048, .f32⟩
  | .local _ .vmem, ⟨5, _⟩ => ⟨S352x1, .f32⟩
  | .local _ .vmem, ⟨6, _⟩ => ⟨S352x1, .f32⟩
  | .local _ .vmem, ⟨7, _⟩ => ⟨S352x2048, .f32⟩
  | .local _ .vmem, ⟨8, _⟩ => ⟨S352x2048, .f32⟩
  | .local _ .vmem, ⟨9, _⟩ => ⟨S352x2048, .f32⟩
  | .local _ .vmem, ⟨10, _⟩ => ⟨S352x2048, .f32⟩
  | .local _ .vmem, ⟨11, _⟩ => ⟨S1x2048, .f32⟩
  | .local _ .vmem, ⟨12, _⟩ => ⟨S352x2048, .bf16⟩
  | .local _ .vmem, ⟨13, _⟩ => ⟨S352x2048, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S352x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S352x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormReferenceIdeal.lean ====
abbrev S2064x2048 : Shape := ⟨2, ![2064, 2048]⟩
abbrev S2048 : Shape := ⟨1, ![2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩
abbrev S48x2048 : Shape := ⟨2, ![48, 2048]⟩
abbrev S2112x2048 : Shape := ⟨2, ![2112, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048, .f32⟩
  | .hbm, ⟨2, _⟩ => ⟨S2064x2048, .f32⟩
  | .hbm, ⟨3, _⟩ => ⟨S2064x2048, .f32⟩
  | .hbm, ⟨4, _⟩ => ⟨S2064x2048, .f32⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S2064x2048, .f32⟩
  | .hbm, ⟨20, _⟩ => ⟨S2064x2048, .f32⟩
  | .hbm, ⟨21, _⟩ => ⟨S1x2048, .f32⟩
  | .hbm, ⟨22, _⟩ => ⟨S2064x2048, .f32⟩
  | .hbm, ⟨23, _⟩ => ⟨S2064x2048, .f32⟩
  | .hbm, ⟨24, _⟩ => ⟨S2064x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2064x2048, .f32⟩
  | .hbm, ⟨29, _⟩ => ⟨S2064x2048, .f32⟩
  | .hbm, ⟨30, _⟩ => ⟨S_, .f32⟩
  | .hbm, ⟨31, _⟩ => ⟨S2048, .f32⟩
  | .hbm, ⟨32, _⟩ => ⟨S2064x2048, .f32⟩
  | .hbm, ⟨33, _⟩ => ⟨S_, .f32⟩
  | .hbm, ⟨34, _⟩ => ⟨S2064, .f32⟩
  | .hbm, ⟨35, _⟩ => ⟨S2064x1, .f32⟩
  | .hbm, ⟨36, _⟩ => ⟨S2064x2048, .f32⟩
  | .hbm, ⟨37, _⟩ => ⟨S2064x2048, .f32⟩
  | .hbm, ⟨38, _⟩ => ⟨S2064x2048, .f32⟩
  | .hbm, ⟨39, _⟩ => ⟨S2064x1, .f32⟩
  | .hbm, ⟨40, _⟩ => ⟨S_, .f32⟩
  | .hbm, ⟨41, _⟩ => ⟨S2064x1, .f32⟩
  | .hbm, ⟨42, _⟩ => ⟨S2064x1, .f32⟩
  | .hbm, ⟨43, _⟩ => ⟨S_, .f32⟩
  | .hbm, ⟨44, _⟩ => ⟨S2064, .f32⟩
  | .hbm, ⟨45, _⟩ => ⟨S2064x2048, .f32⟩
  | .hbm, ⟨46, _⟩ => ⟨S2064x2048, .f32⟩
  | .hbm, ⟨47, _⟩ => ⟨S2064x2048, .f32⟩
  | .hbm, ⟨48, _⟩ => ⟨S2064x2048, .f32⟩
  | .hbm, ⟨49, _⟩ => ⟨S2064x2048, .f32⟩
  | .hbm, ⟨50, _⟩ => ⟨S_, .f32⟩
  | .hbm, ⟨51, _⟩ => ⟨S48x2048, .f32⟩
  | .hbm, ⟨52, _⟩ => ⟨S2112x2048, .f32⟩
  | .hbm, ⟨53, _⟩ => ⟨S1x2048, .f32⟩
  | .hbm, ⟨54, _⟩ => ⟨S_, .f32⟩
  | .hbm, ⟨55, _⟩ => ⟨S2112x2048, .f32⟩
  | .hbm, ⟨56, _⟩ => ⟨S2112x2048, .f32⟩
  | .hbm, ⟨57, _⟩ => ⟨S2112x2048, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== GlaKernel.lean ====
abbrev S2064x6160 : Shape := ⟨2, ![2064, 6160]⟩
abbrev S16x1024 : Shape := ⟨2, ![16, 1024]⟩
abbrev S1024 : Shape := ⟨1, ![1024]⟩
abbrev S2064x2048 : Shape := ⟨2, ![2064, 2048]⟩
abbrev S2064x4096 : Shape := ⟨2, ![2064, 4096]⟩
abbrev S2064x16 : Shape := ⟨2, ![2064, 16]⟩
abbrev S_ : Shape := ⟨0, ![]⟩
abbrev S2064x112 : Shape := ⟨2, ![2064, 112]⟩
abbrev S2064x6272 : Shape := ⟨2, ![2064, 6272]⟩
abbrev S112x1024 : Shape := ⟨2, ![112, 1024]⟩
abbrev S128x1024 : Shape := ⟨2, ![128, 1024]⟩
abbrev S48x6272 : Shape := ⟨2, ![48, 6272]⟩
abbrev S2112x6272 : Shape := ⟨2, ![2112, 6272]⟩
abbrev S1x1024 : Shape := ⟨2, ![1, 1024]⟩
abbrev S2112x2048 : Shape := ⟨2, ![2112, 2048]⟩
abbrev S33x4x512x256 : Shape := ⟨4, ![33, 4, 512, 256]⟩
abbrev S64x1024 : Shape := ⟨2, ![64, 1024]⟩
abbrev S64x2048 : Shape := ⟨2, ![64, 2048]⟩
abbrev S64x128 : Shape := ⟨2, ![64, 128]⟩
abbrev S1x4x512x256 : Shape := ⟨4, ![1, 4, 512, 256]⟩
abbrev S4x512x256 : Shape := ⟨3, ![4, 512, 256]⟩
abbrev S128x256 : Shape := ⟨2, ![128, 256]⟩
abbrev S1x256 : Shape := ⟨2, ![1, 256]⟩
abbrev S64x256 : Shape := ⟨2, ![64, 256]⟩
abbrev S64x1 : Shape := ⟨2, ![64, 1]⟩
abbrev S64x64 : Shape := ⟨2, ![64, 64]⟩
abbrev S256 : Shape := ⟨1, ![256]⟩
abbrev S64x512 : Shape := ⟨2, ![64, 512]⟩
abbrev S1x512x256 : Shape := ⟨3, ![1, 512, 256]⟩
abbrev S512x256 : Shape := ⟨2, ![512, 256]⟩
abbrev S1x1x512x256 : Shape := ⟨4, ![1, 1, 512, 256]⟩
abbrev S48x2048 : Shape := ⟨2, ![48, 2048]⟩
abbrev S4x128x256 : Shape := ⟨3, ![4, 128, 256]⟩
abbrev S4x1x256 : Shape := ⟨3, ![4, 1, 256]⟩
abbrev S64x6272 : Shape := ⟨2, ![64, 6272]⟩
abbrev S1x128x256 : Shape := ⟨3, ![1, 128, 256]⟩
abbrev S1x1x256 : Shape := ⟨3, ![1, 1, 256]⟩

abbrev nBuf : Space → Nat
  | .hbm => 31
  | .vmem => 36
  | .smem => 0
  | _ => 0

abbrev bufTy : (tb : Table) → Fin (tcTables nBuf tb) → BufTy
  | .hbm, ⟨0, _⟩ => ⟨S2064x6160, .f32⟩
  | .hbm, ⟨1, _⟩ => ⟨S16x1024, .f32⟩
  | .hbm, ⟨2, _⟩ => ⟨S1024, .f32⟩
  | .hbm, ⟨3, _⟩ => ⟨S2064x2048, .f32⟩
  | .hbm, ⟨4, _⟩ => ⟨S2064x2048, .f32⟩
  | .hbm, ⟨5, _⟩ => ⟨S2064x4096, .f32⟩
  | .hbm, ⟨6, _⟩ => ⟨S2064x2048, .f32⟩
  | .hbm, ⟨7, _⟩ => ⟨S2064x16, .f32⟩
  | .hbm, ⟨8, _⟩ => ⟨S_, .f32⟩
  | .hbm, ⟨9, _⟩ => ⟨S2064x112, .f32⟩
  | .hbm, ⟨10, _⟩ => ⟨S2064x6272, .f32⟩
  | .hbm, ⟨11, _⟩ => ⟨S16x1024, .bf16⟩
  | .hbm, ⟨12, _⟩ => ⟨S_, .bf16⟩
  | .hbm, ⟨13, _⟩ => ⟨S112x1024, .bf16⟩
  | .hbm, ⟨14, _⟩ => ⟨S128x1024, .bf16⟩
  | .hbm, ⟨15, _⟩ => ⟨S_, .f32⟩
  | .hbm, ⟨16, _⟩ => ⟨S48x6272, .f32⟩
  | .hbm, ⟨17, _⟩ => ⟨S2112x6272, .f32⟩
  | .hbm, ⟨18, _⟩ => ⟨S1x1024, .f32⟩
  | .hbm, ⟨19, _⟩ => ⟨S2112x2048, .f32⟩
  | .hbm, ⟨20, _⟩ => ⟨S33x4x512x256, .f32⟩
  | .hbm, ⟨21, _⟩ => ⟨S_, .f32⟩
  | .hbm, ⟨22, _⟩ => ⟨S48x2048, .f32⟩
  | .hbm, ⟨23, _⟩ => ⟨S2112x2048, .f32⟩
  | .hbm, ⟨24, _⟩ => ⟨S_, .f32⟩
  | .hbm, ⟨25, _⟩ => ⟨S48x2048, .f32⟩
  | .hbm, ⟨26, _⟩ => ⟨S2112x2048, .f32⟩
  | .hbm, ⟨27, _⟩ => ⟨S2112x2048, .bf16⟩
  | .hbm, ⟨28, _⟩ => ⟨S2112x6272, .bf16⟩
  | .hbm, ⟨29, _⟩ => ⟨S4x128x256, .f32⟩
  | .hbm, ⟨30, _⟩ => ⟨S4x1x256, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x128, .f32⟩
  | .local _ .vmem, ⟨7, _⟩ => ⟨S64x128, .f32⟩
  | .local _ .vmem, ⟨8, _⟩ => ⟨S128x1024, .bf16⟩
  | .local _ .vmem, ⟨9, _⟩ => ⟨S1x1024, .f32⟩
  | .local _ .vmem, ⟨10, _⟩ => ⟨S64x2048, .f32⟩
  | .local _ .vmem, ⟨11, _⟩ => ⟨S64x2048, .f32⟩
  | .local _ .vmem, ⟨12, _⟩ => ⟨S1x4x512x256, .f32⟩
  | .local _ .vmem, ⟨13, _⟩ => ⟨S1x4x512x256, .f32⟩
  | .local _ .vmem, ⟨14, _⟩ => ⟨S4x512x256, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x2048, .f32⟩
  | .local _ .vmem, ⟨20, _⟩ => ⟨S64x2048, .f32⟩
  | .local _ .vmem, ⟨21, _⟩ => ⟨S64x128, .f32⟩
  | .local _ .vmem, ⟨22, _⟩ => ⟨S64x128, .f32⟩
  | .local _ .vmem, ⟨23, _⟩ => ⟨S128x1024, .bf16⟩
  | .local _ .vmem, ⟨24, _⟩ => ⟨S1x1024, .f32⟩
  | .local _ .vmem, ⟨25, _⟩ => ⟨S1x4x512x256, .f32⟩
  | .local _ .vmem, ⟨26, _⟩ => ⟨S1x4x512x256, .f32⟩
  | .local _ .vmem, ⟨27, _⟩ => ⟨S64x2048, .f32⟩
  | .local _ .vmem, ⟨28, _⟩ => ⟨S64x2048, .f32⟩
  | .local _ .vmem, ⟨29, _⟩ => ⟨S64x2048, .bf16⟩
  | .local _ .vmem, ⟨30, _⟩ => ⟨S64x2048, .bf16⟩
  | .local _ .vmem, ⟨31, _⟩ => ⟨S64x6272, .bf16⟩
  | .local _ .vmem, ⟨32, _⟩ => ⟨S64x6272, .bf16⟩
  | .local _ .vmem, ⟨33, _⟩ => ⟨S4x128x256, .f32⟩
  | .local _ .vmem, ⟨34, _⟩ => ⟨S4x1x256, .f32⟩
  | .local _ .vmem, ⟨35, _⟩ => ⟨S4x512x256, .f32⟩
  | _, _ => ⟨S2064x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg11_0 : Ref sig .tc := ⟨.vmem, 34, rfl⟩
abbrev cc1_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem11_0 : DmaSem sig := 33

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![33], ![false]⟩

def cc1_transform_0 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc1_transform_3 (i : grid1.Coords) : Fin 2 → Nat :=
  let arg0 : BitVec 32 := BitVec.ofNat 32 (i 0).val
  let c32_i32 : BitVec 32 := 32#32
  let v0 : BitVec 32 := Scalar.subi c32_i32 arg0
  let c48_i32 : BitVec 32 := 48#32
  let c0_i32 : BitVec 32 := 0#32
  ![v0.toNat, c48_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x4x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x6272 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S4x128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== GlaReferenceIdeal.lean ====
abbrev S2064x6160 : Shape := ⟨2, ![2064, 6160]⟩
abbrev S16x1024 : Shape := ⟨2, ![16, 1024]⟩
abbrev S1024 : Shape := ⟨1, ![1024]⟩
abbrev S2064x2048 : Shape := ⟨2, ![2064, 2048]⟩
abbrev S2064x1024 : Shape := ⟨2, ![2064, 1024]⟩
abbrev S2064x16 : Shape := ⟨2, ![2064, 16]⟩
abbrev S1x1024 : Shape := ⟨2, ![1, 1024]⟩
abbrev S_ : Shape := ⟨0, ![]⟩
abbrev S2064x4x256 : Shape := ⟨3, ![2064, 4, 256]⟩
abbrev S4x2064x256 : Shape := ⟨3, ![4, 2064, 256]⟩
abbrev S2064x4x512 : Shape := ⟨3, ![2064, 4, 512]⟩
abbrev S4x2064x512 : Shape := ⟨3, ![4, 2064, 512]⟩
abbrev S4x48x256 : Shape := ⟨3, ![4, 48, 256]⟩
abbrev S4x2112x256 : Shape := ⟨3, ![4, 2112, 256]⟩
abbrev S4x48x512 : Shape := ⟨3, ![4, 48, 512]⟩
abbrev S4x2112x512 : Shape := ⟨3, ![4, 2112, 512]⟩
abbrev S64x64 : Shape := ⟨2, ![64, 64]⟩
abbrev S4x256x512 : Shape := ⟨3, ![4, 256, 512]⟩
abbrev S4x33x64x256 : Shape := ⟨4, ![4, 33, 64, 256]⟩
abbrev S33x4x64x256 : Shape := ⟨4, ![33, 4, 64, 256]⟩
abbrev S4x33x64x512 : Shape := ⟨4, ![4, 33, 64, 512]⟩
abbrev S33x4x64x512 : Shape := ⟨4, ![33, 4, 64, 512]⟩
abbrev S64x64x1 : Shape := ⟨3, ![64, 64, 1]⟩
abbrev S4x64x64x256 : Shape := ⟨4, ![4, 64, 64, 256]⟩
abbrev S33x4x256x512 : Shape := ⟨4, ![33, 4, 256, 512]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S4x1x256 : Shape := ⟨3, ![4, 1, 256]⟩
abbrev S4x64x1x256 : Shape := ⟨4, ![4, 64, 1, 256]⟩
abbrev S4x1x64x256 : Shape := ⟨4, ![4, 1, 64, 256]⟩
abbrev S4x64x64 : Shape := ⟨3, ![4, 64, 64]⟩
abbrev S4x256 : Shape := ⟨2, ![4, 256]⟩
abbrev S4x256x1 : Shape := ⟨3, ![4, 256, 1]⟩
abbrev S1x4x256x512 : Shape := ⟨4, ![1, 4, 256, 512]⟩
abbrev S4x512x64 : Shape := ⟨3, ![4, 512, 64]⟩
abbrev S4x256x64 : Shape := ⟨3, ![4, 256, 64]⟩
abbrev S4x512x256 : Shape := ⟨3, ![4, 512, 256]⟩
abbrev S1024x16 : Shape := ⟨2, ![1024, 16]⟩
abbrev S2064x4096 : Shape := ⟨2, ![2064, 4096]⟩
abbrev S2064x112 : Shape := ⟨2, ![2064, 112]⟩
abbrev S2064x6272 : Shape := ⟨2, ![2064, 6272]⟩
abbrev S48x6272 : Shape := ⟨2, ![48, 6272]⟩
abbrev S2112x6272 : Shape := ⟨2, ![2112, 6272]⟩
abbrev S48x2048 : Shape := ⟨2, ![48, 2048]⟩
abbrev S2112x2048 : Shape := ⟨2, ![2112, 2048]⟩
abbrev S16x4x256 : Shape := ⟨3, ![16, 4, 256]⟩
abbrev S4x16x256 : Shape := ⟨3, ![4, 16, 256]⟩
abbrev S4x112x256 : Shape := ⟨3, ![4, 112, 256]⟩
abbrev S4x128x256 : Shape := ⟨3, ![4, 128, 256]⟩

abbrev nBuf : Space → Nat
  | .hbm => 473
  | .vmem => 0
  | .smem => 0
  | _ => 0

abbrev hbmTy0_0 (i : Nat) : BufTy := match i % 128 with
  | 0 => ⟨S2064x6160, .f32⟩
  | 1 => ⟨S16x1024, .f32⟩
  | 2 => ⟨S1024, .f32⟩
  | 3 => ⟨S2064x2048, .f32⟩
  | 4 => ⟨S2064x2048, .f32⟩
  | 5 => ⟨S2064x1024, .f32⟩
  | 6 => ⟨S2064x1024, .f32⟩
  | 7 => ⟨S2064x2048, .f32⟩
  | 8 => ⟨S2064x16, .f32⟩
  | 9 => ⟨S2064x2048, .f32⟩
  | 10 => ⟨S2064x1024, .f32⟩
  | 11 => ⟨S1x1024, .f32⟩
  | 12 => ⟨S2064x1024, .f32⟩
  | 13 => ⟨S2064x1024, .f32⟩
  | 14 => ⟨S2064x1024, .f32⟩
  | 15 => ⟨S_, .f32⟩
  | 16 => ⟨S2064x1024, .f32⟩
  | 17 => ⟨S2064x1024, .f32⟩
  | 18 => ⟨S2064x1024, .f32⟩
  | 19 => ⟨S2064x1024, .f32⟩
  | 20 => ⟨S2064x1024, .i1⟩
  | 21 => ⟨S2064x1024, .f32⟩
  | 22 => ⟨S2064x1024, .f32⟩
  | 23 => ⟨S2064x1024, .f32⟩
  | 24 => ⟨S2064x1024, .f32⟩
  | 25 => ⟨S2064x1024, .f32⟩
  | 26 => ⟨S2064x1024, .f32⟩
  | 27 => ⟨S2064x1024, .f32⟩
  | 28 => ⟨S2064x1024, .f32⟩
  | 29 => ⟨S_, .f32⟩
  | 30 => ⟨S2064x1024, .f32⟩
  | 31 => ⟨S2064x1024, .i1⟩
  | 32 => ⟨S_, .f32⟩
  | 33 => ⟨S2064x1024, .f32⟩
  | 34 => ⟨S2064x1024, .f32⟩
  | 35 => ⟨S_, .f32⟩
  | 36 => ⟨S2064x1024, .f32⟩
  | 37 => ⟨S2064x1024, .i1⟩
  | 38 => ⟨S_, .f32⟩
  | 39 => ⟨S2064x1024, .f32⟩
  | 40 => ⟨S2064x1024, .f32⟩
  | 41 => ⟨S2064x1024, .f32⟩
  | 42 => ⟨S2064x1024, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S2064x1024, .f32⟩
  | 51 => ⟨S2064x1024, .i1⟩
  | 52 => ⟨S_, .f32⟩
  | 53 => ⟨S2064x1024, .f32⟩
  | 54 => ⟨S2064x1024, .f32⟩
  | 55 => ⟨S2064x1024, .f32⟩
  | 56 => ⟨S2064x1024, .f32⟩
  | 57 => ⟨S2064x1024, .f32⟩
  | 58 => ⟨S_, .f32⟩
  | 59 => ⟨S2064x1024, .f32⟩
  | 60 => ⟨S2064x1024, .f32⟩
  | 61 => ⟨S2064x1024, .f32⟩
  | 62 => ⟨S_, .f32⟩
  | 63 => ⟨S2064x1024, .f32⟩
  | 64 => ⟨S2064x1024, .f32⟩
  | 65 => ⟨S2064x4x256, .f32⟩
  | 66 => ⟨S4x2064x256, .f32⟩
  | 67 => ⟨S_, .f32⟩
  | 68 => ⟨S4x2064x256, .f32⟩
  | 69 => ⟨S4x2064x256, .f32⟩
  | 70 => ⟨S2064x4x256, .f32⟩
  | 71 => ⟨S4x2064x256, .f32⟩
  | 72 => ⟨S2064x4x512, .f32⟩
  | 73 => ⟨S4x2064x512, .f32⟩
  | 74 => ⟨S2064x4x256, .f32⟩
  | 75 => ⟨S4x2064x256, .f32⟩
  | 76 => ⟨S_, .f32⟩
  | 77 => ⟨S4x48x256, .f32⟩
  | 78 => ⟨S4x2112x256, .f32⟩
  | 79 => ⟨S_, .f32⟩
  | 80 => ⟨S4x48x256, .f32⟩
  | 81 => ⟨S_, .f32⟩
  | 82 => ⟨S4x48x256, .f32⟩
  | 83 => ⟨S4x2112x256, .f32⟩
  | 84 => ⟨S_, .f32⟩
  | 85 => ⟨S4x48x256, .f32⟩
  | 86 => ⟨S_, .f32⟩
  | 87 => ⟨S4x48x512, .f32⟩
  | 88 => ⟨S4x2112x512, .f32⟩
  | 89 => ⟨S_, .f32⟩
  | 90 => ⟨S4x48x512, .f32⟩
  | 91 => ⟨S_, .f32⟩
  | 92 => ⟨S4x48x256, .f32⟩
  | 93 => ⟨S4x2112x256, .f32⟩
  | 94 => ⟨S_, .f32⟩
  | 95 => ⟨S4x48x256, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S_, .f32⟩
  | 108 => ⟨S4x256x512, .f32⟩
  | 109 => ⟨S4x33x64x256, .f32⟩
  | 110 => ⟨S33x4x64x256, .f32⟩
  | 111 => ⟨S4x33x64x256, .f32⟩
  | 112 => ⟨S33x4x64x256, .f32⟩
  | 113 => ⟨S4x33x64x512, .f32⟩
  | 114 => ⟨S33x4x64x512, .f32⟩
  | 115 => ⟨S4x33x64x256, .f32⟩
  | 116 => ⟨S33x4x64x256, .f32⟩
  | 117 => ⟨S64x64x1, .i1⟩
  | 118 => ⟨S_, .f32⟩
  | 119 => ⟨S_, .f32⟩
  | 120 => ⟨S4x64x64x256, .i1⟩
  | 121 => ⟨S4x64x64x256, .f32⟩
  | 122 => ⟨S_, .f32⟩
  | 123 => ⟨S33x4x64x512, .f32⟩
  | 124 => ⟨S_, .f32⟩
  | 125 => ⟨S33x4x256x512, .f32⟩
  | 126 => ⟨S_, .i32⟩
  | 127 => ⟨S33x4x64x256, .f32⟩
  | _ => ⟨S2064x6160, .f32⟩

abbrev hbmTy0_1 (i : Nat) : BufTy := match i % 128 with
  | 0 => ⟨S33x4x64x256, .f32⟩
  | 1 => ⟨S33x4x64x512, .f32⟩
  | 2 => ⟨S33x4x64x256, .f32⟩
  | 3 => ⟨S4x64x64x256, .i1⟩
  | 4 => ⟨S4x64x64x256, .f32⟩
  | 5 => ⟨S_, .i32⟩
  | 6 => ⟨S4x256x512, .f32⟩
  | 7 => ⟨S33x4x64x512, .f32⟩
  | 8 => ⟨S33x4x256x512, .f32⟩
  | 9 => ⟨S_, .i32⟩
  | 10 => ⟨S_, .i1⟩
  | 11 => ⟨S_, .i32⟩
  | 12 => ⟨S_, .i32⟩
  | 13 => ⟨S_, .i32⟩
  | 14 => ⟨S1x4x64x256, .f32⟩
  | 15 => ⟨S4x64x256, .f32⟩
  | 16 => ⟨S_, .i32⟩
  | 17 => ⟨S_, .i32⟩
  | 18 => ⟨S_, .i32⟩
  | 19 => ⟨S1x4x64x256, .f32⟩
  | 20 => ⟨S4x64x256, .f32⟩
  | 21 => ⟨S_, .i32⟩
  | 22 => ⟨S_, .i32⟩
  | 23 => ⟨S_, .i32⟩
  | 24 => ⟨S1x4x64x512, .f32⟩
  | 25 => ⟨S4x64x512, .f32⟩
  | 26 => ⟨S_, .i32⟩
  | 27 => ⟨S_, .i32⟩
  | 28 => ⟨S_, .i32⟩
  | 29 => ⟨S1x4x64x256, .f32⟩
  | 30 => ⟨S4x64x256, .f32⟩
  | 31 => ⟨S_, .f32⟩
  | 32 => ⟨S_, .f32⟩
  | 33 => ⟨S4x64x256, .f32⟩
  | 34 => ⟨S4x1x256, .f32⟩
  | 35 => ⟨S4x64x256, .f32⟩
  | 36 => ⟨S4x64x256, .f32⟩
  | 37 => ⟨S4x64x512, .f32⟩
  | 38 => ⟨S4x64x1x256, .f32⟩
  | 39 => ⟨S4x1x64x256, .f32⟩
  | 40 => ⟨S4x64x64x256, .f32⟩
  | 41 => ⟨S4x64x64x256, .f32⟩
  | 42 => ⟨S4x64x64x256, .f32⟩
  | 43 => ⟨S4x64x64x256, .f32⟩
  | 44 => ⟨S4x64x64x256, .f32⟩
  | 45 => ⟨S4x64x1x256, .f32⟩
  | 46 => ⟨S4x64x64x256, .f32⟩
  | 47 => ⟨S4x64x64x256, .f32⟩
  | 48 => ⟨S4x1x64x256, .f32⟩
  | 49 => ⟨S4x64x64x256, .f32⟩
  | 50 => ⟨S4x64x64x256, .f32⟩
  | 51 => ⟨S_, .f32⟩
  | 52 => ⟨S4x64x64, .f32⟩
  | 53 => ⟨S4x64x512, .f32⟩
  | 54 => ⟨S4x64x512, .f32⟩
  | 55 => ⟨S4x256, .f32⟩
  | 56 => ⟨S4x256, .f32⟩
  | 57 => ⟨S4x256x1, .f32⟩
  | 58 => ⟨S4x256x512, .f32⟩
  | 59 => ⟨S4x256x512, .f32⟩
  | 60 => ⟨S4x64x256, .f32⟩
  | 61 => ⟨S4x64x256, .f32⟩
  | 62 => ⟨S4x64x256, .f32⟩
  | 63 => ⟨S4x64x256, .f32⟩
  | 64 => ⟨S4x256x512, .f32⟩
  | 65 => ⟨S4x256x512, .f32⟩
  | 66 => ⟨S1x4x64x512, .f32⟩
  | 67 => ⟨S_, .i32⟩
  | 68 => ⟨S_, .i32⟩
  | 69 => ⟨S_, .i32⟩
  | 70 => ⟨S33x4x64x512, .f32⟩
  | 71 => ⟨S1x4x256x512, .f32⟩
  | 72 => ⟨S_, .i32⟩
  | 73 => ⟨S_, .i32⟩
  | 74 => ⟨S_, .i32⟩
  | 75 => ⟨S33x4x256x512, .f32⟩
  | 76 => ⟨S_, .i32⟩
  | 77 => ⟨S_, .i32⟩
  | 78 => ⟨S4x33x64x512, .f32⟩
  | 79 => ⟨S4x2112x512, .f32⟩
  | 80 => ⟨S4x2064x512, .f32⟩
  | 81 => ⟨S2064x4x512, .f32⟩
  | 82 => ⟨S2064x2048, .f32⟩
  | 83 => ⟨S_, .f32⟩
  | 84 => ⟨S4x256x512, .f32⟩
  | 85 => ⟨S2064x4x512, .f32⟩
  | 86 => ⟨S4x2064x512, .f32⟩
  | 87 => ⟨S_, .f32⟩
  | 88 => ⟨S4x2112x512, .f32⟩
  | 89 => ⟨S4x33x64x512, .f32⟩
  | 90 => ⟨S33x4x64x512, .f32⟩
  | 91 => ⟨S_, .f32⟩
  | 92 => ⟨S4x256x512, .f32⟩
  | 93 => ⟨S_, .f32⟩
  | 94 => ⟨S33x4x64x256, .f32⟩
  | 95 => ⟨S_, .f32⟩
  | 96 => ⟨S33x4x64x256, .f32⟩
  | 97 => ⟨S_, .f32⟩
  | 98 => ⟨S33x4x64x512, .f32⟩
  | 99 => ⟨S_, .f32⟩
  | 100 => ⟨S33x4x64x256, .f32⟩
  | 101 => ⟨S_, .i32⟩
  | 102 => ⟨S33x4x64x512, .f32⟩
  | 103 => ⟨S33x4x256x512, .f32⟩
  | 104 => ⟨S33x4x64x256, .f32⟩
  | 105 => ⟨S33x4x64x256, .f32⟩
  | 106 => ⟨S33x4x64x512, .f32⟩
  | 107 => ⟨S33x4x64x256, .f32⟩
  | 108 => ⟨S64x64, .i1⟩
  | 109 => ⟨S_, .i32⟩
  | 110 => ⟨S4x256x512, .f32⟩
  | 111 => ⟨S33x4x64x256, .f32⟩
  | 112 => ⟨S33x4x64x256, .f32⟩
  | 113 => ⟨S33x4x64x512, .f32⟩
  | 114 => ⟨S33x4x64x256, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S1x4x64x512, .f32⟩
  | 125 => ⟨S4x64x512, .f32⟩
  | 126 => ⟨S_, .i32⟩
  | 127 => ⟨S_, .i32⟩
  | _ => ⟨S2064x6160, .f32⟩

abbrev hbmTy0_2 (i : Nat) : BufTy := match i % 128 with
  | 0 => ⟨S_, .i32⟩
  | 1 => ⟨S1x4x256x512, .f32⟩
  | 2 => ⟨S4x256x512, .f32⟩
  | 3 => ⟨S_, .i32⟩
  | 4 => ⟨S_, .i32⟩
  | 5 => ⟨S_, .i32⟩
  | 6 => ⟨S1x4x64x256, .f32⟩
  | 7 => ⟨S4x64x256, .f32⟩
  | 8 => ⟨S_, .i32⟩
  | 9 => ⟨S_, .i32⟩
  | 10 => ⟨S_, .i32⟩
  | 11 => ⟨S1x4x64x256, .f32⟩
  | 12 => ⟨S4x64x256, .f32⟩
  | 13 => ⟨S_, .i32⟩
  | 14 => ⟨S_, .i32⟩
  | 15 => ⟨S_, .i32⟩
  | 16 => ⟨S1x4x64x512, .f32⟩
  | 17 => ⟨S4x64x512, .f32⟩
  | 18 => ⟨S_, .i32⟩
  | 19 => ⟨S_, .i32⟩
  | 20 => ⟨S_, .i32⟩
  | 21 => ⟨S1x4x64x256, .f32⟩
  | 22 => ⟨S4x64x256, .f32⟩
  | 23 => ⟨S_, .f32⟩
  | 24 => ⟨S_, .f32⟩
  | 25 => ⟨S4x64x256, .f32⟩
  | 26 => ⟨S4x1x256, .f32⟩
  | 27 => ⟨S4x64x256, .f32⟩
  | 28 => ⟨S4x64x256, .f32⟩
  | 29 => ⟨S4x64x1x256, .f32⟩
  | 30 => ⟨S4x1x64x256, .f32⟩
  | 31 => ⟨S4x64x64x256, .f32⟩
  | 32 => ⟨S4x64x64x256, .f32⟩
  | 33 => ⟨S4x64x64x256, .f32⟩
  | 34 => ⟨S64x64x1, .i1⟩
  | 35 => ⟨S_, .f32⟩
  | 36 => ⟨S_, .f32⟩
  | 37 => ⟨S4x64x64x256, .i1⟩
  | 38 => ⟨S4x64x64x256, .f32⟩
  | 39 => ⟨S4x64x64x256, .f32⟩
  | 40 => ⟨S_, .f32⟩
  | 41 => ⟨S4x64x64x256, .f32⟩
  | 42 => ⟨S4x64x64x256, .f32⟩
  | 43 => ⟨S4x64x1x256, .f32⟩
  | 44 => ⟨S4x64x64x256, .f32⟩
  | 45 => ⟨S4x64x64x256, .f32⟩
  | 46 => ⟨S4x1x64x256, .f32⟩
  | 47 => ⟨S4x64x64x256, .f32⟩
  | 48 => ⟨S4x64x64x256, .f32⟩
  | 49 => ⟨S_, .f32⟩
  | 50 => ⟨S4x64x64, .f32⟩
  | 51 => ⟨S4x256, .f32⟩
  | 52 => ⟨S4x256, .f32⟩
  | 53 => ⟨S4x256x1, .f32⟩
  | 54 => ⟨S4x64x256, .f32⟩
  | 55 => ⟨S4x64x256, .f32⟩
  | 56 => ⟨S4x64x256, .f32⟩
  | 57 => ⟨S4x64x256, .f32⟩
  | 58 => ⟨S4x512x64, .f32⟩
  | 59 => ⟨S4x64x512, .f32⟩
  | 60 => ⟨S4x256x64, .f32⟩
  | 61 => ⟨S4x64x256, .f32⟩
  | 62 => ⟨S4x64x256, .f32⟩
  | 63 => ⟨S4x64x256, .f32⟩
  | 64 => ⟨S4x64x256, .f32⟩
  | 65 => ⟨S_, .f32⟩
  | 66 => ⟨S4x256, .f32⟩
  | 67 => ⟨S4x1x256, .f32⟩
  | 68 => ⟨S4x64x256, .f32⟩
  | 69 => ⟨S4x256x512, .f32⟩
  | 70 => ⟨S4x256x512, .f32⟩
  | 71 => ⟨S4x256x512, .f32⟩
  | 72 => ⟨S_, .f32⟩
  | 73 => ⟨S4x256, .f32⟩
  | 74 => ⟨S4x256x1, .f32⟩
  | 75 => ⟨S_, .f32⟩
  | 76 => ⟨S4x256, .f32⟩
  | 77 => ⟨S4x256, .f32⟩
  | 78 => ⟨S4x1x256, .f32⟩
  | 79 => ⟨S4x1x256, .f32⟩
  | 80 => ⟨S4x512x64, .f32⟩
  | 81 => ⟨S4x64x512, .f32⟩
  | 82 => ⟨S4x64x512, .f32⟩
  | 83 => ⟨S4x64x64, .f32⟩
  | 84 => ⟨S4x64x64x256, .f32⟩
  | 85 => ⟨S4x64x64x256, .f32⟩
  | 86 => ⟨S_, .f32⟩
  | 87 => ⟨S4x64x256, .f32⟩
  | 88 => ⟨S4x1x64x256, .f32⟩
  | 89 => ⟨S4x64x64x256, .f32⟩
  | 90 => ⟨S4x64x64x256, .f32⟩
  | 91 => ⟨S_, .f32⟩
  | 92 => ⟨S4x64x256, .f32⟩
  | 93 => ⟨S4x64x256, .f32⟩
  | 94 => ⟨S4x64x64x256, .f32⟩
  | 95 => ⟨S4x64x64x256, .f32⟩
  | 96 => ⟨S4x64x64x256, .f32⟩
  | 97 => ⟨S_, .f32⟩
  | 98 => ⟨S4x64x256, .f32⟩
  | 99 => ⟨S4x64x1x256, .f32⟩
  | 100 => ⟨S_, .f32⟩
  | 101 => ⟨S4x64x256, .f32⟩
  | 102 => ⟨S4x64x64x256, .f32⟩
  | 103 => ⟨S_, .f32⟩
  | 104 => ⟨S4x64x64x256, .f32⟩
  | 105 => ⟨S4x64x64x256, .f32⟩
  | 106 => ⟨S_, .f32⟩
  | 107 => ⟨S4x64x256, .f32⟩
  | 108 => ⟨S4x64x1x256, .f32⟩
  | 109 => ⟨S4x64x64x256, .f32⟩
  | 110 => ⟨S_, .f32⟩
  | 111 => ⟨S4x64x256, .f32⟩
  | 112 => ⟨S4x1x64x256, .f32⟩
  | 113 => ⟨S_, .f32⟩
  | 114 => ⟨S4x64x256, .f32⟩
  | 115 => ⟨S4x64x256, .f32⟩
  | 116 => ⟨S_, .f32⟩
  | 117 => ⟨S4x64x256, .f32⟩
  | 118 => ⟨S4x64x256, .f32⟩
  | 119 => ⟨S4x512x256, .f32⟩
  | 120 => ⟨S4x256x512, .f32⟩
  | 121 => ⟨S4x256x512, .f32⟩
  | 122 => ⟨S4x64x256, .f32⟩
  | 123 => ⟨S4x64x256, .f32⟩
  | 124 => ⟨S4x64x256, .f32⟩
  | 125 => ⟨S4x64x256, .f32⟩
  | 126 => ⟨S4x64x256, .f32⟩
  | 127 => ⟨S4x64x256, .f32⟩
  | _ => ⟨S2064x6160, .f32⟩

abbrev hbmTy0_3 (i : Nat) : BufTy := match i % 128 with
  | 0 => ⟨S_, .f32⟩
  | 1 => ⟨S4x64x256, .f32⟩
  | 2 => ⟨S4x64x256, .f32⟩
  | 3 => ⟨S_, .f32⟩
  | 4 => ⟨S_, .f32⟩
  | 5 => ⟨S4x64x256, .f32⟩
  | 6 => ⟨S1x4x64x256, .f32⟩
  | 7 => ⟨S_, .i32⟩
  | 8 => ⟨S_, .i32⟩
  | 9 => ⟨S_, .i32⟩
  | 10 => ⟨S33x4x64x256, .f32⟩
  | 11 => ⟨S1x4x64x256, .f32⟩
  | 12 => ⟨S_, .i32⟩
  | 13 => ⟨S_, .i32⟩
  | 14 => ⟨S_, .i32⟩
  | 15 => ⟨S33x4x64x256, .f32⟩
  | 16 => ⟨S1x4x64x512, .f32⟩
  | 17 => ⟨S_, .i32⟩
  | 18 => ⟨S_, .i32⟩
  | 19 => ⟨S_, .i32⟩
  | 20 => ⟨S33x4x64x512, .f32⟩
  | 21 => ⟨S1x4x64x256, .f32⟩
  | 22 => ⟨S_, .i32⟩
  | 23 => ⟨S_, .i32⟩
  | 24 => ⟨S_, .i32⟩
  | 25 => ⟨S33x4x64x256, .f32⟩
  | 26 => ⟨S_, .i32⟩
  | 27 => ⟨S_, .i32⟩
  | 28 => ⟨S4x33x64x256, .f32⟩
  | 29 => ⟨S4x2112x256, .f32⟩
  | 30 => ⟨S4x33x64x512, .f32⟩
  | 31 => ⟨S4x2112x512, .f32⟩
  | 32 => ⟨S4x33x64x256, .f32⟩
  | 33 => ⟨S4x2112x256, .f32⟩
  | 34 => ⟨S4x33x64x256, .f32⟩
  | 35 => ⟨S4x2112x256, .f32⟩
  | 36 => ⟨S4x48x256, .f32⟩
  | 37 => ⟨S4x2064x256, .f32⟩
  | 38 => ⟨S4x48x512, .f32⟩
  | 39 => ⟨S4x2064x512, .f32⟩
  | 40 => ⟨S4x48x256, .f32⟩
  | 41 => ⟨S4x2064x256, .f32⟩
  | 42 => ⟨S4x48x256, .f32⟩
  | 43 => ⟨S4x2064x256, .f32⟩
  | 44 => ⟨S2064x4x256, .f32⟩
  | 45 => ⟨S2064x1024, .f32⟩
  | 46 => ⟨S2064x4x512, .f32⟩
  | 47 => ⟨S2064x2048, .f32⟩
  | 48 => ⟨S2064x4x256, .f32⟩
  | 49 => ⟨S2064x1024, .f32⟩
  | 50 => ⟨S_, .f32⟩
  | 51 => ⟨S4x2064x256, .f32⟩
  | 52 => ⟨S4x2064x256, .f32⟩
  | 53 => ⟨S2064x4x256, .f32⟩
  | 54 => ⟨S2064x1024, .f32⟩
  | 55 => ⟨S_, .f32⟩
  | 56 => ⟨S2064x1024, .f32⟩
  | 57 => ⟨S2064x1024, .f32⟩
  | 58 => ⟨S2064x1024, .f32⟩
  | 59 => ⟨S2064x1024, .f32⟩
  | 60 => ⟨S2064x1024, .f32⟩
  | 61 => ⟨S_, .f32⟩
  | 62 => ⟨S1024, .f32⟩
  | 63 => ⟨S1x1024, .f32⟩
  | 64 => ⟨S_, .f32⟩
  | 65 => ⟨S1024, .f32⟩
  | 66 => ⟨S1024x16, .f32⟩
  | 67 => ⟨S16x1024, .f32⟩
  | 68 => ⟨S2064x16, .f32⟩
  | 69 => ⟨S2064x6160, .f32⟩
  | 70 => ⟨S2064x4096, .f32⟩
  | 71 => ⟨S2064x16, .f32⟩
  | 72 => ⟨S2064x2048, .f32⟩
  | 73 => ⟨S_, .f32⟩
  | 74 => ⟨S2064x112, .f32⟩
  | 75 => ⟨S2064x6272, .f32⟩
  | 76 => ⟨S_, .f32⟩
  | 77 => ⟨S48x6272, .f32⟩
  | 78 => ⟨S2112x6272, .f32⟩
  | 79 => ⟨S_, .f32⟩
  | 80 => ⟨S48x2048, .f32⟩
  | 81 => ⟨S2112x2048, .f32⟩
  | 82 => ⟨S16x4x256, .f32⟩
  | 83 => ⟨S4x16x256, .f32⟩
  | 84 => ⟨S_, .f32⟩
  | 85 => ⟨S4x112x256, .f32⟩
  | 86 => ⟨S4x128x256, .f32⟩
  | 87 => ⟨S2112x6272, .bf16⟩
  | 88 => ⟨S4x1x256, .f32⟩
  | _ => ⟨S2064x6160, .f32⟩

abbrev hbmTy (i : Nat) : BufTy := match i / 128 with
  | 0 => hbmTy0_0 i
  | 1 => hbmTy0_1 i
  | 2 => hbmTy0_2 i
  | 3 => hbmTy0_3 i
  | _ => ⟨S2064x6160, .f32⟩

abbrev bufTy : (tb : Table) → Fin (tcTables nBuf tb) → BufTy
  | .hbm, ⟨i, _⟩ => hbmTy i
  | _, _ => ⟨S2064x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v9_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v9_2 : Ref sig .tc := ⟨.hbm, 60, rfl⟩
abbrev main_v9_0 : Ref sig .tc := ⟨.hbm, 61, rfl⟩
abbrev main_cst : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_cst_0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_1 : Ref sig .tc := ⟨.hbm, 76, rfl⟩
abbrev main_v22 : Ref sig .tc := ⟨.hbm, 77, rfl⟩
abbrev main_v23 : Ref sig .tc := ⟨.hbm, 78, rfl⟩
abbrev main_cst_2 : Ref sig .tc := ⟨.hbm, 79, rfl⟩
abbrev main_v24 : Ref sig .tc := ⟨.hbm, 80, rfl⟩
abbrev main_cst_3 : Ref sig .tc := ⟨.hbm, 81, rfl⟩
abbrev main_v25 : Ref sig .tc := ⟨.hbm, 82, rfl⟩
abbrev main_v26 : Ref sig .tc := ⟨.hbm, 83, rfl⟩
abbrev main_cst_4 : Ref sig .tc := ⟨.hbm, 84, rfl⟩
abbrev main_v27 : Ref sig .tc := ⟨.hbm, 85, rfl⟩
abbrev main_cst_5 : Ref sig .tc := ⟨.hbm, 86, rfl⟩
abbrev main_v28 : Ref sig .tc := ⟨.hbm, 87, rfl⟩
abbrev main_v29 : Ref sig .tc := ⟨.hbm, 88, rfl⟩
abbrev main_cst_6 : Ref sig .tc := ⟨.hbm, 89, rfl⟩
abbrev main_v30 : Ref sig .tc := ⟨.hbm, 90, rfl⟩
abbrev main_cst_7 : Ref sig .tc := ⟨.hbm, 91, rfl⟩
abbrev main_v31 : Ref sig .tc := ⟨.hbm, 92, rfl⟩
abbrev main_v32 : Ref sig .tc := ⟨.hbm, 93, rfl⟩
abbrev main_cst_8 : Ref sig .tc := ⟨.hbm, 94, rfl⟩
abbrev main_v33 : Ref sig .tc := ⟨.hbm, 95, rfl⟩
abbrev main_c : Ref sig .tc := ⟨.hbm, 96, rfl⟩
abbrev main_v34 : Ref sig .tc := ⟨.hbm, 97, rfl⟩
abbrev main_call1_v0 : Ref sig .tc := ⟨.hbm, 98, rfl⟩
abbrev main_call1_c : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_c_0 : Ref sig .tc := ⟨.hbm, 104, rfl⟩
abbrev main_call1_v5 : Ref sig .tc := ⟨.hbm, 105, rfl⟩
abbrev main_v35 : Ref sig .tc := ⟨.hbm, 106, rfl⟩
abbrev main_cst_9 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_cst_10 : Ref sig .tc := ⟨.hbm, 118, rfl⟩
abbrev main_call3_v0 : Ref sig .tc := ⟨.hbm, 119, rfl⟩
abbrev main_v46_0 : Ref sig .tc := ⟨.hbm, 120, rfl⟩
abbrev main_v46_1 : Ref sig .tc := ⟨.hbm, 121, rfl⟩
abbrev main_cst_11 : Ref sig .tc := ⟨.hbm, 122, rfl⟩
abbrev main_v47 : Ref sig .tc := ⟨.hbm, 123, rfl⟩
abbrev main_cst_12 : Ref sig .tc := ⟨.hbm, 124, rfl⟩
abbrev main_v48 : Ref sig .tc := ⟨.hbm, 125, rfl⟩
abbrev main_c_13 : Ref sig .tc := ⟨.hbm, 126, rfl⟩
abbrev main_v49_0 : Ref sig .tc := ⟨.hbm, 127, rfl⟩
abbrev main_v49_1 : Ref sig .tc := ⟨.hbm, 128, rfl⟩
abbrev main_v49_2 : Ref sig .tc := ⟨.hbm, 129, rfl⟩
abbrev main_v49_3 : Ref sig .tc := ⟨.hbm, 130, rfl⟩
abbrev main_v49_4 : Ref sig .tc := ⟨.hbm, 131, rfl⟩
abbrev main_v49_5 : Ref sig .tc := ⟨.hbm, 132, rfl⟩
abbrev main_v49_6 : Ref sig .tc := ⟨.hbm, 133, rfl⟩
abbrev main_v49_7 : Ref sig .tc := ⟨.hbm, 134, rfl⟩
abbrev main_v49_8 : Ref sig .tc := ⟨.hbm, 135, rfl⟩
abbrev main_v49_9 : Ref sig .tc := ⟨.hbm, 136, rfl⟩
abbrev main_while0c_c_39 : Ref sig .tc := ⟨.hbm, 137, rfl⟩
abbrev main_while0c_v118 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_call4_c_1 : Ref sig .tc := ⟨.hbm, 141, rfl⟩
abbrev main_while0b_call4_v0 : Ref sig .tc := ⟨.hbm, 142, rfl⟩
abbrev main_while0b_v118 : Ref sig .tc := ⟨.hbm, 143, rfl⟩
abbrev main_while0b_call5_c : Ref sig .tc := ⟨.hbm, 144, rfl⟩
abbrev main_while0b_call5_c_0 : Ref sig .tc := ⟨.hbm, 145, rfl⟩
abbrev main_while0b_call5_c_1 : Ref sig .tc := ⟨.hbm, 146, rfl⟩
abbrev main_while0b_call5_v0 : Ref sig .tc := ⟨.hbm, 147, rfl⟩
abbrev main_while0b_v119 : Ref sig .tc := ⟨.hbm, 148, rfl⟩
abbrev main_while0b_call6_c : Ref sig .tc := ⟨.hbm, 149, rfl⟩
abbrev main_while0b_call6_c_0 : Ref sig .tc := ⟨.hbm, 150, rfl⟩
abbrev main_while0b_call6_c_1 : Ref sig .tc := ⟨.hbm, 151, rfl⟩
abbrev main_while0b_call6_v0 : Ref sig .tc := ⟨.hbm, 152, rfl⟩
abbrev main_while0b_v120 : Ref sig .tc := ⟨.hbm, 153, rfl⟩
abbrev main_while0b_call7_c : Ref sig .tc := ⟨.hbm, 154, rfl⟩
abbrev main_while0b_call7_c_0 : Ref sig .tc := ⟨.hbm, 155, rfl⟩
abbrev main_while0b_call7_c_1 : Ref sig .tc := ⟨.hbm, 156, rfl⟩
abbrev main_while0b_call7_v0 : Ref sig .tc := ⟨.hbm, 157, rfl⟩
abbrev main_while0b_v121 : Ref sig .tc := ⟨.hbm, 158, rfl⟩
abbrev main_while0b_call8_call0_cst : Ref sig .tc := ⟨.hbm, 159, rfl⟩
abbrev main_while0b_call8_call0_v0 : Ref sig .tc := ⟨.hbm, 160, rfl⟩
abbrev main_while0b_v122 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_v134 : Ref sig .tc := ⟨.hbm, 173, rfl⟩
abbrev main_while0b_v135 : Ref sig .tc := ⟨.hbm, 174, rfl⟩
abbrev main_while0b_v136 : Ref sig .tc := ⟨.hbm, 175, rfl⟩
abbrev main_while0b_v137 : Ref sig .tc := ⟨.hbm, 176, rfl⟩
abbrev main_while0b_v138 : Ref sig .tc := ⟨.hbm, 177, rfl⟩
abbrev main_while0b_v139 : Ref sig .tc := ⟨.hbm, 178, rfl⟩
abbrev main_while0b_cst_39 : Ref sig .tc := ⟨.hbm, 179, rfl⟩
abbrev main_while0b_v140 : Ref sig .tc := ⟨.hbm, 180, rfl⟩
abbrev main_while0b_v141 : Ref sig .tc := ⟨.hbm, 181, rfl⟩
abbrev main_while0b_v142 : Ref sig .tc := ⟨.hbm, 182, rfl⟩
abbrev main_while0b_v143 : Ref sig .tc := ⟨.hbm, 183, rfl⟩
abbrev main_while0b_v144 : Ref sig .tc := ⟨.hbm, 184, rfl⟩
abbrev main_while0b_v145 : Ref sig .tc := ⟨.hbm, 185, rfl⟩
abbrev main_while0b_v146 : Ref sig .tc := ⟨.hbm, 186, rfl⟩
abbrev main_while0b_v147 : Ref sig .tc := ⟨.hbm, 187, rfl⟩
abbrev main_while0b_v148 : Ref sig .tc := ⟨.hbm, 188, rfl⟩
abbrev main_while0b_v149 : Ref sig .tc := ⟨.hbm, 189, rfl⟩
abbrev main_while0b_v150 : Ref sig .tc := ⟨.hbm, 190, rfl⟩
abbrev main_while0b_v151 : Ref sig .tc := ⟨.hbm, 191, rfl⟩
abbrev main_while0b_v152 : Ref sig .tc := ⟨.hbm, 192, rfl⟩
abbrev main_while0b_v153 : Ref sig .tc := ⟨.hbm, 193, rfl⟩
abbrev main_while0b_call10_v0 : Ref sig .tc := ⟨.hbm, 194, rfl⟩
abbrev main_while0b_call10_c : Ref sig .tc := ⟨.hbm, 195, rfl⟩
abbrev main_while0b_call10_c_0 : Ref sig .tc := ⟨.hbm, 196, rfl⟩
abbrev main_while0b_call10_c_1 : Ref sig .tc := ⟨.hbm, 197, rfl⟩
abbrev main_while0b_v154 : Ref sig .tc := ⟨.hbm, 198, rfl⟩
abbrev main_while0b_call11_v0 : Ref sig .tc := ⟨.hbm, 199, rfl⟩
abbrev main_while0b_call11_c : Ref sig .tc := ⟨.hbm, 200, rfl⟩
abbrev main_while0b_call11_c_0 : Ref sig .tc := ⟨.hbm, 201, rfl⟩
abbrev main_while0b_call11_c_1 : Ref sig .tc := ⟨.hbm, 202, rfl⟩
abbrev main_while0b_v155 : Ref sig .tc := ⟨.hbm, 203, rfl⟩
abbrev main_while0b_c_40 : Ref sig .tc := ⟨.hbm, 204, rfl⟩
abbrev main_while0b_v156 : Ref sig .tc := ⟨.hbm, 205, rfl⟩
abbrev main_v50 : Ref sig .tc := ⟨.hbm, 206, rfl⟩
abbrev main_v51 : Ref sig .tc := ⟨.hbm, 207, rfl⟩
abbrev main_v52 : Ref sig .tc := ⟨.hbm, 208, rfl⟩
abbrev main_v53 : Ref sig .tc := ⟨.hbm, 209, rfl⟩
abbrev main_v54 : Ref sig .tc := ⟨.hbm, 210, rfl⟩
abbrev main_cst_14 : Ref sig .tc := ⟨.hbm, 211, rfl⟩
abbrev main_v55 : Ref sig .tc := ⟨.hbm, 212, rfl⟩
abbrev main_v56 : Ref sig .tc := ⟨.hbm, 213, rfl⟩
abbrev main_v57 : Ref sig .tc := ⟨.hbm, 214, rfl⟩
abbrev main_cst_15 : Ref sig .tc := ⟨.hbm, 215, rfl⟩
abbrev main_v58 : Ref sig .tc := ⟨.hbm, 216, rfl⟩
abbrev main_v59 : Ref sig .tc := ⟨.hbm, 217, rfl⟩
abbrev main_v60 : Ref sig .tc := ⟨.hbm, 218, rfl⟩
abbrev main_cst_16 : Ref sig .tc := ⟨.hbm, 219, rfl⟩
abbrev main_v61 : Ref sig .tc := ⟨.hbm, 220, rfl⟩
abbrev main_cst_17 : Ref sig .tc := ⟨.hbm, 221, rfl⟩
abbrev main_v62 : Ref sig .tc := ⟨.hbm, 222, rfl⟩
abbrev main_cst_18 : Ref sig .tc := ⟨.hbm, 223, rfl⟩
abbrev main_v63 : Ref sig .tc := ⟨.hbm, 224, rfl⟩
abbrev main_cst_19 : Ref sig .tc := ⟨.hbm, 225, rfl⟩
abbrev main_v64 : Ref sig .tc := ⟨.hbm, 226, rfl⟩
abbrev main_cst_20 : Ref sig .tc := ⟨.hbm, 227, rfl⟩
abbrev main_v65 : Ref sig .tc := ⟨.hbm, 228, rfl⟩
abbrev main_c_21 : Ref sig .tc := ⟨.hbm, 229, rfl⟩
abbrev main_v66_0 : Ref sig .tc := ⟨.hbm, 230, rfl⟩
abbrev main_v66_1 : Ref sig .tc := ⟨.hbm, 231, rfl⟩
abbrev main_v66_2 : Ref sig .tc := ⟨.hbm, 232, rfl⟩
abbrev main_v66_3 : Ref sig .tc := ⟨.hbm, 233, rfl⟩
abbrev main_v66_4 : Ref sig .tc := ⟨.hbm, 234, rfl⟩
abbrev main_v66_5 : Ref sig .tc := ⟨.hbm, 235, rfl⟩
abbrev main_v66_6 : Ref sig .tc := ⟨.hbm, 236, rfl⟩
abbrev main_v66_7 : Ref sig .tc := ⟨.hbm, 237, rfl⟩
abbrev main_v66_8 : Ref sig .tc := ⟨.hbm, 238, rfl⟩
abbrev main_v66_9 : Ref sig .tc := ⟨.hbm, 239, rfl⟩
abbrev main_v66_10 : Ref sig .tc := ⟨.hbm, 240, rfl⟩
abbrev main_v66_11 : Ref sig .tc := ⟨.hbm, 241, rfl⟩
abbrev main_v66_12 : Ref sig .tc := ⟨.hbm, 242, rfl⟩
abbrev main_while1c_c_42 : Ref sig .tc := ⟨.hbm, 243, rfl⟩
abbrev main_while1c_v118 : Ref sig .tc := ⟨.hbm, 244, rfl⟩
abbrev main_while1b_c_42 : Ref sig .tc := ⟨.hbm, 245, rfl⟩
abbrev main_while1b_v118 : Ref sig .tc := ⟨.hbm, 246, rfl⟩
abbrev main_while1b_c_43 : Ref sig .tc := ⟨.hbm, 247, rfl⟩
abbrev main_while1b_v119 : Ref sig .tc := ⟨.hbm, 248, rfl⟩
abbrev main_while1b_call12_c : Ref sig .tc := ⟨.hbm, 249, rfl⟩
abbrev main_while1b_call12_c_0 : Ref sig .tc := ⟨.hbm, 250, rfl⟩
abbrev main_while1b_call12_c_1 : Ref sig .tc := ⟨.hbm, 251, rfl⟩
abbrev main_while1b_call12_v0 : Ref sig .tc := ⟨.hbm, 252, rfl⟩
abbrev main_while1b_v120 : Ref sig .tc := ⟨.hbm, 253, rfl⟩
abbrev main_while1b_call13_c : Ref sig .tc := ⟨.hbm, 254, rfl⟩
abbrev main_while1b_call13_c_0 : Ref sig .tc := ⟨.hbm, 255, rfl⟩
abbrev main_while1b_call13_c_1 : Ref sig .tc := ⟨.hbm, 256, rfl⟩
abbrev main_while1b_call13_v0 : Ref sig .tc := ⟨.hbm, 257, rfl⟩
abbrev main_while1b_v121 : Ref sig .tc := ⟨.hbm, 258, rfl⟩
abbrev main_while1b_call14_c : Ref sig .tc := ⟨.hbm, 259, rfl⟩
abbrev main_while1b_call14_c_0 : Ref sig .tc := ⟨.hbm, 260, rfl⟩
abbrev main_while1b_call14_c_1 : Ref sig .tc := ⟨.hbm, 261, rfl⟩
abbrev main_while1b_call14_v0 : Ref sig .tc := ⟨.hbm, 262, rfl⟩
abbrev main_while1b_v122 : Ref sig .tc := ⟨.hbm, 263, rfl⟩
abbrev main_while1b_call15_c : Ref sig .tc := ⟨.hbm, 264, rfl⟩
abbrev main_while1b_call15_c_0 : Ref sig .tc := ⟨.hbm, 265, rfl⟩
abbrev main_while1b_call15_c_1 : Ref sig .tc := ⟨.hbm, 266, rfl⟩
abbrev main_while1b_call15_v0 : Ref sig .tc := ⟨.hbm, 267, rfl⟩
abbrev main_while1b_v123 : Ref sig .tc := ⟨.hbm, 268, rfl⟩
abbrev main_while1b_call16_c : Ref sig .tc := ⟨.hbm, 269, rfl⟩
abbrev main_while1b_call16_c_0 : Ref sig .tc := ⟨.hbm, 270, rfl⟩
abbrev main_while1b_call16_c_1 : Ref sig .tc := ⟨.hbm, 271, rfl⟩
abbrev main_while1b_call16_v0 : Ref sig .tc := ⟨.hbm, 272, rfl⟩
abbrev main_while1b_v124 : Ref sig .tc := ⟨.hbm, 273, rfl⟩
abbrev main_while1b_call17_c : Ref sig .tc := ⟨.hbm, 274, rfl⟩
abbrev main_while1b_call17_c_0 : Ref sig .tc := ⟨.hbm, 275, rfl⟩
abbrev main_while1b_call17_c_1 : Ref sig .tc := ⟨.hbm, 276, rfl⟩
abbrev main_while1b_call17_v0 : Ref sig .tc := ⟨.hbm, 277, rfl⟩
abbrev main_while1b_v125 : Ref sig .tc := ⟨.hbm, 278, rfl⟩
abbrev main_while1b_call18_call0_cst : Ref sig .tc := ⟨.hbm, 279, rfl⟩
abbrev main_while1b_call18_call0_v0 : Ref sig .tc := ⟨.hbm, 280, rfl⟩
abbrev main_while1b_v126 : Ref sig .tc := ⟨.hbm, 281, rfl⟩
abbrev main_while1b_v127 : Ref sig .tc := ⟨.hbm, 282, rfl⟩
abbrev main_while1b_v128 : Ref sig .tc := ⟨.hbm, 283, rfl⟩
abbrev main_while1b_v129 : Ref sig .tc := ⟨.hbm, 284, rfl⟩
abbrev main_while1b_v130 : Ref sig .tc := ⟨.hbm, 285, rfl⟩
abbrev main_while1b_v131 : Ref sig .tc := ⟨.hbm, 286, rfl⟩
abbrev main_while1b_v132 : Ref sig .tc := ⟨.hbm, 287, rfl⟩
abbrev main_while1b_v133 : Ref sig .tc := ⟨.hbm, 288, rfl⟩
abbrev main_while1b_v134 : Ref sig .tc := ⟨.hbm, 289, rfl⟩
abbrev main_while1b_v135 : Ref sig .tc := ⟨.hbm, 290, rfl⟩
abbrev main_while1b_cst_44 : Ref sig .tc := ⟨.hbm, 291, rfl⟩
abbrev main_while1b_call19_v0 : Ref sig .tc := ⟨.hbm, 292, rfl⟩
abbrev main_while1b_v136_1 : Ref sig .tc := ⟨.hbm, 293, rfl⟩
abbrev main_while1b_call19_v2 : Ref sig .tc := ⟨.hbm, 294, rfl⟩
abbrev main_while1b_v136_0 : Ref sig .tc := ⟨.hbm, 295, rfl⟩
abbrev main_while1b_call19_cst : Ref sig .tc := ⟨.hbm, 296, rfl⟩
abbrev main_while1b_v136_2 : Ref sig .tc := ⟨.hbm, 297, rfl⟩
abbrev main_while1b_v137 : Ref sig .tc := ⟨.hbm, 298, rfl⟩
abbrev main_while1b_v138 : Ref sig .tc := ⟨.hbm, 299, rfl⟩
abbrev main_while1b_v139 : Ref sig .tc := ⟨.hbm, 300, rfl⟩
abbrev main_while1b_v140 : Ref sig .tc := ⟨.hbm, 301, rfl⟩
abbrev main_while1b_v141 : Ref sig .tc := ⟨.hbm, 302, rfl⟩
abbrev main_while1b_v142 : Ref sig .tc := ⟨.hbm, 303, rfl⟩
abbrev main_while1b_v143 : Ref sig .tc := ⟨.hbm, 304, rfl⟩
abbrev main_while1b_cst_45 : Ref sig .tc := ⟨.hbm, 305, rfl⟩
abbrev main_while1b_v144 : Ref sig .tc := ⟨.hbm, 306, rfl⟩
abbrev main_while1b_v145 : Ref sig .tc := ⟨.hbm, 307, rfl⟩
abbrev main_while1b_v146 : Ref sig .tc := ⟨.hbm, 308, rfl⟩
abbrev main_while1b_v147 : Ref sig .tc := ⟨.hbm, 309, rfl⟩
abbrev main_while1b_v148 : Ref sig .tc := ⟨.hbm, 310, rfl⟩
abbrev main_while1b_v149 : Ref sig .tc := ⟨.hbm, 311, rfl⟩
abbrev main_while1b_v150 : Ref sig .tc := ⟨.hbm, 312, rfl⟩
abbrev main_while1b_v151 : Ref sig .tc := ⟨.hbm, 313, rfl⟩
abbrev main_while1b_v152 : Ref sig .tc := ⟨.hbm, 314, rfl⟩
abbrev main_while1b_v153 : Ref sig .tc := ⟨.hbm, 315, rfl⟩
abbrev main_while1b_v154 : Ref sig .tc := ⟨.hbm, 316, rfl⟩
abbrev main_while1b_v155 : Ref sig .tc := ⟨.hbm, 317, rfl⟩
abbrev main_while1b_v156 : Ref sig .tc := ⟨.hbm, 318, rfl⟩
abbrev main_while1b_v157 : Ref sig .tc := ⟨.hbm, 319, rfl⟩
abbrev main_while1b_v158 : Ref sig .tc := ⟨.hbm, 320, rfl⟩
abbrev main_while1b_cst_46 : Ref sig .tc := ⟨.hbm, 321, rfl⟩
abbrev main_while1b_v159 : Ref sig .tc := ⟨.hbm, 322, rfl⟩
abbrev main_while1b_v160 : Ref sig .tc := ⟨.hbm, 323, rfl⟩
abbrev main_while1b_v161 : Ref sig .tc := ⟨.hbm, 324, rfl⟩
abbrev main_while1b_v162 : Ref sig .tc := ⟨.hbm, 325, rfl⟩
abbrev main_while1b_v163 : Ref sig .tc := ⟨.hbm, 326, rfl⟩
abbrev main_while1b_v164 : Ref sig .tc := ⟨.hbm, 327, rfl⟩
abbrev main_while1b_cst_47 : Ref sig .tc := ⟨.hbm, 328, rfl⟩
abbrev main_while1b_v165 : Ref sig .tc := ⟨.hbm, 329, rfl⟩
abbrev main_while1b_v166 : Ref sig .tc := ⟨.hbm, 330, rfl⟩
abbrev main_while1b_cst_48 : Ref sig .tc := ⟨.hbm, 331, rfl⟩
abbrev main_while1b_v167 : Ref sig .tc := ⟨.hbm, 332, rfl⟩
abbrev main_while1b_v168 : Ref sig .tc := ⟨.hbm, 333, rfl⟩
abbrev main_while1b_v169 : Ref sig .tc := ⟨.hbm, 334, rfl⟩
abbrev main_while1b_v170 : Ref sig .tc := ⟨.hbm, 335, rfl⟩
abbrev main_while1b_v171 : Ref sig .tc := ⟨.hbm, 336, rfl⟩
abbrev main_while1b_v172 : Ref sig .tc := ⟨.hbm, 337, rfl⟩
abbrev main_while1b_v173 : Ref sig .tc := ⟨.hbm, 338, rfl⟩
abbrev main_while1b_v174 : Ref sig .tc := ⟨.hbm, 339, rfl⟩
abbrev main_while1b_v175 : Ref sig .tc := ⟨.hbm, 340, rfl⟩
abbrev main_while1b_v176 : Ref sig .tc := ⟨.hbm, 341, rfl⟩
abbrev main_while1b_cst_49 : Ref sig .tc := ⟨.hbm, 342, rfl⟩
abbrev main_while1b_v177 : Ref sig .tc := ⟨.hbm, 343, rfl⟩
abbrev main_while1b_v178 : Ref sig .tc := ⟨.hbm, 344, rfl⟩
abbrev main_while1b_v179 : Ref sig .tc := ⟨.hbm, 345, rfl⟩
abbrev main_while1b_v180 : Ref sig .tc := ⟨.hbm, 346, rfl⟩
abbrev main_while1b_cst_50 : Ref sig .tc := ⟨.hbm, 347, rfl⟩
abbrev main_while1b_v181 : Ref sig .tc := ⟨.hbm, 348, rfl⟩
abbrev main_while1b_v182 : Ref sig .tc := ⟨.hbm, 349, rfl⟩
abbrev main_while1b_v183 : Ref sig .tc := ⟨.hbm, 350, rfl⟩
abbrev main_while1b_v184 : Ref sig .tc := ⟨.hbm, 351, rfl⟩
abbrev main_while1b_v185 : Ref sig .tc := ⟨.hbm, 352, rfl⟩
abbrev main_while1b_cst_51 : Ref sig .tc := ⟨.hbm, 353, rfl⟩
abbrev main_while1b_v186 : Ref sig .tc := ⟨.hbm, 354, rfl⟩
abbrev main_while1b_v187 : Ref sig .tc := ⟨.hbm, 355, rfl⟩
abbrev main_while1b_cst_52 : Ref sig .tc := ⟨.hbm, 356, rfl⟩
abbrev main_while1b_v188 : Ref sig .tc := ⟨.hbm, 357, rfl⟩
abbrev main_while1b_v189 : Ref sig .tc := ⟨.hbm, 358, rfl⟩
abbrev main_while1b_call20_cst : Ref sig .tc := ⟨.hbm, 359, rfl⟩
abbrev main_while1b_call20_v0 : Ref sig .tc := ⟨.hbm, 360, rfl⟩
abbrev main_while1b_v190 : Ref sig .tc := ⟨.hbm, 361, rfl⟩
abbrev main_while1b_cst_53 : Ref sig .tc := ⟨.hbm, 362, rfl⟩
abbrev main_while1b_v191 : Ref sig .tc := ⟨.hbm, 363, rfl⟩
abbrev main_while1b_v192 : Ref sig .tc := ⟨.hbm, 364, rfl⟩
abbrev main_while1b_v193 : Ref sig .tc := ⟨.hbm, 365, rfl⟩
abbrev main_while1b_cst_54 : Ref sig .tc := ⟨.hbm, 366, rfl⟩
abbrev main_while1b_v194 : Ref sig .tc := ⟨.hbm, 367, rfl⟩
abbrev main_while1b_v195 : Ref sig .tc := ⟨.hbm, 368, rfl⟩
abbrev main_while1b_cst_55 : Ref sig .tc := ⟨.hbm, 369, rfl⟩
abbrev main_while1b_v196 : Ref sig .tc := ⟨.hbm, 370, rfl⟩
abbrev main_while1b_v197 : Ref sig .tc := ⟨.hbm, 371, rfl⟩
abbrev main_while1b_cst_56 : Ref sig .tc := ⟨.hbm, 372, rfl⟩
abbrev main_while1b_v198 : Ref sig .tc := ⟨.hbm, 373, rfl⟩
abbrev main_while1b_v199 : Ref sig .tc := ⟨.hbm, 374, rfl⟩
abbrev main_while1b_v200 : Ref sig .tc := ⟨.hbm, 375, rfl⟩
abbrev main_while1b_v201 : Ref sig .tc := ⟨.hbm, 376, rfl⟩
abbrev main_while1b_v202 : Ref sig .tc := ⟨.hbm, 377, rfl⟩
abbrev main_while1b_v203 : Ref sig .tc := ⟨.hbm, 378, rfl⟩
abbrev main_while1b_v204 : Ref sig .tc := ⟨.hbm, 379, rfl⟩
abbrev main_while1b_v205 : Ref sig .tc := ⟨.hbm, 380, rfl⟩
abbrev main_while1b_v206 : Ref sig .tc := ⟨.hbm, 381, rfl⟩
abbrev main_while1b_v207 : Ref sig .tc := ⟨.hbm, 382, rfl⟩
abbrev main_while1b_v208 : Ref sig .tc := ⟨.hbm, 383, rfl⟩
abbrev main_while1b_cst_57 : Ref sig .tc := ⟨.hbm, 384, rfl⟩
abbrev main_while1b_v209 : Ref sig .tc := ⟨.hbm, 385, rfl⟩
abbrev main_while1b_v210 : Ref sig .tc := ⟨.hbm, 386, rfl⟩
abbrev main_while1b_call21_call0_cst : Ref sig .tc := ⟨.hbm, 387, rfl⟩
abbrev main_while1b_call21_call0_v0 : Ref sig .tc := ⟨.hbm, 388, rfl⟩
abbrev main_while1b_v211 : Ref sig .tc := ⟨.hbm, 389, rfl⟩
abbrev main_while1b_call22_v0 : Ref sig .tc := ⟨.hbm, 390, rfl⟩
abbrev main_while1b_call22_c : Ref sig .tc := ⟨.hbm, 391, rfl⟩
abbrev main_while1b_call22_c_0 : Ref sig .tc := ⟨.hbm, 392, rfl⟩
abbrev main_while1b_call22_c_1 : Ref sig .tc := ⟨.hbm, 393, rfl⟩
abbrev main_while1b_v212 : Ref sig .tc := ⟨.hbm, 394, rfl⟩
abbrev main_while1b_call23_v0 : Ref sig .tc := ⟨.hbm, 395, rfl⟩
abbrev main_while1b_call23_c : Ref sig .tc := ⟨.hbm, 396, rfl⟩
abbrev main_while1b_call23_c_0 : Ref sig .tc := ⟨.hbm, 397, rfl⟩
abbrev main_while1b_call23_c_1 : Ref sig .tc := ⟨.hbm, 398, rfl⟩
abbrev main_while1b_v213 : Ref sig .tc := ⟨.hbm, 399, rfl⟩
abbrev main_while1b_call24_v0 : Ref sig .tc := ⟨.hbm, 400, rfl⟩
abbrev main_while1b_call24_c : Ref sig .tc := ⟨.hbm, 401, rfl⟩
abbrev main_while1b_call24_c_0 : Ref sig .tc := ⟨.hbm, 402, rfl⟩
abbrev main_while1b_call24_c_1 : Ref sig .tc := ⟨.hbm, 403, rfl⟩
abbrev main_while1b_v214 : Ref sig .tc := ⟨.hbm, 404, rfl⟩
abbrev main_while1b_call25_v0 : Ref sig .tc := ⟨.hbm, 405, rfl⟩
abbrev main_while1b_call25_c : Ref sig .tc := ⟨.hbm, 406, rfl⟩
abbrev main_while1b_call25_c_0 : Ref sig .tc := ⟨.hbm, 407, rfl⟩
abbrev main_while1b_call25_c_1 : Ref sig .tc := ⟨.hbm, 408, rfl⟩
abbrev main_while1b_v215 : Ref sig .tc := ⟨.hbm, 409, rfl⟩
abbrev main_while1b_c_58 : Ref sig .tc := ⟨.hbm, 410, rfl⟩
abbrev main_while1b_v216 : Ref sig .tc := ⟨.hbm, 411, rfl⟩
abbrev main_v67 : Ref sig .tc := ⟨.hbm, 412, rfl⟩
abbrev main_v68 : Ref sig .tc := ⟨.hbm, 413, rfl⟩
abbrev main_v69 : Ref sig .tc := ⟨.hbm, 414, rfl⟩
abbrev main_v70 : Ref sig .tc := ⟨.hbm, 415, rfl⟩
abbrev main_v71 : Ref sig .tc := ⟨.hbm, 416, rfl⟩
abbrev main_v72 : Ref sig .tc := ⟨.hbm, 417, rfl⟩
abbrev main_v73 : Ref sig .tc := ⟨.hbm, 418, rfl⟩
abbrev main_v74 : Ref sig .tc := ⟨.hbm, 419, rfl⟩
abbrev main_v75 : Ref sig .tc := ⟨.hbm, 420, rfl⟩
abbrev main_v76 : Ref sig .tc := ⟨.hbm, 421, rfl⟩
abbrev main_v77 : Ref sig .tc := ⟨.hbm, 422, rfl⟩
abbrev main_v78 : Ref sig .tc := ⟨.hbm, 423, rfl⟩
abbrev main_v79 : Ref sig .tc := ⟨.hbm, 424, rfl⟩
abbrev main_v80 : Ref sig .tc := ⟨.hbm, 425, rfl⟩
abbrev main_v81 : Ref sig .tc := ⟨.hbm, 426, rfl⟩
abbrev main_v82 : Ref sig .tc := ⟨.hbm, 427, rfl⟩
abbrev main_v83 : Ref sig .tc := ⟨.hbm, 428, rfl⟩
abbrev main_v84 : Ref sig .tc := ⟨.hbm, 429, rfl⟩
abbrev main_v85 : Ref sig .tc := ⟨.hbm, 430, rfl⟩
abbrev main_v86 : Ref sig .tc := ⟨.hbm, 431, rfl⟩
abbrev main_v87 : Ref sig .tc := ⟨.hbm, 432, rfl⟩
abbrev main_v88 : Ref sig .tc := ⟨.hbm, 433, rfl⟩
abbrev main_cst_22 : Ref sig .tc := ⟨.hbm, 434, rfl⟩
abbrev main_v89 : Ref sig .tc := ⟨.hbm, 435, rfl⟩
abbrev main_v90 : Ref sig .tc := ⟨.hbm, 436, rfl⟩
abbrev main_v91 : Ref sig .tc := ⟨.hbm, 437, rfl⟩
abbrev main_v92 : Ref sig .tc := ⟨.hbm, 438, rfl⟩
abbrev main_cst_23 : Ref sig .tc := ⟨.hbm, 439, rfl⟩
abbrev main_v93 : Ref sig .tc := ⟨.hbm, 440, rfl⟩
abbrev main_v94 : Ref sig .tc := ⟨.hbm, 441, rfl⟩
abbrev main_call26_v0 : Ref sig .tc := ⟨.hbm, 442, rfl⟩
abbrev main_call26_v1 : Ref sig .tc := ⟨.hbm, 443, rfl⟩
abbrev main_v95 : Ref sig .tc := ⟨.hbm, 444, rfl⟩
abbrev main_cst_24 : Ref sig .tc := ⟨.hbm, 445, rfl⟩
abbrev main_v96 : Ref sig .tc := ⟨.hbm, 446, rfl⟩
abbrev main_v97 : Ref sig .tc := ⟨.hbm, 447, rfl⟩
abbrev main_cst_25 : Ref sig .tc := ⟨.hbm, 448, rfl⟩
abbrev main_v98 : Ref sig .tc := ⟨.hbm, 449, rfl⟩
abbrev main_v99 : Ref sig .tc := ⟨.hbm, 450, rfl⟩
abbrev main_v100 : Ref sig .tc := ⟨.hbm, 451, rfl⟩
abbrev main_v101 : Ref sig .tc := ⟨.hbm, 452, rfl⟩
abbrev main_v102 : Ref sig .tc := ⟨.hbm, 453, rfl⟩
abbrev main_v103 : Ref sig .tc := ⟨.hbm, 454, rfl⟩
abbrev main_v104 : Ref sig .tc := ⟨.hbm, 455, rfl⟩
abbrev main_v105 : Ref sig .tc := ⟨.hbm, 456, rfl⟩
abbrev main_cst_26 : Ref sig .tc := ⟨.hbm, 457, rfl⟩
abbrev main_v106 : Ref sig .tc := ⟨.hbm, 458, rfl⟩
abbrev main_v107 : Ref sig .tc := ⟨.hbm, 459, rfl⟩
abbrev main_cst_27 : Ref sig .tc := ⟨.hbm, 460, rfl⟩
abbrev main_v108 : Ref sig .tc := ⟨.hbm, 461, rfl⟩
abbrev main_v109 : Ref sig .tc := ⟨.hbm, 462, rfl⟩
abbrev main_cst_28 : Ref sig .tc := ⟨.hbm, 463, rfl⟩
abbrev main_v110 : Ref sig .tc := ⟨.hbm, 464, rfl⟩
abbrev main_v111 : Ref sig .tc := ⟨.hbm, 465, rfl⟩
abbrev main_v112 : Ref sig .tc := ⟨.hbm, 466, rfl⟩
abbrev main_v113 : Ref sig .tc := ⟨.hbm, 467, rfl⟩
abbrev main_cst_29 : Ref sig .tc := ⟨.hbm, 468, rfl⟩
abbrev main_v114 : Ref sig .tc := ⟨.hbm, 469, rfl⟩
abbrev main_v115 : Ref sig .tc := ⟨.hbm, 470, rfl⟩
abbrev main_v116 : Ref sig .tc := ⟨.hbm, 471, rfl⟩
abbrev main_v117 : Ref sig .tc := ⟨.hbm, 472, rfl⟩

abbrev nD : Nat := 1
abbrev τ : Topo := Topo.v7x

variable {F : FTy → Type} [FloatOps F]

abbrev main_while0_count : Scf.Loop 32 := ⟨0#32, 33#32, 1#32⟩

abbrev main_while1_count : Scf.Loop 32 := ⟨0#32, 33#32, 1#32⟩
-- ==== MixKernel.lean ====
abbrev S2064x4x512 : Shape := ⟨3, ![2064, 4, 512]⟩
abbrev S4x512x512 : Shape := ⟨3, ![4, 512, 512]⟩
abbrev S4x512 : Shape := ⟨2, ![4, 512]⟩
abbrev S2048 : Shape := ⟨1, ![2048]⟩
abbrev S2064x2048 : Shape := ⟨2, ![2064, 2048]⟩
abbrev S_ : Shape := ⟨0, ![]⟩
abbrev S48x2048 : Shape := ⟨2, ![48, 2048]⟩
abbrev S2112x2048 : Shape := ⟨2, ![2112, 2048]⟩
abbrev S1x2048 : Shape := ⟨2, ![1, 2048]⟩
abbrev S352x512 : Shape := ⟨2, ![352, 512]⟩
abbrev S1x512x512 : Shape := ⟨3, ![1, 512, 512]⟩
abbrev S1x512 : Shape := ⟨2, ![1, 512]⟩
abbrev S512x512 : Shape := ⟨2, ![512, 512]⟩
abbrev S352x1 : Shape := ⟨2, ![352, 1]⟩
abbrev S512 : Shape := ⟨1, ![512]⟩

abbrev nBuf : Space → Nat
  | .hbm => 20
  | .vmem => 19
  | .smem => 0
  | _ => 0

abbrev bufTy : (tb : Table) → Fin (tcTables nBuf tb) → BufTy
  | .hbm, ⟨0, _⟩ => ⟨S2064x4x512, .f32⟩
  | .hbm, ⟨1, _⟩ => ⟨S4x512x512, .f32⟩
  | .hbm, ⟨2, _⟩ => ⟨S4x512, .f32⟩
  | .hbm, ⟨3, _⟩ => ⟨S2048, .f32⟩
  | .hbm, ⟨4, _⟩ => ⟨S2064x2048, .f32⟩
  | .hbm, ⟨5, _⟩ => ⟨S2064x2048, .f32⟩
  | .hbm, ⟨6, _⟩ => ⟨S_, .f32⟩
  | .hbm, ⟨7, _⟩ => ⟨S48x2048, .f32⟩
  | .hbm, ⟨8, _⟩ => ⟨S2112x2048, .f32⟩
  | .hbm, ⟨9, _⟩ => ⟨S2112x2048, .bf16⟩
  | .hbm, ⟨10, _⟩ => ⟨S_, .f32⟩
  | .hbm, ⟨11, _⟩ => ⟨S48x2048, .f32⟩
  | .hbm, ⟨12, _⟩ => ⟨S2112x2048, .f32⟩
  | .hbm, ⟨13, _⟩ => ⟨S4x512x512, .bf16⟩
  | .hbm, ⟨14, _⟩ => ⟨S1x2048, .f32⟩
  | .hbm, ⟨15, _⟩ => ⟨S1x2048, .f32⟩
  | .hbm, ⟨16, _⟩ => ⟨S2112x2048, .f32⟩
  | .hbm, ⟨17, _⟩ => ⟨S4x512x512, .bf16⟩
  | .hbm, ⟨18, _⟩ => ⟨S1x2048, .f32⟩
  | .hbm, ⟨19, _⟩ => ⟨S1x2048, .f32⟩
  | .local _ .vmem, ⟨0, _⟩ => ⟨S352x512, .f32⟩
  | .local _ .vmem, ⟨1, _⟩ => ⟨S352x512, .f32⟩
  | .local _ .vmem, ⟨2, _⟩ => ⟨S352x512, .bf16⟩
  | .local _ .vmem, ⟨3, _⟩ => ⟨S352x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S352x512, .f32⟩
  | .local _ .vmem, ⟨11, _⟩ => ⟨S352x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | _, _ => ⟨S2064x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v50 : BitVec 1 := Scalar.cmpi .eq arg1 c5_i32
  let v51 : BitVec 32 := Scalar.extui v50
  let c0_i32_30 : BitVec 32 := 0#32
  let v52 : BitVec 1 := Scalar.cmpi .ne v51 c0_i32_30
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MixReferenceIdeal.lean ====
abbrev S2064x4x512 : Shape := ⟨3, ![2064, 4, 512]⟩
abbrev S4x512x512 : Shape := ⟨3, ![4, 512, 512]⟩
abbrev S4x512 : Shape := ⟨2, ![4, 512]⟩
abbrev S2048 : Shape := ⟨1, ![2048]⟩
abbrev S2064x2048 : Shape := ⟨2, ![2064, 2048]⟩
abbrev S4x512x2064 : Shape := ⟨3, ![4, 512, 2064]⟩
abbrev S1x4x512 : Shape := ⟨3, ![1, 4, 512]⟩
abbrev S1x2048 : Shape := ⟨2, ![1, 2048]⟩
abbrev S_ : Shape := ⟨0, ![]⟩
abbrev S4x2064x512 : Shape := ⟨3, ![4, 2064, 512]⟩
abbrev S48x2048 : Shape := ⟨2, ![48, 2048]⟩
abbrev S2112x2048 : Shape := ⟨2, ![2112, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2064x4x512, .f32⟩
  | .hbm, ⟨1, _⟩ => ⟨S4x512x512, .f32⟩
  | .hbm, ⟨2, _⟩ => ⟨S4x512, .f32⟩
  | .hbm, ⟨3, _⟩ => ⟨S2048, .f32⟩
  | .hbm, ⟨4, _⟩ => ⟨S2064x2048, .f32⟩
  | .hbm, ⟨5, _⟩ => ⟨S4x512x2064, .f32⟩
  | .hbm, ⟨6, _⟩ => ⟨S2064x4x512, .f32⟩
  | .hbm, ⟨7, _⟩ => ⟨S1x4x512, .f32⟩
  | .hbm, ⟨8, _⟩ => ⟨S2064x4x512, .f32⟩
  | .hbm, ⟨9, _⟩ => ⟨S2064x4x512, .f32⟩
  | .hbm, ⟨10, _⟩ => ⟨S2064x2048, .f32⟩
  | .hbm, ⟨11, _⟩ => ⟨S1x2048, .f32⟩
  | .hbm, ⟨12, _⟩ => ⟨S2064x2048, .f32⟩
  | .hbm, ⟨13, _⟩ => ⟨S2064x2048, .f32⟩
  | .hbm, ⟨14, _⟩ => ⟨S2064x2048, .f32⟩
  | .hbm, ⟨15, _⟩ => ⟨S_, .f32⟩
  | .hbm, ⟨16, _⟩ => ⟨S2048, .f32⟩
  | .hbm, ⟨17, _⟩ => ⟨S1x2048, .f32⟩
  | .hbm, ⟨18, _⟩ => ⟨S2064x2048, .f32⟩
  | .hbm, ⟨19, _⟩ => ⟨S2064x2048, .f32⟩
  | .hbm, ⟨20, _⟩ => ⟨S_, .f32⟩
  | .hbm, ⟨21, _⟩ => ⟨S2048, .f32⟩
  | .hbm, ⟨22, _⟩ => ⟨S2064x4x512, .f32⟩
  | .hbm, ⟨23, _⟩ => ⟨S_, .f32⟩
  | .hbm, ⟨24, _⟩ => ⟨S4x512, .f32⟩
  | .hbm, ⟨25, _⟩ => ⟨S1x4x512, .f32⟩
  | .hbm, ⟨26, _⟩ => ⟨S_, .f32⟩
  | .hbm, ⟨27, _⟩ => ⟨S4x512, .f32⟩
  | .hbm, ⟨28, _⟩ => ⟨S4x512x2064, .f32⟩
  | .hbm, ⟨29, _⟩ => ⟨S4x2064x512, .f32⟩
  | .hbm, ⟨30, _⟩ => ⟨S2064x4x512, .f32⟩
  | .hbm, ⟨31, _⟩ => ⟨S4x512x512, .f32⟩
  | .hbm, ⟨32, _⟩ => ⟨S4x512x512, .f32⟩
  | .hbm, ⟨33, _⟩ => ⟨S_, .f32⟩
  | .hbm, ⟨34, _⟩ => ⟨S48x2048, .f32⟩
  | .hbm, ⟨35, _⟩ => ⟨S2064x2048, .f32⟩
  | .hbm, ⟨36, _⟩ => ⟨S2112x2048, .f32⟩
  | .hbm, ⟨37, _⟩ => ⟨S4x512x512, .bf16⟩
  | .hbm, ⟨38, _⟩ => ⟨S1x2048, .f32⟩
  | .hbm, ⟨39, _⟩ => ⟨S1x2048, .f32⟩
  | _, _ => ⟨S2064x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== PostKernel.lean ====
abbrev S4x2064x512 : Shape := ⟨3, ![4, 2064, 512]⟩
abbrev S2064x6160 : Shape := ⟨2, ![2064, 6160]⟩
abbrev S512 : Shape := ⟨1, ![512]⟩
abbrev S2064x2048 : Shape := ⟨2, ![2064, 2048]⟩
abbrev S2064x4096 : Shape := ⟨2, ![2064, 4096]⟩
abbrev S2064x16 : Shape := ⟨2, ![2064, 16]⟩
abbrev S_ : Shape := ⟨0, ![]⟩
abbrev S2064x112 : Shape := ⟨2, ![2064, 112]⟩
abbrev S2064x6272 : Shape := ⟨2, ![2064, 6272]⟩
abbrev S2064x4x512 : Shape := ⟨3, ![2064, 4, 512]⟩
abbrev S48x2048 : Shape := ⟨2, ![48, 2048]⟩
abbrev S2112x2048 : Shape := ⟨2, ![2112, 2048]⟩
abbrev S48x6272 : Shape := ⟨2, ![48, 6272]⟩
abbrev S2112x6272 : Shape := ⟨2, ![2112, 6272]⟩
abbrev S1x512 : Shape := ⟨2, ![1, 512]⟩
abbrev S352x2048 : Shape := ⟨2, ![352, 2048]⟩
abbrev S352x512 : Shape := ⟨2, ![352, 512]⟩
abbrev S352 : Shape := ⟨1, ![352]⟩
abbrev S352x1 : Shape := ⟨2, ![352, 1]⟩

abbrev nBuf : Space → Nat
  | .hbm => 25
  | .vmem => 12
  | .smem => 0
  | _ => 0

abbrev bufTy : (tb : Table) → Fin (tcTables nBuf tb) → BufTy
  | .hbm, ⟨0, _⟩ => ⟨S4x2064x512, .f32⟩
  | .hbm, ⟨1, _⟩ => ⟨S2064x6160, .f32⟩
  | .hbm, ⟨2, _⟩ => ⟨S512, .f32⟩
  | .hbm, ⟨3, _⟩ => ⟨S2064x2048, .f32⟩
  | .hbm, ⟨4, _⟩ => ⟨S2064x4096, .f32⟩
  | .hbm, ⟨5, _⟩ => ⟨S2064x2048, .f32⟩
  | .hbm, ⟨6, _⟩ => ⟨S2064x16, .f32⟩
  | .hbm, ⟨7, _⟩ => ⟨S_, .f32⟩
  | .hbm, ⟨8, _⟩ => ⟨S2064x112, .f32⟩
  | .hbm, ⟨9, _⟩ => ⟨S2064x6272, .f32⟩
  | .hbm, ⟨10, _⟩ => ⟨S2064x4x512, .f32⟩
  | .hbm, ⟨11, _⟩ => ⟨S2064x2048, .f32⟩
  | .hbm, ⟨12, _⟩ => ⟨S_, .f32⟩
  | .hbm, ⟨13, _⟩ => ⟨S48x2048, .f32⟩
  | .hbm, ⟨14, _⟩ => ⟨S2112x2048, .f32⟩
  | .hbm, ⟨15, _⟩ => ⟨S_, .f32⟩
  | .hbm, ⟨16, _⟩ => ⟨S48x2048, .f32⟩
  | .hbm, ⟨17, _⟩ => ⟨S2112x2048, .f32⟩
  | .hbm, ⟨18, _⟩ => ⟨S_, .f32⟩
  | .hbm, ⟨19, _⟩ => ⟨S48x6272, .f32⟩
  | .hbm, ⟨20, _⟩ => ⟨S2112x6272, .f32⟩
  | .hbm, ⟨21, _⟩ => ⟨S1x512, .f32⟩
  | .hbm, ⟨22, _⟩ => ⟨S2112x2048, .f32⟩
  | .hbm, ⟨23, _⟩ => ⟨S2112x2048, .bf16⟩
  | .hbm, ⟨24, _⟩ => ⟨S1x512, .f32⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S352x2048, .f32⟩
  | .local _ .vmem, ⟨5, _⟩ => ⟨S352x2048, .f32⟩
  | .local _ .vmem, ⟨6, _⟩ => ⟨S1x512, .f32⟩
  | .local _ .vmem, ⟨7, _⟩ => ⟨S352x2048, .f32⟩
  | .local _ .vmem, ⟨8, _⟩ => ⟨S352x2048, .f32⟩
  | .local _ .vmem, ⟨9, _⟩ => ⟨S352x2048, .bf16⟩
  | .local _ .vmem, ⟨10, _⟩ => ⟨S352x2048, .bf16⟩
  | .local _ .vmem, ⟨11, _⟩ => ⟨S1x512, .f32⟩
  | _, _ => ⟨S4x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PostReferenceIdeal.lean ====
abbrev S4x2064x512 : Shape := ⟨3, ![4, 2064, 512]⟩
abbrev S2064x6160 : Shape := ⟨2, ![2064, 6160]⟩
abbrev S512 : Shape := ⟨1, ![512]⟩
abbrev S2064x2048 : Shape := ⟨2, ![2064, 2048]⟩
abbrev S2064x1024 : Shape := ⟨2, ![2064, 1024]⟩
abbrev S2064x16 : Shape := ⟨2, ![2064, 16]⟩
abbrev S_ : Shape := ⟨0, ![]⟩
abbrev S4x2064 : Shape := ⟨2, ![4, 2064]⟩
abbrev S4x2064x1 : Shape := ⟨3, ![4, 2064, 1]⟩
abbrev S1x1x512 : Shape := ⟨3, ![1, 1, 512]⟩
abbrev S2064x4x512 : Shape := ⟨3, ![2064, 4, 512]⟩
abbrev S48x2048 : Shape := ⟨2, ![48, 2048]⟩
abbrev S2112x2048 : Shape := ⟨2, ![2112, 2048]⟩
abbrev S1x512 : Shape := ⟨2, ![1, 512]⟩

abbrev nBuf : Space → Nat
  | .hbm => 96
  | .vmem => 0
  | .smem => 0
  | _ => 0

abbrev bufTy : (tb : Table) → Fin (tcTables nBuf tb) → BufTy
  | .hbm, ⟨0, _⟩ => ⟨S4x2064x512, .f32⟩
  | .hbm, ⟨1, _⟩ => ⟨S2064x6160, .f32⟩
  | .hbm, ⟨2, _⟩ => ⟨S512, .f32⟩
  | .hbm, ⟨3, _⟩ => ⟨S2064x2048, .f32⟩
  | .hbm, ⟨4, _⟩ => ⟨S2064x1024, .f32⟩
  | .hbm, ⟨5, _⟩ => ⟨S2064x1024, .f32⟩
  | .hbm, ⟨6, _⟩ => ⟨S2064x2048, .f32⟩
  | .hbm, ⟨7, _⟩ => ⟨S2064x16, .f32⟩
  | .hbm, ⟨8, _⟩ => ⟨S2064x2048, .f32⟩
  | .hbm, ⟨9, _⟩ => ⟨S4x2064x512, .f32⟩
  | .hbm, ⟨10, _⟩ => ⟨S_, .f32⟩
  | .hbm, ⟨11, _⟩ => ⟨S4x2064, .f32⟩
  | .hbm, ⟨12, _⟩ => ⟨S4x2064x1, .f32⟩
  | .hbm, ⟨13, _⟩ => ⟨S_, .f32⟩
  | .hbm, ⟨14, _⟩ => ⟨S4x2064x1, .f32⟩
  | .hbm, ⟨15, _⟩ => ⟨S4x2064x1, .f32⟩
  | .hbm, ⟨16, _⟩ => ⟨S_, .f32⟩
  | .hbm, ⟨17, _⟩ => ⟨S4x2064x1, .f32⟩
  | .hbm, ⟨18, _⟩ => ⟨S4x2064x1, .f32⟩
  | .hbm, ⟨19, _⟩ => ⟨S4x2064x1, .f32⟩
  | .hbm, ⟨20, _⟩ => ⟨S4x2064x1, .f32⟩
  | .hbm, ⟨21, _⟩ => ⟨S_, .f32⟩
  | .hbm, ⟨22, _⟩ => ⟨S4x2064x1, .f32⟩
  | .hbm, ⟨23, _⟩ => ⟨S4x2064x1, .f32⟩
  | .hbm, ⟨24, _⟩ => ⟨S4x2064x512, .f32⟩
  | .hbm, ⟨25, _⟩ => ⟨S4x2064x512, .f32⟩
  | .hbm, ⟨26, _⟩ => ⟨S1x1x512, .f32⟩
  | .hbm, ⟨27, _⟩ => ⟨S4x2064x512, .f32⟩
  | .hbm, ⟨28, _⟩ => ⟨S4x2064x512, .f32⟩
  | .hbm, ⟨29, _⟩ => ⟨S2064x4x512, .f32⟩
  | .hbm, ⟨30, _⟩ => ⟨S2064x2048, .f32⟩
  | .hbm, ⟨31, _⟩ => ⟨S2064x2048, .f32⟩
  | .hbm, ⟨32, _⟩ => ⟨S2064x2048, .f32⟩
  | .hbm, ⟨33, _⟩ => ⟨S_, .f32⟩
  | .hbm, ⟨34, _⟩ => ⟨S2064x2048, .f32⟩
  | .hbm, ⟨35, _⟩ => ⟨S2064x2048, .f32⟩
  | .hbm, ⟨36, _⟩ => ⟨S_, .f32⟩
  | .hbm, ⟨37, _⟩ => ⟨S2064x2048, .f32⟩
  | .hbm, ⟨38, _⟩ => ⟨S2064x2048, .f32⟩
  | .hbm, ⟨39, _⟩ => ⟨S_, .f32⟩
  | .hbm, ⟨40, _⟩ => ⟨S2064x2048, .f32⟩
  | .hbm, ⟨41, _⟩ => ⟨S2064x2048, .f32⟩
  | .hbm, ⟨42, _⟩ => ⟨S2064x2048, .f32⟩
  | .hbm, ⟨43, _⟩ => ⟨S2064x2048, .f32⟩
  | .hbm, ⟨44, _⟩ => ⟨S2064x2048, .f32⟩
  | .hbm, ⟨45, _⟩ => ⟨S2064x2048, .f32⟩
  | .hbm, ⟨46, _⟩ => ⟨S2064x2048, .f32⟩
  | .hbm, ⟨47, _⟩ => ⟨S2064x2048, .f32⟩
  | .hbm, ⟨48, _⟩ => ⟨S2064x2048, .f32⟩
  | .hbm, ⟨49, _⟩ => ⟨S2064x2048, .f32⟩
  | .hbm, ⟨50, _⟩ => ⟨S2064x2048, .f32⟩
  | .hbm, ⟨51, _⟩ => ⟨S2064x4x512, .f32⟩
  | .hbm, ⟨52, _⟩ => ⟨S4x2064x512, .f32⟩
  | .hbm, ⟨53, _⟩ => ⟨S4x2064x512, .f32⟩
  | .hbm, ⟨54, _⟩ => ⟨S_, .f32⟩
  | .hbm, ⟨55, _⟩ => ⟨S512, .f32⟩
  | .hbm, ⟨56, _⟩ => ⟨S1x1x512, .f32⟩
  | .hbm, ⟨57, _⟩ => ⟨S4x2064x512, .f32⟩
  | .hbm, ⟨58, _⟩ => ⟨S4x2064x512, .f32⟩
  | .hbm, ⟨59, _⟩ => ⟨S_, .f32⟩
  | .hbm, ⟨60, _⟩ => ⟨S512, .f32⟩
  | .hbm, ⟨61, _⟩ => ⟨S4x2064x512, .f32⟩
  | .hbm, ⟨62, _⟩ => ⟨S_, .f32⟩
  | .hbm, ⟨63, _⟩ => ⟨S4x2064, .f32⟩
  | .hbm, ⟨64, _⟩ => ⟨S4x2064x1, .f32⟩
  | .hbm, ⟨65, _⟩ => ⟨S4x2064x512, .f32⟩
  | .hbm, ⟨66, _⟩ => ⟨S4x2064x512, .f32⟩
  | .hbm, ⟨67, _⟩ => ⟨S4x2064x1, .f32⟩
  | .hbm, ⟨68, _⟩ => ⟨S_, .f32⟩
  | .hbm, ⟨69, _⟩ => ⟨S4x2064x1, .f32⟩
  | .hbm, ⟨70, _⟩ => ⟨S4x2064x1, .f32⟩
  | .hbm, ⟨71, _⟩ => ⟨S_, .f32⟩
  | .hbm, ⟨72, _⟩ => ⟨S4x2064, .f32⟩
  | .hbm, ⟨73, _⟩ => ⟨S4x2064x512, .f32⟩
  | .hbm, ⟨74, _⟩ => ⟨S4x2064x512, .f32⟩
  | .hbm, ⟨75, _⟩ => ⟨S4x2064x512, .f32⟩
  | .hbm, ⟨76, _⟩ => ⟨S4x2064x512, .f32⟩
  | .hbm, ⟨77, _⟩ => ⟨S4x2064x512, .f32⟩
  | .hbm, ⟨78, _⟩ => ⟨S_, .f32⟩
  | .hbm, ⟨79, _⟩ => ⟨S2064x1024, .f32⟩
  | .hbm, ⟨80, _⟩ => ⟨S_, .f32⟩
  | .hbm, ⟨81, _⟩ => ⟨S2064x1024, .f32⟩
  | .hbm, ⟨82, _⟩ => ⟨S_, .f32⟩
  | .hbm, ⟨83, _⟩ => ⟨S2064x2048, .f32⟩
  | .hbm, ⟨84, _⟩ => ⟨S_, .f32⟩
  | .hbm, ⟨85, _⟩ => ⟨S2064x16, .f32⟩
  | .hbm, ⟨86, _⟩ => ⟨S2064x6160, .f32⟩
  | .hbm, ⟨87, _⟩ => ⟨S_, .f32⟩
  | .hbm, ⟨88, _⟩ => ⟨S48x2048, .f32⟩
  | .hbm, ⟨89, _⟩ => ⟨S2064x4x512, .f32⟩
  | .hbm, ⟨90, _⟩ => ⟨S2064x2048, .f32⟩
  | .hbm, ⟨91, _⟩ => ⟨S2112x2048, .f32⟩
  | .hbm, ⟨92, _⟩ => ⟨S2064x2048, .f32⟩
  | .hbm, ⟨93, _⟩ => ⟨S2112x2048, .f32⟩
  | .hbm, ⟨94, _⟩ => ⟨S2112x2048, .bf16⟩
  | .hbm, ⟨95, _⟩ => ⟨S1x512, .f32⟩
  | _, _ => ⟨S4x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]
-- ==== WindowKernel.lean ====
abbrev S2064x2048 : Shape := ⟨2, ![2064, 2048]⟩
abbrev S2064x4x512 : Shape := ⟨3, ![2064, 4, 512]⟩
abbrev S_ : Shape := ⟨0, ![]⟩
abbrev S48x2048 : Shape := ⟨2, ![48, 2048]⟩
abbrev S2112x2048 : Shape := ⟨2, ![2112, 2048]⟩
abbrev S2112x128 : Shape := ⟨2, ![2112, 128]⟩
abbrev S2112x1 : Shape := ⟨2, ![2112, 1]⟩

abbrev nBuf : Space → Nat
  | .hbm => 7
  | .vmem => 4
  | .smem => 0
  | _ => 0

abbrev bufTy : (tb : Table) → Fin (tcTables nBuf tb) → BufTy
  | .hbm, ⟨0, _⟩ => ⟨S2064x2048, .f32⟩
  | .hbm, ⟨1, _⟩ => ⟨S2064x4x512, .f32⟩
  | .hbm, ⟨2, _⟩ => ⟨S2064x2048, .f32⟩
  | .hbm, ⟨3, _⟩ => ⟨S_, .f32⟩
  | .hbm, ⟨4, _⟩ => ⟨S48x2048, .f32⟩
  | .hbm, ⟨5, _⟩ => ⟨S2112x2048, .f32⟩
  | .hbm, ⟨6, _⟩ => ⟨S2112x2048, .f32⟩
  | .local _ .vmem, ⟨0, _⟩ => ⟨S2112x128, .f32⟩
  | .local _ .vmem, ⟨1, _⟩ => ⟨S2112x128, .f32⟩
  | .local _ .vmem, ⟨2, _⟩ => ⟨S2112x128, .f32⟩
  | .local _ .vmem, ⟨3, _⟩ => ⟨S2112x128, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WindowReferenceIdeal.lean ====
abbrev S2064x2048 : Shape := ⟨2, ![2064, 2048]⟩
abbrev S2064x4x512 : Shape := ⟨3, ![2064, 4, 512]⟩
abbrev S_ : Shape := ⟨0, ![]⟩
abbrev S2064 : Shape := ⟨1, ![2064]⟩
abbrev S2064x1x512 : Shape := ⟨3, ![2064, 1, 512]⟩
abbrev S2064x512 : Shape := ⟨2, ![2064, 512]⟩
abbrev S2x512 : Shape := ⟨2, ![2, 512]⟩
abbrev S2066x512 : Shape := ⟨2, ![2066, 512]⟩
abbrev S2064x1 : Shape := ⟨2, ![2064, 1]⟩
abbrev S4x512 : Shape := ⟨2, ![4, 512]⟩
abbrev S2068x512 : Shape := ⟨2, ![2068, 512]⟩
abbrev S8x512 : Shape := ⟨2, ![8, 512]⟩
abbrev S2072x512 : Shape := ⟨2, ![2072, 512]⟩
abbrev S16x512 : Shape := ⟨2, ![16, 512]⟩
abbrev S2080x512 : Shape := ⟨2, ![2080, 512]⟩
abbrev S48x2048 : Shape := ⟨2, ![48, 2048]⟩
abbrev S2112x2048 : Shape := ⟨2, ![2112, 2048]⟩

abbrev nBuf : Space → Nat
  | .hbm => 182
  | .vmem => 0
  | .smem => 0
  | _ => 0

abbrev hbmTy0_0 (i : Nat) : BufTy := match i % 128 with
  | 0 => ⟨S2064x2048, .f32⟩
  | 1 => ⟨S2064x4x512, .f32⟩
  | 2 => ⟨S2064x4x512, .f32⟩
  | 3 => ⟨S_, .f32⟩
  | 4 => ⟨S_, .f32⟩
  | 5 => ⟨S2064x4x512, .f32⟩
  | 6 => ⟨S2064, .i32⟩
  | 7 => ⟨S2064x1x512, .f32⟩
  | 8 => ⟨S2064x512, .f32⟩
  | 9 => ⟨S_, .f32⟩
  | 10 => ⟨S2x512, .f32⟩
  | 11 => ⟨S2066x512, .f32⟩
  | 12 => ⟨S_, .f32⟩
  | 13 => ⟨S2x512, .f32⟩
  | 14 => ⟨S2064x512, .f32⟩
  | 15 => ⟨S_, .i32⟩
  | 16 => ⟨S2064, .i32⟩
  | 17 => ⟨S2064, .i32⟩
  | 18 => ⟨S_, .i32⟩
  | 19 => ⟨S2064, .i32⟩
  | 20 => ⟨S2064, .i32⟩
  | 21 => ⟨S2064, .f32⟩
  | 22 => ⟨S2064x1, .f32⟩
  | 23 => ⟨S2064x512, .f32⟩
  | 24 => ⟨S2064x512, .f32⟩
  | 25 => ⟨S2064x512, .f32⟩
  | 26 => ⟨S2064x1x512, .f32⟩
  | 27 => ⟨S2064x512, .f32⟩
  | 28 => ⟨S2064x512, .f32⟩
  | 29 => ⟨S2064x1x512, .f32⟩
  | 30 => ⟨S2064x512, .f32⟩
  | 31 => ⟨S_, .f32⟩
  | 32 => ⟨S4x512, .f32⟩
  | 33 => ⟨S2068x512, .f32⟩
  | 34 => ⟨S_, .f32⟩
  | 35 => ⟨S4x512, .f32⟩
  | 36 => ⟨S2064x512, .f32⟩
  | 37 => ⟨S_, .i32⟩
  | 38 => ⟨S2064, .i32⟩
  | 39 => ⟨S2064, .i32⟩
  | 40 => ⟨S_, .i32⟩
  | 41 => ⟨S2064, .i32⟩
  | 42 => ⟨S2064, .i32⟩
  | 43 => ⟨S2064, .f32⟩
  | 44 => ⟨S2064x1, .f32⟩
  | 45 => ⟨S2064x512, .f32⟩
  | 46 => ⟨S2064x512, .f32⟩
  | 47 => ⟨S2064x512, .f32⟩
  | 48 => ⟨S2064x1x512, .f32⟩
  | 49 => ⟨S2064x512, .f32⟩
  | 50 => ⟨S2064x512, .f32⟩
  | 51 => ⟨S2064x1x512, .f32⟩
  | 52 => ⟨S2064x512, .f32⟩
  | 53 => ⟨S_, .f32⟩
  | 54 => ⟨S8x512, .f32⟩
  | 55 => ⟨S2072x512, .f32⟩
  | 56 => ⟨S_, .f32⟩
  | 57 => ⟨S8x512, .f32⟩
  | 58 => ⟨S2064x512, .f32⟩
  | 59 => ⟨S_, .i32⟩
  | 60 => ⟨S2064, .i32⟩
  | 61 => ⟨S2064, .i32⟩
  | 62 => ⟨S_, .i32⟩
  | 63 => ⟨S2064, .i32⟩
  | 64 => ⟨S2064, .i32⟩
  | 65 => ⟨S2064, .f32⟩
  | 66 => ⟨S2064x1, .f32⟩
  | 67 => ⟨S2064x512, .f32⟩
  | 68 => ⟨S2064x512, .f32⟩
  | 69 => ⟨S2064x512, .f32⟩
  | 70 => ⟨S2064x1x512, .f32⟩
  | 71 => ⟨S2064x512, .f32⟩
  | 72 => ⟨S2064x512, .f32⟩
  | 73 => ⟨S2064x1x512, .f32⟩
  | 74 => ⟨S2064x512, .f32⟩
  | 75 => ⟨S_, .f32⟩
  | 76 => ⟨S16x512, .f32⟩
  | 77 => ⟨S2080x512, .f32⟩
  | 78 => ⟨S_, .f32⟩
  | 79 => ⟨S16x512, .f32⟩
  | 80 => ⟨S2064x512, .f32⟩
  | 81 => ⟨S_, .i32⟩
  | 82 => ⟨S2064, .i32⟩
  | 83 => ⟨S2064, .i32⟩
  | 84 => ⟨S_, .i32⟩
  | 85 => ⟨S2064, .i32⟩
  | 86 => ⟨S2064, .i32⟩
  | 87 => ⟨S2064, .f32⟩
  | 88 => ⟨S2064x1, .f32⟩
  | 89 => ⟨S2064x512, .f32⟩
  | 90 => ⟨S2064x512, .f32⟩
  | 91 => ⟨S2064x512, .f32⟩
  | 92 => ⟨S2064x1x512, .f32⟩
  | 93 => ⟨S2064x512, .f32⟩
  | 94 => ⟨S2064x512, .f32⟩
  | 95 => ⟨S2064x1x512, .f32⟩
  | 96 => ⟨S2064x1x512, .f32⟩
  | 97 => ⟨S2064x1x512, .f32⟩
  | 98 => ⟨S2064x1x512, .f32⟩
  | 99 => ⟨S2064x4x512, .f32⟩
  | 100 => ⟨S2064x1x512, .f32⟩
  | 101 => ⟨S2064x512, .f32⟩
  | 102 => ⟨S2064x1x512, .f32⟩
  | 103 => ⟨S2064x512, .f32⟩
  | 104 => ⟨S2064x1x512, .f32⟩
  | 105 => ⟨S2064x512, .f32⟩
  | 106 => ⟨S2064x1x512, .f32⟩
  | 107 => ⟨S2064x512, .f32⟩
  | 108 => ⟨S2064x512, .f32⟩
  | 109 => ⟨S2064x1x512, .f32⟩
  | 110 => ⟨S_, .f32⟩
  | 111 => ⟨S2064x4x512, .f32⟩
  | 112 => ⟨S2064x512, .f32⟩
  | 113 => ⟨S2064x512, .f32⟩
  | 114 => ⟨S2064x512, .f32⟩
  | 115 => ⟨S_, .f32⟩
  | 116 => ⟨S2080x512, .f32⟩
  | 117 => ⟨S16x512, .f32⟩
  | 118 => ⟨S2064x512, .f32⟩
  | 119 => ⟨S2064x512, .f32⟩
  | 120 => ⟨S2064x1x512, .f32⟩
  | 121 => ⟨S_, .f32⟩
  | 122 => ⟨S2064x4x512, .f32⟩
  | 123 => ⟨S2064x512, .f32⟩
  | 124 => ⟨S2064x1x512, .f32⟩
  | 125 => ⟨S_, .f32⟩
  | 126 => ⟨S2064x4x512, .f32⟩
  | 127 => ⟨S2064x4x512, .f32⟩
  | _ => ⟨S2064x2048, .f32⟩

abbrev hbmTy0_1 (i : Nat) : BufTy := match i % 128 with
  | 0 => ⟨S2064x512, .f32⟩
  | 1 => ⟨S2064x512, .f32⟩
  | 2 => ⟨S2064x512, .f32⟩
  | 3 => ⟨S_, .f32⟩
  | 4 => ⟨S2072x512, .f32⟩
  | 5 => ⟨S8x512, .f32⟩
  | 6 => ⟨S2064x512, .f32⟩
  | 7 => ⟨S2064x512, .f32⟩
  | 8 => ⟨S2064x1x512, .f32⟩
  | 9 => ⟨S_, .f32⟩
  | 10 => ⟨S2064x4x512, .f32⟩
  | 11 => ⟨S2064x4x512, .f32⟩
  | 12 => ⟨S2064x512, .f32⟩
  | 13 => ⟨S2064x1x512, .f32⟩
  | 14 => ⟨S_, .f32⟩
  | 15 => ⟨S2064x4x512, .f32⟩
  | 16 => ⟨S2064x4x512, .f32⟩
  | 17 => ⟨S2064x512, .f32⟩
  | 18 => ⟨S2064x512, .f32⟩
  | 19 => ⟨S2064x512, .f32⟩
  | 20 => ⟨S_, .f32⟩
  | 21 => ⟨S2068x512, .f32⟩
  | 22 => ⟨S4x512, .f32⟩
  | 23 => ⟨S2064x512, .f32⟩
  | 24 => ⟨S2064x512, .f32⟩
  | 25 => ⟨S2064x1x512, .f32⟩
  | 26 => ⟨S_, .f32⟩
  | 27 => ⟨S2064x4x512, .f32⟩
  | 28 => ⟨S2064x4x512, .f32⟩
  | 29 => ⟨S2064x512, .f32⟩
  | 30 => ⟨S2064x1x512, .f32⟩
  | 31 => ⟨S_, .f32⟩
  | 32 => ⟨S2064x4x512, .f32⟩
  | 33 => ⟨S2064x4x512, .f32⟩
  | 34 => ⟨S2064x512, .f32⟩
  | 35 => ⟨S2064x512, .f32⟩
  | 36 => ⟨S2064x512, .f32⟩
  | 37 => ⟨S_, .f32⟩
  | 38 => ⟨S2066x512, .f32⟩
  | 39 => ⟨S2x512, .f32⟩
  | 40 => ⟨S2064x512, .f32⟩
  | 41 => ⟨S2064x512, .f32⟩
  | 42 => ⟨S2064x1x512, .f32⟩
  | 43 => ⟨S_, .f32⟩
  | 44 => ⟨S2064x4x512, .f32⟩
  | 45 => ⟨S2064x4x512, .f32⟩
  | 46 => ⟨S_, .f32⟩
  | 47 => ⟨S_, .f32⟩
  | 48 => ⟨S2064x4x512, .f32⟩
  | 49 => ⟨S2064x4x512, .f32⟩
  | 50 => ⟨S2064x2048, .f32⟩
  | 51 => ⟨S_, .f32⟩
  | 52 => ⟨S48x2048, .f32⟩
  | 53 => ⟨S2112x2048, .f32⟩
  | _ => ⟨S2064x2048, .f32⟩

abbrev hbmTy (i : Nat) : BufTy := match i / 128 with
  | 0 => hbmTy0_0 i
  | 1 => hbmTy0_1 i
  | _ => ⟨S2064x2048, .f32⟩

abbrev bufTy : (tb : Table) → Fin (tcTables nBuf tb) → BufTy
  | .hbm, ⟨i, _⟩ => hbmTy i
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_c_12 : Ref sig .tc := ⟨.hbm, 81, rfl⟩
abbrev main_v63 : Ref sig .tc := ⟨.hbm, 82, rfl⟩
abbrev main_v64 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_14 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_15 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_16 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_17 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_18 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_19 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_20 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_21 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_22 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_23 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_24 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_25 : Ref sig .tc := ⟨.hbm, 171, rfl⟩
abbrev main_v140 : Ref sig .tc := ⟨.hbm, 172, rfl⟩
abbrev main_v141 : Ref sig .tc := ⟨.hbm, 173, rfl⟩
abbrev main_call1_call0_cst : Ref sig .tc := ⟨.hbm, 174, rfl⟩
abbrev main_call1_call0_v0 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_26 : Ref sig .tc := ⟨.hbm, 179, rfl⟩
abbrev main_v145 : Ref sig .tc := ⟨.hbm, 180, rfl⟩
abbrev main_v146 : Ref sig .tc := ⟨.hbm, 181, rfl⟩

abbrev nD : Nat := 1
abbrev τ : Topo := Topo.v7x

variable {F : FTy → Type} [FloatOps F]
-- ==== LossKernel.lean ====
abbrev S2064x2048 : Shape := ⟨2, ![2064, 2048]⟩
abbrev S2048 : Shape := ⟨1, ![2048]⟩
abbrev S2048x2048 : Shape := ⟨2, ![2048, 2048]⟩
abbrev S_ : Shape := ⟨0, ![]⟩
abbrev S64x2048 : Shape := ⟨2, ![64, 2048]⟩
abbrev S2112x2048 : Shape := ⟨2, ![2112, 2048]⟩
abbrev S48x2048 : Shape := ⟨2, ![48, 2048]⟩
abbrev S1x2048 : Shape := ⟨2, ![1, 2048]⟩
abbrev S1x1 : Shape := ⟨2, ![1, 1]⟩
abbrev S352x2048 : Shape := ⟨2, ![352, 2048]⟩
abbrev S352x1 : Shape := ⟨2, ![352, 1]⟩
abbrev S352 : Shape := ⟨1, ![352]⟩
abbrev S1 : Shape := ⟨1, ![1]⟩

abbrev nBuf : Space → Nat
  | .hbm => 14
  | .vmem => 11
  | .smem => 0
  | _ => 0

abbrev bufTy : (tb : Table) → Fin (tcTables nBuf tb) → BufTy
  | .hbm, ⟨0, _⟩ => ⟨S2064x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S64x2048, .f32⟩
  | .hbm, ⟨5, _⟩ => ⟨S2112x2048, .f32⟩
  | .hbm, ⟨6, _⟩ => ⟨S_, .f32⟩
  | .hbm, ⟨7, _⟩ => ⟨S48x2048, .f32⟩
  | .hbm, ⟨8, _⟩ => ⟨S2112x2048, .f32⟩
  | .hbm, ⟨9, _⟩ => ⟨S1x2048, .f32⟩
  | .hbm, ⟨10, _⟩ => ⟨S1x1, .f32⟩
  | .hbm, ⟨11, _⟩ => ⟨S2112x2048, .f32⟩
  | .hbm, ⟨12, _⟩ => ⟨S1x2048, .f32⟩
  | .hbm, ⟨13, _⟩ => ⟨S2112x2048, .bf16⟩
  | .local _ .vmem, ⟨0, _⟩ => ⟨S352x2048, .f32⟩
  | .local _ .vmem, ⟨1, _⟩ => ⟨S352x2048, .f32⟩
  | .local _ .vmem, ⟨2, _⟩ => ⟨S1x2048, .f32⟩
  | .local _ .vmem, ⟨3, _⟩ => ⟨S352x2048, .f32⟩
  | .local _ .vmem, ⟨4, _⟩ => ⟨S352x2048, .f32⟩
  | .local _ .vmem, ⟨5, _⟩ => ⟨S1x1, .f32⟩
  | .local _ .vmem, ⟨6, _⟩ => ⟨S352x2048, .f32⟩
  | .local _ .vmem, ⟨7, _⟩ => ⟨S352x2048, .f32⟩
  | .local _ .vmem, ⟨8, _⟩ => ⟨S1x2048, .f32⟩
  | .local _ .vmem, ⟨9, _⟩ => ⟨S352x2048, .bf16⟩
  | .local _ .vmem, ⟨10, _⟩ => ⟨S352x2048, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossReferenceIdeal.lean ====
abbrev S2064x2048 : Shape := ⟨2, ![2064, 2048]⟩
abbrev S2048 : Shape := ⟨1, ![2048]⟩
abbrev S2048x2048 : Shape := ⟨2, ![2048, 2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩
abbrev S48x2048 : Shape := ⟨2, ![48, 2048]⟩
abbrev S2112x2048 : Shape := ⟨2, ![2112, 2048]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048, .f32⟩
  | .hbm, ⟨2, _⟩ => ⟨S2048x2048, .f32⟩
  | .hbm, ⟨3, _⟩ => ⟨S2064x2048, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x2048, .f32⟩
  | .hbm, ⟨19, _⟩ => ⟨S2064x2048, .f32⟩
  | .hbm, ⟨20, _⟩ => ⟨S1x2048, .f32⟩
  | .hbm, ⟨21, _⟩ => ⟨S2064x2048, .f32⟩
  | .hbm, ⟨22, _⟩ => ⟨S2064x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2064x2048, .f32⟩
  | .hbm, ⟨49, _⟩ => ⟨S2064x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2064x2048, .f32⟩
  | .hbm, ⟨54, _⟩ => ⟨S2064x2048, .f32⟩
  | .hbm, ⟨55, _⟩ => ⟨S_, .f32⟩
  | .hbm, ⟨56, _⟩ => ⟨S2048, .f32⟩
  | .hbm, ⟨57, _⟩ => ⟨S2064x2048, .f32⟩
  | .hbm, ⟨58, _⟩ => ⟨S_, .f32⟩
  | .hbm, ⟨59, _⟩ => ⟨S2064, .f32⟩
  | .hbm, ⟨60, _⟩ => ⟨S2064x1, .f32⟩
  | .hbm, ⟨61, _⟩ => ⟨S2064x2048, .f32⟩
  | .hbm, ⟨62, _⟩ => ⟨S2064x2048, .f32⟩
  | .hbm, ⟨63, _⟩ => ⟨S2064x1, .f32⟩
  | .hbm, ⟨64, _⟩ => ⟨S_, .f32⟩
  | .hbm, ⟨65, _⟩ => ⟨S2064x1, .f32⟩
  | .hbm, ⟨66, _⟩ => ⟨S2064x1, .f32⟩
  | .hbm, ⟨67, _⟩ => ⟨S_, .f32⟩
  | .hbm, ⟨68, _⟩ => ⟨S2064, .f32⟩
  | .hbm, ⟨69, _⟩ => ⟨S2064x2048, .f32⟩
  | .hbm, ⟨70, _⟩ => ⟨S2064x2048, .f32⟩
  | .hbm, ⟨71, _⟩ => ⟨S2064x2048, .f32⟩
  | .hbm, ⟨72, _⟩ => ⟨S2064x2048, .f32⟩
  | .hbm, ⟨73, _⟩ => ⟨S2064x2048, .f32⟩
  | .hbm, ⟨74, _⟩ => ⟨S_, .f32⟩
  | .hbm, ⟨75, _⟩ => ⟨S48x2048, .f32⟩
  | .hbm, ⟨76, _⟩ => ⟨S2112x2048, .f32⟩
  | .hbm, ⟨77, _⟩ => ⟨S1x1, .f32⟩
  | .hbm, ⟨78, _⟩ => ⟨S1x2048, .f32⟩
  | .hbm, ⟨79, _⟩ => ⟨S_, .f32⟩
  | .hbm, ⟨80, _⟩ => ⟨S2112x2048, .f32⟩
  | .hbm, ⟨81, _⟩ => ⟨S2112x2048, .f32⟩
  | .hbm, ⟨82, _⟩ => ⟨S2112x2048, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_18 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== ActKernel.lean ====
abbrev S2064x5632 : Shape := ⟨2, ![2064, 5632]⟩
abbrev S5632x2048 : Shape := ⟨2, ![5632, 2048]⟩
abbrev S2064x2048 : Shape := ⟨2, ![2064, 2048]⟩
abbrev S_ : Shape := ⟨0, ![]⟩
abbrev S48x5632 : Shape := ⟨2, ![48, 5632]⟩
abbrev S2112x5632 : Shape := ⟨2, ![2112, 5632]⟩
abbrev S48x2048 : Shape := ⟨2, ![48, 2048]⟩
abbrev S2112x2048 : Shape := ⟨2, ![2112, 2048]⟩
abbrev S704x2048 : Shape := ⟨2, ![704, 2048]⟩
abbrev S1408x2048 : Shape := ⟨2, ![1408, 2048]⟩
abbrev S704x1408 : Shape := ⟨2, ![704, 1408]⟩
abbrev S256x2048 : Shape := ⟨2, ![256, 2048]⟩
abbrev S704x256 : Shape := ⟨2, ![704, 256]⟩
abbrev S128x2048 : Shape := ⟨2, ![128, 2048]⟩
abbrev S704x128 : Shape := ⟨2, ![704, 128]⟩

abbrev nBuf : Space → Nat
  | .hbm => 40
  | .vmem => 14
  | .smem => 0
  | _ => 0

abbrev bufTy : (tb : Table) → Fin (tcTables nBuf tb) → BufTy
  | .hbm, ⟨0, _⟩ => ⟨S2064x5632, .f32⟩
  | .hbm, ⟨1, _⟩ => ⟨S2064x5632, .f32⟩
  | .hbm, ⟨2, _⟩ => ⟨S5632x2048, .f32⟩
  | .hbm, ⟨3, _⟩ => ⟨S2064x2048, .f32⟩
  | .hbm, ⟨4, _⟩ => ⟨S_, .f32⟩
  | .hbm, ⟨5, _⟩ => ⟨S48x5632, .f32⟩
  | .hbm, ⟨6, _⟩ => ⟨S2112x5632, .f32⟩
  | .hbm, ⟨7, _⟩ => ⟨S_, .f32⟩
  | .hbm, ⟨8, _⟩ => ⟨S48x5632, .f32⟩
  | .hbm, ⟨9, _⟩ => ⟨S2112x5632, .f32⟩
  | .hbm, ⟨10, _⟩ => ⟨S2112x5632, .f32⟩
  | .hbm, ⟨11, _⟩ => ⟨S2112x5632, .f32⟩
  | .hbm, ⟨12, _⟩ => ⟨S_, .f32⟩
  | .hbm, ⟨13, _⟩ => ⟨S2112x5632, .f32⟩
  | .hbm, ⟨14, _⟩ => ⟨S2112x5632, .f32⟩
  | .hbm, ⟨15, _⟩ => ⟨S_, .f32⟩
  | .hbm, ⟨16, _⟩ => ⟨S2112x5632, .f32⟩
  | .hbm, ⟨17, _⟩ => ⟨S2112x5632, .f32⟩
  | .hbm, ⟨18, _⟩ => ⟨S2112x5632, .f32⟩
  | .hbm, ⟨19, _⟩ => ⟨S_, .f32⟩
  | .hbm, ⟨20, _⟩ => ⟨S2112x5632, .f32⟩
  | .hbm, ⟨21, _⟩ => ⟨S2112x5632, .f32⟩
  | .hbm, ⟨22, _⟩ => ⟨S2112x5632, .f32⟩
  | .hbm, ⟨23, _⟩ => ⟨S_, .f32⟩
  | .hbm, ⟨24, _⟩ => ⟨S2112x5632, .f32⟩
  | .hbm, ⟨25, _⟩ => ⟨S2112x5632, .f32⟩
  | .hbm, ⟨26, _⟩ => ⟨S2112x5632, .f32⟩
  | .hbm, ⟨27, _⟩ => ⟨S_, .f32⟩
  | .hbm, ⟨28, _⟩ => ⟨S48x2048, .f32⟩
  | .hbm, ⟨29, _⟩ => ⟨S2112x2048, .f32⟩
  | .hbm, ⟨30, _⟩ => ⟨S_, .f32⟩
  | .hbm, ⟨31, _⟩ => ⟨S2112x2048, .f32⟩
  | .hbm, ⟨32, _⟩ => ⟨S2112x2048, .f32⟩
  | .hbm, ⟨33, _⟩ => ⟨S2112x2048, .bf16⟩
  | .hbm, ⟨34, _⟩ => ⟨S5632x2048, .bf16⟩
  | .hbm, ⟨35, _⟩ => ⟨S2112x5632, .bf16⟩
  | .hbm, ⟨36, _⟩ => ⟨S2112x5632, .bf16⟩
  | .hbm, ⟨37, _⟩ => ⟨S2112x5632, .bf16⟩
  | .hbm, ⟨38, _⟩ => ⟨S2112x5632, .bf16⟩
  | .hbm, ⟨39, _⟩ => ⟨S2112x5632, .bf16⟩
  | .local _ .vmem, ⟨0, _⟩ => ⟨S704x2048, .bf16⟩
  | .local _ .vmem, ⟨1, _⟩ => ⟨S704x2048, .bf16⟩
  | .local _ .vmem, ⟨2, _⟩ => ⟨S1408x2048, .bf16⟩
  | .local _ .vmem, ⟨3, _⟩ => ⟨S1408x2048, .bf16⟩
  | .local _ .vmem, ⟨4, _⟩ => ⟨S704x1408, .bf16⟩
  | .local _ .vmem, ⟨5, _⟩ => ⟨S704x1408, .bf16⟩
  | .local _ .vmem, ⟨6, _⟩ => ⟨S704x1408, .bf16⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | .local _ .vmem, ⟨12, _⟩ => ⟨S704x1408, .bf16⟩
  | .local _ .vmem, ⟨13, _⟩ => ⟨S704x1408, .bf16⟩
  | _, _ => ⟨S2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ActReferenceIdeal.lean ====
abbrev S2064x5632 : Shape := ⟨2, ![2064, 5632]⟩
abbrev S5632x2048 : Shape := ⟨2, ![5632, 2048]⟩
abbrev S2064x2048 : Shape := ⟨2, ![2064, 2048]⟩
abbrev S_ : Shape := ⟨0, ![]⟩
abbrev S48x5632 : Shape := ⟨2, ![48, 5632]⟩
abbrev S2112x5632 : Shape := ⟨2, ![2112, 5632]⟩

abbrev nBuf : Space → Nat
  | .hbm => 38
  | .vmem => 0
  | .smem => 0
  | _ => 0

abbrev bufTy : (tb : Table) → Fin (tcTables nBuf tb) → BufTy
  | .hbm, ⟨0, _⟩ => ⟨S2064x5632, .f32⟩
  | .hbm, ⟨1, _⟩ => ⟨S2064x5632, .f32⟩
  | .hbm, ⟨2, _⟩ => ⟨S5632x2048, .f32⟩
  | .hbm, ⟨3, _⟩ => ⟨S2064x2048, .f32⟩
  | .hbm, ⟨4, _⟩ => ⟨S2064x5632, .f32⟩
  | .hbm, ⟨5, _⟩ => ⟨S2064x5632, .f32⟩
  | .hbm, ⟨6, _⟩ => ⟨S_, .f32⟩
  | .hbm, ⟨7, _⟩ => ⟨S2064x5632, .f32⟩
  | .hbm, ⟨8, _⟩ => ⟨S2064x5632, .f32⟩
  | .hbm, ⟨9, _⟩ => ⟨S_, .f32⟩
  | .hbm, ⟨10, _⟩ => ⟨S2064x5632, .f32⟩
  | .hbm, ⟨11, _⟩ => ⟨S2064x5632, .f32⟩
  | .hbm, ⟨12, _⟩ => ⟨S_, .f32⟩
  | .hbm, ⟨13, _⟩ => ⟨S2064x5632, .f32⟩
  | .hbm, ⟨14, _⟩ => ⟨S2064x5632, .f32⟩
  | .hbm, ⟨15, _⟩ => ⟨S2064x5632, .f32⟩
  | .hbm, ⟨16, _⟩ => ⟨S2064x5632, .f32⟩
  | .hbm, ⟨17, _⟩ => ⟨S2064x5632, .f32⟩
  | .hbm, ⟨18, _⟩ => ⟨S2064x2048, .f32⟩
  | .hbm, ⟨19, _⟩ => ⟨S_, .f32⟩
  | .hbm, ⟨20, _⟩ => ⟨S2064x2048, .f32⟩
  | .hbm, ⟨21, _⟩ => ⟨S2064x2048, .f32⟩
  | .hbm, ⟨22, _⟩ => ⟨S_, .f32⟩
  | .hbm, ⟨23, _⟩ => ⟨S2064x2048, .f32⟩
  | .hbm, ⟨24, _⟩ => ⟨S2064x2048, .f32⟩
  | .hbm, ⟨25, _⟩ => ⟨S2064x5632, .f32⟩
  | .hbm, ⟨26, _⟩ => ⟨S2064x5632, .f32⟩
  | .hbm, ⟨27, _⟩ => ⟨S2064x5632, .f32⟩
  | .hbm, ⟨28, _⟩ => ⟨S2064x5632, .f32⟩
  | .hbm, ⟨29, _⟩ => ⟨S2064x5632, .f32⟩
  | .hbm, ⟨30, _⟩ => ⟨S2064x5632, .f32⟩
  | .hbm, ⟨31, _⟩ => ⟨S2064x5632, .f32⟩
  | .hbm, ⟨32, _⟩ => ⟨S_, .f32⟩
  | .hbm, ⟨33, _⟩ => ⟨S48x5632, .f32⟩
  | .hbm, ⟨34, _⟩ => ⟨S2112x5632, .f32⟩
  | .hbm, ⟨35, _⟩ => ⟨S2112x5632, .f32⟩
  | .hbm, ⟨36, _⟩ => ⟨S2112x5632, .bf16⟩
  | .hbm, ⟨37, _⟩ => ⟨S2112x5632, .bf16⟩
  | _, _ => ⟨S2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩

abbrev nD : Nat := 1
abbrev τ : Topo := Topo.v7x

variable {F : FTy → Type} [FloatOps F]
-- ==== NormFwdKernel.lean ====
abbrev S2112x2048 : Shape := ⟨2, ![2112, 2048]⟩
abbrev S2048 : Shape := ⟨1, ![2048]⟩
abbrev S1x2048 : Shape := ⟨2, ![1, 2048]⟩
abbrev S2112x1 : Shape := ⟨2, ![2112, 1]⟩
abbrev S352x2048 : Shape := ⟨2, ![352, 2048]⟩
abbrev S352x1 : Shape := ⟨2, ![352, 1]⟩
abbrev S352 : Shape := ⟨1, ![352]⟩

abbrev nBuf : Space → Nat
  | .hbm => 5
  | .vmem => 7
  | .smem => 0
  | _ => 0

abbrev bufTy : (tb : Table) → Fin (tcTables nBuf tb) → BufTy
  | .hbm, ⟨0, _⟩ => ⟨S2112x2048, .f32⟩
  | .hbm, ⟨1, _⟩ => ⟨S2048, .f32⟩
  | .hbm, ⟨2, _⟩ => ⟨S1x2048, .f32⟩
  | .hbm, ⟨3, _⟩ => ⟨S2112x2048, .bf16⟩
  | .hbm, ⟨4, _⟩ => ⟨S2112x1, .f32⟩
  | .local _ .vmem, ⟨0, _⟩ => ⟨S352x2048, .f32⟩
  | .local _ .vmem, ⟨1, _⟩ => ⟨S352x2048, .f32⟩
  | .local _ .vmem, ⟨2, _⟩ => ⟨S1x2048, .f32⟩
  | .local _ .vmem, ⟨3, _⟩ => ⟨S352x2048, .bf16⟩
  | .local _ .vmem, ⟨4, _⟩ => ⟨S352x2048, .bf16⟩
  | .local _ .vmem, ⟨5, _⟩ => ⟨S352x1, .f32⟩
  | .local _ .vmem, ⟨6, _⟩ => ⟨S352x1, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdReferenceIdeal.lean ====
abbrev S2112x2048 : Shape := ⟨2, ![2112, 2048]⟩
abbrev S2048 : Shape := ⟨1, ![2048]⟩
abbrev S_ : Shape := ⟨0, ![]⟩
abbrev S2112 : Shape := ⟨1, ![2112]⟩
abbrev S2112x1 : Shape := ⟨2, ![2112, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048, .f32⟩
  | .hbm, ⟨2, _⟩ => ⟨S2112x2048, .f32⟩
  | .hbm, ⟨3, _⟩ => ⟨S_, .f32⟩
  | .hbm, ⟨4, _⟩ => ⟨S2112, .f32⟩
  | .hbm, ⟨5, _⟩ => ⟨S2112x1, .f32⟩
  | .hbm, ⟨6, _⟩ => ⟨S_, .f32⟩
  | .hbm, ⟨7, _⟩ => ⟨S2112x1, .f32⟩
  | .hbm, ⟨8, _⟩ => ⟨S2112x1, .f32⟩
  | .hbm, ⟨9, _⟩ => ⟨S_, .f32⟩
  | .hbm, ⟨10, _⟩ => ⟨S2112x1, .f32⟩
  | .hbm, ⟨11, _⟩ => ⟨S2112x1, .f32⟩
  | .hbm, ⟨12, _⟩ => ⟨S2112x1, .f32⟩
  | .hbm, ⟨13, _⟩ => ⟨S2112x2048, .f32⟩
  | .hbm, ⟨14, _⟩ => ⟨S2112x2048, .f32⟩
  | .hbm, ⟨15, _⟩ => ⟨S1x2048, .f32⟩
  | .hbm, ⟨16, _⟩ => ⟨S2112x2048, .f32⟩
  | .hbm, ⟨17, _⟩ => ⟨S2112x2048, .f32⟩
  | .hbm, ⟨18, _⟩ => ⟨S2112x2048, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PostFwdKernel.lean ====
abbrev S4x2112x512 : Shape := ⟨3, ![4, 2112, 512]⟩
abbrev S2112x6160 : Shape := ⟨2, ![2112, 6160]⟩
abbrev S512 : Shape := ⟨1, ![512]⟩
abbrev S2112x4096 : Shape := ⟨2, ![2112, 4096]⟩
abbrev S2112x2048 : Shape := ⟨2, ![2112, 2048]⟩
abbrev S2112x16 : Shape := ⟨2, ![2112, 16]⟩
abbrev S_ : Shape := ⟨0, ![]⟩
abbrev S2112x112 : Shape := ⟨2, ![2112, 112]⟩
abbrev S2112x6272 : Shape := ⟨2, ![2112, 6272]⟩
abbrev S2112x4x512 : Shape := ⟨3, ![2112, 4, 512]⟩
abbrev S1x512 : Shape := ⟨2, ![1, 512]⟩
abbrev S352x2048 : Shape := ⟨2, ![352, 2048]⟩
abbrev S352x512 : Shape := ⟨2, ![352, 512]⟩
abbrev S352 : Shape := ⟨1, ![352]⟩
abbrev S352x1 : Shape := ⟨2, ![352, 1]⟩

abbrev nBuf : Space → Nat
  | .hbm => 13
  | .vmem => 7
  | .smem => 0
  | _ => 0

abbrev bufTy : (tb : Table) → Fin (tcTables nBuf tb) → BufTy
  | .hbm, ⟨0, _⟩ => ⟨S4x2112x512, .f32⟩
  | .hbm, ⟨1, _⟩ => ⟨S2112x6160, .f32⟩
  | .hbm, ⟨2, _⟩ => ⟨S512, .f32⟩
  | .hbm, ⟨3, _⟩ => ⟨S2112x4096, .f32⟩
  | .hbm, ⟨4, _⟩ => ⟨S2112x2048, .f32⟩
  | .hbm, ⟨5, _⟩ => ⟨S2112x16, .f32⟩
  | .hbm, ⟨6, _⟩ => ⟨S_, .f32⟩
  | .hbm, ⟨7, _⟩ => ⟨S2112x112, .f32⟩
  | .hbm, ⟨8, _⟩ => ⟨S2112x6272, .f32⟩
  | .hbm, ⟨9, _⟩ => ⟨S2112x4x512, .f32⟩
  | .hbm, ⟨10, _⟩ => ⟨S2112x2048, .f32⟩
  | .hbm, ⟨11, _⟩ => ⟨S1x512, .f32⟩
  | .hbm, ⟨12, _⟩ => ⟨S2112x2048, .bf16⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S1x512, .f32⟩
  | .local _ .vmem, ⟨5, _⟩ => ⟨S352x2048, .bf16⟩
  | .local _ .vmem, ⟨6, _⟩ => ⟨S352x2048, .bf16⟩
  | _, _ => ⟨S4x2112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S352x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostFwdReferenceIdeal.lean ====
abbrev S4x2112x512 : Shape := ⟨3, ![4, 2112, 512]⟩
abbrev S2112x6160 : Shape := ⟨2, ![2112, 6160]⟩
abbrev S512 : Shape := ⟨1, ![512]⟩
abbrev S2112x1024 : Shape := ⟨2, ![2112, 1024]⟩
abbrev S2112x2048 : Shape := ⟨2, ![2112, 2048]⟩
abbrev S2112x16 : Shape := ⟨2, ![2112, 16]⟩
abbrev S_ : Shape := ⟨0, ![]⟩
abbrev S4x2112 : Shape := ⟨2, ![4, 2112]⟩
abbrev S4x2112x1 : Shape := ⟨3, ![4, 2112, 1]⟩
abbrev S1x1x512 : Shape := ⟨3, ![1, 1, 512]⟩
abbrev S2112x4x512 : Shape := ⟨3, ![2112, 4, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x2112x512, .f32⟩
  | .hbm, ⟨1, _⟩ => ⟨S2112x6160, .f32⟩
  | .hbm, ⟨2, _⟩ => ⟨S512, .f32⟩
  | .hbm, ⟨3, _⟩ => ⟨S2112x1024, .f32⟩
  | .hbm, ⟨4, _⟩ => ⟨S2112x1024, .f32⟩
  | .hbm, ⟨5, _⟩ => ⟨S2112x2048, .f32⟩
  | .hbm, ⟨6, _⟩ => ⟨S2112x16, .f32⟩
  | .hbm, ⟨7, _⟩ => ⟨S2112x2048, .f32⟩
  | .hbm, ⟨8, _⟩ => ⟨S4x2112x512, .f32⟩
  | .hbm, ⟨9, _⟩ => ⟨S_, .f32⟩
  | .hbm, ⟨10, _⟩ => ⟨S4x2112, .f32⟩
  | .hbm, ⟨11, _⟩ => ⟨S4x2112x1, .f32⟩
  | .hbm, ⟨12, _⟩ => ⟨S_, .f32⟩
  | .hbm, ⟨13, _⟩ => ⟨S4x2112x1, .f32⟩
  | .hbm, ⟨14, _⟩ => ⟨S4x2112x1, .f32⟩
  | .hbm, ⟨15, _⟩ => ⟨S_, .f32⟩
  | .hbm, ⟨16, _⟩ => ⟨S4x2112x1, .f32⟩
  | .hbm, ⟨17, _⟩ => ⟨S4x2112x1, .f32⟩
  | .hbm, ⟨18, _⟩ => ⟨S4x2112x1, .f32⟩
  | .hbm, ⟨19, _⟩ => ⟨S4x2112x512, .f32⟩
  | .hbm, ⟨20, _⟩ => ⟨S4x2112x512, .f32⟩
  | .hbm, ⟨21, _⟩ => ⟨S1x1x512, .f32⟩
  | .hbm, ⟨22, _⟩ => ⟨S4x2112x512, .f32⟩
  | .hbm, ⟨23, _⟩ => ⟨S4x2112x512, .f32⟩
  | .hbm, ⟨24, _⟩ => ⟨S2112x4x512, .f32⟩
  | .hbm, ⟨25, _⟩ => ⟨S2112x2048, .f32⟩
  | .hbm, ⟨26, _⟩ => ⟨S2112x2048, .f32⟩
  | .hbm, ⟨27, _⟩ => ⟨S2112x2048, .f32⟩
  | .hbm, ⟨28, _⟩ => ⟨S_, .f32⟩
  | .hbm, ⟨29, _⟩ => ⟨S2112x2048, .f32⟩
  | .hbm, ⟨30, _⟩ => ⟨S2112x2048, .f32⟩
  | .hbm, ⟨31, _⟩ => ⟨S_, .f32⟩
  | .hbm, ⟨32, _⟩ => ⟨S2112x2048, .f32⟩
  | .hbm, ⟨33, _⟩ => ⟨S2112x2048, .f32⟩
  | .hbm, ⟨34, _⟩ => ⟨S2112x2048, .f32⟩
  | .hbm, ⟨35, _⟩ => ⟨S2112x2048, .f32⟩
  | .hbm, ⟨36, _⟩ => ⟨S2112x2048, .bf16⟩
  | _, _ => ⟨S4x2112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== MixFwdKernel.lean ====
abbrev S2064x4x512 : Shape := ⟨3, ![2064, 4, 512]⟩
abbrev S2064x2048 : Shape := ⟨2, ![2064, 2048]⟩
abbrev S4x512x512 : Shape := ⟨3, ![4, 512, 512]⟩
abbrev S4x512 : Shape := ⟨2, ![4, 512]⟩
abbrev S2048 : Shape := ⟨1, ![2048]⟩
abbrev S_ : Shape := ⟨0, ![]⟩
abbrev S48x2048 : Shape := ⟨2, ![48, 2048]⟩
abbrev S2112x2048 : Shape := ⟨2, ![2112, 2048]⟩
abbrev S1x2048 : Shape := ⟨2, ![1, 2048]⟩
abbrev S352x512 : Shape := ⟨2, ![352, 512]⟩
abbrev S1x512x512 : Shape := ⟨3, ![1, 512, 512]⟩
abbrev S1x512 : Shape := ⟨2, ![1, 512]⟩
abbrev S352x1 : Shape := ⟨2, ![352, 1]⟩
abbrev S512x512 : Shape := ⟨2, ![512, 512]⟩

abbrev nBuf : Space → Nat
  | .hbm => 17
  | .vmem => 12
  | .smem => 0
  | _ => 0

abbrev bufTy : (tb : Table) → Fin (tcTables nBuf tb) → BufTy
  | .hbm, ⟨0, _⟩ => ⟨S2064x4x512, .f32⟩
  | .hbm, ⟨1, _⟩ => ⟨S2064x2048, .f32⟩
  | .hbm, ⟨2, _⟩ => ⟨S4x512x512, .f32⟩
  | .hbm, ⟨3, _⟩ => ⟨S4x512, .f32⟩
  | .hbm, ⟨4, _⟩ => ⟨S2048, .f32⟩
  | .hbm, ⟨5, _⟩ => ⟨S2064x2048, .f32⟩
  | .hbm, ⟨6, _⟩ => ⟨S_, .f32⟩
  | .hbm, ⟨7, _⟩ => ⟨S48x2048, .f32⟩
  | .hbm, ⟨8, _⟩ => ⟨S2112x2048, .f32⟩
  | .hbm, ⟨9, _⟩ => ⟨S2112x2048, .bf16⟩
  | .hbm, ⟨10, _⟩ => ⟨S_, .f32⟩
  | .hbm, ⟨11, _⟩ => ⟨S48x2048, .f32⟩
  | .hbm, ⟨12, _⟩ => ⟨S2112x2048, .f32⟩
  | .hbm, ⟨13, _⟩ => ⟨S4x512x512, .bf16⟩
  | .hbm, ⟨14, _⟩ => ⟨S1x2048, .f32⟩
  | .hbm, ⟨15, _⟩ => ⟨S1x2048, .f32⟩
  | .hbm, ⟨16, _⟩ => ⟨S2112x2048, .f32⟩
  | .local _ .vmem, ⟨0, _⟩ => ⟨S352x512, .bf16⟩
  | .local _ .vmem, ⟨1, _⟩ => ⟨S352x512, .bf16⟩
  | .local _ .vmem, ⟨2, _⟩ => ⟨S352x512, .f32⟩
  | .local _ .vmem, ⟨3, _⟩ => ⟨S352x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S352x512, .f32⟩
  | .local _ .vmem, ⟨11, _⟩ => ⟨S352x512, .f32⟩
  | _, _ => ⟨S2064x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixFwdReferenceIdeal.lean ====
abbrev S2064x4x512 : Shape := ⟨3, ![2064, 4, 512]⟩
abbrev S2064x2048 : Shape := ⟨2, ![2064, 2048]⟩
abbrev S4x512x512 : Shape := ⟨3, ![4, 512, 512]⟩
abbrev S4x512 : Shape := ⟨2, ![4, 512]⟩
abbrev S2048 : Shape := ⟨1, ![2048]⟩
abbrev S4x512x2064 : Shape := ⟨3, ![4, 512, 2064]⟩
abbrev S1x4x512 : Shape := ⟨3, ![1, 4, 512]⟩
abbrev S1x2048 : Shape := ⟨2, ![1, 2048]⟩
abbrev S_ : Shape := ⟨0, ![]⟩
abbrev S48x2048 : Shape := ⟨2, ![48, 2048]⟩
abbrev S2112x2048 : Shape := ⟨2, ![2112, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2064x4x512, .f32⟩
  | .hbm, ⟨1, _⟩ => ⟨S2064x2048, .f32⟩
  | .hbm, ⟨2, _⟩ => ⟨S4x512x512, .f32⟩
  | .hbm, ⟨3, _⟩ => ⟨S4x512, .f32⟩
  | .hbm, ⟨4, _⟩ => ⟨S2048, .f32⟩
  | .hbm, ⟨5, _⟩ => ⟨S4x512x2064, .f32⟩
  | .hbm, ⟨6, _⟩ => ⟨S2064x4x512, .f32⟩
  | .hbm, ⟨7, _⟩ => ⟨S1x4x512, .f32⟩
  | .hbm, ⟨8, _⟩ => ⟨S2064x4x512, .f32⟩
  | .hbm, ⟨9, _⟩ => ⟨S2064x4x512, .f32⟩
  | .hbm, ⟨10, _⟩ => ⟨S2064x2048, .f32⟩
  | .hbm, ⟨11, _⟩ => ⟨S1x2048, .f32⟩
  | .hbm, ⟨12, _⟩ => ⟨S2064x2048, .f32⟩
  | .hbm, ⟨13, _⟩ => ⟨S2064x2048, .f32⟩
  | .hbm, ⟨14, _⟩ => ⟨S2064x2048, .f32⟩
  | .hbm, ⟨15, _⟩ => ⟨S_, .f32⟩
  | .hbm, ⟨16, _⟩ => ⟨S48x2048, .f32⟩
  | .hbm, ⟨17, _⟩ => ⟨S2112x2048, .f32⟩
  | _, _ => ⟨S2064x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== GateupFwdKernel.lean ====
abbrev S2112x2048 : Shape := ⟨2, ![2112, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S2112x5632 : Shape := ⟨2, ![2112, 5632]⟩
abbrev S352x2048 : Shape := ⟨2, ![352, 2048]⟩
abbrev S1x2048x1408 : Shape := ⟨3, ![1, 2048, 1408]⟩
abbrev S352x1408 : Shape := ⟨2, ![352, 1408]⟩
abbrev S1x2048x256 : Shape := ⟨3, ![1, 2048, 256]⟩
abbrev S2048x256 : Shape := ⟨2, ![2048, 256]⟩
abbrev S352x256 : Shape := ⟨2, ![352, 256]⟩
abbrev S1x2048x128 : Shape := ⟨3, ![1, 2048, 128]⟩
abbrev S2048x128 : Shape := ⟨2, ![2048, 128]⟩
abbrev S352x128 : Shape := ⟨2, ![352, 128]⟩

abbrev nBuf : Space → Nat
  | .hbm => 14
  | .vmem => 14
  | .smem => 0
  | _ => 0

abbrev bufTy : (tb : Table) → Fin (tcTables nBuf tb) → BufTy
  | .hbm, ⟨0, _⟩ => ⟨S2112x2048, .f32⟩
  | .hbm, ⟨1, _⟩ => ⟨S2048x5632, .f32⟩
  | .hbm, ⟨2, _⟩ => ⟨S2048x5632, .f32⟩
  | .hbm, ⟨3, _⟩ => ⟨S2112x2048, .bf16⟩
  | .hbm, ⟨4, _⟩ => ⟨S2048x4x1408, .f32⟩
  | .hbm, ⟨5, _⟩ => ⟨S4x2048x1408, .f32⟩
  | .hbm, ⟨6, _⟩ => ⟨S4x2048x1408, .bf16⟩
  | .hbm, ⟨7, _⟩ => ⟨S2048x4x1408, .f32⟩
  | .hbm, ⟨8, _⟩ => ⟨S4x2048x1408, .f32⟩
  | .hbm, ⟨9, _⟩ => ⟨S4x2048x1408, .bf16⟩
  | .hbm, ⟨10, _⟩ => ⟨S2112x5632, .bf16⟩
  | .hbm, ⟨11, _⟩ => ⟨S2112x5632, .bf16⟩
  | .hbm, ⟨12, _⟩ => ⟨S2112x5632, .bf16⟩
  | .hbm, ⟨13, _⟩ => ⟨S2112x5632, .bf16⟩
  | .local _ .vmem, ⟨0, _⟩ => ⟨S352x2048, .bf16⟩
  | .local _ .vmem, ⟨1, _⟩ => ⟨S352x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S352x1408, .bf16⟩
  | .local _ .vmem, ⟨7, _⟩ => ⟨S352x1408, .bf16⟩
  | .local _ .vmem, ⟨8, _⟩ => ⟨S352x1408, .bf16⟩
  | .local _ .vmem, ⟨9, _⟩ => ⟨S352x1408, .bf16⟩
  | .local _ .vmem, ⟨10, _⟩ => ⟨S352x1408, .bf16⟩
  | .local _ .vmem, ⟨11, _⟩ => ⟨S352x1408, .bf16⟩
  | .local _ .vmem, ⟨12, _⟩ => ⟨S352x1408, .bf16⟩
  | .local _ .vmem, ⟨13, _⟩ => ⟨S352x1408, .bf16⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S352x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateupFwdReferenceIdeal.lean ====
abbrev S2112x2048 : Shape := ⟨2, ![2112, 2048]⟩
abbrev S2048x5632 : Shape := ⟨2, ![2048, 5632]⟩
abbrev S2112x5632 : Shape := ⟨2, ![2112, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x5632, .f32⟩
  | .hbm, ⟨2, _⟩ => ⟨S2048x5632, .f32⟩
  | .hbm, ⟨3, _⟩ => ⟨S2112x5632, .f32⟩
  | .hbm, ⟨4, _⟩ => ⟨S2112x5632, .f32⟩
  | .hbm, ⟨5, _⟩ => ⟨S2112x5632, .f32⟩
  | .hbm, ⟨6, _⟩ => ⟨S2112x5632, .f32⟩
  | .hbm, ⟨7, _⟩ => ⟨S_, .f32⟩
  | .hbm, ⟨8, _⟩ => ⟨S2112x5632, .f32⟩
  | .hbm, ⟨9, _⟩ => ⟨S2112x5632, .f32⟩
  | .hbm, ⟨10, _⟩ => ⟨S_, .f32⟩
  | .hbm, ⟨11, _⟩ => ⟨S2112x5632, .f32⟩
  | .hbm, ⟨12, _⟩ => ⟨S2112x5632, .f32⟩
  | .hbm, ⟨13, _⟩ => ⟨S_, .f32⟩
  | .hbm, ⟨14, _⟩ => ⟨S2112x5632, .f32⟩
  | .hbm, ⟨15, _⟩ => ⟨S2112x5632, .f32⟩
  | .hbm, ⟨16, _⟩ => ⟨S2112x5632, .f32⟩
  | .hbm, ⟨17, _⟩ => ⟨S2112x5632, .f32⟩
  | .hbm, ⟨18, _⟩ => ⟨S_, .f32⟩
  | .hbm, ⟨19, _⟩ => ⟨S2112x5632, .f32⟩
  | .hbm, ⟨20, _⟩ => ⟨S2112x5632, .f32⟩
  | .hbm, ⟨21, _⟩ => ⟨S2112x5632, .f32⟩
  | .hbm, ⟨22, _⟩ => ⟨S2112x5632, .f32⟩
  | .hbm, ⟨23, _⟩ => ⟨S2112x5632, .f32⟩
  | .hbm, ⟨24, _⟩ => ⟨S2112x5632, .f32⟩
  | .hbm, ⟨25, _⟩ => ⟨S2112x5632, .bf16⟩
  | .hbm, ⟨26, _⟩ => ⟨S2112x5632, .bf16⟩
  | .hbm, ⟨27, _⟩ => ⟨S2112x5632, .bf16⟩
  | .hbm, ⟨28, _⟩ => ⟨S2112x5632, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_cst : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== WindowFwdKernel.lean ====
abbrev S2064x2048 : Shape := ⟨2, ![2064, 2048]⟩
abbrev S_ : Shape := ⟨0, ![]⟩
abbrev S48x2048 : Shape := ⟨2, ![48, 2048]⟩
abbrev S2112x2048 : Shape := ⟨2, ![2112, 2048]⟩
abbrev S2112x128 : Shape := ⟨2, ![2112, 128]⟩
abbrev S2112x1 : Shape := ⟨2, ![2112, 1]⟩

abbrev nBuf : Space → Nat
  | .hbm => 5
  | .vmem => 4
  | .smem => 0
  | _ => 0

abbrev bufTy : (tb : Table) → Fin (tcTables nBuf tb) → BufTy
  | .hbm, ⟨0, _⟩ => ⟨S2064x2048, .f32⟩
  | .hbm, ⟨1, _⟩ => ⟨S_, .f32⟩
  | .hbm, ⟨2, _⟩ => ⟨S48x2048, .f32⟩
  | .hbm, ⟨3, _⟩ => ⟨S2112x2048, .f32⟩
  | .hbm, ⟨4, _⟩ => ⟨S2112x2048, .bf16⟩
  | .local _ .vmem, ⟨0, _⟩ => ⟨S2112x128, .f32⟩
  | .local _ .vmem, ⟨1, _⟩ => ⟨S2112x128, .f32⟩
  | .local _ .vmem, ⟨2, _⟩ => ⟨S2112x128, .bf16⟩
  | .local _ .vmem, ⟨3, _⟩ => ⟨S2112x128, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2112x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WindowFwdReferenceIdeal.lean ====
abbrev S2064x2048 : Shape := ⟨2, ![2064, 2048]⟩
abbrev S2064x4x512 : Shape := ⟨3, ![2064, 4, 512]⟩
abbrev S_ : Shape := ⟨0, ![]⟩
abbrev S2064 : Shape := ⟨1, ![2064]⟩
abbrev S2064x1x512 : Shape := ⟨3, ![2064, 1, 512]⟩
abbrev S2064x512 : Shape := ⟨2, ![2064, 512]⟩
abbrev S2x512 : Shape := ⟨2, ![2, 512]⟩
abbrev S2066x512 : Shape := ⟨2, ![2066, 512]⟩
abbrev S2064x1 : Shape := ⟨2, ![2064, 1]⟩
abbrev S4x512 : Shape := ⟨2, ![4, 512]⟩
abbrev S2068x512 : Shape := ⟨2, ![2068, 512]⟩
abbrev S8x512 : Shape := ⟨2, ![8, 512]⟩
abbrev S2072x512 : Shape := ⟨2, ![2072, 512]⟩
abbrev S16x512 : Shape := ⟨2, ![16, 512]⟩
abbrev S2080x512 : Shape := ⟨2, ![2080, 512]⟩
abbrev S48x2048 : Shape := ⟨2, ![48, 2048]⟩
abbrev S2112x2048 : Shape := ⟨2, ![2112, 2048]⟩

abbrev nBuf : Space → Nat
  | .hbm => 96
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2064x4x512, .f32⟩
  | .hbm, ⟨2, _⟩ => ⟨S_, .f32⟩
  | .hbm, ⟨3, _⟩ => ⟨S_, .f32⟩
  | .hbm, ⟨4, _⟩ => ⟨S2064x4x512, .f32⟩
  | .hbm, ⟨5, _⟩ => ⟨S2064, .i32⟩
  | .hbm, ⟨6, _⟩ => ⟨S2064x1x512, .f32⟩
  | .hbm, ⟨7, _⟩ => ⟨S2064x512, .f32⟩
  | .hbm, ⟨8, _⟩ => ⟨S_, .f32⟩
  | .hbm, ⟨9, _⟩ => ⟨S2x512, .f32⟩
  | .hbm, ⟨10, _⟩ => ⟨S2066x512, .f32⟩
  | .hbm, ⟨11, _⟩ => ⟨S2064x512, .f32⟩
  | .hbm, ⟨12, _⟩ => ⟨S_, .i32⟩
  | .hbm, ⟨13, _⟩ => ⟨S2064, .i32⟩
  | .hbm, ⟨14, _⟩ => ⟨S2064, .i32⟩
  | .hbm, ⟨15, _⟩ => ⟨S_, .i32⟩
  | .hbm, ⟨16, _⟩ => ⟨S2064, .i32⟩
  | .hbm, ⟨17, _⟩ => ⟨S2064, .i32⟩
  | .hbm, ⟨18, _⟩ => ⟨S2064, .f32⟩
  | .hbm, ⟨19, _⟩ => ⟨S2064x1, .f32⟩
  | .hbm, ⟨20, _⟩ => ⟨S2064x512, .f32⟩
  | .hbm, ⟨21, _⟩ => ⟨S2064x512, .f32⟩
  | .hbm, ⟨22, _⟩ => ⟨S2064x512, .f32⟩
  | .hbm, ⟨23, _⟩ => ⟨S2064x1x512, .f32⟩
  | .hbm, ⟨24, _⟩ => ⟨S2064x512, .f32⟩
  | .hbm, ⟨25, _⟩ => ⟨S2064x512, .f32⟩
  | .hbm, ⟨26, _⟩ => ⟨S2064x1x512, .f32⟩
  | .hbm, ⟨27, _⟩ => ⟨S2064x512, .f32⟩
  | .hbm, ⟨28, _⟩ => ⟨S_, .f32⟩
  | .hbm, ⟨29, _⟩ => ⟨S4x512, .f32⟩
  | .hbm, ⟨30, _⟩ => ⟨S2068x512, .f32⟩
  | .hbm, ⟨31, _⟩ => ⟨S2064x512, .f32⟩
  | .hbm, ⟨32, _⟩ => ⟨S_, .i32⟩
  | .hbm, ⟨33, _⟩ => ⟨S2064, .i32⟩
  | .hbm, ⟨34, _⟩ => ⟨S2064, .i32⟩
  | .hbm, ⟨35, _⟩ => ⟨S_, .i32⟩
  | .hbm, ⟨36, _⟩ => ⟨S2064, .i32⟩
  | .hbm, ⟨37, _⟩ => ⟨S2064, .i32⟩
  | .hbm, ⟨38, _⟩ => ⟨S2064, .f32⟩
  | .hbm, ⟨39, _⟩ => ⟨S2064x1, .f32⟩
  | .hbm, ⟨40, _⟩ => ⟨S2064x512, .f32⟩
  | .hbm, ⟨41, _⟩ => ⟨S2064x512, .f32⟩
  | .hbm, ⟨42, _⟩ => ⟨S2064x512, .f32⟩
  | .hbm, ⟨43, _⟩ => ⟨S2064x1x512, .f32⟩
  | .hbm, ⟨44, _⟩ => ⟨S2064x512, .f32⟩
  | .hbm, ⟨45, _⟩ => ⟨S2064x512, .f32⟩
  | .hbm, ⟨46, _⟩ => ⟨S2064x1x512, .f32⟩
  | .hbm, ⟨47, _⟩ => ⟨S2064x512, .f32⟩
  | .hbm, ⟨48, _⟩ => ⟨S_, .f32⟩
  | .hbm, ⟨49, _⟩ => ⟨S8x512, .f32⟩
  | .hbm, ⟨50, _⟩ => ⟨S2072x512, .f32⟩
  | .hbm, ⟨51, _⟩ => ⟨S2064x512, .f32⟩
  | .hbm, ⟨52, _⟩ => ⟨S_, .i32⟩
  | .hbm, ⟨53, _⟩ => ⟨S2064, .i32⟩
  | .hbm, ⟨54, _⟩ => ⟨S2064, .i32⟩
  | .hbm, ⟨55, _⟩ => ⟨S_, .i32⟩
  | .hbm, ⟨56, _⟩ => ⟨S2064, .i32⟩
  | .hbm, ⟨57, _⟩ => ⟨S2064, .i32⟩
  | .hbm, ⟨58, _⟩ => ⟨S2064, .f32⟩
  | .hbm, ⟨59, _⟩ => ⟨S2064x1, .f32⟩
  | .hbm, ⟨60, _⟩ => ⟨S2064x512, .f32⟩
  | .hbm, ⟨61, _⟩ => ⟨S2064x512, .f32⟩
  | .hbm, ⟨62, _⟩ => ⟨S2064x512, .f32⟩
  | .hbm, ⟨63, _⟩ => ⟨S2064x1x512, .f32⟩
  | .hbm, ⟨64, _⟩ => ⟨S2064x512, .f32⟩
  | .hbm, ⟨65, _⟩ => ⟨S2064x512, .f32⟩
  | .hbm, ⟨66, _⟩ => ⟨S2064x1x512, .f32⟩
  | .hbm, ⟨67, _⟩ => ⟨S2064x512, .f32⟩
  | .hbm, ⟨68, _⟩ => ⟨S_, .f32⟩
  | .hbm, ⟨69, _⟩ => ⟨S16x512, .f32⟩
  | .hbm, ⟨70, _⟩ => ⟨S2080x512, .f32⟩
  | .hbm, ⟨71, _⟩ => ⟨S2064x512, .f32⟩
  | .hbm, ⟨72, _⟩ => ⟨S_, .i32⟩
  | .hbm, ⟨73, _⟩ => ⟨S2064, .i32⟩
  | .hbm, ⟨74, _⟩ => ⟨S2064, .i32⟩
  | .hbm, ⟨75, _⟩ => ⟨S_, .i32⟩
  | .hbm, ⟨76, _⟩ => ⟨S2064, .i32⟩
  | .hbm, ⟨77, _⟩ => ⟨S2064, .i32⟩
  | .hbm, ⟨78, _⟩ => ⟨S2064, .f32⟩
  | .hbm, ⟨79, _⟩ => ⟨S2064x1, .f32⟩
  | .hbm, ⟨80, _⟩ => ⟨S2064x512, .f32⟩
  | .hbm, ⟨81, _⟩ => ⟨S2064x512, .f32⟩
  | .hbm, ⟨82, _⟩ => ⟨S2064x512, .f32⟩
  | .hbm, ⟨83, _⟩ => ⟨S2064x1x512, .f32⟩
  | .hbm, ⟨84, _⟩ => ⟨S2064x512, .f32⟩
  | .hbm, ⟨85, _⟩ => ⟨S2064x512, .f32⟩
  | .hbm, ⟨86, _⟩ => ⟨S2064x1x512, .f32⟩
  | .hbm, ⟨87, _⟩ => ⟨S2064x1x512, .f32⟩
  | .hbm, ⟨88, _⟩ => ⟨S2064x1x512, .f32⟩
  | .hbm, ⟨89, _⟩ => ⟨S2064x1x512, .f32⟩
  | .hbm, ⟨90, _⟩ => ⟨S2064x4x512, .f32⟩
  | .hbm, ⟨91, _⟩ => ⟨S2064x2048, .f32⟩
  | .hbm, ⟨92, _⟩ => ⟨S_, .f32⟩
  | .hbm, ⟨93, _⟩ => ⟨S48x2048, .f32⟩
  | .hbm, ⟨94, _⟩ => ⟨S2112x2048, .f32⟩
  | .hbm, ⟨95, _⟩ => ⟨S2112x2048, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_8 : Ref sig .tc := ⟨.hbm, 72, rfl⟩
abbrev main_v59 : Ref sig .tc := ⟨.hbm, 73, rfl⟩
abbrev main_v60 : Ref sig .tc := ⟨.hbm, 74, rfl⟩
abbrev main_c_9 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_10 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩

abbrev nD : Nat := 1
abbrev τ : Topo := Topo.v7x

variable {F : FTy → Type} [FloatOps F]
-- ==== ProjKernel.lean ====
abbrev S2112x2048 : Shape := ⟨2, ![2112, 2048]⟩
abbrev S2048x6272 : Shape := ⟨2, ![2048, 6272]⟩
abbrev S2112x6272 : Shape := ⟨2, ![2112, 6272]⟩
abbrev S704x2048 : Shape := ⟨2, ![704, 2048]⟩
abbrev S2048x896 : Shape := ⟨2, ![2048, 896]⟩
abbrev S704x896 : Shape := ⟨2, ![704, 896]⟩

abbrev nBuf : Space → Nat
  | .hbm => 5
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2048x6272, .f32⟩
  | .hbm, ⟨2, _⟩ => ⟨S2112x2048, .bf16⟩
  | .hbm, ⟨3, _⟩ => ⟨S2048x6272, .bf16⟩
  | .hbm, ⟨4, _⟩ => ⟨S2112x6272, .f32⟩
  | .local _ .vmem, ⟨0, _⟩ => ⟨S704x2048, .bf16⟩
  | .local _ .vmem, ⟨1, _⟩ => ⟨S704x2048, .bf16⟩
  | .local _ .vmem, ⟨2, _⟩ => ⟨S2048x896, .bf16⟩
  | .local _ .vmem, ⟨3, _⟩ => ⟨S2048x896, .bf16⟩
  | .local _ .vmem, ⟨4, _⟩ => ⟨S704x896, .f32⟩
  | .local _ .vmem, ⟨5, _⟩ => ⟨S704x896, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S2112x2048 : Shape := ⟨2, ![2112, 2048]⟩
abbrev S2048x6272 : Shape := ⟨2, ![2048, 6272]⟩
abbrev S2112x6272 : Shape := ⟨2, ![2112, 6272]⟩

abbrev nBuf : Space → Nat
  | .hbm => 3
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x6272, .f32⟩
  | .hbm, ⟨2, _⟩ => ⟨S2112x6272, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WgradKernel.lean ====
abbrev S2112x2048 : Shape := ⟨2, ![2112, 2048]⟩
abbrev S2048x2048 : Shape := ⟨2, ![2048, 2048]⟩
abbrev S2112x512 : Shape := ⟨2, ![2112, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2112x2048, .f32⟩
  | .hbm, ⟨2, _⟩ => ⟨S2112x2048, .bf16⟩
  | .hbm, ⟨3, _⟩ => ⟨S2048x2048, .bf16⟩
  | .local _ .vmem, ⟨0, _⟩ => ⟨S2112x512, .bf16⟩
  | .local _ .vmem, ⟨1, _⟩ => ⟨S2112x512, .bf16⟩
  | .local _ .vmem, ⟨2, _⟩ => ⟨S2112x512, .f32⟩
  | .local _ .vmem, ⟨3, _⟩ => ⟨S2112x512, .f32⟩
  | .local _ .vmem, ⟨4, _⟩ => ⟨S512x512, .bf16⟩
  | .local _ .vmem, ⟨5, _⟩ => ⟨S512x512, .bf16⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WgradReferenceIdeal.lean ====
abbrev S2112x2048 : Shape := ⟨2, ![2112, 2048]⟩
abbrev S2048x2112 : Shape := ⟨2, ![2048, 2112]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2112x2048, .f32⟩
  | .hbm, ⟨2, _⟩ => ⟨S2048x2112, .f32⟩
  | .hbm, ⟨3, _⟩ => ⟨S2048x2048, .f32⟩
  | .hbm, ⟨4, _⟩ => ⟨S2048x2048, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ResidKernel.lean ====
abbrev S2112x2048 : Shape := ⟨2, ![2112, 2048]⟩
abbrev S2048x2048 : Shape := ⟨2, ![2048, 2048]⟩
abbrev S352x2048 : Shape := ⟨2, ![352, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2048x2048, .f32⟩
  | .hbm, ⟨2, _⟩ => ⟨S2112x2048, .f32⟩
  | .hbm, ⟨3, _⟩ => ⟨S2112x2048, .bf16⟩
  | .hbm, ⟨4, _⟩ => ⟨S2048x2048, .bf16⟩
  | .hbm, ⟨5, _⟩ => ⟨S2112x2048, .f32⟩
  | .local _ .vmem, ⟨0, _⟩ => ⟨S352x2048, .bf16⟩
  | .local _ .vmem, ⟨1, _⟩ => ⟨S352x2048, .bf16⟩
  | .local _ .vmem, ⟨2, _⟩ => ⟨S2048x2048, .bf16⟩
  | .local _ .vmem, ⟨3, _⟩ => ⟨S352x2048, .f32⟩
  | .local _ .vmem, ⟨4, _⟩ => ⟨S352x2048, .f32⟩
  | .local _ .vmem, ⟨5, _⟩ => ⟨S352x2048, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![6, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S352x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S352x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== ResidReferenceIdeal.lean ====
abbrev S2112x2048 : Shape := ⟨2, ![2112, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x2048, .f32⟩
  | .hbm, ⟨2, _⟩ => ⟨S2112x2048, .f32⟩
  | .hbm, ⟨3, _⟩ => ⟨S2112x2048, .f32⟩
  | .hbm, ⟨4, _⟩ => ⟨S2112x2048, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== BackKernel.lean ====
abbrev S2112x2048 : Shape := ⟨2, ![2112, 2048]⟩
abbrev S2048x2048 : Shape := ⟨2, ![2048, 2048]⟩
abbrev S352x2048 : Shape := ⟨2, ![352, 2048]⟩
abbrev S512x2048 : Shape := ⟨2, ![512, 2048]⟩
abbrev S352x512 : Shape := ⟨2, ![352, 512]⟩

abbrev nBuf : Space → Nat
  | .hbm => 4
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2048x2048, .f32⟩
  | .hbm, ⟨2, _⟩ => ⟨S2048x2048, .bf16⟩
  | .hbm, ⟨3, _⟩ => ⟨S2112x2048, .f32⟩
  | .local _ .vmem, ⟨0, _⟩ => ⟨S352x2048, .f32⟩
  | .local _ .vmem, ⟨1, _⟩ => ⟨S352x2048, .f32⟩
  | .local _ .vmem, ⟨2, _⟩ => ⟨S512x2048, .bf16⟩
  | .local _ .vmem, ⟨3, _⟩ => ⟨S512x2048, .bf16⟩
  | .local _ .vmem, ⟨4, _⟩ => ⟨S352x512, .f32⟩
  | .local _ .vmem, ⟨5, _⟩ => ⟨S352x512, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![6, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S352x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BackReferenceIdeal.lean ====
abbrev S2112x2048 : Shape := ⟨2, ![2112, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x2048, .f32⟩
  | .hbm, ⟨2, _⟩ => ⟨S2048x2048, .f32⟩
  | .hbm, ⟨3, _⟩ => ⟨S2112x2048, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== TotalKernel.lean ====
abbrev S8x184x512 : Shape := ⟨3, ![8, 184, 512]⟩
abbrev S184x512 : Shape := ⟨2, ![184, 512]⟩
abbrev S1x184x512 : Shape := ⟨3, ![1, 184, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x184x512, .f32⟩
  | .hbm, ⟨1, _⟩ => ⟨S184x512, .f32⟩
  | .local _ .vmem, ⟨0, _⟩ => ⟨S8x184x512, .f32⟩
  | .local _ .vmem, ⟨1, _⟩ => ⟨S184x512, .f32⟩
  | _, _ => ⟨S8x184x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x184x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S184x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== TotalReferenceIdeal.lean ====
abbrev S8x184x512 : Shape := ⟨3, ![8, 184, 512]⟩
abbrev S_ : Shape := ⟨0, ![]⟩
abbrev S184x512 : Shape := ⟨2, ![184, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x184x512, .f32⟩
  | .hbm, ⟨1, _⟩ => ⟨S_, .f32⟩
  | .hbm, ⟨2, _⟩ => ⟨S184x512, .f32⟩
  | _, _ => ⟨S8x184x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamKernel.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamReferenceIdeal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WprojKernel.lean ====
abbrev S2112x2048 : Shape := ⟨2, ![2112, 2048]⟩
abbrev S2112x6272 : Shape := ⟨2, ![2112, 6272]⟩
abbrev S2048x6272 : Shape := ⟨2, ![2048, 6272]⟩
abbrev S2112x512 : Shape := ⟨2, ![2112, 512]⟩
abbrev S2112x896 : Shape := ⟨2, ![2112, 896]⟩
abbrev S512x896 : Shape := ⟨2, ![512, 896]⟩

abbrev nBuf : Space → Nat
  | .hbm => 4
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2112x6272, .f32⟩
  | .hbm, ⟨2, _⟩ => ⟨S2112x2048, .bf16⟩
  | .hbm, ⟨3, _⟩ => ⟨S2048x6272, .bf16⟩
  | .local _ .vmem, ⟨0, _⟩ => ⟨S2112x512, .bf16⟩
  | .local _ .vmem, ⟨1, _⟩ => ⟨S2112x512, .bf16⟩
  | .local _ .vmem, ⟨2, _⟩ => ⟨S2112x896, .f32⟩
  | .local _ .vmem, ⟨3, _⟩ => ⟨S2112x896, .f32⟩
  | .local _ .vmem, ⟨4, _⟩ => ⟨S512x896, .bf16⟩
  | .local _ .vmem, ⟨5, _⟩ => ⟨S512x896, .bf16⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WprojReferenceIdeal.lean ====
abbrev S2112x2048 : Shape := ⟨2, ![2112, 2048]⟩
abbrev S2112x6272 : Shape := ⟨2, ![2112, 6272]⟩
abbrev S2048x2112 : Shape := ⟨2, ![2048, 2112]⟩
abbrev S2048x6272 : Shape := ⟨2, ![2048, 6272]⟩

abbrev nBuf : Space → Nat
  | .hbm => 5
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2112x6272, .f32⟩
  | .hbm, ⟨2, _⟩ => ⟨S2048x2112, .f32⟩
  | .hbm, ⟨3, _⟩ => ⟨S2048x6272, .f32⟩
  | .hbm, ⟨4, _⟩ => ⟨S2048x6272, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WdownKernel.lean ====
abbrev S2112x5632 : Shape := ⟨2, ![2112, 5632]⟩
abbrev S2112x2048 : Shape := ⟨2, ![2112, 2048]⟩
abbrev S5632x2048 : Shape := ⟨2, ![5632, 2048]⟩
abbrev S2112x1408 : Shape := ⟨2, ![2112, 1408]⟩
abbrev S2112x1024 : Shape := ⟨2, ![2112, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2112x5632, .f32⟩
  | .hbm, ⟨1, _⟩ => ⟨S2112x2048, .f32⟩
  | .hbm, ⟨2, _⟩ => ⟨S2112x5632, .bf16⟩
  | .hbm, ⟨3, _⟩ => ⟨S2112x2048, .bf16⟩
  | .hbm, ⟨4, _⟩ => ⟨S5632x2048, .bf16⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1408x1024, .bf16⟩
  | .local _ .vmem, ⟨5, _⟩ => ⟨S1408x1024, .bf16⟩
  | _, _ => ⟨S2112x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WdownReferenceIdeal.lean ====
abbrev S2112x5632 : Shape := ⟨2, ![2112, 5632]⟩
abbrev S2112x2048 : Shape := ⟨2, ![2112, 2048]⟩
abbrev S5632x2112 : Shape := ⟨2, ![5632, 2112]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2112x5632, .f32⟩
  | .hbm, ⟨1, _⟩ => ⟨S2112x2048, .f32⟩
  | .hbm, ⟨2, _⟩ => ⟨S5632x2112, .f32⟩
  | .hbm, ⟨3, _⟩ => ⟨S5632x2048, .f32⟩
  | .hbm, ⟨4, _⟩ => ⟨S5632x2048, .bf16⟩
  | _, _ => ⟨S2112x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WgateKernel.lean ====
abbrev S2112x2048 : Shape := ⟨2, ![2112, 2048]⟩
abbrev S2112x5632 : Shape := ⟨2, ![2112, 5632]⟩
abbrev S4x2048x1408 : Shape := ⟨3, ![4, 2048, 1408]⟩
abbrev S2112x1024 : Shape := ⟨2, ![2112, 1024]⟩
abbrev S2112x1408 : Shape := ⟨2, ![2112, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2112x5632, .f32⟩
  | .hbm, ⟨2, _⟩ => ⟨S2112x2048, .bf16⟩
  | .hbm, ⟨3, _⟩ => ⟨S2112x5632, .bf16⟩
  | .hbm, ⟨4, _⟩ => ⟨S4x2048x1408, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1408, .bf16⟩
  | .local _ .vmem, ⟨3, _⟩ => ⟨S2112x1408, .bf16⟩
  | .local _ .vmem, ⟨4, _⟩ => ⟨S1x1024x1408, .bf16⟩
  | .local _ .vmem, ⟨5, _⟩ => ⟨S1x1024x1408, .bf16⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WgateReferenceIdeal.lean ====
abbrev S2112x2048 : Shape := ⟨2, ![2112, 2048]⟩
abbrev S2112x5632 : Shape := ⟨2, ![2112, 5632]⟩
abbrev S2048x2112 : Shape := ⟨2, ![2048, 2112]⟩
abbrev S2048x5632 : Shape := ⟨2, ![2048, 5632]⟩
abbrev S2048x4x1408 : Shape := ⟨3, ![2048, 4, 1408]⟩
abbrev S4x2048x1408 : Shape := ⟨3, ![4, 2048, 1408]⟩

abbrev nBuf : Space → Nat
  | .hbm => 7
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2112x5632, .f32⟩
  | .hbm, ⟨2, _⟩ => ⟨S2048x2112, .f32⟩
  | .hbm, ⟨3, _⟩ => ⟨S2048x5632, .f32⟩
  | .hbm, ⟨4, _⟩ => ⟨S2048x5632, .bf16⟩
  | .hbm, ⟨5, _⟩ => ⟨S2048x4x1408, .bf16⟩
  | .hbm, ⟨6, _⟩ => ⟨S4x2048x1408, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamGateKernel.lean ====
abbrev S8192x1408 : Shape := ⟨2, ![8192, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGateReferenceIdeal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ProjBackKernel.lean ====
abbrev S2112x6272 : Shape := ⟨2, ![2112, 6272]⟩
abbrev S2048x6272 : Shape := ⟨2, ![2048, 6272]⟩
abbrev S2112x2048 : Shape := ⟨2, ![2112, 2048]⟩
abbrev S704x896 : Shape := ⟨2, ![704, 896]⟩
abbrev S2048x896 : Shape := ⟨2, ![2048, 896]⟩
abbrev S704x2048 : Shape := ⟨2, ![704, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2112x6272, .f32⟩
  | .hbm, ⟨1, _⟩ => ⟨S2048x6272, .f32⟩
  | .hbm, ⟨2, _⟩ => ⟨S2048x6272, .bf16⟩
  | .hbm, ⟨3, _⟩ => ⟨S2112x2048, .f32⟩
  | .local _ .vmem, ⟨0, _⟩ => ⟨S704x896, .f32⟩
  | .local _ .vmem, ⟨1, _⟩ => ⟨S704x896, .f32⟩
  | .local _ .vmem, ⟨2, _⟩ => ⟨S2048x896, .bf16⟩
  | .local _ .vmem, ⟨3, _⟩ => ⟨S2048x896, .bf16⟩
  | .local _ .vmem, ⟨4, _⟩ => ⟨S704x2048, .f32⟩
  | .local _ .vmem, ⟨5, _⟩ => ⟨S704x2048, .f32⟩
  | _, _ => ⟨S2112x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![3, 1, 7], ![false, false, false]⟩

def k0_cond2 (i : grid0.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S704x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjBackReferenceIdeal.lean ====
abbrev S2112x6272 : Shape := ⟨2, ![2112, 6272]⟩
abbrev S2048x6272 : Shape := ⟨2, ![2048, 6272]⟩
abbrev S6272x2048 : Shape := ⟨2, ![6272, 2048]⟩
abbrev S2112x2048 : Shape := ⟨2, ![2112, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2112x6272, .f32⟩
  | .hbm, ⟨1, _⟩ => ⟨S2048x6272, .f32⟩
  | .hbm, ⟨2, _⟩ => ⟨S6272x2048, .f32⟩
  | .hbm, ⟨3, _⟩ => ⟨S2112x2048, .f32⟩
  | _, _ => ⟨S2112x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Lift.lean ====
module

public import Idealize.ShloMosaic.PureOps.BitExact
public import Idealize.ShloMosaic.PureOps.Ideal
public import Idealize.ShloMosaic.PureOps.IdealRules
public import Idealize.ShloMosaic.Lib.Pointwise
public import Idealize.ShloMosaic.Lib.ReduceAll
public import Idealize.ShloMosaic.Lib.Pipeline.ValueKit

/-! Real numbers inside the extended reals: the constants the programs hold, arrays whose elements are all
finite, and sums over rows of which the first 48 are zero. -/

@[expose] public section

set_option maxRecDepth 16384

noncomputable section

namespace Cert.Lift

open Idealize.ShloMosaic

theorem c0 : Ideal.ofBits .f32 0x00000000#32 = ((0 : ℝ) : EReal) := by simp [Ideal.ofBits, Ideal.ieee]

theorem c2048 : Ideal.ofBits .f32 0x45000000#32 = ((2048 : ℝ) : EReal) := by
  simp [Ideal.ofBits, Ideal.ieee, -EReal.coe_mul]; norm_num

theorem chalf : Ideal.ofBits .f32 0x3F000000#32 = ((1 / 2 : ℝ) : EReal) := by
  simp [Ideal.ofBits, Ideal.ieee, -EReal.coe_mul]; norm_num

theorem cneghalf : Ideal.ofBits .f32 0xBF000000#32 = ((-1 / 2 : ℝ) : EReal) := by
  simp [Ideal.ofBits, Ideal.ieee, -EReal.coe_mul]; norm_num

theorem cinf : Ideal.ofBits .f32 0x7F800000#32 = (⊤ : EReal) := by simp [Ideal.ofBits, Ideal.ieee]

/-- The small constant under the root. -/
def eps : ℝ := 8796093 / 2 ^ 43

theorem eps_pos : 0 < eps := by unfold eps; positivity

theorem ceps : Ideal.ofBits .f32 0x358637BD#32 = ((eps : ℝ) : EReal) := by
  unfold eps
  simp [Ideal.ofBits, Ideal.ieee, -EReal.coe_mul]; norm_num

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem div_real (x : ℝ) {y : ℝ} (h : y ≠ 0) : Ideal.div (x : EReal) (y : EReal) = ((x / y : ℝ) : EReal) := by
  rw [Ideal.div_coe h, ← EReal.coe_mul]; congr 1; ring

theorem rsqrt_real {x : ℝ} (h : 0 < x) : Ideal.rsqrt (x : EReal) = (((Real.sqrt x)⁻¹ : ℝ) : EReal) := by
  rw [Ideal.rsqrt_coe, if_neg (not_lt.2 h.le), if_neg h.ne']

/-- An extended real whose absolute value is below infinity is a real number. -/
theorem real_of_abs {x : EReal} (h : BitVec.ofBool (decide (FloatOps.absf (F := Ideal) (φ := .f32) x < Ideal.ofBits FTy.f32 0x7F800000#32)) = 1#1) :
    ∃ r : ℝ, x = r := by
  rw [cinf] at h
  have hlt : FloatOps.absf (F := Ideal) (φ := .f32) x < (⊤ : EReal) := by
    by_contra hn
    rw [decide_eq_false hn] at h
    exact absurd h (by decide)
  induction x with
  | coe r => exact ⟨r, rfl⟩
  | top => exact absurd hlt (by decide +revert)
  | bot => exact absurd hlt (by simp [Ideal.absf_def])

/-- An array all of whose absolute values are below infinity is an array of real numbers. -/
theorem real_of_all {S T U Z : Shape} {axes : List (Fin S.rank)} [Subsingleton T.Idx] (x : S.Idx → EReal) (init : U.Idx → BitVec 1)
    (h : S.ReducesTo axes T) (hu : 0 < U.numel) (d : Fin Z.rank → Fin S.rank) (hb : Z.BroadcastsInDim S d) (j : T.Idx)
    (e : Host.reduce IntOp.andi (cmpf (F := Ideal) (φ := .f32) .olt (Host.absf (F := Ideal) (φ := .f32) x)
      (broadcastInDim S d hb (constant (F := Ideal) Z .f32 0x7F800000#32))) init h hu j = 1#1) :
    ∃ X : S.Idx → ℝ, x = fun i => ((X i : ℝ) : EReal) := by
  have hx : ∀ i, ∃ r : ℝ, x i = r := fun i => real_of_abs (Host.reduce_andi_all _ init h hu j e i)
  choose X hX using hx
  exact ⟨X, funext hX⟩

/-- Two words of one bit whose conjunction is one are one. -/
theorem and_one {a b : BitVec 1} (h : IntOp.andi a b = 1#1) : a = 1#1 ∧ b = 1#1 := by
  revert h; revert a b; decide

/-- A sum over 2112 rows of which the first 48 are zero. -/
theorem sum_pad {α : Type} [AddCommMonoid α] (f : Fin 2112 → α) (h : ∀ i : Fin 2112, i.val < 48 → f i = 0) :
    ∑ i, f i = ∑ i : Fin 2064, f ⟨48 + i.val, by omega⟩ := by
  rw [show (∑ i, f i) = ∑ i : Fin (48 + 2064), f i from rfl, Fin.sum_univ_add]
  rw [Finset.sum_eq_zero (fun i _ => h _ (by simp)), zero_add]
  rfl

/-- The rows of six blocks of 352 are the 2112 rows. -/
theorem sum_blocks {α : Type} [AddCommMonoid α] (f : Fin 2112 → α) :
    ∑ t : Fin 6, ∑ a : Fin 352, f ⟨t.val * 352 + a.val, by omega⟩ = ∑ i, f i :=
  Fin.sum_mul_add_fin 6 352 f rfl

end Cert.Lift
-- ==== Proof.Norm.Pre.lean ====
module

public import proofs.«01_k».proof.Proof.Lift
public import proofs.«01_k».proof.Proof.Gen.NormKernelIdeal
public import proofs.«01_k».proof.Pre_norm_finite

/-! The precondition says that the input, the weight and the cotangent are finite. -/

@[expose] public section

set_option maxRecDepth 16384

noncomputable section

namespace Cert.Pre_norm_finite

open Idealize.ShloMosaic

theorem finite [Facts] (x : S2064x2048.Idx → EReal) (g : S2048.Idx → EReal) (d r : S2064x2048.Idx → EReal)
    (h : fn (F := Ideal) x g d r = fun _ => 1#1) :
    (∃ X : S2064x2048.Idx → ℝ, x = fun i => ((X i : ℝ) : EReal)) ∧ (∃ G : S2048.Idx → ℝ, g = fun i => ((G i : ℝ) : EReal))
      ∧ ∃ D : S2064x2048.Idx → ℝ, d = fun i => ((D i : ℝ) : EReal) := by
  have h0 := congrFun h ix0
  dsimp only [fn] at h0
  have h1 := Lift.and_one h0
  have h2 := Lift.and_one h1.1
  haveI : Subsingleton S_.Idx := ⟨fun a b => funext fun k => k.elim0⟩
  exact ⟨Lift.real_of_all x _ _ _ _ _ _ h2.1, Lift.real_of_all g _ _ _ _ _ _ h2.2, Lift.real_of_all d _ _ _ _ _ _ h1.2⟩

end Cert.Pre_norm_finite
-- ==== Proof.Norm.Spec.lean ====
module

public import proofs.«01_k».proof.Proof.Lift

/-! The gradient of the normalisation over the real numbers. -/

@[expose] public section

noncomputable section

namespace Cert.Norm

open Idealize.ShloMosaic

variable (X D : (⟨2, ![2064, 2048]⟩ : Shape).Idx → ℝ) (G : (⟨1, ![2048]⟩ : Shape).Idx → ℝ)

/-- The mean square of a row, with the small constant. -/
def ms (i : Fin 2064) : ℝ := (∑ k, X (ix2 i k) * X (ix2 i k)) / 2048 + Lift.eps

theorem ms_pos (i : Fin 2064) : 0 < ms X i :=
  add_pos_of_nonneg_of_pos (div_nonneg (Finset.sum_nonneg fun k _ => mul_self_nonneg _) (by norm_num)) Lift.eps_pos

/-- One over the root mean square of a row. -/
def rs (i : Fin 2064) : ℝ := (Real.sqrt (ms X i))⁻¹

theorem rs_sq (i : Fin 2064) : rs X i * rs X i = (ms X i)⁻¹ := by
  unfold rs
  rw [← mul_inv, Real.mul_self_sqrt (ms_pos X i).le]

/-- What the normalisation adds to the gradient of its input. -/
def dxr (i : Fin 2064) (j : Fin 2048) : ℝ :=
  rs X i * (D (ix2 i j) * G (ix1 j) - X (ix2 i j) * rs X i * ((∑ k, D (ix2 i k) * G (ix1 k) * (X (ix2 i k) * rs X i)) / 2048))

/-- The gradient of the weight. -/
def dgr (j : Fin 2048) : ℝ := ∑ i, D (ix2 i j) * (X (ix2 i j) * rs X i)

/-- The gradient of the input, with 48 rows of zeros in front. -/
def dx (r : (⟨2, ![2064, 2048]⟩ : Shape).Idx → EReal) (y : (⟨2, ![2112, 2048]⟩ : Shape).Idx) : EReal :=
  if h : (y 0).val < 48 then 0
  else r (ix2 ⟨(y 0).val - 48, by have : (y 0).val < 2112 := (y 0).isLt; omega⟩ (y 1))
    + ((dxr X D G ⟨(y 0).val - 48, by have : (y 0).val < 2112 := (y 0).isLt; omega⟩ (y 1) : ℝ) : EReal)

theorem dx_lo (r : (⟨2, ![2064, 2048]⟩ : Shape).Idx → EReal) {i : Fin 2112} (h : i.val < 48) (j : Fin 2048) : dx X D G r (ix2 i j) = 0 :=
  dif_pos h

theorem dx_hi (r : (⟨2, ![2064, 2048]⟩ : Shape).Idx → EReal) {i : Fin 2112} (h : ¬ i.val < 48) (j : Fin 2048) :
    dx X D G r (ix2 i j) = r (ix2 ⟨i.val - 48, by omega⟩ j) + ((dxr X D G ⟨i.val - 48, by omega⟩ j : ℝ) : EReal) :=
  dif_neg h

/-- The gradient of the weight, as one row. -/
def dg (y : (⟨2, ![1, 2048]⟩ : Shape).Idx) : EReal := ((dgr X D (y 1) : ℝ) : EReal)

/-- Half the gradient of the input. -/
def half (r : (⟨2, ![2064, 2048]⟩ : Shape).Idx → EReal) (y : (⟨2, ![2112, 2048]⟩ : Shape).Idx) : EReal :=
  ((1 / 2 : ℝ) : EReal) * dx X D G r y

end Cert.Norm
-- ==== Proof.Norm.Kernel.lean ====
module

public import proofs.«01_k».proof.Proof.Norm.Spec
public import proofs.«01_k».proof.Proof.Gen.NormKernelIdeal.Value
public import Idealize.ShloMosaic.Lib.Pipeline.ValueKit
public import Idealize.ShloMosaic.Lib.StableHlo.ReadAt

/-! What the gradient kernel of the normalisation leaves in its three results. -/

@[expose] public section

set_option maxRecDepth 16384

noncomputable section

namespace Cert.NormKernelIdeal.Spec

open Cert.NormKernelIdeal Cert.NormKernelIdeal.Gen Idealize.ShloMosaic Idealize.ShloMosaic.TcCoe Idealize.SL.Sem
open Idealize.ShloMosaic.Pipeline (Dat)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] ∧ win0_7.index t = ![t.val, 0] :=
  (by decide +kernel : ∀ t : Fin grid0.N, _)

/-- The row of the array at row `a` of block `t`. -/
abbrev row (t : Fin cfg0.N) (a : Fin 352) : Fin 2112 := ⟨t.val * 352 + a.val, by have := t.isLt; have : cfg0.N = 6 := rfl; omega⟩

variable (m : (ℓ : Loc nD τ sig) → Buf (Elt Ideal) ℓ) (c : Dev nD)

variable (X D : S2064x2048.Idx → ℝ) (G : S2048.Idx → ℝ) (r : S2064x2048.Idx → EReal)

/-- The blocks of a grid point and the arrays they come from, as plain functions. -/
abbrev b0 (t : Fin cfg0.N) : S352x2048.Idx → EReal := iblk m c 0 t
abbrev b1 (t : Fin cfg0.N) : S352x2048.Idx → EReal := iblk m c 1 t
abbrev b2 (t : Fin cfg0.N) : S1x2048.Idx → EReal := iblk m c 2 t
abbrev b3 (t : Fin cfg0.N) : S352x1.Idx → EReal := iblk m c 3 t
abbrev b4 (t : Fin cfg0.N) : S352x2048.Idx → EReal := iblk m c 4 t
abbrev v1 : S2112x2048.Idx → EReal := V m c (Pipeline.arrRef spec0 1)

/-- The arguments hold these numbers. -/
structure Args : Prop where
  x : m ((c.tc : Thread nD τ).loc main_arg0) = fun i => ((X i : ℝ) : EReal)
  g : m ((c.tc : Thread nD τ).loc main_arg1) = fun i => ((G i : ℝ) : EReal)
  d : m ((c.tc : Thread nD τ).loc main_arg2) = fun i => ((D i : ℝ) : EReal)
  r : m ((c.tc : Thread nD τ).loc main_arg3) = r

/-- An array with 48 rows of zeros in front. -/
def pad (A : S2064x2048.Idx → ℝ) (i : Fin 2112) (j : Fin 2048) : ℝ :=
  if h : i.val < 48 then 0 else A (ix2 ⟨i.val - 48, by omega⟩ j)

/-- The root factor of a row, the rows of zeros too. -/
def prs (i : Fin 2112) : ℝ := (Real.sqrt ((∑ k, pad X i k * pad X i k) / 2048 + Lift.eps))⁻¹

theorem pad_lo (A : S2064x2048.Idx → ℝ) {i : Fin 2112} (h : i.val < 48) (j : Fin 2048) : pad A i j = 0 := dif_pos h
theorem pad_hi (A : S2064x2048.Idx → ℝ) {i : Fin 2112} (h : ¬ i.val < 48) (j : Fin 2048) : pad A i j = A (ix2 ⟨i.val - 48, by omega⟩ j) := dif_neg h
theorem prs_hi {i : Fin 2112} (h : ¬ i.val < 48) : prs X i = Norm.rs X ⟨i.val - 48, by omega⟩ := by
  unfold prs Norm.rs Norm.ms
  simp only [pad_hi X h]

variable {m c X D G r} (A : Args m c X D G r)
include A

theorem V_0 (i : Fin 2112) (j : Fin 2048) : V m c (Pipeline.arrRef spec0 0) (ix2 i j) = ((pad D i j : ℝ) : EReal) := by
  have h := A.d
  unfold V
  after_reads_at
  pointwise
  unfold pad
  split
  · rfl
  · exact congrFun h _

theorem V_1 (i : Fin 2112) (j : Fin 2048) : V m c (Pipeline.arrRef spec0 1) (ix2 i j) = ((pad X i j : ℝ) : EReal) := by
  have h := A.x
  unfold V
  after_reads_at
  pointwise
  unfold pad
  split
  · rfl
  · exact congrFun h _

theorem V_2 (j : Fin 2048) : V m c (Pipeline.arrRef spec0 2) (ix2 0 j) = ((G (ix1 j) : ℝ) : EReal) := by
  have h := A.g
  unfold V
  after_reads_at
  pointwise
  exact congrFun h _

theorem V_4 (i : Fin 2112) (j : Fin 2048) : V m c (Pipeline.arrRef spec0 4) (ix2 i j) = if h : i.val < 48 then 0 else r (ix2 ⟨i.val - 48, by omega⟩ j) := by
  have h := A.r
  unfold V
  after_reads_at
  pointwise
  split
  · rfl
  · exact congrFun h _

theorem V_3 (i : Fin 2112) : V m c (Pipeline.arrRef spec0 3) (ix2 i 0) = ((prs X i : ℝ) : EReal) := by
  have h1 : ∀ k : Fin 2048, v1 m c (ix2 i k) = ((pad X i k : ℝ) : EReal) := V_1 A i
  have hs : 0 < (∑ k, pad X i k * pad X i k) / 2048 + Lift.eps :=
    add_pos_of_nonneg_of_pos (div_nonneg (Finset.sum_nonneg fun k _ => mul_self_nonneg _) (by norm_num)) Lift.eps_pos
  suffices h : V m c (Pipeline.arrRef spec0 3) (ix2 i 0)
      = Ideal.rsqrt (Ideal.div (∑ k, v1 m c (ix2 i k) * v1 m c (ix2 i k))
          (Ideal.ofBits FTy.f32 0x45000000#32) + Ideal.ofBits FTy.f32 0x358637BD#32) by
    refine h.trans ?_
    simp only [h1, ← EReal.coe_mul, Lift.coe_sum, Lift.c2048, Lift.ceps, ← EReal.coe_add,
      Lift.div_real _ (by norm_num : (2048 : ℝ) ≠ 0)]
    exact Lift.rsqrt_real hs
  unfold v1 V
  after_reads_at
  after_reads_at

section Blocks
variable (t : Fin cfg0.N) (a : Fin 352) (b : Fin 2048)
theorem iblk_0 : b0 m c t (ix2 a b) = ((pad D (row t a) b : ℝ) : EReal) := by
  rw [← V_0 A]; blk_ext [iblk, idx t]
theorem iblk_1 : b1 m c t (ix2 a b) = ((pad X (row t a) b : ℝ) : EReal) := by
  rw [← V_1 A]; blk_ext [iblk, idx t]
theorem iblk_2 : b2 m c t (ix2 (0 : Fin 1) b) = ((G (ix1 b) : ℝ) : EReal) := by
  rw [← V_2 A]; blk_ext [iblk, idx t]
theorem iblk_3 : b3 m c t (ix2 a (0 : Fin 1)) = ((prs X (row t a) : ℝ) : EReal) := by
  rw [← V_3 A]; blk_ext [iblk, idx t]
theorem iblk_4 : b4 m c t (ix2 a b) = if h : (row t a).val < 48 then 0 else r (ix2 ⟨(row t a).val - 48, by omega⟩ b) := by
  rw [← V_4 A]; blk_ext [iblk, idx t]

/-- One element of the gradient of the input, from the blocks. -/
theorem dx_elt : b4 m c t (ix2 a b) + b3 m c t (ix2 a 0) * (b0 m c t (ix2 a b) * b2 m c t (ix2 0 b)
      - b1 m c t (ix2 a b) * b3 m c t (ix2 a 0) *
        Ideal.div (∑ k, b0 m c t (ix2 a k) * b2 m c t (ix2 0 k) * (b1 m c t (ix2 a k) * b3 m c t (ix2 a 0)))
          (Ideal.ofBits FTy.f32 0x45000000#32)) = Norm.dx X D G r (ix2 (row t a) b) := by
  simp only [iblk_0 A, iblk_1 A, iblk_2 A, iblk_3 A, Lift.c2048, ← EReal.coe_mul, Lift.coe_sum,
      Lift.div_real _ (by norm_num : (2048 : ℝ) ≠ 0), ← EReal.coe_sub]
  rw [iblk_4 A]
  unfold Norm.dx
  by_cases h : (row t a).val < 48
  · rw [dif_pos h, dif_pos (show ((ix2 (row t a) b : S2112x2048.Idx) 0).val < 48 from h)]
    simp only [pad_lo _ h]
    simp
  · rw [dif_neg h, dif_neg (show ¬ ((ix2 (row t a) b : S2112x2048.Idx) 0).val < 48 from h)]
    simp only [pad_hi _ h, prs_hi X h]
    rfl
end Blocks

theorem dx_arr : (dats m 0 c).arrAt 5 cfg0.N = Norm.dx X D G r := by
  refine (dats m 0 c).arrAt_eq_of_covers 5 _ (by decide +kernel) fun t hf y => ?_
  obtain ⟨a, b, rfl⟩ : ∃ (a : Fin 352) (b : Fin 2048), y = ix2 a b := ⟨y 0, y 1, eq_ix2 y⟩
  have key : ∀ P : EReal, P = Norm.dx X D G r (ix2 (row t a) b) →
     P =  Norm.dx X D G r (((View.whole main_v15_0).slice (win0_5.rect t)).emb (ix2 a b)) := by
    intro P h; rw [h]; blk_ext [idx t]
  blk_simp; rw [after0_5]
  by_cases h0 : t.val % 6 = 0
  · rw [outsAt0_A m c t h0]; frame_out; unfold_payloads; pointwise
    apply key
    exact dx_elt A t a b
  · rw [outsAt0_B m c t h0]; frame_out; unfold_payloads; pointwise
    apply key
    exact dx_elt A t a b

theorem half_arr : (dats m 0 c).arrAt 7 cfg0.N = Norm.half X D G r := by
  refine (dats m 0 c).arrAt_eq_of_covers 7 _ (by decide +kernel) fun t hf y => ?_
  obtain ⟨a, b, rfl⟩ : ∃ (a : Fin 352) (b : Fin 2048), y = ix2 a b := ⟨y 0, y 1, eq_ix2 y⟩
  have key : ∀ P : EReal, P = Norm.dx X D G r (ix2 (row t a) b) →
     Ideal.ofBits FTy.f32 0x3F000000#32 * P =  Norm.half X D G r (((View.whole main_v15_2).slice (win0_7.rect t)).emb (ix2 a b)) := by
    intro P h; rw [h, Lift.chalf]; unfold Norm.half; congr 2; blk_ext [idx t]
  blk_simp; rw [after0_7]
  by_cases h0 : t.val % 6 = 0
  · rw [outsAt0_A m c t h0]; frame_out; unfold_payloads; pointwise
    apply key
    exact dx_elt A t a b
  · rw [outsAt0_B m c t h0]; frame_out; unfold_payloads; pointwise
    apply key
    exact dx_elt A t a b

/-- What the rows of one block add to the gradient of the weight. -/
def part (t : Fin cfg0.N) (b : Fin 2048) : ℝ := ∑ a : Fin 352, pad D (row t a) b * (pad X (row t a) b * prs X (row t a))

omit A in
theorem part_sum (b : Fin 2048) : ∑ t, part (X := X) (D := D) t b = Norm.dgr X D b := by
  refine (Lift.sum_blocks (fun i => pad D i b * (pad X i b * prs X i))).trans ?_
  rw [Lift.sum_pad _ (fun i h => by rw [pad_lo _ h, zero_mul])]
  refine Finset.sum_congr rfl fun i _ => ?_
  have h : ¬ (⟨48 + i.val, by omega⟩ : Fin 2112).val < 48 := by simp
  rw [pad_hi _ h, pad_hi _ h, prs_hi X h]
  simp only [Nat.add_sub_cancel_left]

theorem part_elt (t : Fin cfg0.N) (b : Fin 2048) :
    (∑ a : Fin 352, b0 m c t (ix2 a b) * (b1 m c t (ix2 a b) * b3 m c t (ix2 a 0))) = ((part (X := X) (D := D) t b : ℝ) : EReal) := by
  simp only [iblk_0 A, iblk_1 A, iblk_3 A, ← EReal.coe_mul, Lift.coe_sum]
  rfl

theorem dg_arr : (dats m 0 c).arrAt 6 cfg0.N = Norm.dg X D := by
  refine (dats m 0 c).arrAt_eq_of_after_last 6 t0_5 (by decide +kernel) _ fun j => ?_
  rw [after0_6]
  blk_simp
  refine (Pipeline.eq_sum_fin_of_reset_step_apply_last (fun n hn => (outsAt0 m c n hn).2.1) 6 (fun _ => (0 : EReal))
    (fun t i => ((part (X := X) (D := D) t (i 1) : ℝ) : EReal)) ?_ ?_ (le_of_eq rfl) t0_5 rfl _).trans ?_
  · intro t h0 i
    rw [outsAt0_A m c t h0]; frame_out; unfold_payloads; pointwise
    exact part_elt A t (i 1)
  · intro t h0 i
    rw [outsAt0_B m c t h0]; frame_out; unfold_payloads; pointwise
    exact congrArg _ (part_elt A t (i 1))
  · rw [zero_add, Lift.coe_sum]
    exact congrArg _ (part_sum (j 1))

end Cert.NormKernelIdeal.Spec
-- ==== Proof.Norm.Reference.lean ====
module

public import proofs.«01_k».proof.Proof.Norm.Spec
public import proofs.«01_k».proof.Proof.Gen.NormReferenceIdeal.Read

/-! What the derivative of the plain normalisation is, read from the reference's stages. -/

@[expose] public section

set_option maxRecDepth 16384

noncomputable section

namespace Cert.NormReferenceIdeal.Spec

open Cert.NormReferenceIdeal Idealize.ShloMosaic Idealize.ShloMosaic.TcCoe Idealize.SL.Sem

variable (X D : S2064x2048.Idx → ℝ) (G : S2048.Idx → ℝ) (r : S2064x2048.Idx → EReal)

/-- The real numbers as an array of extended reals. -/
local notation "↟" X => fun i => ((X i : ℝ) : EReal)

theorem v6 (i : Fin 2064) : Read.val_main_v6 (F := Ideal) (↟X) (ix2 i (0 : Fin 1)) = ((Norm.ms X i : ℝ) : EReal) := by
  unfold Read.val_main_v6 Read.val_main_v5 Read.val_main_v4 Read.val_main_v3 Read.val_main_v2 Read.val_main_v1 Read.val_main_v0 Read.val_main_cst Read.val_main_cst_0 Read.val_main_cst_1
  pointwise
  simp only [Lift.c0, Lift.c2048, Lift.ceps, ← EReal.coe_mul, Lift.coe_sum, ← EReal.coe_add, Lift.div_real _ (by norm_num : (2048 : ℝ) ≠ 0)]
  rfl

theorem v7 (i : Fin 2064) : Read.val_main_v7 (F := Ideal) (↟X) (ix2 i (0 : Fin 1)) = ((Norm.rs X i : ℝ) : EReal) := by
  unfold Read.val_main_v7
  pointwise
  rw [v6]
  exact Lift.rsqrt_real (Norm.ms_pos X i)

theorem v10 (i : Fin 2064) : Read.val_main_v10 (F := Ideal) (↟X) (ix2 i (0 : Fin 1)) = ((-1 / 2 * (Norm.rs X i / Norm.ms X i) : ℝ) : EReal) := by
  unfold Read.val_main_v10 Read.val_main_v9 Read.val_main_v8 Read.val_main_cst_2
  pointwise
  rw [v6, v7, Lift.cneghalf, Lift.div_real _ (Norm.ms_pos X i).ne', ← EReal.coe_mul]

theorem v24 (i : Fin 2064) : Read.val_main_v24 (F := Ideal) (↟X) (↟G) (↟D) (ix2 i (0 : Fin 1))
    = ((∑ k, X (ix2 i k) * (G (ix1 k) * D (ix2 i k)) : ℝ) : EReal) := by
  unfold Read.val_main_v24 Read.val_main_v23 Read.val_main_v22 Read.val_main_v20 Read.val_main_v19 Read.val_main_v13 Read.val_main_cst_5
  pointwise
  simp only [← EReal.coe_mul, Lift.coe_sum]
  exact congrArg _ (Finset.sum_congr rfl fun k _ => by ring)

theorem v31 (i : Fin 2064) : Read.val_main_v31 (F := Ideal) (↟X) (↟G) (↟D) (ix1 i)
    = (((∑ k, X (ix2 i k) * (G (ix1 k) * D (ix2 i k))) * (-1 / 2 * (Norm.rs X i / Norm.ms X i)) / 2048 : ℝ) : EReal) := by
  unfold Read.val_main_v31 Read.val_main_v30 Read.val_main_v29 Read.val_main_v28 Read.val_main_cst_6 Read.val_main_cst_7
  pointwise
  rw [Fin.sum_univ_one, v24, v10, Lift.c2048, ← EReal.coe_mul, Lift.div_real _ (by norm_num : (2048 : ℝ) ≠ 0)]

theorem v36 (i : Fin 2064) (j : Fin 2048) : Read.val_main_v36 (F := Ideal) (↟X) (↟G) (↟D) r (ix2 i j)
    = r (ix2 i j) + ((Norm.dxr X D G i j : ℝ) : EReal) := by
  unfold Read.val_main_v36 Read.val_main_v35 Read.val_main_v34 Read.val_main_v33 Read.val_main_v32 Read.val_main_v27 Read.val_main_v26 Read.val_main_v25 Read.val_main_v20 Read.val_main_v19 Read.val_main_v13
  pointwise
  rw [v31, v7, add_assoc, add_assoc]
  simp only [← EReal.coe_mul, ← EReal.coe_add]
  congr 2
  unfold Norm.dxr
  have h : (Norm.ms X i)⁻¹ = _ := (Norm.rs_sq X i).symm
  rw [div_eq_mul_inv (Norm.rs X i), h]
  have hs : ∑ k, D (ix2 i k) * G (ix1 k) * (X (ix2 i k) * Norm.rs X i) = (∑ k, X (ix2 i k) * (G (ix1 k) * D (ix2 i k))) * Norm.rs X i := by
    rw [Finset.sum_mul]
    exact Finset.sum_congr rfl fun k _ => by ring
  rw [hs]
  ring

theorem dx_ref : Read.val_main_v38 (F := Ideal) (↟X) (↟G) (↟D) r = Norm.dx X D G r := by
  funext y
  idx_vars y
  unfold Read.val_main_v38 Read.val_main_v37 Read.val_main_cst_8
  pointwise
  by_cases h : y0.val < 48
  · rw [dif_pos h]
    exact (Norm.dx_lo X D G r h y1).symm
  · rw [dif_neg h, v36]
    exact (Norm.dx_hi X D G r h y1).symm

theorem half_ref : Read.val_main_v42 (F := Ideal) (↟X) (↟G) (↟D) r = Norm.half X D G r := by
  funext y
  idx_vars y
  unfold Read.val_main_v42 Read.val_main_v41 Read.val_main_v40 Read.val_main_cst_9
  pointwise
  rw [dx_ref, Lift.chalf]
  rfl

theorem dg_ref : Read.val_main_v39 (F := Ideal) (↟X) (↟D) = Norm.dg X D := by
  funext y
  idx_vars y
  unfold Read.val_main_v39 Read.val_main_v21 Read.val_main_v18 Read.val_main_v17 Read.val_main_v16 Read.val_main_v12 Read.val_main_v11 Read.val_main_cst_3 Read.val_main_cst_4
  pointwise
  rw [Fin.sum_univ_one]
  simp only [v7, ← EReal.coe_mul, Lift.coe_sum]
  refine congrArg _ (Finset.sum_congr rfl fun k _ => ?_)
  show _ = D (ix2 k y1) * (X (ix2 k y1) * Norm.rs X k)
  ring

end Cert.NormReferenceIdeal.Spec
-- ==== Proof.Norm.Claims.lean ====
module

public import proofs.«01_k».proof.Defs
public import proofs.«01_k».proof.Proof.Norm.Pre
public import proofs.«01_k».proof.Proof.Norm.Kernel
public import proofs.«01_k».proof.Proof.Norm.Reference
public import proofs.«01_k».proof.Proof.Gen.NormReferenceIdeal
public import proofs.«01_k».proof.Proof.Gen.NormReferenceIdeal.Run
public import Idealize.ShloMosaic.Lib.Quiescent

/-! The gradient of the normalisation: the reference's frame and the equality of the results. -/

@[expose] public section

set_option maxRecDepth 16384

noncomputable section

namespace Cert.Norm

open Idealize.ShloMosaic Idealize.SL.Sem

theorem frame_reference : Cert.quiescent_NormReferenceIdeal := fun m ρ _ =>
  (θ_run Cert.NormReferenceIdeal.defs _ _).mono (fun r h => ⟨fun c => ⟨(h c).2.2.2.1, (h c).2.2.2.2.1, (h c).2.2.2.2.2.1, (h c).2.2.2.2.2.2⟩,
    Idealize.ShloMosaic.sem_eq_zero_of_no_sems (by decide) r.2⟩) (Cert.NormReferenceIdeal.Value.run (F := Ideal) m ρ)

theorem algebraic [Cert.Pre_norm_finite.Facts] : Cert.algebraic_NormKernelIdeal_NormReferenceIdeal_pre_norm_finite := by
  intro m g m' g' hpre hargs
  refine ⟨fun c => (Cert.NormKernelIdeal.Gen.dats m 0 c).arrAt 5 Cert.NormKernelIdeal.cfg0.N,
    fun c => (Cert.NormKernelIdeal.Gen.dats m 0 c).arrAt 6 Cert.NormKernelIdeal.cfg0.N,
    fun c => (Cert.NormKernelIdeal.Gen.dats m 0 c).arrAt 7 Cert.NormKernelIdeal.cfg0.N,
    Cert.NormKernelIdeal.Value.run_blocks m g, ?_⟩
  refine (θ_run Cert.NormReferenceIdeal.defs _ _).mono (fun r h c => ?_) (Cert.NormReferenceIdeal.Value.run (F := Ideal) m' g')
  obtain ⟨h0, h1, h2, hk⟩ := h c
  obtain ⟨⟨X, hX⟩, ⟨G, hG⟩, ⟨D, hD⟩⟩ := Cert.Pre_norm_finite.finite _ _ _ _ (hpre c)
  obtain ⟨a0, a1, a2, a3⟩ := hargs c
  have A : Cert.NormKernelIdeal.Spec.Args m c X D G (m ((c.tc : Thread Cert.NormKernelIdeal.nD Cert.NormKernelIdeal.τ).loc Cert.NormKernelIdeal.main_arg3)) :=
    ⟨hX, hG, hD, rfl⟩
  refine ⟨h0.trans ?_, h1.trans ?_, h2.trans ?_, hk⟩
  · rw [Cert.NormReferenceIdeal.Read.val_main_v38_eq, a0, a1, a2, a3, hX, hG, hD]
    exact (Cert.NormReferenceIdeal.Spec.dx_ref X D G _).trans (Cert.NormKernelIdeal.Spec.dx_arr A).symm
  · rw [Cert.NormReferenceIdeal.Read.val_main_v39_eq, a0, a2, hX, hD]
    exact (Cert.NormReferenceIdeal.Spec.dg_ref X D).trans (Cert.NormKernelIdeal.Spec.dg_arr A).symm
  · rw [Cert.NormReferenceIdeal.Read.val_main_v42_eq, a0, a1, a2, a3, hX, hG, hD]
    exact (Cert.NormReferenceIdeal.Spec.half_ref X D G _).trans (Cert.NormKernelIdeal.Spec.half_arr A).symm

end Cert.Norm
-- ==== Proof.Gla.Pre.lean ====
module

public import proofs.«01_k».proof.Proof.Lift
public import proofs.«01_k».proof.Pre_gla_finite

/-! The precondition says that the projections, the gate's weights and bias and the output's gradient are finite. -/

@[expose] public section

set_option maxRecDepth 16384

noncomputable section

namespace Cert.Pre_gla_finite

open Idealize.ShloMosaic

theorem finite [Facts] (p : S2064x6160.Idx → EReal) (w : S16x1024.Idx → EReal) (b : S1024.Idx → EReal) (o r : S2064x2048.Idx → EReal)
    (h : fn (F := Ideal) p w b o r = fun _ => 1#1) :
    (∃ P : S2064x6160.Idx → ℝ, p = fun i => ((P i : ℝ) : EReal)) ∧ (∃ W : S16x1024.Idx → ℝ, w = fun i => ((W i : ℝ) : EReal))
      ∧ (∃ B : S1024.Idx → ℝ, b = fun i => ((B i : ℝ) : EReal)) ∧ ∃ O : S2064x2048.Idx → ℝ, o = fun i => ((O i : ℝ) : EReal) := by
  have h0 := congrFun h ix0
  dsimp only [fn, fn_part1] at h0
  have h1 := Lift.and_one h0
  have h2 := Lift.and_one h1.1
  have h3 := Lift.and_one h2.1
  haveI : Subsingleton S_.Idx := ⟨fun a b => funext fun k => k.elim0⟩
  exact ⟨Lift.real_of_all p _ _ _ _ _ _ h3.1, Lift.real_of_all w _ _ _ _ _ _ h3.2, Lift.real_of_all b _ _ _ _ _ _ h2.2, Lift.real_of_all o _ _ _ _ _ _ h1.2⟩

end Cert.Pre_gla_finite
-- ==== Proof.Gla.Cond.lean ====
module

public import proofs.«01_k».proof.Proof.Gen.GlaKernelIdeal.Launch
public import proofs.«01_k».proof.Proof.Gen.GlaKernelIdeal.Skeleton
public import proofs.«01_k».proof.Proof.Gen.GlaKernelIdeal.Points
public import Idealize.ShloMosaic.Lib.Pipeline.FrameBody
public import Idealize.ShloMosaic.Lib.Ring
public import Idealize.ShloMosaic.Lib.Tactic
public import Idealize.ShloMosaic.Lib.WordCmp

@[expose] public section

/-! The one condition of each of the two bodies: the grid's first point, where the carried scratch is filled. -/

namespace Cert.GlaKernelIdeal.Run

open Idealize.ShloMosaic Idealize.ShloMosaic.TcCoe Idealize.ShloMosaic.Tactic
open Cert.GlaKernelIdeal.Gen

/-- The forward body's condition, as its words compute it. -/
abbrev cond0_0 (i : grid0.Coords) : Prop :=
  (Scalar.cmpi .ne (Scalar.extui (Scalar.cmpi .eq (BitVec.ofNat 32 (i 0).val) 0#32)) 0#32) = 1#1

/-- The backward body's condition. -/
abbrev cond1_0 (i : grid1.Coords) : Prop :=
  (Scalar.cmpi .ne (Scalar.extui (Scalar.cmpi .eq (BitVec.ofNat 32 (i 0).val) 0#32)) 0#32) = 1#1

theorem coord0 (t : Fin grid0.N) : (grid0.coords t 0).val = t.val := by
  have ht : t.val < 33 := Nat.lt_of_lt_of_eq t.isLt N_0
  have e0 : (grid0.coords t 0).val = t.val / 1 % 33 := Pipeline.Grid.coords_val t 0 (by decide) rfl
  rw [e0]; omega

theorem coord1 (t : Fin grid1.N) : (grid1.coords t 0).val = t.val := by
  have ht : t.val < 33 := Nat.lt_of_lt_of_eq t.isLt N_1
  have e0 : (grid1.coords t 0).val = t.val / 1 % 33 := Pipeline.Grid.coords_val t 0 (by decide) rfl
  rw [e0]; omega

theorem hcond0 : ∀ t : Fin grid0.N, cond0_0 (grid0.coords t) ↔ t.val = 0 := fun t => by
  have ht : t.val < 33 := Nat.lt_of_lt_of_eq t.isLt N_0
  simp only [cond0_0, coord0]
  word_cmp

theorem hcond1 : ∀ t : Fin grid1.N, cond1_0 (grid1.coords t) ↔ t.val = 0 := fun t => by
  have ht : t.val < 33 := Nat.lt_of_lt_of_eq t.isLt N_1
  simp only [cond1_0, coord1]
  word_cmp

end Cert.GlaKernelIdeal.Run
-- ==== Proof.Gla.Run0A.lean ====
module

public import proofs.«01_k».proof.Proof.Gla.Cond

@[expose] public section

set_option maxRecDepth 16384

noncomputable section

namespace Cert.GlaKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GlaKernelIdeal.Gen

variable {F : FTy → Type} [FloatOps F]

local notation "𝕄" => MT nD τ sig Unit (Elt F) ℕ (UR sig nD τ) ℕ

-- the run's term is long: one load or store after another
set_option maxHeartbeats 4000000 in
/-- The forward body at the first point (the carried scratch is filled with zeros): the pieces its stores leave in each output and in the
    scratch, last first, with the proof that on whole staging memrefs the body runs to a state that holds them. -/
def run0A (c : Dev nD) (i : grid0.Coords)
    (a0 : Memref sig .tc .vmem S64x1024 .f32) (h0 : a0.IsWhole) (a1 : Memref sig .tc .vmem S64x1024 .f32) (h1 : a1.IsWhole) (a2 : Memref sig .tc .vmem S64x2048 .f32) (h2 : a2.IsWhole) (a3 : Memref sig .tc .vmem S64x128 .f32) (h3 : a3.IsWhole) (a4 : Memref sig .tc .vmem S128x1024 .bf16) (h4 : a4.IsWhole) (a5 : Memref sig .tc .vmem S1x1024 .f32) (h5 : a5.IsWhole) (a6 : Memref sig .tc .vmem S64x2048 .f32) (h6 : a6.IsWhole) (a7 : Memref sig .tc .vmem S1x4x512x256 .f32) (h7 : a7.IsWhole) (a8 : Memref sig .tc .vmem S4x512x256 .f32) (h8 : a8.IsWhole)
    (hc : cond0_0 i)
    (x0 : Vec F S64x1024 .f32)
    (x1 : Vec F S64x1024 .f32)
    (x2 : Vec F S64x2048 .f32)
    (x3 : Vec F S64x128 .f32)
    (x4 : Vec F S128x1024 .bf16)
    (x5 : Vec F S1x1024 .f32) :
    Σ' L0 : List (View.Piece (Elt F) S64x2048 .f32), Σ' L1 : List (View.Piece (Elt F) S1x4x512x256 .f32),
    { LS : List (View.Piece (Elt F) S4x512x256 .f32) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ (∃ d, owns (c : Thread nD τ) a6 fullShare d)
          ∗ (∃ d, owns (c : Thread nD τ) a7 fullShare d)
          ∗ (∃ d, owns (c : Thread nD τ) a8 fullShare d)
          ∗ (iprop(owns (c : Thread nD τ) a0 fullShare x0
              ∗ owns (c : Thread nD τ) a1 fullShare x1
              ∗ owns (c : Thread nD τ) a2 fullShare x2
              ∗ owns (c : Thread nD τ) a3 fullShare x3
              ∗ owns (c : Thread nD τ) a4 fullShare x4
              ∗ owns (c : Thread nD τ) a5 fullShare x5
              ∗ (∃ f, a6.view.loc (c : Thread nD τ) ↦[a6.view.set]{fullShare} a6.view.writes (Elt F) f L0)
              ∗ (∃ f, a7.view.loc (c : Thread nD τ) ↦[a7.view.set]{fullShare} a7.view.writes (Elt F) f L1)
              ∗ (∃ f, a8.view.loc (c : Thread nD τ) ↦[a8.view.set]{fullShare} a8.view.writes (Elt F) f LS)) -∗ K ⟨⟩))
          ⊢ wp frame (wpE (defs₀ (F := F)) Variants.none c none) E (cc0_gla_fwd i a0 h0 a1 h1 a2 h2 a3 h3 a4 h4 a5 h5 a6 h6 a7 h7 a8 h8) K } := by
  refine ⟨?_, ?_, ?_, fun E K => ?run⟩
  case run =>
    simp only [cc0_gla_fwd_eq_skeleton]; unfold cc0_gla_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
    obtain rfl := h0.eq_unread e0; obtain rfl := h1.eq_unread e1; obtain rfl := h2.eq_unread e2; obtain rfl := h3.eq_unread e3; obtain rfl := h4.eq_unread e4; obtain rfl := h5.eq_unread e5
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.GlaKernelIdeal.Run
-- ==== Proof.Gla.Run0B.lean ====
module

public import proofs.«01_k».proof.Proof.Gla.Run0A

@[expose] public section

set_option maxRecDepth 16384

noncomputable section

namespace Cert.GlaKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GlaKernelIdeal.Gen

variable {F : FTy → Type} [FloatOps F]

local notation "𝕄" => MT nD τ sig Unit (Elt F) ℕ (UR sig nD τ) ℕ

-- the run's term is long: one load or store after another
set_option maxHeartbeats 4000000 in
/-- The forward body at the later points (the carried scratch holds what the point before left): the pieces its stores leave in each output and in the
    scratch, last first, with the proof that on whole staging memrefs the body runs to a state that holds them. -/
def run0B (c : Dev nD) (i : grid0.Coords)
    (a0 : Memref sig .tc .vmem S64x1024 .f32) (h0 : a0.IsWhole) (a1 : Memref sig .tc .vmem S64x1024 .f32) (h1 : a1.IsWhole) (a2 : Memref sig .tc .vmem S64x2048 .f32) (h2 : a2.IsWhole) (a3 : Memref sig .tc .vmem S64x128 .f32) (h3 : a3.IsWhole) (a4 : Memref sig .tc .vmem S128x1024 .bf16) (h4 : a4.IsWhole) (a5 : Memref sig .tc .vmem S1x1024 .f32) (h5 : a5.IsWhole) (a6 : Memref sig .tc .vmem S64x2048 .f32) (h6 : a6.IsWhole) (a7 : Memref sig .tc .vmem S1x4x512x256 .f32) (h7 : a7.IsWhole) (a8 : Memref sig .tc .vmem S4x512x256 .f32) (h8 : a8.IsWhole)
    (hc : ¬cond0_0 i)
    (x0 : Vec F S64x1024 .f32)
    (x1 : Vec F S64x1024 .f32)
    (x2 : Vec F S64x2048 .f32)
    (x3 : Vec F S64x128 .f32)
    (x4 : Vec F S128x1024 .bf16)
    (x5 : Vec F S1x1024 .f32) (s : Vec F S4x512x256 .f32) :
    Σ' L0 : List (View.Piece (Elt F) S64x2048 .f32), Σ' L1 : List (View.Piece (Elt F) S1x4x512x256 .f32),
    { LS : List (View.Piece (Elt F) S4x512x256 .f32) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ (∃ d, owns (c : Thread nD τ) a6 fullShare d)
          ∗ (∃ d, owns (c : Thread nD τ) a7 fullShare d)
          ∗ owns (c : Thread nD τ) a8 fullShare s
          ∗ (iprop(owns (c : Thread nD τ) a0 fullShare x0
              ∗ owns (c : Thread nD τ) a1 fullShare x1
              ∗ owns (c : Thread nD τ) a2 fullShare x2
              ∗ owns (c : Thread nD τ) a3 fullShare x3
              ∗ owns (c : Thread nD τ) a4 fullShare x4
              ∗ owns (c : Thread nD τ) a5 fullShare x5
              ∗ (∃ f, a6.view.loc (c : Thread nD τ) ↦[a6.view.set]{fullShare} a6.view.writes (Elt F) f L0)
              ∗ (∃ f, a7.view.loc (c : Thread nD τ) ↦[a7.view.set]{fullShare} a7.view.writes (Elt F) f L1)
              ∗ (∃ f, a8.view.loc (c : Thread nD τ) ↦[a8.view.set]{fullShare} a8.view.writes (Elt F) f LS)) -∗ K ⟨⟩))
          ⊢ wp frame (wpE (defs₀ (F := F)) Variants.none c none) E (cc0_gla_fwd i a0 h0 a1 h1 a2 h2 a3 h3 a4 h4 a5 h5 a6 h6 a7 h7 a8 h8) K } := by
  refine ⟨?_, ?_, ?_, fun E K => ?run⟩
  case run =>
    simp only [cc0_gla_fwd_eq_skeleton]; unfold cc0_gla_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%f8, %e8, H8⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h8.eq_unread e8
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.GlaKernelIdeal.Run
-- ==== Proof.Gla.Region0.lean ====
module

public import proofs.«01_k».proof.Proof.Gla.Run0B
public import Idealize.ShloMosaic.Lib.Claim

@[expose] public section

set_option maxRecDepth 16384

noncomputable section

namespace Cert.GlaKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GlaKernelIdeal.Gen
open Idealize.ShloMosaic.Pipeline (Dat Cfg Window BodyObligation cellOf)

variable {F : FTy → Type} [FloatOps F]

local notation "𝕄" => MT nD τ sig Unit (Elt F) ℕ (UR sig nD τ) ℕ

/-! The forward region: what each point finds and leaves, and the body's obligation. The contents of the
    unscoped buffers at the region's entry are `V`. -/

variable (V : (c : Dev nD) → (b : Ref sig .tc) → Buf (Elt F) ((c : Thread nD τ).loc b))

/-- What an input window's staging buffer holds at point `t`: the window's block of its array. No block is cut at
    its array's end, so the fill covers the buffer. -/
def X0 (c : Dev nD) (w : Fin cfg0.W) (t : Fin cfg0.N) : (cfg0.win w).block.Idx → Elt F (cfg0.win w).elt :=
  (cfg0.win w).fill (cfg0.grid.coords t) (fun _ => Classical.choice inferInstance)
    (((cfg0.win w).blk t).view.read (Elt F) (V c (Pipeline.arrRef spec0 w)))

theorem xsize0 : ∀ (w : Fin cfg0.W) (t : Fin cfg0.N) (a), (cfg0.win w).xsize (cfg0.grid.coords t) a = (cfg0.win w).size a := by
  decide +kernel

theorem moved0 (w : Fin cfg0.W) (t : Fin cfg0.N) (j : (cfg0.win w).block.Idx) :
    (cfg0.win w).moved (cfg0.grid.coords t) j = true :=
  ((cfg0.win w).moved_iff _ j).mpr fun a => by rw [xsize0 w t a]; exact (j a).isLt

theorem fill0 (w : Fin cfg0.W) (t : Fin cfg0.N) (d d' : (cfg0.win w).block.Idx → Elt F (cfg0.win w).elt) (g) :
    (cfg0.win w).fill (cfg0.grid.coords t) d g = (cfg0.win w).fill (cfg0.grid.coords t) d' g := by
  funext j; unfold Pipeline.Window.fill; rw [dif_pos (moved0 w t j), dif_pos (moved0 w t j)]

/-- An input window's buffer holds its block at every point, fetched there or not. -/
theorem before0_of {c : Dev nD} (dat : Dat τ (Elt F) Unit ℕ (UR sig nD τ) ℕ cfg0 c) (w : Fin cfg0.W)
    (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hA : dat.A w = V c (Pipeline.arrRef spec0 w)) (hafter : ∀ t, dat.after w t = X0 V c w t) (t : Fin cfg0.N) (d) :
    dat.before w t d = X0 V c w t :=
  (dat.before_in_eq_fetched w hw (fun _ => rfl) hclip
      (fun t => by rw [hafter]; unfold X0; rw [Pipeline.Window.cut_fill]; unfold Dat.blockOf; rw [hA]) t d).trans
    (by unfold Dat.fetched X0; rw [fill0 w t d fun _ => Classical.choice inferInstance]; unfold Dat.blockOf; rw [hA])

abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x512x256 .f32 := win0_7.stage (cfg0.slots t 7)
abbrev hs0_7 (t : Fin cfg0.N) : (ms0_7 t).IsWhole := hstage0_7 ((cfg0.slots t 7).cast nbuf0_7)
/-- The carried scratch. -/
abbrev sc0 : Memref sig .tc .vmem S4x512x256 .f32 := Memref.whole cc0_scratch0
abbrev VS0 : View sig .tc .vmem S4x512x256 .f32 := sc0.view
abbrev VO0_0 : View sig .tc .vmem S64x2048 .f32 := (Memref.whole cc0_stg6_0 : Memref sig .tc .vmem S64x2048 .f32).view
abbrev VO0_1 : View sig .tc .vmem S1x4x512x256 .f32 := (Memref.whole cc0_stg7_0 : Memref sig .tc .vmem S1x4x512x256 .f32).view

section A
variable (c : Dev nD) (t : Fin cfg0.N) (h : cond0_0 (grid0.coords t))
  (x0 : Vec F S64x1024 .f32) (x1 : Vec F S64x1024 .f32) (x2 : Vec F S64x2048 .f32) (x3 : Vec F S64x128 .f32) (x4 : Vec F S128x1024 .bf16) (x5 : Vec F S1x1024 .f32)

/-- The run of the body at point `t`, the first. -/
abbrev runAt0A :=
  run0A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0 (Memref.isWhole_whole _) h x0 x1 x2 x3 x4 x5

def out0A_0 : Vec F S64x2048 .f32 :=
  VO0_0.read (Elt F) (VO0_0.writes (Elt F) VO0_0.junk (runAt0A c t h x0 x1 x2 x3 x4 x5 ).1)

theorem cover0A_0 (y : S64x2048.Idx) :
    ∃ pc ∈ (runAt0A c t h x0 x1 x2 x3 x4 x5 ).1, y ∈ pc.1.set :=
  View.cover_of_tiledL (runAt0A c t h x0 x1 x2 x3 x4 x5 ).1 S64x512.size (by sl_kernel_rfl) y

def out0A_1 : Vec F S1x4x512x256 .f32 :=
  VO0_1.read (Elt F) (VO0_1.writes (Elt F) VO0_1.junk (runAt0A c t h x0 x1 x2 x3 x4 x5 ).2.1)

theorem cover0A_1 (y : S1x4x512x256.Idx) :
    ∃ pc ∈ (runAt0A c t h x0 x1 x2 x3 x4 x5 ).2.1, y ∈ pc.1.set :=
  View.cover_of_tiledL (runAt0A c t h x0 x1 x2 x3 x4 x5 ).2.1 S1x1x512x256.size (by sl_kernel_rfl) y

def out0A_2 : Vec F S4x512x256 .f32 :=
  VS0.read (Elt F) (VS0.writes (Elt F) VS0.junk (runAt0A c t h x0 x1 x2 x3 x4 x5 ).2.2.1)

theorem cover0A_2 (y : S4x512x256.Idx) :
    ∃ pc ∈ (runAt0A c t h x0 x1 x2 x3 x4 x5 ).2.2.1, y ∈ pc.1.set :=
  View.cover_of_wholeMem (runAt0A c t h x0 x1 x2 x3 x4 x5 ).2.2.1 (by sl_whole_mem) y

end A

section B
variable (c : Dev nD) (t : Fin cfg0.N) (h : ¬cond0_0 (grid0.coords t))
  (x0 : Vec F S64x1024 .f32) (x1 : Vec F S64x1024 .f32) (x2 : Vec F S64x2048 .f32) (x3 : Vec F S64x128 .f32) (x4 : Vec F S128x1024 .bf16) (x5 : Vec F S1x1024 .f32) (s : Vec F S4x512x256 .f32)

/-- The run of the body at point `t`, not the first. -/
abbrev runAt0B :=
  run0B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0 (Memref.isWhole_whole _) h x0 x1 x2 x3 x4 x5  s

def out0B_0 : Vec F S64x2048 .f32 :=
  VO0_0.read (Elt F) (VO0_0.writes (Elt F) VO0_0.junk (runAt0B c t h x0 x1 x2 x3 x4 x5  s).1)

theorem cover0B_0 (y : S64x2048.Idx) :
    ∃ pc ∈ (runAt0B c t h x0 x1 x2 x3 x4 x5  s).1, y ∈ pc.1.set :=
  View.cover_of_tiledL (runAt0B c t h x0 x1 x2 x3 x4 x5  s).1 S64x512.size (by sl_kernel_rfl) y

def out0B_1 : Vec F S1x4x512x256 .f32 :=
  VO0_1.read (Elt F) (VO0_1.writes (Elt F) VO0_1.junk (runAt0B c t h x0 x1 x2 x3 x4 x5  s).2.1)

theorem cover0B_1 (y : S1x4x512x256.Idx) :
    ∃ pc ∈ (runAt0B c t h x0 x1 x2 x3 x4 x5  s).2.1, y ∈ pc.1.set :=
  View.cover_of_tiledL (runAt0B c t h x0 x1 x2 x3 x4 x5  s).2.1 S1x1x512x256.size (by sl_kernel_rfl) y

def out0B_2 : Vec F S4x512x256 .f32 :=
  VS0.read (Elt F) (VS0.writes (Elt F) VS0.junk (runAt0B c t h x0 x1 x2 x3 x4 x5  s).2.2.1)

theorem cover0B_2 (y : S4x512x256.Idx) :
    ∃ pc ∈ (runAt0B c t h x0 x1 x2 x3 x4 x5  s).2.2.1, y ∈ pc.1.set :=
  View.cover_of_tiledL (runAt0B c t h x0 x1 x2 x3 x4 x5  s).2.2.1 S1x512x256.size (by sl_kernel_rfl) y

end B

/-- What point `t` leaves in the outputs and the scratch: at the first point, -/
def first0 (c : Dev nD) (t : Fin cfg0.N) (h : t.val = 0) : Vec F S64x2048 .f32 × Vec F S1x4x512x256 .f32 × Vec F S4x512x256 .f32 :=
  (out0A_0 c t ((hcond0 t).mpr h) (X0 V c 0 t) (X0 V c 1 t) (X0 V c 2 t) (X0 V c 3 t) (X0 V c 4 t) (X0 V c 5 t),
    out0A_1 c t ((hcond0 t).mpr h) (X0 V c 0 t) (X0 V c 1 t) (X0 V c 2 t) (X0 V c 3 t) (X0 V c 4 t) (X0 V c 5 t),
    out0A_2 c t ((hcond0 t).mpr h) (X0 V c 0 t) (X0 V c 1 t) (X0 V c 2 t) (X0 V c 3 t) (X0 V c 4 t) (X0 V c 5 t))

/-- at a later one, over what the point before left (`p`). -/
def later0 (c : Dev nD) (t : Fin cfg0.N) (h : ¬t.val = 0) (p : Vec F S64x2048 .f32 × Vec F S1x4x512x256 .f32 × Vec F S4x512x256 .f32) : Vec F S64x2048 .f32 × Vec F S1x4x512x256 .f32 × Vec F S4x512x256 .f32 :=
  (out0B_0 c t (fun e => h ((hcond0 t).mp e)) (X0 V c 0 t) (X0 V c 1 t) (X0 V c 2 t) (X0 V c 3 t) (X0 V c 4 t) (X0 V c 5 t) p.2.2,
    out0B_1 c t (fun e => h ((hcond0 t).mp e)) (X0 V c 0 t) (X0 V c 1 t) (X0 V c 2 t) (X0 V c 3 t) (X0 V c 4 t) (X0 V c 5 t) p.2.2,
    out0B_2 c t (fun e => h ((hcond0 t).mp e)) (X0 V c 0 t) (X0 V c 1 t) (X0 V c 2 t) (X0 V c 3 t) (X0 V c 4 t) (X0 V c 5 t) p.2.2)

/-- What the outputs' staging buffers and the scratch hold after point `n`. -/
def outs0 (c : Dev nD) : (n : ℕ) → n < cfg0.N → Vec F S64x2048 .f32 × Vec F S1x4x512x256 .f32 × Vec F S4x512x256 .f32
  | 0, hn => first0 V c ⟨0, hn⟩ rfl
  | n + 1, hn => later0 V c ⟨n + 1, hn⟩ (Nat.succ_ne_zero n) (outs0 c n (Nat.lt_of_succ_lt hn))

theorem outs0_first (c : Dev nD) (t : Fin cfg0.N) (h : t.val = 0) : outs0 V c t.val t.isLt = first0 V c t h := by
  obtain ⟨n, hn⟩ := t; cases n with
  | zero => rfl
  | succ n => exact absurd h (Nat.succ_ne_zero n)

theorem outs0_later (c : Dev nD) (t : Fin cfg0.N) (h : ¬t.val = 0) :
    outs0 V c t.val t.isLt = later0 V c t h (outs0 V c (t.val - 1) (Nat.lt_of_le_of_lt (Nat.sub_le _ _) t.isLt)) := by
  obtain ⟨n, hn⟩ := t; cases n with
  | zero => exact absurd rfl h
  | succ n => rfl

/-- The scoped buffers of the other calls, which ride along. -/
abbrev rest0 (c : Dev nD) : sProp 𝕄 :=
  Pipeline.scopedRestBut (Ix := Unit) (Name := ℕ) (U := UR sig nD τ) (Lvl := ℕ) (Val := Elt F) spec0 c [cc0_scratch0]

/-- The invariant the pipeline is launched at: the scratch at anything, the other scoped buffers, the generator. -/
theorem start0_eq (c : Dev nD) :
    (Pipeline.ΦA spec0 c : sProp 𝕄)
      = iprop(((∃ d, owns (c : Thread nD τ) sc0 fullShare d) ∗ rest0 c) ∗ (∃ r, prngReg c r)) := by
  unfold Pipeline.ΦA
  rw [Pipeline.scopedRest_split_of_list spec0 c [cc0_scratch0] (by decide) (by decide)]
  simp only [sc0, owns_whole]; rfl

/-- The invariant before point `n`: at first `ΦA`, afterwards the scratch at what the point before left. -/
def inv0 (c : Dev nD) : (n : ℕ) → n ≤ cfg0.N → sProp 𝕄
  | 0, _ => Pipeline.ΦA spec0 c
  | n + 1, hn => iprop((owns (c : Thread nD τ) sc0 fullShare (outs0 V c n hn).2.2 ∗ rest0 c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn
      = iprop((owns (c : Thread nD τ) sc0 fullShare (outs0 V c n hn).2.2 ∗ rest0 c) ∗ (∃ r, prngReg c r)) := rfl

theorem inv0_pos (c : Dev nD) (n : ℕ) (h : n ≤ cfg0.N) (hz : n ≠ 0) :
    inv0 V c n h
      = iprop((owns (c : Thread nD τ) sc0 fullShare (outs0 V c (n - 1) (by omega)).2.2 ∗ rest0 c) ∗ (∃ r, prngReg c r)) := by
  cases n with
  | zero => exact absurd rfl hz
  | succ n => rfl

/-- The pipeline's proof data. -/
def dat0 (c : Dev nD) : Dat τ (Elt F) Unit ℕ (UR sig nD τ) ℕ cfg0 c where
  A w := V c (Pipeline.arrRef spec0 w)
  after w t := match w with
    | ⟨0, _⟩ => X0 V c 0 t
    | ⟨1, _⟩ => X0 V c 1 t
    | ⟨2, _⟩ => X0 V c 2 t
    | ⟨3, _⟩ => X0 V c 3 t
    | ⟨4, _⟩ => X0 V c 4 t
    | ⟨5, _⟩ => X0 V c 5 t
    | ⟨6, _⟩ => (outs0 V c t.val t.isLt).1
    | ⟨7, _⟩ => (outs0 V c t.val t.isLt).2.1
  Φ t := inv0 V c t.val (Nat.le_of_lt_succ t.isLt)
  q w := Pipeline.shareOf spec0 w
  owed _ := 0

theorem dat0_A (c : Dev nD) (w : Fin cfg0.W) : (dat0 V c).A w = V c (Pipeline.arrRef spec0 w) := by dsimp only [dat0]

theorem inv0_castSucc (c : Dev nD) (t : Fin cfg0.N) :
    (dat0 V c).Φ t.castSucc = inv0 V c t.val (Nat.le_of_lt t.isLt) := by
  dsimp only [dat0]; exact Pipeline.Dat.Φ_castSucc (inv0 V c) t

theorem after0_0 (c : Dev nD) (t : Fin cfg0.N) : (dat0 V c).after 0 t = X0 V c 0 t := by dsimp only [dat0]
theorem after0_1 (c : Dev nD) (t : Fin cfg0.N) : (dat0 V c).after 1 t = X0 V c 1 t := by dsimp only [dat0]
theorem after0_2 (c : Dev nD) (t : Fin cfg0.N) : (dat0 V c).after 2 t = X0 V c 2 t := by dsimp only [dat0]
theorem after0_3 (c : Dev nD) (t : Fin cfg0.N) : (dat0 V c).after 3 t = X0 V c 3 t := by dsimp only [dat0]
theorem after0_4 (c : Dev nD) (t : Fin cfg0.N) : (dat0 V c).after 4 t = X0 V c 4 t := by dsimp only [dat0]
theorem after0_5 (c : Dev nD) (t : Fin cfg0.N) : (dat0 V c).after 5 t = X0 V c 5 t := by dsimp only [dat0]
theorem after0_6 (c : Dev nD) (t : Fin cfg0.N) : (dat0 V c).after 6 t = (outs0 V c t.val t.isLt).1 := by dsimp only [dat0]
theorem after0_7 (c : Dev nD) (t : Fin cfg0.N) : (dat0 V c).after 7 t = (outs0 V c t.val t.isLt).2.1 := by dsimp only [dat0]

theorem before0_0 (c : Dev nD) (t : Fin cfg0.N) (d) : (dat0 V c).before 0 t d = X0 V c 0 t :=
  before0_of V (dat0 V c) 0 rfl (fun t t' h => funext fun a => congrArg (fun n => Pipeline.Clip.of n ((cfg0.win 0).size a) (S2112x6272.size a)) (congrFun h a)) (dat0_A V c 0) (after0_0 V c) t d
theorem before0_1 (c : Dev nD) (t : Fin cfg0.N) (d) : (dat0 V c).before 1 t d = X0 V c 1 t :=
  before0_of V (dat0 V c) 1 rfl (fun t t' h => funext fun a => congrArg (fun n => Pipeline.Clip.of n ((cfg0.win 1).size a) (S2112x6272.size a)) (congrFun h a)) (dat0_A V c 1) (after0_1 V c) t d
theorem before0_2 (c : Dev nD) (t : Fin cfg0.N) (d) : (dat0 V c).before 2 t d = X0 V c 2 t :=
  before0_of V (dat0 V c) 2 rfl (fun t t' h => funext fun a => congrArg (fun n => Pipeline.Clip.of n ((cfg0.win 2).size a) (S2112x6272.size a)) (congrFun h a)) (dat0_A V c 2) (after0_2 V c) t d
theorem before0_3 (c : Dev nD) (t : Fin cfg0.N) (d) : (dat0 V c).before 3 t d = X0 V c 3 t :=
  before0_of V (dat0 V c) 3 rfl (fun _ _ _ => rfl) (dat0_A V c 3) (after0_3 V c) t d
theorem before0_4 (c : Dev nD) (t : Fin cfg0.N) (d) : (dat0 V c).before 4 t d = X0 V c 4 t :=
  before0_of V (dat0 V c) 4 rfl (fun _ _ _ => rfl) (dat0_A V c 4) (after0_4 V c) t d
theorem before0_5 (c : Dev nD) (t : Fin cfg0.N) (d) : (dat0 V c).before 5 t d = X0 V c 5 t :=
  before0_of V (dat0 V c) 5 rfl (fun _ _ _ => rfl) (dat0_A V c 5) (after0_5 V c) t d

/-- What the body is called with at point `t`, window by window, -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def post0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 6400000 in
/-- The body at any point: the run of its case, from the blocks and the scratch the point before left. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = inv0 V c (t.val + 1) t.isLt from rfl, inv0_succ, inv0_castSucc V c t]
  by_cases h0 : t.val = 0
  · rw [inv0_zero V c _ _ h0, start0_eq, outs0_first V c t h0]
    unfold first0
    unfold out0A_0 out0A_1 out0A_2
    dsimp only
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runAt0A c t ((hcond0 t).mpr h0) (X0 V c 0 t) (X0 V c 1 t) (X0 V c 2 t) (X0 V c 3 t) (X0 V c 4 t) (X0 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS HR Hg]
    · isplitl [HS HR]
      · isplitl [HS]
        · unfold owns; iexists _; isplitr
          swap; · iexact HS
          ipureintro; exact View.read_writes_of_cover _ _ _ _ _ (cover0A_2 c t _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0A_0 c t _ _ _ _ _ _ _)
    unfold owns; iexists _; isplitr
    swap; · iexact H7
    ipureintro; exact View.read_writes_of_cover _ _ _ _ _ (cover0A_1 c t _ _ _ _ _ _ _)
  · rw [inv0_pos V c _ _ h0, outs0_later V c t h0]
    unfold later0
    unfold out0B_0 out0B_1 out0B_2
    dsimp only
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runAt0B c t (fun e => h0 ((hcond0 t).mp e)) (X0 V c 0 t) (X0 V c 1 t) (X0 V c 2 t) (X0 V c 3 t) (X0 V c 4 t) (X0 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS HR Hg]
    · isplitl [HS HR]
      · isplitl [HS]
        · unfold owns; iexists _; isplitr
          swap; · iexact HS
          ipureintro; exact View.read_writes_of_cover _ _ _ _ _ (cover0B_2 c t _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0B_0 c t _ _ _ _ _ _ _ _)
    unfold owns; iexists _; isplitr
    swap; · iexact H7
    ipureintro; exact View.read_writes_of_cover _ _ _ _ _ (cover0B_1 c t _ _ _ _ _ _ _ _)

theorem row0 (t : Fin cfg0.N) :
    defs₀ (F := F) .tc cfg0.body (cfg0.bodyArgs t (cfg0.slots t)) = bodyAt0 t := by
  unfold defs₀; rw [Defs.onTc_tc]

/-- The body's obligation at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

theorem enter0 (c : Dev nD) : Pipeline.ΦA spec0 c ⊢ (dat0 V c).Φ 0 := by
  rw [show (dat0 V c).Φ 0 = inv0 V c 0 (Nat.zero_le _) from rfl, inv0_zero V c 0 _ rfl]

theorem leave0 (c : Dev nD) : (dat0 V c).Φ (Fin.last cfg0.N) ⊢ Pipeline.ΦA spec0 c := by
  rw [show (dat0 V c).Φ (Fin.last cfg0.N) = inv0 V c cfg0.N le_rfl from rfl,
    inv0_pos V c _ _ (by rw [show cfg0.N = 33 from N_0]; omega), start0_eq]
  iintro ⟨⟨HS, HR⟩, Hg⟩
  isplitl [HS HR]
  · isplitl [HS]
    · iexists _; iexact HS
    iexact HR
  iexact Hg

end Cert.GlaKernelIdeal.Run
-- ==== Proof.Gla.Run1A.lean ====
module

public import proofs.«01_k».proof.Proof.Gla.Cond

@[expose] public section

set_option maxRecDepth 16384

noncomputable section

namespace Cert.GlaKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GlaKernelIdeal.Gen

variable {F : FTy → Type} [FloatOps F]

local notation "𝕄" => MT nD τ sig Unit (Elt F) ℕ (UR sig nD τ) ℕ

-- the run's term is long: one load or store after another
set_option maxHeartbeats 4000000 in
/-- The backward body at the first point (the carried scratch is filled with zeros): the pieces its stores leave in each output and in the
    scratch, last first, with the proof that on whole staging memrefs the body runs to a state that holds them. -/
def run1A (c : Dev nD) (i : grid1.Coords)
    (a0 : Memref sig .tc .vmem S64x1024 .f32) (h0 : a0.IsWhole) (a1 : Memref sig .tc .vmem S64x1024 .f32) (h1 : a1.IsWhole) (a2 : Memref sig .tc .vmem S64x2048 .f32) (h2 : a2.IsWhole) (a3 : Memref sig .tc .vmem S64x128 .f32) (h3 : a3.IsWhole) (a4 : Memref sig .tc .vmem S128x1024 .bf16) (h4 : a4.IsWhole) (a5 : Memref sig .tc .vmem S1x1024 .f32) (h5 : a5.IsWhole) (a6 : Memref sig .tc .vmem S1x4x512x256 .f32) (h6 : a6.IsWhole) (a7 : Memref sig .tc .vmem S64x2048 .f32) (h7 : a7.IsWhole) (a8 : Memref sig .tc .vmem S64x2048 .bf16) (h8 : a8.IsWhole) (a9 : Memref sig .tc .vmem S64x6272 .bf16) (h9 : a9.IsWhole) (a10 : Memref sig .tc .vmem S4x128x256 .f32) (h10 : a10.IsWhole) (a11 : Memref sig .tc .vmem S4x1x256 .f32) (h11 : a11.IsWhole) (a12 : Memref sig .tc .vmem S4x512x256 .f32) (h12 : a12.IsWhole)
    (hc : cond1_0 i)
    (x0 : Vec F S64x1024 .f32)
    (x1 : Vec F S64x1024 .f32)
    (x2 : Vec F S64x2048 .f32)
    (x3 : Vec F S64x128 .f32)
    (x4 : Vec F S128x1024 .bf16)
    (x5 : Vec F S1x1024 .f32)
    (x6 : Vec F S1x4x512x256 .f32)
    (x7 : Vec F S64x2048 .f32)
    (x8 : Vec F S64x2048 .bf16) :
    Σ' L0 : List (View.Piece (Elt F) S64x6272 .bf16), Σ' L1 : List (View.Piece (Elt F) S4x128x256 .f32), Σ' L2 : List (View.Piece (Elt F) S4x1x256 .f32),
    { LS : List (View.Piece (Elt F) S4x512x256 .f32) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ d, owns (c : Thread nD τ) a9 fullShare d)
          ∗ (∃ d, owns (c : Thread nD τ) a10 fullShare d)
          ∗ (∃ d, owns (c : Thread nD τ) a11 fullShare d)
          ∗ (∃ d, owns (c : Thread nD τ) a12 fullShare d)
          ∗ (iprop(owns (c : Thread nD τ) a0 fullShare x0
              ∗ owns (c : Thread nD τ) a1 fullShare x1
              ∗ owns (c : Thread nD τ) a2 fullShare x2
              ∗ owns (c : Thread nD τ) a3 fullShare x3
              ∗ owns (c : Thread nD τ) a4 fullShare x4
              ∗ owns (c : Thread nD τ) a5 fullShare x5
              ∗ owns (c : Thread nD τ) a6 fullShare x6
              ∗ owns (c : Thread nD τ) a7 fullShare x7
              ∗ owns (c : Thread nD τ) a8 fullShare x8
              ∗ (∃ f, a9.view.loc (c : Thread nD τ) ↦[a9.view.set]{fullShare} a9.view.writes (Elt F) f L0)
              ∗ (∃ f, a10.view.loc (c : Thread nD τ) ↦[a10.view.set]{fullShare} a10.view.writes (Elt F) f L1)
              ∗ (∃ f, a11.view.loc (c : Thread nD τ) ↦[a11.view.set]{fullShare} a11.view.writes (Elt F) f L2)
              ∗ (∃ f, a12.view.loc (c : Thread nD τ) ↦[a12.view.set]{fullShare} a12.view.writes (Elt F) f LS)) -∗ K ⟨⟩))
          ⊢ wp frame (wpE (defs₀ (F := F)) Variants.none c none) E (cc1_gla_bwd i a0 h0 a1 h1 a2 h2 a3 h3 a4 h4 a5 h5 a6 h6 a7 h7 a8 h8 a9 h9 a10 h10 a11 h11 a12 h12) K } := by
  refine ⟨?_, ?_, ?_, ?_, fun E K => ?run⟩
  case run =>
    simp only [cc1_gla_bwd_eq_skeleton]; unfold cc1_gla_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]; · iexists _; iexact H11
    iexists _; iexact H12

end Cert.GlaKernelIdeal.Run
-- ==== Proof.Gla.Run1B.lean ====
module

public import proofs.«01_k».proof.Proof.Gla.Run1A

@[expose] public section

set_option maxRecDepth 16384

noncomputable section

namespace Cert.GlaKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GlaKernelIdeal.Gen

variable {F : FTy → Type} [FloatOps F]

local notation "𝕄" => MT nD τ sig Unit (Elt F) ℕ (UR sig nD τ) ℕ

-- the run's term is long: one load or store after another
set_option maxHeartbeats 4000000 in
/-- The backward body at the later points (the carried scratch holds what the point before left): the pieces its stores leave in each output and in the
    scratch, last first, with the proof that on whole staging memrefs the body runs to a state that holds them. -/
def run1B (c : Dev nD) (i : grid1.Coords)
    (a0 : Memref sig .tc .vmem S64x1024 .f32) (h0 : a0.IsWhole) (a1 : Memref sig .tc .vmem S64x1024 .f32) (h1 : a1.IsWhole) (a2 : Memref sig .tc .vmem S64x2048 .f32) (h2 : a2.IsWhole) (a3 : Memref sig .tc .vmem S64x128 .f32) (h3 : a3.IsWhole) (a4 : Memref sig .tc .vmem S128x1024 .bf16) (h4 : a4.IsWhole) (a5 : Memref sig .tc .vmem S1x1024 .f32) (h5 : a5.IsWhole) (a6 : Memref sig .tc .vmem S1x4x512x256 .f32) (h6 : a6.IsWhole) (a7 : Memref sig .tc .vmem S64x2048 .f32) (h7 : a7.IsWhole) (a8 : Memref sig .tc .vmem S64x2048 .bf16) (h8 : a8.IsWhole) (a9 : Memref sig .tc .vmem S64x6272 .bf16) (h9 : a9.IsWhole) (a10 : Memref sig .tc .vmem S4x128x256 .f32) (h10 : a10.IsWhole) (a11 : Memref sig .tc .vmem S4x1x256 .f32) (h11 : a11.IsWhole) (a12 : Memref sig .tc .vmem S4x512x256 .f32) (h12 : a12.IsWhole)
    (hc : ¬cond1_0 i)
    (x0 : Vec F S64x1024 .f32)
    (x1 : Vec F S64x1024 .f32)
    (x2 : Vec F S64x2048 .f32)
    (x3 : Vec F S64x128 .f32)
    (x4 : Vec F S128x1024 .bf16)
    (x5 : Vec F S1x1024 .f32)
    (x6 : Vec F S1x4x512x256 .f32)
    (x7 : Vec F S64x2048 .f32)
    (x8 : Vec F S64x2048 .bf16) (y1 : Vec F S4x128x256 .f32) (y2 : Vec F S4x1x256 .f32) (s : Vec F S4x512x256 .f32) :
    Σ' L0 : List (View.Piece (Elt F) S64x6272 .bf16), Σ' L1 : List (View.Piece (Elt F) S4x128x256 .f32), Σ' L2 : List (View.Piece (Elt F) S4x1x256 .f32),
    { LS : List (View.Piece (Elt F) S4x512x256 .f32) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ d, owns (c : Thread nD τ) a9 fullShare d)
          ∗ owns (c : Thread nD τ) a10 fullShare y1
          ∗ owns (c : Thread nD τ) a11 fullShare y2
          ∗ owns (c : Thread nD τ) a12 fullShare s
          ∗ (iprop(owns (c : Thread nD τ) a0 fullShare x0
              ∗ owns (c : Thread nD τ) a1 fullShare x1
              ∗ owns (c : Thread nD τ) a2 fullShare x2
              ∗ owns (c : Thread nD τ) a3 fullShare x3
              ∗ owns (c : Thread nD τ) a4 fullShare x4
              ∗ owns (c : Thread nD τ) a5 fullShare x5
              ∗ owns (c : Thread nD τ) a6 fullShare x6
              ∗ owns (c : Thread nD τ) a7 fullShare x7
              ∗ owns (c : Thread nD τ) a8 fullShare x8
              ∗ (∃ f, a9.view.loc (c : Thread nD τ) ↦[a9.view.set]{fullShare} a9.view.writes (Elt F) f L0)
              ∗ (∃ f, a10.view.loc (c : Thread nD τ) ↦[a10.view.set]{fullShare} a10.view.writes (Elt F) f L1)
              ∗ (∃ f, a11.view.loc (c : Thread nD τ) ↦[a11.view.set]{fullShare} a11.view.writes (Elt F) f L2)
              ∗ (∃ f, a12.view.loc (c : Thread nD τ) ↦[a12.view.set]{fullShare} a12.view.writes (Elt F) f LS)) -∗ K ⟨⟩))
          ⊢ wp frame (wpE (defs₀ (F := F)) Variants.none c none) E (cc1_gla_bwd i a0 h0 a1 h1 a2 h2 a3 h3 a4 h4 a5 h5 a6 h6 a7 h7 a8 h8 a9 h9 a10 h10 a11 h11 a12 h12) K } := by
  refine ⟨?_, ?_, ?_, ?_, fun E K => ?run⟩
  case run =>
    simp only [cc1_gla_bwd_eq_skeleton]; unfold cc1_gla_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%f10, %e10, H10⟩, ⟨%f11, %e11, H11⟩, ⟨%f12, %e12, H12⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h10.eq_unread e10; obtain rfl := h11.eq_unread e11; obtain rfl := h12.eq_unread e12
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]; · iexists _; iexact H11
    iexists _; iexact H12

end Cert.GlaKernelIdeal.Run
-- ==== Proof.Gla.Region1.lean ====
module

public import proofs.«01_k».proof.Proof.Gla.Run1B
public import Idealize.ShloMosaic.Lib.Claim

@[expose] public section

set_option maxRecDepth 16384

noncomputable section

namespace Cert.GlaKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GlaKernelIdeal.Gen
open Idealize.ShloMosaic.Pipeline (Dat Cfg Window BodyObligation cellOf)

variable {F : FTy → Type} [FloatOps F]

local notation "𝕄" => MT nD τ sig Unit (Elt F) ℕ (UR sig nD τ) ℕ

/-! The backward region: what each point finds and leaves, and the body's obligation. The contents of the
    unscoped buffers at the region's entry are `V`. -/

variable (V : (c : Dev nD) → (b : Ref sig .tc) → Buf (Elt F) ((c : Thread nD τ).loc b))

/-- What an input window's staging buffer holds at point `t`: the window's block of its array. No block is cut at
    its array's end, so the fill covers the buffer. -/
def X1 (c : Dev nD) (w : Fin cfg1.W) (t : Fin cfg1.N) : (cfg1.win w).block.Idx → Elt F (cfg1.win w).elt :=
  (cfg1.win w).fill (cfg1.grid.coords t) (fun _ => Classical.choice inferInstance)
    (((cfg1.win w).blk t).view.read (Elt F) (V c (Pipeline.arrRef spec1 w)))

theorem xsize1 : ∀ (w : Fin cfg1.W) (t : Fin cfg1.N) (a), (cfg1.win w).xsize (cfg1.grid.coords t) a = (cfg1.win w).size a := by
  decide +kernel

theorem moved1 (w : Fin cfg1.W) (t : Fin cfg1.N) (j : (cfg1.win w).block.Idx) :
    (cfg1.win w).moved (cfg1.grid.coords t) j = true :=
  ((cfg1.win w).moved_iff _ j).mpr fun a => by rw [xsize1 w t a]; exact (j a).isLt

theorem fill1 (w : Fin cfg1.W) (t : Fin cfg1.N) (d d' : (cfg1.win w).block.Idx → Elt F (cfg1.win w).elt) (g) :
    (cfg1.win w).fill (cfg1.grid.coords t) d g = (cfg1.win w).fill (cfg1.grid.coords t) d' g := by
  funext j; unfold Pipeline.Window.fill; rw [dif_pos (moved1 w t j), dif_pos (moved1 w t j)]

/-- An input window's buffer holds its block at every point, fetched there or not. -/
theorem before1_of {c : Dev nD} (dat : Dat τ (Elt F) Unit ℕ (UR sig nD τ) ℕ cfg1 c) (w : Fin cfg1.W)
    (hw : (cfg1.win w).isOut = false)
    (hclip : ∀ t t' : Fin cfg1.N, (cfg1.win w).index t = (cfg1.win w).index t' →
      (cfg1.win w).clip (cfg1.grid.coords t) = (cfg1.win w).clip (cfg1.grid.coords t'))
    (hA : dat.A w = V c (Pipeline.arrRef spec1 w)) (hafter : ∀ t, dat.after w t = X1 V c w t) (t : Fin cfg1.N) (d) :
    dat.before w t d = X1 V c w t :=
  (dat.before_in_eq_fetched w hw (fun _ => rfl) hclip
      (fun t => by rw [hafter]; unfold X1; rw [Pipeline.Window.cut_fill]; unfold Dat.blockOf; rw [hA]) t d).trans
    (by unfold Dat.fetched X1; rw [fill1 w t d fun _ => Classical.choice inferInstance]; unfold Dat.blockOf; rw [hA])

abbrev ms1_0 (t : Fin cfg1.N) : Memref sig .tc .vmem S64x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x4x512x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x2048 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x2048 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x6272 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4x128x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4x1x256 .f32 := win1_11.stage (cfg1.slots t 11)
abbrev hs1_11 (t : Fin cfg1.N) : (ms1_11 t).IsWhole := hstage1_11 ((cfg1.slots t 11).cast nbuf1_11)
/-- The carried scratch. -/
abbrev sc1 : Memref sig .tc .vmem S4x512x256 .f32 := Memref.whole cc1_scratch0
abbrev VS1 : View sig .tc .vmem S4x512x256 .f32 := sc1.view
abbrev VO1_0 : View sig .tc .vmem S64x6272 .bf16 := (Memref.whole cc1_stg9_0 : Memref sig .tc .vmem S64x6272 .bf16).view
abbrev VO1_1 : View sig .tc .vmem S4x128x256 .f32 := (Memref.whole cc1_stg10_0 : Memref sig .tc .vmem S4x128x256 .f32).view
abbrev VO1_2 : View sig .tc .vmem S4x1x256 .f32 := (Memref.whole cc1_stg11_0 : Memref sig .tc .vmem S4x1x256 .f32).view

section A
variable (c : Dev nD) (t : Fin cfg1.N) (h : cond1_0 (grid1.coords t))
  (x0 : Vec F S64x1024 .f32) (x1 : Vec F S64x1024 .f32) (x2 : Vec F S64x2048 .f32) (x3 : Vec F S64x128 .f32) (x4 : Vec F S128x1024 .bf16) (x5 : Vec F S1x1024 .f32) (x6 : Vec F S1x4x512x256 .f32) (x7 : Vec F S64x2048 .f32) (x8 : Vec F S64x2048 .bf16)

/-- The run of the body at point `t`, the first. -/
abbrev runAt1A :=
  run1A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) sc1 (Memref.isWhole_whole _) h x0 x1 x2 x3 x4 x5 x6 x7 x8

def out1A_0 : Vec F S64x6272 .bf16 :=
  VO1_0.read (Elt F) (VO1_0.writes (Elt F) VO1_0.junk (runAt1A c t h x0 x1 x2 x3 x4 x5 x6 x7 x8 ).1)

theorem cover1A_0 (y : S64x6272.Idx) :
    ∃ pc ∈ (runAt1A c t h x0 x1 x2 x3 x4 x5 x6 x7 x8 ).1, y ∈ pc.1.set :=
  View.cover_of_tiledBy (runAt1A c t h x0 x1 x2 x3 x4 x5 x6 x7 x8 ).1 ![64, 128] (by sl_kernel_rfl) y

def out1A_1 : Vec F S4x128x256 .f32 :=
  VO1_1.read (Elt F) (VO1_1.writes (Elt F) VO1_1.junk (runAt1A c t h x0 x1 x2 x3 x4 x5 x6 x7 x8 ).2.1)

theorem cover1A_1 (y : S4x128x256.Idx) :
    ∃ pc ∈ (runAt1A c t h x0 x1 x2 x3 x4 x5 x6 x7 x8 ).2.1, y ∈ pc.1.set :=
  View.cover_of_wholeMem (runAt1A c t h x0 x1 x2 x3 x4 x5 x6 x7 x8 ).2.1 (by sl_whole_mem) y

def out1A_2 : Vec F S4x1x256 .f32 :=
  VO1_2.read (Elt F) (VO1_2.writes (Elt F) VO1_2.junk (runAt1A c t h x0 x1 x2 x3 x4 x5 x6 x7 x8 ).2.2.1)

theorem cover1A_2 (y : S4x1x256.Idx) :
    ∃ pc ∈ (runAt1A c t h x0 x1 x2 x3 x4 x5 x6 x7 x8 ).2.2.1, y ∈ pc.1.set :=
  View.cover_of_wholeMem (runAt1A c t h x0 x1 x2 x3 x4 x5 x6 x7 x8 ).2.2.1 (by sl_whole_mem) y

def out1A_3 : Vec F S4x512x256 .f32 :=
  VS1.read (Elt F) (VS1.writes (Elt F) VS1.junk (runAt1A c t h x0 x1 x2 x3 x4 x5 x6 x7 x8 ).2.2.2.1)

theorem cover1A_3 (y : S4x512x256.Idx) :
    ∃ pc ∈ (runAt1A c t h x0 x1 x2 x3 x4 x5 x6 x7 x8 ).2.2.2.1, y ∈ pc.1.set :=
  View.cover_of_wholeMem (runAt1A c t h x0 x1 x2 x3 x4 x5 x6 x7 x8 ).2.2.2.1 (by sl_whole_mem) y

end A

section B
variable (c : Dev nD) (t : Fin cfg1.N) (h : ¬cond1_0 (grid1.coords t))
  (x0 : Vec F S64x1024 .f32) (x1 : Vec F S64x1024 .f32) (x2 : Vec F S64x2048 .f32) (x3 : Vec F S64x128 .f32) (x4 : Vec F S128x1024 .bf16) (x5 : Vec F S1x1024 .f32) (x6 : Vec F S1x4x512x256 .f32) (x7 : Vec F S64x2048 .f32) (x8 : Vec F S64x2048 .bf16) (y1 : Vec F S4x128x256 .f32) (y2 : Vec F S4x1x256 .f32) (s : Vec F S4x512x256 .f32)

/-- The run of the body at point `t`, not the first. -/
abbrev runAt1B :=
  run1B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) sc1 (Memref.isWhole_whole _) h x0 x1 x2 x3 x4 x5 x6 x7 x8 y1 y2 s

def out1B_0 : Vec F S64x6272 .bf16 :=
  VO1_0.read (Elt F) (VO1_0.writes (Elt F) VO1_0.junk (runAt1B c t h x0 x1 x2 x3 x4 x5 x6 x7 x8 y1 y2 s).1)

theorem cover1B_0 (y : S64x6272.Idx) :
    ∃ pc ∈ (runAt1B c t h x0 x1 x2 x3 x4 x5 x6 x7 x8 y1 y2 s).1, y ∈ pc.1.set :=
  View.cover_of_tiledBy (runAt1B c t h x0 x1 x2 x3 x4 x5 x6 x7 x8 y1 y2 s).1 ![64, 128] (by sl_kernel_rfl) y

def out1B_1 : Vec F S4x128x256 .f32 :=
  VO1_1.read (Elt F) (VO1_1.writes (Elt F) VO1_1.junk (runAt1B c t h x0 x1 x2 x3 x4 x5 x6 x7 x8 y1 y2 s).2.1)

theorem cover1B_1 (y : S4x128x256.Idx) :
    ∃ pc ∈ (runAt1B c t h x0 x1 x2 x3 x4 x5 x6 x7 x8 y1 y2 s).2.1, y ∈ pc.1.set :=
  View.cover_of_tiledL (runAt1B c t h x0 x1 x2 x3 x4 x5 x6 x7 x8 y1 y2 s).2.1 S1x128x256.size (by sl_kernel_rfl) y

def out1B_2 : Vec F S4x1x256 .f32 :=
  VO1_2.read (Elt F) (VO1_2.writes (Elt F) VO1_2.junk (runAt1B c t h x0 x1 x2 x3 x4 x5 x6 x7 x8 y1 y2 s).2.2.1)

theorem cover1B_2 (y : S4x1x256.Idx) :
    ∃ pc ∈ (runAt1B c t h x0 x1 x2 x3 x4 x5 x6 x7 x8 y1 y2 s).2.2.1, y ∈ pc.1.set :=
  View.cover_of_tiledL (runAt1B c t h x0 x1 x2 x3 x4 x5 x6 x7 x8 y1 y2 s).2.2.1 S1x1x256.size (by sl_kernel_rfl) y

def out1B_3 : Vec F S4x512x256 .f32 :=
  VS1.read (Elt F) (VS1.writes (Elt F) VS1.junk (runAt1B c t h x0 x1 x2 x3 x4 x5 x6 x7 x8 y1 y2 s).2.2.2.1)

theorem cover1B_3 (y : S4x512x256.Idx) :
    ∃ pc ∈ (runAt1B c t h x0 x1 x2 x3 x4 x5 x6 x7 x8 y1 y2 s).2.2.2.1, y ∈ pc.1.set :=
  View.cover_of_tiledL (runAt1B c t h x0 x1 x2 x3 x4 x5 x6 x7 x8 y1 y2 s).2.2.2.1 S1x512x256.size (by sl_kernel_rfl) y

end B

/-- What point `t` leaves in the outputs and the scratch: at the first point, -/
def first1 (c : Dev nD) (t : Fin cfg1.N) (h : t.val = 0) : Vec F S64x6272 .bf16 × Vec F S4x128x256 .f32 × Vec F S4x1x256 .f32 × Vec F S4x512x256 .f32 :=
  (out1A_0 c t ((hcond1 t).mpr h) (X1 V c 0 t) (X1 V c 1 t) (X1 V c 2 t) (X1 V c 3 t) (X1 V c 4 t) (X1 V c 5 t) (X1 V c 6 t) (X1 V c 7 t) (X1 V c 8 t),
    out1A_1 c t ((hcond1 t).mpr h) (X1 V c 0 t) (X1 V c 1 t) (X1 V c 2 t) (X1 V c 3 t) (X1 V c 4 t) (X1 V c 5 t) (X1 V c 6 t) (X1 V c 7 t) (X1 V c 8 t),
    out1A_2 c t ((hcond1 t).mpr h) (X1 V c 0 t) (X1 V c 1 t) (X1 V c 2 t) (X1 V c 3 t) (X1 V c 4 t) (X1 V c 5 t) (X1 V c 6 t) (X1 V c 7 t) (X1 V c 8 t),
    out1A_3 c t ((hcond1 t).mpr h) (X1 V c 0 t) (X1 V c 1 t) (X1 V c 2 t) (X1 V c 3 t) (X1 V c 4 t) (X1 V c 5 t) (X1 V c 6 t) (X1 V c 7 t) (X1 V c 8 t))

/-- at a later one, over what the point before left (`p`). -/
def later1 (c : Dev nD) (t : Fin cfg1.N) (h : ¬t.val = 0) (p : Vec F S64x6272 .bf16 × Vec F S4x128x256 .f32 × Vec F S4x1x256 .f32 × Vec F S4x512x256 .f32) : Vec F S64x6272 .bf16 × Vec F S4x128x256 .f32 × Vec F S4x1x256 .f32 × Vec F S4x512x256 .f32 :=
  (out1B_0 c t (fun e => h ((hcond1 t).mp e)) (X1 V c 0 t) (X1 V c 1 t) (X1 V c 2 t) (X1 V c 3 t) (X1 V c 4 t) (X1 V c 5 t) (X1 V c 6 t) (X1 V c 7 t) (X1 V c 8 t) p.2.1 p.2.2.1 p.2.2.2,
    out1B_1 c t (fun e => h ((hcond1 t).mp e)) (X1 V c 0 t) (X1 V c 1 t) (X1 V c 2 t) (X1 V c 3 t) (X1 V c 4 t) (X1 V c 5 t) (X1 V c 6 t) (X1 V c 7 t) (X1 V c 8 t) p.2.1 p.2.2.1 p.2.2.2,
    out1B_2 c t (fun e => h ((hcond1 t).mp e)) (X1 V c 0 t) (X1 V c 1 t) (X1 V c 2 t) (X1 V c 3 t) (X1 V c 4 t) (X1 V c 5 t) (X1 V c 6 t) (X1 V c 7 t) (X1 V c 8 t) p.2.1 p.2.2.1 p.2.2.2,
    out1B_3 c t (fun e => h ((hcond1 t).mp e)) (X1 V c 0 t) (X1 V c 1 t) (X1 V c 2 t) (X1 V c 3 t) (X1 V c 4 t) (X1 V c 5 t) (X1 V c 6 t) (X1 V c 7 t) (X1 V c 8 t) p.2.1 p.2.2.1 p.2.2.2)

/-- What the outputs' staging buffers and the scratch hold after point `n`. -/
def outs1 (c : Dev nD) : (n : ℕ) → n < cfg1.N → Vec F S64x6272 .bf16 × Vec F S4x128x256 .f32 × Vec F S4x1x256 .f32 × Vec F S4x512x256 .f32
  | 0, hn => first1 V c ⟨0, hn⟩ rfl
  | n + 1, hn => later1 V c ⟨n + 1, hn⟩ (Nat.succ_ne_zero n) (outs1 c n (Nat.lt_of_succ_lt hn))

theorem outs1_first (c : Dev nD) (t : Fin cfg1.N) (h : t.val = 0) : outs1 V c t.val t.isLt = first1 V c t h := by
  obtain ⟨n, hn⟩ := t; cases n with
  | zero => rfl
  | succ n => exact absurd h (Nat.succ_ne_zero n)

theorem outs1_later (c : Dev nD) (t : Fin cfg1.N) (h : ¬t.val = 0) :
    outs1 V c t.val t.isLt = later1 V c t h (outs1 V c (t.val - 1) (Nat.lt_of_le_of_lt (Nat.sub_le _ _) t.isLt)) := by
  obtain ⟨n, hn⟩ := t; cases n with
  | zero => exact absurd rfl h
  | succ n => rfl

/-- The scoped buffers of the other calls, which ride along. -/
abbrev rest1 (c : Dev nD) : sProp 𝕄 :=
  Pipeline.scopedRestBut (Ix := Unit) (Name := ℕ) (U := UR sig nD τ) (Lvl := ℕ) (Val := Elt F) spec1 c [cc1_scratch0]

/-- The invariant the pipeline is launched at: the scratch at anything, the other scoped buffers, the generator. -/
theorem start1_eq (c : Dev nD) :
    (Pipeline.ΦA spec1 c : sProp 𝕄)
      = iprop(((∃ d, owns (c : Thread nD τ) sc1 fullShare d) ∗ rest1 c) ∗ (∃ r, prngReg c r)) := by
  unfold Pipeline.ΦA
  rw [Pipeline.scopedRest_split_of_list spec1 c [cc1_scratch0] (by decide) (by decide)]
  simp only [sc1, owns_whole]; rfl

/-- The invariant before point `n`: at first `ΦA`, afterwards the scratch at what the point before left. -/
def inv1 (c : Dev nD) : (n : ℕ) → n ≤ cfg1.N → sProp 𝕄
  | 0, _ => Pipeline.ΦA spec1 c
  | n + 1, hn => iprop((owns (c : Thread nD τ) sc1 fullShare (outs1 V c n hn).2.2.2 ∗ rest1 c) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn
      = iprop((owns (c : Thread nD τ) sc1 fullShare (outs1 V c n hn).2.2.2 ∗ rest1 c) ∗ (∃ r, prngReg c r)) := rfl

theorem inv1_pos (c : Dev nD) (n : ℕ) (h : n ≤ cfg1.N) (hz : n ≠ 0) :
    inv1 V c n h
      = iprop((owns (c : Thread nD τ) sc1 fullShare (outs1 V c (n - 1) (by omega)).2.2.2 ∗ rest1 c) ∗ (∃ r, prngReg c r)) := by
  cases n with
  | zero => exact absurd rfl hz
  | succ n => rfl

/-- The pipeline's proof data. -/
def dat1 (c : Dev nD) : Dat τ (Elt F) Unit ℕ (UR sig nD τ) ℕ cfg1 c where
  A w := V c (Pipeline.arrRef spec1 w)
  after w t := match w with
    | ⟨0, _⟩ => X1 V c 0 t
    | ⟨1, _⟩ => X1 V c 1 t
    | ⟨2, _⟩ => X1 V c 2 t
    | ⟨3, _⟩ => X1 V c 3 t
    | ⟨4, _⟩ => X1 V c 4 t
    | ⟨5, _⟩ => X1 V c 5 t
    | ⟨6, _⟩ => X1 V c 6 t
    | ⟨7, _⟩ => X1 V c 7 t
    | ⟨8, _⟩ => X1 V c 8 t
    | ⟨9, _⟩ => (outs1 V c t.val t.isLt).1
    | ⟨10, _⟩ => (outs1 V c t.val t.isLt).2.1
    | ⟨11, _⟩ => (outs1 V c t.val t.isLt).2.2.1
  Φ t := inv1 V c t.val (Nat.le_of_lt_succ t.isLt)
  q w := Pipeline.shareOf spec1 w
  owed _ := 0

theorem dat1_A (c : Dev nD) (w : Fin cfg1.W) : (dat1 V c).A w = V c (Pipeline.arrRef spec1 w) := by dsimp only [dat1]

theorem inv1_castSucc (c : Dev nD) (t : Fin cfg1.N) :
    (dat1 V c).Φ t.castSucc = inv1 V c t.val (Nat.le_of_lt t.isLt) := by
  dsimp only [dat1]; exact Pipeline.Dat.Φ_castSucc (inv1 V c) t

theorem after1_0 (c : Dev nD) (t : Fin cfg1.N) : (dat1 V c).after 0 t = X1 V c 0 t := by dsimp only [dat1]
theorem after1_1 (c : Dev nD) (t : Fin cfg1.N) : (dat1 V c).after 1 t = X1 V c 1 t := by dsimp only [dat1]
theorem after1_2 (c : Dev nD) (t : Fin cfg1.N) : (dat1 V c).after 2 t = X1 V c 2 t := by dsimp only [dat1]
theorem after1_3 (c : Dev nD) (t : Fin cfg1.N) : (dat1 V c).after 3 t = X1 V c 3 t := by dsimp only [dat1]
theorem after1_4 (c : Dev nD) (t : Fin cfg1.N) : (dat1 V c).after 4 t = X1 V c 4 t := by dsimp only [dat1]
theorem after1_5 (c : Dev nD) (t : Fin cfg1.N) : (dat1 V c).after 5 t = X1 V c 5 t := by dsimp only [dat1]
theorem after1_6 (c : Dev nD) (t : Fin cfg1.N) : (dat1 V c).after 6 t = X1 V c 6 t := by dsimp only [dat1]
theorem after1_7 (c : Dev nD) (t : Fin cfg1.N) : (dat1 V c).after 7 t = X1 V c 7 t := by dsimp only [dat1]
theorem after1_8 (c : Dev nD) (t : Fin cfg1.N) : (dat1 V c).after 8 t = X1 V c 8 t := by dsimp only [dat1]
theorem after1_9 (c : Dev nD) (t : Fin cfg1.N) : (dat1 V c).after 9 t = (outs1 V c t.val t.isLt).1 := by dsimp only [dat1]
theorem after1_10 (c : Dev nD) (t : Fin cfg1.N) : (dat1 V c).after 10 t = (outs1 V c t.val t.isLt).2.1 := by dsimp only [dat1]
theorem after1_11 (c : Dev nD) (t : Fin cfg1.N) : (dat1 V c).after 11 t = (outs1 V c t.val t.isLt).2.2.1 := by dsimp only [dat1]

theorem before1_0 (c : Dev nD) (t : Fin cfg1.N) (d) : (dat1 V c).before 0 t d = X1 V c 0 t :=
  before1_of V (dat1 V c) 0 rfl (fun t t' h => funext fun a => congrArg (fun n => Pipeline.Clip.of n ((cfg1.win 0).size a) (S2112x6272.size a)) (congrFun h a)) (dat1_A V c 0) (after1_0 V c) t d
theorem before1_1 (c : Dev nD) (t : Fin cfg1.N) (d) : (dat1 V c).before 1 t d = X1 V c 1 t :=
  before1_of V (dat1 V c) 1 rfl (fun t t' h => funext fun a => congrArg (fun n => Pipeline.Clip.of n ((cfg1.win 1).size a) (S2112x6272.size a)) (congrFun h a)) (dat1_A V c 1) (after1_1 V c) t d
theorem before1_2 (c : Dev nD) (t : Fin cfg1.N) (d) : (dat1 V c).before 2 t d = X1 V c 2 t :=
  before1_of V (dat1 V c) 2 rfl (fun t t' h => funext fun a => congrArg (fun n => Pipeline.Clip.of n ((cfg1.win 2).size a) (S2112x6272.size a)) (congrFun h a)) (dat1_A V c 2) (after1_2 V c) t d
theorem before1_3 (c : Dev nD) (t : Fin cfg1.N) (d) : (dat1 V c).before 3 t d = X1 V c 3 t :=
  before1_of V (dat1 V c) 3 rfl (fun _ _ _ => rfl) (dat1_A V c 3) (after1_3 V c) t d
theorem before1_4 (c : Dev nD) (t : Fin cfg1.N) (d) : (dat1 V c).before 4 t d = X1 V c 4 t :=
  before1_of V (dat1 V c) 4 rfl (fun _ _ _ => rfl) (dat1_A V c 4) (after1_4 V c) t d
theorem before1_5 (c : Dev nD) (t : Fin cfg1.N) (d) : (dat1 V c).before 5 t d = X1 V c 5 t :=
  before1_of V (dat1 V c) 5 rfl (fun _ _ _ => rfl) (dat1_A V c 5) (after1_5 V c) t d
theorem before1_6 (c : Dev nD) (t : Fin cfg1.N) (d) : (dat1 V c).before 6 t d = X1 V c 6 t :=
  before1_of V (dat1 V c) 6 rfl (fun _ _ _ => rfl) (dat1_A V c 6) (after1_6 V c) t d
theorem before1_7 (c : Dev nD) (t : Fin cfg1.N) (d) : (dat1 V c).before 7 t d = X1 V c 7 t :=
  before1_of V (dat1 V c) 7 rfl (fun _ _ _ => rfl) (dat1_A V c 7) (after1_7 V c) t d
theorem before1_8 (c : Dev nD) (t : Fin cfg1.N) (d) : (dat1 V c).before 8 t d = X1 V c 8 t :=
  before1_of V (dat1 V c) 8 rfl (fun _ _ _ => rfl) (dat1_A V c 8) (after1_8 V c) t d

/-- Output 10's buffer is not written back between two points: it holds what the point before left. -/
theorem before1_10 (c : Dev nD) (t : Fin cfg1.N) (h : ¬t.val = 0) (d) :
    (dat1 V c).before 10 t d = (outs1 V c (t.val - 1) (Nat.lt_of_le_of_lt (Nat.sub_le _ _) t.isLt)).2.1 := by
  have hN : t.val < 33 := lt_of_lt_of_eq t.isLt (show cfg1.N = 33 from N_1)
  rw [Dat.before_out_kept _ 10 rfl t (by omega)
    (Bool.eq_false_iff.mpr fun e => by have := (flush1_10 _).mp e; dsimp only at this; omega) (fun _ => rfl) (fun _ _ => rfl)]
  dsimp only [dat1]

/-- Output 11's buffer is not written back between two points: it holds what the point before left. -/
theorem before1_11 (c : Dev nD) (t : Fin cfg1.N) (h : ¬t.val = 0) (d) :
    (dat1 V c).before 11 t d = (outs1 V c (t.val - 1) (Nat.lt_of_le_of_lt (Nat.sub_le _ _) t.isLt)).2.2.1 := by
  have hN : t.val < 33 := lt_of_lt_of_eq t.isLt (show cfg1.N = 33 from N_1)
  rw [Dat.before_out_kept _ 11 rfl t (by omega)
    (Bool.eq_false_iff.mpr fun e => by have := (flush1_11 _).mp e; dsimp only at this; omega) (fun _ => rfl) (fun _ _ => rfl)]
  dsimp only [dat1]

/-- What the body is called with at point `t`, window by window, -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def post1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 6400000 in
/-- The body at any point: the run of its case, from the blocks and the scratch the point before left. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8]
  rw [show (dat1 V c).owesAt () t.succ = (dat1 V c).owesAt () t.castSucc from rfl,
    after1_0, after1_1, after1_2, after1_3, after1_4, after1_5, after1_6, after1_7, after1_8, after1_9, after1_10, after1_11]
  rw [show (dat1 V c).Φ t.succ = inv1 V c (t.val + 1) t.isLt from rfl, inv1_succ, inv1_castSucc V c t]
  by_cases h0 : t.val = 0
  · rw [inv1_zero V c _ _ h0, start1_eq, outs1_first V c t h0]
    unfold first1
    unfold out1A_0 out1A_1 out1A_2 out1A_3
    dsimp only
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt1A c t ((hcond1 t).mpr h0) (X1 V c 0 t) (X1 V c 1 t) (X1 V c 2 t) (X1 V c 3 t) (X1 V c 4 t) (X1 V c 5 t) (X1 V c 6 t) (X1 V c 7 t) (X1 V c 8 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS]; · iexact HS
    iintro ⟨H0, H1, H2, H3, H4, H5, H6, H7, H8, ⟨%e9, H9⟩, ⟨%e10, H10⟩, ⟨%e11, H11⟩, ⟨%es, HS⟩⟩
    isplitl [HS HR Hg]
    · isplitl [HS HR]
      · isplitl [HS]
        · unfold owns; iexists _; isplitr
          swap; · iexact HS
          ipureintro; exact View.read_writes_of_cover _ _ _ _ _ (cover1A_3 c t _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1A_0 c t _ _ _ _ _ _ _ _ _ _)
    isplitl [H10]
    · unfold owns; iexists _; isplitr
      swap; · iexact H10
      ipureintro; exact View.read_writes_of_cover _ _ _ _ _ (cover1A_1 c t _ _ _ _ _ _ _ _ _ _)
    unfold owns; iexists _; isplitr
    swap; · iexact H11
    ipureintro; exact View.read_writes_of_cover _ _ _ _ _ (cover1A_2 c t _ _ _ _ _ _ _ _ _ _)
  · rw [inv1_pos V c _ _ h0, outs1_later V c t h0]
    simp only [before1_10 V c t h0, before1_11 V c t h0]
    unfold later1
    unfold out1B_0 out1B_1 out1B_2 out1B_3
    dsimp only
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt1B c t (fun e => h0 ((hcond1 t).mp e)) (X1 V c 0 t) (X1 V c 1 t) (X1 V c 2 t) (X1 V c 3 t) (X1 V c 4 t) (X1 V c 5 t) (X1 V c 6 t) (X1 V c 7 t) (X1 V c 8 t) _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS]; · iexact HS
    iintro ⟨H0, H1, H2, H3, H4, H5, H6, H7, H8, ⟨%e9, H9⟩, ⟨%e10, H10⟩, ⟨%e11, H11⟩, ⟨%es, HS⟩⟩
    isplitl [HS HR Hg]
    · isplitl [HS HR]
      · isplitl [HS]
        · unfold owns; iexists _; isplitr
          swap; · iexact HS
          ipureintro; exact View.read_writes_of_cover _ _ _ _ _ (cover1B_3 c t _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1B_0 c t _ _ _ _ _ _ _ _ _ _ _ _ _)
    isplitl [H10]
    · unfold owns; iexists _; isplitr
      swap; · iexact H10
      ipureintro; exact View.read_writes_of_cover _ _ _ _ _ (cover1B_1 c t _ _ _ _ _ _ _ _ _ _ _ _ _)
    unfold owns; iexists _; isplitr
    swap; · iexact H11
    ipureintro; exact View.read_writes_of_cover _ _ _ _ _ (cover1B_2 c t _ _ _ _ _ _ _ _ _ _ _ _ _)

theorem row1 (t : Fin cfg1.N) :
    defs₀ (F := F) .tc cfg1.body (cfg1.bodyArgs t (cfg1.slots t)) = bodyAt1 t := by
  unfold defs₀; rw [Defs.onTc_tc]

/-- The body's obligation at every point. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

theorem enter1 (c : Dev nD) : Pipeline.ΦA spec1 c ⊢ (dat1 V c).Φ 0 := by
  rw [show (dat1 V c).Φ 0 = inv1 V c 0 (Nat.zero_le _) from rfl, inv1_zero V c 0 _ rfl]

theorem leave1 (c : Dev nD) : (dat1 V c).Φ (Fin.last cfg1.N) ⊢ Pipeline.ΦA spec1 c := by
  rw [show (dat1 V c).Φ (Fin.last cfg1.N) = inv1 V c cfg1.N le_rfl from rfl,
    inv1_pos V c _ _ (by rw [show cfg1.N = 33 from N_1]; omega), start1_eq]
  iintro ⟨⟨HS, HR⟩, Hg⟩
  isplitl [HS HR]
  · isplitl [HS]
    · iexists _; iexact HS
    iexact HR
  iexact Hg

end Cert.GlaKernelIdeal.Run
-- ==== Proof.Gla.Launch.lean ====
module

public import proofs.«01_k».proof.Proof.Gla.Region0
public import proofs.«01_k».proof.Proof.Gla.Region1
public import proofs.«01_k».proof.Proof.Gen.GlaKernelIdeal.Regions

@[expose] public section

set_option maxRecDepth 16384

noncomputable section

namespace Cert.GlaKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GlaKernelIdeal.Gen hiding adm segs V1 V2 V3 V4 V1_of V2_of V3_of V4_of
open Idealize.ShloMosaic.Pipeline (Dat Cfg Window BodyObligation cellOf)

variable {F : FTy → Type} [FloatOps F]

local notation "𝕄" => MT nD τ sig Unit (Elt F) ℕ (UR sig nD τ) ℕ

/-! The launch: the two host stretches and the two regions one after another, each region entered from every unscoped
    buffer and left with its outputs' arrays at what the pipeline wrote. The run's conclusion names every unscoped
    buffer, so the results are read from it as well as the arguments. -/

variable (m : (ℓ : Loc nD τ sig) → Buf (Elt F) ℓ) (ρ : Dev nD → PrngReg)

/-- Core `c`'s unscoped buffers at launch, -/
abbrev W0 (c : Dev nD) : Valuation τ sig (Elt F) := fun b => m (c, b)
/-- after the first host stretch, -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- after the forward region, -/
def W2 (c : Dev nD) : Valuation τ sig (Elt F) :=
  Function.update (Function.update (W1 m c) main_v11_0 ((dat0 (V1 m) c).arrAt 6 cfg0.N)) main_v11_1 ((dat0 (V1 m) c).arrAt 7 cfg0.N)
abbrev V2 : (c : Dev nD) → (b : Ref sig .tc) → Buf (Elt F) ((c : Thread nD τ).loc b) := fun c b => W2 m c b
/-- after the second host stretch, -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- after the backward region. -/
def W4 (c : Dev nD) : Valuation τ sig (Elt F) :=
  Function.update (Function.update (Function.update (W3 m c) main_v17_0 ((dat1 (V3 m) c).arrAt 9 cfg1.N))
    main_v17_1 ((dat1 (V3 m) c).arrAt 10 cfg1.N)) main_v17_2 ((dat1 (V3 m) c).arrAt 11 cfg1.N)
abbrev V4 : (c : Dev nD) → (b : Ref sig .tc) → Buf (Elt F) ((c : Thread nD τ).loc b) := fun c b => W4 m c b

theorem ne_ref {r b : Ref sig .tc} (h : r ≠ b) : (Proc.devRef .tc r : DevRef τ sig) ≠ Proc.devRef .tc b :=
  StableHlo.devRef_ne_of_ne h

theorem W2_of (c : Dev nD) (r : Ref sig .tc) (h0 : r ≠ main_v11_0) (h1 : r ≠ main_v11_1) : V2 m c r = V1 m c r := by
  unfold V2 W2; rw [Function.update_of_ne (ne_ref h1), Function.update_of_ne (ne_ref h0)]
theorem W2_o (c : Dev nD) : V2 m c main_v11_0 = (dat0 (V1 m) c).arrAt 6 cfg0.N := by
  unfold V2 W2; rw [Function.update_of_ne (ne_ref (by decide)), Function.update_self]
theorem W2_st (c : Dev nD) : V2 m c main_v11_1 = (dat0 (V1 m) c).arrAt 7 cfg0.N := by
  unfold V2 W2; rw [Function.update_self]
theorem W4_of (c : Dev nD) (r : Ref sig .tc) (h0 : r ≠ main_v17_0) (h1 : r ≠ main_v17_1) (h2 : r ≠ main_v17_2) :
    V4 m c r = V3 m c r := by
  unfold V4 W4; rw [Function.update_of_ne (ne_ref h2), Function.update_of_ne (ne_ref h1), Function.update_of_ne (ne_ref h0)]
theorem W4_dp (c : Dev nD) : V4 m c main_v17_0 = (dat1 (V3 m) c).arrAt 9 cfg1.N := by
  unfold V4 W4; rw [Function.update_of_ne (ne_ref (by decide)), Function.update_of_ne (ne_ref (by decide)), Function.update_self]
theorem W4_dw (c : Dev nD) : V4 m c main_v17_1 = (dat1 (V3 m) c).arrAt 10 cfg1.N := by
  unfold V4 W4; rw [Function.update_of_ne (ne_ref (by decide)), Function.update_self]
theorem W4_db (c : Dev nD) : V4 m c main_v17_2 = (dat1 (V3 m) c).arrAt 11 cfg1.N := by
  unfold V4 W4; rw [Function.update_self]

/-- A buffer no host stretch and no region writes ends as launched. -/
theorem W4_launch (c : Dev nD) (r : Ref sig .tc) (h : r ∉ hostOps0_W ++ hostOps1_W ++ [main_v11_0, main_v11_1, main_v17_0, main_v17_1, main_v17_2]) :
    V4 m c r = m ((c : Thread nD τ).loc r) := by
  simp only [List.mem_append, List.mem_cons, List.not_mem_nil, not_or, or_false] at h
  obtain ⟨⟨h0, h1⟩, h2, h3, h4, h5, h6⟩ := h
  rw [W4_of m c r h4 h5 h6]
  have e1 : V3 m c r = V2 m c r := StableHlo.after_of_writes_sub hostOps1 _ hostOps1_writes (by simpa using h1)
  have e0 : V1 m c r = W0 m c r := StableHlo.after_of_writes_sub hostOps0 _ hostOps0_writes (by simpa using h0)
  rw [e1, W2_of m c r h2 h3, e0]

theorem arr0_in (c : Dev nD) (w : Fin cfg0.W) (h : (cfg0.win w).isOut = false)
    (h0 : Pipeline.arrRef spec0 w ≠ main_v11_0) (h1 : Pipeline.arrRef spec0 w ≠ main_v11_1) :
    (dat0 (V1 m) c).arrAt w cfg0.N = V2 m c (Pipeline.arrRef spec0 w) :=
  (((dat0 (V1 m) c).arrAt_in w h _).trans (dat0_A (V1 m) c w)).trans (W2_of m c _ h0 h1).symm

theorem arr0 (c : Dev nD) : ∀ w : Fin cfg0.W, (dat0 (V1 m) c).arrAt w cfg0.N = V2 m c (Pipeline.arrRef spec0 w)
  | 0 => arr0_in m c 0 rfl (by decide) (by decide)
  | 1 => arr0_in m c 1 rfl (by decide) (by decide)
  | 2 => arr0_in m c 2 rfl (by decide) (by decide)
  | 3 => arr0_in m c 3 rfl (by decide) (by decide)
  | 4 => arr0_in m c 4 rfl (by decide) (by decide)
  | 5 => arr0_in m c 5 rfl (by decide) (by decide)
  | 6 => (W2_o m c).symm
  | 7 => (W2_st m c).symm

theorem rest0_eq (c : Dev nD) (b : Ref sig .tc) (hb : b ∉ Finset.univ.image (Pipeline.arrRef spec0)) : V2 m c b = V1 m c b :=
  W2_of m c b (fun e => hb (Finset.mem_image.mpr ⟨6, Finset.mem_univ _, e.symm⟩)) (fun e => hb (Finset.mem_image.mpr ⟨7, Finset.mem_univ _, e.symm⟩))

theorem arr1_in (c : Dev nD) (w : Fin cfg1.W) (h : (cfg1.win w).isOut = false)
    (h0 : Pipeline.arrRef spec1 w ≠ main_v17_0) (h1 : Pipeline.arrRef spec1 w ≠ main_v17_1) (h2 : Pipeline.arrRef spec1 w ≠ main_v17_2) :
    (dat1 (V3 m) c).arrAt w cfg1.N = V4 m c (Pipeline.arrRef spec1 w) :=
  (((dat1 (V3 m) c).arrAt_in w h _).trans (dat1_A (V3 m) c w)).trans (W4_of m c _ h0 h1 h2).symm

theorem arr1 (c : Dev nD) : ∀ w : Fin cfg1.W, (dat1 (V3 m) c).arrAt w cfg1.N = V4 m c (Pipeline.arrRef spec1 w)
  | 0 => arr1_in m c 0 rfl (by decide) (by decide) (by decide)
  | 1 => arr1_in m c 1 rfl (by decide) (by decide) (by decide)
  | 2 => arr1_in m c 2 rfl (by decide) (by decide) (by decide)
  | 3 => arr1_in m c 3 rfl (by decide) (by decide) (by decide)
  | 4 => arr1_in m c 4 rfl (by decide) (by decide) (by decide)
  | 5 => arr1_in m c 5 rfl (by decide) (by decide) (by decide)
  | 6 => arr1_in m c 6 rfl (by decide) (by decide) (by decide)
  | 7 => arr1_in m c 7 rfl (by decide) (by decide) (by decide)
  | 8 => arr1_in m c 8 rfl (by decide) (by decide) (by decide)
  | 9 => (W4_dp m c).symm
  | 10 => (W4_dw m c).symm
  | 11 => (W4_db m c).symm

theorem rest1_eq (c : Dev nD) (b : Ref sig .tc) (hb : b ∉ Finset.univ.image (Pipeline.arrRef spec1)) : V4 m c b = V3 m c b :=
  W4_of m c b (fun e => hb (Finset.mem_image.mpr ⟨9, Finset.mem_univ _, e.symm⟩)) (fun e => hb (Finset.mem_image.mpr ⟨10, Finset.mem_univ _, e.symm⟩))
    (fun e => hb (Finset.mem_image.mpr ⟨11, Finset.mem_univ _, e.symm⟩))

/-! ## The segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- The forward region over the unscoped buffers: its arrays taken out of them, several of its inputs sharing one array,
    and put back at what the pipeline leaves. -/
def reg0 : Pipeline.RegionSeg (pcfgs (F := F)) adm (pdats m) () defs₀ 𝒱₀ L lv 0 where
  win := winFacts₀0
  block_pos := launch₀0.block_pos
  stage_whole := launch₀0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs_shared (p := 0) (pcfgs (F := F)) adm (pdats m) winFacts₀0 sharedIn0 launch₀0.arr_whole c
      (fun _ _ => rfl) (V1 m c) (dat0_A (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter0 (V1 m) c)
    unfold Pipeline.ΦA
    iintro ⟨Hp, -, Hr⟩
    isplitl [Hr]; · iexact Hr
    iexact Hp
  hout c := by
    refine Idealize.SL.BI.BIBase.Entails.trans (leave0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      winFacts₀0 sharedIn0 launch₀0.arr_whole c (pdats m) (fun _ _ => rfl)
      (V1 m c) (V2 m c) ((pdats m 0 c).arrAt · cfg0.N) (arr0 m c) (rest0_eq m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward region over the unscoped buffers: its arrays taken out of them, several of its inputs sharing one array,
    and put back at what the pipeline leaves. -/
def reg1 : Pipeline.RegionSeg (pcfgs (F := F)) adm (pdats m) () defs₀ 𝒱₀ L lv 1 where
  win := winFacts₀1
  block_pos := launch₀1.block_pos
  stage_whole := launch₀1.stage_whole
  K := PEmpty
  osem k := k.elim
  ho := Pipeline.OwnSemFacts.none _
  hbody c := (obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs_shared (p := 1) (pcfgs (F := F)) adm (pdats m) winFacts₀1 sharedIn1 launch₀1.arr_whole c
      (fun _ _ => rfl) (V3 m c) (dat1_A (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter1 (V3 m) c)
    unfold Pipeline.ΦA
    iintro ⟨Hp, -, Hr⟩
    isplitl [Hr]; · iexact Hr
    iexact Hp
  hout c := by
    refine Idealize.SL.BI.BIBase.Entails.trans (leave1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      winFacts₀1 sharedIn1 launch₀1.arr_whole c (pdats m) (fun _ _ => rfl)
      (V3 m c) (V4 m c) ((pdats m 1 c).arrAt · cfg1.N) (arr1 m c) (rest1_eq m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m) ]

theorem main_run (c : Dev nD) : main (F := F) c = Pipeline.Seg.run (segs m) := (main_chain c).trans (by chain_rfl)

set_option backward.isDefEq.respectTransparency.types false in
/-- THE RUN: every weakly fair execution terminates, with every unscoped buffer at `W4` and every semaphore counter
    at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W4 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (regions_no_unscoped g.2))⟩)

/-- What the run leaves in core `c`'s arguments and results. -/
structure Left (m : (ℓ : Loc nD τ sig) → Buf (Elt F) ℓ) (s : MemSt nD τ sig (Elt F)) : Prop where
  arg0 : ∀ c : Dev nD, s.mem ((c : Thread nD τ).loc main_arg0) = m ((c : Thread nD τ).loc main_arg0)
  arg1 : ∀ c : Dev nD, s.mem ((c : Thread nD τ).loc main_arg1) = m ((c : Thread nD τ).loc main_arg1)
  arg2 : ∀ c : Dev nD, s.mem ((c : Thread nD τ).loc main_arg2) = m ((c : Thread nD τ).loc main_arg2)
  arg3 : ∀ c : Dev nD, s.mem ((c : Thread nD τ).loc main_arg3) = m ((c : Thread nD τ).loc main_arg3)
  arg4 : ∀ c : Dev nD, s.mem ((c : Thread nD τ).loc main_arg4) = m ((c : Thread nD τ).loc main_arg4)
  out : ∀ c : Dev nD, s.mem ((c : Thread nD τ).loc main_v11_0) = (dat0 (V1 m) c).arrAt 6 cfg0.N
  dp : ∀ c : Dev nD, s.mem ((c : Thread nD τ).loc main_v17_0) = (dat1 (V3 m) c).arrAt 9 cfg1.N
  dw : ∀ c : Dev nD, s.mem ((c : Thread nD τ).loc main_v17_1) = (dat1 (V3 m) c).arrAt 10 cfg1.N
  db : ∀ c : Dev nD, s.mem ((c : Thread nD τ).loc main_v17_2) = (dat1 (V3 m) c).arrAt 11 cfg1.N
  sem : s.sem = fun _ => 0

theorem run_left : θ_run defs (onTc (τ := τ) (main (F := F))) ⟨m, fun _ => 0, ρ⟩ (fun r => Left m r.2) :=
  (θ_run defs _ _).mono (fun r h => {
    arg0 := fun c => (h.1 c _ (mem_uc main_arg0 (by decide))).trans (W4_launch m c main_arg0 (by decide))
    arg1 := fun c => (h.1 c _ (mem_uc main_arg1 (by decide))).trans (W4_launch m c main_arg1 (by decide))
    arg2 := fun c => (h.1 c _ (mem_uc main_arg2 (by decide))).trans (W4_launch m c main_arg2 (by decide))
    arg3 := fun c => (h.1 c _ (mem_uc main_arg3 (by decide))).trans (W4_launch m c main_arg3 (by decide))
    arg4 := fun c => (h.1 c _ (mem_uc main_arg4 (by decide))).trans (W4_launch m c main_arg4 (by decide))
    out := fun c => (h.1 c _ (mem_uc main_v11_0 (by decide))).trans <| (W4_of m c main_v11_0 (by decide) (by decide) (by decide)).trans <|
      (StableHlo.after_of_writes_sub hostOps1 _ hostOps1_writes (by decide) : V3 m c main_v11_0 = V2 m c main_v11_0).trans (W2_o m c)
    dp := fun c => (h.1 c _ (mem_uc main_v17_0 (by decide))).trans (W4_dp m c)
    dw := fun c => (h.1 c _ (mem_uc main_v17_1 (by decide))).trans (W4_dw m c)
    db := fun c => (h.1 c _ (mem_uc main_v17_2 (by decide))).trans (W4_db m c)
    sem := h.2 }) (run m ρ)

end Cert.GlaKernelIdeal.Run
-- ==== Proof.Gla.Frames.lean ====
module

public import proofs.«01_k».proof.Defs
public import proofs.«01_k».proof.Proof.Gla.Launch
public import proofs.«01_k».proof.Proof.Gen.GlaKernelIdeal
public import proofs.«01_k».proof.Proof.Gen.GlaKernel

/-! The frames of the two printings of the kernel. The idealized program is the printed one, no rewrite having been
    offered, so one run over either reading of the floats gives both. -/

@[expose] public section

set_option maxRecDepth 16384

noncomputable section

namespace Cert.Gla

open Idealize.ShloMosaic Idealize.SL.Sem

/-- The run over either reading of the floats, in the words of the frames. -/
theorem frame_at {F : FTy → Type} [FloatOps F] (m : (ℓ : Loc Cert.GlaKernelIdeal.nD Cert.GlaKernelIdeal.τ Cert.GlaKernelIdeal.sig) → Buf (Elt F) ℓ)
    (ρ : Dev Cert.GlaKernelIdeal.nD → PrngReg) :
    θ_run (Cert.GlaKernelIdeal.defs (F := F)) (onTc (τ := Cert.GlaKernelIdeal.τ) (Cert.GlaKernelIdeal.main (F := F))) ⟨m, fun _ => 0, ρ⟩ (fun r =>
      (∀ c : Dev Cert.GlaKernelIdeal.nD,
        r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
        ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
        ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
        ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
        ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4))
      ∧ r.2.sem = fun _ => 0) :=
  (θ_run Cert.GlaKernelIdeal.defs _ _).mono
    (fun _ h => ⟨fun c => ⟨h.arg0 c, h.arg1 c, h.arg2 c, h.arg3 c, h.arg4 c⟩, h.sem⟩)
    (Cert.GlaKernelIdeal.Run.run_left (F := F) m ρ)

theorem frame_kernel_ideal : Cert.quiescent_GlaKernelIdeal := fun m ρ _ => frame_at m ρ

theorem frame_kernel : Cert.quiescent_GlaKernel := fun m ρ _ => cast (by sl_kernel_rfl) (frame_at (F := Bits) m ρ)

end Cert.Gla
-- ==== Proof.Gla.RefTypes.lean ====
module

public import proofs.«01_k».proof.Proof.Gen.GlaReferenceIdeal
public import Idealize.ShloMosaic.Lib.StableHlo.RunLoop
public import Idealize.ShloMosaic.Lib.StableHlo.RunRead

@[expose] public section

namespace Cert.GlaReferenceIdeal.Run

open Idealize.ShloMosaic Cert.GlaReferenceIdeal

/-! Short names of two types that the lists of the reference's operations use. -/

/-- An array of shape `S`; its elements are single-precision floats unless said otherwise. -/
abbrev Arr (F : FTy → Type) (S : Shape) (e : EltTy := .f32) : Type := (⟨S, e⟩ : BufTy).Contents (Elt F)

/-- A buffer of the reference that holds an array of shape `S`. -/
abbrev RBuf (S : Shape) (e : EltTy := .f32) : Type := StableHlo.TRef sig ⟨S, e⟩

/-- A function of one array, and of two; the shapes not said are the first's. -/
abbrev Un (F : FTy → Type) (S T : Shape) : Type := Arr F S → Arr F T
abbrev Bin (F : FTy → Type) (S : Shape) (T : Shape := S) (R : Shape := S) : Type := Arr F S → Arr F T → Arr F R

/-- The operations of a list touch the program's own buffers alone. -/
abbrev Sub {F : FTy → Type} [FloatOps F] (l : List (HloOp τ sig (Elt F))) : Prop :=
  l.Forall fun op => op.bufs ⊆ StableHlo.tcRefs τ sig

end Cert.GlaReferenceIdeal.Run
-- ==== Proof.Gla.RefMain.lean ====
module

public import proofs.«01_k».proof.Proof.Gla.RefTypes
public import Idealize.ShloMosaic.Lib.StableHlo.RunLoop
public import Idealize.ShloMosaic.Lib.StableHlo.RunRead

@[expose] public section

set_option maxRecDepth 16384

noncomputable section

namespace Cert.GlaReferenceIdeal.Run

open Idealize.ShloMosaic Idealize.ShloMosaic.TcCoe Idealize.SL.Sem
open Cert.GlaReferenceIdeal Cert.GlaReferenceIdeal.Gen
open Idealize.ShloMosaic.StableHlo (unary binary nullary nary reshape seq tcRefs TRef)
open Idealize.ShloMosaic.StableHlo renaming binary_bufs_sub → sB, nary_bufs_sub → sM, nullary_bufs_sub → sN, reshape_bufs_sub → sR, ternary_bufs_sub → sT, unary_bufs_sub → sU

variable {F : FTy → Type} [FloatOps F]

/-! The reference's operations outside its two scans, in order, and `main` as the chain of these stretches. -/

abbrev main_part0_ops0 : List (HloOp τ sig (Elt F)) :=
  [ unary main_arg0 main_v0 ((extractStridedSlice S2064x1024 ![0, 0] · slices_S2064x6160_S2064x1024_0_0) : Un F S2064x6160 S2064x1024),
    unary main_arg0 main_v1 ((extractStridedSlice S2064x1024 ![0, 1024] · slices_S2064x6160_S2064x1024_0_1024) : Un F S2064x6160 S2064x1024),
    unary main_arg0 main_v2 ((extractStridedSlice S2064x2048 ![0, 2048] · slices_S2064x6160_S2064x2048_0_2048) : Un F S2064x6160 S2064x2048),
    unary main_arg0 main_v3 ((extractStridedSlice S2064x16 ![0, 4096] · slices_S2064x6160_S2064x16_0_4096) : Un F S2064x6160 S2064x16),
    unary main_arg0 main_v4 ((extractStridedSlice S2064x2048 ![0, 4112] · slices_S2064x6160_S2064x2048_0_4112) : Un F S2064x6160 S2064x2048),
    binary main_v3 main_arg1 main_v5 ((fun l r => Host.dotGeneral dot_S2064x16_S16x1024_S2064x1024_1_0_0_1_n_n none l r) : Bin F S2064x16 S16x1024 S2064x1024),
    unary main_arg2 main_v6 (broadcastInDim S1x1024 ![1] bcast_S1024_S1x1024_1 : Un F S1024 S1x1024),
    unary main_v6 main_v7 (broadcastInDim S2064x1024 ![0, 1] bcast_S1x1024_S2064x1024_0_1 : Un F S1x1024 S2064x1024),
    binary main_v5 main_v7 main_v8 (addf : Bin F S2064x1024) ]
theorem main_part0_ops0_sub : Sub (F := F) main_part0_ops0 :=
  ⟨sU .., sU .., sU .., sU .., sU .., sB .., sU .., sU .., sB ..⟩
abbrev main_part0_ops1 : List (HloOp τ sig (Elt F)) :=
  ( TRef.unary (.of main_v8 : RBuf S2064x1024) (.of main_call0_v0 : RBuf S2064x1024) Host.negf
  :: TRef.nullary (.of main_call0_call0_cst : RBuf S_) (constant S_ .f32 0x00000000#32)
  :: TRef.unary (.of main_call0_call0_cst : RBuf S_) (.of main_call0_call0_v0 : RBuf S2064x1024) (broadcastInDim S2064x1024 ![] bcast_S_S2064x1024)
  :: TRef.binary (.of main_call0_v0 : RBuf S2064x1024) (.of main_call0_call0_v0 : RBuf S2064x1024) (.of main_call0_call0_v1 : RBuf S2064x1024) maximumf
  :: TRef.unary (.of main_call0_call0_cst : RBuf S_) (.of main_call0_call0_v2 : RBuf S2064x1024) (broadcastInDim S2064x1024 ![] bcast_S_S2064x1024)
  :: TRef.binary (.of main_call0_v0 : RBuf S2064x1024) (.of main_call0_call0_v2 : RBuf S2064x1024) (.of main_call0_call0_v3 : RBuf S2064x1024) subf
  :: TRef.binary (.of main_call0_call0_v3 : RBuf S2064x1024) (.of main_call0_call0_v3 : RBuf S2064x1024) (.of main_call0_call0_v4 : RBuf S2064x1024 .i1) (cmpf .une)
  :: TRef.unary (.of main_call0_call0_cst : RBuf S_) (.of main_call0_call0_v5 : RBuf S2064x1024) (broadcastInDim S2064x1024 ![] bcast_S_S2064x1024)
  :: TRef.binary (.of main_call0_v0 : RBuf S2064x1024) (.of main_call0_call0_v5 : RBuf S2064x1024) (.of main_call0_call0_v6 : RBuf S2064x1024) addf
  :: TRef.unary (.of main_call0_call0_v3 : RBuf S2064x1024) (.of main_call0_call0_v7 : RBuf S2064x1024) Host.absf
  :: TRef.unary (.of main_call0_call0_v7 : RBuf S2064x1024) (.of main_call0_call0_v8 : RBuf S2064x1024) Host.negf
  :: TRef.unary (.of main_call0_call0_v8 : RBuf S2064x1024) (.of main_call0_call0_v9 : RBuf S2064x1024) Host.exp
  :: TRef.unary (.of main_call0_call0_v9 : RBuf S2064x1024) (.of main_call0_call0_v10 : RBuf S2064x1024) Host.log1p
  :: TRef.binary (.of main_call0_call0_v1 : RBuf S2064x1024) (.of main_call0_call0_v10 : RBuf S2064x1024) (.of main_call0_call0_v11 : RBuf S2064x1024) addf
  :: TRef.ternary (.of main_call0_call0_v4 : RBuf S2064x1024 .i1) (.of main_call0_call0_v6 : RBuf S2064x1024) (.of main_call0_call0_v11 : RBuf S2064x1024) (.of main_call0_v1_0 : RBuf S2064x1024) select
  :: TRef.nullary (.of main_call0_call0_cst_0 : RBuf S_) (constant S_ .f32 0x7F800000#32)
  :: TRef.unary (.of main_call0_call0_cst_0 : RBuf S_) (.of main_call0_call0_v13 : RBuf S2064x1024) (broadcastInDim S2064x1024 ![] bcast_S_S2064x1024)
  :: TRef.binary (.of main_call0_v0 : RBuf S2064x1024) (.of main_call0_call0_v13 : RBuf S2064x1024) (.of main_call0_call0_v14 : RBuf S2064x1024 .i1) (cmpf .oeq)
  :: TRef.nullary (.of main_call0_call0_cst_1 : RBuf S_) (constant S_ .f32 0x00000000#32)
  :: TRef.unary (.of main_call0_call0_cst_1 : RBuf S_) (.of main_call0_call0_v15 : RBuf S2064x1024) (broadcastInDim S2064x1024 ![] bcast_S_S2064x1024)
  :: TRef.ternary (.of main_call0_call0_v14 : RBuf S2064x1024 .i1) (.of main_call0_call0_v15 : RBuf S2064x1024) (.of main_call0_v0 : RBuf S2064x1024) (.of main_call0_call0_v16 : RBuf S2064x1024) select
  :: TRef.nullary (.of main_call0_call0_cst_2 : RBuf S_) (constant S_ .f32 0x7F800000#32)
  :: TRef.unary (.of main_call0_call0_cst_2 : RBuf S_) (.of main_call0_call0_v17 : RBuf S2064x1024) (broadcastInDim S2064x1024 ![] bcast_S_S2064x1024)
  :: TRef.binary (.of main_call0_v1_0 : RBuf S2064x1024) (.of main_call0_call0_v17 : RBuf S2064x1024) (.of main_call0_call0_v18 : RBuf S2064x1024 .i1) (cmpf .oeq)
  :: TRef.nullary (.of main_call0_call0_cst_3 : RBuf S_) (constant S_ .f32 0x00000000#32)
  :: TRef.unary (.of main_call0_call0_cst_3 : RBuf S_) (.of main_call0_call0_v19 : RBuf S2064x1024) (broadcastInDim S2064x1024 ![] bcast_S_S2064x1024)
  :: TRef.ternary (.of main_call0_call0_v18 : RBuf S2064x1024 .i1) (.of main_call0_call0_v19 : RBuf S2064x1024) (.of main_call0_v1_0 : RBuf S2064x1024) (.of main_call0_call0_v20 : RBuf S2064x1024) select
  :: TRef.binary (.of main_call0_call0_v16 : RBuf S2064x1024) (.of main_call0_call0_v20 : RBuf S2064x1024) (.of main_call0_call0_v21 : RBuf S2064x1024) subf
  :: TRef.unary (.of main_call0_call0_v21 : RBuf S2064x1024) (.of main_v9_1 : RBuf S2064x1024) Host.exp
  :: TRef.nullary (.of main_call0_call0_cst_4 : RBuf S_) (constant S_ .f32 0x00000000#32)
  :: TRef.nullary (.of main_call0_call0_cst_5 : RBuf S_) (constant S_ .f32 0x7F800000#32)
  :: TRef.binary (.of main_call0_call0_cst_4 : RBuf S_) (.of main_call0_call0_cst_5 : RBuf S_) (.of main_call0_call0_v23 : RBuf S_ .i1) (cmpf .oeq)
  :: TRef.nullary (.of main_call0_call0_cst_6 : RBuf S_) (constant S_ .f32 0x00000000#32)
  :: TRef.nullary (.of main_call0_call0_cst_7 : RBuf S_) (constant S_ .f32 0x00000000#32)
  :: TRef.ternary (.of main_call0_call0_v23 : RBuf S_ .i1) (.of main_call0_call0_cst_7 : RBuf S_) (.of main_call0_call0_cst_6 : RBuf S_) (.of main_call0_call0_v24 : RBuf S_) select
  :: TRef.nullary (.of main_call0_call0_cst_8 : RBuf S_) (constant S_ .f32 0x7F800000#32)
  :: TRef.unary (.of main_call0_call0_cst_8 : RBuf S_) (.of main_call0_call0_v25 : RBuf S2064x1024) (broadcastInDim S2064x1024 ![] bcast_S_S2064x1024)
  :: TRef.binary (.of main_call0_v1_0 : RBuf S2064x1024) (.of main_call0_call0_v25 : RBuf S2064x1024) (.of main_call0_call0_v26 : RBuf S2064x1024 .i1) (cmpf .oeq)
  :: TRef.nullary (.of main_call0_call0_cst_9 : RBuf S_) (constant S_ .f32 0x00000000#32)
  :: TRef.unary (.of main_call0_call0_cst_9 : RBuf S_) (.of main_call0_call0_v27 : RBuf S2064x1024) (broadcastInDim S2064x1024 ![] bcast_S_S2064x1024)
  :: TRef.ternary (.of main_call0_call0_v26 : RBuf S2064x1024 .i1) (.of main_call0_call0_v27 : RBuf S2064x1024) (.of main_call0_v1_0 : RBuf S2064x1024) (.of main_call0_call0_v28 : RBuf S2064x1024) select
  :: TRef.unary (.of main_call0_call0_v24 : RBuf S_) (.of main_call0_call0_v29 : RBuf S2064x1024) (broadcastInDim S2064x1024 ![] bcast_S_S2064x1024)
  :: TRef.binary (.of main_call0_call0_v29 : RBuf S2064x1024) (.of main_call0_call0_v28 : RBuf S2064x1024) (.of main_call0_call0_v30 : RBuf S2064x1024) subf
  :: TRef.unary (.of main_call0_call0_v30 : RBuf S2064x1024) (.of main_call0_call0_v31 : RBuf S2064x1024) Host.exp
  :: TRef.nullary (.of main_call0_call0_cst_10 : RBuf S_) (constant S_ .f32 0x00000000#32)
  :: TRef.unary (.of main_call0_call0_cst_10 : RBuf S_) (.of main_call0_call0_v32 : RBuf S2064x1024) (broadcastInDim S2064x1024 ![] bcast_S_S2064x1024)
  :: TRef.binary (.of main_call0_call0_v32 : RBuf S2064x1024) (.of main_call0_call0_v31 : RBuf S2064x1024) (.of main_v9_2 : RBuf S2064x1024) mulf
  :: TRef.unary main_call0_call0.v12 (.of main_v9_0 : RBuf S2064x1024) Host.negf
  :: [] )
theorem main_part0_ops1_sub : Sub (F := F) main_part0_ops1 :=
  ⟨sU .., sN .., sU .., sB .., sU .., sB .., sB .., sU .., sB .., sU .., sU .., sU .., sU .., sB .., sT .., sN .., sU .., sB .., sN .., sU .., sT .., sN .., sU .., sB .., sN .., sU .., sT .., sB .., sU .., sN .., sN .., sB .., sN .., sN .., sT .., sN .., sU .., sB .., sN .., sU .., sT .., sU .., sB .., sU .., sN .., sU .., sB .., sU ..⟩
abbrev main_part0_ops2 : List (HloOp τ sig (Elt F)) :=
  ( nullary main_cst (constant S_ .f32 0x41800000#32)
  :: unary main_cst main_v10 (broadcastInDim S2064x1024 ![] bcast_S_S2064x1024 : Un F S_ S2064x1024)
  :: binary main_v9_0 main_v10 main_v11 (Host.divf : Bin F S2064x1024)
  :: reshape main_v0 main_v12 (rfl : (.f32 : EltTy) = .f32) shapeCasts_S2064x1024_S2064x4x256
  :: unary main_v12 main_v13 ((transpose S4x2064x256 [1, 0, 2] · transposes_S2064x4x256_S4x2064x256_1_0_2) : Un F S2064x4x256 S4x2064x256)
  :: nullary main_cst_0 (constant S_ .f32 0x3D800000#32)
  :: unary main_cst_0 main_v14 (broadcastInDim S4x2064x256 ![] bcast_S_S4x2064x256 : Un F S_ S4x2064x256)
  :: binary main_v13 main_v14 main_v15 (mulf : Bin F S4x2064x256)
  :: reshape main_v1 main_v16 (rfl : (.f32 : EltTy) = .f32) shapeCasts_S2064x1024_S2064x4x256
  :: unary main_v16 main_v17 ((transpose S4x2064x256 [1, 0, 2] · transposes_S2064x4x256_S4x2064x256_1_0_2) : Un F S2064x4x256 S4x2064x256)
  :: reshape main_v2 main_v18 (rfl : (.f32 : EltTy) = .f32) shapeCasts_S2064x2048_S2064x4x512
  :: unary main_v18 main_v19 ((transpose S4x2064x512 [1, 0, 2] · transposes_S2064x4x512_S4x2064x512_1_0_2) : Un F S2064x4x512 S4x2064x512)
  :: reshape main_v11 main_v20 (rfl : (.f32 : EltTy) = .f32) shapeCasts_S2064x1024_S2064x4x256
  :: unary main_v20 main_v21 ((transpose S4x2064x256 [1, 0, 2] · transposes_S2064x4x256_S4x2064x256_1_0_2) : Un F S2064x4x256 S4x2064x256)
  :: nullary main_cst_1 (constant S_ .f32 0x00000000#32)
  :: unary main_cst_1 main_v22 (broadcastInDim S4x48x256 ![] bcast_S_S4x48x256 : Un F S_ S4x48x256)
  :: binary main_v22 main_v15 main_v23 ((fun a b => concatenate S4x2112x256 1 [⟨S4x48x256, a⟩, ⟨S4x2064x256, b⟩] concatenates_S4x48x256_S4x2064x256_S4x2112x256_d1) : Bin F S4x48x256 S4x2064x256 S4x2112x256)
  :: nullary main_cst_2 (constant S_ .f32 0x00000000#32)
  :: unary main_cst_2 main_v24 (broadcastInDim S4x48x256 ![] bcast_S_S4x48x256 : Un F S_ S4x48x256)
  :: nullary main_cst_3 (constant S_ .f32 0x00000000#32)
  :: unary main_cst_3 main_v25 (broadcastInDim S4x48x256 ![] bcast_S_S4x48x256 : Un F S_ S4x48x256)
  :: binary main_v25 main_v17 main_v26 ((fun a b => concatenate S4x2112x256 1 [⟨S4x48x256, a⟩, ⟨S4x2064x256, b⟩] concatenates_S4x48x256_S4x2064x256_S4x2112x256_d1) : Bin F S4x48x256 S4x2064x256 S4x2112x256)
  :: nullary main_cst_4 (constant S_ .f32 0x00000000#32)
  :: unary main_cst_4 main_v27 (broadcastInDim S4x48x256 ![] bcast_S_S4x48x256 : Un F S_ S4x48x256)
  :: nullary main_cst_5 (constant S_ .f32 0x00000000#32)
  :: unary main_cst_5 main_v28 (broadcastInDim S4x48x512 ![] bcast_S_S4x48x512 : Un F S_ S4x48x512)
  :: binary main_v28 main_v19 main_v29 ((fun a b => concatenate S4x2112x512 1 [⟨S4x48x512, a⟩, ⟨S4x2064x512, b⟩] concatenates_S4x48x512_S4x2064x512_S4x2112x512_d1) : Bin F S4x48x512 S4x2064x512 S4x2112x512)
  :: nullary main_cst_6 (constant S_ .f32 0x00000000#32)
  :: unary main_cst_6 main_v30 (broadcastInDim S4x48x512 ![] bcast_S_S4x48x512 : Un F S_ S4x48x512)
  :: nullary main_cst_7 (constant S_ .f32 0x00000000#32)
  :: unary main_cst_7 main_v31 (broadcastInDim S4x48x256 ![] bcast_S_S4x48x256 : Un F S_ S4x48x256)
  :: binary main_v31 main_v21 main_v32 ((fun a b => concatenate S4x2112x256 1 [⟨S4x48x256, a⟩, ⟨S4x2064x256, b⟩] concatenates_S4x48x256_S4x2064x256_S4x2112x256_d1) : Bin F S4x48x256 S4x2064x256 S4x2112x256)
  :: nullary main_cst_8 (constant S_ .f32 0x00000000#32)
  :: unary main_cst_8 main_v33 (broadcastInDim S4x48x256 ![] bcast_S_S4x48x256 : Un F S_ S4x48x256)
  :: nullary main_c (constantI S_ 1 1#1)
  :: unary main_c main_v34 (broadcastInDim S64x64 ![] bcast_S_S64x64 : Arr F S_ .i1 → Arr F S64x64 .i1)
  :: [] )
theorem main_part0_ops2_sub : Sub (F := F) main_part0_ops2 :=
  ⟨sN .., sU .., sB .., sR .., sU .., sN .., sU .., sB .., sR .., sU .., sR .., sU .., sR .., sU .., sN .., sU .., sB .., sN .., sU .., sN .., sU .., sB .., sN .., sU .., sN .., sU .., sB .., sN .., sU .., sN .., sU .., sB .., sN .., sU .., sN .., sU ..⟩
abbrev main_part0_ops3 : List (HloOp τ sig (Elt F)) :=
  [ TRef.nullary (.of main_call1_v0 : RBuf S64x64 .i32) (iotaInDim S64x64 32 0),
    TRef.nullary (.of main_call1_c : RBuf S_ .i32) (constantI S_ 32 0#32),
    TRef.unary (.of main_call1_c : RBuf S_ .i32) (.of main_call1_v1 : RBuf S64x64 .i32) (broadcastInDim S64x64 ![] bcast_S_S64x64),
    TRef.binary (.of main_call1_v0 : RBuf S64x64 .i32) (.of main_call1_v1 : RBuf S64x64 .i32) (.of main_call1_v2 : RBuf S64x64 .i32) addi,
    TRef.nullary (.of main_call1_v3 : RBuf S64x64 .i32) (iotaInDim S64x64 32 1),
    TRef.binary (.of main_call1_v2 : RBuf S64x64 .i32) (.of main_call1_v3 : RBuf S64x64 .i32) (.of main_call1_v4 : RBuf S64x64 .i1) (cmpi .sge),
    TRef.nullary (.of main_call1_c_0 : RBuf S_ .i1) (constantI S_ 1 0#1),
    TRef.unary (.of main_call1_c_0 : RBuf S_ .i1) (.of main_call1_v5 : RBuf S64x64 .i1) (broadcastInDim S64x64 ![] bcast_S_S64x64),
    TRef.ternary (.of main_call1_v4 : RBuf S64x64 .i1) (.of main_v34 : RBuf S64x64 .i1) (.of main_call1_v5 : RBuf S64x64 .i1) (.of main_v35 : RBuf S64x64 .i1) select ]
theorem main_part0_ops3_sub : Sub (F := F) main_part0_ops3 :=
  ⟨sN .., sN .., sU .., sB .., sN .., sB .., sN .., sU .., sT ..⟩
abbrev main_part0_ops4 : List (HloOp τ sig (Elt F)) :=
  [ nullary main_cst_9 (constant S_ .f32 0x00000000#32),
    unary main_cst_9 main_v36 (broadcastInDim S4x256x512 ![] bcast_S_S4x256x512 : Un F S_ S4x256x512),
    reshape main_v23 main_v37 (rfl : (.f32 : EltTy) = .f32) shapeCasts_S4x2112x256_S4x33x64x256,
    unary main_v37 main_v38 ((transpose S33x4x64x256 [1, 0, 2, 3] · transposes_S4x33x64x256_S33x4x64x256_1_0_2_3) : Un F S4x33x64x256 S33x4x64x256),
    reshape main_v26 main_v39 (rfl : (.f32 : EltTy) = .f32) shapeCasts_S4x2112x256_S4x33x64x256,
    unary main_v39 main_v40 ((transpose S33x4x64x256 [1, 0, 2, 3] · transposes_S4x33x64x256_S33x4x64x256_1_0_2_3) : Un F S4x33x64x256 S33x4x64x256),
    reshape main_v29 main_v41 (rfl : (.f32 : EltTy) = .f32) shapeCasts_S4x2112x512_S4x33x64x512,
    unary main_v41 main_v42 ((transpose S33x4x64x512 [1, 0, 2, 3] · transposes_S4x33x64x512_S33x4x64x512_1_0_2_3) : Un F S4x33x64x512 S33x4x64x512),
    reshape main_v32 main_v43 (rfl : (.f32 : EltTy) = .f32) shapeCasts_S4x2112x256_S4x33x64x256,
    unary main_v43 main_v44 ((transpose S33x4x64x256 [1, 0, 2, 3] · transposes_S4x33x64x256_S33x4x64x256_1_0_2_3) : Un F S4x33x64x256 S33x4x64x256) ]
theorem main_part0_ops4_sub : Sub (F := F) main_part0_ops4 :=
  ⟨sN .., sU .., sR .., sU .., sR .., sU .., sR .., sU .., sR .., sU ..⟩
abbrev main_part0_ops5 : List (HloOp τ sig (Elt F)) :=
  [ unary main_v35 main_v45 (broadcastInDim S64x64x1 ![0, 1] bcast_S64x64_S64x64x1_0_1 : Arr F S64x64 .i1 → Arr F S64x64x1 .i1),
    nullary main_cst_10 (constant S_ .f32 0xFF800000#32) ]
theorem main_part0_ops5_sub : Sub (F := F) main_part0_ops5 :=
  ⟨sU .., sN ..⟩
theorem main_part0_chain (c : Dev nD) : main_part0 (F := F) c = (Pipeline.chainK
  [ seq main_part0_ops0,
    seq main_part0_ops1,
    seq main_part0_ops2,
    seq main_part0_ops3,
    seq main_part0_ops4 ]
  (seq main_part0_ops5) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons]
  chain_rfl

abbrev main_part1_ops0 : List (HloOp τ sig (Elt F)) :=
  [ TRef.unary (.of main_cst_10 : RBuf S_) (.of main_call3_v0 : RBuf S_) id,
    TRef.unary (.of main_v45 : RBuf S64x64x1 .i1) (.of main_v46_0 : RBuf S4x64x64x256 .i1) (broadcastInDim S4x64x64x256 ![1, 2, 3] bcast_S64x64x1_S4x64x64x256_1_2_3),
    TRef.unary (.of main_call3_v0 : RBuf S_) (.of main_v46_1 : RBuf S4x64x64x256) (broadcastInDim S4x64x64x256 ![] bcast_S_S4x64x64x256) ]
theorem main_part1_ops0_sub : Sub (F := F) main_part1_ops0 :=
  ⟨sU .., sU .., sU ..⟩
abbrev main_part1_ops1 : List (HloOp τ sig (Elt F)) :=
  [ nullary main_cst_11 (constant S_ .f32 0x00000000#32),
    unary main_cst_11 main_v47 (broadcastInDim S33x4x64x512 ![] bcast_S_S33x4x64x512 : Un F S_ S33x4x64x512),
    nullary main_cst_12 (constant S_ .f32 0x00000000#32),
    unary main_cst_12 main_v48 (broadcastInDim S33x4x256x512 ![] bcast_S_S33x4x256x512 : Un F S_ S33x4x256x512),
    nullary main_c_13 (constantI S_ 32 0#32),
    unary main_v38 main_v49_0 id,
    unary main_v40 main_v49_1 id,
    unary main_v42 main_v49_2 id,
    unary main_v44 main_v49_3 id,
    unary main_v46_0 main_v49_4 id,
    unary main_v46_1 main_v49_5 id,
    unary main_c_13 main_v49_6 id,
    unary main_v36 main_v49_7 id,
    unary main_v47 main_v49_8 id,
    unary main_v48 main_v49_9 id ]
theorem main_part1_ops1_sub : Sub (F := F) main_part1_ops1 :=
  ⟨sN .., sU .., sN .., sU .., sN .., sU .., sU .., sU .., sU .., sU .., sU .., sU .., sU .., sU .., sU ..⟩
abbrev main_part1_ops2 : List (HloOp τ sig (Elt F)) :=
  ( unary main_v49_8 main_v50 ((transpose S4x33x64x512 [1, 0, 2, 3] · transposes_S33x4x64x512_S4x33x64x512_1_0_2_3) : Un F S33x4x64x512 S4x33x64x512)
  :: reshape main_v50 main_v51 (rfl : (.f32 : EltTy) = .f32) shapeCasts_S4x33x64x512_S4x2112x512
  :: unary main_v51 main_v52 ((extractStridedSlice S4x2064x512 ![0, 48, 0] · slices_S4x2112x512_S4x2064x512_0_48_0) : Un F S4x2112x512 S4x2064x512)
  :: unary main_v52 main_v53 ((transpose S2064x4x512 [1, 0, 2] · transposes_S4x2064x512_S2064x4x512_1_0_2) : Un F S4x2064x512 S2064x4x512)
  :: reshape main_v53 main_v54 (rfl : (.f32 : EltTy) = .f32) shapeCasts_S2064x4x512_S2064x2048
  :: nullary main_cst_14 (constant S_ .f32 0x00000000#32)
  :: unary main_cst_14 main_v55 (broadcastInDim S4x256x512 ![] bcast_S_S4x256x512 : Un F S_ S4x256x512)
  :: reshape main_arg3 main_v56 (rfl : (.f32 : EltTy) = .f32) shapeCasts_S2064x2048_S2064x4x512
  :: unary main_v56 main_v57 ((transpose S4x2064x512 [1, 0, 2] · transposes_S2064x4x512_S4x2064x512_1_0_2) : Un F S2064x4x512 S4x2064x512)
  :: nullary main_cst_15 (constant S_ .f32 0x00000000#32)
  :: binary main_v57 main_cst_15 main_v58 ((fun x v => pad S4x2112x512 ![0, 48, 0] ![0, 0, 0] ![0, 0, 0] x v pads_S4x2064x512_S4x2112x512_000_4800_000 h_S_) : Bin F S4x2064x512 S_ S4x2112x512)
  :: reshape main_v58 main_v59 (rfl : (.f32 : EltTy) = .f32) shapeCasts_S4x2112x512_S4x33x64x512
  :: unary main_v59 main_v60 ((transpose S33x4x64x512 [1, 0, 2, 3] · transposes_S4x33x64x512_S33x4x64x512_1_0_2_3) : Un F S4x33x64x512 S33x4x64x512)
  :: nullary main_cst_16 (constant S_ .f32 0x00000000#32)
  :: unary main_cst_16 main_v61 (broadcastInDim S4x256x512 ![] bcast_S_S4x256x512 : Un F S_ S4x256x512)
  :: nullary main_cst_17 (constant S_ .f32 0x00000000#32)
  :: unary main_cst_17 main_v62 (broadcastInDim S33x4x64x256 ![] bcast_S_S33x4x64x256 : Un F S_ S33x4x64x256)
  :: nullary main_cst_18 (constant S_ .f32 0x00000000#32)
  :: unary main_cst_18 main_v63 (broadcastInDim S33x4x64x256 ![] bcast_S_S33x4x64x256 : Un F S_ S33x4x64x256)
  :: nullary main_cst_19 (constant S_ .f32 0x00000000#32)
  :: unary main_cst_19 main_v64 (broadcastInDim S33x4x64x512 ![] bcast_S_S33x4x64x512 : Un F S_ S33x4x64x512)
  :: nullary main_cst_20 (constant S_ .f32 0x00000000#32)
  :: unary main_cst_20 main_v65 (broadcastInDim S33x4x64x256 ![] bcast_S_S33x4x64x256 : Un F S_ S33x4x64x256)
  :: nullary main_c_21 (constantI S_ 32 0#32)
  :: unary main_v60 main_v66_0 id
  :: unary main_v49_9 main_v66_1 id
  :: unary main_v38 main_v66_2 id
  :: unary main_v40 main_v66_3 id
  :: unary main_v42 main_v66_4 id
  :: unary main_v44 main_v66_5 id
  :: unary main_v35 main_v66_6 id
  :: unary main_c_21 main_v66_7 id
  :: unary main_v61 main_v66_8 id
  :: unary main_v62 main_v66_9 id
  :: unary main_v63 main_v66_10 id
  :: unary main_v64 main_v66_11 id
  :: unary main_v65 main_v66_12 id
  :: [] )
theorem main_part1_ops2_sub : Sub (F := F) main_part1_ops2 :=
  ⟨sU .., sR .., sU .., sU .., sR .., sN .., sU .., sR .., sU .., sN .., sB .., sR .., sU .., sN .., sU .., sN .., sU .., sN .., sU .., sN .., sU .., sN .., sU .., sN .., sU .., sU .., sU .., sU .., sU .., sU .., sU .., sU .., sU .., sU .., sU .., sU .., sU ..⟩
abbrev main_part1_ops3 : List (HloOp τ sig (Elt F)) :=
  [ unary main_v66_12 main_v67 ((transpose S4x33x64x256 [1, 0, 2, 3] · transposes_S33x4x64x256_S4x33x64x256_1_0_2_3) : Un F S33x4x64x256 S4x33x64x256),
    reshape main_v67 main_v68 (rfl : (.f32 : EltTy) = .f32) shapeCasts_S4x33x64x256_S4x2112x256,
    unary main_v66_11 main_v69 ((transpose S4x33x64x512 [1, 0, 2, 3] · transposes_S33x4x64x512_S4x33x64x512_1_0_2_3) : Un F S33x4x64x512 S4x33x64x512),
    reshape main_v69 main_v70 (rfl : (.f32 : EltTy) = .f32) shapeCasts_S4x33x64x512_S4x2112x512,
    unary main_v66_10 main_v71 ((transpose S4x33x64x256 [1, 0, 2, 3] · transposes_S33x4x64x256_S4x33x64x256_1_0_2_3) : Un F S33x4x64x256 S4x33x64x256) ]
theorem main_part1_ops3_sub : Sub (F := F) main_part1_ops3 :=
  ⟨sU .., sR .., sU .., sR .., sU ..⟩
theorem main_part1_chain (c : Dev nD) : main_part1 (F := F) c = (Pipeline.chainK
  [ seq main_part1_ops0,
    seq main_part1_ops1,
    HostLoop.enter 0,
    seq main_part1_ops2,
    HostLoop.enter 1 ]
  (seq main_part1_ops3) : Prog (TpuEff nD τ sig (Elt F) (HostLoop.Sig (Pipeline.Sig Λ₀ (Fin 0) fun p => (pcfgs (F := F) p).Adm) 2) .tc) PUnit) := by
  rewrite [Pipeline.chainK_cons, StableHlo.chainK_seq_cons, Pipeline.chainK_cons, StableHlo.chainK_seq_cons, Pipeline.chainK_cons]
  chain_rfl

abbrev main_part2_ops0 : List (HloOp τ sig (Elt F)) :=
  [ reshape main_v71 main_v72 (rfl : (.f32 : EltTy) = .f32) shapeCasts_S4x33x64x256_S4x2112x256,
    unary main_v66_9 main_v73 ((transpose S4x33x64x256 [1, 0, 2, 3] · transposes_S33x4x64x256_S4x33x64x256_1_0_2_3) : Un F S33x4x64x256 S4x33x64x256),
    reshape main_v73 main_v74 (rfl : (.f32 : EltTy) = .f32) shapeCasts_S4x33x64x256_S4x2112x256,
    unary main_v68 main_v75 ((extractStridedSlice S4x48x256 ![0, 0, 0] · slices_S4x2112x256_S4x48x256_0_0_0) : Un F S4x2112x256 S4x48x256),
    unary main_v68 main_v76 ((extractStridedSlice S4x2064x256 ![0, 48, 0] · slices_S4x2112x256_S4x2064x256_0_48_0) : Un F S4x2112x256 S4x2064x256),
    unary main_v70 main_v77 ((extractStridedSlice S4x48x512 ![0, 0, 0] · slices_S4x2112x512_S4x48x512_0_0_0) : Un F S4x2112x512 S4x48x512),
    unary main_v70 main_v78 ((extractStridedSlice S4x2064x512 ![0, 48, 0] · slices_S4x2112x512_S4x2064x512_0_48_0) : Un F S4x2112x512 S4x2064x512),
    unary main_v72 main_v79 ((extractStridedSlice S4x48x256 ![0, 0, 0] · slices_S4x2112x256_S4x48x256_0_0_0) : Un F S4x2112x256 S4x48x256),
    unary main_v72 main_v80 ((extractStridedSlice S4x2064x256 ![0, 48, 0] · slices_S4x2112x256_S4x2064x256_0_48_0) : Un F S4x2112x256 S4x2064x256),
    unary main_v74 main_v81 ((extractStridedSlice S4x48x256 ![0, 0, 0] · slices_S4x2112x256_S4x48x256_0_0_0) : Un F S4x2112x256 S4x48x256),
    unary main_v74 main_v82 ((extractStridedSlice S4x2064x256 ![0, 48, 0] · slices_S4x2112x256_S4x2064x256_0_48_0) : Un F S4x2112x256 S4x2064x256),
    unary main_v76 main_v83 ((transpose S2064x4x256 [1, 0, 2] · transposes_S4x2064x256_S2064x4x256_1_0_2) : Un F S4x2064x256 S2064x4x256),
    reshape main_v83 main_v84 (rfl : (.f32 : EltTy) = .f32) shapeCasts_S2064x4x256_S2064x1024,
    unary main_v78 main_v85 ((transpose S2064x4x512 [1, 0, 2] · transposes_S4x2064x512_S2064x4x512_1_0_2) : Un F S4x2064x512 S2064x4x512),
    reshape main_v85 main_v86 (rfl : (.f32 : EltTy) = .f32) shapeCasts_S2064x4x512_S2064x2048,
    unary main_v80 main_v87 ((transpose S2064x4x256 [1, 0, 2] · transposes_S4x2064x256_S2064x4x256_1_0_2) : Un F S4x2064x256 S2064x4x256),
    reshape main_v87 main_v88 (rfl : (.f32 : EltTy) = .f32) shapeCasts_S2064x4x256_S2064x1024,
    nullary main_cst_22 (constant S_ .f32 0x3D800000#32),
    unary main_cst_22 main_v89 (broadcastInDim S4x2064x256 ![] bcast_S_S4x2064x256 : Un F S_ S4x2064x256),
    binary main_v82 main_v89 main_v90 (mulf : Bin F S4x2064x256),
    unary main_v90 main_v91 ((transpose S2064x4x256 [1, 0, 2] · transposes_S4x2064x256_S2064x4x256_1_0_2) : Un F S4x2064x256 S2064x4x256),
    reshape main_v91 main_v92 (rfl : (.f32 : EltTy) = .f32) shapeCasts_S2064x4x256_S2064x1024,
    nullary main_cst_23 (constant S_ .f32 0x41800000#32),
    unary main_cst_23 main_v93 (broadcastInDim S2064x1024 ![] bcast_S_S2064x1024 : Un F S_ S2064x1024),
    binary main_v84 main_v93 main_v94 (Host.divf : Bin F S2064x1024) ]
theorem main_part2_ops0_sub : Sub (F := F) main_part2_ops0 :=
  ⟨sR .., sU .., sR .., sU .., sU .., sU .., sU .., sU .., sU .., sU .., sU .., sU .., sR .., sU .., sR .., sU .., sR .., sN .., sU .., sB .., sU .., sR .., sN .., sU .., sB ..⟩
abbrev main_part2_ops1 : List (HloOp τ sig (Elt F)) :=
  [ TRef.unary (.of main_v94 : RBuf S2064x1024) (.of main_call26_v0 : RBuf S2064x1024) Host.negf,
    TRef.binary (.of main_call26_v0 : RBuf S2064x1024) (.of main_v9_1 : RBuf S2064x1024) (.of main_call26_v1 : RBuf S2064x1024) mulf,
    TRef.unary main_call26_call0.v0 (.of main_v95 : RBuf S2064x1024) Host.negf ]
theorem main_part2_ops1_sub : Sub (F := F) main_part2_ops1 :=
  ⟨sU .., sB .., sU ..⟩
abbrev main_part2_ops2 : List (HloOp τ sig (Elt F)) :=
  [ nullary main_cst_24 (constant S_ .f32 0x00000000#32),
    binary main_v95 main_cst_24 main_v96 ((fun x v => Host.reduceAdd x v reducesTo_S2064x1024_S1024_d0 h_S_) : Bin F S2064x1024 S_ S1024),
    reshape main_v96 main_v97 (rfl : (.f32 : EltTy) = .f32) shapeCasts_S1024_S1x1024,
    nullary main_cst_25 (constant S_ .f32 0x00000000#32),
    binary main_v97 main_cst_25 main_v98 ((fun x v => Host.reduceAdd x v reducesTo_S1x1024_S1024_d0 h_S_) : Bin F S1x1024 S_ S1024),
    binary main_v95 main_v3 main_v99 ((fun l r => Host.dotGeneral dot_S2064x1024_S2064x16_S1024x16_0_0_1_1_n_n none l r) : Bin F S2064x1024 S2064x16 S1024x16),
    unary main_v99 main_v100 ((transpose S16x1024 [1, 0] · transposes_S1024x16_S16x1024_1_0) : Un F S1024x16 S16x1024),
    binary main_v95 main_arg1 main_v101 ((fun l r => Host.dotGeneral dot_S2064x1024_S16x1024_S2064x16_1_1_0_0_n_n none l r) : Bin F S2064x1024 S16x1024 S2064x16),
    nary ![main_v92, main_v88, main_v86, main_v101, main_arg4] main_v102 (fun u => (concatenate S2064x6160 1 [⟨S2064x1024, (u 0 : Arr F S2064x1024)⟩, ⟨S2064x1024, (u 1 : Arr F S2064x1024)⟩, ⟨S2064x2048, (u 2 : Arr F S2064x2048)⟩, ⟨S2064x16, (u 3 : Arr F S2064x16)⟩, ⟨S2064x2048, (u 4 : Arr F S2064x2048)⟩] concatenates_S2064x1024_S2064x1024_S2064x2048_S2064x16_S2064x2048_S2064x6160_d1 : Arr F S2064x6160)),
    unary main_v102 main_v103 ((extractStridedSlice S2064x4096 ![0, 0] · slices_S2064x6160_S2064x4096_0_0) : Un F S2064x6160 S2064x4096),
    unary main_v102 main_v104 ((extractStridedSlice S2064x16 ![0, 4096] · slices_S2064x6160_S2064x16_0_4096) : Un F S2064x6160 S2064x16),
    unary main_v102 main_v105 ((extractStridedSlice S2064x2048 ![0, 4112] · slices_S2064x6160_S2064x2048_0_4112) : Un F S2064x6160 S2064x2048),
    nullary main_cst_26 (constant S_ .f32 0x00000000#32),
    unary main_cst_26 main_v106 (broadcastInDim S2064x112 ![] bcast_S_S2064x112 : Un F S_ S2064x112),
    nary ![main_v103, main_v105, main_v104, main_v106] main_v107 (fun u => (concatenate S2064x6272 1 [⟨S2064x4096, (u 0 : Arr F S2064x4096)⟩, ⟨S2064x2048, (u 1 : Arr F S2064x2048)⟩, ⟨S2064x16, (u 2 : Arr F S2064x16)⟩, ⟨S2064x112, (u 3 : Arr F S2064x112)⟩] concatenates_S2064x4096_S2064x2048_S2064x16_S2064x112_S2064x6272_d1 : Arr F S2064x6272)),
    nullary main_cst_27 (constant S_ .f32 0x00000000#32),
    unary main_cst_27 main_v108 (broadcastInDim S48x6272 ![] bcast_S_S48x6272 : Un F S_ S48x6272),
    binary main_v108 main_v107 main_v109 ((fun a b => concatenate S2112x6272 0 [⟨S48x6272, a⟩, ⟨S2064x6272, b⟩] concatenates_S48x6272_S2064x6272_S2112x6272_d0) : Bin F S48x6272 S2064x6272 S2112x6272),
    nullary main_cst_28 (constant S_ .f32 0x00000000#32),
    unary main_cst_28 main_v110 (broadcastInDim S48x2048 ![] bcast_S_S48x2048 : Un F S_ S48x2048),
    binary main_v110 main_v54 main_v111 ((fun a b => concatenate S2112x2048 0 [⟨S48x2048, a⟩, ⟨S2064x2048, b⟩] concatenates_S48x2048_S2064x2048_S2112x2048_d0) : Bin F S48x2048 S2064x2048 S2112x2048),
    reshape main_v100 main_v112 (rfl : (.f32 : EltTy) = .f32) shapeCasts_S16x1024_S16x4x256,
    unary main_v112 main_v113 ((transpose S4x16x256 [1, 0, 2] · transposes_S16x4x256_S4x16x256_1_0_2) : Un F S16x4x256 S4x16x256),
    nullary main_cst_29 (constant S_ .f32 0x00000000#32),
    unary main_cst_29 main_v114 (broadcastInDim S4x112x256 ![] bcast_S_S4x112x256 : Un F S_ S4x112x256),
    binary main_v113 main_v114 main_v115 ((fun a b => concatenate S4x128x256 1 [⟨S4x16x256, a⟩, ⟨S4x112x256, b⟩] concatenates_S4x16x256_S4x112x256_S4x128x256_d1) : Bin F S4x16x256 S4x112x256 S4x128x256),
    unary main_v109 main_v116 ((truncf .bf16 · bitsLt_bf16_f32) : Arr F S2112x6272 → Arr F S2112x6272 .bf16),
    reshape main_v98 main_v117 (rfl : (.f32 : EltTy) = .f32) shapeCasts_S1024_S4x1x256 ]
theorem main_part2_ops2_sub : Sub (F := F) main_part2_ops2 :=
  ⟨sN .., sB .., sR .., sN .., sB .., sB .., sU .., sB .., sM .., sU .., sU .., sU .., sN .., sU .., sM .., sN .., sU .., sB .., sN .., sU .., sB .., sR .., sU .., sN .., sU .., sB .., sU .., sR ..⟩
theorem main_part2_chain (c : Dev nD) : main_part2 (F := F) c = (Pipeline.chain
  [ seq main_part2_ops0,
    seq main_part2_ops1,
    seq main_part2_ops2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain_windows (c : Dev nD) : main (F := F) c = (Pipeline.chain
  [ seq main_part0_ops0,
    seq main_part0_ops1,
    seq main_part0_ops2,
    seq main_part0_ops3,
    seq main_part0_ops4,
    seq main_part0_ops5,
    seq main_part1_ops0,
    seq main_part1_ops1,
    HostLoop.enter 0,
    seq main_part1_ops2,
    HostLoop.enter 1,
    seq main_part1_ops3,
    seq main_part2_ops0,
    seq main_part2_ops1,
    seq main_part2_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

end Cert.GlaReferenceIdeal.Run
-- ==== Proof.Gla.RefBody0.lean ====
module

public import proofs.«01_k».proof.Proof.Gla.RefTypes
public import Idealize.ShloMosaic.Lib.StableHlo.RunLoop
public import Idealize.ShloMosaic.Lib.StableHlo.RunRead

@[expose] public section

set_option maxRecDepth 16384

noncomputable section

namespace Cert.GlaReferenceIdeal.Run

open Idealize.ShloMosaic Idealize.ShloMosaic.TcCoe Idealize.SL.Sem
open Cert.GlaReferenceIdeal Cert.GlaReferenceIdeal.Gen
open Idealize.ShloMosaic.StableHlo (unary binary nullary reshape seq tcRefs TRef)
open Idealize.ShloMosaic.StableHlo renaming binaryIndexed_bufs_sub → sBi, binary_bufs_sub → sB, nullary_bufs_sub → sN, reshape_bufs_sub → sR, ternary_bufs_sub → sT, unaryIndexed_bufs_sub → sUi, unary_bufs_sub → sU

variable {F : FTy → Type} [FloatOps F]

/-! One trip of the forward scan: its operations in order, and the body as the chain of these stretches. -/

abbrev while0Ops0 : List (HloOp τ sig (Elt F)) :=
  [ TRef.nullary (.of main_while0b_call4_c : RBuf S_ .i32) (constantI S_ 32 0#32),
    TRef.nullary (.of main_while0b_call4_c_0 : RBuf S_ .i32) (constantI S_ 32 0#32),
    TRef.nullary (.of main_while0b_call4_c_1 : RBuf S_ .i32) (constantI S_ 32 0#32),
    TRef.unaryIndexed (.of main_v49_0 : RBuf S33x4x64x256) ![(.of main_v49_6 : RBuf S_ .i32), (.of main_while0b_call4_c : RBuf S_ .i32), (.of main_while0b_call4_c_0 : RBuf S_ .i32), (.of main_while0b_call4_c_1 : RBuf S_ .i32)] (.of main_while0b_call4_v0 : RBuf S1x4x64x256) (fun x i => Host.dynamicSlice S1x4x64x256 x (fun k => (i k (Shape.Idx.first h_S_)).toInt) sliceFits_S33x4x64x256_S1x4x64x256),
    TRef.reshape (.of main_while0b_call4_v0 : RBuf S1x4x64x256) (.of main_while0b_v118 : RBuf S4x64x256) (rfl : (.f32 : EltTy) = .f32) shapeCasts_S1x4x64x256_S4x64x256 ]
theorem while0Ops0_sub : Sub (F := F) while0Ops0 :=
  ⟨sN .., sN .., sN .., sUi .., sR ..⟩
abbrev while0Ops0_1 : List (HloOp τ sig (Elt F)) :=
  [ TRef.nullary (.of main_while0b_call5_c : RBuf S_ .i32) (constantI S_ 32 0#32),
    TRef.nullary (.of main_while0b_call5_c_0 : RBuf S_ .i32) (constantI S_ 32 0#32),
    TRef.nullary (.of main_while0b_call5_c_1 : RBuf S_ .i32) (constantI S_ 32 0#32),
    TRef.unaryIndexed (.of main_v49_1 : RBuf S33x4x64x256) ![(.of main_v49_6 : RBuf S_ .i32), (.of main_while0b_call5_c : RBuf S_ .i32), (.of main_while0b_call5_c_0 : RBuf S_ .i32), (.of main_while0b_call5_c_1 : RBuf S_ .i32)] (.of main_while0b_call5_v0 : RBuf S1x4x64x256) (fun x i => Host.dynamicSlice S1x4x64x256 x (fun k => (i k (Shape.Idx.first h_S_)).toInt) sliceFits_S33x4x64x256_S1x4x64x256),
    TRef.reshape (.of main_while0b_call5_v0 : RBuf S1x4x64x256) (.of main_while0b_v119 : RBuf S4x64x256) (rfl : (.f32 : EltTy) = .f32) shapeCasts_S1x4x64x256_S4x64x256 ]
theorem while0Ops0_1_sub : Sub (F := F) while0Ops0_1 :=
  ⟨sN .., sN .., sN .., sUi .., sR ..⟩
abbrev while0Ops0_2 : List (HloOp τ sig (Elt F)) :=
  [ TRef.nullary (.of main_while0b_call6_c : RBuf S_ .i32) (constantI S_ 32 0#32),
    TRef.nullary (.of main_while0b_call6_c_0 : RBuf S_ .i32) (constantI S_ 32 0#32),
    TRef.nullary (.of main_while0b_call6_c_1 : RBuf S_ .i32) (constantI S_ 32 0#32),
    TRef.unaryIndexed (.of main_v49_2 : RBuf S33x4x64x512) ![(.of main_v49_6 : RBuf S_ .i32), (.of main_while0b_call6_c : RBuf S_ .i32), (.of main_while0b_call6_c_0 : RBuf S_ .i32), (.of main_while0b_call6_c_1 : RBuf S_ .i32)] (.of main_while0b_call6_v0 : RBuf S1x4x64x512) (fun x i => Host.dynamicSlice S1x4x64x512 x (fun k => (i k (Shape.Idx.first h_S_)).toInt) sliceFits_S33x4x64x512_S1x4x64x512),
    TRef.reshape (.of main_while0b_call6_v0 : RBuf S1x4x64x512) (.of main_while0b_v120 : RBuf S4x64x512) (rfl : (.f32 : EltTy) = .f32) shapeCasts_S1x4x64x512_S4x64x512 ]
theorem while0Ops0_2_sub : Sub (F := F) while0Ops0_2 :=
  ⟨sN .., sN .., sN .., sUi .., sR ..⟩
abbrev while0Ops0_3 : List (HloOp τ sig (Elt F)) :=
  [ TRef.nullary (.of main_while0b_call7_c : RBuf S_ .i32) (constantI S_ 32 0#32),
    TRef.nullary (.of main_while0b_call7_c_0 : RBuf S_ .i32) (constantI S_ 32 0#32),
    TRef.nullary (.of main_while0b_call7_c_1 : RBuf S_ .i32) (constantI S_ 32 0#32),
    TRef.unaryIndexed (.of main_v49_3 : RBuf S33x4x64x256) ![(.of main_v49_6 : RBuf S_ .i32), (.of main_while0b_call7_c : RBuf S_ .i32), (.of main_while0b_call7_c_0 : RBuf S_ .i32), (.of main_while0b_call7_c_1 : RBuf S_ .i32)] (.of main_while0b_call7_v0 : RBuf S1x4x64x256) (fun x i => Host.dynamicSlice S1x4x64x256 x (fun k => (i k (Shape.Idx.first h_S_)).toInt) sliceFits_S33x4x64x256_S1x4x64x256),
    TRef.reshape (.of main_while0b_call7_v0 : RBuf S1x4x64x256) (.of main_while0b_v121 : RBuf S4x64x256) (rfl : (.f32 : EltTy) = .f32) shapeCasts_S1x4x64x256_S4x64x256 ]
theorem while0Ops0_3_sub : Sub (F := F) while0Ops0_3 :=
  ⟨sN .., sN .., sN .., sUi .., sR ..⟩
abbrev while0Ops0_4 : List (HloOp τ sig (Elt F)) :=
  [ TRef.nullary (.of main_while0b_call8_call0_cst : RBuf S_) (constant S_ .f32 0x00000000#32),
    TRef.unary (.of main_while0b_call8_call0_cst : RBuf S_) (.of main_while0b_call8_call0_v0 : RBuf S_) (broadcastInDim S_ ![] bcast_S_S_),
    TRef.binary (.of main_while0b_v121 : RBuf S4x64x256) (.of main_while0b_call8_call0_v0 : RBuf S_) (.of main_while0b_v122 : RBuf S4x64x256) (fun x v => Host.reduceWindowAdd ![1, 64, 1] ![1, 1, 1] ![0, 63, 0] ![0, 0, 0] x v reduceWindows_S4x64x256_S4x64x256_w1s1p0_0_w64s1p63_0_w1s1p0_0 h_S_) ]
theorem while0Ops0_4_sub : Sub (F := F) while0Ops0_4 :=
  ⟨sN .., sU .., sB ..⟩
abbrev while0Ops0_5 : List (HloOp τ sig (Elt F)) :=
  [ unary main_while0b_v122 main_while0b_v123 ((extractStridedSlice S4x1x256 ![0, 63, 0] · slices_S4x64x256_S4x1x256_0_63_0) : Un F S4x64x256 S4x1x256),
    unary main_while0b_v122 main_while0b_v124 (Host.exp : Un F S4x64x256 S4x64x256),
    binary main_while0b_v118 main_while0b_v124 main_while0b_v125 (mulf : Bin F S4x64x256),
    binary main_while0b_v125 main_v49_7 main_while0b_v126 ((fun l r => Host.dotGeneral dot_S4x64x256_S4x256x512_S4x64x512_2_1_1_2_0_0 none l r) : Bin F S4x64x256 S4x256x512 S4x64x512),
    unary main_while0b_v122 main_while0b_v127 (broadcastInDim S4x64x1x256 ![0, 1, 3] bcast_S4x64x256_S4x64x1x256_0_1_3 : Un F S4x64x256 S4x64x1x256),
    unary main_while0b_v122 main_while0b_v128 (broadcastInDim S4x1x64x256 ![0, 2, 3] bcast_S4x64x256_S4x1x64x256_0_2_3 : Un F S4x64x256 S4x1x64x256),
    unary main_while0b_v127 main_while0b_v129 (broadcastInDim S4x64x64x256 ![0, 1, 2, 3] bcast_S4x64x1x256_S4x64x64x256_0_1_2_3 : Un F S4x64x1x256 S4x64x64x256),
    unary main_while0b_v128 main_while0b_v130 (broadcastInDim S4x64x64x256 ![0, 1, 2, 3] bcast_S4x1x64x256_S4x64x64x256_0_1_2_3 : Un F S4x1x64x256 S4x64x64x256),
    binary main_while0b_v129 main_while0b_v130 main_while0b_v131 (subf : Bin F S4x64x64x256) ]
theorem while0Ops0_5_sub : Sub (F := F) while0Ops0_5 :=
  ⟨sU .., sU .., sB .., sB .., sU .., sU .., sU .., sU .., sB ..⟩
abbrev while0Ops0_6 : List (HloOp τ sig (Elt F)) :=
  [ TRef.ternary (.of main_v49_4 : RBuf S4x64x64x256 .i1) (.of main_while0b_v131 : RBuf S4x64x64x256) (.of main_v49_5 : RBuf S4x64x64x256) (.of main_while0b_v132 : RBuf S4x64x64x256) select ]
theorem while0Ops0_6_sub : Sub (F := F) while0Ops0_6 :=
  sT ..
abbrev while0Ops0_7 : List (HloOp τ sig (Elt F)) :=
  [ unary main_while0b_v132 main_while0b_v133 (Host.exp : Un F S4x64x64x256 S4x64x64x256),
    unary main_while0b_v118 main_while0b_v134 (broadcastInDim S4x64x1x256 ![0, 1, 3] bcast_S4x64x256_S4x64x1x256_0_1_3 : Un F S4x64x256 S4x64x1x256),
    unary main_while0b_v134 main_while0b_v135 (broadcastInDim S4x64x64x256 ![0, 1, 2, 3] bcast_S4x64x1x256_S4x64x64x256_0_1_2_3 : Un F S4x64x1x256 S4x64x64x256),
    binary main_while0b_v135 main_while0b_v133 main_while0b_v136 (mulf : Bin F S4x64x64x256),
    unary main_while0b_v119 main_while0b_v137 (broadcastInDim S4x1x64x256 ![0, 2, 3] bcast_S4x64x256_S4x1x64x256_0_2_3 : Un F S4x64x256 S4x1x64x256),
    unary main_while0b_v137 main_while0b_v138 (broadcastInDim S4x64x64x256 ![0, 1, 2, 3] bcast_S4x1x64x256_S4x64x64x256_0_1_2_3 : Un F S4x1x64x256 S4x64x64x256),
    binary main_while0b_v136 main_while0b_v138 main_while0b_v139 (mulf : Bin F S4x64x64x256),
    nullary main_while0b_cst_39 (constant S_ .f32 0x00000000#32),
    binary main_while0b_v139 main_while0b_cst_39 main_while0b_v140 ((fun x v => Host.reduceAdd x v reducesTo_S4x64x64x256_S4x64x64_d3 h_S_) : Bin F S4x64x64x256 S_ S4x64x64),
    binary main_while0b_v140 main_while0b_v120 main_while0b_v141 ((fun l r => Host.dotGeneral dot_S4x64x64_S4x64x512_S4x64x512_2_1_1_2_0_0 none l r) : Bin F S4x64x64 S4x64x512 S4x64x512),
    binary main_while0b_v126 main_while0b_v141 main_while0b_v142 (addf : Bin F S4x64x512),
    reshape main_while0b_v123 main_while0b_v143 (rfl : (.f32 : EltTy) = .f32) shapeCasts_S4x1x256_S4x256,
    unary main_while0b_v143 main_while0b_v144 (Host.exp : Un F S4x256 S4x256),
    unary main_while0b_v144 main_while0b_v145 (broadcastInDim S4x256x1 ![0, 1] bcast_S4x256_S4x256x1_0_1 : Un F S4x256 S4x256x1),
    unary main_while0b_v145 main_while0b_v146 (broadcastInDim S4x256x512 ![0, 1, 2] bcast_S4x256x1_S4x256x512_0_1_2 : Un F S4x256x1 S4x256x512),
    binary main_while0b_v146 main_v49_7 main_while0b_v147 (mulf : Bin F S4x256x512),
    unary main_while0b_v123 main_while0b_v148 (broadcastInDim S4x64x256 ![0, 1, 2] bcast_S4x1x256_S4x64x256_0_1_2 : Un F S4x1x256 S4x64x256),
    binary main_while0b_v148 main_while0b_v122 main_while0b_v149 (subf : Bin F S4x64x256),
    unary main_while0b_v149 main_while0b_v150 (Host.exp : Un F S4x64x256 S4x64x256),
    binary main_while0b_v119 main_while0b_v150 main_while0b_v151 (mulf : Bin F S4x64x256),
    binary main_while0b_v151 main_while0b_v120 main_while0b_v152 ((fun l r => Host.dotGeneral dot_S4x64x256_S4x64x512_S4x256x512_1_1_2_2_0_0 none l r) : Bin F S4x64x256 S4x64x512 S4x256x512),
    binary main_while0b_v147 main_while0b_v152 main_while0b_v153 (addf : Bin F S4x256x512) ]
theorem while0Ops0_7_sub : Sub (F := F) while0Ops0_7 :=
  ⟨sU .., sU .., sU .., sB .., sU .., sU .., sB .., sN .., sB .., sB .., sB .., sR .., sU .., sU .., sU .., sB .., sU .., sB .., sU .., sB .., sB .., sB ..⟩
abbrev while0Ops0_8 : List (HloOp τ sig (Elt F)) :=
  [ TRef.unary (.of main_while0b_v142 : RBuf S4x64x512) (.of main_while0b_call10_v0 : RBuf S1x4x64x512) (broadcastInDim S1x4x64x512 ![1, 2, 3] bcast_S4x64x512_S1x4x64x512_1_2_3),
    TRef.nullary (.of main_while0b_call10_c : RBuf S_ .i32) (constantI S_ 32 0#32),
    TRef.nullary (.of main_while0b_call10_c_0 : RBuf S_ .i32) (constantI S_ 32 0#32),
    TRef.nullary (.of main_while0b_call10_c_1 : RBuf S_ .i32) (constantI S_ 32 0#32),
    TRef.binaryIndexed (.of main_v49_8 : RBuf S33x4x64x512) (.of main_while0b_call10_v0 : RBuf S1x4x64x512) ![(.of main_v49_6 : RBuf S_ .i32), (.of main_while0b_call10_c : RBuf S_ .i32), (.of main_while0b_call10_c_0 : RBuf S_ .i32), (.of main_while0b_call10_c_1 : RBuf S_ .i32)] (.of main_while0b_v154 : RBuf S33x4x64x512) (fun x u i => Host.dynamicUpdateSlice x u (fun k => (i k (Shape.Idx.first h_S_)).toInt) updateFits_S33x4x64x512_S1x4x64x512) ]
theorem while0Ops0_8_sub : Sub (F := F) while0Ops0_8 :=
  ⟨sU .., sN .., sN .., sN .., sBi ..⟩
abbrev while0Ops0_9 : List (HloOp τ sig (Elt F)) :=
  [ TRef.unary (.of main_v49_7 : RBuf S4x256x512) (.of main_while0b_call11_v0 : RBuf S1x4x256x512) (broadcastInDim S1x4x256x512 ![1, 2, 3] bcast_S4x256x512_S1x4x256x512_1_2_3),
    TRef.nullary (.of main_while0b_call11_c : RBuf S_ .i32) (constantI S_ 32 0#32),
    TRef.nullary (.of main_while0b_call11_c_0 : RBuf S_ .i32) (constantI S_ 32 0#32),
    TRef.nullary (.of main_while0b_call11_c_1 : RBuf S_ .i32) (constantI S_ 32 0#32),
    TRef.binaryIndexed (.of main_v49_9 : RBuf S33x4x256x512) (.of main_while0b_call11_v0 : RBuf S1x4x256x512) ![(.of main_v49_6 : RBuf S_ .i32), (.of main_while0b_call11_c : RBuf S_ .i32), (.of main_while0b_call11_c_0 : RBuf S_ .i32), (.of main_while0b_call11_c_1 : RBuf S_ .i32)] (.of main_while0b_v155 : RBuf S33x4x256x512) (fun x u i => Host.dynamicUpdateSlice x u (fun k => (i k (Shape.Idx.first h_S_)).toInt) updateFits_S33x4x256x512_S1x4x256x512) ]
theorem while0Ops0_9_sub : Sub (F := F) while0Ops0_9 :=
  ⟨sU .., sN .., sN .., sN .., sBi ..⟩
abbrev while0Ops0_10 : List (HloOp τ sig (Elt F)) :=
  [ nullary main_while0b_c_40 (constantI S_ 32 1#32),
    binary main_v49_6 main_while0b_c_40 main_while0b_v156 (addi : Arr F S_ .i32 → Arr F S_ .i32 → Arr F S_ .i32),
    unary main_while0b_v156 main_v49_6 id,
    unary main_while0b_v153 main_v49_7 id,
    unary main_while0b_v154 main_v49_8 id,
    unary main_while0b_v155 main_v49_9 id ]
theorem while0Ops0_10_sub : Sub (F := F) while0Ops0_10 :=
  ⟨sN .., sB .., sU .., sU .., sU .., sU ..⟩
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, StableHlo.chain_seq_cons, Pipeline.chain_cons, StableHlo.chain_seq_cons, Pipeline.chain_cons, Pipeline.chain_cons, StableHlo.chain_seq_cons]
  chain_rfl

end Cert.GlaReferenceIdeal.Run
-- ==== Proof.Gla.RefBody1.lean ====
module

public import proofs.«01_k».proof.Proof.Gla.RefTypes
public import Idealize.ShloMosaic.Lib.StableHlo.RunLoop
public import Idealize.ShloMosaic.Lib.StableHlo.RunRead

@[expose] public section

set_option maxRecDepth 16384

noncomputable section

namespace Cert.GlaReferenceIdeal.Run

open Idealize.ShloMosaic Idealize.ShloMosaic.TcCoe Idealize.SL.Sem
open Cert.GlaReferenceIdeal Cert.GlaReferenceIdeal.Gen
open Idealize.ShloMosaic.StableHlo (unary binary nullary reshape seq tcRefs TRef)
open Idealize.ShloMosaic.StableHlo renaming binaryIndexed_bufs_sub → sBi, binary_bufs_sub → sB, nullary_bufs_sub → sN, reshape_bufs_sub → sR, ternary_bufs_sub → sT, unaryIndexed_bufs_sub → sUi, unary_bufs_sub → sU

variable {F : FTy → Type} [FloatOps F]

/-! One trip of the backward scan: its operations in order, and the body as the chain of these stretches. -/

abbrev while1Ops0 : List (HloOp τ sig (Elt F)) :=
  [ nullary main_while1b_c_42 (constantI S_ 32 33#32),
    binary main_while1b_c_42 main_v66_7 main_while1b_v118 (subi : Arr F S_ .i32 → Arr F S_ .i32 → Arr F S_ .i32),
    nullary main_while1b_c_43 (constantI S_ 32 1#32),
    binary main_while1b_v118 main_while1b_c_43 main_while1b_v119 (subi : Arr F S_ .i32 → Arr F S_ .i32 → Arr F S_ .i32) ]
theorem while1Ops0_sub : Sub (F := F) while1Ops0 :=
  ⟨sN .., sB .., sN .., sB ..⟩
abbrev while1Ops0_1 : List (HloOp τ sig (Elt F)) :=
  [ TRef.nullary (.of main_while1b_call12_c : RBuf S_ .i32) (constantI S_ 32 0#32),
    TRef.nullary (.of main_while1b_call12_c_0 : RBuf S_ .i32) (constantI S_ 32 0#32),
    TRef.nullary (.of main_while1b_call12_c_1 : RBuf S_ .i32) (constantI S_ 32 0#32),
    TRef.unaryIndexed (.of main_v66_0 : RBuf S33x4x64x512) ![(.of main_while1b_v119 : RBuf S_ .i32), (.of main_while1b_call12_c : RBuf S_ .i32), (.of main_while1b_call12_c_0 : RBuf S_ .i32), (.of main_while1b_call12_c_1 : RBuf S_ .i32)] (.of main_while1b_call12_v0 : RBuf S1x4x64x512) (fun x i => Host.dynamicSlice S1x4x64x512 x (fun k => (i k (Shape.Idx.first h_S_)).toInt) sliceFits_S33x4x64x512_S1x4x64x512),
    TRef.reshape (.of main_while1b_call12_v0 : RBuf S1x4x64x512) (.of main_while1b_v120 : RBuf S4x64x512) (rfl : (.f32 : EltTy) = .f32) shapeCasts_S1x4x64x512_S4x64x512 ]
theorem while1Ops0_1_sub : Sub (F := F) while1Ops0_1 :=
  ⟨sN .., sN .., sN .., sUi .., sR ..⟩
abbrev while1Ops0_2 : List (HloOp τ sig (Elt F)) :=
  [ TRef.nullary (.of main_while1b_call13_c : RBuf S_ .i32) (constantI S_ 32 0#32),
    TRef.nullary (.of main_while1b_call13_c_0 : RBuf S_ .i32) (constantI S_ 32 0#32),
    TRef.nullary (.of main_while1b_call13_c_1 : RBuf S_ .i32) (constantI S_ 32 0#32),
    TRef.unaryIndexed (.of main_v66_1 : RBuf S33x4x256x512) ![(.of main_while1b_v119 : RBuf S_ .i32), (.of main_while1b_call13_c : RBuf S_ .i32), (.of main_while1b_call13_c_0 : RBuf S_ .i32), (.of main_while1b_call13_c_1 : RBuf S_ .i32)] (.of main_while1b_call13_v0 : RBuf S1x4x256x512) (fun x i => Host.dynamicSlice S1x4x256x512 x (fun k => (i k (Shape.Idx.first h_S_)).toInt) sliceFits_S33x4x256x512_S1x4x256x512),
    TRef.reshape (.of main_while1b_call13_v0 : RBuf S1x4x256x512) (.of main_while1b_v121 : RBuf S4x256x512) (rfl : (.f32 : EltTy) = .f32) shapeCasts_S1x4x256x512_S4x256x512 ]
theorem while1Ops0_2_sub : Sub (F := F) while1Ops0_2 :=
  ⟨sN .., sN .., sN .., sUi .., sR ..⟩
abbrev while1Ops0_3 : List (HloOp τ sig (Elt F)) :=
  [ TRef.nullary (.of main_while1b_call14_c : RBuf S_ .i32) (constantI S_ 32 0#32),
    TRef.nullary (.of main_while1b_call14_c_0 : RBuf S_ .i32) (constantI S_ 32 0#32),
    TRef.nullary (.of main_while1b_call14_c_1 : RBuf S_ .i32) (constantI S_ 32 0#32),
    TRef.unaryIndexed (.of main_v66_2 : RBuf S33x4x64x256) ![(.of main_while1b_v119 : RBuf S_ .i32), (.of main_while1b_call14_c : RBuf S_ .i32), (.of main_while1b_call14_c_0 : RBuf S_ .i32), (.of main_while1b_call14_c_1 : RBuf S_ .i32)] (.of main_while1b_call14_v0 : RBuf S1x4x64x256) (fun x i => Host.dynamicSlice S1x4x64x256 x (fun k => (i k (Shape.Idx.first h_S_)).toInt) sliceFits_S33x4x64x256_S1x4x64x256),
    TRef.reshape (.of main_while1b_call14_v0 : RBuf S1x4x64x256) (.of main_while1b_v122 : RBuf S4x64x256) (rfl : (.f32 : EltTy) = .f32) shapeCasts_S1x4x64x256_S4x64x256 ]
theorem while1Ops0_3_sub : Sub (F := F) while1Ops0_3 :=
  ⟨sN .., sN .., sN .., sUi .., sR ..⟩
abbrev while1Ops0_4 : List (HloOp τ sig (Elt F)) :=
  [ TRef.nullary (.of main_while1b_call15_c : RBuf S_ .i32) (constantI S_ 32 0#32),
    TRef.nullary (.of main_while1b_call15_c_0 : RBuf S_ .i32) (constantI S_ 32 0#32),
    TRef.nullary (.of main_while1b_call15_c_1 : RBuf S_ .i32) (constantI S_ 32 0#32),
    TRef.unaryIndexed (.of main_v66_3 : RBuf S33x4x64x256) ![(.of main_while1b_v119 : RBuf S_ .i32), (.of main_while1b_call15_c : RBuf S_ .i32), (.of main_while1b_call15_c_0 : RBuf S_ .i32), (.of main_while1b_call15_c_1 : RBuf S_ .i32)] (.of main_while1b_call15_v0 : RBuf S1x4x64x256) (fun x i => Host.dynamicSlice S1x4x64x256 x (fun k => (i k (Shape.Idx.first h_S_)).toInt) sliceFits_S33x4x64x256_S1x4x64x256),
    TRef.reshape (.of main_while1b_call15_v0 : RBuf S1x4x64x256) (.of main_while1b_v123 : RBuf S4x64x256) (rfl : (.f32 : EltTy) = .f32) shapeCasts_S1x4x64x256_S4x64x256 ]
theorem while1Ops0_4_sub : Sub (F := F) while1Ops0_4 :=
  ⟨sN .., sN .., sN .., sUi .., sR ..⟩
abbrev while1Ops0_5 : List (HloOp τ sig (Elt F)) :=
  [ TRef.nullary (.of main_while1b_call16_c : RBuf S_ .i32) (constantI S_ 32 0#32),
    TRef.nullary (.of main_while1b_call16_c_0 : RBuf S_ .i32) (constantI S_ 32 0#32),
    TRef.nullary (.of main_while1b_call16_c_1 : RBuf S_ .i32) (constantI S_ 32 0#32),
    TRef.unaryIndexed (.of main_v66_4 : RBuf S33x4x64x512) ![(.of main_while1b_v119 : RBuf S_ .i32), (.of main_while1b_call16_c : RBuf S_ .i32), (.of main_while1b_call16_c_0 : RBuf S_ .i32), (.of main_while1b_call16_c_1 : RBuf S_ .i32)] (.of main_while1b_call16_v0 : RBuf S1x4x64x512) (fun x i => Host.dynamicSlice S1x4x64x512 x (fun k => (i k (Shape.Idx.first h_S_)).toInt) sliceFits_S33x4x64x512_S1x4x64x512),
    TRef.reshape (.of main_while1b_call16_v0 : RBuf S1x4x64x512) (.of main_while1b_v124 : RBuf S4x64x512) (rfl : (.f32 : EltTy) = .f32) shapeCasts_S1x4x64x512_S4x64x512 ]
theorem while1Ops0_5_sub : Sub (F := F) while1Ops0_5 :=
  ⟨sN .., sN .., sN .., sUi .., sR ..⟩
abbrev while1Ops0_6 : List (HloOp τ sig (Elt F)) :=
  [ TRef.nullary (.of main_while1b_call17_c : RBuf S_ .i32) (constantI S_ 32 0#32),
    TRef.nullary (.of main_while1b_call17_c_0 : RBuf S_ .i32) (constantI S_ 32 0#32),
    TRef.nullary (.of main_while1b_call17_c_1 : RBuf S_ .i32) (constantI S_ 32 0#32),
    TRef.unaryIndexed (.of main_v66_5 : RBuf S33x4x64x256) ![(.of main_while1b_v119 : RBuf S_ .i32), (.of main_while1b_call17_c : RBuf S_ .i32), (.of main_while1b_call17_c_0 : RBuf S_ .i32), (.of main_while1b_call17_c_1 : RBuf S_ .i32)] (.of main_while1b_call17_v0 : RBuf S1x4x64x256) (fun x i => Host.dynamicSlice S1x4x64x256 x (fun k => (i k (Shape.Idx.first h_S_)).toInt) sliceFits_S33x4x64x256_S1x4x64x256),
    TRef.reshape (.of main_while1b_call17_v0 : RBuf S1x4x64x256) (.of main_while1b_v125 : RBuf S4x64x256) (rfl : (.f32 : EltTy) = .f32) shapeCasts_S1x4x64x256_S4x64x256 ]
theorem while1Ops0_6_sub : Sub (F := F) while1Ops0_6 :=
  ⟨sN .., sN .., sN .., sUi .., sR ..⟩
abbrev while1Ops0_7 : List (HloOp τ sig (Elt F)) :=
  [ TRef.nullary (.of main_while1b_call18_call0_cst : RBuf S_) (constant S_ .f32 0x00000000#32),
    TRef.unary (.of main_while1b_call18_call0_cst : RBuf S_) (.of main_while1b_call18_call0_v0 : RBuf S_) (broadcastInDim S_ ![] bcast_S_S_),
    TRef.binary (.of main_while1b_v125 : RBuf S4x64x256) (.of main_while1b_call18_call0_v0 : RBuf S_) (.of main_while1b_v126 : RBuf S4x64x256) (fun x v => Host.reduceWindowAdd ![1, 64, 1] ![1, 1, 1] ![0, 63, 0] ![0, 0, 0] x v reduceWindows_S4x64x256_S4x64x256_w1s1p0_0_w64s1p63_0_w1s1p0_0 h_S_) ]
theorem while1Ops0_7_sub : Sub (F := F) while1Ops0_7 :=
  ⟨sN .., sU .., sB ..⟩
abbrev while1Ops0_8 : List (HloOp τ sig (Elt F)) :=
  [ unary main_while1b_v126 main_while1b_v127 ((extractStridedSlice S4x1x256 ![0, 63, 0] · slices_S4x64x256_S4x1x256_0_63_0) : Un F S4x64x256 S4x1x256),
    unary main_while1b_v126 main_while1b_v128 (Host.exp : Un F S4x64x256 S4x64x256),
    binary main_while1b_v122 main_while1b_v128 main_while1b_v129 (mulf : Bin F S4x64x256),
    unary main_while1b_v126 main_while1b_v130 (broadcastInDim S4x64x1x256 ![0, 1, 3] bcast_S4x64x256_S4x64x1x256_0_1_3 : Un F S4x64x256 S4x64x1x256),
    unary main_while1b_v126 main_while1b_v131 (broadcastInDim S4x1x64x256 ![0, 2, 3] bcast_S4x64x256_S4x1x64x256_0_2_3 : Un F S4x64x256 S4x1x64x256),
    unary main_while1b_v130 main_while1b_v132 (broadcastInDim S4x64x64x256 ![0, 1, 2, 3] bcast_S4x64x1x256_S4x64x64x256_0_1_2_3 : Un F S4x64x1x256 S4x64x64x256),
    unary main_while1b_v131 main_while1b_v133 (broadcastInDim S4x64x64x256 ![0, 1, 2, 3] bcast_S4x1x64x256_S4x64x64x256_0_1_2_3 : Un F S4x1x64x256 S4x64x64x256),
    binary main_while1b_v132 main_while1b_v133 main_while1b_v134 (subf : Bin F S4x64x64x256),
    unary main_v66_6 main_while1b_v135 (broadcastInDim S64x64x1 ![0, 1] bcast_S64x64_S64x64x1_0_1 : Arr F S64x64 .i1 → Arr F S64x64x1 .i1),
    nullary main_while1b_cst_44 (constant S_ .f32 0xFF800000#32) ]
theorem while1Ops0_8_sub : Sub (F := F) while1Ops0_8 :=
  ⟨sU .., sU .., sB .., sU .., sU .., sU .., sU .., sB .., sU .., sN ..⟩
abbrev while1Ops0_9 : List (HloOp τ sig (Elt F)) :=
  [ TRef.unary (.of main_while1b_cst_44 : RBuf S_) (.of main_while1b_call19_v0 : RBuf S_) id,
    TRef.unary (.of main_while1b_v135 : RBuf S64x64x1 .i1) (.of main_while1b_v136_1 : RBuf S4x64x64x256 .i1) (broadcastInDim S4x64x64x256 ![1, 2, 3] bcast_S64x64x1_S4x64x64x256_1_2_3),
    TRef.unary (.of main_while1b_call19_v0 : RBuf S_) (.of main_while1b_call19_v2 : RBuf S4x64x64x256) (broadcastInDim S4x64x64x256 ![] bcast_S_S4x64x64x256),
    TRef.ternary (.of main_while1b_v136_1 : RBuf S4x64x64x256 .i1) (.of main_while1b_v134 : RBuf S4x64x64x256) (.of main_while1b_call19_v2 : RBuf S4x64x64x256) (.of main_while1b_v136_0 : RBuf S4x64x64x256) select,
    TRef.nullary (.of main_while1b_call19_cst : RBuf S_) (constant S_ .f32 0x00000000#32),
    TRef.unary (.of main_while1b_call19_cst : RBuf S_) (.of main_while1b_v136_2 : RBuf S4x64x64x256) (broadcastInDim S4x64x64x256 ![] bcast_S_S4x64x64x256) ]
theorem while1Ops0_9_sub : Sub (F := F) while1Ops0_9 :=
  ⟨sU .., sU .., sU .., sT .., sN .., sU ..⟩
abbrev while1Ops0_10 : List (HloOp τ sig (Elt F)) :=
  ( unary main_while1b_v136_0 main_while1b_v137 (Host.exp : Un F S4x64x64x256 S4x64x64x256)
  :: unary main_while1b_v122 main_while1b_v138 (broadcastInDim S4x64x1x256 ![0, 1, 3] bcast_S4x64x256_S4x64x1x256_0_1_3 : Un F S4x64x256 S4x64x1x256)
  :: unary main_while1b_v138 main_while1b_v139 (broadcastInDim S4x64x64x256 ![0, 1, 2, 3] bcast_S4x64x1x256_S4x64x64x256_0_1_2_3 : Un F S4x64x1x256 S4x64x64x256)
  :: binary main_while1b_v139 main_while1b_v137 main_while1b_v140 (mulf : Bin F S4x64x64x256)
  :: unary main_while1b_v123 main_while1b_v141 (broadcastInDim S4x1x64x256 ![0, 2, 3] bcast_S4x64x256_S4x1x64x256_0_2_3 : Un F S4x64x256 S4x1x64x256)
  :: unary main_while1b_v141 main_while1b_v142 (broadcastInDim S4x64x64x256 ![0, 1, 2, 3] bcast_S4x1x64x256_S4x64x64x256_0_1_2_3 : Un F S4x1x64x256 S4x64x64x256)
  :: binary main_while1b_v140 main_while1b_v142 main_while1b_v143 (mulf : Bin F S4x64x64x256)
  :: nullary main_while1b_cst_45 (constant S_ .f32 0x00000000#32)
  :: binary main_while1b_v143 main_while1b_cst_45 main_while1b_v144 ((fun x v => Host.reduceAdd x v reducesTo_S4x64x64x256_S4x64x64_d3 h_S_) : Bin F S4x64x64x256 S_ S4x64x64)
  :: reshape main_while1b_v127 main_while1b_v145 (rfl : (.f32 : EltTy) = .f32) shapeCasts_S4x1x256_S4x256
  :: unary main_while1b_v145 main_while1b_v146 (Host.exp : Un F S4x256 S4x256)
  :: unary main_while1b_v146 main_while1b_v147 (broadcastInDim S4x256x1 ![0, 1] bcast_S4x256_S4x256x1_0_1 : Un F S4x256 S4x256x1)
  :: unary main_while1b_v127 main_while1b_v148 (broadcastInDim S4x64x256 ![0, 1, 2] bcast_S4x1x256_S4x64x256_0_1_2 : Un F S4x1x256 S4x64x256)
  :: binary main_while1b_v148 main_while1b_v126 main_while1b_v149 (subf : Bin F S4x64x256)
  :: unary main_while1b_v149 main_while1b_v150 (Host.exp : Un F S4x64x256 S4x64x256)
  :: binary main_while1b_v123 main_while1b_v150 main_while1b_v151 (mulf : Bin F S4x64x256)
  :: binary main_v66_8 main_while1b_v151 main_while1b_v152 ((fun l r => Host.dotGeneral dot_S4x256x512_S4x64x256_S4x512x64_1_2_2_1_0_0 none l r) : Bin F S4x256x512 S4x64x256 S4x512x64)
  :: unary main_while1b_v152 main_while1b_v153 ((transpose S4x64x512 [0, 2, 1] · transposes_S4x512x64_S4x64x512_0_2_1) : Un F S4x512x64 S4x64x512)
  :: binary main_v66_8 main_while1b_v124 main_while1b_v154 ((fun l r => Host.dotGeneral dot_S4x256x512_S4x64x512_S4x256x64_2_2_1_1_0_0 none l r) : Bin F S4x256x512 S4x64x512 S4x256x64)
  :: unary main_while1b_v154 main_while1b_v155 ((transpose S4x64x256 [0, 2, 1] · transposes_S4x256x64_S4x64x256_0_2_1) : Un F S4x256x64 S4x64x256)
  :: binary main_while1b_v123 main_while1b_v155 main_while1b_v156 (mulf : Bin F S4x64x256)
  :: binary main_while1b_v155 main_while1b_v150 main_while1b_v157 (mulf : Bin F S4x64x256)
  :: binary main_while1b_v156 main_while1b_v150 main_while1b_v158 (mulf : Bin F S4x64x256)
  :: nullary main_while1b_cst_46 (constant S_ .f32 0x00000000#32)
  :: binary main_while1b_v158 main_while1b_cst_46 main_while1b_v159 ((fun x v => Host.reduceAdd x v reducesTo_S4x64x256_S4x256_d1 h_S_) : Bin F S4x64x256 S_ S4x256)
  :: reshape main_while1b_v159 main_while1b_v160 (rfl : (.f32 : EltTy) = .f32) shapeCasts_S4x256_S4x1x256
  :: unary main_while1b_v158 main_while1b_v161 (Host.negf : Un F S4x64x256 S4x64x256)
  :: unary main_while1b_v147 main_while1b_v162 (broadcastInDim S4x256x512 ![0, 1, 2] bcast_S4x256x1_S4x256x512_0_1_2 : Un F S4x256x1 S4x256x512)
  :: binary main_while1b_v162 main_v66_8 main_while1b_v163 (mulf : Bin F S4x256x512)
  :: binary main_v66_8 main_while1b_v121 main_while1b_v164 (mulf : Bin F S4x256x512)
  :: nullary main_while1b_cst_47 (constant S_ .f32 0x00000000#32)
  :: binary main_while1b_v164 main_while1b_cst_47 main_while1b_v165 ((fun x v => Host.reduceAdd x v reducesTo_S4x256x512_S4x256_d2 h_S_) : Bin F S4x256x512 S_ S4x256)
  :: reshape main_while1b_v165 main_while1b_v166 (rfl : (.f32 : EltTy) = .f32) shapeCasts_S4x256_S4x256x1
  :: nullary main_while1b_cst_48 (constant S_ .f32 0x00000000#32)
  :: binary main_while1b_v166 main_while1b_cst_48 main_while1b_v167 ((fun x v => Host.reduceAdd x v reducesTo_S4x256x1_S4x256_d2 h_S_) : Bin F S4x256x1 S_ S4x256)
  :: binary main_while1b_v167 main_while1b_v146 main_while1b_v168 (mulf : Bin F S4x256)
  :: unary main_while1b_v168 main_while1b_v169 (broadcastInDim S4x1x256 ![0, 2] bcast_S4x256_S4x1x256_0_2 : Un F S4x256 S4x1x256)
  :: binary main_while1b_v160 main_while1b_v169 main_while1b_v170 (addf : Bin F S4x1x256)
  :: binary main_while1b_v120 main_while1b_v144 main_while1b_v171 ((fun l r => Host.dotGeneral dot_S4x64x512_S4x64x64_S4x512x64_1_1_2_2_0_0 none l r) : Bin F S4x64x512 S4x64x64 S4x512x64)
  :: unary main_while1b_v171 main_while1b_v172 ((transpose S4x64x512 [0, 2, 1] · transposes_S4x512x64_S4x64x512_0_2_1) : Un F S4x512x64 S4x64x512)
  :: binary main_while1b_v153 main_while1b_v172 main_while1b_v173 (addf : Bin F S4x64x512)
  :: binary main_while1b_v120 main_while1b_v124 main_while1b_v174 ((fun l r => Host.dotGeneral dot_S4x64x512_S4x64x512_S4x64x64_2_2_1_1_0_0 none l r) : Bin F S4x64x512 S4x64x512 S4x64x64)
  :: unary main_while1b_v174 main_while1b_v175 (broadcastInDim S4x64x64x256 ![0, 1, 2] bcast_S4x64x64_S4x64x64x256_0_1_2 : Un F S4x64x64 S4x64x64x256)
  :: binary main_while1b_v140 main_while1b_v175 main_while1b_v176 (mulf : Bin F S4x64x64x256)
  :: nullary main_while1b_cst_49 (constant S_ .f32 0x00000000#32)
  :: binary main_while1b_v176 main_while1b_cst_49 main_while1b_v177 ((fun x v => Host.reduceAdd x v reducesTo_S4x64x64x256_S4x64x256_d1 h_S_) : Bin F S4x64x64x256 S_ S4x64x256)
  :: reshape main_while1b_v177 main_while1b_v178 (rfl : (.f32 : EltTy) = .f32) shapeCasts_S4x64x256_S4x1x64x256
  :: unary main_while1b_v141 main_while1b_v179 (broadcastInDim S4x64x64x256 ![0, 1, 2, 3] bcast_S4x1x64x256_S4x64x64x256_0_1_2_3 : Un F S4x1x64x256 S4x64x64x256)
  :: binary main_while1b_v175 main_while1b_v179 main_while1b_v180 (mulf : Bin F S4x64x64x256)
  :: nullary main_while1b_cst_50 (constant S_ .f32 0x00000000#32)
  :: binary main_while1b_v178 main_while1b_cst_50 main_while1b_v181 ((fun x v => Host.reduceAdd x v reducesTo_S4x1x64x256_S4x64x256_d1 h_S_) : Bin F S4x1x64x256 S_ S4x64x256)
  :: binary main_while1b_v157 main_while1b_v181 main_while1b_v182 (addf : Bin F S4x64x256)
  :: unary main_while1b_v138 main_while1b_v183 (broadcastInDim S4x64x64x256 ![0, 1, 2, 3] bcast_S4x64x1x256_S4x64x64x256_0_1_2_3 : Un F S4x64x1x256 S4x64x64x256)
  :: binary main_while1b_v183 main_while1b_v180 main_while1b_v184 (mulf : Bin F S4x64x64x256)
  :: binary main_while1b_v180 main_while1b_v137 main_while1b_v185 (mulf : Bin F S4x64x64x256)
  :: nullary main_while1b_cst_51 (constant S_ .f32 0x00000000#32)
  :: binary main_while1b_v185 main_while1b_cst_51 main_while1b_v186 ((fun x v => Host.reduceAdd x v reducesTo_S4x64x64x256_S4x64x256_d2 h_S_) : Bin F S4x64x64x256 S_ S4x64x256)
  :: reshape main_while1b_v186 main_while1b_v187 (rfl : (.f32 : EltTy) = .f32) shapeCasts_S4x64x256_S4x64x1x256
  :: nullary main_while1b_cst_52 (constant S_ .f32 0x00000000#32)
  :: binary main_while1b_v187 main_while1b_cst_52 main_while1b_v188 ((fun x v => Host.reduceAdd x v reducesTo_S4x64x1x256_S4x64x256_d2 h_S_) : Bin F S4x64x1x256 S_ S4x64x256)
  :: binary main_while1b_v184 main_while1b_v137 main_while1b_v189 (mulf : Bin F S4x64x64x256)
  :: [] )
theorem while1Ops0_10_sub : Sub (F := F) while1Ops0_10 :=
  ⟨sU .., sU .., sU .., sB .., sU .., sU .., sB .., sN .., sB .., sR .., sU .., sU .., sU .., sB .., sU .., sB .., sB .., sU .., sB .., sU .., sB .., sB .., sB .., sN .., sB .., sR .., sU .., sU .., sB .., sB .., sN .., sB .., sR .., sN .., sB .., sB .., sU .., sB .., sB .., sU .., sB .., sB .., sU .., sB .., sN .., sB .., sR .., sU .., sB .., sN .., sB .., sB .., sU .., sB .., sB .., sN .., sB .., sR .., sN .., sB .., sB ..⟩
abbrev while1Ops0_11 : List (HloOp τ sig (Elt F)) :=
  [ TRef.nullary (.of main_while1b_call20_cst : RBuf S_) (constant S_ .f32 0x00000000#32),
    TRef.unary (.of main_while1b_call20_cst : RBuf S_) (.of main_while1b_call20_v0 : RBuf S4x64x64x256) (broadcastInDim S4x64x64x256 ![] bcast_S_S4x64x64x256),
    TRef.ternary (.of main_while1b_v136_1 : RBuf S4x64x64x256 .i1) (.of main_while1b_v189 : RBuf S4x64x64x256) (.of main_while1b_call20_v0 : RBuf S4x64x64x256) (.of main_while1b_v190 : RBuf S4x64x64x256) select ]
theorem while1Ops0_11_sub : Sub (F := F) while1Ops0_11 :=
  ⟨sN .., sU .., sT ..⟩
abbrev while1Ops0_12 : List (HloOp τ sig (Elt F)) :=
  [ nullary main_while1b_cst_53 (constant S_ .f32 0x00000000#32),
    binary main_while1b_v190 main_while1b_cst_53 main_while1b_v191 ((fun x v => Host.reduceAdd x v reducesTo_S4x64x64x256_S4x64x256_d2 h_S_) : Bin F S4x64x64x256 S_ S4x64x256),
    reshape main_while1b_v191 main_while1b_v192 (rfl : (.f32 : EltTy) = .f32) shapeCasts_S4x64x256_S4x64x1x256,
    unary main_while1b_v190 main_while1b_v193 (Host.negf : Un F S4x64x64x256 S4x64x64x256),
    nullary main_while1b_cst_54 (constant S_ .f32 0x00000000#32),
    binary main_while1b_v193 main_while1b_cst_54 main_while1b_v194 ((fun x v => Host.reduceAdd x v reducesTo_S4x64x64x256_S4x64x256_d1 h_S_) : Bin F S4x64x64x256 S_ S4x64x256),
    reshape main_while1b_v194 main_while1b_v195 (rfl : (.f32 : EltTy) = .f32) shapeCasts_S4x64x256_S4x1x64x256,
    nullary main_while1b_cst_55 (constant S_ .f32 0x00000000#32),
    binary main_while1b_v195 main_while1b_cst_55 main_while1b_v196 ((fun x v => Host.reduceAdd x v reducesTo_S4x1x64x256_S4x64x256_d1 h_S_) : Bin F S4x1x64x256 S_ S4x64x256),
    binary main_while1b_v161 main_while1b_v196 main_while1b_v197 (addf : Bin F S4x64x256),
    nullary main_while1b_cst_56 (constant S_ .f32 0x00000000#32),
    binary main_while1b_v192 main_while1b_cst_56 main_while1b_v198 ((fun x v => Host.reduceAdd x v reducesTo_S4x64x1x256_S4x64x256_d2 h_S_) : Bin F S4x64x1x256 S_ S4x64x256),
    binary main_while1b_v197 main_while1b_v198 main_while1b_v199 (addf : Bin F S4x64x256),
    binary main_while1b_v120 main_while1b_v129 main_while1b_v200 ((fun l r => Host.dotGeneral dot_S4x64x512_S4x64x256_S4x512x256_1_1_2_2_0_0 none l r) : Bin F S4x64x512 S4x64x256 S4x512x256),
    unary main_while1b_v200 main_while1b_v201 ((transpose S4x256x512 [0, 2, 1] · transposes_S4x512x256_S4x256x512_0_2_1) : Un F S4x512x256 S4x256x512),
    binary main_while1b_v163 main_while1b_v201 main_while1b_v202 (addf : Bin F S4x256x512),
    binary main_while1b_v120 main_while1b_v121 main_while1b_v203 ((fun l r => Host.dotGeneral dot_S4x64x512_S4x256x512_S4x64x256_2_2_1_1_0_0 none l r) : Bin F S4x64x512 S4x256x512 S4x64x256),
    binary main_while1b_v122 main_while1b_v203 main_while1b_v204 (mulf : Bin F S4x64x256),
    binary main_while1b_v203 main_while1b_v128 main_while1b_v205 (mulf : Bin F S4x64x256),
    binary main_while1b_v188 main_while1b_v205 main_while1b_v206 (addf : Bin F S4x64x256),
    binary main_while1b_v204 main_while1b_v128 main_while1b_v207 (mulf : Bin F S4x64x256),
    binary main_while1b_v199 main_while1b_v207 main_while1b_v208 (addf : Bin F S4x64x256),
    nullary main_while1b_cst_57 (constant S_ .f32 0x00000000#32),
    binary main_while1b_v170 main_while1b_cst_57 main_while1b_v209 ((fun x v => pad S4x64x256 ![0, 63, 0] ![0, 0, 0] ![0, 0, 0] x v pads_S4x1x256_S4x64x256_000_6300_000 h_S_) : Bin F S4x1x256 S_ S4x64x256),
    binary main_while1b_v208 main_while1b_v209 main_while1b_v210 (addf : Bin F S4x64x256) ]
theorem while1Ops0_12_sub : Sub (F := F) while1Ops0_12 :=
  ⟨sN .., sB .., sR .., sU .., sN .., sB .., sR .., sN .., sB .., sB .., sN .., sB .., sB .., sB .., sU .., sB .., sB .., sB .., sB .., sB .., sB .., sB .., sN .., sB .., sB ..⟩
abbrev while1Ops0_13 : List (HloOp τ sig (Elt F)) :=
  [ TRef.nullary (.of main_while1b_call21_call0_cst : RBuf S_) (constant S_ .f32 0x00000000#32),
    TRef.unary (.of main_while1b_call21_call0_cst : RBuf S_) (.of main_while1b_call21_call0_v0 : RBuf S_) (broadcastInDim S_ ![] bcast_S_S_),
    TRef.binary (.of main_while1b_v210 : RBuf S4x64x256) (.of main_while1b_call21_call0_v0 : RBuf S_) (.of main_while1b_v211 : RBuf S4x64x256) (fun x v => Host.reduceWindowAdd ![1, 64, 1] ![1, 1, 1] ![0, 0, 0] ![0, 63, 0] x v reduceWindows_S4x64x256_S4x64x256_w1s1p0_0_w64s1p0_63_w1s1p0_0 h_S_) ]
theorem while1Ops0_13_sub : Sub (F := F) while1Ops0_13 :=
  ⟨sN .., sU .., sB ..⟩
abbrev while1Ops0_14 : List (HloOp τ sig (Elt F)) :=
  [ TRef.unary (.of main_while1b_v206 : RBuf S4x64x256) (.of main_while1b_call22_v0 : RBuf S1x4x64x256) (broadcastInDim S1x4x64x256 ![1, 2, 3] bcast_S4x64x256_S1x4x64x256_1_2_3),
    TRef.nullary (.of main_while1b_call22_c : RBuf S_ .i32) (constantI S_ 32 0#32),
    TRef.nullary (.of main_while1b_call22_c_0 : RBuf S_ .i32) (constantI S_ 32 0#32),
    TRef.nullary (.of main_while1b_call22_c_1 : RBuf S_ .i32) (constantI S_ 32 0#32),
    TRef.binaryIndexed (.of main_v66_9 : RBuf S33x4x64x256) (.of main_while1b_call22_v0 : RBuf S1x4x64x256) ![(.of main_while1b_v119 : RBuf S_ .i32), (.of main_while1b_call22_c : RBuf S_ .i32), (.of main_while1b_call22_c_0 : RBuf S_ .i32), (.of main_while1b_call22_c_1 : RBuf S_ .i32)] (.of main_while1b_v212 : RBuf S33x4x64x256) (fun x u i => Host.dynamicUpdateSlice x u (fun k => (i k (Shape.Idx.first h_S_)).toInt) updateFits_S33x4x64x256_S1x4x64x256) ]
theorem while1Ops0_14_sub : Sub (F := F) while1Ops0_14 :=
  ⟨sU .., sN .., sN .., sN .., sBi ..⟩
abbrev while1Ops0_15 : List (HloOp τ sig (Elt F)) :=
  [ TRef.unary (.of main_while1b_v182 : RBuf S4x64x256) (.of main_while1b_call23_v0 : RBuf S1x4x64x256) (broadcastInDim S1x4x64x256 ![1, 2, 3] bcast_S4x64x256_S1x4x64x256_1_2_3),
    TRef.nullary (.of main_while1b_call23_c : RBuf S_ .i32) (constantI S_ 32 0#32),
    TRef.nullary (.of main_while1b_call23_c_0 : RBuf S_ .i32) (constantI S_ 32 0#32),
    TRef.nullary (.of main_while1b_call23_c_1 : RBuf S_ .i32) (constantI S_ 32 0#32),
    TRef.binaryIndexed (.of main_v66_10 : RBuf S33x4x64x256) (.of main_while1b_call23_v0 : RBuf S1x4x64x256) ![(.of main_while1b_v119 : RBuf S_ .i32), (.of main_while1b_call23_c : RBuf S_ .i32), (.of main_while1b_call23_c_0 : RBuf S_ .i32), (.of main_while1b_call23_c_1 : RBuf S_ .i32)] (.of main_while1b_v213 : RBuf S33x4x64x256) (fun x u i => Host.dynamicUpdateSlice x u (fun k => (i k (Shape.Idx.first h_S_)).toInt) updateFits_S33x4x64x256_S1x4x64x256) ]
theorem while1Ops0_15_sub : Sub (F := F) while1Ops0_15 :=
  ⟨sU .., sN .., sN .., sN .., sBi ..⟩
abbrev while1Ops0_16 : List (HloOp τ sig (Elt F)) :=
  [ TRef.unary (.of main_while1b_v173 : RBuf S4x64x512) (.of main_while1b_call24_v0 : RBuf S1x4x64x512) (broadcastInDim S1x4x64x512 ![1, 2, 3] bcast_S4x64x512_S1x4x64x512_1_2_3),
    TRef.nullary (.of main_while1b_call24_c : RBuf S_ .i32) (constantI S_ 32 0#32),
    TRef.nullary (.of main_while1b_call24_c_0 : RBuf S_ .i32) (constantI S_ 32 0#32),
    TRef.nullary (.of main_while1b_call24_c_1 : RBuf S_ .i32) (constantI S_ 32 0#32),
    TRef.binaryIndexed (.of main_v66_11 : RBuf S33x4x64x512) (.of main_while1b_call24_v0 : RBuf S1x4x64x512) ![(.of main_while1b_v119 : RBuf S_ .i32), (.of main_while1b_call24_c : RBuf S_ .i32), (.of main_while1b_call24_c_0 : RBuf S_ .i32), (.of main_while1b_call24_c_1 : RBuf S_ .i32)] (.of main_while1b_v214 : RBuf S33x4x64x512) (fun x u i => Host.dynamicUpdateSlice x u (fun k => (i k (Shape.Idx.first h_S_)).toInt) updateFits_S33x4x64x512_S1x4x64x512) ]
theorem while1Ops0_16_sub : Sub (F := F) while1Ops0_16 :=
  ⟨sU .., sN .., sN .., sN .., sBi ..⟩
abbrev while1Ops0_17 : List (HloOp τ sig (Elt F)) :=
  [ TRef.unary (.of main_while1b_v211 : RBuf S4x64x256) (.of main_while1b_call25_v0 : RBuf S1x4x64x256) (broadcastInDim S1x4x64x256 ![1, 2, 3] bcast_S4x64x256_S1x4x64x256_1_2_3),
    TRef.nullary (.of main_while1b_call25_c : RBuf S_ .i32) (constantI S_ 32 0#32),
    TRef.nullary (.of main_while1b_call25_c_0 : RBuf S_ .i32) (constantI S_ 32 0#32),
    TRef.nullary (.of main_while1b_call25_c_1 : RBuf S_ .i32) (constantI S_ 32 0#32),
    TRef.binaryIndexed (.of main_v66_12 : RBuf S33x4x64x256) (.of main_while1b_call25_v0 : RBuf S1x4x64x256) ![(.of main_while1b_v119 : RBuf S_ .i32), (.of main_while1b_call25_c : RBuf S_ .i32), (.of main_while1b_call25_c_0 : RBuf S_ .i32), (.of main_while1b_call25_c_1 : RBuf S_ .i32)] (.of main_while1b_v215 : RBuf S33x4x64x256) (fun x u i => Host.dynamicUpdateSlice x u (fun k => (i k (Shape.Idx.first h_S_)).toInt) updateFits_S33x4x64x256_S1x4x64x256) ]
theorem while1Ops0_17_sub : Sub (F := F) while1Ops0_17 :=
  ⟨sU .., sN .., sN .., sN .., sBi ..⟩
abbrev while1Ops0_18 : List (HloOp τ sig (Elt F)) :=
  [ nullary main_while1b_c_58 (constantI S_ 32 1#32),
    binary main_v66_7 main_while1b_c_58 main_while1b_v216 (addi : Arr F S_ .i32 → Arr F S_ .i32 → Arr F S_ .i32),
    unary main_while1b_v216 main_v66_7 id,
    unary main_while1b_v202 main_v66_8 id,
    unary main_while1b_v212 main_v66_9 id,
    unary main_while1b_v213 main_v66_10 id,
    unary main_while1b_v214 main_v66_11 id,
    unary main_while1b_v215 main_v66_12 id ]
theorem while1Ops0_18_sub : Sub (F := F) while1Ops0_18 :=
  ⟨sN .., sB .., sU .., sU .., sU .., sU .., sU .., sU ..⟩
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12,
    seq while1Ops0_13,
    seq while1Ops0_14,
    seq while1Ops0_15,
    seq while1Ops0_16,
    seq while1Ops0_17,
    seq while1Ops0_18 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, StableHlo.chain_seq_cons, Pipeline.chain_cons, StableHlo.chain_seq_cons, Pipeline.chain_cons, StableHlo.chain_seq_cons, Pipeline.chain_cons, Pipeline.chain_cons, Pipeline.chain_cons, Pipeline.chain_cons, Pipeline.chain_cons, StableHlo.chain_seq_cons]
  chain_rfl

end Cert.GlaReferenceIdeal.Run
-- ==== Proof.Gla.RefKeep.lean ====
module

public import proofs.«01_k».proof.GlaReferenceIdeal
public import proofs.«01_k».proof.Proof.Gla.RefMain
public import proofs.«01_k».proof.Proof.Gla.RefBody0
public import proofs.«01_k».proof.Proof.Gla.RefBody1
public import Idealize.ShloMosaic.Lib.Scf.ExitTest
public import Idealize.ShloMosaic.Lib.Quiescent

@[expose] public section

set_option maxRecDepth 16384

noncomputable section

namespace Cert.GlaReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg ucRefs sub_ucRefs)
open Idealize.ShloMosaic.StableHlo
open Cert.GlaReferenceIdeal Cert.GlaReferenceIdeal.Gen

variable {F : FTy → Type} [FloatOps F]

local notation "𝕄" => MT nD τ sig Unit (Elt F) ℕ (Option PUnit) ℕ

/-! The reference's run: the stretches before the forward scan, its 33 trips, the stretches between, the backward
    scan's 33 trips, and the stretches after it. Every buffer's contents at the end is a fold over these. -/

/-- A stretch before a plain list, none of its operations allocating. -/
theorem plain_cons {ops : List (HloOp τ sig (Elt F))} {rest : List (List (HloOp τ sig (Elt F)))}
    (hs : ops.Forall fun op => op.bufs ⊆ StableHlo.tcRefs τ sig)
    (hf : ops.map HloOp.fresh = ops.map fun _ => (∅ : Finset (DevRef τ sig))) (h : StableHlo.Plain rest) : StableHlo.Plain (ops :: rest) :=
  .cons hs h (List.forall_iff_forall_mem.mp (StableHlo.forall_fresh_of_map hf))

/-- The `n` buffers from number `a` on. -/
def refs : (a n : ℕ) → a + n ≤ sig.nNear .tc .hbm → List (Ref sig .tc)
  | _, 0, _ => []
  | a, n + 1, h => ⟨.hbm, ⟨a, by omega⟩, rfl⟩ :: refs (a + 1) n (by omega)

/-- The stretches of `pre`, -/
abbrev preI : List (List (HloOp τ sig (Elt F))) := [
  main_part0_ops0, main_part0_ops1, main_part0_ops2, main_part0_ops3, main_part0_ops4, main_part0_ops5, main_part1_ops0, main_part1_ops1]

/-- the buffers they write, in order, -/
def preW : List (Ref sig .tc) := refs 5 132 (by decide)

/-- each on host references alone, -/
theorem pre_plain : StableHlo.Plain (preI (F := F)) :=
  plain_cons main_part0_ops0_sub rfl (plain_cons main_part0_ops1_sub rfl (plain_cons main_part0_ops2_sub rfl (plain_cons main_part0_ops3_sub rfl (plain_cons main_part0_ops4_sub rfl (plain_cons main_part0_ops5_sub rfl (plain_cons main_part1_ops0_sub rfl (plain_cons main_part1_ops1_sub rfl .nil)))))))

/-- and any other buffer keeps what it holds. -/
theorem pre_keep (V : Valuation τ sig (Elt F)) (r : Ref sig .tc) (h : r ∉ preW) :
    StableHlo.afterL preI V (Proc.devRef .tc r) = V (Proc.devRef .tc r) := by
  rw [StableHlo.afterL_eq_after_flatten]
  exact StableHlo.after_unwritten preW rfl h V

/-- The stretches of `body0`, -/
abbrev body0I : List (List (HloOp τ sig (Elt F))) := [
  while0Ops0, while0Ops0_1, while0Ops0_2, while0Ops0_3, while0Ops0_4, while0Ops0_5, while0Ops0_6, while0Ops0_7, while0Ops0_8, while0Ops0_9,
  while0Ops0_10]

/-- the buffers they write, in order, -/
def body0W : List (Ref sig .tc) := refs 139 67 (by decide) ++ refs 133 4 (by decide)

/-- each on host references alone, -/
theorem body0_plain : StableHlo.Plain (body0I (F := F)) :=
  plain_cons while0Ops0_sub rfl (plain_cons while0Ops0_1_sub rfl (plain_cons while0Ops0_2_sub rfl (plain_cons while0Ops0_3_sub rfl (plain_cons while0Ops0_4_sub rfl (plain_cons while0Ops0_5_sub rfl (plain_cons while0Ops0_6_sub rfl (plain_cons while0Ops0_7_sub rfl (plain_cons while0Ops0_8_sub rfl (plain_cons while0Ops0_9_sub rfl (plain_cons while0Ops0_10_sub rfl .nil))))))))))

/-- and any other buffer keeps what it holds. -/
theorem body0_keep (V : Valuation τ sig (Elt F)) (r : Ref sig .tc) (h : r ∉ body0W) :
    StableHlo.afterL body0I V (Proc.devRef .tc r) = V (Proc.devRef .tc r) := by
  rw [StableHlo.afterL_eq_after_flatten]
  exact StableHlo.after_unwritten body0W rfl h V

/-- The stretches of `mid`, -/
abbrev midI : List (List (HloOp τ sig (Elt F))) := [
  main_part1_ops2]

/-- the buffers they write, in order, -/
def midW : List (Ref sig .tc) := refs 206 37 (by decide)

/-- each on host references alone, -/
theorem mid_plain : StableHlo.Plain (midI (F := F)) :=
  plain_cons main_part1_ops2_sub rfl .nil

/-- and any other buffer keeps what it holds. -/
theorem mid_keep (V : Valuation τ sig (Elt F)) (r : Ref sig .tc) (h : r ∉ midW) :
    StableHlo.afterL midI V (Proc.devRef .tc r) = V (Proc.devRef .tc r) := by
  rw [StableHlo.afterL_eq_after_flatten]
  exact StableHlo.after_unwritten midW rfl h V

/-- The stretches of `body1`, -/
abbrev body1I : List (List (HloOp τ sig (Elt F))) := [
  while1Ops0, while1Ops0_1, while1Ops0_2, while1Ops0_3, while1Ops0_4, while1Ops0_5, while1Ops0_6, while1Ops0_7, while1Ops0_8, while1Ops0_9,
  while1Ops0_10, while1Ops0_11, while1Ops0_12, while1Ops0_13, while1Ops0_14, while1Ops0_15, while1Ops0_16, while1Ops0_17, while1Ops0_18]

/-- the buffers they write, in order, -/
def body1W : List (Ref sig .tc) := refs 245 167 (by decide) ++ refs 237 6 (by decide)

/-- each on host references alone, -/
theorem body1_plain : StableHlo.Plain (body1I (F := F)) :=
  plain_cons while1Ops0_sub rfl (plain_cons while1Ops0_1_sub rfl (plain_cons while1Ops0_2_sub rfl (plain_cons while1Ops0_3_sub rfl (plain_cons while1Ops0_4_sub rfl (plain_cons while1Ops0_5_sub rfl (plain_cons while1Ops0_6_sub rfl (plain_cons while1Ops0_7_sub rfl (plain_cons while1Ops0_8_sub rfl (plain_cons while1Ops0_9_sub rfl (plain_cons while1Ops0_10_sub rfl (plain_cons while1Ops0_11_sub rfl (plain_cons while1Ops0_12_sub rfl (plain_cons while1Ops0_13_sub rfl (plain_cons while1Ops0_14_sub rfl (plain_cons while1Ops0_15_sub rfl (plain_cons while1Ops0_16_sub rfl (plain_cons while1Ops0_17_sub rfl (plain_cons while1Ops0_18_sub rfl .nil))))))))))))))))))

/-- and any other buffer keeps what it holds. -/
theorem body1_keep (V : Valuation τ sig (Elt F)) (r : Ref sig .tc) (h : r ∉ body1W) :
    StableHlo.afterL body1I V (Proc.devRef .tc r) = V (Proc.devRef .tc r) := by
  rw [StableHlo.afterL_eq_after_flatten]
  exact StableHlo.after_unwritten body1W rfl h V

/-- The stretches of `post`, -/
abbrev postI : List (List (HloOp τ sig (Elt F))) := [
  main_part1_ops3, main_part2_ops0, main_part2_ops1, main_part2_ops2]

/-- the buffers they write, in order, -/
def postW : List (Ref sig .tc) := refs 412 61 (by decide)

/-- each on host references alone, -/
theorem post_plain : StableHlo.Plain (postI (F := F)) :=
  plain_cons main_part1_ops3_sub rfl (plain_cons main_part2_ops0_sub rfl (plain_cons main_part2_ops1_sub rfl (plain_cons main_part2_ops2_sub rfl .nil)))

/-- and any other buffer keeps what it holds. -/
theorem post_keep (V : Valuation τ sig (Elt F)) (r : Ref sig .tc) (h : r ∉ postW) :
    StableHlo.afterL postI V (Proc.devRef .tc r) = V (Proc.devRef .tc r) := by
  rw [StableHlo.afterL_eq_after_flatten]
  exact StableHlo.after_unwritten postW rfl h V

end Cert.GlaReferenceIdeal.Run
-- ==== Proof.Gla.RefRun.lean ====
module

public import proofs.«01_k».proof.GlaReferenceIdeal
public import proofs.«01_k».proof.Proof.Gla.RefKeep
public import Idealize.ShloMosaic.Lib.Scf.ExitTest
public import Idealize.ShloMosaic.Lib.Quiescent

@[expose] public section

set_option maxRecDepth 16384

noncomputable section

namespace Cert.GlaReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg ucRefs sub_ucRefs)
open Idealize.ShloMosaic.StableHlo
open Cert.GlaReferenceIdeal Cert.GlaReferenceIdeal.Gen

variable {F : FTy → Type} [FloatOps F]

local notation "𝕄" => MT nD τ sig Unit (Elt F) ℕ (Option PUnit) ℕ

/-! The reference's run: the stretches before the forward scan, its 33 trips, the stretches between, the backward
    scan's 33 trips, and the stretches after it. Every buffer's contents at the end is a fold over these. -/

/-- The condition of scan 0: whether its counter is below 33. -/
abbrev cond0Ops : List (HloOp τ sig (Elt F)) :=
  [ StableHlo.nullary main_while0c_c_39 (constantI S_ 32 33#32),
    StableHlo.binary main_v49_6 main_while0c_c_39 main_while0c_v118 (cmpi .slt) ]

theorem cond0_keep (V : Valuation τ sig (Elt F)) (r : Ref sig .tc) (h : r ∉ [main_while0c_c_39, main_while0c_v118]) :
    after cond0Ops V (Proc.devRef .tc r) = V (Proc.devRef .tc r) :=
  StableHlo.after_unwritten [main_while0c_c_39, main_while0c_v118] rfl h V

/-- One trip steps the counter by one. -/
theorem step0 (V : Valuation τ sig (Elt F)) :
    afterL body0I V (Proc.devRef .tc main_v49_6) = addi (V (Proc.devRef .tc main_v49_6)) (constantI S_ 32 1#32) := by
  have h : afterL (F := F) body0I V = after while0Ops0_10 (afterL (body0I.take 10) V) := rfl
  have hk : afterL (F := F) (body0I.take 10) V (Proc.devRef .tc main_v49_6) = V (Proc.devRef .tc main_v49_6) := by
    rw [StableHlo.afterL_eq_after_flatten]
    exact StableHlo.after_unwritten (body0W.take 65) rfl (by decide +kernel) V
  rw [h, ← hk]
  generalize afterL (F := F) (body0I.take 10) V = U
  after_results
  rfl

section Loop0

variable (A : Dev nD → Valuation τ sig (Elt F))

/-- Before the `k`-th condition the counter is `k`. -/
theorem at0 (hA : ∀ c, A c (Proc.devRef .tc main_v49_6) = constantI S_ 32 0#32) (c : Dev nD) :
    ∀ k, atTrip cond0Ops body0I A k c (Proc.devRef .tc main_v49_6) = fun _ => Scf.iv 0#32 1#32 k
  | 0 => by rw [StableHlo.atTrip_zero, hA, Scf.iv_zero]; rfl
  | k + 1 => by
    rw [StableHlo.atTrip_succ, step0, cond0_keep _ _ (by decide), at0 hA c k, Scf.iv_succ]; rfl

set_option backward.isDefEq.respectTransparency.types false in
/-- The condition holds before the first 33 trips and fails then. -/
theorem cond0_spec (hA : ∀ c, A c (Proc.devRef .tc main_v49_6) = constantI S_ 32 0#32) (Rc : Dev nD → sProp 𝕄) :
    LoopCond (pcfgs (F := F)) defs₀ Variants.none loops Rc (main_while0_cond (F := F)) cond0Ops body0I A 33 := by
  intro k hk c bd
  have hctr := at0 A hA c k
  unfold main_while0_cond
  rw [wp_bind]
  iintro ⟨Hb, Hh, HR⟩
  iapply (wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0Ops body0I A k c) main_v49_6 HostLoop.idx0)
        (HloOp.result _ (atTrip cond0Ops body0I A k c) main_while0c_c_39 HostLoop.idx0) = 1#1) (k < 33)
    rw [StableHlo.nullary_result_ne _ _ _ _ (by decide), StableHlo.nullary_result, hctr]
    exact Scf.cmpi_slt_iv_ub_iff (lb := 0#32) (ub := 33#32) (st := 1#32) (by decide) (show k ≤ Scf.trips 0#32 33#32 1#32 from hk)
  isplitl [Hb]; · iexact Hb
  isplitl [Hh]; · rw [after_cons, after_cons, after_nil]; iexact Hh
  iexact HR

end Loop0

/-- The condition of scan 1: whether its counter is below 33. -/
abbrev cond1Ops : List (HloOp τ sig (Elt F)) :=
  [ StableHlo.nullary main_while1c_c_42 (constantI S_ 32 33#32),
    StableHlo.binary main_v66_7 main_while1c_c_42 main_while1c_v118 (cmpi .slt) ]

theorem cond1_keep (V : Valuation τ sig (Elt F)) (r : Ref sig .tc) (h : r ∉ [main_while1c_c_42, main_while1c_v118]) :
    after cond1Ops V (Proc.devRef .tc r) = V (Proc.devRef .tc r) :=
  StableHlo.after_unwritten [main_while1c_c_42, main_while1c_v118] rfl h V

/-- One trip steps the counter by one. -/
theorem step1 (V : Valuation τ sig (Elt F)) :
    afterL body1I V (Proc.devRef .tc main_v66_7) = addi (V (Proc.devRef .tc main_v66_7)) (constantI S_ 32 1#32) := by
  have h : afterL (F := F) body1I V = after while1Ops0_18 (afterL (body1I.take 18) V) := rfl
  have hk : afterL (F := F) (body1I.take 18) V (Proc.devRef .tc main_v66_7) = V (Proc.devRef .tc main_v66_7) := by
    rw [StableHlo.afterL_eq_after_flatten]
    exact StableHlo.after_unwritten (body1W.take 165) rfl (by decide +kernel) V
  rw [h, ← hk]
  generalize afterL (F := F) (body1I.take 18) V = U
  after_results
  rfl

section Loop1

variable (A : Dev nD → Valuation τ sig (Elt F))

/-- Before the `k`-th condition the counter is `k`. -/
theorem at1 (hA : ∀ c, A c (Proc.devRef .tc main_v66_7) = constantI S_ 32 0#32) (c : Dev nD) :
    ∀ k, atTrip cond1Ops body1I A k c (Proc.devRef .tc main_v66_7) = fun _ => Scf.iv 0#32 1#32 k
  | 0 => by rw [StableHlo.atTrip_zero, hA, Scf.iv_zero]; rfl
  | k + 1 => by
    rw [StableHlo.atTrip_succ, step1, cond1_keep _ _ (by decide), at1 hA c k, Scf.iv_succ]; rfl

set_option backward.isDefEq.respectTransparency.types false in
/-- The condition holds before the first 33 trips and fails then. -/
theorem cond1_spec (hA : ∀ c, A c (Proc.devRef .tc main_v66_7) = constantI S_ 32 0#32) (Rc : Dev nD → sProp 𝕄) :
    LoopCond (pcfgs (F := F)) defs₀ Variants.none loops Rc (main_while1_cond (F := F)) cond1Ops body1I A 33 := by
  intro k hk c bd
  have hctr := at1 A hA c k
  unfold main_while1_cond
  rw [wp_bind]
  iintro ⟨Hb, Hh, HR⟩
  iapply (wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1Ops body1I A k c) main_v66_7 HostLoop.idx0)
        (HloOp.result _ (atTrip cond1Ops body1I A k c) main_while1c_c_42 HostLoop.idx0) = 1#1) (k < 33)
    rw [StableHlo.nullary_result_ne _ _ _ _ (by decide), StableHlo.nullary_result, hctr]
    exact Scf.cmpi_slt_iv_ub_iff (lb := 0#32) (ub := 33#32) (st := 1#32) (by decide) (show k ≤ Scf.trips 0#32 33#32 1#32 from hk)
  isplitl [Hb]; · iexact Hb
  isplitl [Hh]; · rw [after_cons, after_cons, after_nil]; iexact Hh
  iexact HR

end Loop1

/-! ## The run -/

section Whole

variable (m : (ℓ : Loc nD τ sig) → Buf (Elt F) ℓ) (ρ : Dev nD → PrngReg)

/-- Every buffer at the forward scan's entry, -/
abbrev A0 (c : Dev nD) : Valuation τ sig (Elt F) := entryContents preI m c
/-- after it, -/
abbrev A1 (c : Dev nD) : Valuation τ sig (Elt F) := after cond0Ops (atTrip cond0Ops body0I (A0 m) 33 c)
/-- at the backward scan's entry, -/
abbrev A2 (c : Dev nD) : Valuation τ sig (Elt F) := afterL midI (A1 m c)
/-- after it, -/
abbrev A3 (c : Dev nD) : Valuation τ sig (Elt F) := after cond1Ops (atTrip cond1Ops body1I (A2 m) 33 c)
/-- and at the end. -/
abbrev A4 (c : Dev nD) : Valuation τ sig (Elt F) := afterL postI (A3 m c)

theorem entry0 (c : Dev nD) : A0 m c (Proc.devRef .tc main_v49_6) = constantI S_ 32 0#32 := by
  have h : A0 m c = after main_part1_ops1 (afterL (preI.take 7) (launchContents m c)) := rfl
  rw [h]
  generalize afterL (F := F) (preI.take 7) (launchContents m c) = U
  after_results
  rfl

theorem entry1 (c : Dev nD) : A2 m c (Proc.devRef .tc main_v66_7) = constantI S_ 32 0#32 := by
  have h : A2 m c = after main_part1_ops2 (A1 m c) := rfl
  rw [h]
  generalize A1 m c = U
  after_results
  rfl

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm :=
  fun j => j.elim0
abbrev L : GSem nD τ sig → Finset Unit := fun _ => ∅
abbrev lv : GSem nD τ sig → Unit → ℕ := fun _ _ => 0
abbrev Rw (c : Dev nD) : sProp 𝕄 := iprop(∃ W, owes (c : Thread nD τ) (0 : CellTallies nD τ sig Unit) W)

/-- The segments of `main`. -/
def segs : List (CSeg (pcfgs (F := F)) adm defs₀ Variants.none L lv loops tk) :=
  segsOf _ _ _ _ _ _ _ _ Rw preI pre_plain (launchContents m)
    ++ loopSeg _ _ _ _ _ _ _ _ 0 main_while0_cond main_while0_body rfl cond0Ops body0I body0_plain while0_body_chain 33 (A0 m) Rw
        (cond0_spec (A0 m) (entry0 m) Rw)
      :: segsOf _ _ _ _ _ _ _ _ Rw midI mid_plain (A1 m)
    ++ loopSeg _ _ _ _ _ _ _ _ 1 main_while1_cond main_while1_body rfl cond1Ops body1I body1_plain while1_body_chain 33 (A2 m) Rw
        (cond1_spec (A2 m) (entry1 m) Rw)
      :: segsOf _ _ _ _ _ _ _ _ Rw postI post_plain (A3 m)

theorem segs_prog (c : Dev nD) : Pipeline.chain ((segs (F := F) m).map CSeg.prog) = main (F := F) c := by
  rw [main_chain_windows]
  unfold segs
  simp only [List.map_append, List.map_cons, segsOf_prog]
  rfl

theorem segs_chains : CSeg.Chains (fun c => iprop(held (c : Thread nD τ) (ucRefs τ sig) (launchContents m c) ∗ Rw c)) (segs (F := F) m)
    (fun c => iprop(held (c : Thread nD τ) (ucRefs τ sig) (A4 m c) ∗ ∃ W, owes (c : Thread nD τ) (0 : CellTallies nD τ sig Unit) W)) := by
  unfold segs
  refine CSeg.Chains.append (CSeg.Chains.append (segsOf_chains _ _ _ _ _ _ _ _ Rw preI _ _)
    ⟨fun _ => .rfl, segsOf_chains _ _ _ _ _ _ _ _ Rw midI _ _⟩) ?_
  exact ⟨fun _ => .rfl, segsOf_chains _ _ _ _ _ _ _ _ Rw postI _ _⟩

/-- From any memory with zero counters the reference terminates, every unscoped buffer at the fold. -/
theorem run : θ_run defs (onTc (τ := τ) (main (F := F))) ⟨m, fun _ => 0, ρ⟩ (fun r => ∀ (c : Dev nD) (b : Ref sig .tc),
    (Proc.devRef .tc b : DevRef τ sig).isScoped = false → r.2.mem ((c.tc : Thread nD τ).loc b) = A4 m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none L lv loops tk m ρ main (segs m)
    (fun c Q => by
      rw [← segs_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (A4 m c)))
    (hch := segs_chains m)
    (hinit := by
      refine Pipeline.initEach L lv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = A4 m c b)
    (hfin := fun c s' => by
      unfold held
      iintro ⟨Hh, HSI⟩
      ihave Hr := (pointsTo_read_all (ucRefs τ sig) (fun b => ((c : Dev nD), b)) (fun b => A4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- No operation writes an argument. -/
theorem trips_keep (conds : List (HloOp τ sig (Elt F))) (bodyI : List (List (HloOp τ sig (Elt F)))) (A : Dev nD → Valuation τ sig (Elt F))
    (r : Ref sig .tc) (hc : ∀ V, after conds V (Proc.devRef .tc r) = V (Proc.devRef .tc r))
    (hb : ∀ V, afterL bodyI V (Proc.devRef .tc r) = V (Proc.devRef .tc r)) (c : Dev nD) :
    ∀ k, atTrip conds bodyI A k c (Proc.devRef .tc r) = A c (Proc.devRef .tc r)
  | 0 => rfl
  | k + 1 => by rw [StableHlo.atTrip_succ, hb, hc, trips_keep conds bodyI A r hc hb c k]

theorem A1_keep (c : Dev nD) (r : Ref sig .tc) (h : r ∉ body0W ++ [main_while0c_c_39, main_while0c_v118]) :
    A1 m c (Proc.devRef .tc r) = A0 m c (Proc.devRef .tc r) := by
  simp only [List.mem_append, not_or] at h
  unfold A1
  rw [cond0_keep _ _ h.2, trips_keep _ _ _ r (fun V => cond0_keep V r h.2) (fun V => body0_keep V r h.1)]

theorem A3_keep (c : Dev nD) (r : Ref sig .tc) (h : r ∉ body1W ++ [main_while1c_c_42, main_while1c_v118]) :
    A3 m c (Proc.devRef .tc r) = A2 m c (Proc.devRef .tc r) := by
  simp only [List.mem_append, not_or] at h
  unfold A3
  rw [cond1_keep _ _ h.2, trips_keep _ _ _ r (fun V => cond1_keep V r h.2) (fun V => body1_keep V r h.1)]

theorem A4_arg (c : Dev nD) (r : Ref sig .tc)
    (h : r ∉ preW ++ (body0W ++ [main_while0c_c_39, main_while0c_v118]) ++ midW ++ (body1W ++ [main_while1c_c_42, main_while1c_v118]) ++ postW) :
    A4 m c (Proc.devRef .tc r) = m (c, Proc.devRef .tc r) := by
  rw [List.mem_append, List.mem_append, List.mem_append, List.mem_append, not_or, not_or, not_or, not_or] at h
  refine (post_keep _ _ h.2).trans ((A3_keep _ _ _ h.1.2).trans ((mid_keep _ _ h.1.1.2).trans ((A1_keep _ _ _ h.1.1.1.2).trans
    (pre_keep _ _ h.1.1.1.1))))

end Whole

end Cert.GlaReferenceIdeal.Run
-- ==== Proof.Gla.RefFrame.lean ====
module

public import proofs.«01_k».proof.Defs
public import proofs.«01_k».proof.Proof.Gla.RefRun

/-! The reference's frame: its run leaves the arguments as they were. -/

@[expose] public section

set_option maxRecDepth 16384

noncomputable section

namespace Cert.Gla

open Idealize.ShloMosaic Idealize.SL.Sem Cert.GlaReferenceIdeal

theorem frame_reference : Cert.quiescent_GlaReferenceIdeal := fun m ρ _ =>
  (θ_run defs _ _).mono (fun r h => ⟨fun c =>
      ⟨(h c main_arg0 rfl).trans (Run.A4_arg m c main_arg0 (by decide +kernel)),
        (h c main_arg1 rfl).trans (Run.A4_arg m c main_arg1 (by decide +kernel)),
        (h c main_arg2 rfl).trans (Run.A4_arg m c main_arg2 (by decide +kernel)),
        (h c main_arg3 rfl).trans (Run.A4_arg m c main_arg3 (by decide +kernel)),
        (h c main_arg4 rfl).trans (Run.A4_arg m c main_arg4 (by decide +kernel))⟩,
    Idealize.ShloMosaic.sem_eq_zero_of_no_sems (by decide) r.2⟩) (Run.run (F := Ideal) m ρ)

end Cert.Gla
-- ==== Proof.Gla.Spec.lean ====
module

public import proofs.«01_k».proof.Proof.Lift

/-! The gated recurrence of one chunk of 64 rows and one head, forward and backward, over the real numbers. A state has
    one row for every column of `v` and one column for every column of `k`. -/

@[expose] public section

noncomputable section

namespace Cert.Gla.Spec

abbrev Keys := Fin 64 → Fin 256 → ℝ
abbrev Vals := Fin 64 → Fin 512 → ℝ
abbrev St := Fin 512 → Fin 256 → ℝ

/-- The logarithm of the sigmoid. -/
def ls (z : ℝ) : ℝ := min z 0 - Real.log (1 + Real.exp (0 - |z|))

/-- The gate's argument: the low-rank rows times the gate's weights, plus the bias. -/
def pre (lr : Fin 64 → Fin 128 → ℝ) (w : Fin 128 → Fin 256 → ℝ) (b : Fin 256 → ℝ) : Keys := fun i d => ∑ r, lr i r * w r d + b d

/-- The logarithm of a row's decay: none on the rows of zeros in front. -/
def gate (n : ℕ) (z : Keys) : Keys := fun i d => if 48 ≤ 64 * n + i.val then ls (z i d) * (1 / 16) else 0

/-- The decays from the chunk's start up to a row, and over the whole chunk. -/
def cum (g : Keys) : Keys := fun i d => ∑ x, if x ≤ i then g x d else 0
def tot (g : Keys) : Fin 256 → ℝ := fun d => ∑ x, g x d
def mid (g : Keys) : Fin 256 → ℝ := fun d => ∑ x : Fin 64, if x.val < 32 then g x d else 0

section
variable (g q k : Keys) (v o : Vals) (S D : St)

/-- What row `i` takes from row `j` of its own chunk. -/
def att : Fin 64 → Fin 64 → ℝ := fun i j => if j ≤ i then ∑ d, q i d * k j d * Real.exp (cum g i d - cum g j d) else 0

def out : Vals := fun i e => ∑ d, q i d * Real.exp (cum g i d) * S e d + ∑ j, att g q k i j * v j e

def next : St := fun e d => Real.exp (tot g d) * S e d + ∑ j, v j e * (k j d * Real.exp (tot g d - cum g j d))

/-- The state's gradient before the chunk from the one after it; `o` is the output's gradient. -/
def prev : St := fun e d => Real.exp (tot g d) * D e d + ∑ i, o i e * (q i d * Real.exp (cum g i d))

def da : Fin 64 → Fin 64 → ℝ := fun i j => if j ≤ i then ∑ e, o i e * v j e else 0
def dqS : Keys := fun i d => ∑ e, o i e * S e d
def dkS : Keys := fun j d => ∑ e, v j e * D e d
/-- The parts of the two gradients that stay within the chunk. -/
def dqA : Keys := fun i d => ∑ j, da v o i j * k j d * Real.exp (cum g i d - cum g j d)
def dkA : Keys := fun j d => ∑ i, da v o i j * q i d * Real.exp (cum g i d - cum g j d)

def dq : Keys := fun i d => dqS o S i d * Real.exp (cum g i d) + dqA g k v o i d
def dk : Keys := fun j d => dkS v D j d * Real.exp (tot g d - cum g j d) + dkA g q v o j d
def dv : Vals := fun j e => ∑ i, att g q k i j * o i e + ∑ d, k j d * Real.exp (tot g d - cum g j d) * D e d

/-- The gradient of the summed decays: the chunk's own, and in its last row that of the whole chunk's decay. -/
def dcum : Keys := fun i d =>
  dqS o S i d * q i d * Real.exp (cum g i d) - dkS v D i d * k i d * Real.exp (tot g d - cum g i d)
    + q i d * dqA g k v o i d - k i d * dkA g q v o i d
    + if i.val = 63 then ∑ j, dkS v D j d * k j d * Real.exp (tot g d - cum g j d) + (∑ e, D e d * S e d) * Real.exp (tot g d) else 0

def dgate : Keys := fun i d => ∑ x, if i ≤ x then dcum g q k v o S D x d else 0

/-- The gradient of the gate's argument. -/
def dpre (n : ℕ) (z : Keys) : Keys := fun i d =>
  if 48 ≤ 64 * n + i.val then dgate g q k v o S D i d * (1 / 16) / (1 + Real.exp (z i d)) else 0

/-- The decay between two rows, taken from the chunk's middle. -/
theorem split_mid (i j : Fin 64) (d : Fin 256) (m : ℝ) :
    Real.exp (cum g i d - m) * Real.exp (m - cum g j d) = Real.exp (cum g i d - cum g j d) := by
  rw [← Real.exp_add]; congr 1; ring

end

/-- Column `d` of head `h`, among 256 or 512 columns for each head. -/
abbrev kcol (h : Fin 4) (d : Fin 256) : Fin 1024 := ⟨256 * h.val + d.val, by omega⟩
abbrev vcol (h : Fin 4) (e : Fin 512) : Fin 2048 := ⟨512 * h.val + e.val, by omega⟩

/-- The arguments, as numbers: the projected rows (`q`, `k`, `v`, the gate's low-rank rows, `r`), the gate's weights and
    bias, and the output's gradient. -/
structure Args where
  P : Fin 2064 → Fin 6160 → ℝ
  W : Fin 16 → Fin 1024 → ℝ
  B : Fin 1024 → ℝ
  O : Fin 2064 → Fin 2048 → ℝ

/-- Row `i` of chunk `n` of an array with 48 rows of zeros in front. -/
def pad {w : ℕ} (f : Fin 2064 → Fin w → ℝ) (n : ℕ) (i : Fin 64) (j : Fin w) : ℝ :=
  if h : 48 ≤ 64 * n + i.val ∧ 64 * n + i.val < 2112 then f ⟨64 * n + i.val - 48, by omega⟩ j else 0

namespace Args
variable (A : Args) (n : ℕ) (h : Fin 4)

def q : Keys := fun i d => pad A.P n i ⟨256 * h.val + d.val, by omega⟩ * (1 / 16)
def k : Keys := fun i d => pad A.P n i ⟨1024 + 256 * h.val + d.val, by omega⟩
def v : Vals := fun i e => pad A.P n i ⟨2048 + 512 * h.val + e.val, by omega⟩
def o : Vals := fun i e => pad A.O n i (vcol h e)
def lr : Fin 64 → Fin 128 → ℝ := fun i r => if hr : r.val < 16 then pad A.P n i ⟨4096 + r.val, by omega⟩ else 0
def w : Fin 128 → Fin 256 → ℝ := fun r d => if hr : r.val < 16 then A.W ⟨r.val, hr⟩ (kcol h d) else 0
def b : Fin 256 → ℝ := fun d => A.B (kcol h d)
def z : Keys := pre (A.lr n) (A.w h) (A.b h)
def g : Keys := gate n (A.z n h)

/-- The state before chunk `n`. -/
def S : ℕ → St
  | 0 => fun _ _ => 0
  | n + 1 => next (A.g n h) (A.k n h) (A.v n h) (S n)

/-- The state's gradient after `j` of the backward steps, which start at the last chunk. -/
def D : ℕ → St
  | 0 => fun _ _ => 0
  | j + 1 => prev (A.g (32 - j) h) (A.q (32 - j) h) (A.o (32 - j) h) (D j)

/-- The results, row by row of chunk `n`. -/
def out : Vals := Spec.out (A.g n h) (A.q n h) (A.k n h) (A.v n h) (A.S h n)
def dq : Keys := fun i d => if 48 ≤ 64 * n + i.val then Spec.dq (A.g n h) (A.k n h) (A.v n h) (A.o n h) (A.S h n) i d * (1 / 16) else 0
def dk : Keys := fun i d => if 48 ≤ 64 * n + i.val then Spec.dk (A.g n h) (A.q n h) (A.v n h) (A.o n h) (A.D h (32 - n)) i d else 0
def dv : Vals := fun i e => if 48 ≤ 64 * n + i.val then Spec.dv (A.g n h) (A.q n h) (A.k n h) (A.o n h) (A.D h (32 - n)) i e else 0
def dz : Keys := dpre (A.g n h) (A.q n h) (A.k n h) (A.v n h) (A.o n h) (A.S h n) (A.D h (32 - n)) n (A.z n h)
def dlr : Fin 64 → Fin 128 → ℝ := fun i r => ∑ h, ∑ d, A.dz n h i d * A.w h r d

/-- What chunk `n` adds to the gradients of the gate's weights and bias. -/
def dwAt : Fin 128 → Fin 256 → ℝ := fun r d => ∑ i, A.lr n i r * A.dz n h i d
def dbAt : Fin 256 → ℝ := fun d => ∑ i, A.dz n h i d
end Args

end Cert.Gla.Spec
-- ==== Proof.Gla.Words.lean ====
module

public import proofs.«01_k».proof.Proof.Gla.Spec

/-! The masks the programs make of row and column numbers, and the functions of one real number they use. -/

@[expose] public section

noncomputable section

namespace Cert.Gla

open Idealize.ShloMosaic

theorem c16th : Ideal.ofBits .f32 0x3D800000#32 = ((1 / 16 : ℝ) : EReal) := by
  simp [Ideal.ofBits, Ideal.ieee, -EReal.coe_mul]; norm_num

theorem sel_ge (i j : Fin 64) (x y : EReal) :
    Scalar.select (IntOp.cmpi .sge (BitVec.ofNat 32 i.val) (BitVec.ofNat 32 j.val)) x y = if j ≤ i then x else y := by
  rw [show IntOp.cmpi .sge (BitVec.ofNat 32 i.val) (BitVec.ofNat 32 j.val) = BitVec.ofBool (decide (j ≤ i)) from by
    decide +kernel +revert]
  by_cases h : j ≤ i <;> simp [h, Scalar.select]

theorem one_ge (i j : Fin 64) :
    FloatOps.sitofp (F := Ideal) .f32 (BitVec.setWidth 32 (IntOp.cmpi .sge (BitVec.ofNat 32 i.val) (BitVec.ofNat 32 j.val)))
      = ((if j ≤ i then 1 else 0 : ℝ) : EReal) := by
  rw [show IntOp.cmpi .sge (BitVec.ofNat 32 i.val) (BitVec.ofNat 32 j.val) = BitVec.ofBool (decide (j ≤ i)) from by
    decide +kernel +revert]
  by_cases h : j ≤ i <;> simp [h, FloatOps.sitofp]

theorem one_le (i j : Fin 64) :
    FloatOps.sitofp (F := Ideal) .f32 (BitVec.setWidth 32 (IntOp.cmpi .sle (BitVec.ofNat 32 i.val) (BitVec.ofNat 32 j.val)))
      = ((if i ≤ j then 1 else 0 : ℝ) : EReal) := by
  rw [show IntOp.cmpi .sle (BitVec.ofNat 32 i.val) (BitVec.ofNat 32 j.val) = BitVec.ofBool (decide (i ≤ j)) from by
    decide +kernel +revert]
  by_cases h : i ≤ j <;> simp [h, FloatOps.sitofp]

theorem sel_half (i : Fin 64) (x y : EReal) :
    Scalar.select (IntOp.cmpi .slt (BitVec.ofNat 32 i.val) 32#32) x y = if i.val < 32 then x else y := by
  rw [show IntOp.cmpi .slt (BitVec.ofNat 32 i.val) 32#32 = BitVec.ofBool (decide (i.val < 32)) from by
    decide +kernel +revert]
  by_cases h : i.val < 32 <;> simp [h, Scalar.select]

theorem sel_last (i : Fin 64) (x y : EReal) :
    Scalar.select (IntOp.cmpi .eq (BitVec.ofNat 32 i.val) 63#32) x y = if i.val = 63 then x else y := by
  rw [show IntOp.cmpi .eq (BitVec.ofNat 32 i.val) 63#32 = BitVec.ofBool (decide (i.val = 63)) from by
    decide +kernel +revert]
  by_cases h : i.val = 63 <;> simp [h, Scalar.select]

/-- Whether row `i` of chunk `n` is one of the array's own. -/
theorem live_word {n : ℕ} (hn : n < 33) (i : Fin 64) :
    IntOp.cmpi .sge (IntOp.addi (BitVec.ofNat 32 i.val) (Scalar.muli (BitVec.ofNat 32 n) 64#32)) 48#32 = BitVec.ofBool (decide (48 ≤ 64 * n + i.val)) :=
  (by decide +kernel : ∀ (n : Fin 33) (i : Fin 64), IntOp.cmpi .sge (IntOp.addi (BitVec.ofNat 32 i.val) (Scalar.muli (BitVec.ofNat 32 n.val) 64#32)) 48#32
    = BitVec.ofBool (decide (48 ≤ 64 * n.val + i.val))) ⟨n, hn⟩ i

theorem sel_bool (p : Prop) [Decidable p] (x y : EReal) : Scalar.select (BitVec.ofBool (decide p)) x y = if p then x else y := by
  by_cases h : p <;> simp [h, Scalar.select]

theorem one_bool (p : Prop) [Decidable p] :
    FloatOps.sitofp (F := Ideal) .f32 (BitVec.setWidth 32 (BitVec.ofBool (decide p))) = ((if p then 1 else 0 : ℝ) : EReal) := by
  by_cases h : p <;> simp [h, FloatOps.sitofp]

theorem coe_ite (p : Prop) [Decidable p] (x y : ℝ) : (if p then (x : EReal) else (y : EReal)) = ((if p then x else y : ℝ) : EReal) := by
  split <;> rfl

theorem exp_real (x : ℝ) : Ideal.exp (x : EReal) = ((Real.exp x : ℝ) : EReal) := rfl

theorem log_real {x : ℝ} (h : 0 < x) : Ideal.log (x : EReal) = ((Real.log x : ℝ) : EReal) := by
  rw [Ideal.log_coe, if_neg (not_le.2 h)]

/-- The gate as the programs compute it. -/
theorem ls_real (z : ℝ) : min (z : EReal) 0 - Ideal.log (1 + Ideal.exp (0 - FloatOps.absf (F := Ideal) (φ := .f32) (z : EReal))) = ((Spec.ls z : ℝ) : EReal) := by
  have ha : FloatOps.absf (F := Ideal) (φ := .f32) (z : EReal) = ((|z| : ℝ) : EReal) := by
    rw [Ideal.absf_def, abs_eq_max_neg, EReal.coe_strictMono.monotone.map_max]
    rfl
  have e : (1 : EReal) + ((Real.exp (0 - |z|) : ℝ) : EReal) = ((1 + Real.exp (0 - |z|) : ℝ) : EReal) := by push_cast; rfl
  rw [ha, show (0 : EReal) - ((|z| : ℝ) : EReal) = ((0 - |z| : ℝ) : EReal) from by push_cast; rfl, exp_real, e, log_real (by positivity)]
  unfold Spec.ls
  rw [EReal.coe_sub, (EReal.coe_strictMono.monotone.map_min : ((min z 0 : ℝ) : EReal) = min (z : EReal) ((0 : ℝ) : EReal))]
  rfl

end Cert.Gla
-- ==== Proof.Gla.Head0.lean ====
module

public import proofs.«01_k».proof.Proof.Gla.Words
public import proofs.«01_k».proof.Proof.Gen.GlaKernelIdeal.Skeleton
public import Idealize.ShloMosaic.Lib.Pipeline.ValueKit

/-! One head of the forward kernel at one chunk: what it stores, as numbers. -/

@[expose] public section

set_option maxRecDepth 16384

noncomputable section

namespace Cert.GlaKernelIdeal.Head

open Idealize.ShloMosaic Cert.GlaKernelIdeal Cert.GlaKernelIdeal.Gen Cert.Gla Cert.Gla.Spec

/-- What one head of the kernel reads of the gates at a chunk: the low-rank rows, the gate's weights and its bias. -/
structure Gates (xlr : Vec Ideal S64x128 .f32) (xw : Vec Ideal S128x256 .bf16) (xb : Vec Ideal S1x256 .f32)
    (lr : Fin 64 → Fin 128 → ℝ) (w : Fin 128 → Fin 256 → ℝ) (b : Fin 256 → ℝ) : Prop where
  lr : ∀ i r, xlr (ix2 i r) = ((lr i r : ℝ) : EReal)
  w : ∀ r d, xw (ix2 r d) = ((w r d : ℝ) : EReal)
  b : ∀ d, xb (ix2 0 d) = ((b d : ℝ) : EReal)

variable {n : ℕ} (hn : n < 33)

section
variable {xlr : Vec Ideal S64x128 .f32} {xw : Vec Ideal S128x256 .bf16} {xb : Vec Ideal S1x256 .f32}
  {lr : Fin 64 → Fin 128 → ℝ} {w : Fin 128 → Fin 256 → ℝ} {b : Fin 256 → ℝ} (G : Gates xlr xw xb lr w b)
include hn G

theorem gate_val (i : grid0.Coords) (hi : (i 0).val = n) (a : Fin 64) (d : Fin 256) :
    k0_pay5 (F := Ideal) i xlr xw xb (ix2 a d) = ((gate n (pre lr w b) a d : ℝ) : EReal) := by
  have hz : ∑ x, xlr (ix2 a x) * xw (ix2 x d) + xb (ix2 0 d) = ((pre lr w b a d : ℝ) : EReal) := by
    simp only [G.lr, G.w, G.b, ← EReal.coe_mul, Lift.coe_sum, ← EReal.coe_add]
    rfl
  unfold k0_pay5 k0_pay4
  pointwise
  rw [hz, ls_real, hi, live_word hn, sel_bool, c16th, ← EReal.coe_mul, ← EReal.coe_zero, coe_ite]
  rfl
end

section
variable {xg : FVec Ideal S64x256 .f32} {g : Keys} (hg : ∀ a d, xg (ix2 a d) = ((g a d : ℝ) : EReal))
include hg

theorem cum_val (a : Fin 64) (d : Fin 256) :
    k0_pay7 (F := Ideal) xg k0_pay6 (Scalar.ofBits .f32 0x00000000#32) (ix2 a d) = ((cum g a d : ℝ) : EReal) := by
  unfold k0_pay7 k0_pay6
  pointwise
  have h0 : ∀ x : Fin 64, ((g x d : ℝ) : EReal) - ((g x d : ℝ) : EReal) = 0 := fun x => by rw [← EReal.coe_sub, sub_self]; rfl
  simp only [hg, h0, sub_self, sub_zero, mul_zero, Finset.sum_const_zero, add_zero, one_ge, ← EReal.coe_mul, Lift.coe_sum, ite_mul, one_mul, zero_mul, cum]

theorem tot_val (d : Fin 256) : k0_pay8 (F := Ideal) xg (ix2 0 d) = ((tot g d : ℝ) : EReal) := by
  unfold k0_pay8
  pointwise
  simp only [hg, Lift.coe_sum]
  rfl

theorem mid_val (d : Fin 256) : k0_pay9 (F := Ideal) xg (ix2 0 d) = ((mid g d : ℝ) : EReal) := by
  unfold k0_pay9
  pointwise
  simp only [hg, sel_half, ← EReal.coe_zero, coe_ite, Lift.coe_sum]
  rfl
end

section
variable {xc : FVec Ideal S64x256 .f32} {xt xm : FVec Ideal S1x256 .f32} {xq xk : Vec Ideal S64x256 .f32} {xv : Vec Ideal S64x512 .f32}
  {xs : Vec Ideal S1x512x256 .f32} {g q k : Keys} {v : Vals} {S : St}
  (hc : ∀ a d, xc (ix2 a d) = ((cum g a d : ℝ) : EReal)) (ht : ∀ d, xt (ix2 0 d) = ((tot g d : ℝ) : EReal))
  (hm : ∀ d, xm (ix2 0 d) = ((mid g d : ℝ) : EReal)) (hq : ∀ a d, xq (ix2 a d) * ((1 / 16 : ℝ) : EReal) = ((q a d : ℝ) : EReal))
  (hk : ∀ a d, xk (ix2 a d) = ((k a d : ℝ) : EReal)) (hv : ∀ a e, xv (ix2 a e) = ((v a e : ℝ) : EReal))
  (hs : ∀ e d, xs (ix3 0 e d) = ((S e d : ℝ) : EReal))
include hc hk hv hs

include hm hq in
theorem out_val (a : Fin 64) (e : Fin 512) :
    k0_pay15 (F := Ideal) xc xm (k0_pay10 xq) (k0_pay11 xk) (k0_pay12 xv) (k0_pay13 xs) (ix2 a e) = ((out g q k v S a e : ℝ) : EReal) := by
  unfold k0_pay15 k0_pay10 k0_pay11 k0_pay12 k0_pay13
  pointwise
  simp only [c16th, hc, hm, hq, hk, hv, hs, sel_ge, exp_real, ← EReal.coe_sub, ← EReal.coe_mul, Lift.coe_sum, ← EReal.coe_zero, coe_ite, ← EReal.coe_add]
  congr 1
  unfold out att
  congr 1
  refine Finset.sum_congr rfl fun j _ => ?_
  rw [ite_mul, zero_mul]
  refine if_congr Iff.rfl ?_ rfl
  congr 1
  refine Finset.sum_congr rfl fun d _ => ?_
  rw [← split_mid g a j d (mid g d)]
  ring

include ht in
theorem next_val (e : Fin 512) (d : Fin 256) :
    k0_pay16 (F := Ideal) xc xt (k0_pay11 xk) (k0_pay12 xv) (k0_pay13 xs) (ix3 0 e d) = ((next g k v S e d : ℝ) : EReal) := by
  unfold k0_pay16 k0_pay11 k0_pay12 k0_pay13
  pointwise
  simp only [hc, ht, hk, hv, hs, exp_real, ← EReal.coe_sub, ← EReal.coe_mul, Lift.coe_sum, ← EReal.coe_add]
  rfl
end

theorem saved_val {xs : Vec Ideal S1x512x256 .f32} {S : St} (hs : ∀ e d, xs (ix3 0 e d) = ((S e d : ℝ) : EReal)) (e : Fin 512) (d : Fin 256) :
    k0_pay14 (F := Ideal) xs (ix4 0 0 e d) = ((S e d : ℝ) : EReal) := by
  unfold k0_pay14 k0_pay13
  pointwise
  exact hs e d

end Cert.GlaKernelIdeal.Head
-- ==== Proof.Gla.Head1.lean ====
module

public import proofs.«01_k».proof.Proof.Gla.Head0

/-! One head of the backward kernel at one chunk: what it stores, as numbers. -/

@[expose] public section

set_option maxRecDepth 16384

noncomputable section

namespace Cert.GlaKernelIdeal.Head

open Idealize.ShloMosaic Cert.GlaKernelIdeal Cert.GlaKernelIdeal.Gen Cert.Gla Cert.Gla.Spec

section
variable {F : FTy → Type} [FloatOps F]

/-- What one head reads at a chunk: the low-rank rows, the gate's weights and bias, the rows of `q`, `k` and `v`, the saved
    state, the output's gradient, and the state's gradient after the chunk. -/
structure In (F : FTy → Type) where
  lr : Vec F S64x128 .f32
  w : Vec F S128x256 .bf16
  b : Vec F S1x256 .f32
  q : Vec F S64x256 .f32
  k : Vec F S64x256 .f32
  v : Vec F S64x512 .f32
  o : Vec F S64x512 .f32
  S : Vec F S1x1x512x256 .f32
  D : Vec F S1x512x256 .f32

variable (i : grid1.Coords) (x : In F)

def xz : FVec F S64x256 .f32 := k1_pay10 x.lr x.w x.b
def xg : FVec F S64x256 .f32 := k1_pay12 i x.lr x.w x.b
def xc : FVec F S64x256 .f32 := k1_pay13 (xg i x) (iota .tc S64x64 32 [0] iota_S64x64_d0_w32) (iota .tc S64x64 32 [1] iota_S64x64_d1_w32)
def xt : FVec F S1x256 .f32 := k1_pay14 (xg i x)
def xm : FVec F S1x256 .f32 := k1_pay15 (xg i x)
def xdqS : FVec F S64x256 .f32 := k1_pay36 (k1_pay19 x.o) x.S
def xdkS : FVec F S64x256 .f32 := k1_pay39 (k1_pay18 x.v) x.D
def xdqA : FVec F S64x256 .f32 := k1_pay37 k1_pay8 (xc i x) (xm i x) (k1_pay17 x.k) (k1_pay18 x.v) (k1_pay19 x.o)
def xdkA : FVec F S64x256 .f32 := k1_pay38 k1_pay8 (xc i x) (xm i x) (k1_pay16 x.q) (k1_pay18 x.v) (k1_pay19 x.o)
def xdv : FVec F S64x512 .bf16 :=
  k1_pay41 k1_pay8 (k1_pay11 i) (xc i x) (xt i x) (xm i x) (k1_pay16 x.q) (k1_pay17 x.k) (k1_pay19 x.o) x.D
def xdq : FVec F S64x256 .bf16 := k1_pay42 (k1_pay23 (xc i x)) (k1_pay25 (xc i x) (xm i x)) (xdqS x) (xdqA i x) (k1_pay40 (k1_pay11 i))
def xdk : FVec F S64x256 .bf16 :=
  k1_pay43 (k1_pay24 (xc i x) (xt i x)) (k1_pay26 (xc i x) (xm i x)) (xdkA i x) (xdkS x) (k1_pay40 (k1_pay11 i))
def xdb : FVec F S64x256 .f32 :=
  k1_pay44 (k1_pay20 x.S) (k1_pay21 x.D) (k1_pay27 (xt i x)) (k1_pay28 (xc i x) (k1_pay16 x.q)) (k1_pay29 (xc i x) (xt i x) (k1_pay17 x.k))
    (k1_pay30 (xc i x) (xm i x) (k1_pay16 x.q)) (k1_pay31 (xc i x) (xm i x) (k1_pay17 x.k)) (xdqS x) (xdqA i x) (xdkA i x) (xdkS x)
def xdz : FVec F S64x256 .f32 := k1_pay46 (xz x) (k1_pay11 i) (xdb i x) k1_pay45
def xdlr : FVec F S64x128 .f32 := k1_pay48 (k1_pay9 x.w) (xz x) (k1_pay11 i) (xdb i x) k1_pay45
def xdw (y : Vec F S1x128x256 .f32) : FVec F S1x128x256 .f32 := k1_pay49 (k1_pay7 x.lr) (xz x) (k1_pay11 i) (xdb i x) k1_pay45 y
def xdbias (y : Vec F S1x1x256 .f32) : FVec F S1x1x256 .f32 := k1_pay50 (xz x) (k1_pay11 i) (xdb i x) k1_pay45 y
def xdS : FVec F S1x512x256 .f32 := k1_pay51 (k1_pay19 x.o) (k1_pay21 x.D) (k1_pay27 (xt i x)) (k1_pay32 (xc i x) (k1_pay16 x.q))
end

/-- The numbers the head reads. -/
structure Holds (x : In Ideal) (lr : Fin 64 → Fin 128 → ℝ) (w : Fin 128 → Fin 256 → ℝ) (b : Fin 256 → ℝ) (q k : Keys) (v o : Vals) (S D : St) : Prop where
  lr : ∀ a r, x.lr (ix2 a r) = ((lr a r : ℝ) : EReal)
  w : ∀ r d, x.w (ix2 r d) = ((w r d : ℝ) : EReal)
  b : ∀ d, x.b (ix2 0 d) = ((b d : ℝ) : EReal)
  q : ∀ a d, x.q (ix2 a d) * ((1 / 16 : ℝ) : EReal) = ((q a d : ℝ) : EReal)
  k : ∀ a d, x.k (ix2 a d) = ((k a d : ℝ) : EReal)
  v : ∀ a e, x.v (ix2 a e) = ((v a e : ℝ) : EReal)
  o : ∀ a e, x.o (ix2 a e) = ((o a e : ℝ) : EReal)
  S : ∀ e d, x.S (ix4 0 0 e d) = ((S e d : ℝ) : EReal)
  D : ∀ e d, x.D (ix3 0 e d) = ((D e d : ℝ) : EReal)

variable {n : ℕ} (hn : n < 33) {i : grid1.Coords} (hi : (i 0).val = 32 - n)
  {x : In Ideal} {lr : Fin 64 → Fin 128 → ℝ} {w : Fin 128 → Fin 256 → ℝ} {b : Fin 256 → ℝ} {q k : Keys} {v o : Vals} {S D : St}
  (H : Holds x lr w b q k v o S D)

include hn hi in
theorem live_val (a : Fin 64) : k1_pay11 i (ix2 a 0) = BitVec.ofBool (decide (48 ≤ 64 * n + a.val)) := by
  unfold k1_pay11
  pointwise
  rw [hi, show Scalar.subi 32#32 (BitVec.ofNat 32 (32 - n)) = BitVec.ofNat 32 n from
    (by decide +kernel : ∀ n : Fin 33, Scalar.subi 32#32 (BitVec.ofNat 32 (32 - n.val)) = BitVec.ofNat 32 n.val) ⟨n, hn⟩, live_word hn]

include hn hi in
theorem keep_val (a : Fin 64) : k1_pay40 (F := Ideal) (k1_pay11 i) (ix2 a 0) = ((if 48 ≤ 64 * n + a.val then 1 else 0 : ℝ) : EReal) := by
  unfold k1_pay40
  pointwise
  rw [live_val hn hi, one_bool]

include H in
theorem xz_val (a : Fin 64) (d : Fin 256) : xz x (ix2 a d) = ((pre lr w b a d : ℝ) : EReal) := by
  unfold xz k1_pay10 k1_pay7 k1_pay9
  pointwise
  simp only [H.lr, H.w, H.b, ← EReal.coe_mul, Lift.coe_sum, ← EReal.coe_add]
  rfl

include hn hi H in
theorem xg_val (a : Fin 64) (d : Fin 256) : xg i x (ix2 a d) = ((gate n (pre lr w b) a d : ℝ) : EReal) := by
  have hz := xz_val H a d
  unfold xz at hz
  unfold xg k1_pay12
  pointwise
  rw [hz, ls_real, live_val hn hi, sel_bool, c16th, ← EReal.coe_mul, ← EReal.coe_zero, coe_ite]
  rfl

include hn hi H

theorem xc_val (a : Fin 64) (d : Fin 256) : xc i x (ix2 a d) = ((cum (gate n (pre lr w b)) a d : ℝ) : EReal) :=
  (congrFun (show xc i x = k0_pay7 (xg i x) k0_pay6 (Scalar.ofBits .f32 0x00000000#32) from rfl) _).trans (cum_val (xg_val hn hi H) a d)

theorem xt_val (d : Fin 256) : xt i x (ix2 0 d) = ((tot (gate n (pre lr w b)) d : ℝ) : EReal) := by
  have hg := xg_val hn hi H
  unfold xt k1_pay14
  pointwise
  simp only [hg, Lift.coe_sum]
  rfl

theorem xm_val (d : Fin 256) : xm i x (ix2 0 d) = ((mid (gate n (pre lr w b)) d : ℝ) : EReal) := by
  have hg := xg_val hn hi H
  unfold xm k1_pay15
  pointwise
  simp only [hg, sel_half, ← EReal.coe_zero, coe_ite, Lift.coe_sum]
  rfl

omit hn hi in
theorem xdqS_val (a : Fin 64) (d : Fin 256) : xdqS x (ix2 a d) = ((dqS o S a d : ℝ) : EReal) := by
  unfold xdqS k1_pay36 k1_pay19 k1_pay20
  pointwise
  simp only [H.o, H.S, ← EReal.coe_mul, Lift.coe_sum]
  rfl

omit hn hi in
theorem xdkS_val (a : Fin 64) (d : Fin 256) : xdkS x (ix2 a d) = ((dkS v D a d : ℝ) : EReal) := by
  unfold xdkS k1_pay39 k1_pay18 k1_pay22 k1_pay21
  pointwise
  simp only [H.v, H.D, ← EReal.coe_mul, Lift.coe_sum]
  rfl

/-- The part of `q`'s gradient that stays within the chunk, before the last exponential. -/
theorem xdqA_val (a : Fin 64) (d : Fin 256) : xdqA i x (ix2 a d)
    = ((∑ j, da v o a j * (k j d * Real.exp (mid (gate n (pre lr w b)) d - cum (gate n (pre lr w b)) j d)) : ℝ) : EReal) := by
  have hc := xc_val hn hi H
  have hm := xm_val hn hi H
  unfold xdqA k1_pay37 k1_pay35 k1_pay34 k1_pay31 k1_pay26 k1_pay19 k1_pay18 k1_pay17 k1_pay8
  pointwise
  simp only [hc, hm, H.o, H.v, H.k, sel_ge, exp_real, ← EReal.coe_sub, ← EReal.coe_mul, Lift.coe_sum, ← EReal.coe_zero, coe_ite]
  refine congrArg _ (Finset.sum_congr rfl fun j _ => ?_)
  unfold da
  split <;> simp

theorem xdkA_val (a : Fin 64) (d : Fin 256) : xdkA i x (ix2 a d)
    = ((∑ j, da v o j a * (q j d * Real.exp (cum (gate n (pre lr w b)) j d - mid (gate n (pre lr w b)) d)) : ℝ) : EReal) := by
  have hc := xc_val hn hi H
  have hm := xm_val hn hi H
  unfold xdkA k1_pay38 k1_pay35 k1_pay33 k1_pay30 k1_pay25 k1_pay19 k1_pay18 k1_pay16 k1_pay8
  pointwise
  simp only [c16th, hc, hm, H.o, H.v, H.q, sel_ge, exp_real, ← EReal.coe_sub, ← EReal.coe_mul, Lift.coe_sum, ← EReal.coe_zero, coe_ite]
  refine congrArg _ (Finset.sum_congr rfl fun j _ => ?_)
  unfold da
  split <;> simp

theorem xdv_val (a : Fin 64) (e : Fin 512) : xdv i x (ix2 a e)
    = ((if 48 ≤ 64 * n + a.val then dv (gate n (pre lr w b)) q k o D a e else 0 : ℝ) : EReal) := by
  have hc := xc_val hn hi H
  have hm := xm_val hn hi H
  have ht := xt_val hn hi H
  have hk := keep_val hn hi
  unfold xdv k1_pay41 k1_pay34 k1_pay31 k1_pay26 k1_pay33 k1_pay30 k1_pay25 k1_pay29 k1_pay24 k1_pay22 k1_pay21 k1_pay19 k1_pay17 k1_pay16 k1_pay8
  pointwise
  simp only [c16th, hk, hc, hm, ht, H.o, H.q, H.k, H.D, sel_ge, exp_real, ← EReal.coe_sub, ← EReal.coe_mul, Lift.coe_sum, ← EReal.coe_zero, coe_ite, ← EReal.coe_add]
  congr 1
  rw [ite_mul, one_mul, zero_mul]
  refine if_congr Iff.rfl ?_ rfl
  unfold dv att
  congr 1
  refine Finset.sum_congr rfl fun j _ => ?_
  rw [ite_mul, zero_mul]
  refine if_congr Iff.rfl ?_ rfl
  congr 1
  refine Finset.sum_congr rfl fun d _ => ?_
  rw [← split_mid (gate n (pre lr w b)) j a d (mid (gate n (pre lr w b)) d)]
  ring

theorem dqA_mid (a : Fin 64) (d : Fin 256) (m : ℝ) (g : Keys) :
    (∑ j, da v o a j * (k j d * Real.exp (m - cum g j d))) * Real.exp (cum g a d - m) = dqA g k v o a d := by
  unfold dqA
  rw [Finset.sum_mul]
  refine Finset.sum_congr rfl fun j _ => ?_
  rw [← split_mid g a j d m]
  ring

theorem dkA_mid (a : Fin 64) (d : Fin 256) (m : ℝ) (g : Keys) :
    (∑ j, da v o j a * (q j d * Real.exp (cum g j d - m))) * Real.exp (m - cum g a d) = dkA g q v o a d := by
  unfold dkA
  rw [Finset.sum_mul]
  refine Finset.sum_congr rfl fun j _ => ?_
  rw [← split_mid g j a d m]
  ring

theorem xdq_val (a : Fin 64) (d : Fin 256) : xdq i x (ix2 a d)
    = ((if 48 ≤ 64 * n + a.val then dq (gate n (pre lr w b)) k v o S a d * (1 / 16) else 0 : ℝ) : EReal) := by
  have hc := xc_val hn hi H
  have hm := xm_val hn hi H
  have hk := keep_val hn hi
  have h1 := xdqS_val H
  have h2 := xdqA_val hn hi H
  unfold xdq k1_pay42 k1_pay23 k1_pay25
  pointwise
  simp only [c16th, hk, hc, hm, h1, h2, exp_real, ← EReal.coe_sub, ← EReal.coe_mul, ← EReal.coe_add]
  rw [dqA_mid hn hi H]
  congr 1
  unfold dq
  split <;> simp [mul_comm]

theorem xdk_val (a : Fin 64) (d : Fin 256) : xdk i x (ix2 a d)
    = ((if 48 ≤ 64 * n + a.val then dk (gate n (pre lr w b)) q v o D a d else 0 : ℝ) : EReal) := by
  have hc := xc_val hn hi H
  have hm := xm_val hn hi H
  have ht := xt_val hn hi H
  have hk := keep_val hn hi
  have h1 := xdkS_val H
  have h2 := xdkA_val hn hi H
  unfold xdk k1_pay43 k1_pay24 k1_pay26
  pointwise
  simp only [hk, hc, hm, ht, h1, h2, exp_real, ← EReal.coe_sub, ← EReal.coe_mul, ← EReal.coe_add]
  rw [dkA_mid hn hi H]
  congr 1
  unfold dk
  split <;> simp

theorem xdb_val (a : Fin 64) (d : Fin 256) : xdb i x (ix2 a d) = ((dcum (gate n (pre lr w b)) q k v o S D a d : ℝ) : EReal) := by
  have hc := xc_val hn hi H
  have hm := xm_val hn hi H
  have ht := xt_val hn hi H
  have h1 := xdkS_val H
  have h2 := xdkA_val hn hi H
  have h3 := xdqS_val H
  have h4 := xdqA_val hn hi H
  unfold xdb k1_pay44 k1_pay27 k1_pay28 k1_pay29 k1_pay30 k1_pay31 k1_pay23 k1_pay24 k1_pay25 k1_pay26 k1_pay16 k1_pay17 k1_pay20 k1_pay21
  pointwise
  simp only [c16th, hc, hm, ht, h1, h2, h3, h4, H.q, H.k, H.S, H.D, sel_last, exp_real, ← EReal.coe_sub, ← EReal.coe_mul, Lift.coe_sum, ← EReal.coe_zero, coe_ite, ← EReal.coe_add]
  congr 1
  unfold dcum
  rw [← dqA_mid hn hi H a d (mid (gate n (pre lr w b)) d), ← dkA_mid hn hi H a d (mid (gate n (pre lr w b)) d)]
  congr 1
  · ring
  · refine if_congr Iff.rfl ?_ rfl
    congr 1
    refine Finset.sum_congr rfl fun j _ => ?_
    ring

theorem xdz_val (a : Fin 64) (d : Fin 256) : xdz i x (ix2 a d)
    = ((dpre (gate n (pre lr w b)) q k v o S D n (pre lr w b) a d : ℝ) : EReal) := by
  have hb := xdb_val hn hi H
  have hz := xz_val H
  have hl := live_val hn hi
  unfold xdz k1_pay46 k1_pay45
  pointwise
  have h0 : ∀ y : Fin 64, ((dcum (gate n (pre lr w b)) q k v o S D y d : ℝ) : EReal) - ((dcum (gate n (pre lr w b)) q k v o S D y d : ℝ) : EReal) = 0 :=
    fun y => by rw [← EReal.coe_sub, sub_self]; rfl
  have h1 : (1 : EReal) = ((1 : ℝ) : EReal) := rfl
  simp only [c16th, hb, hz, hl, h0, sel_bool, one_le, mul_zero, Finset.sum_const_zero, add_zero, exp_real]
  rw [h1]
  simp only [← EReal.coe_mul, Lift.coe_sum, ← EReal.coe_zero, coe_ite, ← EReal.coe_add]
  rw [Lift.div_real _ (by positivity)]
  congr 1
  unfold dpre dgate
  split <;> simp

theorem xdlr_val (a : Fin 64) (r : Fin 128) : xdlr i x (ix2 a r)
    = ((∑ d, dpre (gate n (pre lr w b)) q k v o S D n (pre lr w b) a d * w r d : ℝ) : EReal) := by
  have hz := xdz_val hn hi H
  unfold xdz at hz
  unfold xdlr k1_pay48 k1_pay47 k1_pay9
  pointwise
  simp only [hz, H.w, ← EReal.coe_mul, Lift.coe_sum]

theorem xdw_val {y : Vec Ideal S1x128x256 .f32} {Y : Fin 128 → Fin 256 → ℝ} (hy : ∀ r d, y (ix3 0 r d) = ((Y r d : ℝ) : EReal))
    (r : Fin 128) (d : Fin 256) : xdw i x y (ix3 0 r d)
      = ((Y r d + ∑ a, lr a r * dpre (gate n (pre lr w b)) q k v o S D n (pre lr w b) a d : ℝ) : EReal) := by
  have hz := xdz_val hn hi H
  unfold xdz at hz
  unfold xdw k1_pay49 k1_pay47 k1_pay7
  pointwise
  simp only [hz, hy, H.lr, ← EReal.coe_mul, Lift.coe_sum, ← EReal.coe_add]

theorem xdbias_val {y : Vec Ideal S1x1x256 .f32} {Y : Fin 256 → ℝ} (hy : ∀ d, y (ix3 0 0 d) = ((Y d : ℝ) : EReal))
    (d : Fin 256) : xdbias i x y (ix3 0 0 d)
      = ((Y d + ∑ a, dpre (gate n (pre lr w b)) q k v o S D n (pre lr w b) a d : ℝ) : EReal) := by
  have hz := xdz_val hn hi H
  unfold xdz at hz
  unfold xdbias k1_pay50
  pointwise
  simp only [hz, hy, Lift.coe_sum, ← EReal.coe_add]

theorem xdS_val (e : Fin 512) (d : Fin 256) : xdS i x (ix3 0 e d)
    = ((prev (gate n (pre lr w b)) q o D e d : ℝ) : EReal) := by
  have hc := xc_val hn hi H
  have ht := xt_val hn hi H
  unfold xdS k1_pay51 k1_pay32 k1_pay28 k1_pay27 k1_pay23 k1_pay21 k1_pay19 k1_pay16
  pointwise
  simp only [c16th, hc, ht, H.o, H.q, H.D, exp_real, ← EReal.coe_mul, Lift.coe_sum, ← EReal.coe_add]
  rfl

end Cert.GlaKernelIdeal.Head
-- ==== Proof.Gla.Block0.lean ====
module

public import proofs.«01_k».proof.Proof.Gla.Head1
public import proofs.«01_k».proof.Proof.Gla.Region0
public import Idealize.ShloMosaic.Lib.Pipeline.ReadBack

/-! One chunk of the forward kernel, all four heads: the output's block, the saved states and the states it goes on with. -/

@[expose] public section

set_option maxRecDepth 16384

noncomputable section

namespace Cert.GlaKernelIdeal.Head

open Idealize.ShloMosaic Cert.GlaKernelIdeal Cert.GlaKernelIdeal.Gen Cert.GlaKernelIdeal.Run Cert.Gla Cert.Gla.Spec

section
variable {F : FTy → Type} [FloatOps F] (h : Fin 4)

/-- The loads of head `h`. -/
abbrev ldK (x : Vec F S64x1024 .f32) : Vec F S64x256 .f32 :=
  View.ld x (Rect.unit (s := S64x1024) ![0, 256 * h.val] ![64, 256] (by intro a; fin_cases a <;> simp <;> omega))
abbrev ldV (x : Vec F S64x2048 .f32) : Vec F S64x512 .f32 :=
  View.ld x (Rect.unit (s := S64x2048) ![0, 512 * h.val] ![64, 512] (by intro a; fin_cases a <;> simp <;> omega))
abbrev ldW (x : Vec F S128x1024 .bf16) : Vec F S128x256 .bf16 :=
  View.ld x (Rect.unit (s := S128x1024) ![0, 256 * h.val] ![128, 256] (by intro a; fin_cases a <;> simp <;> omega))
abbrev ldB (x : Vec F S1x1024 .f32) : Vec F S1x256 .f32 :=
  View.ld x (Rect.unit (s := S1x1024) ![0, 256 * h.val] ![1, 256] (by intro a; fin_cases a <;> simp <;> omega))
abbrev ldS (x : Vec F S4x512x256 .f32) : Vec F S1x512x256 .f32 :=
  View.ld x (Rect.unit (s := S4x512x256) ![h.val, 0, 0] ![1, 512, 256] (by intro a; fin_cases a <;> simp <;> omega))

theorem ldK_at (x : Vec F S64x1024 .f32) (a : Fin 64) (d : Fin 256) : ldK h x (ix2 a d) = x (ix2 a (kcol h d)) :=
  View.ld_unit_apply_of _ _ _ _ _ _ (by intro a; fin_cases a <;> simp)
theorem ldV_at (x : Vec F S64x2048 .f32) (a : Fin 64) (e : Fin 512) : ldV h x (ix2 a e) = x (ix2 a (vcol h e)) :=
  View.ld_unit_apply_of _ _ _ _ _ _ (by intro a; fin_cases a <;> simp)
theorem ldW_at (x : Vec F S128x1024 .bf16) (r : Fin 128) (d : Fin 256) : ldW h x (ix2 r d) = x (ix2 r (kcol h d)) :=
  View.ld_unit_apply_of _ _ _ _ _ _ (by intro a; fin_cases a <;> simp)
theorem ldB_at (x : Vec F S1x1024 .f32) (d : Fin 256) : ldB h x (ix2 0 d) = x (ix2 0 (kcol h d)) :=
  View.ld_unit_apply_of _ _ _ _ _ _ (by intro a; fin_cases a <;> simp)
theorem ldS_at (x : Vec F S4x512x256 .f32) (e : Fin 512) (d : Fin 256) : ldS h x (ix3 0 e d) = x (ix3 h e d) :=
  View.ld_unit_apply_of _ _ _ _ _ _ (by intro a; fin_cases a <;> simp)

variable (i : grid0.Coords) (x0 x1 : Vec F S64x1024 .f32) (x2 : Vec F S64x2048 .f32) (x3 : Vec F S64x128 .f32) (x4 : Vec F S128x1024 .bf16)
  (x5 : Vec F S1x1024 .f32) (s : Vec F S4x512x256 .f32)

def fg : FVec F S64x256 .f32 := k0_pay5 i x3 (ldW h x4) (ldB h x5)
def fc : FVec F S64x256 .f32 := k0_pay7 (fg h i x3 x4 x5) k0_pay6 (Scalar.ofBits .f32 0x00000000#32)
def fout : FVec F S64x512 .f32 :=
  k0_pay15 (fc h i x3 x4 x5) (k0_pay9 (fg h i x3 x4 x5)) (k0_pay10 (ldK h x0)) (k0_pay11 (ldK h x1)) (k0_pay12 (ldV h x2)) (k0_pay13 (ldS h s))
def fnext : FVec F S1x512x256 .f32 :=
  k0_pay16 (fc h i x3 x4 x5) (k0_pay8 (fg h i x3 x4 x5)) (k0_pay11 (ldK h x1)) (k0_pay12 (ldV h x2)) (k0_pay13 (ldS h s))
end

/-- The blocks of the forward kernel at chunk `n` hold the arguments' numbers. -/
structure Holds0 (A : Args) (n : ℕ) (x0 x1 : Vec Ideal S64x1024 .f32) (x2 : Vec Ideal S64x2048 .f32) (x3 : Vec Ideal S64x128 .f32)
    (x4 : Vec Ideal S128x1024 .bf16) (x5 : Vec Ideal S1x1024 .f32) : Prop where
  q : ∀ h a d, x0 (ix2 a (kcol h d)) * ((1 / 16 : ℝ) : EReal) = ((A.q n h a d : ℝ) : EReal)
  k : ∀ h a d, x1 (ix2 a (kcol h d)) = ((A.k n h a d : ℝ) : EReal)
  v : ∀ h a e, x2 (ix2 a (vcol h e)) = ((A.v n h a e : ℝ) : EReal)
  lr : ∀ a r, x3 (ix2 a r) = ((A.lr n a r : ℝ) : EReal)
  w : ∀ h r d, x4 (ix2 r (kcol h d)) = ((A.w h r d : ℝ) : EReal)
  b : ∀ h d, x5 (ix2 0 (kcol h d)) = ((A.b h d : ℝ) : EReal)

section
variable {A : Args} {n : ℕ} (hn : n < 33) {i : grid0.Coords} (hi : (i 0).val = n) {x0 x1 : Vec Ideal S64x1024 .f32} {x2 : Vec Ideal S64x2048 .f32}
  {x3 : Vec Ideal S64x128 .f32} {x4 : Vec Ideal S128x1024 .bf16} {x5 : Vec Ideal S1x1024 .f32} (H : Holds0 A n x0 x1 x2 x3 x4 x5)
  {s : Vec Ideal S4x512x256 .f32} (hs : ∀ h e d, s (ix3 h e d) = ((A.S h n e d : ℝ) : EReal))
include hn hi H

theorem fg_val (h : Fin 4) (a : Fin 64) (d : Fin 256) : fg h i x3 x4 x5 (ix2 a d) = ((A.g n h a d : ℝ) : EReal) :=
  gate_val hn ⟨H.lr, fun r d => (ldW_at h x4 r d).trans (H.w h r d), fun d => (ldB_at h x5 d).trans (H.b h d)⟩ i hi a d

include hs

theorem fout_val (h : Fin 4) (a : Fin 64) (e : Fin 512) : fout h i x0 x1 x2 x3 x4 x5 s (ix2 a e) = ((A.out n h a e : ℝ) : EReal) :=
  out_val (fun a d => cum_val (fg_val hn hi H h) a d) (fun d => mid_val (fg_val hn hi H h) d)
    (fun a d => by rw [ldK_at]; exact H.q h a d) (fun a d => (ldK_at h x1 a d).trans (H.k h a d))
    (fun a e => (ldV_at h x2 a e).trans (H.v h a e)) (fun e d => (ldS_at h s e d).trans (hs h e d)) a e

theorem fnext_val (h : Fin 4) (e : Fin 512) (d : Fin 256) : fnext h i x1 x2 x3 x4 x5 s (ix3 0 e d) = ((A.S h (n + 1) e d : ℝ) : EReal) :=
  next_val (fun a d => cum_val (fg_val hn hi H h) a d) (fun d => tot_val (fg_val hn hi H h) d)
    (fun a d => (ldK_at h x1 a d).trans (H.k h a d)) (fun a e => (ldV_at h x2 a e).trans (H.v h a e))
    (fun e d => (ldS_at h s e d).trans (hs h e d)) e d
end

/-- A column's head and its place there. -/
theorem vcol_eq (j : Fin 2048) : j = vcol ⟨j.val / 512, by omega⟩ ⟨j.val % 512, by omega⟩ := Fin.ext (by simp; omega)

theorem coord0 : ∀ t : Fin cfg0.N, (grid0.coords t 0).val = t.val := (by decide +kernel : ∀ t : Fin grid0.N, _)

/-- A piece that holds head `k` of an array of four heads side by side. -/
theorem side_piece {N : Fin 4 → Fin 64 → Fin 512 → ℝ} (k : Fin 4) {p q : S64x512.Idx → EReal} (e : p = q)
    (hq : ∀ a e, q (ix2 a e) = ((N k a e : ℝ) : EReal)) (x : S64x512.Idx) {g : Fin 4} {a : Fin 64} {e : Fin 512}
    (h0 : a.val = x 0) (h1 : 512 * g.val + e.val = 512 * k.val + x 1) : p x = ((N g a e : ℝ) : EReal) := by
  obtain ⟨b, f, rfl⟩ : ∃ (b : Fin 64) (f : Fin 512), x = ix2 b f := ⟨x 0, x 1, eq_ix2 x⟩
  replace h0 : a.val = b.val := h0
  replace h1 : 512 * g.val + e.val = 512 * k.val + f.val := h1
  obtain rfl : a = b := Fin.ext h0
  obtain rfl : g = k := Fin.ext (by omega)
  obtain rfl : e = f := Fin.ext (by omega)
  subst p
  exact hq a e

/-- A piece that holds head `k` of four states one after another. -/
theorem stack_piece {N : Fin 4 → St} (k : Fin 4) {p q : S1x512x256.Idx → EReal} (e : p = q)
    (hq : ∀ e d, q (ix3 0 e d) = ((N k e d : ℝ) : EReal)) (x : S1x512x256.Idx) {g : Fin 4} {e : Fin 512} {d : Fin 256}
    (h0 : g.val = k.val + x 0) (h1 : e.val = x 1) (h2 : d.val = x 2) : p x = ((N g e d : ℝ) : EReal) := by
  obtain ⟨z, f, b, rfl⟩ : ∃ (z : Fin 1) (f : Fin 512) (b : Fin 256), x = ix3 z f b := ⟨x 0, x 1, x 2, eq_ix3 x⟩
  obtain rfl : z = 0 := Subsingleton.elim _ _
  replace h0 : g.val = k.val + 0 := h0
  replace h1 : e.val = f.val := h1
  replace h2 : d.val = b.val := h2
  obtain rfl : g = k := Fin.ext (by omega)
  obtain rfl : e = f := Fin.ext h1
  obtain rfl : d = b := Fin.ext h2
  subst p
  exact hq e d

theorem saved_piece {N : Fin 4 → St} (k : Fin 4) {p q : S1x1x512x256.Idx → EReal} (e : p = q)
    (hq : ∀ e d, q (ix4 0 0 e d) = ((N k e d : ℝ) : EReal)) (x : S1x1x512x256.Idx) {g : Fin 4} {e : Fin 512} {d : Fin 256}
    (h0 : g.val = k.val + x 1) (h1 : e.val = x 2) (h2 : d.val = x 3) : p x = ((N g e d : ℝ) : EReal) := by
  obtain ⟨y, z, f, b, rfl⟩ : ∃ (y : Fin 1) (z : Fin 1) (f : Fin 512) (b : Fin 256), x = ix4 y z f b := ⟨x 0, x 1, x 2, x 3, eq_ix4 x⟩
  obtain rfl : y = 0 := Subsingleton.elim _ _
  obtain rfl : z = 0 := Subsingleton.elim _ _
  replace h0 : g.val = k.val + 0 := h0
  replace h1 : e.val = f.val := h1
  replace h2 : d.val = b.val := h2
  obtain rfl : g = k := Fin.ext (by omega)
  obtain rfl : e = f := Fin.ext h1
  obtain rfl : d = b := Fin.ext h2
  subst p
  exact hq e d

section
variable {A : Args} (c : Dev nD) (t : Fin cfg0.N) {x0 x1 : Vec Ideal S64x1024 .f32} {x2 : Vec Ideal S64x2048 .f32}
  {x3 : Vec Ideal S64x128 .f32} {x4 : Vec Ideal S128x1024 .bf16} {x5 : Vec Ideal S1x1024 .f32} (H : Holds0 A t.val x0 x1 x2 x3 x4 x5)
include H

section
variable {s : Vec Ideal S4x512x256 .f32} (hs : ∀ h e d, s (ix3 h e d) = ((A.S h t.val e d : ℝ) : EReal)) (h : ¬cond0_0 (grid0.coords t))
include hs

theorem outB_o (g : Fin 4) (a : Fin 64) (e : Fin 512) :
    out0B_0 c t h x0 x1 x2 x3 x4 x5 s (ix2 a (vcol g e)) = ((A.out t.val g a e : ℝ) : EReal) := by
  have V := fout_val t.isLt (coord0 t) H hs
  unfold out0B_0 runAt0B
  frame_open
  frame_out
  simp only [read_unread_whole]
  canon_tiles x hx
  · exact side_piece (N := A.out t.val) 3 (q := fout 3 (grid0.coords t) x0 x1 x2 x3 x4 x5 s) rfl (V 3) x hx0 hx1
  · exact side_piece (N := A.out t.val) 2 (q := fout 2 (grid0.coords t) x0 x1 x2 x3 x4 x5 s) rfl (V 2) x hx0 hx1
  · exact side_piece (N := A.out t.val) 1 (q := fout 1 (grid0.coords t) x0 x1 x2 x3 x4 x5 s) rfl (V 1) x hx0 hx1
  · exact side_piece (N := A.out t.val) 0 (q := fout 0 (grid0.coords t) x0 x1 x2 x3 x4 x5 s) rfl (V 0) x hx0 (by simpa using hx1)

theorem outB_s (g : Fin 4) (e : Fin 512) (d : Fin 256) :
    out0B_2 c t h x0 x1 x2 x3 x4 x5 s (ix3 g e d) = ((A.S g (t.val + 1) e d : ℝ) : EReal) := by
  have V := fnext_val t.isLt (coord0 t) H hs
  unfold out0B_2 runAt0B
  frame_open
  frame_out
  simp only [read_unread_whole]
  canon_tiles x hx
  · exact stack_piece (N := fun g => A.S g (t.val + 1)) 3 (q := fnext 3 (grid0.coords t) x1 x2 x3 x4 x5 s) rfl (V 3) x hx0 hx1 hx2
  · exact stack_piece (N := fun g => A.S g (t.val + 1)) 2 (q := fnext 2 (grid0.coords t) x1 x2 x3 x4 x5 s) rfl (V 2) x hx0 hx1 hx2
  · exact stack_piece (N := fun g => A.S g (t.val + 1)) 1 (q := fnext 1 (grid0.coords t) x1 x2 x3 x4 x5 s) rfl (V 1) x hx0 hx1 hx2
  · exact stack_piece (N := fun g => A.S g (t.val + 1)) 0 (q := fnext 0 (grid0.coords t) x1 x2 x3 x4 x5 s) rfl (V 0) x (by simpa using hx0) hx1 hx2

theorem outB_st (g : Fin 4) (e : Fin 512) (d : Fin 256) :
    out0B_1 c t h x0 x1 x2 x3 x4 x5 s (ix4 0 g e d) = ((A.S g t.val e d : ℝ) : EReal) := by
  have V := fun k : Fin 4 => saved_val (xs := ldS k s) (S := A.S k t.val) (fun e d => (ldS_at k s e d).trans (hs k e d))
  unfold out0B_1 runAt0B
  frame_open
  frame_out
  simp only [read_unread_whole]
  canon_tiles x hx
  · exact saved_piece (N := fun g => A.S g t.val) 3 (q := k0_pay14 (ldS 3 s)) rfl (V 3) x hx1 hx2 hx3
  · exact saved_piece (N := fun g => A.S g t.val) 2 (q := k0_pay14 (ldS 2 s)) rfl (V 2) x hx1 hx2 hx3
  · exact saved_piece (N := fun g => A.S g t.val) 1 (q := k0_pay14 (ldS 1 s)) rfl (V 1) x hx1 hx2 hx3
  · exact saved_piece (N := fun g => A.S g t.val) 0 (q := k0_pay14 (ldS 0 s)) rfl (V 0) x (by simpa using hx1) hx2 hx3
end

/-! At the first chunk the states are zero. -/

section
variable (h0 : t.val = 0) (h : cond0_0 (grid0.coords t))

omit H in
theorem zero_s (g : Fin 4) (e : Fin 512) (d : Fin 256) : k0_pay3 (F := Ideal) (ix3 g e d) = ((0 : ℝ) : EReal) := by
  unfold k0_pay3
  pointwise
  rfl

include h0
omit H in
theorem zero_S (g : Fin 4) (e : Fin 512) (d : Fin 256) : k0_pay3 (F := Ideal) (ix3 g e d) = ((A.S g t.val e d : ℝ) : EReal) := by
  rw [zero_s, h0]
  rfl

theorem outA_o (g : Fin 4) (a : Fin 64) (e : Fin 512) :
    out0A_0 c t h x0 x1 x2 x3 x4 x5 (ix2 a (vcol g e)) = ((A.out t.val g a e : ℝ) : EReal) := by
  have Z := zero_S (A := A) t h0
  unfold out0A_0 runAt0A
  frame_open
  simp (disch := decide) only [↓ View.readCov_skip, ↓ View.readCov_cons_toLoadRect, ↓ View.readCov_fill]
  frame_out
  generalize k0_pay3 (F := Ideal) = zs at Z ⊢
  have V := fout_val t.isLt (coord0 t) H Z
  canon_tiles x hx
  · exact side_piece (N := A.out t.val) 3 (q := fout 3 (grid0.coords t) x0 x1 x2 x3 x4 x5 zs) rfl (V 3) x hx0 hx1
  · exact side_piece (N := A.out t.val) 2 (q := fout 2 (grid0.coords t) x0 x1 x2 x3 x4 x5 zs) rfl (V 2) x hx0 hx1
  · exact side_piece (N := A.out t.val) 1 (q := fout 1 (grid0.coords t) x0 x1 x2 x3 x4 x5 zs) rfl (V 1) x hx0 hx1
  · exact side_piece (N := A.out t.val) 0 (q := fout 0 (grid0.coords t) x0 x1 x2 x3 x4 x5 zs) rfl (V 0) x hx0 (by simpa using hx1)

theorem outA_s (g : Fin 4) (e : Fin 512) (d : Fin 256) :
    out0A_2 c t h x0 x1 x2 x3 x4 x5 (ix3 g e d) = ((A.S g (t.val + 1) e d : ℝ) : EReal) := by
  have Z := zero_S (A := A) t h0
  unfold out0A_2 runAt0A
  frame_open
  simp (disch := decide) only [↓ View.readCov_skip, ↓ View.readCov_cons_toLoadRect, ↓ View.readCov_fill]
  frame_out
  generalize k0_pay3 (F := Ideal) = zs at Z ⊢
  have V := fnext_val t.isLt (coord0 t) H Z
  let G : Vec Ideal S4x512x256 .f32 := fun y => ((A.S (y 0) (t.val + 1) (y 1) (y 2) : ℝ) : EReal)
  refine View.canon_append_of_piecesOf G [_] [_, _, _, _] ⟨fun x => ?_, fun x => ?_, fun x => ?_, fun x => ?_, trivial⟩ (ix3 g e d) ?_
  · exact stack_piece (N := fun g => A.S g (t.val + 1)) 3 (q := fnext 3 (grid0.coords t) x1 x2 x3 x4 x5 zs) rfl (V 3) x (by simp) (by simp) (by simp)
  · exact stack_piece (N := fun g => A.S g (t.val + 1)) 2 (q := fnext 2 (grid0.coords t) x1 x2 x3 x4 x5 zs) rfl (V 2) x (by simp) (by simp) (by simp)
  · exact stack_piece (N := fun g => A.S g (t.val + 1)) 1 (q := fnext 1 (grid0.coords t) x1 x2 x3 x4 x5 zs) rfl (V 1) x (by simp) (by simp) (by simp)
  · exact stack_piece (N := fun g => A.S g (t.val + 1)) 0 (q := fnext 0 (grid0.coords t) x1 x2 x3 x4 x5 zs) rfl (V 0) x (by simp) (by simp) (by simp)
  · exact View.cover_of_tiledL _ ![1, 512, 256] (by sl_kernel_rfl) _

theorem outA_st (g : Fin 4) (e : Fin 512) (d : Fin 256) :
    out0A_1 c t h x0 x1 x2 x3 x4 x5 (ix4 0 g e d) = ((A.S g t.val e d : ℝ) : EReal) := by
  have Z := zero_S (A := A) t h0
  unfold out0A_1 runAt0A
  frame_open
  simp (disch := decide) only [↓ View.readCov_skip, ↓ View.readCov_cons_toLoadRect, ↓ View.readCov_fill]
  frame_out
  generalize k0_pay3 (F := Ideal) = zs at Z ⊢
  have V := fun k : Fin 4 => saved_val (xs := ldS (F := Ideal) k zs) (S := A.S k t.val) (fun e d => (ldS_at (F := Ideal) k zs e d).trans (Z k e d))
  canon_tiles x hx
  · exact saved_piece (N := fun g => A.S g t.val) 3 (q := k0_pay14 (F := Ideal) (ldS (F := Ideal) 3 zs)) rfl (V 3) x hx1 hx2 hx3
  · exact saved_piece (N := fun g => A.S g t.val) 2 (q := k0_pay14 (F := Ideal) (ldS (F := Ideal) 2 zs)) rfl (V 2) x hx1 hx2 hx3
  · exact saved_piece (N := fun g => A.S g t.val) 1 (q := k0_pay14 (F := Ideal) (ldS (F := Ideal) 1 zs)) rfl (V 1) x hx1 hx2 hx3
  · exact saved_piece (N := fun g => A.S g t.val) 0 (q := k0_pay14 (F := Ideal) (ldS (F := Ideal) 0 zs)) rfl (V 0) x (by simpa using hx1) hx2 hx3
end
end

end Cert.GlaKernelIdeal.Head
-- ==== Proof.Gla.Block1.lean ====
module

public import proofs.«01_k».proof.Proof.Gla.Block0
public import proofs.«01_k».proof.Proof.Gla.Region1

/-! One chunk of the backward kernel, all four heads: the block of the gradients' columns, what it adds to the gradients of
    the gate's weights and bias, and the states' gradients it goes on with. -/

@[expose] public section

set_option maxRecDepth 16384

noncomputable section

namespace Cert.GlaKernelIdeal.Head

open Idealize.ShloMosaic Cert.GlaKernelIdeal Cert.GlaKernelIdeal.Gen Cert.GlaKernelIdeal.Run Cert.Gla Cert.Gla.Spec

section
variable {F : FTy → Type} [FloatOps F] (h : Fin 4)

abbrev ldT (x : Vec F S1x4x512x256 .f32) : Vec F S1x1x512x256 .f32 :=
  View.ld x (Rect.unit (s := S1x4x512x256) ![0, h.val, 0, 0] ![1, 1, 512, 256] (by intro a; fin_cases a <;> simp <;> omega))
abbrev ldY (x : Vec F S4x128x256 .f32) : Vec F S1x128x256 .f32 :=
  View.ld x (Rect.unit (s := S4x128x256) ![h.val, 0, 0] ![1, 128, 256] (by intro a; fin_cases a <;> simp <;> omega))
abbrev ldZ (x : Vec F S4x1x256 .f32) : Vec F S1x1x256 .f32 :=
  View.ld x (Rect.unit (s := S4x1x256) ![h.val, 0, 0] ![1, 1, 256] (by intro a; fin_cases a <;> simp <;> omega))

theorem ldT_at (x : Vec F S1x4x512x256 .f32) (e : Fin 512) (d : Fin 256) : ldT h x (ix4 0 0 e d) = x (ix4 0 h e d) :=
  View.ld_unit_apply_of _ _ _ _ _ _ (by intro a; fin_cases a <;> simp)
theorem ldY_at (x : Vec F S4x128x256 .f32) (r : Fin 128) (d : Fin 256) : ldY h x (ix3 0 r d) = x (ix3 h r d) :=
  View.ld_unit_apply_of _ _ _ _ _ _ (by intro a; fin_cases a <;> simp)
theorem ldZ_at (x : Vec F S4x1x256 .f32) (d : Fin 256) : ldZ h x (ix3 0 0 d) = x (ix3 h 0 d) :=
  View.ld_unit_apply_of _ _ _ _ _ _ (by intro a; fin_cases a <;> simp)

variable (x0 x1 : Vec F S64x1024 .f32) (x2 : Vec F S64x2048 .f32) (x3 : Vec F S64x128 .f32) (x4 : Vec F S128x1024 .bf16)
  (x5 : Vec F S1x1024 .f32) (x6 : Vec F S1x4x512x256 .f32) (x7 : Vec F S64x2048 .f32) (s : Vec F S4x512x256 .f32)

/-- What head `h` reads of the blocks. -/
abbrev inAt : In F := ⟨x3, ldW h x4, ldB h x5, ldK h x0, ldK h x1, ldV h x2, ldV h x7, ldT h x6, ldS h s⟩

/-- The gradient of the low-rank rows: the four heads' together. -/
def xlr4 (i : grid1.Coords) : FVec F S64x128 .bf16 :=
  k1_pay3 (addf (addf (addf (xdlr i (inAt 0 x0 x1 x2 x3 x4 x5 x6 x7 s)) (xdlr i (inAt 1 x0 x1 x2 x3 x4 x5 x6 x7 s)))
    (xdlr i (inAt 2 x0 x1 x2 x3 x4 x5 x6 x7 s))) (xdlr i (inAt 3 x0 x1 x2 x3 x4 x5 x6 x7 s)))
end

/-- A row of the block of gradients: of `q`, of `k`, of `v`, the given rows for `r`, and of the low-rank rows. -/
def dpv (A : Args) (n : ℕ) (dr : Fin 64 → Fin 2048 → EReal) (a : Fin 64) (j : Fin 6272) : EReal :=
  if h : j.val < 1024 then ((A.dq n ⟨j.val / 256, by omega⟩ a ⟨j.val % 256, by omega⟩ : ℝ) : EReal)
  else if h : j.val < 2048 then ((A.dk n ⟨(j.val - 1024) / 256, by omega⟩ a ⟨(j.val - 1024) % 256, by omega⟩ : ℝ) : EReal)
  else if h : j.val < 4096 then ((A.dv n ⟨(j.val - 2048) / 512, by omega⟩ a ⟨(j.val - 2048) % 512, by omega⟩ : ℝ) : EReal)
  else if h : j.val < 6144 then dr a ⟨j.val - 4096, by omega⟩
  else ((A.dlr n a ⟨j.val - 6144, by omega⟩ : ℝ) : EReal)

section
variable {A : Args} {n : ℕ} {dr : Fin 64 → Fin 2048 → EReal} (k : Fin 4) {a : Fin 64} {j : Fin 6272}

theorem dq_piece {p q : S64x256.Idx → EReal} (e : p = q) (hq : ∀ a d, q (ix2 a d) = ((A.dq n k a d : ℝ) : EReal)) (x : S64x256.Idx)
    (h0 : a.val = x 0) (h1 : j.val = 256 * k.val + x 1) : p x = dpv A n dr a j := by
  obtain ⟨b, f, rfl⟩ : ∃ (b : Fin 64) (f : Fin 256), x = ix2 b f := ⟨x 0, x 1, eq_ix2 x⟩
  replace h0 : a.val = b.val := h0
  replace h1 : j.val = 256 * k.val + f.val := h1
  obtain rfl : a = b := Fin.ext h0
  subst p
  rw [hq, dpv, dif_pos (by omega)]
  congr 2
  · exact Fin.ext (by show k.val = j.val / 256; omega)
  · exact Fin.ext (by show f.val = j.val % 256; omega)

theorem dk_piece {p q : S64x256.Idx → EReal} (e : p = q) (hq : ∀ a d, q (ix2 a d) = ((A.dk n k a d : ℝ) : EReal)) (x : S64x256.Idx)
    (h0 : a.val = x 0) (h1 : j.val = 1024 + 256 * k.val + x 1) : p x = dpv A n dr a j := by
  obtain ⟨b, f, rfl⟩ : ∃ (b : Fin 64) (f : Fin 256), x = ix2 b f := ⟨x 0, x 1, eq_ix2 x⟩
  replace h0 : a.val = b.val := h0
  replace h1 : j.val = 1024 + 256 * k.val + f.val := h1
  obtain rfl : a = b := Fin.ext h0
  subst p
  rw [hq, dpv, dif_neg (by omega), dif_pos (by omega)]
  congr 2
  · exact Fin.ext (by show k.val = (j.val - 1024) / 256; omega)
  · exact Fin.ext (by show f.val = (j.val - 1024) % 256; omega)

theorem dv_piece {p q : S64x512.Idx → EReal} (e : p = q) (hq : ∀ a d, q (ix2 a d) = ((A.dv n k a d : ℝ) : EReal)) (x : S64x512.Idx)
    (h0 : a.val = x 0) (h1 : j.val = 2048 + 512 * k.val + x 1) : p x = dpv A n dr a j := by
  obtain ⟨b, f, rfl⟩ : ∃ (b : Fin 64) (f : Fin 512), x = ix2 b f := ⟨x 0, x 1, eq_ix2 x⟩
  replace h0 : a.val = b.val := h0
  replace h1 : j.val = 2048 + 512 * k.val + f.val := h1
  obtain rfl : a = b := Fin.ext h0
  subst p
  rw [hq, dpv, dif_neg (by omega), dif_neg (by omega), dif_pos (by omega)]
  congr 2
  · exact Fin.ext (by show k.val = (j.val - 2048) / 512; omega)
  · exact Fin.ext (by show f.val = (j.val - 2048) % 512; omega)

theorem dr_piece {p q : S64x2048.Idx → EReal} (e : p = q) (hq : ∀ a d, q (ix2 a d) = dr a d) (x : S64x2048.Idx)
    (h0 : a.val = x 0) (h1 : j.val = 4096 + x 1) : p x = dpv A n dr a j := by
  obtain ⟨b, f, rfl⟩ : ∃ (b : Fin 64) (f : Fin 2048), x = ix2 b f := ⟨x 0, x 1, eq_ix2 x⟩
  replace h0 : a.val = b.val := h0
  replace h1 : j.val = 4096 + f.val := h1
  obtain rfl : a = b := Fin.ext h0
  subst p
  rw [hq, dpv, dif_neg (by omega), dif_neg (by omega), dif_neg (by omega), dif_pos (by omega)]
  have e : f = ⟨j.val - 4096, by omega⟩ := Fin.ext (Nat.eq_sub_of_add_eq (by omega))
  exact congrArg (dr a) e

theorem dlr_piece {p q : S64x128.Idx → EReal} (e : p = q) (hq : ∀ a d, q (ix2 a d) = ((A.dlr n a d : ℝ) : EReal)) (x : S64x128.Idx)
    (h0 : a.val = x 0) (h1 : j.val = 6144 + x 1) : p x = dpv A n dr a j := by
  obtain ⟨b, f, rfl⟩ : ∃ (b : Fin 64) (f : Fin 128), x = ix2 b f := ⟨x 0, x 1, eq_ix2 x⟩
  replace h0 : a.val = b.val := h0
  replace h1 : j.val = 6144 + f.val := h1
  obtain rfl : a = b := Fin.ext h0
  subst p
  rw [hq, dpv, dif_neg (by omega), dif_neg (by omega), dif_neg (by omega), dif_neg (by omega)]
  have e : f = ⟨j.val - 6144, by omega⟩ := Fin.ext (Nat.eq_sub_of_add_eq (by omega))
  exact congrArg (fun f => ((A.dlr n a f : ℝ) : EReal)) e

theorem dw_piece {N : Fin 4 → Fin 128 → Fin 256 → ℝ} {p q : S1x128x256.Idx → EReal} (e : p = q)
    (hq : ∀ r d, q (ix3 0 r d) = ((N k r d : ℝ) : EReal)) (x : S1x128x256.Idx) {g : Fin 4} {r : Fin 128} {d : Fin 256}
    (h0 : g.val = k.val + x 0) (h1 : r.val = x 1) (h2 : d.val = x 2) : p x = ((N g r d : ℝ) : EReal) := by
  obtain ⟨z, f, b, rfl⟩ : ∃ (z : Fin 1) (f : Fin 128) (b : Fin 256), x = ix3 z f b := ⟨x 0, x 1, x 2, eq_ix3 x⟩
  obtain rfl : z = 0 := Subsingleton.elim _ _
  replace h0 : g.val = k.val + 0 := h0
  replace h1 : r.val = f.val := h1
  replace h2 : d.val = b.val := h2
  obtain rfl : g = k := Fin.ext (by omega)
  obtain rfl : r = f := Fin.ext h1
  obtain rfl : d = b := Fin.ext h2
  subst p
  exact hq r d

theorem db_piece {N : Fin 4 → Fin 256 → ℝ} {p q : S1x1x256.Idx → EReal} (e : p = q)
    (hq : ∀ d, q (ix3 0 0 d) = ((N k d : ℝ) : EReal)) (x : S1x1x256.Idx) {g : Fin 4} {d : Fin 256}
    (h0 : g.val = k.val + x 0) (h2 : d.val = x 2) : p x = ((N g d : ℝ) : EReal) := by
  obtain ⟨z, f, b, rfl⟩ : ∃ (z : Fin 1) (f : Fin 1) (b : Fin 256), x = ix3 z f b := ⟨x 0, x 1, x 2, eq_ix3 x⟩
  obtain rfl : z = 0 := Subsingleton.elim _ _
  obtain rfl : f = 0 := Subsingleton.elim _ _
  replace h0 : g.val = k.val + 0 := h0
  replace h2 : d.val = b.val := h2
  obtain rfl : g = k := Fin.ext (by omega)
  obtain rfl : d = b := Fin.ext h2
  subst p
  exact hq d
end

/-- The blocks of the backward kernel at chunk `n` hold the arguments' numbers and the states saved by the forward kernel. -/
structure Holds1 (A : Args) (n : ℕ) (dr : Fin 64 → Fin 2048 → EReal) (x0 x1 : Vec Ideal S64x1024 .f32) (x2 : Vec Ideal S64x2048 .f32)
    (x3 : Vec Ideal S64x128 .f32) (x4 : Vec Ideal S128x1024 .bf16) (x5 : Vec Ideal S1x1024 .f32) (x6 : Vec Ideal S1x4x512x256 .f32)
    (x7 : Vec Ideal S64x2048 .f32) (x8 : Vec Ideal S64x2048 .bf16) : Prop where
  fwd : Holds0 A n x0 x1 x2 x3 x4 x5
  S : ∀ h e d, x6 (ix4 0 h e d) = ((A.S h n e d : ℝ) : EReal)
  o : ∀ h a e, x7 (ix2 a (vcol h e)) = ((A.o n h a e : ℝ) : EReal)
  dr : ∀ a j, x8 (ix2 a j) = dr a j

theorem coord1 : ∀ t : Fin cfg1.N, (grid1.coords t 0).val = t.val := (by decide +kernel : ∀ t : Fin grid1.N, _)

section
variable {A : Args} {n : ℕ} {dr : Fin 64 → Fin 2048 → EReal} {x0 x1 : Vec Ideal S64x1024 .f32} {x2 : Vec Ideal S64x2048 .f32}
  {x3 : Vec Ideal S64x128 .f32} {x4 : Vec Ideal S128x1024 .bf16} {x5 : Vec Ideal S1x1024 .f32} {x6 : Vec Ideal S1x4x512x256 .f32}
  {x7 : Vec Ideal S64x2048 .f32} {x8 : Vec Ideal S64x2048 .bf16} (H : Holds1 A n dr x0 x1 x2 x3 x4 x5 x6 x7 x8)
  {s : Vec Ideal S4x512x256 .f32} (hs : ∀ h e d, s (ix3 h e d) = ((A.D h (32 - n) e d : ℝ) : EReal))
include H hs

theorem inAt_holds (h : Fin 4) : Holds (inAt h x0 x1 x2 x3 x4 x5 x6 x7 s) (A.lr n) (A.w h) (A.b h) (A.q n h) (A.k n h) (A.v n h) (A.o n h)
    (A.S h n) (A.D h (32 - n)) where
  lr := H.fwd.lr
  w r d := (ldW_at h x4 r d).trans (H.fwd.w h r d)
  b d := (ldB_at h x5 d).trans (H.fwd.b h d)
  q a d := (congrArg (· * ((1 / 16 : ℝ) : EReal)) (ldK_at h x0 a d)).trans (H.fwd.q h a d)
  k a d := (ldK_at h x1 a d).trans (H.fwd.k h a d)
  v a e := (ldV_at h x2 a e).trans (H.fwd.v h a e)
  o a e := (ldV_at h x7 a e).trans (H.o h a e)
  S e d := (ldT_at h x6 e d).trans (H.S h e d)
  D e d := (ldS_at h s e d).trans (hs h e d)

variable {i : grid1.Coords} (hn : n < 33) (hi : (i 0).val = 32 - n)
include hn hi

theorem xlr4_val (a : Fin 64) (r : Fin 128) : xlr4 x0 x1 x2 x3 x4 x5 x6 x7 s i (ix2 a r) = ((A.dlr n a r : ℝ) : EReal) := by
  have h := fun g : Fin 4 => xdlr_val hn hi (inAt_holds H hs g) a r
  unfold xlr4 k1_pay3
  pointwise
  rw [h 0, h 1, h 2, h 3]
  unfold Args.dlr
  rw [Fin.sum_univ_four, EReal.coe_add, EReal.coe_add, EReal.coe_add]
  rfl

omit hn hi
omit H hs in
/-- One step of the states' gradients back, at chunk `n`. -/
theorem D_succ (hn : n < 33) (g : Fin 4) : A.D g (32 - n + 1) = prev (A.g n g) (A.q n g) (A.o n g) (A.D g (32 - n)) := by
  show prev _ _ _ _ = _
  rw [show 32 - (32 - n) = n by omega]

section
variable (c : Dev nD) (t : Fin cfg1.N) (hn : n < 33) (ht : t.val = 32 - n)
include hn ht

section
variable (h : ¬cond1_0 (grid1.coords t))

theorem outB_dp {y1 : Vec Ideal S4x128x256 .f32} {y2 : Vec Ideal S4x1x256 .f32} (a : Fin 64) (j : Fin 6272) :
    out1B_0 c t h x0 x1 x2 x3 x4 x5 x6 x7 x8 y1 y2 s (ix2 a j) = dpv A n dr a j := by
  have hi : (grid1.coords t 0).val = 32 - n := (coord1 t).trans ht
  unfold out1B_0 runAt1B
  frame_open
  frame_out
  simp only [read_unread_whole]
  have I := inAt_holds H hs
  have Q := fun g => xdq_val hn hi (I g)
  have K := fun g => xdk_val hn hi (I g)
  have V := fun g => xdv_val hn hi (I g)
  have L := xlr4_val H hs hn hi
  let J := fun g => inAt g x0 x1 x2 x3 x4 x5 x6 x7 s
  have R : ∀ a j, k1_pay2 x8 (ix2 a j) = dr a j := fun a j => by
    unfold k1_pay2
    pointwise
    exact H.dr a j
  canon_tiles x hx using (View.cover_of_tiledBy _ ![64, 128] (by sl_kernel_rfl) _)
  · exact dlr_piece (q := xlr4 x0 x1 x2 x3 x4 x5 x6 x7 s (grid1.coords t)) rfl L x hx0 hx1
  · exact dr_piece (q := k1_pay2 x8) rfl R x hx0 hx1
  · exact dk_piece 3 (q := xdk (grid1.coords t) (J 3)) rfl (K 3) x hx0 hx1
  · exact dq_piece 3 (q := xdq (grid1.coords t) (J 3)) rfl (Q 3) x hx0 hx1
  · exact dv_piece 3 (q := xdv (grid1.coords t) (J 3)) rfl (V 3) x hx0 hx1
  · exact dk_piece 2 (q := xdk (grid1.coords t) (J 2)) rfl (K 2) x hx0 hx1
  · exact dq_piece 2 (q := xdq (grid1.coords t) (J 2)) rfl (Q 2) x hx0 hx1
  · exact dv_piece 2 (q := xdv (grid1.coords t) (J 2)) rfl (V 2) x hx0 hx1
  · exact dk_piece 1 (q := xdk (grid1.coords t) (J 1)) rfl (K 1) x hx0 hx1
  · exact dq_piece 1 (q := xdq (grid1.coords t) (J 1)) rfl (Q 1) x hx0 hx1
  · exact dv_piece 1 (q := xdv (grid1.coords t) (J 1)) rfl (V 1) x hx0 hx1
  · exact dk_piece 0 (q := xdk (grid1.coords t) (J 0)) rfl (K 0) x hx0 hx1
  · exact dq_piece 0 (q := xdq (grid1.coords t) (J 0)) rfl (Q 0) x hx0 (by simpa using hx1)
  · exact dv_piece 0 (q := xdv (grid1.coords t) (J 0)) rfl (V 0) x hx0 hx1

theorem outB_dw {y1 : Vec Ideal S4x128x256 .f32} {y2 : Vec Ideal S4x1x256 .f32} {Y : Fin 4 → Fin 128 → Fin 256 → ℝ}
    (hy : ∀ g r d, y1 (ix3 g r d) = ((Y g r d : ℝ) : EReal)) (g : Fin 4) (r : Fin 128) (d : Fin 256) :
    out1B_1 c t h x0 x1 x2 x3 x4 x5 x6 x7 x8 y1 y2 s (ix3 g r d) = ((Y g r d + A.dwAt n g r d : ℝ) : EReal) := by
  have hi : (grid1.coords t 0).val = 32 - n := (coord1 t).trans ht
  unfold out1B_1 runAt1B
  frame_open
  frame_out
  simp only [read_unread_whole]
  have I := inAt_holds H hs
  have V := fun g => xdw_val hn hi (I g) (fun r d => (ldY_at g y1 r d).trans (hy g r d))
  let J := fun g => inAt g x0 x1 x2 x3 x4 x5 x6 x7 s
  canon_tiles x hx
  · exact dw_piece (N := fun g r d => Y g r d + A.dwAt n g r d) 3 (q := xdw (grid1.coords t) (J 3) (ldY 3 y1)) rfl (V 3) x hx0 hx1 hx2
  · exact dw_piece (N := fun g r d => Y g r d + A.dwAt n g r d) 2 (q := xdw (grid1.coords t) (J 2) (ldY 2 y1)) rfl (V 2) x hx0 hx1 hx2
  · exact dw_piece (N := fun g r d => Y g r d + A.dwAt n g r d) 1 (q := xdw (grid1.coords t) (J 1) (ldY 1 y1)) rfl (V 1) x hx0 hx1 hx2
  · exact dw_piece (N := fun g r d => Y g r d + A.dwAt n g r d) 0 (q := xdw (grid1.coords t) (J 0) (ldY 0 y1)) rfl (V 0) x (by simpa using hx0) hx1 hx2

theorem outB_db {y1 : Vec Ideal S4x128x256 .f32} {y2 : Vec Ideal S4x1x256 .f32} {Y : Fin 4 → Fin 256 → ℝ}
    (hy : ∀ g d, y2 (ix3 g 0 d) = ((Y g d : ℝ) : EReal)) (g : Fin 4) (d : Fin 256) :
    out1B_2 c t h x0 x1 x2 x3 x4 x5 x6 x7 x8 y1 y2 s (ix3 g 0 d) = ((Y g d + A.dbAt n g d : ℝ) : EReal) := by
  have hi : (grid1.coords t 0).val = 32 - n := (coord1 t).trans ht
  unfold out1B_2 runAt1B
  frame_open
  frame_out
  simp only [read_unread_whole]
  have I := inAt_holds H hs
  have V := fun g => xdbias_val hn hi (I g) (fun d => (ldZ_at g y2 d).trans (hy g d))
  let J := fun g => inAt g x0 x1 x2 x3 x4 x5 x6 x7 s
  canon_tiles x hx
  · exact db_piece (N := fun g d => Y g d + A.dbAt n g d) 3 (q := xdbias (grid1.coords t) (J 3) (ldZ 3 y2)) rfl (V 3) x hx0 hx2
  · exact db_piece (N := fun g d => Y g d + A.dbAt n g d) 2 (q := xdbias (grid1.coords t) (J 2) (ldZ 2 y2)) rfl (V 2) x hx0 hx2
  · exact db_piece (N := fun g d => Y g d + A.dbAt n g d) 1 (q := xdbias (grid1.coords t) (J 1) (ldZ 1 y2)) rfl (V 1) x hx0 hx2
  · exact db_piece (N := fun g d => Y g d + A.dbAt n g d) 0 (q := xdbias (grid1.coords t) (J 0) (ldZ 0 y2)) rfl (V 0) x (by simpa using hx0) hx2

theorem outB_S {y1 : Vec Ideal S4x128x256 .f32} {y2 : Vec Ideal S4x1x256 .f32} (g : Fin 4) (e : Fin 512) (d : Fin 256) :
    out1B_3 c t h x0 x1 x2 x3 x4 x5 x6 x7 x8 y1 y2 s (ix3 g e d) = ((A.D g (32 - n + 1) e d : ℝ) : EReal) := by
  have hi : (grid1.coords t 0).val = 32 - n := (coord1 t).trans ht
  unfold out1B_3 runAt1B
  frame_open
  frame_out
  simp only [read_unread_whole]
  have I := inAt_holds H hs
  have V : ∀ g e d, xdS (grid1.coords t) (inAt g x0 x1 x2 x3 x4 x5 x6 x7 s) (ix3 0 e d) = ((A.D g (32 - n + 1) e d : ℝ) : EReal) :=
    fun g e d => (xdS_val hn hi (I g) e d).trans (congrArg (fun D : St => ((D e d : ℝ) : EReal)) (D_succ (A := A) hn g).symm)
  let J := fun g => inAt g x0 x1 x2 x3 x4 x5 x6 x7 s
  canon_tiles x hx
  · exact stack_piece (N := fun g => A.D g (32 - n + 1)) 3 (q := xdS (grid1.coords t) (J 3)) rfl (V 3) x hx0 hx1 hx2
  · exact stack_piece (N := fun g => A.D g (32 - n + 1)) 2 (q := xdS (grid1.coords t) (J 2)) rfl (V 2) x hx0 hx1 hx2
  · exact stack_piece (N := fun g => A.D g (32 - n + 1)) 1 (q := xdS (grid1.coords t) (J 1)) rfl (V 1) x hx0 hx1 hx2
  · exact stack_piece (N := fun g => A.D g (32 - n + 1)) 0 (q := xdS (grid1.coords t) (J 0)) rfl (V 0) x (by simpa using hx0) hx1 hx2
end

/-! At the first point, the last chunk, everything carried is zero. -/
omit H hs hn ht in
theorem zero_D (h0 : n = 32) (g : Fin 4) (e : Fin 512) (d : Fin 256) : k1_pay4 (F := Ideal) (ix3 g e d) = ((A.D g (32 - n) e d : ℝ) : EReal) := by
  subst h0
  unfold k1_pay4
  pointwise
  rfl

omit H hs hn ht in
theorem zero_y1 (g : Fin 4) (r : Fin 128) (d : Fin 256) : k1_pay5 (F := Ideal) (ix3 g r d) = ((0 : ℝ) : EReal) := by
  unfold k1_pay5
  pointwise
  rfl

omit H hs hn ht in
theorem zero_y2 (g : Fin 4) (d : Fin 256) : k1_pay6 (F := Ideal) (ix3 g 0 d) = ((0 : ℝ) : EReal) := by
  unfold k1_pay6
  pointwise
  rfl

omit hs
section
variable (h : cond1_0 (grid1.coords t)) (h0 : n = 32)
include h0

theorem outA_dp (a : Fin 64) (j : Fin 6272) :
    out1A_0 c t h x0 x1 x2 x3 x4 x5 x6 x7 x8 (ix2 a j) = dpv A n dr a j := by
  have hi : (grid1.coords t 0).val = 32 - n := (coord1 t).trans ht
  unfold out1A_0 runAt1A
  frame_open
  simp (disch := decide) only [↓ View.readCov_skip, ↓ View.readCov_cons_toLoadRect, ↓ View.readCov_fill]
  frame_out
  have hs := zero_D (A := A) (n := n) h0
  generalize k1_pay4 (F := Ideal) = s at hs ⊢
  replace hs : ∀ h e d, (s : Vec Ideal S4x512x256 .f32) (ix3 h e d) = ((A.D h (32 - n) e d : ℝ) : EReal) := hs
  have I := inAt_holds H hs
  have Q := fun g => xdq_val hn hi (I g)
  have K := fun g => xdk_val hn hi (I g)
  have V := fun g => xdv_val hn hi (I g)
  have L := xlr4_val H hs hn hi
  let J := fun g => inAt g x0 x1 x2 x3 x4 x5 x6 x7 s
  have R : ∀ a j, k1_pay2 x8 (ix2 a j) = dr a j := fun a j => by
    unfold k1_pay2
    pointwise
    exact H.dr a j
  canon_tiles x hx using (View.cover_of_tiledBy _ ![64, 128] (by sl_kernel_rfl) _)
  · exact dlr_piece (q := xlr4 x0 x1 x2 x3 x4 x5 x6 x7 s (grid1.coords t)) rfl L x hx0 hx1
  · exact dr_piece (q := k1_pay2 x8) rfl R x hx0 hx1
  · exact dk_piece 3 (q := xdk (grid1.coords t) (J 3)) rfl (K 3) x hx0 hx1
  · exact dq_piece 3 (q := xdq (grid1.coords t) (J 3)) rfl (Q 3) x hx0 hx1
  · exact dv_piece 3 (q := xdv (grid1.coords t) (J 3)) rfl (V 3) x hx0 hx1
  · exact dk_piece 2 (q := xdk (grid1.coords t) (J 2)) rfl (K 2) x hx0 hx1
  · exact dq_piece 2 (q := xdq (grid1.coords t) (J 2)) rfl (Q 2) x hx0 hx1
  · exact dv_piece 2 (q := xdv (grid1.coords t) (J 2)) rfl (V 2) x hx0 hx1
  · exact dk_piece 1 (q := xdk (grid1.coords t) (J 1)) rfl (K 1) x hx0 hx1
  · exact dq_piece 1 (q := xdq (grid1.coords t) (J 1)) rfl (Q 1) x hx0 hx1
  · exact dv_piece 1 (q := xdv (grid1.coords t) (J 1)) rfl (V 1) x hx0 hx1
  · exact dk_piece 0 (q := xdk (grid1.coords t) (J 0)) rfl (K 0) x hx0 hx1
  · exact dq_piece 0 (q := xdq (grid1.coords t) (J 0)) rfl (Q 0) x hx0 (by simpa using hx1)
  · exact dv_piece 0 (q := xdv (grid1.coords t) (J 0)) rfl (V 0) x hx0 hx1

theorem outA_dw (g : Fin 4) (r : Fin 128) (d : Fin 256) :
    out1A_1 c t h x0 x1 x2 x3 x4 x5 x6 x7 x8 (ix3 g r d) = ((A.dwAt n g r d : ℝ) : EReal) := by
  have hi : (grid1.coords t 0).val = 32 - n := (coord1 t).trans ht
  unfold out1A_1 runAt1A
  frame_open
  simp (disch := decide) only [↓ View.readCov_skip, ↓ View.readCov_cons_toLoadRect, ↓ View.readCov_fill]
  frame_out
  have hs := zero_D (A := A) (n := n) h0
  generalize k1_pay4 (F := Ideal) = s at hs ⊢
  replace hs : ∀ h e d, (s : Vec Ideal S4x512x256 .f32) (ix3 h e d) = ((A.D h (32 - n) e d : ℝ) : EReal) := hs
  have hy := zero_y1
  generalize k1_pay5 (F := Ideal) = y1 at hy ⊢
  have I := inAt_holds H hs
  have V := fun g => xdw_val hn hi (I g) (y := ldY (F := Ideal) g y1) (Y := fun _ _ => 0) (fun r d => (ldY_at (F := Ideal) g y1 r d).trans (hy g r d))
  let J := fun g => inAt g x0 x1 x2 x3 x4 x5 x6 x7 s
  rw [← zero_add (A.dwAt n g r d)]
  let G : Vec Ideal S4x128x256 .f32 := fun y => ((0 + A.dwAt n (y 0) (y 1) (y 2) : ℝ) : EReal)
  refine View.canon_append_of_piecesOf G [_] [_, _, _, _] ⟨fun x => ?_, fun x => ?_, fun x => ?_, fun x => ?_, trivial⟩ (ix3 g r d) ?_
  · exact dw_piece (N := fun g r d => (0 : ℝ) + A.dwAt n g r d) 3 (q := xdw (grid1.coords t) (J 3) (ldY (F := Ideal) 3 y1)) rfl (V 3) x (by simp) (by simp) (by simp)
  · exact dw_piece (N := fun g r d => (0 : ℝ) + A.dwAt n g r d) 2 (q := xdw (grid1.coords t) (J 2) (ldY (F := Ideal) 2 y1)) rfl (V 2) x (by simp) (by simp) (by simp)
  · exact dw_piece (N := fun g r d => (0 : ℝ) + A.dwAt n g r d) 1 (q := xdw (grid1.coords t) (J 1) (ldY (F := Ideal) 1 y1)) rfl (V 1) x (by simp) (by simp) (by simp)
  · exact dw_piece (N := fun g r d => (0 : ℝ) + A.dwAt n g r d) 0 (q := xdw (grid1.coords t) (J 0) (ldY (F := Ideal) 0 y1)) rfl (V 0) x (by simp) (by simp) (by simp)
  · exact View.cover_of_tiledL _ ![1, 128, 256] (by sl_kernel_rfl) _

theorem outA_db (g : Fin 4) (d : Fin 256) :
    out1A_2 c t h x0 x1 x2 x3 x4 x5 x6 x7 x8 (ix3 g 0 d) = ((A.dbAt n g d : ℝ) : EReal) := by
  have hi : (grid1.coords t 0).val = 32 - n := (coord1 t).trans ht
  unfold out1A_2 runAt1A
  frame_open
  simp (disch := decide) only [↓ View.readCov_skip, ↓ View.readCov_cons_toLoadRect, ↓ View.readCov_fill]
  frame_out
  have hs := zero_D (A := A) (n := n) h0
  generalize k1_pay4 (F := Ideal) = s at hs ⊢
  replace hs : ∀ h e d, (s : Vec Ideal S4x512x256 .f32) (ix3 h e d) = ((A.D h (32 - n) e d : ℝ) : EReal) := hs
  have hy := zero_y2
  generalize k1_pay6 (F := Ideal) = y2 at hy ⊢
  have I := inAt_holds H hs
  have V := fun g => xdbias_val hn hi (I g) (y := ldZ (F := Ideal) g y2) (Y := fun _ => 0) (fun d => (ldZ_at (F := Ideal) g y2 d).trans (hy g d))
  let J := fun g => inAt g x0 x1 x2 x3 x4 x5 x6 x7 s
  rw [← zero_add (A.dbAt n g d)]
  let G : Vec Ideal S4x1x256 .f32 := fun y => ((0 + A.dbAt n (y 0) (y 2) : ℝ) : EReal)
  refine View.canon_append_of_piecesOf G [_] [_, _, _, _] ⟨fun x => ?_, fun x => ?_, fun x => ?_, fun x => ?_, trivial⟩ (ix3 g 0 d) ?_
  · exact db_piece (N := fun g d => (0 : ℝ) + A.dbAt n g d) 3 (q := xdbias (grid1.coords t) (J 3) (ldZ (F := Ideal) 3 y2)) rfl (V 3) x (by simp) (by simp)
  · exact db_piece (N := fun g d => (0 : ℝ) + A.dbAt n g d) 2 (q := xdbias (grid1.coords t) (J 2) (ldZ (F := Ideal) 2 y2)) rfl (V 2) x (by simp) (by simp)
  · exact db_piece (N := fun g d => (0 : ℝ) + A.dbAt n g d) 1 (q := xdbias (grid1.coords t) (J 1) (ldZ (F := Ideal) 1 y2)) rfl (V 1) x (by simp) (by simp)
  · exact db_piece (N := fun g d => (0 : ℝ) + A.dbAt n g d) 0 (q := xdbias (grid1.coords t) (J 0) (ldZ (F := Ideal) 0 y2)) rfl (V 0) x (by simp) (by simp)
  · exact View.cover_of_tiledL _ ![1, 1, 256] (by sl_kernel_rfl) _

theorem outA_S (g : Fin 4) (e : Fin 512) (d : Fin 256) :
    out1A_3 c t h x0 x1 x2 x3 x4 x5 x6 x7 x8 (ix3 g e d) = ((A.D g (32 - n + 1) e d : ℝ) : EReal) := by
  have hi : (grid1.coords t 0).val = 32 - n := (coord1 t).trans ht
  unfold out1A_3 runAt1A
  frame_open
  simp (disch := decide) only [↓ View.readCov_skip, ↓ View.readCov_cons_toLoadRect, ↓ View.readCov_fill]
  frame_out
  have hs := zero_D (A := A) (n := n) h0
  generalize k1_pay4 (F := Ideal) = s at hs ⊢
  replace hs : ∀ h e d, (s : Vec Ideal S4x512x256 .f32) (ix3 h e d) = ((A.D h (32 - n) e d : ℝ) : EReal) := hs
  have I := inAt_holds H hs
  have V : ∀ g e d, xdS (grid1.coords t) (inAt g x0 x1 x2 x3 x4 x5 x6 x7 s) (ix3 0 e d) = ((A.D g (32 - n + 1) e d : ℝ) : EReal) :=
    fun g e d => (xdS_val hn hi (I g) e d).trans (congrArg (fun D : St => ((D e d : ℝ) : EReal)) (D_succ (A := A) hn g).symm)
  let J := fun g => inAt g x0 x1 x2 x3 x4 x5 x6 x7 s
  let G : Vec Ideal S4x512x256 .f32 := fun y => ((A.D (y 0) (32 - n + 1) (y 1) (y 2) : ℝ) : EReal)
  refine View.canon_append_of_piecesOf G [_] [_, _, _, _] ⟨fun x => ?_, fun x => ?_, fun x => ?_, fun x => ?_, trivial⟩ (ix3 g e d) ?_
  · exact stack_piece (N := fun g => A.D g (32 - n + 1)) 3 (q := xdS (grid1.coords t) (J 3)) rfl (V 3) x (by simp) (by simp) (by simp)
  · exact stack_piece (N := fun g => A.D g (32 - n + 1)) 2 (q := xdS (grid1.coords t) (J 2)) rfl (V 2) x (by simp) (by simp) (by simp)
  · exact stack_piece (N := fun g => A.D g (32 - n + 1)) 1 (q := xdS (grid1.coords t) (J 1)) rfl (V 1) x (by simp) (by simp) (by simp)
  · exact stack_piece (N := fun g => A.D g (32 - n + 1)) 0 (q := xdS (grid1.coords t) (J 0)) rfl (V 0) x (by simp) (by simp) (by simp)
  · exact View.cover_of_tiledL _ ![1, 512, 256] (by sl_kernel_rfl) _
end
end
end

end Cert.GlaKernelIdeal.Head
-- ==== Proof.Gla.Arr0.lean ====
module

public import proofs.«01_k».proof.Proof.Gla.Block1
public import proofs.«01_k».proof.Proof.Gla.Launch
public import Idealize.ShloMosaic.Lib.Pipeline.ValueKit
public import Idealize.ShloMosaic.Lib.StableHlo.ReadAt

/-! What the forward region leaves in its two results: the recurrence's output and the state before each chunk. -/

@[expose] public section

set_option maxRecDepth 16384

noncomputable section

namespace Cert.GlaKernelIdeal.Arr

open Cert.GlaKernelIdeal Cert.GlaKernelIdeal.Head Idealize.ShloMosaic Idealize.ShloMosaic.TcCoe Idealize.SL.Sem Cert.Gla Cert.Gla.Spec
open Cert.GlaKernelIdeal.Gen hiding adm segs V1 V2 V3 V4 V1_of V2_of V3_of V4_of
open Cert.GlaKernelIdeal.Run hiding adm
open Idealize.ShloMosaic.Pipeline (Dat)

variable (m : (ℓ : Loc nD τ sig) → Buf (Elt Ideal) ℓ) (c : Dev nD)

/-- The arguments hold these numbers. -/
structure Mem (A : Args) (r : Fin 2064 → Fin 2048 → EReal) : Prop where
  P : ∀ i j, (m ((c.tc : Thread nD τ).loc main_arg0) : S2064x6160.Idx → EReal) (ix2 i j) = ((A.P i j : ℝ) : EReal)
  W : ∀ i j, (m ((c.tc : Thread nD τ).loc main_arg1) : S16x1024.Idx → EReal) (ix2 i j) = ((A.W i j : ℝ) : EReal)
  B : ∀ j, (m ((c.tc : Thread nD τ).loc main_arg2) : S1024.Idx → EReal) (ix1 j) = ((A.B j : ℝ) : EReal)
  O : ∀ i j, (m ((c.tc : Thread nD τ).loc main_arg3) : S2064x2048.Idx → EReal) (ix2 i j) = ((A.O i j : ℝ) : EReal)
  r : ∀ i j, (m ((c.tc : Thread nD τ).loc main_arg4) : S2064x2048.Idx → EReal) (ix2 i j) = r i j

/-- The columns of the projections as the kernels take them: those of `q`, `k`, `v`, those of `r`, the low-rank ones and zeros. -/
def col (A : Args) (i : Fin 2064) (j : Fin 6272) : ℝ :=
  if h : j.val < 4096 then A.P i ⟨j.val, by omega⟩
  else if h : j.val < 6144 then A.P i ⟨j.val + 16, by omega⟩
  else if h : j.val < 6160 then A.P i ⟨j.val - 2048, by omega⟩
  else 0

variable {m c} {A : Args} {r : Fin 2064 → Fin 2048 → EReal} (M : Mem m c A r)
include M

theorem v9_at (i : Fin 2112) (j : Fin 6272) :
    (V1 m c main_v9 : S2112x6272.Idx → EReal) (ix2 i j) = ((if h : i.val < 48 then 0 else col A ⟨i.val - 48, by omega⟩ j : ℝ) : EReal) := by
  have h := M.P
  unfold V1 W1
  after_reads_at
  after_reads_at
  pointwise
  split
  · rfl
  · unfold col
    split
    · exact h _ _
    split
    · rw [dif_pos (by omega)]
      refine (h _ _).trans (congrArg (fun j => ((A.P _ j : ℝ) : EReal)) (Fin.ext ?_))
      show 4112 + (j.val - 4096) = j.val + 16
      omega
    split
    · rw [dif_neg (by omega), dif_pos (by omega)]
      refine (h _ _).trans (congrArg (fun j => ((A.P _ j : ℝ) : EReal)) (Fin.ext ?_))
      show 4096 + (j.val - 4096 - 2048) = j.val - 2048
      omega
    · rw [dif_neg (by omega), dif_neg (by omega)]
      rfl

theorem v7_at (r : Fin 128) (j : Fin 1024) :
    (V1 m c main_v7 : S128x1024.Idx → EReal) (ix2 r j) = ((if h : r.val < 16 then A.W ⟨r.val, h⟩ j else 0 : ℝ) : EReal) := by
  have h := M.W
  unfold V1 W1
  after_reads_at
  pointwise
  split
  · exact h _ _
  · rfl

theorem v10_at (j : Fin 1024) : (V1 m c main_v10 : S1x1024.Idx → EReal) (ix2 0 j) = ((A.B j : ℝ) : EReal) := by
  have h := M.B
  unfold V1 W1
  after_reads_at
  pointwise
  exact h _

omit M in
theorem X0_at {F : FTy → Type} [FloatOps F] (V : (c : Dev nD) → (b : Ref sig .tc) → Buf (Elt F) ((c : Thread nD τ).loc b)) (c : Dev nD) (w : Fin cfg0.W)
    (t : Fin cfg0.N) (j : (cfg0.win w).block.Idx) : ∃ y : ((cfg0.win w).xblock (cfg0.grid.coords t)).Idx, (∀ a, (y a).val = (j a).val) ∧
      X0 V c w t j = ((cfg0.win w).blk t).view.read (Elt F) (V c (Pipeline.arrRef spec0 w)) y := by
  refine ⟨fun a => ⟨(j a).val, ((cfg0.win w).moved_iff _ j).mp (moved0 w t j) a⟩, fun a => rfl, ?_⟩
  unfold X0 Pipeline.Window.fill
  rw [dif_pos (moved0 w t j)]

omit M in
theorem idx0 : ∀ t : Fin cfg0.N, win0_0.index t = ![t.val, 0] ∧ win0_1.index t = ![t.val, 1] ∧ win0_2.index t = ![t.val, 1]
    ∧ win0_3.index t = ![t.val, 48] ∧ win0_4.index t = ![0, 0] ∧ win0_5.index t = ![0, 0] ∧ win0_6.index t = ![t.val, 0] ∧ win0_7.index t = ![t.val, 0, 0, 0] :=
  (by decide +kernel : ∀ t : Fin grid0.N, _)

/-- The row of the array at row `a` of block `n`. -/
abbrev row (n : ℕ) (hn : n < 33) (a : Fin 64) : Fin 2112 := ⟨n * 64 + a.val, by omega⟩

omit M in
theorem lt0 (t : Fin cfg0.N) : t.val < 33 := lt_of_lt_of_eq t.isLt N_0

section
variable (V : (c : Dev nD) → (b : Ref sig .tc) → Buf (Elt Ideal) ((c : Thread nD τ).loc b)) (t : Fin cfg0.N)
omit M

theorem X0_0 (a : Fin 64) (j : Fin 1024) :
    (X0 V c 0 t : S64x1024.Idx → EReal) (ix2 a j) = (V c main_v9 : S2112x6272.Idx → EReal) (ix2 (row t.val (lt0 t) a) ⟨j.val, by omega⟩) := by
  obtain ⟨y, hy, e⟩ := X0_at V c 0 t (ix2 a j)
  have h0 : (y 0).val = a.val := hy 0
  have h1 : (y 1).val = j.val := hy 1
  rw [e]
  blk_ext [idx0 t]

theorem X0_1 (a : Fin 64) (j : Fin 1024) :
    (X0 V c 1 t : S64x1024.Idx → EReal) (ix2 a j) = (V c main_v9 : S2112x6272.Idx → EReal) (ix2 (row t.val (lt0 t) a) ⟨1024 + j.val, by omega⟩) := by
  obtain ⟨y, hy, e⟩ := X0_at V c 1 t (ix2 a j)
  have h0 : (y 0).val = a.val := hy 0
  have h1 : (y 1).val = j.val := hy 1
  rw [e]
  blk_ext [idx0 t]

theorem X0_2 (a : Fin 64) (j : Fin 2048) :
    (X0 V c 2 t : S64x2048.Idx → EReal) (ix2 a j) = (V c main_v9 : S2112x6272.Idx → EReal) (ix2 (row t.val (lt0 t) a) ⟨2048 + j.val, by omega⟩) := by
  obtain ⟨y, hy, e⟩ := X0_at V c 2 t (ix2 a j)
  have h0 : (y 0).val = a.val := hy 0
  have h1 : (y 1).val = j.val := hy 1
  rw [e]
  blk_ext [idx0 t]

theorem X0_3 (a : Fin 64) (j : Fin 128) :
    (X0 V c 3 t : S64x128.Idx → EReal) (ix2 a j) = (V c main_v9 : S2112x6272.Idx → EReal) (ix2 (row t.val (lt0 t) a) ⟨6144 + j.val, by omega⟩) := by
  obtain ⟨y, hy, e⟩ := X0_at V c 3 t (ix2 a j)
  have h0 : (y 0).val = a.val := hy 0
  have h1 : (y 1).val = j.val := hy 1
  rw [e]
  blk_ext [idx0 t]

theorem X0_4 (a : Fin 128) (j : Fin 1024) :
    (X0 V c 4 t : S128x1024.Idx → EReal) (ix2 a j) = (V c main_v7 : S128x1024.Idx → EReal) (ix2 a j) := by
  obtain ⟨y, hy, e⟩ := X0_at V c 4 t (ix2 a j)
  have h0 : (y 0).val = a.val := hy 0
  have h1 : (y 1).val = j.val := hy 1
  rw [e]
  blk_ext [idx0 t]

theorem X0_5 (j : Fin 1024) :
    (X0 V c 5 t : S1x1024.Idx → EReal) (ix2 0 j) = (V c main_v10 : S1x1024.Idx → EReal) (ix2 0 j) := by
  obtain ⟨y, hy, e⟩ := X0_at V c 5 t (ix2 0 j)
  have h0 : (y 0).val = 0 := hy 0
  have h1 : (y 1).val = j.val := hy 1
  rw [e]
  blk_ext [idx0 t]
end

/-- A chunk's rows of the kernels' arguments are the padded rows of the numbers. -/
theorem v9_p (n : ℕ) (hn : n < 33) (a : Fin 64) (j : Fin 6272) (hj : j.val < 4096) :
    (V1 m c main_v9 : S2112x6272.Idx → EReal) (ix2 (row n hn a) j) = ((Spec.pad A.P n a ⟨j.val, by omega⟩ : ℝ) : EReal) := by
  rw [v9_at M]
  unfold Spec.pad
  by_cases h : n * 64 + a.val < 48
  · rw [dif_pos h, dif_neg (by omega)]
  · rw [dif_neg h, dif_pos (by omega)]
    unfold col
    rw [dif_pos hj]
    exact congrArg (fun i => ((A.P i _ : ℝ) : EReal)) (Fin.ext (by show n * 64 + a.val - 48 = 64 * n + a.val - 48; omega))

theorem v9_lr (n : ℕ) (hn : n < 33) (a : Fin 64) (j : Fin 128) :
    (V1 m c main_v9 : S2112x6272.Idx → EReal) (ix2 (row n hn a) ⟨6144 + j.val, by omega⟩) = ((A.lr n a j : ℝ) : EReal) := by
  rw [v9_at M]
  unfold Args.lr Spec.pad
  by_cases h : n * 64 + a.val < 48
  · rw [dif_pos h]
    split
    · rw [dif_neg (by omega)]
    · rfl
  · rw [dif_neg h]
    unfold col
    rw [dif_neg (by show ¬ 6144 + j.val < 4096; omega), dif_neg (by show ¬ 6144 + j.val < 6144; omega)]
    by_cases hj : j.val < 16
    · rw [dif_pos (by show 6144 + j.val < 6160; omega), dif_pos hj, dif_pos (by omega)]
      congr 2
      · exact Fin.ext (by show n * 64 + a.val - 48 = 64 * n + a.val - 48; omega)
      · exact Fin.ext (by show 6144 + j.val - 2048 = 4096 + j.val; omega)
    · rw [dif_neg (by show ¬ 6144 + j.val < 6160; omega), dif_neg hj]

theorem holds0 (t : Fin cfg0.N) : Holds0 A t.val (X0 (V1 m) c 0 t) (X0 (V1 m) c 1 t) (X0 (V1 m) c 2 t) (X0 (V1 m) c 3 t) (X0 (V1 m) c 4 t)
    (X0 (V1 m) c 5 t) where
  q h a d := (congrArg (· * ((1 / 16 : ℝ) : EReal)) ((X0_0 (V1 m) t a (kcol h d)).trans (v9_p M t.val (lt0 t) a _ (by show 256 * h.val + d.val < 4096; omega)))).trans
    (EReal.coe_mul _ _).symm
  k h a d := ((X0_1 (V1 m) t a (kcol h d)).trans (v9_p M t.val (lt0 t) a _ (by show 1024 + (256 * h.val + d.val) < 4096; omega))).trans
    (congrArg (fun j => ((Spec.pad A.P t.val a j : ℝ) : EReal)) (Fin.ext (by show 1024 + (256 * h.val + d.val) = 1024 + 256 * h.val + d.val; omega)))
  v h a d := ((X0_2 (V1 m) t a (vcol h d)).trans (v9_p M t.val (lt0 t) a _ (by show 2048 + (512 * h.val + d.val) < 4096; omega))).trans
    (congrArg (fun j => ((Spec.pad A.P t.val a j : ℝ) : EReal)) (Fin.ext (by show 2048 + (512 * h.val + d.val) = 2048 + 512 * h.val + d.val; omega)))
  lr a j := (X0_3 (V1 m) t a j).trans (v9_lr M t.val (lt0 t) a j)
  w h r d := (X0_4 (V1 m) t r (kcol h d)).trans (v7_at M r _)
  b h d := (X0_5 (V1 m) t (kcol h d)).trans (v10_at M _)

theorem first0_val (t : Fin cfg0.N) (h : t.val = 0) :
    (∀ g a e, (first0 (V1 m) c t h).1 (ix2 a (vcol g e)) = ((A.out t.val g a e : ℝ) : EReal))
    ∧ (∀ g e d, (first0 (V1 m) c t h).2.1 (ix4 0 g e d) = ((A.S g t.val e d : ℝ) : EReal))
    ∧ (∀ g e d, (first0 (V1 m) c t h).2.2 (ix3 g e d) = ((A.S g (t.val + 1) e d : ℝ) : EReal)) := by
  have H := holds0 M t
  have e0 := outA_o c t H h ((hcond0 t).mpr h)
  have e1 := outA_st c t H h ((hcond0 t).mpr h)
  have e2 := outA_s c t H h ((hcond0 t).mpr h)
  unfold first0
  dsimp only
  exact ⟨e0, e1, e2⟩

theorem later0_val (t : Fin cfg0.N) (h : ¬t.val = 0) (p : Vec Ideal S64x2048 .f32 × Vec Ideal S1x4x512x256 .f32 × Vec Ideal S4x512x256 .f32)
    (hp : ∀ g e d, p.2.2 (ix3 g e d) = ((A.S g t.val e d : ℝ) : EReal)) :
    (∀ g a e, (later0 (V1 m) c t h p).1 (ix2 a (vcol g e)) = ((A.out t.val g a e : ℝ) : EReal))
    ∧ (∀ g e d, (later0 (V1 m) c t h p).2.1 (ix4 0 g e d) = ((A.S g t.val e d : ℝ) : EReal))
    ∧ (∀ g e d, (later0 (V1 m) c t h p).2.2 (ix3 g e d) = ((A.S g (t.val + 1) e d : ℝ) : EReal)) := by
  have H := holds0 M t
  have e0 := outB_o c t H hp (fun e => h ((hcond0 t).mp e))
  have e1 := outB_st c t H hp (fun e => h ((hcond0 t).mp e))
  have e2 := outB_s c t H hp (fun e => h ((hcond0 t).mp e))
  unfold later0
  dsimp only
  exact ⟨e0, e1, e2⟩

/-- What a point of the forward region leaves: its chunk's output, the states before it, the states after it. -/
theorem outs0_val : ∀ (n : ℕ) (hn : n < cfg0.N),
    (∀ g a e, (outs0 (V1 m) c n hn).1 (ix2 a (vcol g e)) = ((A.out n g a e : ℝ) : EReal))
    ∧ (∀ g e d, (outs0 (V1 m) c n hn).2.1 (ix4 0 g e d) = ((A.S g n e d : ℝ) : EReal))
    ∧ (∀ g e d, (outs0 (V1 m) c n hn).2.2 (ix3 g e d) = ((A.S g (n + 1) e d : ℝ) : EReal))
  | 0, hn => first0_val M ⟨0, hn⟩ rfl
  | n + 1, hn => later0_val M ⟨n + 1, hn⟩ (Nat.succ_ne_zero n) _ (outs0_val n (Nat.lt_of_succ_lt hn)).2.2

/-- The output, and the states before each chunk, as arrays. -/
def oArr (A : Args) : S2112x2048.Idx → EReal := fun y =>
  ((A.out ((y 0).val / 64) ⟨(y 1).val / 512, by have := (y 1).isLt; change _ < 2048 at this; omega⟩ ⟨(y 0).val % 64, by omega⟩ ⟨(y 1).val % 512, by omega⟩ : ℝ) : EReal)
def stArr (A : Args) : S33x4x512x256.Idx → EReal := fun y => ((A.S (y 1) (y 0).val (y 2) (y 3) : ℝ) : EReal)

omit M in
theorem oArr_at (A : Args) (n : ℕ) (hn : n < 33) (a : Fin 64) (g : Fin 4) (e : Fin 512) :
    oArr A (ix2 (row n hn a) (vcol g e)) = ((A.out n g a e : ℝ) : EReal) := by
  have h0 : (n * 64 + a.val) / 64 = n := by omega
  have h1 : (n * 64 + a.val) % 64 = a.val := by omega
  have h2 : (512 * g.val + e.val) / 512 = g.val := by omega
  have h3 : (512 * g.val + e.val) % 512 = e.val := by omega
  unfold oArr
  congr 2 <;> first | exact h0 | exact Fin.ext h1 | exact Fin.ext h2 | exact Fin.ext h3

theorem o_arr : (dat0 (V1 m) c).arrAt 6 cfg0.N = oArr A := by
  refine (dat0 (V1 m) c).arrAt_eq_of_covers 6 _ (by decide +kernel) fun t hf y => ?_
  obtain ⟨a, b, rfl⟩ : ∃ (a : Fin 64) (b : Fin 2048), y = ix2 a b := ⟨y 0, y 1, eq_ix2 y⟩
  obtain ⟨g, e, rfl⟩ : ∃ (g : Fin 4) (e : Fin 512), b = vcol g e := ⟨_, _, vcol_eq b⟩
  refine Eq.trans ?_ ((oArr_at A t.val (lt0 t) a g e).symm.trans (congrArg (oArr A) ?_))
  · blk_simp; rw [after0_6]
    exact (outs0_val M t.val t.isLt).1 g a e
  · blk_ext [idx0 t]

theorem st_arr : (dat0 (V1 m) c).arrAt 7 cfg0.N = stArr A := by
  refine (dat0 (V1 m) c).arrAt_eq_of_covers 7 _ (by decide +kernel) fun t hf y => ?_
  obtain ⟨z, a, b, d, rfl⟩ : ∃ (z : Fin 1) (a : Fin 4) (b : Fin 512) (d : Fin 256), y = ix4 z a b d := ⟨y 0, y 1, y 2, y 3, eq_ix4 y⟩
  obtain rfl : z = 0 := Subsingleton.elim _ _
  refine Eq.trans ?_ (congrArg (stArr A) (?_ : ix4 (⟨t.val, lt0 t⟩ : Fin 33) a b d = _))
  · blk_simp; rw [after0_7]
    exact (outs0_val M t.val t.isLt).2.1 a b d
  · blk_ext [idx0 t]

end Cert.GlaKernelIdeal.Arr
-- ==== Proof.Gla.Arr1.lean ====
module

public import proofs.«01_k».proof.Proof.Gla.Arr0

/-! What the backward region leaves in its three results. Its points run over the chunks from the last one to the first. -/

@[expose] public section

set_option maxRecDepth 16384

noncomputable section

namespace Cert.GlaKernelIdeal.Arr

open Cert.GlaKernelIdeal Cert.GlaKernelIdeal.Head Idealize.ShloMosaic Idealize.ShloMosaic.TcCoe Idealize.SL.Sem Cert.Gla Cert.Gla.Spec
open Cert.GlaKernelIdeal.Gen hiding adm segs V1 V2 V3 V4 V1_of V2_of V3_of V4_of
open Cert.GlaKernelIdeal.Run hiding adm
open Idealize.ShloMosaic.Pipeline (Dat)

section
variable {F : FTy → Type} [FloatOps F] (V : (c : Dev nD) → (b : Ref sig .tc) → Buf (Elt F) ((c : Thread nD τ).loc b)) (c : Dev nD) (t : Fin cfg1.N)

theorem X1_at (w : Fin cfg1.W) (j : (cfg1.win w).block.Idx) : ∃ y : ((cfg1.win w).xblock (cfg1.grid.coords t)).Idx, (∀ a, (y a).val = (j a).val) ∧
      X1 V c w t j = ((cfg1.win w).blk t).view.read (Elt F) (V c (Pipeline.arrRef spec1 w)) y := by
  refine ⟨fun a => ⟨(j a).val, ((cfg1.win w).moved_iff _ j).mp (moved1 w t j) a⟩, fun a => rfl, ?_⟩
  unfold X1 Pipeline.Window.fill
  rw [dif_pos (moved1 w t j)]
end

theorem idx1 : ∀ t : Fin cfg1.N, win1_0.index t = ![32 - t.val, 0] ∧ win1_1.index t = ![32 - t.val, 1] ∧ win1_2.index t = ![32 - t.val, 1]
    ∧ win1_3.index t = ![32 - t.val, 48] ∧ win1_4.index t = ![0, 0] ∧ win1_5.index t = ![0, 0] ∧ win1_6.index t = ![32 - t.val, 0, 0, 0]
    ∧ win1_7.index t = ![32 - t.val, 0] ∧ win1_8.index t = ![32 - t.val, 0] ∧ win1_9.index t = ![32 - t.val, 0] :=
  (by decide +kernel : ∀ t : Fin grid1.N, _)

theorem lt1 (t : Fin cfg1.N) : t.val < 33 := lt_of_lt_of_eq t.isLt N_1
theorem rev1 (t : Fin cfg1.N) : 32 - t.val < 33 := by omega

section
variable (V : (c : Dev nD) → (b : Ref sig .tc) → Buf (Elt Ideal) ((c : Thread nD τ).loc b)) (c : Dev nD) (t : Fin cfg1.N)

theorem X1_0 (a : Fin 64) (j : Fin 1024) :
    (X1 V c 0 t : S64x1024.Idx → EReal) (ix2 a j) = (V c main_v9 : S2112x6272.Idx → EReal) (ix2 (row (32 - t.val) (rev1 t) a) ⟨j.val, by omega⟩) := by
  obtain ⟨y, hy, e⟩ := X1_at V c t 0 (ix2 a j)
  have h0 : (y 0).val = a.val := hy 0
  have h1 : (y 1).val = j.val := hy 1
  rw [e]
  blk_ext [idx1 t]

theorem X1_1 (a : Fin 64) (j : Fin 1024) :
    (X1 V c 1 t : S64x1024.Idx → EReal) (ix2 a j) = (V c main_v9 : S2112x6272.Idx → EReal) (ix2 (row (32 - t.val) (rev1 t) a) ⟨1024 + j.val, by omega⟩) := by
  obtain ⟨y, hy, e⟩ := X1_at V c t 1 (ix2 a j)
  have h0 : (y 0).val = a.val := hy 0
  have h1 : (y 1).val = j.val := hy 1
  rw [e]
  blk_ext [idx1 t]

theorem X1_2 (a : Fin 64) (j : Fin 2048) :
    (X1 V c 2 t : S64x2048.Idx → EReal) (ix2 a j) = (V c main_v9 : S2112x6272.Idx → EReal) (ix2 (row (32 - t.val) (rev1 t) a) ⟨2048 + j.val, by omega⟩) := by
  obtain ⟨y, hy, e⟩ := X1_at V c t 2 (ix2 a j)
  have h0 : (y 0).val = a.val := hy 0
  have h1 : (y 1).val = j.val := hy 1
  rw [e]
  blk_ext [idx1 t]

theorem X1_3 (a : Fin 64) (j : Fin 128) :
    (X1 V c 3 t : S64x128.Idx → EReal) (ix2 a j) = (V c main_v9 : S2112x6272.Idx → EReal) (ix2 (row (32 - t.val) (rev1 t) a) ⟨6144 + j.val, by omega⟩) := by
  obtain ⟨y, hy, e⟩ := X1_at V c t 3 (ix2 a j)
  have h0 : (y 0).val = a.val := hy 0
  have h1 : (y 1).val = j.val := hy 1
  rw [e]
  blk_ext [idx1 t]

theorem X1_4 (a : Fin 128) (j : Fin 1024) :
    (X1 V c 4 t : S128x1024.Idx → EReal) (ix2 a j) = (V c main_v7 : S128x1024.Idx → EReal) (ix2 a j) := by
  obtain ⟨y, hy, e⟩ := X1_at V c t 4 (ix2 a j)
  have h0 : (y 0).val = a.val := hy 0
  have h1 : (y 1).val = j.val := hy 1
  rw [e]
  blk_ext [idx1 t]

theorem X1_5 (j : Fin 1024) :
    (X1 V c 5 t : S1x1024.Idx → EReal) (ix2 0 j) = (V c main_v10 : S1x1024.Idx → EReal) (ix2 0 j) := by
  obtain ⟨y, hy, e⟩ := X1_at V c t 5 (ix2 0 j)
  have h0 : (y 0).val = 0 := hy 0
  have h1 : (y 1).val = j.val := hy 1
  rw [e]
  blk_ext [idx1 t]

theorem X1_6 (g : Fin 4) (e : Fin 512) (d : Fin 256) :
    (X1 V c 6 t : S1x4x512x256.Idx → EReal) (ix4 0 g e d) = (V c main_v11_1 : S33x4x512x256.Idx → EReal) (ix4 ⟨32 - t.val, rev1 t⟩ g e d) := by
  obtain ⟨y, hy, e'⟩ := X1_at V c t 6 (ix4 0 g e d)
  have h0 : (y 0).val = 0 := hy 0
  have h1 : (y 1).val = g.val := hy 1
  have h2 : (y 2).val = e.val := hy 2
  have h3 : (y 3).val = d.val := hy 3
  rw [e']
  blk_ext [idx1 t]

theorem X1_7 (a : Fin 64) (j : Fin 2048) :
    (X1 V c 7 t : S64x2048.Idx → EReal) (ix2 a j) = (V c main_v13 : S2112x2048.Idx → EReal) (ix2 (row (32 - t.val) (rev1 t) a) j) := by
  obtain ⟨y, hy, e⟩ := X1_at V c t 7 (ix2 a j)
  have h0 : (y 0).val = a.val := hy 0
  have h1 : (y 1).val = j.val := hy 1
  rw [e]
  blk_ext [idx1 t]

theorem X1_8 (a : Fin 64) (j : Fin 2048) :
    (X1 V c 8 t : S64x2048.Idx → EReal) (ix2 a j) = (V c main_v16 : S2112x2048.Idx → EReal) (ix2 (row (32 - t.val) (rev1 t) a) j) := by
  obtain ⟨y, hy, e⟩ := X1_at V c t 8 (ix2 a j)
  have h0 : (y 0).val = a.val := hy 0
  have h1 : (y 1).val = j.val := hy 1
  rw [e]
  blk_ext [idx1 t]
end

variable {m : (ℓ : Loc nD τ sig) → Buf (Elt Ideal) ℓ} {c : Dev nD} {A : Args} {r : Fin 2064 → Fin 2048 → EReal} (M : Mem m c A r)

theorem V3_of (b : Ref sig .tc) (h : b ∉ hostOps1_W) (h0 : b ≠ main_v11_0) (h1 : b ≠ main_v11_1) : V3 m c b = V1 m c b :=
  (StableHlo.after_of_writes_sub hostOps1 _ hostOps1_writes h : V3 m c b = V2 m c b).trans (W2_of m c b h0 h1)

include M in
theorem V3_st : V3 m c main_v11_1 = stArr A :=
  (StableHlo.after_of_writes_sub hostOps1 _ hostOps1_writes (by decide) : V3 m c main_v11_1 = V2 m c main_v11_1).trans ((W2_st m c).trans (st_arr M))

theorem V2_arg3 : V2 m c main_arg3 = m ((c.tc : Thread nD τ).loc main_arg3) :=
  (W2_of m c main_arg3 (by decide) (by decide)).trans (StableHlo.after_of_writes_sub hostOps0 _ hostOps0_writes (by decide) : V1 m c main_arg3 = W0 m c main_arg3)
theorem V2_arg4 : V2 m c main_arg4 = m ((c.tc : Thread nD τ).loc main_arg4) :=
  (W2_of m c main_arg4 (by decide) (by decide)).trans (StableHlo.after_of_writes_sub hostOps0 _ hostOps0_writes (by decide) : V1 m c main_arg4 = W0 m c main_arg4)

include M in
theorem v13_at (n : ℕ) (hn : n < 33) (a : Fin 64) (j : Fin 2048) :
    (V3 m c main_v13 : S2112x2048.Idx → EReal) (ix2 (row n hn a) j) = ((Spec.pad A.O n a j : ℝ) : EReal) := by
  have h := M.O
  rw [← V2_arg3 (m := m) (c := c)] at h
  unfold V3 W3
  unfold V2 at h
  generalize W2 m c = W at h ⊢
  after_reads_at
  pointwise
  unfold Spec.pad
  by_cases hr : n * 64 + a.val < 48
  · rw [dif_pos hr, dif_neg (by omega)]
    rfl
  · rw [dif_neg hr, dif_pos (by omega)]
    exact (h _ _).trans (congrArg (fun i => ((A.O i j : ℝ) : EReal)) (Fin.ext (by show n * 64 + a.val - 48 = 64 * n + a.val - 48; omega)))

/-- The given rows for `r`, with 48 rows of zeros in front. -/
def drAt (r : Fin 2064 → Fin 2048 → EReal) (n : ℕ) (a : Fin 64) (j : Fin 2048) : EReal :=
  if h : 48 ≤ 64 * n + a.val ∧ 64 * n + a.val < 2112 then r ⟨64 * n + a.val - 48, by omega⟩ j else 0

include M in
theorem v16_at (n : ℕ) (hn : n < 33) (a : Fin 64) (j : Fin 2048) :
    (V3 m c main_v16 : S2112x2048.Idx → EReal) (ix2 (row n hn a) j) = drAt r n a j := by
  have h := M.r
  rw [← V2_arg4 (m := m) (c := c)] at h
  unfold V3 W3
  unfold V2 at h
  generalize W2 m c = W at h ⊢
  after_reads_at
  pointwise
  unfold drAt
  by_cases hr : n * 64 + a.val < 48
  · rw [dif_pos hr, dif_neg (by omega)]
    exact Lift.c0
  · rw [dif_neg hr, dif_pos (by omega)]
    exact (h _ _).trans (congrArg (fun i => r i j) (Fin.ext (by show n * 64 + a.val - 48 = 64 * n + a.val - 48; omega)))

include M in
theorem holds1 (t : Fin cfg1.N) : Holds1 A (32 - t.val) (drAt r (32 - t.val)) (X1 (V3 m) c 0 t) (X1 (V3 m) c 1 t) (X1 (V3 m) c 2 t) (X1 (V3 m) c 3 t)
    (X1 (V3 m) c 4 t) (X1 (V3 m) c 5 t) (X1 (V3 m) c 6 t) (X1 (V3 m) c 7 t) (X1 (V3 m) c 8 t) := by
  have e9 : V3 m c main_v9 = V1 m c main_v9 := V3_of _ (by decide) (by decide) (by decide)
  have e7 : V3 m c main_v7 = V1 m c main_v7 := V3_of _ (by decide) (by decide) (by decide)
  have e10 : V3 m c main_v10 = V1 m c main_v10 := V3_of _ (by decide) (by decide) (by decide)
  have p := v9_p M (32 - t.val) (rev1 t)
  have l := v9_lr M (32 - t.val) (rev1 t)
  have w := v7_at M
  have b := v10_at M
  rw [← e9] at p l
  rw [← e7] at w
  rw [← e10] at b
  refine ⟨⟨fun h a d => ?_, fun h a d => ?_, fun h a d => ?_, fun a j => ?_, fun h r d => ?_, fun h d => ?_⟩, fun h e d => ?_, fun h a e => ?_, fun a j => ?_⟩
  · exact (congrArg (· * ((1 / 16 : ℝ) : EReal)) ((X1_0 (V3 m) c t a (kcol h d)).trans (p a _ (by show 256 * h.val + d.val < 4096; omega)))).trans
      (EReal.coe_mul _ _).symm
  · exact ((X1_1 (V3 m) c t a (kcol h d)).trans (p a _ (by show 1024 + (256 * h.val + d.val) < 4096; omega))).trans
      (congrArg (fun j => ((Spec.pad A.P (32 - t.val) a j : ℝ) : EReal)) (Fin.ext (by show 1024 + (256 * h.val + d.val) = 1024 + 256 * h.val + d.val; omega)))
  · exact ((X1_2 (V3 m) c t a (vcol h d)).trans (p a _ (by show 2048 + (512 * h.val + d.val) < 4096; omega))).trans
      (congrArg (fun j => ((Spec.pad A.P (32 - t.val) a j : ℝ) : EReal)) (Fin.ext (by show 2048 + (512 * h.val + d.val) = 2048 + 512 * h.val + d.val; omega)))
  · exact (X1_3 (V3 m) c t a j).trans (l a j)
  · exact (X1_4 (V3 m) c t r (kcol h d)).trans (w r _)
  · exact (X1_5 (V3 m) c t (kcol h d)).trans (b _)
  · exact (X1_6 (V3 m) c t h e d).trans (congrFun (V3_st M) _)
  · exact (X1_7 (V3 m) c t a (vcol h e)).trans (v13_at M _ (rev1 t) a _)
  · exact (X1_8 (V3 m) c t a j).trans (v16_at M _ (rev1 t) a j)

/-- What the chunks taken so far add to the gradients of the gate's weights and bias. -/
def dwTo (A : Args) (g : Fin 4) : ℕ → Fin 128 → Fin 256 → ℝ
  | 0 => A.dwAt 32 g
  | n + 1 => fun r d => dwTo A g n r d + A.dwAt (32 - (n + 1)) g r d
def dbTo (A : Args) (g : Fin 4) : ℕ → Fin 256 → ℝ
  | 0 => A.dbAt 32 g
  | n + 1 => fun d => dbTo A g n d + A.dbAt (32 - (n + 1)) g d

/-- What a point of the backward region leaves in its buffers. -/
structure Left1 (A : Args) (r : Fin 2064 → Fin 2048 → EReal) (n : ℕ)
    (p : Vec Ideal S64x6272 .bf16 × Vec Ideal S4x128x256 .f32 × Vec Ideal S4x1x256 .f32 × Vec Ideal S4x512x256 .f32) : Prop where
  dp : ∀ a j, p.1 (ix2 a j) = dpv A (32 - n) (drAt r (32 - n)) a j
  dw : ∀ g r d, p.2.1 (ix3 g r d) = ((dwTo A g n r d : ℝ) : EReal)
  db : ∀ g d, p.2.2.1 (ix3 g 0 d) = ((dbTo A g n d : ℝ) : EReal)
  s : ∀ g e d, p.2.2.2 (ix3 g e d) = ((A.D g (n + 1) e d : ℝ) : EReal)

include M

theorem first1_val (t : Fin cfg1.N) (h : t.val = 0) : Left1 A r t.val (first1 (V3 m) c t h) := by
  have H := holds1 M t
  have ht : t.val = 32 - (32 - t.val) := by have := lt1 t; omega
  have e0 := outA_dp (c := c) (t := t) (H := H) (hn := rev1 t) (ht := ht) (h := (hcond1 t).mpr h) (h0 := by omega)
  have e1 := outA_dw (c := c) (t := t) (H := H) (hn := rev1 t) (ht := ht) (h := (hcond1 t).mpr h) (h0 := by omega)
  have e2 := outA_db (c := c) (t := t) (H := H) (hn := rev1 t) (ht := ht) (h := (hcond1 t).mpr h) (h0 := by omega)
  have e3 := outA_S (c := c) (t := t) (H := H) (hn := rev1 t) (ht := ht) (h := (hcond1 t).mpr h) (h0 := by omega)
  rw [← ht] at e3
  have w1 : ∀ g r d, A.dwAt (32 - t.val) g r d = dwTo A g t.val r d := fun g r d => by rw [h]; rfl
  have w2 : ∀ g d, A.dbAt (32 - t.val) g d = dbTo A g t.val d := fun g d => by rw [h]; rfl
  unfold first1
  refine ⟨?_, ?_, ?_, ?_⟩
  · dsimp only; exact e0
  · dsimp only
    exact fun g r d => (e1 g r d).trans (congrArg (fun n : ℝ => (n : EReal)) (w1 g r d))
  · dsimp only
    exact fun g d => (e2 g d).trans (congrArg (fun n : ℝ => (n : EReal)) (w2 g d))
  · dsimp only; exact e3

theorem later1_val (n : ℕ) (hn : n + 1 < cfg1.N) (p) (hp : Left1 A r n p) :
    Left1 A r (n + 1) (later1 (V3 m) c ⟨n + 1, hn⟩ (Nat.succ_ne_zero n) p) := by
  have H := holds1 M ⟨n + 1, hn⟩
  have hl := lt1 ⟨n + 1, hn⟩
  have ht : n + 1 = 32 - (32 - (n + 1)) := by dsimp only at hl; omega
  have hs := hp.s
  rw [ht] at hs
  have hc : ¬cond1_0 (grid1.coords ⟨n + 1, hn⟩) := fun e => Nat.succ_ne_zero n ((hcond1 _).mp e)
  have e0 := fun (y1 : Vec Ideal S4x128x256 .f32) (y2 : Vec Ideal S4x1x256 .f32) => outB_dp (c := c) (t := ⟨n + 1, hn⟩) (H := H) (hs := hs) (hn := rev1 _) (ht := ht) (h := hc) (y1 := y1) (y2 := y2)
  have e1 := fun (y2 : Vec Ideal S4x1x256 .f32) => outB_dw (c := c) (t := ⟨n + 1, hn⟩) (H := H) (hs := hs) (hn := rev1 _) (ht := ht) (h := hc) (y2 := y2) (hy := hp.dw)
  have e2 := fun (y1 : Vec Ideal S4x128x256 .f32) => outB_db (c := c) (t := ⟨n + 1, hn⟩) (H := H) (hs := hs) (hn := rev1 _) (ht := ht) (h := hc) (y1 := y1) (hy := hp.db)
  have e3 := fun (y1 : Vec Ideal S4x128x256 .f32) (y2 : Vec Ideal S4x1x256 .f32) => outB_S (c := c) (t := ⟨n + 1, hn⟩) (H := H) (hs := hs) (hn := rev1 _) (ht := ht) (h := hc) (y1 := y1) (y2 := y2)
  dsimp only at e0 e1 e2 e3
  rw [← ht] at e3
  unfold later1
  refine ⟨?_, ?_, ?_, ?_⟩
  · dsimp only; exact e0 _ _
  · dsimp only; exact e1 _
  · dsimp only; exact e2 _
  · dsimp only; exact e3 _ _

theorem outs1_val : ∀ (n : ℕ) (hn : n < cfg1.N), Left1 A r n (outs1 (V3 m) c n hn)
  | 0, hn => first1_val M ⟨0, hn⟩ rfl
  | n + 1, hn => later1_val M n hn _ (outs1_val n (Nat.lt_of_succ_lt hn))

/-- The results, as arrays. -/
def dpArr (A : Args) (r : Fin 2064 → Fin 2048 → EReal) : S2112x6272.Idx → EReal := fun y =>
  dpv A ((y 0).val / 64) (drAt r ((y 0).val / 64)) ⟨(y 0).val % 64, by omega⟩ (y 1)
def dwArr (A : Args) : S4x128x256.Idx → EReal := fun y => ((dwTo A (y 0) 32 (y 1) (y 2) : ℝ) : EReal)
def dbArr (A : Args) : S4x1x256.Idx → EReal := fun y => ((dbTo A (y 0) 32 (y 2) : ℝ) : EReal)

omit M in
theorem dpArr_at (n : ℕ) (hn : n < 33) (a : Fin 64) (j : Fin 6272) : dpArr A r (ix2 (row n hn a) j) = dpv A n (drAt r n) a j := by
  have h0 : (n * 64 + a.val) / 64 = n := by omega
  have h1 : (n * 64 + a.val) % 64 = a.val := by omega
  show dpv A ((n * 64 + a.val) / 64) (drAt r ((n * 64 + a.val) / 64)) ⟨(n * 64 + a.val) % 64, _⟩ j = _
  rw [h0]
  exact congrArg (fun i => dpv A n (drAt r n) i j) (Fin.ext h1)

/-- The last point. -/
def t1_32 : Fin cfg1.N := ⟨32, by decide +kernel⟩

theorem dp_arr : (dat1 (V3 m) c).arrAt 9 cfg1.N = dpArr A r := by
  refine (dat1 (V3 m) c).arrAt_eq_of_covers 9 _ (by decide +kernel) fun t hf y => ?_
  obtain ⟨a, j, rfl⟩ : ∃ (a : Fin 64) (j : Fin 6272), y = ix2 a j := ⟨y 0, y 1, eq_ix2 y⟩
  refine Eq.trans ?_ ((dpArr_at (32 - t.val) (rev1 t) a j).symm.trans (congrArg (dpArr A r) ?_))
  · blk_simp; rw [after1_9]
    exact (outs1_val M t.val t.isLt).dp a j
  · blk_ext [idx1 t]

theorem dw_arr : (dat1 (V3 m) c).arrAt 10 cfg1.N = dwArr A := by
  refine (dat1 (V3 m) c).arrAt_eq_of_after_last 10 t1_32 (by decide +kernel) _ fun y => ?_
  obtain ⟨a, b, d, rfl⟩ : ∃ (a : Fin 4) (b : Fin 128) (d : Fin 256), y = ix3 a b d := ⟨y 0, y 1, y 2, eq_ix3 y⟩
  blk_simp; rw [after1_10]
  exact (outs1_val M 32 _).dw a b d

theorem db_arr : (dat1 (V3 m) c).arrAt 11 cfg1.N = dbArr A := by
  refine (dat1 (V3 m) c).arrAt_eq_of_after_last 11 t1_32 (by decide +kernel) _ fun y => ?_
  obtain ⟨a, b, d, rfl⟩ : ∃ (a : Fin 4) (b : Fin 1) (d : Fin 256), y = ix3 a b d := ⟨y 0, y 1, y 2, eq_ix3 y⟩
  obtain rfl : b = 0 := Subsingleton.elim _ _
  blk_simp; rw [after1_11]
  exact (outs1_val M 32 _).db a d

end Cert.GlaKernelIdeal.Arr
-- ==== Proof.Gla.Host.lean ====
module

public import proofs.«01_k».proof.Proof.Gla.RefRun
public import proofs.«01_k».proof.Proof.Lift
public import Idealize.ShloMosaic.Lib.DynamicIndex
public import Idealize.ShloMosaic.Lib.Pipeline.Value
public import Idealize.ShloMosaic.Lib.Pipeline.ValueKit

/-! Summed windows, and one slice of a stack read or written, as numbers. -/

@[expose] public section

set_option maxRecDepth 16384

noncomputable section

namespace Cert.Gla.Host

open Idealize.ShloMosaic Cert.GlaReferenceIdeal

/-- A sum over windows of 64 rows with the initial value zero, as a sum over the window's positions. -/
theorem window {lo hi : Fin 3 → ℕ} {x : S4x64x256.Idx → EReal} {v : S_.Idx → EReal} (hv : ∀ u, v u = 0)
    (h : S4x64x256.ReduceWindows ![1, 64, 1] ![1, 1, 1] lo hi S4x64x256) (hu : 0 < S_.numel) (j : S4x64x256.Idx) :
    Host.reduceWindowAdd (F := Ideal) (φ := .f32) ![1, 64, 1] ![1, 1, 1] lo hi x v h hu j
      = ∑ b : Fin 64, if hin : ∀ a : Fin 3, lo a ≤ (j a).val * (![1, 1, 1] : Fin 3 → ℕ) a + (ix3 (0 : Fin 1) b (0 : Fin 1) a).val
          ∧ (j a).val * (![1, 1, 1] : Fin 3 → ℕ) a + (ix3 (0 : Fin 1) b (0 : Fin 1) a).val - lo a < S4x64x256.size a
        then x (fun a => ⟨_, (hin a).2⟩) else 0 := by
  unfold Host.reduceWindowAdd
  rw [Ideal.hostReduceWindowAdd_def]
  unfold Ideal.hostReduceWindowAdd
  unfold Host.reduceWindow
  simp only [hv]
  refine (sum_idx_eq_foldl (M := EReal) (⟨3, ![1, 64, 1]⟩ : Shape) (fun w => if hin : ∀ a : Fin 3, lo a ≤ (j a).val * (![1, 1, 1] : Fin 3 → ℕ) a + (w a).val
          ∧ (j a).val * (![1, 1, 1] : Fin 3 → ℕ) a + (w a).val - lo a < S4x64x256.size a
        then x (fun a => ⟨_, (hin a).2⟩) else 0)).symm.trans ?_
  rw [sum_idx3]
  simp only [Fin.sum_univ_one]

/-- A window of 64 rows that ends at row `i`: the sum of the rows up to `i`. -/
theorem cumsum {x : S4x64x256.Idx → EReal} {v : S_.Idx → EReal} {f : Fin 64 → ℝ} {g : Fin 4} {d : Fin 256}
    (hx : ∀ i, x (ix3 g i d) = ((f i : ℝ) : EReal)) (hv : ∀ u, v u = 0)
    (h : S4x64x256.ReduceWindows ![1, 64, 1] ![1, 1, 1] ![0, 63, 0] ![0, 0, 0] S4x64x256) (hu : 0 < S_.numel) (i : Fin 64) :
    Host.reduceWindowAdd (F := Ideal) (φ := .f32) ![1, 64, 1] ![1, 1, 1] ![0, 63, 0] ![0, 0, 0] x v h hu (ix3 g i d)
      = ((∑ y, if y ≤ i then f y else 0 : ℝ) : EReal) := by
  rw [window hv, ← Cert.Lift.coe_sum]
  refine Finset.sum_nbij' (fun b : Fin 64 => (⟨(i.val + b.val + 1) % 64, by omega⟩ : Fin 64))
    (fun y => (⟨(63 + y.val - i.val) % 64, by omega⟩ : Fin 64)) (by simp) (by simp)
    (fun b _ => Fin.ext (by show (63 + (i.val + b.val + 1) % 64 - i.val) % 64 = b.val; omega))
    (fun y _ => Fin.ext (by show (i.val + (63 + y.val - i.val) % 64 + 1) % 64 = y.val; omega)) fun b _ => ?_
  by_cases hb : 63 ≤ i.val + b.val
  · have e : (⟨(i.val + b.val + 1) % 64, by omega⟩ : Fin 64) = ⟨i.val + b.val - 63, by omega⟩ := Fin.ext (by show (i.val + b.val + 1) % 64 = i.val + b.val - 63; omega)
    have hin : ∀ a : Fin 3, (![0, 63, 0] : Fin 3 → ℕ) a ≤ (ix3 g i d a).val * (![1, 1, 1] : Fin 3 → ℕ) a + (ix3 (0 : Fin 1) b (0 : Fin 1) a).val
          ∧ (ix3 g i d a).val * (![1, 1, 1] : Fin 3 → ℕ) a + (ix3 (0 : Fin 1) b (0 : Fin 1) a).val - (![0, 63, 0] : Fin 3 → ℕ) a < S4x64x256.size a := by
      intro a
      fin_cases a
      · show 0 ≤ g.val * 1 + 0 ∧ g.val * 1 + 0 - 0 < 4; omega
      · show 63 ≤ i.val * 1 + b.val ∧ i.val * 1 + b.val - 63 < 64; omega
      · show 0 ≤ d.val * 1 + 0 ∧ d.val * 1 + 0 - 0 < 256; omega
    rw [dif_pos hin, e, if_pos (show (⟨i.val + b.val - 63, by omega⟩ : Fin 64) ≤ i from (show i.val + b.val - 63 ≤ i.val by omega)), ← hx]
    congr 1
    funext a
    fin_cases a
    · exact Fin.ext (show g.val * 1 + 0 - 0 = g.val by omega)
    · exact Fin.ext (show i.val * 1 + b.val - 63 = i.val + b.val - 63 by omega)
    · exact Fin.ext (show d.val * 1 + 0 - 0 = d.val by omega)
  · rw [dif_neg fun hin => hb (by have := (hin 1).1; have e : 63 ≤ i.val * 1 + b.val := this; omega),
      if_neg (fun hle => by have e : (i.val + b.val + 1) % 64 ≤ i.val := hle; omega)]
    rfl

/-- A window of 64 rows that starts at row `i`: the sum of the rows from `i` on. -/
theorem cumsum_rev {x : S4x64x256.Idx → EReal} {v : S_.Idx → EReal} {f : Fin 64 → ℝ} {g : Fin 4} {d : Fin 256}
    (hx : ∀ i, x (ix3 g i d) = ((f i : ℝ) : EReal)) (hv : ∀ u, v u = 0)
    (h : S4x64x256.ReduceWindows ![1, 64, 1] ![1, 1, 1] ![0, 0, 0] ![0, 63, 0] S4x64x256) (hu : 0 < S_.numel) (i : Fin 64) :
    Host.reduceWindowAdd (F := Ideal) (φ := .f32) ![1, 64, 1] ![1, 1, 1] ![0, 0, 0] ![0, 63, 0] x v h hu (ix3 g i d)
      = ((∑ y, if i ≤ y then f y else 0 : ℝ) : EReal) := by
  rw [window hv, ← Cert.Lift.coe_sum]
  refine Finset.sum_nbij' (fun b : Fin 64 => (⟨(i.val + b.val) % 64, by omega⟩ : Fin 64))
    (fun y => (⟨(64 + y.val - i.val) % 64, by omega⟩ : Fin 64)) (by simp) (by simp)
    (fun b _ => Fin.ext (by show (64 + (i.val + b.val) % 64 - i.val) % 64 = b.val; omega))
    (fun y _ => Fin.ext (by show (i.val + (64 + y.val - i.val) % 64) % 64 = y.val; omega)) fun b _ => ?_
  by_cases hb : i.val + b.val < 64
  · have e : (⟨(i.val + b.val) % 64, by omega⟩ : Fin 64) = ⟨i.val + b.val, hb⟩ := Fin.ext (by show (i.val + b.val) % 64 = i.val + b.val; omega)
    have hin : ∀ a : Fin 3, (![0, 0, 0] : Fin 3 → ℕ) a ≤ (ix3 g i d a).val * (![1, 1, 1] : Fin 3 → ℕ) a + (ix3 (0 : Fin 1) b (0 : Fin 1) a).val
          ∧ (ix3 g i d a).val * (![1, 1, 1] : Fin 3 → ℕ) a + (ix3 (0 : Fin 1) b (0 : Fin 1) a).val - (![0, 0, 0] : Fin 3 → ℕ) a < S4x64x256.size a := by
      intro a
      fin_cases a
      · show 0 ≤ g.val * 1 + 0 ∧ g.val * 1 + 0 - 0 < 4; omega
      · show 0 ≤ i.val * 1 + b.val ∧ i.val * 1 + b.val - 0 < 64; omega
      · show 0 ≤ d.val * 1 + 0 ∧ d.val * 1 + 0 - 0 < 256; omega
    rw [dif_pos hin, e, if_pos (show i ≤ (⟨i.val + b.val, hb⟩ : Fin 64) from (show i.val ≤ i.val + b.val by omega)), ← hx]
    congr 1
    funext a
    fin_cases a
    · exact Fin.ext (show g.val * 1 + 0 - 0 = g.val by omega)
    · exact Fin.ext (show i.val * 1 + b.val - 0 = i.val + b.val by omega)
    · exact Fin.ext (show d.val * 1 + 0 - 0 = d.val by omega)
  · rw [dif_neg fun hin => hb (by have := (hin 1).2; have e : i.val * 1 + b.val - 0 < 64 := this; omega),
      if_neg (fun hle => by have e : i.val ≤ (i.val + b.val) % 64 := hle; omega)]
    rfl

section Stack
variable {α : Type} {N a b c k : ℕ} (hk : k < N) {start : Fin 4 → Int} (h0 : start 0 = k) (h1 : start 1 = 0) (h2 : start 2 = 0) (h3 : start 3 = 0)
include hk h0 h1 h2 h3

/-- One slice of a stack: the clamped starts are the ones given. -/
theorem slice_at (x : (⟨4, ![N, a, b, c]⟩ : Shape).Idx → α) (e : (⟨4, ![1, a, b, c]⟩ : Shape).rank = (⟨4, ![N, a, b, c]⟩ : Shape).rank)
    (i : Fin a) (j : Fin b) (l : Fin c) {p0 p1 p2 p3} :
    x (ix4 ⟨Host.clampedStart ⟨4, ![N, a, b, c]⟩ ⟨4, ![1, a, b, c]⟩ e start 0, p0⟩ ⟨Host.clampedStart ⟨4, ![N, a, b, c]⟩ ⟨4, ![1, a, b, c]⟩ e start 1 + i.val, p1⟩
      ⟨Host.clampedStart ⟨4, ![N, a, b, c]⟩ ⟨4, ![1, a, b, c]⟩ e start 2 + j.val, p2⟩ ⟨Host.clampedStart ⟨4, ![N, a, b, c]⟩ ⟨4, ![1, a, b, c]⟩ e start 3 + l.val, p3⟩)
      = x (ix4 ⟨k, hk⟩ i j l) := by
  have e0 : Host.clampedStart ⟨4, ![N, a, b, c]⟩ ⟨4, ![1, a, b, c]⟩ e start 0 = k :=
    Host.clampedStart_of_le e start 0 k h0 (show k + 1 ≤ N by omega)
  have e1 : Host.clampedStart ⟨4, ![N, a, b, c]⟩ ⟨4, ![1, a, b, c]⟩ e start 1 = 0 :=
    Host.clampedStart_of_le e start 1 0 h1 (show 0 + a ≤ a by omega)
  have e2 : Host.clampedStart ⟨4, ![N, a, b, c]⟩ ⟨4, ![1, a, b, c]⟩ e start 2 = 0 :=
    Host.clampedStart_of_le e start 2 0 h2 (show 0 + b ≤ b by omega)
  have e3 : Host.clampedStart ⟨4, ![N, a, b, c]⟩ ⟨4, ![1, a, b, c]⟩ e start 3 = 0 :=
    Host.clampedStart_of_le e start 3 0 h3 (show 0 + c ≤ c by omega)
  congr 2 <;> exact Fin.ext (by simp only [e0, e1, e2, e3, Nat.zero_add])

/-- A stack one slice of which is written. -/
theorem update_at (x : (⟨4, ![N, a, b, c]⟩ : Shape).Idx → α) (u : (⟨3, ![a, b, c]⟩ : Shape).Idx → α)
    (e : (⟨4, ![1, a, b, c]⟩ : Shape).rank = (⟨4, ![N, a, b, c]⟩ : Shape).rank) (n : Fin N) (i : Fin a) (j : Fin b) (l : Fin c)
    {P : Prop} [Decidable P]
    (hP : P ↔ (Host.clampedStart ⟨4, ![N, a, b, c]⟩ ⟨4, ![1, a, b, c]⟩ e start 0 ≤ n.val ∧ n.val < Host.clampedStart ⟨4, ![N, a, b, c]⟩ ⟨4, ![1, a, b, c]⟩ e start 0 + 1) ∧ Host.clampedStart ⟨4, ![N, a, b, c]⟩ ⟨4, ![1, a, b, c]⟩ e start 1 ≤ i.val ∧ Host.clampedStart ⟨4, ![N, a, b, c]⟩ ⟨4, ![1, a, b, c]⟩ e start 2 ≤ j.val ∧ Host.clampedStart ⟨4, ![N, a, b, c]⟩ ⟨4, ![1, a, b, c]⟩ e start 3 ≤ l.val)
    {p1 : P → i.val - Host.clampedStart ⟨4, ![N, a, b, c]⟩ ⟨4, ![1, a, b, c]⟩ e start 1 < a} {p2 : P → j.val - Host.clampedStart ⟨4, ![N, a, b, c]⟩ ⟨4, ![1, a, b, c]⟩ e start 2 < b} {p3 : P → l.val - Host.clampedStart ⟨4, ![N, a, b, c]⟩ ⟨4, ![1, a, b, c]⟩ e start 3 < c} :
    (if h : P then u (ix3 ⟨i.val - Host.clampedStart ⟨4, ![N, a, b, c]⟩ ⟨4, ![1, a, b, c]⟩ e start 1, p1 h⟩ ⟨j.val - Host.clampedStart ⟨4, ![N, a, b, c]⟩ ⟨4, ![1, a, b, c]⟩ e start 2, p2 h⟩ ⟨l.val - Host.clampedStart ⟨4, ![N, a, b, c]⟩ ⟨4, ![1, a, b, c]⟩ e start 3, p3 h⟩) else x (ix4 n i j l))
      = if n.val = k then u (ix3 i j l) else x (ix4 n i j l) := by
  have e0 : Host.clampedStart ⟨4, ![N, a, b, c]⟩ ⟨4, ![1, a, b, c]⟩ e start 0 = k := Host.clampedStart_of_le e start 0 k h0 (show k + 1 ≤ N by omega)
  have e1 : Host.clampedStart ⟨4, ![N, a, b, c]⟩ ⟨4, ![1, a, b, c]⟩ e start 1 = 0 := Host.clampedStart_of_le e start 1 0 h1 (show 0 + a ≤ a by omega)
  have e2 : Host.clampedStart ⟨4, ![N, a, b, c]⟩ ⟨4, ![1, a, b, c]⟩ e start 2 = 0 := Host.clampedStart_of_le e start 2 0 h2 (show 0 + b ≤ b by omega)
  have e3 : Host.clampedStart ⟨4, ![N, a, b, c]⟩ ⟨4, ![1, a, b, c]⟩ e start 3 = 0 := Host.clampedStart_of_le e start 3 0 h3 (show 0 + c ≤ c by omega)
  by_cases hn : n.val = k
  · rw [if_pos hn, dif_pos (hP.2 (by rw [e0, e1, e2, e3]; omega))]
    congr 2 <;> exact Fin.ext (by simp only [e1, e2, e3, Nat.sub_zero])
  · rw [if_neg hn, dif_neg fun hin => hn (by have := (hP.1 hin).1; rw [e0] at this; omega)]

end Stack

end Cert.Gla.Host
-- ==== Proof.Gla.Fwd.lean ====
module

public import proofs.«01_k».proof.Proof.Gla.Host
public import proofs.«01_k».proof.Proof.Gla.Spec
public import proofs.«01_k».proof.Proof.Gla.Words
public import Idealize.ShloMosaic.Lib.StableHlo.ReadAt

/-! One step of the reference's forward loop, stretch by stretch, over the real numbers. -/

@[expose] public section

set_option maxRecDepth 16384

noncomputable section

namespace Cert.GlaReferenceIdeal.Fwd

open Idealize.ShloMosaic Idealize.ShloMosaic.TcCoe Idealize.ShloMosaic.StableHlo Cert.GlaReferenceIdeal Cert.GlaReferenceIdeal.Run Cert.Gla.Spec Cert.Gla

variable (V : Valuation τ sig (Elt Ideal)) {k : ℕ}

theorem int_word (hk : k < 33) : (BitVec.ofNat 32 k).toInt = (k : Int) :=
  (by decide +kernel : ∀ k : Fin 33, (BitVec.ofNat 32 k.val).toInt = (k.val : Int)) ⟨k, hk⟩

/-- The exponential of a difference where the mask holds, and of minus infinity elsewhere. -/
theorem exp_masked (p : Prop) [Decidable p] (x : ℝ) :
    Ideal.exp (if p then (x : EReal) else ⊥) = ((if p then Real.exp x else 0 : ℝ) : EReal) := by
  by_cases h : p <;> simp [h]

section Slices
variable (hk : k < 33) (hc : V (Proc.devRef .tc main_v49_6) = fun _ => BitVec.ofNat 32 k)
include hc

/-! The slices of the trip. -/

theorem v118 (g : Fin 4) (i : Fin 64) (d : Fin 256) :
    after while0Ops0 V (Proc.devRef .tc main_while0b_v118) (ix3 g i d) = V (Proc.devRef .tc main_v49_0) (ix4 ⟨k, hk⟩ g i d) := by
  after_reads_at
  refine Host.slice_at hk ?_ ?_ ?_ ?_ _ _ _ _ _
  · exact (congrArg BitVec.toInt (by after_reads_at; rw [hc] : upto while0Ops0 V 3 (Proc.devRef .tc main_v49_6) (Shape.Idx.first Gen.h_S_) = BitVec.ofNat 32 k)).trans (int_word hk)
  · exact congrArg BitVec.toInt (by after_reads_at : upto while0Ops0 V 3 (Proc.devRef .tc main_while0b_call4_c) (Shape.Idx.first Gen.h_S_) = 0#32)
  · exact congrArg BitVec.toInt (by after_reads_at : upto while0Ops0 V 3 (Proc.devRef .tc main_while0b_call4_c_0) (Shape.Idx.first Gen.h_S_) = 0#32)
  · exact congrArg BitVec.toInt (by after_reads_at : upto while0Ops0 V 3 (Proc.devRef .tc main_while0b_call4_c_1) (Shape.Idx.first Gen.h_S_) = 0#32)

theorem v119 (g : Fin 4) (i : Fin 64) (d : Fin 256) :
    after while0Ops0_1 V (Proc.devRef .tc main_while0b_v119) (ix3 g i d) = V (Proc.devRef .tc main_v49_1) (ix4 ⟨k, hk⟩ g i d) := by
  after_reads_at
  refine Host.slice_at hk ?_ ?_ ?_ ?_ _ _ _ _ _
  · exact (congrArg BitVec.toInt (by after_reads_at; rw [hc] : upto while0Ops0_1 V 3 (Proc.devRef .tc main_v49_6) (Shape.Idx.first Gen.h_S_) = BitVec.ofNat 32 k)).trans (int_word hk)
  · exact congrArg BitVec.toInt (by after_reads_at : upto while0Ops0_1 V 3 (Proc.devRef .tc main_while0b_call5_c) (Shape.Idx.first Gen.h_S_) = 0#32)
  · exact congrArg BitVec.toInt (by after_reads_at : upto while0Ops0_1 V 3 (Proc.devRef .tc main_while0b_call5_c_0) (Shape.Idx.first Gen.h_S_) = 0#32)
  · exact congrArg BitVec.toInt (by after_reads_at : upto while0Ops0_1 V 3 (Proc.devRef .tc main_while0b_call5_c_1) (Shape.Idx.first Gen.h_S_) = 0#32)

theorem v120 (g : Fin 4) (i : Fin 64) (d : Fin 512) :
    after while0Ops0_2 V (Proc.devRef .tc main_while0b_v120) (ix3 g i d) = V (Proc.devRef .tc main_v49_2) (ix4 ⟨k, hk⟩ g i d) := by
  after_reads_at
  refine Host.slice_at hk ?_ ?_ ?_ ?_ _ _ _ _ _
  · exact (congrArg BitVec.toInt (by after_reads_at; rw [hc] : upto while0Ops0_2 V 3 (Proc.devRef .tc main_v49_6) (Shape.Idx.first Gen.h_S_) = BitVec.ofNat 32 k)).trans (int_word hk)
  · exact congrArg BitVec.toInt (by after_reads_at : upto while0Ops0_2 V 3 (Proc.devRef .tc main_while0b_call6_c) (Shape.Idx.first Gen.h_S_) = 0#32)
  · exact congrArg BitVec.toInt (by after_reads_at : upto while0Ops0_2 V 3 (Proc.devRef .tc main_while0b_call6_c_0) (Shape.Idx.first Gen.h_S_) = 0#32)
  · exact congrArg BitVec.toInt (by after_reads_at : upto while0Ops0_2 V 3 (Proc.devRef .tc main_while0b_call6_c_1) (Shape.Idx.first Gen.h_S_) = 0#32)

theorem v121 (g : Fin 4) (i : Fin 64) (d : Fin 256) :
    after while0Ops0_3 V (Proc.devRef .tc main_while0b_v121) (ix3 g i d) = V (Proc.devRef .tc main_v49_3) (ix4 ⟨k, hk⟩ g i d) := by
  after_reads_at
  refine Host.slice_at hk ?_ ?_ ?_ ?_ _ _ _ _ _
  · exact (congrArg BitVec.toInt (by after_reads_at; rw [hc] : upto while0Ops0_3 V 3 (Proc.devRef .tc main_v49_6) (Shape.Idx.first Gen.h_S_) = BitVec.ofNat 32 k)).trans (int_word hk)
  · exact congrArg BitVec.toInt (by after_reads_at : upto while0Ops0_3 V 3 (Proc.devRef .tc main_while0b_call7_c) (Shape.Idx.first Gen.h_S_) = 0#32)
  · exact congrArg BitVec.toInt (by after_reads_at : upto while0Ops0_3 V 3 (Proc.devRef .tc main_while0b_call7_c_0) (Shape.Idx.first Gen.h_S_) = 0#32)
  · exact congrArg BitVec.toInt (by after_reads_at : upto while0Ops0_3 V 3 (Proc.devRef .tc main_while0b_call7_c_1) (Shape.Idx.first Gen.h_S_) = 0#32)

/-! The slices written. -/

include hk

theorem v154 (n : Fin 33) (g : Fin 4) (i : Fin 64) (d : Fin 512) :
    after while0Ops0_8 V (Proc.devRef .tc main_while0b_v154) (ix4 n g i d)
      = if n.val = k then V (Proc.devRef .tc main_while0b_v142) (ix3 g i d) else V (Proc.devRef .tc main_v49_8) (ix4 n g i d) := by
  after_reads_at
  refine Host.update_at hk ?_ ?_ ?_ ?_ _ _ _ _ _ _ _ Iff.rfl
  · exact (congrArg BitVec.toInt (by after_reads_at; rw [hc] : upto while0Ops0_8 V 4 (Proc.devRef .tc main_v49_6) (Shape.Idx.first Gen.h_S_) = BitVec.ofNat 32 k)).trans (int_word hk)
  · exact congrArg BitVec.toInt (by after_reads_at : upto while0Ops0_8 V 4 (Proc.devRef .tc main_while0b_call10_c) (Shape.Idx.first Gen.h_S_) = 0#32)
  · exact congrArg BitVec.toInt (by after_reads_at : upto while0Ops0_8 V 4 (Proc.devRef .tc main_while0b_call10_c_0) (Shape.Idx.first Gen.h_S_) = 0#32)
  · exact congrArg BitVec.toInt (by after_reads_at : upto while0Ops0_8 V 4 (Proc.devRef .tc main_while0b_call10_c_1) (Shape.Idx.first Gen.h_S_) = 0#32)

theorem v155 (n : Fin 33) (g : Fin 4) (i : Fin 256) (d : Fin 512) :
    after while0Ops0_9 V (Proc.devRef .tc main_while0b_v155) (ix4 n g i d)
      = if n.val = k then V (Proc.devRef .tc main_v49_7) (ix3 g i d) else V (Proc.devRef .tc main_v49_9) (ix4 n g i d) := by
  after_reads_at
  refine Host.update_at hk ?_ ?_ ?_ ?_ _ _ _ _ _ _ _ Iff.rfl
  · exact (congrArg BitVec.toInt (by after_reads_at; rw [hc] : upto while0Ops0_9 V 4 (Proc.devRef .tc main_v49_6) (Shape.Idx.first Gen.h_S_) = BitVec.ofNat 32 k)).trans (int_word hk)
  · exact congrArg BitVec.toInt (by after_reads_at : upto while0Ops0_9 V 4 (Proc.devRef .tc main_while0b_call11_c) (Shape.Idx.first Gen.h_S_) = 0#32)
  · exact congrArg BitVec.toInt (by after_reads_at : upto while0Ops0_9 V 4 (Proc.devRef .tc main_while0b_call11_c_0) (Shape.Idx.first Gen.h_S_) = 0#32)
  · exact congrArg BitVec.toInt (by after_reads_at : upto while0Ops0_9 V 4 (Proc.devRef .tc main_while0b_call11_c_1) (Shape.Idx.first Gen.h_S_) = 0#32)

end Slices

/-! What the trip computes of them, for any values of the slices. -/

theorem v122 {G : Fin 4 → Keys} (h : ∀ g i d, V (Proc.devRef .tc main_while0b_v121) (ix3 g i d) = ((G g i d : ℝ) : EReal))
    (g : Fin 4) (i : Fin 64) (d : Fin 256) :
    after while0Ops0_4 V (Proc.devRef .tc main_while0b_v122) (ix3 g i d) = ((cum (G g) i d : ℝ) : EReal) := by
  after_reads_at
  exact Host.cumsum (fun i => h g i d) (fun u => by pointwise) _ _ i

section
variable {C : Fin 4 → Keys} (hC : ∀ g i d, V (Proc.devRef .tc main_while0b_v122) (ix3 g i d) = ((C g i d : ℝ) : EReal))
  {q K : Fin 4 → Keys} (hq : ∀ g i d, V (Proc.devRef .tc main_while0b_v118) (ix3 g i d) = ((q g i d : ℝ) : EReal))
  (hK : ∀ g i d, V (Proc.devRef .tc main_while0b_v119) (ix3 g i d) = ((K g i d : ℝ) : EReal))
  {v o : Fin 4 → Vals} (hv : ∀ g i e, V (Proc.devRef .tc main_while0b_v120) (ix3 g i e) = ((v g i e : ℝ) : EReal))
  (ho : ∀ g i e, V (Proc.devRef .tc main_while0b_v126) (ix3 g i e) = ((o g i e : ℝ) : EReal))
  {S : Fin 4 → St} (hS : ∀ g d e, V (Proc.devRef .tc main_v49_7) (ix3 g d e) = ((S g e d : ℝ) : EReal))

include hC in
theorem v131 (g : Fin 4) (i j : Fin 64) (d : Fin 256) :
    after while0Ops0_5 V (Proc.devRef .tc main_while0b_v131) (ix4 g i j d) = ((C g i d - C g j d : ℝ) : EReal) := by
  after_reads_at
  rw [hC, hC, ← EReal.coe_sub]

include hC in
theorem v123 (g : Fin 4) (i : Fin 1) (d : Fin 256) :
    after while0Ops0_5 V (Proc.devRef .tc main_while0b_v123) (ix3 g i d) = ((C g 63 d : ℝ) : EReal) := by
  after_reads_at
  rw [hC]

include hC hq hS in
theorem v126 (g : Fin 4) (i : Fin 64) (e : Fin 512) :
    after while0Ops0_5 V (Proc.devRef .tc main_while0b_v126) (ix3 g i e) = ((∑ d, q g i d * Real.exp (C g i d) * S g e d : ℝ) : EReal) := by
  after_reads_at
  simp only [hC, hq, hS, exp_real, ← EReal.coe_mul, Lift.coe_sum]

theorem v132 {c : Fin 4 → Fin 64 → Fin 64 → Fin 256 → ℝ} (h : ∀ g i j d, V (Proc.devRef .tc main_while0b_v131) (ix4 g i j d) = ((c g i j d : ℝ) : EReal))
    (hm : ∀ g i j d, V (Proc.devRef .tc main_v49_4) (ix4 g i j d) = BitVec.ofBool (decide (j ≤ i)))
    (hi : ∀ g i j d, V (Proc.devRef .tc main_v49_5) (ix4 g i j d) = (⊥ : EReal)) (g : Fin 4) (i j : Fin 64) (d : Fin 256) :
    after while0Ops0_6 V (Proc.devRef .tc main_while0b_v132) (ix4 g i j d) = if j ≤ i then ((c g i j d : ℝ) : EReal) else ⊥ := by
  after_reads_at
  rw [hm, h, hi, sel_bool]

include hq hK hv ho in
theorem v142 {c : Fin 4 → Fin 64 → Fin 64 → Fin 256 → ℝ}
    (h : ∀ g i j d, V (Proc.devRef .tc main_while0b_v132) (ix4 g i j d) = if j ≤ i then ((c g i j d : ℝ) : EReal) else ⊥)
    (g : Fin 4) (i : Fin 64) (e : Fin 512) :
    after while0Ops0_7 V (Proc.devRef .tc main_while0b_v142) (ix3 g i e)
      = ((o g i e + ∑ j, (if j ≤ i then ∑ d, q g i d * K g j d * Real.exp (c g i j d) else 0) * v g j e : ℝ) : EReal) := by
  after_reads_at
  simp only [h, exp_masked, hq, hK, hv, ho, ← EReal.coe_mul, Lift.coe_sum, ← EReal.coe_add]
  congr 2
  refine Finset.sum_congr rfl fun j _ => ?_
  congr 1
  by_cases hj : j ≤ i
  · simp only [if_pos hj]
    exact Finset.sum_congr rfl fun d _ => by ring
  · simp only [if_neg hj, mul_zero, zero_mul, Finset.sum_const_zero]

include hC hK hv hS in
theorem v153 {t : Fin 4 → Fin 256 → ℝ} (ht : ∀ g i d, V (Proc.devRef .tc main_while0b_v123) (ix3 g i d) = ((t g d : ℝ) : EReal))
    (g : Fin 4) (d : Fin 256) (e : Fin 512) :
    after while0Ops0_7 V (Proc.devRef .tc main_while0b_v153) (ix3 g d e)
      = ((Real.exp (t g d) * S g e d + ∑ j, v g j e * (K g j d * Real.exp (t g d - C g j d)) : ℝ) : EReal) := by
  after_reads_at
  simp only [ht, hC, hK, hv, hS, exp_real, ← EReal.coe_sub, ← EReal.coe_mul, Lift.coe_sum, ← EReal.coe_add]
  congr 2
  exact Finset.sum_congr rfl fun j _ => by ring

end

theorem carried : after while0Ops0_10 V (Proc.devRef .tc main_v49_7) = V (Proc.devRef .tc main_while0b_v153)
    ∧ after while0Ops0_10 V (Proc.devRef .tc main_v49_8) = V (Proc.devRef .tc main_while0b_v154)
    ∧ after while0Ops0_10 V (Proc.devRef .tc main_v49_9) = V (Proc.devRef .tc main_while0b_v155) := by
  refine ⟨?_, ?_, ?_⟩ <;> (after_results; rfl)

end Cert.GlaReferenceIdeal.Fwd
-- ==== Proof.Gla.FwdStep.lean ====
module

public import proofs.«01_k».proof.Proof.Gla.Fwd

/-! The reference's forward loop: before trip `k` its stacks hold the first `k` chunks' outputs and states. -/

@[expose] public section

set_option maxRecDepth 16384

noncomputable section

namespace Cert.GlaReferenceIdeal.Fwd

open Idealize.ShloMosaic Idealize.ShloMosaic.TcCoe Idealize.ShloMosaic.StableHlo Cert.GlaReferenceIdeal Cert.GlaReferenceIdeal.Run Cert.Gla.Spec Cert.Gla

/-- Of a list of stretches, what the later ones don't write is as the first `n` leave it. -/
theorem late (L : List (List (HloOp τ sig (Elt Ideal)))) (W : List (Ref sig .tc)) (n c : ℕ) (V : Valuation τ sig (Elt Ideal))
    {r : Ref sig .tc} (hW : (L.drop n).flatten.map HloOp.writes = (W.drop c).map fun w => {Proc.devRef (τ := τ) .tc w} := by rfl)
    (h : r ∉ W.drop c := by decide +kernel) :
    afterL L V (Proc.devRef .tc r) = afterL (L.take n) V (Proc.devRef .tc r) := by
  have e : afterL L V = after (L.drop n).flatten (afterL (L.take n) V) := by
    rw [afterL_eq_after_flatten, afterL_eq_after_flatten, ← after_append, ← List.flatten_append, List.take_append_drop]
  rw [e, after_unwritten _ hW h]

/-- And what the first `n` don't write is as before them. -/
theorem early (L : List (List (HloOp τ sig (Elt Ideal)))) (W : List (Ref sig .tc)) (n c : ℕ) (V : Valuation τ sig (Elt Ideal))
    {r : Ref sig .tc} (hW : (L.take n).flatten.map HloOp.writes = (W.take c).map fun w => {Proc.devRef (τ := τ) .tc w} := by rfl)
    (h : r ∉ W.take c := by decide +kernel) :
    afterL (L.take n) V (Proc.devRef .tc r) = V (Proc.devRef .tc r) := by
  rw [afterL_eq_after_flatten, after_unwritten _ hW h]

variable (A : Args)

/-- What the loop's buffers hold before trip `k`. -/
structure State (V : Valuation τ sig (Elt Ideal)) (k : ℕ) : Prop where
  q : ∀ n g i d, V (Proc.devRef .tc main_v49_0) (ix4 n g i d) = ((A.q n.val g i d : ℝ) : EReal)
  keys : ∀ n g i d, V (Proc.devRef .tc main_v49_1) (ix4 n g i d) = ((A.k n.val g i d : ℝ) : EReal)
  v : ∀ n g i e, V (Proc.devRef .tc main_v49_2) (ix4 n g i e) = ((A.v n.val g i e : ℝ) : EReal)
  g : ∀ n g i d, V (Proc.devRef .tc main_v49_3) (ix4 n g i d) = ((A.g n.val g i d : ℝ) : EReal)
  mask : ∀ g i j d, V (Proc.devRef .tc main_v49_4) (ix4 g i j d) = BitVec.ofBool (decide (j ≤ i))
  least : ∀ g i j d, V (Proc.devRef .tc main_v49_5) (ix4 g i j d) = (⊥ : EReal)
  trip : V (Proc.devRef .tc main_v49_6) = fun _ => BitVec.ofNat 32 k
  S : ∀ g d e, V (Proc.devRef .tc main_v49_7) (ix3 g d e) = ((A.S g k e d : ℝ) : EReal)
  outs : ∀ n g i e, n.val < k → V (Proc.devRef .tc main_v49_8) (ix4 n g i e) = ((A.out n.val g i e : ℝ) : EReal)
  states : ∀ n g d e, n.val < k → V (Proc.devRef .tc main_v49_9) (ix4 n g d e) = ((A.S g n.val e d : ℝ) : EReal)

variable {A} {U : Valuation τ sig (Elt Ideal)} {k : ℕ}

theorem State.of_eq {V : Valuation τ sig (Elt Ideal)} (H : State A U k)
    (h : ∀ r ∈ [main_v49_0, main_v49_1, main_v49_2, main_v49_3, main_v49_4, main_v49_5, main_v49_6, main_v49_7, main_v49_8, main_v49_9],
      V (Proc.devRef .tc r) = U (Proc.devRef .tc r)) : State A V k where
  q n g i d := by rw [h _ (by decide)]; exact H.q n g i d
  keys n g i d := by rw [h _ (by decide)]; exact H.keys n g i d
  v n g i d := by rw [h _ (by decide)]; exact H.v n g i d
  g n g i d := by rw [h _ (by decide)]; exact H.g n g i d
  mask n g i d := by rw [h _ (by decide)]; exact H.mask n g i d
  least n g i d := by rw [h _ (by decide)]; exact H.least n g i d
  trip := by rw [h _ (by decide)]; exact H.trip
  S g d e := by rw [h _ (by decide)]; exact H.S g d e
  outs n g i e := by rw [h _ (by decide)]; exact H.outs n g i e
  states n g d e := by rw [h _ (by decide)]; exact H.states n g d e

section Trip
variable (hk : k < 33) (H : State A U k)
include H

local notation "E" => afterL (F := Ideal) body0I U

include hk

theorem e118 (g : Fin 4) (i : Fin 64) (d : Fin 256) : E (Proc.devRef .tc main_while0b_v118) (ix3 g i d) = ((A.q k g i d : ℝ) : EReal) := by
  rw [late body0I body0W 1 5 U]
  exact (v118 _ hk H.trip g i d).trans (H.q _ g i d)

theorem e119 (g : Fin 4) (i : Fin 64) (d : Fin 256) : E (Proc.devRef .tc main_while0b_v119) (ix3 g i d) = ((A.k k g i d : ℝ) : EReal) := by
  rw [late body0I body0W 2 10 U]
  refine (v119 (afterL (body0I.take 1) U) hk ?_ g i d).trans ?_
  · rw [early body0I body0W 1 5 U]; exact H.trip
  · rw [early body0I body0W 1 5 U]; exact H.keys _ g i d

theorem e120 (g : Fin 4) (i : Fin 64) (e : Fin 512) : E (Proc.devRef .tc main_while0b_v120) (ix3 g i e) = ((A.v k g i e : ℝ) : EReal) := by
  rw [late body0I body0W 3 15 U]
  refine (v120 (afterL (body0I.take 2) U) hk ?_ g i e).trans ?_
  · rw [early body0I body0W 2 10 U]; exact H.trip
  · rw [early body0I body0W 2 10 U]; exact H.v _ g i e

theorem e121 (g : Fin 4) (i : Fin 64) (d : Fin 256) : E (Proc.devRef .tc main_while0b_v121) (ix3 g i d) = ((A.g k g i d : ℝ) : EReal) := by
  rw [late body0I body0W 4 20 U]
  refine (v121 (afterL (body0I.take 3) U) hk ?_ g i d).trans ?_
  · rw [early body0I body0W 3 15 U]; exact H.trip
  · rw [early body0I body0W 3 15 U]; exact H.g _ g i d

theorem e122 (g : Fin 4) (i : Fin 64) (d : Fin 256) : E (Proc.devRef .tc main_while0b_v122) (ix3 g i d) = ((cum (A.g k g) i d : ℝ) : EReal) := by
  rw [late body0I body0W 5 23 U]
  exact v122 (afterL (body0I.take 4) U) (G := A.g k)
    (fun g i d => by rw [← late body0I body0W 4 20 U]; exact e121 hk H g i d) g i d

theorem e123 (g : Fin 4) (i : Fin 1) (d : Fin 256) : E (Proc.devRef .tc main_while0b_v123) (ix3 g i d) = ((cum (A.g k g) 63 d : ℝ) : EReal) := by
  rw [late body0I body0W 6 32 U]
  exact v123 (afterL (body0I.take 5) U) (C := fun g => cum (A.g k g))
    (fun g i d => by rw [← late body0I body0W 5 23 U]; exact e122 hk H g i d) g i d

theorem e126 (g : Fin 4) (i : Fin 64) (e : Fin 512) :
    E (Proc.devRef .tc main_while0b_v126) (ix3 g i e) = ((∑ d, A.q k g i d * Real.exp (cum (A.g k g) i d) * A.S g k e d : ℝ) : EReal) := by
  rw [late body0I body0W 6 32 U]
  exact v126 (afterL (body0I.take 5) U) (C := fun g => cum (A.g k g)) (q := A.q k) (S := fun g => A.S g k)
    (fun g i d => by rw [← late body0I body0W 5 23 U]; exact e122 hk H g i d)
    (fun g i d => by rw [← late body0I body0W 5 23 U]; exact e118 hk H g i d)
    (fun g d e => by rw [early body0I body0W 5 23 U]; exact H.S g d e) g i e

theorem e132 (g : Fin 4) (i j : Fin 64) (d : Fin 256) :
    E (Proc.devRef .tc main_while0b_v132) (ix4 g i j d) = if j ≤ i then ((cum (A.g k g) i d - cum (A.g k g) j d : ℝ) : EReal) else ⊥ := by
  rw [late body0I body0W 7 33 U]
  exact v132 (afterL (body0I.take 6) U) (c := fun g i j d => cum (A.g k g) i d - cum (A.g k g) j d)
    (fun g i j d => v131 (afterL (body0I.take 5) U) (C := fun g => cum (A.g k g))
      (fun g i d => by rw [← late body0I body0W 5 23 U]; exact e122 hk H g i d) g i j d)
    (fun g i j d => by rw [early body0I body0W 6 32 U]; exact H.mask g i j d)
    (fun g i j d => by rw [early body0I body0W 6 32 U]; exact H.least g i j d) g i j d

theorem e142 (g : Fin 4) (i : Fin 64) (e : Fin 512) : E (Proc.devRef .tc main_while0b_v142) (ix3 g i e) = ((A.out k g i e : ℝ) : EReal) := by
  rw [late body0I body0W 8 55 U]
  exact v142 (afterL (body0I.take 7) U) (q := A.q k) (K := A.k k) (v := A.v k)
    (o := fun g i e => ∑ d, A.q k g i d * Real.exp (cum (A.g k g) i d) * A.S g k e d) (c := fun g i j d => cum (A.g k g) i d - cum (A.g k g) j d)
    (fun g i d => by rw [← late body0I body0W 7 33 U]; exact e118 hk H g i d)
    (fun g i d => by rw [← late body0I body0W 7 33 U]; exact e119 hk H g i d)
    (fun g i e => by rw [← late body0I body0W 7 33 U]; exact e120 hk H g i e)
    (fun g i e => by rw [← late body0I body0W 7 33 U]; exact e126 hk H g i e)
    (fun g i j d => by rw [← late body0I body0W 7 33 U]; exact e132 hk H g i j d) g i e

theorem e153 (g : Fin 4) (d : Fin 256) (e : Fin 512) : E (Proc.devRef .tc main_while0b_v153) (ix3 g d e) = ((A.S g (k + 1) e d : ℝ) : EReal) := by
  rw [late body0I body0W 8 55 U]
  have ht : ∀ g d, cum (A.g k g) 63 d = tot (A.g k g) d := fun g d =>
    Finset.sum_congr rfl fun x _ => if_pos (Nat.le_of_lt_succ x.isLt)
  have := v153 (afterL (body0I.take 7) U) (C := fun g => cum (A.g k g)) (K := A.k k) (v := A.v k) (S := fun g => A.S g k)
    (t := fun g d => cum (A.g k g) 63 d)
    (fun g i d => by rw [← late body0I body0W 7 33 U]; exact e122 hk H g i d)
    (fun g i d => by rw [← late body0I body0W 7 33 U]; exact e119 hk H g i d)
    (fun g i e => by rw [← late body0I body0W 7 33 U]; exact e120 hk H g i e)
    (fun g d e => by rw [early body0I body0W 7 33 U]; exact H.S g d e)
    (fun g i d => by rw [← late body0I body0W 7 33 U]; exact e123 hk H g i d) g d e
  simp only [ht] at this
  exact this

/-- One trip. -/
theorem State.trip_step : State A (afterL (F := Ideal) body0I U) (k + 1) where
  q n g i d := by rw [body0_keep U _ (by decide +kernel)]; exact H.q n g i d
  keys n g i d := by rw [body0_keep U _ (by decide +kernel)]; exact H.keys n g i d
  v n g i d := by rw [body0_keep U _ (by decide +kernel)]; exact H.v n g i d
  g n g i d := by rw [body0_keep U _ (by decide +kernel)]; exact H.g n g i d
  mask n g i d := by rw [body0_keep U _ (by decide +kernel)]; exact H.mask n g i d
  least n g i d := by rw [body0_keep U _ (by decide +kernel)]; exact H.least n g i d
  trip := by
    rw [step0, H.trip]
    funext _
    exact (BitVec.ofNat_add (n := 32) k 1).symm
  S g d e := by
    rw [(carried (afterL (body0I.take 10) U)).1.trans (late body0I body0W 10 65 U).symm |> (show E (Proc.devRef .tc main_v49_7) = _ from ·)]
    exact e153 hk H g d e
  outs n g i e hn := by
    rw [(carried (afterL (body0I.take 10) U)).2.1.trans (late body0I body0W 10 65 U).symm |> (show E (Proc.devRef .tc main_v49_8) = _ from ·)]
    rw [late body0I body0W 9 60 U]
    refine (v154 (afterL (body0I.take 8) U) hk ?_ n g i e).trans ?_
    · rw [early body0I body0W 8 55 U]; exact H.trip
    · split
      · rename_i h
        rw [← late body0I body0W 8 55 U, e142 hk H g i e, h]
      · rw [early body0I body0W 8 55 U]
        exact H.outs n g i e (by omega)
  states n g d e hn := by
    rw [(carried (afterL (body0I.take 10) U)).2.2.trans (late body0I body0W 10 65 U).symm |> (show E (Proc.devRef .tc main_v49_9) = _ from ·)]
    refine (v155 (afterL (body0I.take 9) U) hk ?_ n g d e).trans ?_
    · rw [early body0I body0W 9 60 U]; exact H.trip
    · split
      · rename_i h
        rw [early body0I body0W 9 60 U, h]
        exact H.S g d e
      · rw [early body0I body0W 9 60 U]
        exact H.states n g d e (by omega)

end Trip

/-- All trips. -/
theorem State.trips (V : Dev nD → Valuation τ sig (Elt Ideal)) (c : Dev nD) (H : State A (V c) 0) :
    ∀ k, k ≤ 33 → State A (atTrip cond0Ops body0I V k c) k
  | 0, _ => by rw [atTrip_zero]; exact H
  | k + 1, hk => by
    rw [atTrip_succ]
    refine State.trip_step (by omega) ((State.trips V c H k (by omega)).of_eq fun r hr => cond0_keep _ r ?_)
    revert r
    decide +kernel

end Cert.GlaReferenceIdeal.Fwd
-- ==== Proof.Gla.RefPre.lean ====
module

public import proofs.«01_k».proof.Proof.Gla.FwdStep

/-! What the reference's stretches before its forward loop leave: the chunks of its arguments and of the decays. -/

@[expose] public section

set_option maxRecDepth 16384

noncomputable section

namespace Cert.GlaReferenceIdeal.Pre

open Idealize.ShloMosaic Idealize.ShloMosaic.TcCoe Idealize.ShloMosaic.StableHlo Cert.GlaReferenceIdeal Cert.GlaReferenceIdeal.Run Cert.Gla.Spec Cert.Gla

/-- The arguments hold real numbers, the last any extended reals. -/
structure Mem (V : Valuation τ sig (Elt Ideal)) (A : Args) (r : Fin 2064 → Fin 2048 → EReal) : Prop where
  P : ∀ i j, V (Proc.devRef .tc main_arg0) (ix2 i j) = ((A.P i j : ℝ) : EReal)
  W : ∀ i j, V (Proc.devRef .tc main_arg1) (ix2 i j) = ((A.W i j : ℝ) : EReal)
  B : ∀ j, V (Proc.devRef .tc main_arg2) (ix1 j) = ((A.B j : ℝ) : EReal)
  O : ∀ i j, V (Proc.devRef .tc main_arg3) (ix2 i j) = ((A.O i j : ℝ) : EReal)
  r : ∀ i j, V (Proc.devRef .tc main_arg4) (ix2 i j) = r i j

/-- The gate's argument at a row and column of the whole array. -/
def zAt (A : Args) (i : Fin 2064) (j : Fin 1024) : ℝ := ∑ x : Fin 16, A.P i ⟨4096 + x.val, by omega⟩ * A.W x j + A.B j

theorem c16 : Ideal.ofBits .f32 0x41800000#32 = ((16 : ℝ) : EReal) := by
  simp [Ideal.ofBits, Ideal.ieee, -EReal.coe_mul]; norm_num

variable (V : Valuation τ sig (Elt Ideal))

section
variable {A : Args} {r : Fin 2064 → Fin 2048 → EReal} (M : Mem V A r)
include M

theorem v8 (i : Fin 2064) (j : Fin 1024) : after main_part0_ops0 V (Proc.devRef .tc main_v8) (ix2 i j) = ((zAt A i j : ℝ) : EReal) := by
  after_reads_at
  simp only [M.P, M.W, M.B, ← EReal.coe_mul, Lift.coe_sum, ← EReal.coe_add]
  rfl

theorem v0 (i : Fin 2064) (j : Fin 1024) : after main_part0_ops0 V (Proc.devRef .tc main_v0) (ix2 i j) = ((A.P i ⟨j.val, by omega⟩ : ℝ) : EReal) := by
  after_reads_at
  exact (M.P _ _).trans (congrArg (fun x => ((A.P i x : ℝ) : EReal)) (Fin.ext (by simp)))

theorem v1 (i : Fin 2064) (j : Fin 1024) : after main_part0_ops0 V (Proc.devRef .tc main_v1) (ix2 i j) = ((A.P i ⟨1024 + j.val, by omega⟩ : ℝ) : EReal) := by
  after_reads_at
  exact M.P _ _

theorem v2 (i : Fin 2064) (j : Fin 2048) : after main_part0_ops0 V (Proc.devRef .tc main_v2) (ix2 i j) = ((A.P i ⟨2048 + j.val, by omega⟩ : ℝ) : EReal) := by
  after_reads_at
  exact M.P _ _

theorem v3 (i : Fin 2064) (j : Fin 16) : after main_part0_ops0 V (Proc.devRef .tc main_v3) (ix2 i j) = ((A.P i ⟨4096 + j.val, by omega⟩ : ℝ) : EReal) := by
  after_reads_at
  exact M.P _ _
end

/-- The soft-plus of minus a real number, as the program computes it. -/
theorem soft_real (z : ℝ) : (if -(z : EReal) ≠ -(z : EReal) then -(z : EReal)
      else max (-(z : EReal)) 0 + Ideal.log1p (Ideal.exp (-FloatOps.absf (F := Ideal) (φ := .f32) (-(z : EReal)))))
    = ((max (-z) 0 + Real.log (1 + Real.exp (-|z|)) : ℝ) : EReal) := by
  have ha : FloatOps.absf (F := Ideal) (φ := .f32) (-(z : EReal)) = ((|z| : ℝ) : EReal) := by
    rw [Ideal.absf_def, ← EReal.coe_neg, ← abs_neg z, abs_eq_max_neg, EReal.coe_strictMono.monotone.map_max]
    rfl
  have e : (1 : EReal) + ((Real.exp (-|z|) : ℝ) : EReal) = ((1 + Real.exp (-|z|) : ℝ) : EReal) := by push_cast; rfl
  rw [if_neg (not_not.2 rfl), ha, ← EReal.coe_neg |z|, exp_real, Ideal.log1p, e, log_real (by positivity)]
  rw [EReal.coe_add, (EReal.coe_strictMono.monotone.map_max : ((max (-z) 0 : ℝ) : EReal) = max ((-z : ℝ) : EReal) ((0 : ℝ) : EReal))]
  rfl

theorem soft_ls (z : ℝ) : -(max (-z) 0 + Real.log (1 + Real.exp (-|z|))) = ls z := by
  unfold ls
  rw [zero_sub, ← neg_zero, ← neg_neg (min z (-0)), ← max_neg_neg, neg_neg]
  simp only [neg_zero]
  ring

theorem soft_exp (z : ℝ) : Real.exp (-z - (max (-z) 0 + Real.log (1 + Real.exp (-|z|)))) = 1 / (1 + Real.exp z) := by
  rw [← sub_sub, Real.exp_sub, Real.exp_log (by positivity)]
  rcases le_total 0 z with h | h
  · rw [max_eq_right (by linarith), abs_of_nonneg h, sub_zero, div_eq_div_iff (by positivity) (by positivity), mul_add, ← Real.exp_add]
    simp
    ring
  · rw [max_eq_left (by linarith), abs_of_nonpos h]
    simp

section
variable {Z : Fin 2064 → Fin 1024 → ℝ} (hZ : ∀ i j, V (Proc.devRef .tc main_v8) (ix2 i j) = ((Z i j : ℝ) : EReal))
include hZ

theorem v9_0 (i : Fin 2064) (j : Fin 1024) : after main_part0_ops1 V (Proc.devRef .tc main_v9_0) (ix2 i j) = ((ls (Z i j) : ℝ) : EReal) := by
  after_reads_at
  rw [hZ, soft_real, ← EReal.coe_neg, soft_ls]

theorem v9_1 (i : Fin 2064) (j : Fin 1024) : after main_part0_ops1 V (Proc.devRef .tc main_v9_1) (ix2 i j) = ((1 / (1 + Real.exp (Z i j)) : ℝ) : EReal) := by
  after_reads_at
  rw [hZ, soft_real, Lift.cinf, if_neg (EReal.coe_ne_top _), ← EReal.coe_neg, if_neg (EReal.coe_ne_top _), ← EReal.coe_sub, exp_real, soft_exp]
end

/-- The column of head `g`, as the program numbers it. -/
theorem kcol_eq (g : Fin 4) (d : Fin 256) (h : g.val * 256 + d.val < 1024) : (⟨g.val * 256 + d.val, h⟩ : Fin 1024) = kcol g d :=
  Fin.ext (by show g.val * 256 + d.val = 256 * g.val + d.val; omega)
theorem vcol_eq (g : Fin 4) (d : Fin 512) (h : g.val * 512 + d.val < 2048) : (⟨g.val * 512 + d.val, h⟩ : Fin 2048) = vcol g d :=
  Fin.ext (by show g.val * 512 + d.val = 512 * g.val + d.val; omega)

theorem v32 {L : Fin 2064 → Fin 1024 → ℝ} (hL : ∀ i j, V (Proc.devRef .tc main_v9_0) (ix2 i j) = ((L i j : ℝ) : EReal)) (g : Fin 4) (i : Fin 2112) (d : Fin 256) :
    after main_part0_ops2 V (Proc.devRef .tc main_v32) (ix3 g i d) = if h : i.val < 48 then 0 else ((L ⟨i.val - 48, by omega⟩ (kcol g d) * (1 / 16) : ℝ) : EReal) := by
  after_reads_at
  have e (x : ℝ) : Ideal.div (x : EReal) (Ideal.ofBits .f32 0x41800000#32) = ((x * (1 / 16) : ℝ) : EReal) := by
    rw [c16, Lift.div_real _ (by norm_num : (16 : ℝ) ≠ 0), div_eq_mul_one_div]
  simp only [hL, e, kcol_eq]

theorem v23 {L : Fin 2064 → Fin 1024 → ℝ} (hL : ∀ i j, V (Proc.devRef .tc main_v0) (ix2 i j) = ((L i j : ℝ) : EReal)) (g : Fin 4) (i : Fin 2112) (d : Fin 256) :
    after main_part0_ops2 V (Proc.devRef .tc main_v23) (ix3 g i d) = if h : i.val < 48 then 0 else ((L ⟨i.val - 48, by omega⟩ (kcol g d) * (1 / 16) : ℝ) : EReal) := by
  after_reads_at
  simp only [hL, c16th, ← EReal.coe_mul, kcol_eq]

theorem v26 {L : Fin 2064 → Fin 1024 → ℝ} (hL : ∀ i j, V (Proc.devRef .tc main_v1) (ix2 i j) = ((L i j : ℝ) : EReal)) (g : Fin 4) (i : Fin 2112) (d : Fin 256) :
    after main_part0_ops2 V (Proc.devRef .tc main_v26) (ix3 g i d) = if h : i.val < 48 then 0 else ((L ⟨i.val - 48, by omega⟩ (kcol g d) : ℝ) : EReal) := by
  after_reads_at
  simp only [hL, kcol_eq]

theorem v29 {L : Fin 2064 → Fin 2048 → ℝ} (hL : ∀ i j, V (Proc.devRef .tc main_v2) (ix2 i j) = ((L i j : ℝ) : EReal)) (g : Fin 4) (i : Fin 2112) (d : Fin 512) :
    after main_part0_ops2 V (Proc.devRef .tc main_v29) (ix3 g i d) = if h : i.val < 48 then 0 else ((L ⟨i.val - 48, by omega⟩ (vcol g d) : ℝ) : EReal) := by
  after_reads_at
  simp only [hL, vcol_eq]

theorem v34 (i j : Fin 64) : after main_part0_ops2 V (Proc.devRef .tc main_v34) (ix2 i j) = 1#1 := by
  after_reads_at

theorem v35 (h34 : ∀ i j, V (Proc.devRef .tc main_v34) (ix2 i j) = 1#1) (i j : Fin 64) :
    after main_part0_ops3 V (Proc.devRef .tc main_v35) (ix2 i j) = BitVec.ofBool (decide (j ≤ i)) := by
  after_reads_at
  rw [h34]
  revert i j
  decide +kernel

section
variable (n : Fin 33) (g : Fin 4) (i : Fin 64)

theorem v38 (d : Fin 256) : after main_part0_ops4 V (Proc.devRef .tc main_v38) (ix4 n g i d) = V (Proc.devRef .tc main_v23) (ix3 g ⟨n.val * 64 + i.val, by omega⟩ d) := by
  after_reads_at
theorem v40 (d : Fin 256) : after main_part0_ops4 V (Proc.devRef .tc main_v40) (ix4 n g i d) = V (Proc.devRef .tc main_v26) (ix3 g ⟨n.val * 64 + i.val, by omega⟩ d) := by
  after_reads_at
theorem v42 (d : Fin 512) : after main_part0_ops4 V (Proc.devRef .tc main_v42) (ix4 n g i d) = V (Proc.devRef .tc main_v29) (ix3 g ⟨n.val * 64 + i.val, by omega⟩ d) := by
  after_reads_at
theorem v44 (d : Fin 256) : after main_part0_ops4 V (Proc.devRef .tc main_v44) (ix4 n g i d) = V (Proc.devRef .tc main_v32) (ix3 g ⟨n.val * 64 + i.val, by omega⟩ d) := by
  after_reads_at
end

theorem v36 (g : Fin 4) (d : Fin 256) (e : Fin 512) : after main_part0_ops4 V (Proc.devRef .tc main_v36) (ix3 g d e) = (0 : EReal) := by
  after_reads_at

theorem v45 (i j : Fin 64) (y : Fin 1) : after main_part0_ops5 V (Proc.devRef .tc main_v45) (ix3 i j y) = V (Proc.devRef .tc main_v35) (ix2 i j) := by
  after_reads_at
theorem least : after main_part0_ops5 V (Proc.devRef .tc main_cst_10) ix0 = (⊥ : EReal) := by
  after_reads_at
  simp [Ideal.ofBits, Ideal.ieee]

theorem v46_0 (g : Fin 4) (i j : Fin 64) (d : Fin 256) :
    after main_part1_ops0 V (Proc.devRef .tc main_v46_0) (ix4 g i j d) = V (Proc.devRef .tc main_v45) (ix3 i j 0) := by
  after_reads_at
theorem v46_1 (g : Fin 4) (i j : Fin 64) (d : Fin 256) :
    after main_part1_ops0 V (Proc.devRef .tc main_v46_1) (ix4 g i j d) = V (Proc.devRef .tc main_cst_10) ix0 := by
  after_reads_at
  rfl

theorem carried : after main_part1_ops1 V (Proc.devRef .tc main_v49_0) = V (Proc.devRef .tc main_v38)
    ∧ after main_part1_ops1 V (Proc.devRef .tc main_v49_1) = V (Proc.devRef .tc main_v40)
    ∧ after main_part1_ops1 V (Proc.devRef .tc main_v49_2) = V (Proc.devRef .tc main_v42)
    ∧ after main_part1_ops1 V (Proc.devRef .tc main_v49_3) = V (Proc.devRef .tc main_v44)
    ∧ after main_part1_ops1 V (Proc.devRef .tc main_v49_4) = V (Proc.devRef .tc main_v46_0)
    ∧ after main_part1_ops1 V (Proc.devRef .tc main_v49_5) = V (Proc.devRef .tc main_v46_1)
    ∧ after main_part1_ops1 V (Proc.devRef .tc main_v49_6) = (fun _ => 0#32)
    ∧ after main_part1_ops1 V (Proc.devRef .tc main_v49_7) = V (Proc.devRef .tc main_v36) := by
  refine ⟨?_, ?_, ?_, ?_, ?_, ?_, ?_, ?_⟩ <;> (after_results; rfl)

end Cert.GlaReferenceIdeal.Pre
-- ==== Proof.Gla.RefState.lean ====
module

public import proofs.«01_k».proof.Proof.Gla.RefPre

/-! The forward loop's buffers before its first trip, from the reference's arguments. -/

@[expose] public section

set_option maxRecDepth 16384

noncomputable section

namespace Cert.GlaReferenceIdeal.Pre

open Idealize.ShloMosaic Idealize.ShloMosaic.TcCoe Idealize.ShloMosaic.StableHlo Cert.GlaReferenceIdeal Cert.GlaReferenceIdeal.Run Cert.Gla.Spec Cert.Gla
open Cert.GlaReferenceIdeal.Fwd (late early)

/-- A row of the array with 48 rows of zeros in front. -/
theorem chunk_row {w : ℕ} (f : Fin 2064 → Fin w → ℝ) (n : Fin 33) (i : Fin 64) (j : Fin w) :
    (if h : n.val * 64 + i.val < 48 then (0 : EReal) else ((f ⟨n.val * 64 + i.val - 48, by omega⟩ j : ℝ) : EReal)) = ((Spec.pad f n.val i j : ℝ) : EReal) := by
  unfold Spec.pad
  by_cases h : n.val * 64 + i.val < 48
  · rw [dif_pos h, dif_neg (by omega)]; rfl
  · rw [dif_neg h, dif_pos (by omega)]
    congr 3
    omega

/-- The gate's argument of a chunk's row is that of the array's row. -/
theorem z_eq (A : Args) (n : Fin 33) (g : Fin 4) (i : Fin 64) (d : Fin 256) (h : 48 ≤ 64 * n.val + i.val) :
    A.z n.val g i d = zAt A ⟨64 * n.val + i.val - 48, by omega⟩ (kcol g d) := by
  show ∑ x : Fin (16 + 112), A.lr n.val i x * A.w g x d + _ = _
  rw [Fin.sum_univ_add]
  unfold zAt
  congr 1
  rw [Finset.sum_eq_zero (s := (Finset.univ : Finset (Fin 112))) fun x _ => ?_, add_zero]
  · refine Finset.sum_congr rfl fun x _ => ?_
    unfold Args.lr Args.w Spec.pad
    have hx : (Fin.castAdd 112 x).val < 16 := x.isLt
    rw [dif_pos hx, dif_pos hx, dif_pos (by omega)]
    rfl
  · unfold Args.lr
    rw [dif_neg (by simp), zero_mul]

theorem gate_eq (A : Args) (n : Fin 33) (g : Fin 4) (i : Fin 64) (d : Fin 256) :
    A.g n.val g i d = Spec.pad (fun x j => ls (zAt A x j) * (1 / 16)) n.val i (kcol g d) := by
  unfold Args.g gate Spec.pad
  by_cases h : 48 ≤ 64 * n.val + i.val
  · rw [if_pos h, dif_pos (by omega), z_eq A n g i d h]
  · rw [if_neg h, dif_neg (by omega)]

theorem q_eq (A : Args) (n : Fin 33) (g : Fin 4) (i : Fin 64) (d : Fin 256) :
    A.q n.val g i d = Spec.pad (fun x j => A.P x ⟨(kcol g d).val, by omega⟩ * (1 / 16)) n.val i (kcol g d) := by
  unfold Args.q Spec.pad
  split
  · rfl
  · exact zero_mul _

variable {U : Valuation τ sig (Elt Ideal)} {A : Args} {r : Fin 2064 → Fin 2048 → EReal} (M : Mem U A r)
include M

local notation "E" => afterL (F := Ideal) preI U

theorem e38 (n : Fin 33) (g : Fin 4) (i : Fin 64) (d : Fin 256) : E (Proc.devRef .tc main_v38) (ix4 n g i d) = ((A.q n.val g i d : ℝ) : EReal) := by
  rw [late preI preW 5 112 U]
  refine (v38 (afterL (preI.take 4) U) n g i d).trans ?_
  rw [show afterL (preI.take 4) U (Proc.devRef .tc main_v23) = afterL (preI.take 3) U (Proc.devRef .tc main_v23) from
    (late (preI.take 4) (preW.take 102) 3 93 U)]
  refine (v23 (afterL (preI.take 2) U) (L := fun x (j : Fin 1024) => A.P x ⟨j.val, by omega⟩) (fun i j => ?_) g _ d).trans ((chunk_row (fun x (j : Fin 1024) => A.P x ⟨j.val, by omega⟩ * (1 / 16)) n i (kcol g d)).trans (congrArg _ ?_))
  · rw [show afterL (preI.take 2) U (Proc.devRef .tc main_v0) = afterL (preI.take 1) U (Proc.devRef .tc main_v0) from late (preI.take 2) (preW.take 57) 1 9 U]
    exact v0 U M i j
  unfold Args.q Spec.pad
  split
  · rfl
  · rw [zero_mul]

theorem e40 (n : Fin 33) (g : Fin 4) (i : Fin 64) (d : Fin 256) : E (Proc.devRef .tc main_v40) (ix4 n g i d) = ((A.k n.val g i d : ℝ) : EReal) := by
  rw [late preI preW 5 112 U]
  refine (v40 (afterL (preI.take 4) U) n g i d).trans ?_
  rw [show afterL (preI.take 4) U (Proc.devRef .tc main_v26) = afterL (preI.take 3) U (Proc.devRef .tc main_v26) from
    (late (preI.take 4) (preW.take 102) 3 93 U)]
  refine (v26 (afterL (preI.take 2) U) (L := fun x (j : Fin 1024) => A.P x ⟨1024 + j.val, by omega⟩) (fun i j => ?_) g _ d).trans ((chunk_row (fun x (j : Fin 1024) => A.P x ⟨1024 + j.val, by omega⟩) n i (kcol g d)).trans (congrArg _ ?_))
  · rw [show afterL (preI.take 2) U (Proc.devRef .tc main_v1) = afterL (preI.take 1) U (Proc.devRef .tc main_v1) from late (preI.take 2) (preW.take 57) 1 9 U]
    exact v1 U M i j
  unfold Args.k Spec.pad
  split
  · exact congrArg (A.P _) (Fin.ext (by show 1024 + (256 * g.val + d.val) = 1024 + 256 * g.val + d.val; omega))
  · rfl

theorem e42 (n : Fin 33) (g : Fin 4) (i : Fin 64) (d : Fin 512) : E (Proc.devRef .tc main_v42) (ix4 n g i d) = ((A.v n.val g i d : ℝ) : EReal) := by
  rw [late preI preW 5 112 U]
  refine (v42 (afterL (preI.take 4) U) n g i d).trans ?_
  rw [show afterL (preI.take 4) U (Proc.devRef .tc main_v29) = afterL (preI.take 3) U (Proc.devRef .tc main_v29) from
    (late (preI.take 4) (preW.take 102) 3 93 U)]
  refine (v29 (afterL (preI.take 2) U) (L := fun x (j : Fin 2048) => A.P x ⟨2048 + j.val, by omega⟩) (fun i j => ?_) g _ d).trans ((chunk_row (fun x (j : Fin 2048) => A.P x ⟨2048 + j.val, by omega⟩) n i (vcol g d)).trans (congrArg _ ?_))
  · rw [show afterL (preI.take 2) U (Proc.devRef .tc main_v2) = afterL (preI.take 1) U (Proc.devRef .tc main_v2) from late (preI.take 2) (preW.take 57) 1 9 U]
    exact v2 U M i j
  unfold Args.v Spec.pad
  split
  · exact congrArg (A.P _) (Fin.ext (by show 2048 + (512 * g.val + d.val) = 2048 + 512 * g.val + d.val; omega))
  · rfl

theorem e44 (n : Fin 33) (g : Fin 4) (i : Fin 64) (d : Fin 256) : E (Proc.devRef .tc main_v44) (ix4 n g i d) = ((A.g n.val g i d : ℝ) : EReal) := by
  rw [late preI preW 5 112 U]
  refine (v44 (afterL (preI.take 4) U) n g i d).trans ?_
  rw [show afterL (preI.take 4) U (Proc.devRef .tc main_v32) = afterL (preI.take 3) U (Proc.devRef .tc main_v32) from
    (late (preI.take 4) (preW.take 102) 3 93 U)]
  exact (v32 (afterL (preI.take 2) U) (L := fun i j => ls (zAt A i j)) (fun i j => by exact v9_0 (afterL (preI.take 1) U) (v8 U M) i j) g _ d).trans
    ((chunk_row (fun x j => ls (zAt A x j) * (1 / 16)) n i (kcol g d)).trans (congrArg _ (gate_eq A n g i d).symm))

theorem e9_1 (i : Fin 2064) (j : Fin 1024) : E (Proc.devRef .tc main_v9_1) (ix2 i j) = ((1 / (1 + Real.exp (zAt A i j)) : ℝ) : EReal) := by
  rw [late preI preW 2 57 U]
  exact v9_1 (afterL (preI.take 1) U) (v8 U M) i j

theorem e3 (i : Fin 2064) (j : Fin 16) : E (Proc.devRef .tc main_v3) (ix2 i j) = ((A.P i ⟨4096 + j.val, by omega⟩ : ℝ) : EReal) := by
  rw [late preI preW 1 9 U]
  exact v3 U M i j

omit M
theorem e35 (i j : Fin 64) : E (Proc.devRef .tc main_v35) (ix2 i j) = BitVec.ofBool (decide (j ≤ i)) := by
  rw [late preI preW 4 102 U]
  exact v35 (afterL (preI.take 3) U) (v34 (afterL (preI.take 2) U)) i j

theorem e46_0 (g : Fin 4) (i j : Fin 64) (d : Fin 256) : E (Proc.devRef .tc main_v46_0) (ix4 g i j d) = BitVec.ofBool (decide (j ≤ i)) := by
  rw [late preI preW 7 117 U]
  refine (v46_0 (afterL (preI.take 6) U) g i j d).trans ((v45 (afterL (preI.take 5) U) i j 0).trans ?_)
  rw [← late preI preW 5 112 U]
  exact e35 i j

theorem e46_1 (g : Fin 4) (i j : Fin 64) (d : Fin 256) : E (Proc.devRef .tc main_v46_1) (ix4 g i j d) = (⊥ : EReal) := by
  rw [late preI preW 7 117 U]
  exact (v46_1 (afterL (preI.take 6) U) g i j d).trans (least (afterL (preI.take 5) U))

theorem e36 (g : Fin 4) (d : Fin 256) (e : Fin 512) : E (Proc.devRef .tc main_v36) (ix3 g d e) = (0 : EReal) := by
  rw [late preI preW 5 112 U]
  exact v36 (afterL (preI.take 4) U) g d e

include M in
/-- The forward loop's first state. -/
theorem state : Fwd.State A (E) 0 := by
  obtain ⟨c0, c1, c2, c3, c4, c5, c6, c7⟩ := carried (afterL (preI.take 7) U)
  refine ⟨fun n g i d => ?_, fun n g i d => ?_, fun n g i d => ?_, fun n g i d => ?_, fun g i j d => ?_, fun g i j d => ?_, c6, fun g d e => ?_,
    fun n g i e h => absurd h (Nat.not_lt_zero _), fun n g d e h => absurd h (Nat.not_lt_zero _)⟩
  · rw [show E (Proc.devRef .tc main_v49_0) = E (Proc.devRef .tc main_v38) from c0.trans (late preI preW 7 117 U).symm]
    exact e38 M n g i d
  · rw [show E (Proc.devRef .tc main_v49_1) = E (Proc.devRef .tc main_v40) from c1.trans (late preI preW 7 117 U).symm]
    exact e40 M n g i d
  · rw [show E (Proc.devRef .tc main_v49_2) = E (Proc.devRef .tc main_v42) from c2.trans (late preI preW 7 117 U).symm]
    exact e42 M n g i d
  · rw [show E (Proc.devRef .tc main_v49_3) = E (Proc.devRef .tc main_v44) from c3.trans (late preI preW 7 117 U).symm]
    exact e44 M n g i d
  · rw [show E (Proc.devRef .tc main_v49_4) = E (Proc.devRef .tc main_v46_0) from c4.trans (late preI preW 7 117 U).symm]
    exact e46_0 g i j d
  · rw [show E (Proc.devRef .tc main_v49_5) = E (Proc.devRef .tc main_v46_1) from c5.trans (late preI preW 7 117 U).symm]
    exact e46_1 g i j d
  · rw [show E (Proc.devRef .tc main_v49_7) = E (Proc.devRef .tc main_v36) from c7.trans (late preI preW 7 117 U).symm]
    exact e36 g d e

end Cert.GlaReferenceIdeal.Pre
-- ==== Proof.Gla.RefPost.lean ====
module

public import proofs.«01_k».proof.Proof.Gla.RefState

/-! What the reference's stretches between and after its loops do. -/

@[expose] public section

set_option maxRecDepth 16384

noncomputable section

namespace Cert.GlaReferenceIdeal.Post

open Idealize.ShloMosaic Idealize.ShloMosaic.TcCoe Idealize.ShloMosaic.StableHlo Cert.GlaReferenceIdeal Cert.GlaReferenceIdeal.Run Cert.Gla.Spec Cert.Gla

variable (V : Valuation τ sig (Elt Ideal))

/-- The chunk, and the row within it, of a row of the array without the rows of zeros in front. -/
abbrev ch (i : Fin 2064) : Fin 33 := ⟨(48 + i.val) / 64, by omega⟩
abbrev rw' (i : Fin 2064) : Fin 64 := ⟨(48 + i.val) % 64, by omega⟩
/-- The head, and the column within it. -/
abbrev kh (j : Fin 1024) : Fin 4 := ⟨j.val / 256, by omega⟩
abbrev kd (j : Fin 1024) : Fin 256 := ⟨j.val % 256, by omega⟩
abbrev vh (j : Fin 2048) : Fin 4 := ⟨j.val / 512, by omega⟩
abbrev vd (j : Fin 2048) : Fin 512 := ⟨j.val % 512, by omega⟩

theorem v54 (i : Fin 2064) (j : Fin 2048) :
    after main_part1_ops2 V (Proc.devRef .tc main_v54) (ix2 i j) = V (Proc.devRef .tc main_v49_8) (ix4 (ch i) (vh j) (rw' i) (vd j)) := by
  after_reads_at

theorem v60 {O : Fin 2064 → Fin 2048 → ℝ} (hO : ∀ i j, V (Proc.devRef .tc main_arg3) (ix2 i j) = ((O i j : ℝ) : EReal))
    (n : Fin 33) (g : Fin 4) (i : Fin 64) (e : Fin 512) :
    after main_part1_ops2 V (Proc.devRef .tc main_v60) (ix4 n g i e) = ((Spec.pad O n.val i (vcol g e) : ℝ) : EReal) := by
  after_reads_at
  simp only [hO, Pre.vcol_eq]
  by_cases h : 48 ≤ 64 * n.val + i.val
  · have h1 : 48 ≤ n.val * 64 + i.val ∧ n.val * 64 + i.val - 48 < 2064 := by omega
    have h2 : 48 ≤ 64 * n.val + i.val ∧ 64 * n.val + i.val < 2112 := by omega
    have e1 : Spec.pad O n.val i (vcol g e) = O ⟨n.val * 64 + i.val - 48, h1.2⟩ (vcol g e) :=
      (dif_pos h2).trans (congrArg (fun x => O x (vcol g e)) (Fin.ext (by show 64 * n.val + i.val - 48 = n.val * 64 + i.val - 48; omega)))
    exact (dif_pos h1).trans (congrArg Real.toEReal e1.symm)
  · have h1 : ¬(48 ≤ n.val * 64 + i.val ∧ n.val * 64 + i.val - 48 < 2064) := by omega
    have h2 : ¬(48 ≤ 64 * n.val + i.val ∧ 64 * n.val + i.val < 2112) := by omega
    have e1 : Spec.pad O n.val i (vcol g e) = 0 := dif_neg h2
    exact (dif_neg h1).trans (congrArg Real.toEReal e1.symm)

theorem carried : after main_part1_ops2 V (Proc.devRef .tc main_v66_0) = after main_part1_ops2 V (Proc.devRef .tc main_v60)
    ∧ after main_part1_ops2 V (Proc.devRef .tc main_v66_1) = V (Proc.devRef .tc main_v49_9)
    ∧ after main_part1_ops2 V (Proc.devRef .tc main_v66_2) = V (Proc.devRef .tc main_v38)
    ∧ after main_part1_ops2 V (Proc.devRef .tc main_v66_3) = V (Proc.devRef .tc main_v40)
    ∧ after main_part1_ops2 V (Proc.devRef .tc main_v66_4) = V (Proc.devRef .tc main_v42)
    ∧ after main_part1_ops2 V (Proc.devRef .tc main_v66_5) = V (Proc.devRef .tc main_v44)
    ∧ after main_part1_ops2 V (Proc.devRef .tc main_v66_6) = V (Proc.devRef .tc main_v35)
    ∧ after main_part1_ops2 V (Proc.devRef .tc main_v66_7) = (fun _ => 0#32)
    ∧ ∀ g d e, after main_part1_ops2 V (Proc.devRef .tc main_v66_8) (ix3 g d e) = (0 : EReal) := by
  refine ⟨?_, ?_, ?_, ?_, ?_, ?_, ?_, ?_, fun g d e => ?_⟩
  · after_results; rfl
  · after_results; rfl
  · after_results; rfl
  · after_results; rfl
  · after_results; rfl
  · after_results; rfl
  · after_results; rfl
  · after_results; rfl
  · after_reads_at; rw [id_eq]; pointwise

theorem v68 (g : Fin 4) (i : Fin 2112) (d : Fin 256) : after main_part1_ops3 V (Proc.devRef .tc main_v68) (ix3 g i d)
    = V (Proc.devRef .tc main_v66_12) (ix4 ⟨i.val / 64, by omega⟩ g ⟨i.val % 64, by omega⟩ d) := by
  after_reads_at

theorem v70 (g : Fin 4) (i : Fin 2112) (e : Fin 512) : after main_part1_ops3 V (Proc.devRef .tc main_v70) (ix3 g i e)
    = V (Proc.devRef .tc main_v66_11) (ix4 ⟨i.val / 64, by omega⟩ g ⟨i.val % 64, by omega⟩ e) := by
  after_reads_at

theorem v71 (g : Fin 4) (n : Fin 33) (i : Fin 64) (d : Fin 256) : after main_part1_ops3 V (Proc.devRef .tc main_v71) (ix4 g n i d)
    = V (Proc.devRef .tc main_v66_10) (ix4 n g i d) := by
  after_reads_at

section
variable (i : Fin 2064)

theorem v94 {G : Fin 4 → Fin 2112 → Fin 256 → ℝ} (hG : ∀ g i d, V (Proc.devRef .tc main_v68) (ix3 g i d) = ((G g i d : ℝ) : EReal)) (j : Fin 1024) :
    after main_part2_ops0 V (Proc.devRef .tc main_v94) (ix2 i j) = ((G (kh j) ⟨48 + i.val, by omega⟩ (kd j) * (1 / 16) : ℝ) : EReal) := by
  after_reads_at
  rw [hG, Pre.c16, Lift.div_real _ (by norm_num : (16 : ℝ) ≠ 0), div_eq_mul_one_div]

theorem v86 (j : Fin 2048) :
    after main_part2_ops0 V (Proc.devRef .tc main_v86) (ix2 i j) = V (Proc.devRef .tc main_v70) (ix3 (vh j) ⟨48 + i.val, by omega⟩ (vd j)) := by
  after_reads_at

theorem v88 (j : Fin 1024) :
    after main_part2_ops0 V (Proc.devRef .tc main_v88) (ix2 i j) = V (Proc.devRef .tc main_v71) (ix4 (kh j) (ch i) (rw' i) (kd j)) := by
  after_reads_at

theorem v92 (j : Fin 1024) {x : ℝ} (h : V (Proc.devRef .tc main_v66_9) (ix4 (ch i) (kh j) (rw' i) (kd j)) = ((x : ℝ) : EReal)) :
    after main_part2_ops0 V (Proc.devRef .tc main_v92) (ix2 i j) = ((x * (1 / 16) : ℝ) : EReal) := by
  after_reads_at
  rw [h, c16th, ← EReal.coe_mul]

theorem v95 (j : Fin 1024) {x y : ℝ} (h : V (Proc.devRef .tc main_v94) (ix2 i j) = ((x : ℝ) : EReal)) (h' : V (Proc.devRef .tc main_v9_1) (ix2 i j) = ((y : ℝ) : EReal)) :
    after main_part2_ops1 V (Proc.devRef .tc main_v95) (ix2 i j) = ((x * y : ℝ) : EReal) := by
  after_reads_at
  rw [h, h', ← EReal.coe_neg, ← EReal.coe_mul, ← EReal.coe_neg]
  congr 1
  ring
end

theorem v111 (i : Fin 2112) (j : Fin 2048) : after main_part2_ops2 V (Proc.devRef .tc main_v111) (ix2 i j)
    = if h : i.val < 48 then (0 : EReal) else V (Proc.devRef .tc main_v54) (ix2 ⟨i.val - 48, by omega⟩ j) := by
  after_reads_at

/-- The gradient of the projections, side by side as the layer's input has them. -/
def dproj (i : Fin 2064) (j : Fin 6160) : EReal :=
  if h : j.val < 1024 then V (Proc.devRef .tc main_v92) (ix2 i ⟨j.val, h⟩)
  else if h : j.val - 1024 < 1024 then V (Proc.devRef .tc main_v88) (ix2 i ⟨j.val - 1024, h⟩)
  else if h : j.val - 1024 - 1024 < 2048 then V (Proc.devRef .tc main_v86) (ix2 i ⟨j.val - 1024 - 1024, h⟩)
  else if h : j.val - 1024 - 1024 - 2048 < 16 then
    ∑ x, (show EReal from V (Proc.devRef .tc main_v95) (ix2 i x)) * (show EReal from V (Proc.devRef .tc main_arg1) (ix2 ⟨j.val - 1024 - 1024 - 2048, h⟩ x))
  else V (Proc.devRef .tc main_arg4) (ix2 i ⟨j.val - 1024 - 1024 - 2048 - 16, by omega⟩)

theorem v102 (i : Fin 2064) (j : Fin 6160) : upto main_part2_ops2 V 9 (Proc.devRef .tc main_v102) (ix2 i j) = dproj V i j := by
  after_reads_at
  unfold dproj
  refine dite_congr rfl (fun _ => rfl) fun _ => dite_congr rfl (fun _ => rfl) fun _ => dite_congr rfl (fun _ => rfl) fun _ => dite_congr rfl (fun _ => ?_) fun _ => rfl
  refine (congrFun (binary_result ..) _).trans ?_
  after_reads_at

theorem v116 (i : Fin 2112) (j : Fin 6272) : after main_part2_ops2 V (Proc.devRef .tc main_v116) (ix2 i j) =
    if h : i.val < 48 then (0 : EReal)
    else if h : j.val < 4096 then dproj V ⟨i.val - 48, by omega⟩ ⟨j.val, by omega⟩
    else if h : j.val - 4096 < 2048 then dproj V ⟨i.val - 48, by omega⟩ ⟨4112 + (j.val - 4096), by omega⟩
    else if h : j.val - 4096 - 2048 < 16 then dproj V ⟨i.val - 48, by omega⟩ ⟨4096 + (j.val - 4096 - 2048), by omega⟩
    else (0 : EReal) := by
  after_reads_at
  after_reads_at
  split
  · rfl
  split
  · refine (congrFun (unary_result ..) _).trans ?_
    pointwise
    exact v102 ..
  split
  · refine (congrFun (unary_result ..) _).trans ?_
    pointwise
    refine Eq.trans ?_ (v102 ..)
    after_reads_at
  split
  · refine (congrFun (unary_result ..) _).trans ?_
    pointwise
    refine Eq.trans ?_ (v102 ..)
    after_reads_at
  · refine (congrFun (unary_result ..) _).trans ?_
    after_reads_at

variable {Zd : Fin 2064 → Fin 1024 → ℝ} (hz : ∀ i j, V (Proc.devRef .tc main_v95) (ix2 i j) = ((Zd i j : ℝ) : EReal))
include hz

theorem v115 {l : Fin 2064 → Fin 16 → ℝ} (hl : ∀ i j, V (Proc.devRef .tc main_v3) (ix2 i j) = ((l i j : ℝ) : EReal)) (g : Fin 4) (i : Fin 128) (d : Fin 256) :
    after main_part2_ops2 V (Proc.devRef .tc main_v115) (ix3 g i d) = ((if h : i.val < 16 then ∑ x, Zd x (kcol g d) * l x ⟨i.val, h⟩ else 0 : ℝ) : EReal) := by
  after_reads_at
  simp only [hz, hl, ← EReal.coe_mul, Lift.coe_sum, Pre.kcol_eq]
  split <;> rfl

theorem v117 (g : Fin 4) (i : Fin 1) (d : Fin 256) :
    after main_part2_ops2 V (Proc.devRef .tc main_v117) (ix3 g i d) = ((∑ x, Zd x (kcol g d) : ℝ) : EReal) := by
  after_reads_at
  simp only [hz, Lift.coe_sum, Pre.kcol_eq, Fin.sum_univ_one]

end Cert.GlaReferenceIdeal.Post
-- ==== Proof.Gla.Bwd.lean ====
module

public import proofs.«01_k».proof.Proof.Gla.FwdStep

/-! One step of the reference's backward loop, stretch by stretch, over the real numbers. -/

@[expose] public section

set_option maxRecDepth 16384

noncomputable section

namespace Cert.GlaReferenceIdeal.Bwd

open Idealize.ShloMosaic Idealize.ShloMosaic.TcCoe Idealize.ShloMosaic.StableHlo Cert.GlaReferenceIdeal Cert.GlaReferenceIdeal.Run Cert.Gla.Spec Cert.Gla
open Cert.GlaReferenceIdeal.Fwd (int_word exp_masked)

variable (V : Valuation τ sig (Elt Ideal)) {k : ℕ}

theorem back_word {k : ℕ} (hk : k < 33) : IntOp.subi (IntOp.subi 33#32 (BitVec.ofNat 32 k)) 1#32 = BitVec.ofNat 32 (32 - k) :=
  (by decide +kernel : ∀ k : Fin 33, IntOp.subi (IntOp.subi 33#32 (BitVec.ofNat 32 k.val)) 1#32 = BitVec.ofNat 32 (32 - k.val)) ⟨k, hk⟩

/-- The chunk of trip `k`, counted from the last. -/
theorem v119 (hk : k < 33) (hc : V (Proc.devRef .tc main_v66_7) = fun _ => BitVec.ofNat 32 k) :
    after while1Ops0 V (Proc.devRef .tc main_while1b_v119) = fun _ => BitVec.ofNat 32 (32 - k) := by
  funext y
  after_reads_at
  rw [hc]
  exact back_word hk

section Slices
variable (hk : k < 33) (hc : V (Proc.devRef .tc main_while1b_v119) = fun _ => BitVec.ofNat 32 k)
include hk hc

/-! The slices of the trip. -/

theorem v120 (g : Fin 4) (i : Fin 64) (d : Fin 512) :
    after while1Ops0_1 V (Proc.devRef .tc main_while1b_v120) (ix3 g i d) = V (Proc.devRef .tc main_v66_0) (ix4 ⟨k, hk⟩ g i d) := by
  after_reads_at
  refine Host.slice_at hk ?_ ?_ ?_ ?_ _ _ _ _ _
  · exact (congrArg BitVec.toInt (by after_reads_at; rw [hc] : upto while1Ops0_1 V 3 (Proc.devRef .tc main_while1b_v119) (Shape.Idx.first Gen.h_S_) = BitVec.ofNat 32 k)).trans (int_word hk)
  · exact congrArg BitVec.toInt (by after_reads_at : upto while1Ops0_1 V 3 (Proc.devRef .tc main_while1b_call12_c) (Shape.Idx.first Gen.h_S_) = 0#32)
  · exact congrArg BitVec.toInt (by after_reads_at : upto while1Ops0_1 V 3 (Proc.devRef .tc main_while1b_call12_c_0) (Shape.Idx.first Gen.h_S_) = 0#32)
  · exact congrArg BitVec.toInt (by after_reads_at : upto while1Ops0_1 V 3 (Proc.devRef .tc main_while1b_call12_c_1) (Shape.Idx.first Gen.h_S_) = 0#32)

theorem v121 (g : Fin 4) (i : Fin 256) (d : Fin 512) :
    after while1Ops0_2 V (Proc.devRef .tc main_while1b_v121) (ix3 g i d) = V (Proc.devRef .tc main_v66_1) (ix4 ⟨k, hk⟩ g i d) := by
  after_reads_at
  refine Host.slice_at hk ?_ ?_ ?_ ?_ _ _ _ _ _
  · exact (congrArg BitVec.toInt (by after_reads_at; rw [hc] : upto while1Ops0_2 V 3 (Proc.devRef .tc main_while1b_v119) (Shape.Idx.first Gen.h_S_) = BitVec.ofNat 32 k)).trans (int_word hk)
  · exact congrArg BitVec.toInt (by after_reads_at : upto while1Ops0_2 V 3 (Proc.devRef .tc main_while1b_call13_c) (Shape.Idx.first Gen.h_S_) = 0#32)
  · exact congrArg BitVec.toInt (by after_reads_at : upto while1Ops0_2 V 3 (Proc.devRef .tc main_while1b_call13_c_0) (Shape.Idx.first Gen.h_S_) = 0#32)
  · exact congrArg BitVec.toInt (by after_reads_at : upto while1Ops0_2 V 3 (Proc.devRef .tc main_while1b_call13_c_1) (Shape.Idx.first Gen.h_S_) = 0#32)

theorem v122 (g : Fin 4) (i : Fin 64) (d : Fin 256) :
    after while1Ops0_3 V (Proc.devRef .tc main_while1b_v122) (ix3 g i d) = V (Proc.devRef .tc main_v66_2) (ix4 ⟨k, hk⟩ g i d) := by
  after_reads_at
  refine Host.slice_at hk ?_ ?_ ?_ ?_ _ _ _ _ _
  · exact (congrArg BitVec.toInt (by after_reads_at; rw [hc] : upto while1Ops0_3 V 3 (Proc.devRef .tc main_while1b_v119) (Shape.Idx.first Gen.h_S_) = BitVec.ofNat 32 k)).trans (int_word hk)
  · exact congrArg BitVec.toInt (by after_reads_at : upto while1Ops0_3 V 3 (Proc.devRef .tc main_while1b_call14_c) (Shape.Idx.first Gen.h_S_) = 0#32)
  · exact congrArg BitVec.toInt (by after_reads_at : upto while1Ops0_3 V 3 (Proc.devRef .tc main_while1b_call14_c_0) (Shape.Idx.first Gen.h_S_) = 0#32)
  · exact congrArg BitVec.toInt (by after_reads_at : upto while1Ops0_3 V 3 (Proc.devRef .tc main_while1b_call14_c_1) (Shape.Idx.first Gen.h_S_) = 0#32)

theorem v123 (g : Fin 4) (i : Fin 64) (d : Fin 256) :
    after while1Ops0_4 V (Proc.devRef .tc main_while1b_v123) (ix3 g i d) = V (Proc.devRef .tc main_v66_3) (ix4 ⟨k, hk⟩ g i d) := by
  after_reads_at
  refine Host.slice_at hk ?_ ?_ ?_ ?_ _ _ _ _ _
  · exact (congrArg BitVec.toInt (by after_reads_at; rw [hc] : upto while1Ops0_4 V 3 (Proc.devRef .tc main_while1b_v119) (Shape.Idx.first Gen.h_S_) = BitVec.ofNat 32 k)).trans (int_word hk)
  · exact congrArg BitVec.toInt (by after_reads_at : upto while1Ops0_4 V 3 (Proc.devRef .tc main_while1b_call15_c) (Shape.Idx.first Gen.h_S_) = 0#32)
  · exact congrArg BitVec.toInt (by after_reads_at : upto while1Ops0_4 V 3 (Proc.devRef .tc main_while1b_call15_c_0) (Shape.Idx.first Gen.h_S_) = 0#32)
  · exact congrArg BitVec.toInt (by after_reads_at : upto while1Ops0_4 V 3 (Proc.devRef .tc main_while1b_call15_c_1) (Shape.Idx.first Gen.h_S_) = 0#32)

theorem v124 (g : Fin 4) (i : Fin 64) (d : Fin 512) :
    after while1Ops0_5 V (Proc.devRef .tc main_while1b_v124) (ix3 g i d) = V (Proc.devRef .tc main_v66_4) (ix4 ⟨k, hk⟩ g i d) := by
  after_reads_at
  refine Host.slice_at hk ?_ ?_ ?_ ?_ _ _ _ _ _
  · exact (congrArg BitVec.toInt (by after_reads_at; rw [hc] : upto while1Ops0_5 V 3 (Proc.devRef .tc main_while1b_v119) (Shape.Idx.first Gen.h_S_) = BitVec.ofNat 32 k)).trans (int_word hk)
  · exact congrArg BitVec.toInt (by after_reads_at : upto while1Ops0_5 V 3 (Proc.devRef .tc main_while1b_call16_c) (Shape.Idx.first Gen.h_S_) = 0#32)
  · exact congrArg BitVec.toInt (by after_reads_at : upto while1Ops0_5 V 3 (Proc.devRef .tc main_while1b_call16_c_0) (Shape.Idx.first Gen.h_S_) = 0#32)
  · exact congrArg BitVec.toInt (by after_reads_at : upto while1Ops0_5 V 3 (Proc.devRef .tc main_while1b_call16_c_1) (Shape.Idx.first Gen.h_S_) = 0#32)

theorem v125 (g : Fin 4) (i : Fin 64) (d : Fin 256) :
    after while1Ops0_6 V (Proc.devRef .tc main_while1b_v125) (ix3 g i d) = V (Proc.devRef .tc main_v66_5) (ix4 ⟨k, hk⟩ g i d) := by
  after_reads_at
  refine Host.slice_at hk ?_ ?_ ?_ ?_ _ _ _ _ _
  · exact (congrArg BitVec.toInt (by after_reads_at; rw [hc] : upto while1Ops0_6 V 3 (Proc.devRef .tc main_while1b_v119) (Shape.Idx.first Gen.h_S_) = BitVec.ofNat 32 k)).trans (int_word hk)
  · exact congrArg BitVec.toInt (by after_reads_at : upto while1Ops0_6 V 3 (Proc.devRef .tc main_while1b_call17_c) (Shape.Idx.first Gen.h_S_) = 0#32)
  · exact congrArg BitVec.toInt (by after_reads_at : upto while1Ops0_6 V 3 (Proc.devRef .tc main_while1b_call17_c_0) (Shape.Idx.first Gen.h_S_) = 0#32)
  · exact congrArg BitVec.toInt (by after_reads_at : upto while1Ops0_6 V 3 (Proc.devRef .tc main_while1b_call17_c_1) (Shape.Idx.first Gen.h_S_) = 0#32)

/-! The slices written. -/

theorem v212 (n : Fin 33) (g : Fin 4) (i : Fin 64) (d : Fin 256) :
    after while1Ops0_14 V (Proc.devRef .tc main_while1b_v212) (ix4 n g i d)
      = if n.val = k then V (Proc.devRef .tc main_while1b_v206) (ix3 g i d) else V (Proc.devRef .tc main_v66_9) (ix4 n g i d) := by
  after_reads_at
  refine Host.update_at hk ?_ ?_ ?_ ?_ _ _ _ _ _ _ _ Iff.rfl
  · exact (congrArg BitVec.toInt (by after_reads_at; rw [hc] : upto while1Ops0_14 V 4 (Proc.devRef .tc main_while1b_v119) (Shape.Idx.first Gen.h_S_) = BitVec.ofNat 32 k)).trans (int_word hk)
  · exact congrArg BitVec.toInt (by after_reads_at : upto while1Ops0_14 V 4 (Proc.devRef .tc main_while1b_call22_c) (Shape.Idx.first Gen.h_S_) = 0#32)
  · exact congrArg BitVec.toInt (by after_reads_at : upto while1Ops0_14 V 4 (Proc.devRef .tc main_while1b_call22_c_0) (Shape.Idx.first Gen.h_S_) = 0#32)
  · exact congrArg BitVec.toInt (by after_reads_at : upto while1Ops0_14 V 4 (Proc.devRef .tc main_while1b_call22_c_1) (Shape.Idx.first Gen.h_S_) = 0#32)

theorem v213 (n : Fin 33) (g : Fin 4) (i : Fin 64) (d : Fin 256) :
    after while1Ops0_15 V (Proc.devRef .tc main_while1b_v213) (ix4 n g i d)
      = if n.val = k then V (Proc.devRef .tc main_while1b_v182) (ix3 g i d) else V (Proc.devRef .tc main_v66_10) (ix4 n g i d) := by
  after_reads_at
  refine Host.update_at hk ?_ ?_ ?_ ?_ _ _ _ _ _ _ _ Iff.rfl
  · exact (congrArg BitVec.toInt (by after_reads_at; rw [hc] : upto while1Ops0_15 V 4 (Proc.devRef .tc main_while1b_v119) (Shape.Idx.first Gen.h_S_) = BitVec.ofNat 32 k)).trans (int_word hk)
  · exact congrArg BitVec.toInt (by after_reads_at : upto while1Ops0_15 V 4 (Proc.devRef .tc main_while1b_call23_c) (Shape.Idx.first Gen.h_S_) = 0#32)
  · exact congrArg BitVec.toInt (by after_reads_at : upto while1Ops0_15 V 4 (Proc.devRef .tc main_while1b_call23_c_0) (Shape.Idx.first Gen.h_S_) = 0#32)
  · exact congrArg BitVec.toInt (by after_reads_at : upto while1Ops0_15 V 4 (Proc.devRef .tc main_while1b_call23_c_1) (Shape.Idx.first Gen.h_S_) = 0#32)

theorem v214 (n : Fin 33) (g : Fin 4) (i : Fin 64) (d : Fin 512) :
    after while1Ops0_16 V (Proc.devRef .tc main_while1b_v214) (ix4 n g i d)
      = if n.val = k then V (Proc.devRef .tc main_while1b_v173) (ix3 g i d) else V (Proc.devRef .tc main_v66_11) (ix4 n g i d) := by
  after_reads_at
  refine Host.update_at hk ?_ ?_ ?_ ?_ _ _ _ _ _ _ _ Iff.rfl
  · exact (congrArg BitVec.toInt (by after_reads_at; rw [hc] : upto while1Ops0_16 V 4 (Proc.devRef .tc main_while1b_v119) (Shape.Idx.first Gen.h_S_) = BitVec.ofNat 32 k)).trans (int_word hk)
  · exact congrArg BitVec.toInt (by after_reads_at : upto while1Ops0_16 V 4 (Proc.devRef .tc main_while1b_call24_c) (Shape.Idx.first Gen.h_S_) = 0#32)
  · exact congrArg BitVec.toInt (by after_reads_at : upto while1Ops0_16 V 4 (Proc.devRef .tc main_while1b_call24_c_0) (Shape.Idx.first Gen.h_S_) = 0#32)
  · exact congrArg BitVec.toInt (by after_reads_at : upto while1Ops0_16 V 4 (Proc.devRef .tc main_while1b_call24_c_1) (Shape.Idx.first Gen.h_S_) = 0#32)

theorem v215 (n : Fin 33) (g : Fin 4) (i : Fin 64) (d : Fin 256) :
    after while1Ops0_17 V (Proc.devRef .tc main_while1b_v215) (ix4 n g i d)
      = if n.val = k then V (Proc.devRef .tc main_while1b_v211) (ix3 g i d) else V (Proc.devRef .tc main_v66_12) (ix4 n g i d) := by
  after_reads_at
  refine Host.update_at hk ?_ ?_ ?_ ?_ _ _ _ _ _ _ _ Iff.rfl
  · exact (congrArg BitVec.toInt (by after_reads_at; rw [hc] : upto while1Ops0_17 V 4 (Proc.devRef .tc main_while1b_v119) (Shape.Idx.first Gen.h_S_) = BitVec.ofNat 32 k)).trans (int_word hk)
  · exact congrArg BitVec.toInt (by after_reads_at : upto while1Ops0_17 V 4 (Proc.devRef .tc main_while1b_call25_c) (Shape.Idx.first Gen.h_S_) = 0#32)
  · exact congrArg BitVec.toInt (by after_reads_at : upto while1Ops0_17 V 4 (Proc.devRef .tc main_while1b_call25_c_0) (Shape.Idx.first Gen.h_S_) = 0#32)
  · exact congrArg BitVec.toInt (by after_reads_at : upto while1Ops0_17 V 4 (Proc.devRef .tc main_while1b_call25_c_1) (Shape.Idx.first Gen.h_S_) = 0#32)

end Slices

/-! What the trip computes of them, for any values of the slices. -/

theorem v126 {G : Fin 4 → Keys} (h : ∀ g i d, V (Proc.devRef .tc main_while1b_v125) (ix3 g i d) = ((G g i d : ℝ) : EReal))
    (g : Fin 4) (i : Fin 64) (d : Fin 256) :
    after while1Ops0_7 V (Proc.devRef .tc main_while1b_v126) (ix3 g i d) = ((cum (G g) i d : ℝ) : EReal) := by
  after_reads_at
  exact Host.cumsum (fun i => h g i d) (fun u => by pointwise) _ _ i

theorem v211 {G : Fin 4 → Keys} (h : ∀ g i d, V (Proc.devRef .tc main_while1b_v210) (ix3 g i d) = ((G g i d : ℝ) : EReal))
    (g : Fin 4) (i : Fin 64) (d : Fin 256) :
    after while1Ops0_13 V (Proc.devRef .tc main_while1b_v211) (ix3 g i d) = ((∑ x, if i ≤ x then G g x d else 0 : ℝ) : EReal) := by
  after_reads_at
  exact Host.cumsum_rev (fun i => h g i d) (fun u => by pointwise) _ _ i

section
variable {C : Fin 4 → Keys} (hC : ∀ g i d, V (Proc.devRef .tc main_while1b_v126) (ix3 g i d) = ((C g i d : ℝ) : EReal))
  {q K : Fin 4 → Keys} (hq : ∀ g i d, V (Proc.devRef .tc main_while1b_v122) (ix3 g i d) = ((q g i d : ℝ) : EReal))
  (hK : ∀ g i d, V (Proc.devRef .tc main_while1b_v123) (ix3 g i d) = ((K g i d : ℝ) : EReal))
  {v o : Fin 4 → Vals} (hv : ∀ g i e, V (Proc.devRef .tc main_while1b_v124) (ix3 g i e) = ((v g i e : ℝ) : EReal))
  (ho : ∀ g i e, V (Proc.devRef .tc main_while1b_v120) (ix3 g i e) = ((o g i e : ℝ) : EReal))
  {S D : Fin 4 → St} (hS : ∀ g d e, V (Proc.devRef .tc main_while1b_v121) (ix3 g d e) = ((S g e d : ℝ) : EReal))
  (hD : ∀ g d e, V (Proc.devRef .tc main_v66_8) (ix3 g d e) = ((D g e d : ℝ) : EReal))
  {t : Fin 4 → Fin 256 → ℝ} (ht : ∀ g i d, V (Proc.devRef .tc main_while1b_v127) (ix3 g i d) = ((t g d : ℝ) : EReal))
  {c : Fin 4 → Fin 64 → Fin 64 → Fin 256 → ℝ}
  (hx : ∀ g i j d, V (Proc.devRef .tc main_while1b_v136_0) (ix4 g i j d) = if j ≤ i then ((c g i j d : ℝ) : EReal) else ⊥)
  (hm : ∀ i j, V (Proc.devRef .tc main_v66_6) (ix2 i j) = BitVec.ofBool (decide (j ≤ i)))

section
include hC

theorem v127 (g : Fin 4) (i : Fin 1) (d : Fin 256) :
    after while1Ops0_8 V (Proc.devRef .tc main_while1b_v127) (ix3 g i d) = ((C g 63 d : ℝ) : EReal) := by
  after_reads_at
  rw [hC]

theorem v128 (g : Fin 4) (i : Fin 64) (d : Fin 256) :
    after while1Ops0_8 V (Proc.devRef .tc main_while1b_v128) (ix3 g i d) = ((Real.exp (C g i d) : ℝ) : EReal) := by
  after_reads_at
  rw [hC]
  rfl

theorem v134 (g : Fin 4) (i j : Fin 64) (d : Fin 256) :
    after while1Ops0_8 V (Proc.devRef .tc main_while1b_v134) (ix4 g i j d) = ((C g i d - C g j d : ℝ) : EReal) := by
  after_reads_at
  rw [hC, hC, ← EReal.coe_sub]

include hq in
theorem v129 (g : Fin 4) (i : Fin 64) (d : Fin 256) :
    after while1Ops0_8 V (Proc.devRef .tc main_while1b_v129) (ix3 g i d) = ((q g i d * Real.exp (C g i d) : ℝ) : EReal) := by
  after_reads_at
  rw [hC, hq, exp_real, ← EReal.coe_mul]

end

include hm in
theorem v135 (i j : Fin 64) (y : Fin 1) :
    after while1Ops0_8 V (Proc.devRef .tc main_while1b_v135) (ix3 i j y) = BitVec.ofBool (decide (j ≤ i)) := by
  after_reads_at
  rw [hm]

theorem ninf : Ideal.ofBits .f32 0xFF800000#32 = (⊥ : EReal) := by simp [Ideal.ofBits, Ideal.ieee]

theorem least : after while1Ops0_8 V (Proc.devRef .tc main_while1b_cst_44) ix0 = (⊥ : EReal) := by
  after_reads_at
  exact ninf

theorem dkS_comm (v : Vals) (D : St) (j : Fin 64) (d : Fin 256) : ∑ e, D e d * v j e = dkS v D j d :=
  Finset.sum_congr rfl fun e _ => mul_comm _ _

section
variable (hM : ∀ i j y, V (Proc.devRef .tc main_while1b_v135) (ix3 i j y) = BitVec.ofBool (decide (j ≤ i)))
include hM

theorem mask (g : Fin 4) (i j : Fin 64) (d : Fin 256) :
    after while1Ops0_9 V (Proc.devRef .tc main_while1b_v136_1) (ix4 g i j d) = BitVec.ofBool (decide (j ≤ i)) := by
  after_reads_at
  rw [hM]

theorem v136 (h : ∀ g i j d, V (Proc.devRef .tc main_while1b_v134) (ix4 g i j d) = ((c g i j d : ℝ) : EReal))
    (hl : V (Proc.devRef .tc main_while1b_cst_44) ix0 = (⊥ : EReal)) (g : Fin 4) (i j : Fin 64) (d : Fin 256) :
    after while1Ops0_9 V (Proc.devRef .tc main_while1b_v136_0) (ix4 g i j d) = if j ≤ i then ((c g i j d : ℝ) : EReal) else ⊥ := by
  after_reads_at
  rw [hM, h, sel_bool]
  exact congrArg (fun z => if j ≤ i then ((c g i j d : ℝ) : EReal) else z) hl

end

section
include ht hD

theorem v163 (g : Fin 4) (d : Fin 256) (e : Fin 512) :
    after while1Ops0_10 V (Proc.devRef .tc main_while1b_v163) (ix3 g d e) = ((Real.exp (t g d) * D g e d : ℝ) : EReal) := by
  after_reads_at
  simp only [ht, hD, exp_real, ← EReal.coe_mul]

include hC hK hv

theorem v161 (g : Fin 4) (j : Fin 64) (d : Fin 256) :
    after while1Ops0_10 V (Proc.devRef .tc main_while1b_v161) (ix3 g j d)
      = ((-(dkS (v g) (D g) j d * K g j d * Real.exp (t g d - C g j d)) : ℝ) : EReal) := by
  after_reads_at
  simp only [ht, hD, hC, hK, hv, exp_real, ← EReal.coe_sub, ← EReal.coe_mul, Lift.coe_sum, ← EReal.coe_neg]
  rw [dkS_comm]
  congr 1
  ring

include hS in
theorem v170 (g : Fin 4) (y : Fin 1) (d : Fin 256) :
    after while1Ops0_10 V (Proc.devRef .tc main_while1b_v170) (ix3 g y d)
      = ((∑ j, dkS (v g) (D g) j d * K g j d * Real.exp (t g d - C g j d) + (∑ e, D g e d * S g e d) * Real.exp (t g d) : ℝ) : EReal) := by
  after_reads_at
  simp only [ht, hD, hC, hK, hv, hS, exp_real, ← EReal.coe_sub, ← EReal.coe_mul, Lift.coe_sum, ← EReal.coe_add]
  simp only [dkS_comm, Fin.sum_univ_one]
  congr 2
  exact Finset.sum_congr rfl fun j _ => by ring

include ho hq hx in
theorem v182 (g : Fin 4) (j : Fin 64) (d : Fin 256) :
    after while1Ops0_10 V (Proc.devRef .tc main_while1b_v182) (ix3 g j d)
      = ((dkS (v g) (D g) j d * Real.exp (t g d - C g j d) + ∑ i, da (v g) (o g) i j * q g i d * Real.exp (c g i j d) : ℝ) : EReal) := by
  after_reads_at
  simp only [hx, exp_masked, ht, hD, hC, hK, hv, ho, hq, exp_real, ← EReal.coe_sub, ← EReal.coe_mul, Lift.coe_sum, ← EReal.coe_add]
  simp only [dkS_comm, Fin.sum_univ_one]
  congr 2
  refine Finset.sum_congr rfl fun i _ => ?_
  unfold da
  split_ifs <;> ring
end

section
include hq hK hx

include ht hD hC ho in
theorem v173 (g : Fin 4) (j : Fin 64) (e : Fin 512) :
    after while1Ops0_10 V (Proc.devRef .tc main_while1b_v173) (ix3 g j e)
      = ((∑ i, (if j ≤ i then ∑ d, q g i d * K g j d * Real.exp (c g i j d) else 0) * o g i e
          + ∑ d, K g j d * Real.exp (t g d - C g j d) * D g e d : ℝ) : EReal) := by
  after_reads_at
  simp only [hx, exp_masked, ht, hD, hC, hK, ho, hq, exp_real, ← EReal.coe_sub, ← EReal.coe_mul, Lift.coe_sum, ← EReal.coe_add]
  rw [add_comm]
  congr 2
  · refine Finset.sum_congr rfl fun i _ => ?_
    by_cases h : j ≤ i
    · simp only [if_pos h]
      rw [mul_comm]
      congr 1
      exact Finset.sum_congr rfl fun d _ => by ring
    · simp only [if_neg h, mul_zero, zero_mul, Finset.sum_const_zero]
  · exact Finset.sum_congr rfl fun d _ => by ring

include hv ho

theorem v189 (g : Fin 4) (i j : Fin 64) (d : Fin 256) :
    after while1Ops0_10 V (Proc.devRef .tc main_while1b_v189) (ix4 g i j d)
      = ((q g i d * ((∑ e, o g i e * v g j e) * K g j d) * (if j ≤ i then Real.exp (c g i j d) else 0) : ℝ) : EReal) := by
  after_reads_at
  simp only [hx, exp_masked, hK, ho, hv, hq, exp_real, ← EReal.coe_mul, Lift.coe_sum]

omit hq in
theorem v188 (g : Fin 4) (i : Fin 64) (d : Fin 256) :
    after while1Ops0_10 V (Proc.devRef .tc main_while1b_v188) (ix3 g i d)
      = ((∑ j, da (v g) (o g) i j * K g j d * Real.exp (c g i j d) : ℝ) : EReal) := by
  after_reads_at
  simp only [hx, exp_masked, hK, ho, hv, exp_real, ← EReal.coe_mul, Lift.coe_sum]
  simp only [Fin.sum_univ_one]
  congr 1
  refine Finset.sum_congr rfl fun j _ => ?_
  unfold da
  split_ifs <;> ring

end

theorem v190 {w : Fin 4 → Fin 64 → Fin 64 → Fin 256 → ℝ} (h : ∀ g i j d, V (Proc.devRef .tc main_while1b_v189) (ix4 g i j d) = ((w g i j d : ℝ) : EReal))
    (hM : ∀ g i j d, V (Proc.devRef .tc main_while1b_v136_1) (ix4 g i j d) = BitVec.ofBool (decide (j ≤ i)))
    (g : Fin 4) (i j : Fin 64) (d : Fin 256) :
    after while1Ops0_11 V (Proc.devRef .tc main_while1b_v190) (ix4 g i j d) = ((if j ≤ i then w g i j d else 0 : ℝ) : EReal) := by
  after_reads_at
  rw [hM, h, sel_bool, ← EReal.coe_zero, coe_ite]

end

section
variable {q X Q : Fin 4 → Keys} (hq : ∀ g i d, V (Proc.devRef .tc main_while1b_v122) (ix3 g i d) = ((q g i d : ℝ) : EReal))
  (hX : ∀ g i d, V (Proc.devRef .tc main_while1b_v128) (ix3 g i d) = ((X g i d : ℝ) : EReal))
  (hQ : ∀ g i d, V (Proc.devRef .tc main_while1b_v129) (ix3 g i d) = ((Q g i d : ℝ) : EReal))
  {o : Fin 4 → Vals} (ho : ∀ g i e, V (Proc.devRef .tc main_while1b_v120) (ix3 g i e) = ((o g i e : ℝ) : EReal))
  {S T : Fin 4 → St} (hS : ∀ g d e, V (Proc.devRef .tc main_while1b_v121) (ix3 g d e) = ((S g e d : ℝ) : EReal))
  (hT : ∀ g d e, V (Proc.devRef .tc main_while1b_v163) (ix3 g d e) = ((T g e d : ℝ) : EReal))
include ho

include hQ hT in
theorem v202 (g : Fin 4) (d : Fin 256) (e : Fin 512) :
    after while1Ops0_12 V (Proc.devRef .tc main_while1b_v202) (ix3 g d e) = ((T g e d + ∑ i, o g i e * Q g i d : ℝ) : EReal) := by
  after_reads_at
  simp only [hQ, hT, ho, ← EReal.coe_mul, Lift.coe_sum, ← EReal.coe_add]

include hS hX

theorem v206 {a : Fin 4 → Keys} (ha : ∀ g i d, V (Proc.devRef .tc main_while1b_v188) (ix3 g i d) = ((a g i d : ℝ) : EReal))
    (g : Fin 4) (i : Fin 64) (d : Fin 256) :
    after while1Ops0_12 V (Proc.devRef .tc main_while1b_v206) (ix3 g i d) = ((dqS (o g) (S g) i d * X g i d + a g i d : ℝ) : EReal) := by
  after_reads_at
  simp only [hS, hX, ho, ha, ← EReal.coe_mul, Lift.coe_sum, ← EReal.coe_add]
  rw [add_comm]
  rfl

include hq in
theorem v210 {a : Fin 4 → Keys} (ha : ∀ g i d, V (Proc.devRef .tc main_while1b_v161) (ix3 g i d) = ((a g i d : ℝ) : EReal))
    {w : Fin 4 → Fin 64 → Fin 64 → Fin 256 → ℝ} (hw : ∀ g i j d, V (Proc.devRef .tc main_while1b_v190) (ix4 g i j d) = ((w g i j d : ℝ) : EReal))
    {l : Fin 4 → Fin 256 → ℝ} (hl : ∀ g y d, V (Proc.devRef .tc main_while1b_v170) (ix3 g y d) = ((l g d : ℝ) : EReal))
    (g : Fin 4) (i : Fin 64) (d : Fin 256) :
    after while1Ops0_12 V (Proc.devRef .tc main_while1b_v210) (ix3 g i d)
      = ((dqS (o g) (S g) i d * q g i d * X g i d + a g i d + ∑ j, w g i j d - ∑ x, w g x i d + (if i.val = 63 then l g d else 0) : ℝ) : EReal) := by
  after_reads_at
  simp only [hS, hX, ho, hq, ha, hw, hl, ← EReal.coe_mul, ← EReal.coe_neg, Lift.coe_sum, ← EReal.coe_add]
  have e : (if h : 63 ≤ i.val ∧ i.val - 63 < 1 then ((l g d : ℝ) : EReal) else 0) = ((if i.val = 63 then l g d else 0 : ℝ) : EReal) := by
    by_cases h : i.val = 63
    · rw [dif_pos (by omega), if_pos h]
    · rw [dif_neg (by omega), if_neg h]; rfl
  rw [e, ← EReal.coe_add]
  simp only [Fin.sum_univ_one, Finset.sum_neg_distrib]
  congr 1
  unfold dqS
  ring

end

theorem carried : after while1Ops0_18 V (Proc.devRef .tc main_v66_8) = V (Proc.devRef .tc main_while1b_v202)
    ∧ after while1Ops0_18 V (Proc.devRef .tc main_v66_9) = V (Proc.devRef .tc main_while1b_v212)
    ∧ after while1Ops0_18 V (Proc.devRef .tc main_v66_10) = V (Proc.devRef .tc main_while1b_v213)
    ∧ after while1Ops0_18 V (Proc.devRef .tc main_v66_11) = V (Proc.devRef .tc main_while1b_v214)
    ∧ after while1Ops0_18 V (Proc.devRef .tc main_v66_12) = V (Proc.devRef .tc main_while1b_v215) := by
  refine ⟨?_, ?_, ?_, ?_, ?_⟩ <;> (after_results; rfl)

end Cert.GlaReferenceIdeal.Bwd
-- ==== Proof.Gla.BwdStep.lean ====
module

public import proofs.«01_k».proof.Proof.Gla.Bwd

/-! The reference's backward loop: before trip `k` its stacks hold the gradients of the last `k` chunks. -/

@[expose] public section

set_option maxRecDepth 16384

noncomputable section

namespace Cert.GlaReferenceIdeal.Bwd

open Idealize.ShloMosaic Idealize.ShloMosaic.TcCoe Idealize.ShloMosaic.StableHlo Cert.GlaReferenceIdeal Cert.GlaReferenceIdeal.Run Cert.Gla.Spec Cert.Gla
open Cert.GlaReferenceIdeal.Fwd (late early)

/-- What the stretches from the `n`-th on don't write is as before them. -/
theorem late1 (n c : ℕ) (V : Valuation τ sig (Elt Ideal)) {r : Ref sig .tc}
    (hW : ((body1I (F := Ideal)).drop n).flatten.map HloOp.writes = (body1W.drop c).map fun w => {Proc.devRef (τ := τ) .tc w} := by rfl)
    (h : r ∉ body1W.drop c := by decide +kernel) :
    afterL body1I V (Proc.devRef .tc r) = afterL (body1I.take n) V (Proc.devRef .tc r) := late body1I body1W n c V hW h

variable (A : Args)

/-- The gradients of chunk `n` and head `h`, on the rows of zeros in front too. -/
def qAt (n : ℕ) (h : Fin 4) : Keys := dq (A.g n h) (A.k n h) (A.v n h) (A.o n h) (A.S h n)
def kAt (n : ℕ) (h : Fin 4) : Keys := dk (A.g n h) (A.q n h) (A.v n h) (A.o n h) (A.D h (32 - n))
def vAt (n : ℕ) (h : Fin 4) : Vals := dv (A.g n h) (A.q n h) (A.k n h) (A.o n h) (A.D h (32 - n))
def gAt (n : ℕ) (h : Fin 4) : Keys := dgate (A.g n h) (A.q n h) (A.k n h) (A.v n h) (A.o n h) (A.S h n) (A.D h (32 - n))

/-- What the loop's buffers hold before trip `k`. -/
structure State (V : Valuation τ sig (Elt Ideal)) (k : ℕ) : Prop where
  o : ∀ n g i e, V (Proc.devRef .tc main_v66_0) (ix4 n g i e) = ((A.o n.val g i e : ℝ) : EReal)
  S : ∀ n g d e, V (Proc.devRef .tc main_v66_1) (ix4 n g d e) = ((A.S g n.val e d : ℝ) : EReal)
  q : ∀ n g i d, V (Proc.devRef .tc main_v66_2) (ix4 n g i d) = ((A.q n.val g i d : ℝ) : EReal)
  keys : ∀ n g i d, V (Proc.devRef .tc main_v66_3) (ix4 n g i d) = ((A.k n.val g i d : ℝ) : EReal)
  v : ∀ n g i e, V (Proc.devRef .tc main_v66_4) (ix4 n g i e) = ((A.v n.val g i e : ℝ) : EReal)
  g : ∀ n g i d, V (Proc.devRef .tc main_v66_5) (ix4 n g i d) = ((A.g n.val g i d : ℝ) : EReal)
  mask : ∀ i j, V (Proc.devRef .tc main_v66_6) (ix2 i j) = BitVec.ofBool (decide (j ≤ i))
  trip : V (Proc.devRef .tc main_v66_7) = fun _ => BitVec.ofNat 32 k
  D : ∀ g d e, V (Proc.devRef .tc main_v66_8) (ix3 g d e) = ((A.D g k e d : ℝ) : EReal)
  dq : ∀ n g i d, 32 - n.val < k → V (Proc.devRef .tc main_v66_9) (ix4 n g i d) = ((qAt A n.val g i d : ℝ) : EReal)
  dk : ∀ n g i d, 32 - n.val < k → V (Proc.devRef .tc main_v66_10) (ix4 n g i d) = ((kAt A n.val g i d : ℝ) : EReal)
  dv : ∀ n g i e, 32 - n.val < k → V (Proc.devRef .tc main_v66_11) (ix4 n g i e) = ((vAt A n.val g i e : ℝ) : EReal)
  dg : ∀ n g i d, 32 - n.val < k → V (Proc.devRef .tc main_v66_12) (ix4 n g i d) = ((gAt A n.val g i d : ℝ) : EReal)

variable {A} {U : Valuation τ sig (Elt Ideal)} {k : ℕ}

theorem State.of_eq {V : Valuation τ sig (Elt Ideal)} (H : State A U k)
    (h : ∀ r ∈ [main_v66_0, main_v66_1, main_v66_2, main_v66_3, main_v66_4, main_v66_5, main_v66_6, main_v66_7, main_v66_8, main_v66_9, main_v66_10,
      main_v66_11, main_v66_12], V (Proc.devRef .tc r) = U (Proc.devRef .tc r)) : State A V k where
  o n g i d := by rw [h _ (by decide)]; exact H.o n g i d
  S n g i d := by rw [h _ (by decide)]; exact H.S n g i d
  q n g i d := by rw [h _ (by decide)]; exact H.q n g i d
  keys n g i d := by rw [h _ (by decide)]; exact H.keys n g i d
  v n g i d := by rw [h _ (by decide)]; exact H.v n g i d
  g n g i d := by rw [h _ (by decide)]; exact H.g n g i d
  mask i j := by rw [h _ (by decide)]; exact H.mask i j
  trip := by rw [h _ (by decide)]; exact H.trip
  D g d e := by rw [h _ (by decide)]; exact H.D g d e
  dq n g i d := by rw [h _ (by decide)]; exact H.dq n g i d
  dk n g i d := by rw [h _ (by decide)]; exact H.dk n g i d
  dv n g i d := by rw [h _ (by decide)]; exact H.dv n g i d
  dg n g i d := by rw [h _ (by decide)]; exact H.dg n g i d

section Trip
variable (hk : k < 33) (H : State A U k)
include H hk

local notation "E" => afterL (F := Ideal) body1I U

/-- The chunk of the trip, at every later stretch. -/
theorem chunk : E (Proc.devRef .tc main_while1b_v119) = fun _ => BitVec.ofNat 32 (32 - k) := by
  rw [late1 1 4 U]
  exact v119 U hk H.trip

theorem e120 (g : Fin 4) (i : Fin 64) (d : Fin 512) : E (Proc.devRef .tc main_while1b_v120) (ix3 g i d) = ((A.o (32 - k) g i d : ℝ) : EReal) := by
  rw [late1 2 9 U]
  exact (v120 (afterL (body1I.take 1) U) (k := 32 - k) (by omega) (by rw [← late1 1 4 U]; exact chunk hk H) g i d).trans
    (by rw [early body1I body1W 1 4 U]; exact H.o _ g i d)

theorem e121 (g : Fin 4) (i : Fin 256) (d : Fin 512) : E (Proc.devRef .tc main_while1b_v121) (ix3 g i d) = ((A.S g (32 - k) d i : ℝ) : EReal) := by
  rw [late1 3 14 U]
  exact (v121 (afterL (body1I.take 2) U) (k := 32 - k) (by omega) (by rw [← late1 2 9 U]; exact chunk hk H) g i d).trans
    (by rw [early body1I body1W 2 9 U]; exact H.S _ g i d)

theorem e122 (g : Fin 4) (i : Fin 64) (d : Fin 256) : E (Proc.devRef .tc main_while1b_v122) (ix3 g i d) = ((A.q (32 - k) g i d : ℝ) : EReal) := by
  rw [late1 4 19 U]
  exact (v122 (afterL (body1I.take 3) U) (k := 32 - k) (by omega) (by rw [← late1 3 14 U]; exact chunk hk H) g i d).trans
    (by rw [early body1I body1W 3 14 U]; exact H.q _ g i d)

theorem e123 (g : Fin 4) (i : Fin 64) (d : Fin 256) : E (Proc.devRef .tc main_while1b_v123) (ix3 g i d) = ((A.k (32 - k) g i d : ℝ) : EReal) := by
  rw [late1 5 24 U]
  exact (v123 (afterL (body1I.take 4) U) (k := 32 - k) (by omega) (by rw [← late1 4 19 U]; exact chunk hk H) g i d).trans
    (by rw [early body1I body1W 4 19 U]; exact H.keys _ g i d)

theorem e124 (g : Fin 4) (i : Fin 64) (d : Fin 512) : E (Proc.devRef .tc main_while1b_v124) (ix3 g i d) = ((A.v (32 - k) g i d : ℝ) : EReal) := by
  rw [late1 6 29 U]
  exact (v124 (afterL (body1I.take 5) U) (k := 32 - k) (by omega) (by rw [← late1 5 24 U]; exact chunk hk H) g i d).trans
    (by rw [early body1I body1W 5 24 U]; exact H.v _ g i d)

theorem e125 (g : Fin 4) (i : Fin 64) (d : Fin 256) : E (Proc.devRef .tc main_while1b_v125) (ix3 g i d) = ((A.g (32 - k) g i d : ℝ) : EReal) := by
  rw [late1 7 34 U]
  exact (v125 (afterL (body1I.take 6) U) (k := 32 - k) (by omega) (by rw [← late1 6 29 U]; exact chunk hk H) g i d).trans
    (by rw [early body1I body1W 6 29 U]; exact H.g _ g i d)

/-- The decays up to a row, in the trip's chunk. -/
local notation "Γ" => fun g => cum (A.g (32 - k) g)

theorem e126 (g : Fin 4) (i : Fin 64) (d : Fin 256) : E (Proc.devRef .tc main_while1b_v126) (ix3 g i d) = ((Γ g i d : ℝ) : EReal) := by
  rw [late1 8 37 U]
  exact v126 (afterL (body1I.take 7) U) (G := A.g (32 - k)) (fun g i d => by rw [← late1 7 34 U]; exact e125 hk H g i d) g i d

omit H hk in
theorem tot_eq (g : Fin 4) (d : Fin 256) : Γ g 63 d = tot (A.g (32 - k) g) d :=
  Finset.sum_congr rfl fun x _ => if_pos (Nat.le_of_lt_succ x.isLt)

theorem e127 (g : Fin 4) (i : Fin 1) (d : Fin 256) : E (Proc.devRef .tc main_while1b_v127) (ix3 g i d) = ((tot (A.g (32 - k) g) d : ℝ) : EReal) := by
  rw [late1 9 47 U, ← tot_eq]
  exact v127 (afterL (body1I.take 8) U) (C := Γ) (fun g i d => by rw [← late1 8 37 U]; exact e126 hk H g i d) g i d

theorem e128 (g : Fin 4) (i : Fin 64) (d : Fin 256) : E (Proc.devRef .tc main_while1b_v128) (ix3 g i d) = ((Real.exp (Γ g i d) : ℝ) : EReal) := by
  rw [late1 9 47 U]
  exact v128 (afterL (body1I.take 8) U) (C := Γ) (fun g i d => by rw [← late1 8 37 U]; exact e126 hk H g i d) g i d

theorem e129 (g : Fin 4) (i : Fin 64) (d : Fin 256) :
    E (Proc.devRef .tc main_while1b_v129) (ix3 g i d) = ((A.q (32 - k) g i d * Real.exp (Γ g i d) : ℝ) : EReal) := by
  rw [late1 9 47 U]
  exact v129 (afterL (body1I.take 8) U) (C := Γ) (fun g i d => by rw [← late1 8 37 U]; exact e126 hk H g i d)
    (q := A.q (32 - k)) (fun g i d => by rw [← late1 8 37 U]; exact e122 hk H g i d) g i d

theorem e135 (i j : Fin 64) (y : Fin 1) : afterL (F := Ideal) (body1I.take 9) U (Proc.devRef .tc main_while1b_v135) (ix3 i j y) = BitVec.ofBool (decide (j ≤ i)) :=
  v135 (afterL (body1I.take 8) U) (fun i j => by rw [early body1I body1W 8 37 U]; exact H.mask i j) i j y

theorem emask (g : Fin 4) (i j : Fin 64) (d : Fin 256) : E (Proc.devRef .tc main_while1b_v136_1) (ix4 g i j d) = BitVec.ofBool (decide (j ≤ i)) := by
  rw [late1 10 53 U]
  exact mask (afterL (body1I.take 9) U) (e135 hk H) g i j d

theorem e136 (g : Fin 4) (i j : Fin 64) (d : Fin 256) :
    E (Proc.devRef .tc main_while1b_v136_0) (ix4 g i j d) = if j ≤ i then ((Γ g i d - Γ g j d : ℝ) : EReal) else ⊥ := by
  rw [late1 10 53 U]
  exact v136 (afterL (body1I.take 9) U) (c := fun g i j d => Γ g i d - Γ g j d) (e135 hk H)
    (fun g i j d => v134 (afterL (body1I.take 8) U) (C := Γ) (fun g i d => by rw [← late1 8 37 U]; exact e126 hk H g i d) g i j d)
    (least (afterL (body1I.take 8) U)) g i j d

theorem e163 (g : Fin 4) (d : Fin 256) (e : Fin 512) :
    E (Proc.devRef .tc main_while1b_v163) (ix3 g d e) = ((Real.exp (tot (A.g (32 - k) g) d) * A.D g k e d : ℝ) : EReal) := by
  rw [late1 11 114 U]
  exact v163 (afterL (body1I.take 10) U) (t := fun g => tot (A.g (32 - k) g)) (ht := fun g i d => by rw [← late1 10 53 U]; exact e127 hk H g i d)
    (D := fun g => A.D g k) (hD := fun g d e => by rw [early body1I body1W 10 53 U]; exact H.D g d e) g d e

theorem e161 (g : Fin 4) (j : Fin 64) (d : Fin 256) :
    E (Proc.devRef .tc main_while1b_v161) (ix3 g j d) = ((-(dkS (A.v (32 - k) g) (A.D g k) j d * A.k (32 - k) g j d * Real.exp (tot (A.g (32 - k) g) d - Γ g j d)) : ℝ) : EReal) := by
  rw [late1 11 114 U]
  exact v161 (afterL (body1I.take 10) U) (C := Γ) (hC := fun g i d => by rw [← late1 10 53 U]; exact e126 hk H g i d)
    (K := A.k (32 - k)) (hK := fun g i d => by rw [← late1 10 53 U]; exact e123 hk H g i d)
    (v := A.v (32 - k)) (hv := fun g i e => by rw [← late1 10 53 U]; exact e124 hk H g i e)
    (D := fun g => A.D g k) (hD := fun g d e => by rw [early body1I body1W 10 53 U]; exact H.D g d e)
    (t := fun g => tot (A.g (32 - k) g)) (ht := fun g i d => by rw [← late1 10 53 U]; exact e127 hk H g i d) g j d

theorem e170 (g : Fin 4) (y : Fin 1) (d : Fin 256) :
    E (Proc.devRef .tc main_while1b_v170) (ix3 g y d) = ((∑ j, dkS (A.v (32 - k) g) (A.D g k) j d * A.k (32 - k) g j d * Real.exp (tot (A.g (32 - k) g) d - Γ g j d)
        + (∑ e, A.D g k e d * A.S g (32 - k) e d) * Real.exp (tot (A.g (32 - k) g) d) : ℝ) : EReal) := by
  rw [late1 11 114 U]
  exact v170 (afterL (body1I.take 10) U) (C := Γ) (hC := fun g i d => by rw [← late1 10 53 U]; exact e126 hk H g i d)
    (K := A.k (32 - k)) (hK := fun g i d => by rw [← late1 10 53 U]; exact e123 hk H g i d)
    (v := A.v (32 - k)) (hv := fun g i e => by rw [← late1 10 53 U]; exact e124 hk H g i e)
    (S := fun g => A.S g (32 - k)) (hS := fun g d e => by rw [← late1 10 53 U]; exact e121 hk H g d e)
    (D := fun g => A.D g k) (hD := fun g d e => by rw [early body1I body1W 10 53 U]; exact H.D g d e)
    (t := fun g => tot (A.g (32 - k) g)) (ht := fun g i d => by rw [← late1 10 53 U]; exact e127 hk H g i d) g y d

theorem e182 (g : Fin 4) (j : Fin 64) (d : Fin 256) :
    E (Proc.devRef .tc main_while1b_v182) (ix3 g j d) = ((Spec.dk (A.g (32 - k) g) (A.q (32 - k) g) (A.v (32 - k) g) (A.o (32 - k) g) (A.D g k) j d : ℝ) : EReal) := by
  rw [late1 11 114 U]
  exact v182 (afterL (body1I.take 10) U) (C := Γ) (hC := fun g i d => by rw [← late1 10 53 U]; exact e126 hk H g i d)
    (q := A.q (32 - k)) (hq := fun g i d => by rw [← late1 10 53 U]; exact e122 hk H g i d)
    (K := A.k (32 - k)) (hK := fun g i d => by rw [← late1 10 53 U]; exact e123 hk H g i d)
    (v := A.v (32 - k)) (hv := fun g i e => by rw [← late1 10 53 U]; exact e124 hk H g i e)
    (o := A.o (32 - k)) (ho := fun g i e => by rw [← late1 10 53 U]; exact e120 hk H g i e)
    (D := fun g => A.D g k) (hD := fun g d e => by rw [early body1I body1W 10 53 U]; exact H.D g d e)
    (t := fun g => tot (A.g (32 - k) g)) (ht := fun g i d => by rw [← late1 10 53 U]; exact e127 hk H g i d)
    (c := fun g i j d => Γ g i d - Γ g j d) (hx := fun g i j d => by rw [← late1 10 53 U]; exact e136 hk H g i j d) g j d

theorem e173 (g : Fin 4) (j : Fin 64) (e : Fin 512) :
    E (Proc.devRef .tc main_while1b_v173) (ix3 g j e) = ((Spec.dv (A.g (32 - k) g) (A.q (32 - k) g) (A.k (32 - k) g) (A.o (32 - k) g) (A.D g k) j e : ℝ) : EReal) := by
  rw [late1 11 114 U]
  exact v173 (afterL (body1I.take 10) U) (C := Γ) (hC := fun g i d => by rw [← late1 10 53 U]; exact e126 hk H g i d)
    (q := A.q (32 - k)) (hq := fun g i d => by rw [← late1 10 53 U]; exact e122 hk H g i d)
    (K := A.k (32 - k)) (hK := fun g i d => by rw [← late1 10 53 U]; exact e123 hk H g i d)
    (o := A.o (32 - k)) (ho := fun g i e => by rw [← late1 10 53 U]; exact e120 hk H g i e)
    (D := fun g => A.D g k) (hD := fun g d e => by rw [early body1I body1W 10 53 U]; exact H.D g d e)
    (t := fun g => tot (A.g (32 - k) g)) (ht := fun g i d => by rw [← late1 10 53 U]; exact e127 hk H g i d)
    (c := fun g i j d => Γ g i d - Γ g j d) (hx := fun g i j d => by rw [← late1 10 53 U]; exact e136 hk H g i j d) g j e

theorem e189 (g : Fin 4) (i j : Fin 64) (d : Fin 256) :
    E (Proc.devRef .tc main_while1b_v189) (ix4 g i j d) = ((A.q (32 - k) g i d * ((∑ e, A.o (32 - k) g i e * A.v (32 - k) g j e) * A.k (32 - k) g j d)
      * (if j ≤ i then Real.exp (Γ g i d - Γ g j d) else 0) : ℝ) : EReal) := by
  rw [late1 11 114 U]
  exact v189 (afterL (body1I.take 10) U) (q := A.q (32 - k)) (hq := fun g i d => by rw [← late1 10 53 U]; exact e122 hk H g i d)
    (K := A.k (32 - k)) (hK := fun g i d => by rw [← late1 10 53 U]; exact e123 hk H g i d)
    (v := A.v (32 - k)) (hv := fun g i e => by rw [← late1 10 53 U]; exact e124 hk H g i e)
    (o := A.o (32 - k)) (ho := fun g i e => by rw [← late1 10 53 U]; exact e120 hk H g i e)
    (c := fun g i j d => Γ g i d - Γ g j d) (hx := fun g i j d => by rw [← late1 10 53 U]; exact e136 hk H g i j d) g i j d

theorem e188 (g : Fin 4) (i : Fin 64) (d : Fin 256) :
    E (Proc.devRef .tc main_while1b_v188) (ix3 g i d) = ((dqA (A.g (32 - k) g) (A.k (32 - k) g) (A.v (32 - k) g) (A.o (32 - k) g) i d : ℝ) : EReal) := by
  rw [late1 11 114 U]
  exact v188 (afterL (body1I.take 10) U) (K := A.k (32 - k)) (hK := fun g i d => by rw [← late1 10 53 U]; exact e123 hk H g i d)
    (v := A.v (32 - k)) (hv := fun g i e => by rw [← late1 10 53 U]; exact e124 hk H g i e)
    (o := A.o (32 - k)) (ho := fun g i e => by rw [← late1 10 53 U]; exact e120 hk H g i e)
    (c := fun g i j d => Γ g i d - Γ g j d) (hx := fun g i j d => by rw [← late1 10 53 U]; exact e136 hk H g i j d) g i d

theorem e190 (g : Fin 4) (i j : Fin 64) (d : Fin 256) :
    E (Proc.devRef .tc main_while1b_v190) (ix4 g i j d) = ((A.q (32 - k) g i d * A.k (32 - k) g j d * da (A.v (32 - k) g) (A.o (32 - k) g) i j * Real.exp (Γ g i d - Γ g j d) : ℝ) : EReal) := by
  rw [late1 12 117 U]
  refine (v190 (afterL (body1I.take 11) U) (fun g i j d => by rw [← late1 11 114 U]; exact e189 hk H g i j d)
    (fun g i j d => by rw [← late1 11 114 U]; exact emask hk H g i j d) g i j d).trans (congrArg _ ?_)
  unfold da
  split_ifs <;> ring

theorem e202 (g : Fin 4) (d : Fin 256) (e : Fin 512) : E (Proc.devRef .tc main_while1b_v202) (ix3 g d e) = ((A.D g (k + 1) e d : ℝ) : EReal) := by
  rw [late1 13 142 U]
  exact v202 (afterL (body1I.take 12) U) (hQ := fun g i d => by rw [← late1 12 117 U]; exact e129 hk H g i d)
    (ho := fun g i e => by rw [← late1 12 117 U]; exact e120 hk H g i e)
    (T := fun g e d => Real.exp (tot (A.g (32 - k) g) d) * A.D g k e d) (hT := fun g d e => by rw [← late1 12 117 U]; exact e163 hk H g d e) g d e

theorem e206 (g : Fin 4) (i : Fin 64) (d : Fin 256) :
    E (Proc.devRef .tc main_while1b_v206) (ix3 g i d) = ((Spec.dq (A.g (32 - k) g) (A.k (32 - k) g) (A.v (32 - k) g) (A.o (32 - k) g) (A.S g (32 - k)) i d : ℝ) : EReal) := by
  rw [late1 13 142 U]
  exact v206 (afterL (body1I.take 12) U) (hX := fun g i d => by rw [← late1 12 117 U]; exact e128 hk H g i d)
    (ho := fun g i e => by rw [← late1 12 117 U]; exact e120 hk H g i e)
    (S := fun g => A.S g (32 - k)) (hS := fun g d e => by rw [← late1 12 117 U]; exact e121 hk H g d e)
    (ha := fun g i d => by rw [← late1 12 117 U]; exact e188 hk H g i d) g i d

theorem e210 (g : Fin 4) (i : Fin 64) (d : Fin 256) :
    E (Proc.devRef .tc main_while1b_v210) (ix3 g i d) = ((dcum (A.g (32 - k) g) (A.q (32 - k) g) (A.k (32 - k) g) (A.v (32 - k) g) (A.o (32 - k) g) (A.S g (32 - k)) (A.D g k) i d : ℝ) : EReal) := by
  rw [late1 13 142 U]
  refine (v210 (afterL (body1I.take 12) U) (q := A.q (32 - k)) (hq := fun g i d => by rw [← late1 12 117 U]; exact e122 hk H g i d)
    (hX := fun g i d => by rw [← late1 12 117 U]; exact e128 hk H g i d)
    (ho := fun g i e => by rw [← late1 12 117 U]; exact e120 hk H g i e)
    (S := fun g => A.S g (32 - k)) (hS := fun g d e => by rw [← late1 12 117 U]; exact e121 hk H g d e)
    (ha := fun g i d => by rw [← late1 12 117 U]; exact e161 hk H g i d)
    (hw := fun g i j d => by rw [← late1 12 117 U]; exact e190 hk H g i j d)
    (hl := fun g y d => by rw [← late1 12 117 U]; exact e170 hk H g y d) g i d).trans (congrArg _ ?_)
  have e1 : ∑ j, A.q (32 - k) g i d * A.k (32 - k) g j d * da (A.v (32 - k) g) (A.o (32 - k) g) i j * Real.exp (Γ g i d - Γ g j d)
      = A.q (32 - k) g i d * dqA (A.g (32 - k) g) (A.k (32 - k) g) (A.v (32 - k) g) (A.o (32 - k) g) i d := by
    unfold dqA
    rw [Finset.mul_sum]
    exact Finset.sum_congr rfl fun j _ => by ring
  have e2 : ∑ x, A.q (32 - k) g x d * A.k (32 - k) g i d * da (A.v (32 - k) g) (A.o (32 - k) g) x i * Real.exp (Γ g x d - Γ g i d)
      = A.k (32 - k) g i d * dkA (A.g (32 - k) g) (A.q (32 - k) g) (A.v (32 - k) g) (A.o (32 - k) g) i d := by
    unfold dkA
    rw [Finset.mul_sum]
    exact Finset.sum_congr rfl fun j _ => by ring
  rw [e1, e2]
  unfold dcum
  ring

theorem e211 (g : Fin 4) (i : Fin 64) (d : Fin 256) :
    E (Proc.devRef .tc main_while1b_v211) (ix3 g i d) = ((dgate (A.g (32 - k) g) (A.q (32 - k) g) (A.k (32 - k) g) (A.v (32 - k) g) (A.o (32 - k) g) (A.S g (32 - k)) (A.D g k) i d : ℝ) : EReal) := by
  rw [late1 14 145 U]
  exact v211 (afterL (body1I.take 13) U) (G := fun g => dcum (A.g (32 - k) g) (A.q (32 - k) g) (A.k (32 - k) g) (A.v (32 - k) g) (A.o (32 - k) g) (A.S g (32 - k)) (A.D g k))
    (fun g i d => by rw [← late1 13 142 U]; exact e210 hk H g i d) g i d

/-- One trip. -/
theorem State.trip_step : State A (afterL (F := Ideal) body1I U) (k + 1) where
  o n g i d := by rw [body1_keep U _ (by decide +kernel)]; exact H.o n g i d
  S n g i d := by rw [body1_keep U _ (by decide +kernel)]; exact H.S n g i d
  q n g i d := by rw [body1_keep U _ (by decide +kernel)]; exact H.q n g i d
  keys n g i d := by rw [body1_keep U _ (by decide +kernel)]; exact H.keys n g i d
  v n g i d := by rw [body1_keep U _ (by decide +kernel)]; exact H.v n g i d
  g n g i d := by rw [body1_keep U _ (by decide +kernel)]; exact H.g n g i d
  mask i j := by rw [body1_keep U _ (by decide +kernel)]; exact H.mask i j
  trip := by
    rw [step1, H.trip]
    funext _
    exact (BitVec.ofNat_add (n := 32) k 1).symm
  D g d e := by
    rw [(carried (afterL (body1I.take 18) U)).1.trans (late1 18 165 U).symm |> (show E (Proc.devRef .tc main_v66_8) = _ from ·)]
    exact e202 hk H g d e
  dq n g i d hn := by
    rw [(carried (afterL (body1I.take 18) U)).2.1.trans (late1 18 165 U).symm |> (show E (Proc.devRef .tc main_v66_9) = _ from ·)]
    rw [late1 15 150 U]
    refine (v212 (afterL (body1I.take 14) U) (k := 32 - k) (by omega) (by rw [← late1 14 145 U]; exact chunk hk H) n g i d).trans ?_
    split
    · rename_i h
      rw [← late1 14 145 U, e206 hk H g i d]
      unfold qAt
      rw [h]
    · rw [early body1I body1W 14 145 U]
      exact H.dq n g i d (by omega)
  dk n g i d hn := by
    rw [(carried (afterL (body1I.take 18) U)).2.2.1.trans (late1 18 165 U).symm |> (show E (Proc.devRef .tc main_v66_10) = _ from ·)]
    rw [late1 16 155 U]
    refine (v213 (afterL (body1I.take 15) U) (k := 32 - k) (by omega) (by rw [← late1 15 150 U]; exact chunk hk H) n g i d).trans ?_
    split
    · rename_i h
      rw [← late1 15 150 U, e182 hk H g i d]
      unfold kAt
      rw [h, show 32 - (32 - k) = k by omega]
    · rw [early body1I body1W 15 150 U]
      exact H.dk n g i d (by omega)
  dv n g i d hn := by
    rw [(carried (afterL (body1I.take 18) U)).2.2.2.1.trans (late1 18 165 U).symm |> (show E (Proc.devRef .tc main_v66_11) = _ from ·)]
    rw [late1 17 160 U]
    refine (v214 (afterL (body1I.take 16) U) (k := 32 - k) (by omega) (by rw [← late1 16 155 U]; exact chunk hk H) n g i d).trans ?_
    split
    · rename_i h
      rw [← late1 16 155 U, e173 hk H g i d]
      unfold vAt
      rw [h, show 32 - (32 - k) = k by omega]
    · rw [early body1I body1W 16 155 U]
      exact H.dv n g i d (by omega)
  dg n g i d hn := by
    rw [(carried (afterL (body1I.take 18) U)).2.2.2.2.trans (late1 18 165 U).symm |> (show E (Proc.devRef .tc main_v66_12) = _ from ·)]
    rw [late1 18 165 U]
    refine (v215 (afterL (body1I.take 17) U) (k := 32 - k) (by omega) (by rw [← late1 17 160 U]; exact chunk hk H) n g i d).trans ?_
    split
    · rename_i h
      rw [← late1 17 160 U, e211 hk H g i d]
      unfold gAt
      rw [h, show 32 - (32 - k) = k by omega]
    · rw [early body1I body1W 17 160 U]
      exact H.dg n g i d (by omega)

end Trip

/-- All trips. -/
theorem State.trips (V : Dev nD → Valuation τ sig (Elt Ideal)) (c : Dev nD) (H : State A (V c) 0) :
    ∀ k, k ≤ 33 → State A (atTrip cond1Ops body1I V k c) k
  | 0, _ => by rw [atTrip_zero]; exact H
  | k + 1, hk => by
    rw [atTrip_succ]
    refine State.trip_step (by omega) ((State.trips V c H k (by omega)).of_eq fun r hr => cond1_keep _ r ?_)
    revert r
    decide +kernel

end Cert.GlaReferenceIdeal.Bwd
-- ==== Proof.Gla.Rows.lean ====
module

public import proofs.«01_k».proof.Proof.Gla.Arr1
public import proofs.«01_k».proof.Proof.Gla.RefState
public import proofs.«01_k».proof.Proof.Gla.RefPost
public import proofs.«01_k».proof.Proof.Gla.BwdStep

/-! The results row by row of the array, without the rows of zeros in front, and the sums over all of its rows. -/

@[expose] public section

set_option maxRecDepth 16384

noncomputable section

namespace Cert.Gla.Rows

open Cert.GlaKernelIdeal.Head Cert.Gla.Spec Cert.GlaReferenceIdeal.Pre Cert.GlaReferenceIdeal.Post Cert.GlaReferenceIdeal.Bwd Cert.GlaKernelIdeal.Arr

variable (A : Args)

/-- A row in front has no query, so nothing comes out. -/
theorem out_zero (g : Fin 4) (i : Fin 64) (e : Fin 512) (h : i.val < 48) : A.out 0 g i e = 0 := by
  have hq : ∀ d, A.q 0 g i d = 0 := fun d => by
    unfold Args.q Spec.pad
    rw [dif_neg (by omega), zero_mul]
  have ha : ∀ j, att (A.g 0 g) (A.q 0 g) (A.k 0 g) i j = 0 := fun j => by
    unfold att
    split
    · exact Finset.sum_eq_zero fun d _ => by rw [hq, zero_mul, zero_mul]
    · rfl
  unfold Args.out Spec.out
  rw [Finset.sum_eq_zero fun d _ => by rw [hq, zero_mul, zero_mul], Finset.sum_eq_zero fun j _ => by rw [ha, zero_mul], add_zero]

theorem dz_zero (g : Fin 4) (n : ℕ) (i : Fin 64) (d : Fin 256) (h : 64 * n + i.val < 48) : A.dz n g i d = 0 := by
  unfold Args.dz dpre
  rw [if_neg (by omega)]

/-- The gradient of the gate's argument, at a row and a column of the array. -/
def dzRow (i : Fin 2064) (j : Fin 1024) : ℝ := A.dz (ch i).val (kh j) (rw' i) (kd j)

theorem front (i : Fin 2064) : 48 ≤ 64 * (ch i).val + (rw' i).val := by
  show 48 ≤ 64 * ((48 + i.val) / 64) + (48 + i.val) % 64
  omega

theorem back (i : Fin 2064) (h) : (⟨64 * (ch i).val + (rw' i).val - 48, h⟩ : Fin 2064) = i :=
  Fin.ext (by show 64 * ((48 + i.val) / 64) + (48 + i.val) % 64 - 48 = i.val; omega)

theorem kcol_back (j : Fin 1024) : kcol (kh j) (kd j) = j := Fin.ext (by show 256 * (j.val / 256) + j.val % 256 = j.val; omega)

theorem dz_row (i : Fin 2064) (j : Fin 1024) :
    gAt A (ch i).val (kh j) (rw' i) (kd j) * (1 / 16) * (1 / (1 + Real.exp (zAt A i j))) = dzRow A i j := by
  unfold dzRow Args.dz dpre gAt
  rw [if_pos (front i), z_eq A (ch i) (kh j) (rw' i) (kd j) (front i), back, kcol_back, ← div_eq_mul_one_div]

theorem pad_row {w : ℕ} (f : Fin 2064 → Fin w → ℝ) (i : Fin 2064) (j : Fin w) : Spec.pad f (ch i).val (rw' i) j = f i j := by
  unfold Spec.pad
  rw [dif_pos ⟨front i, by have := i.isLt; show 64 * ((48 + i.val) / 64) + (48 + i.val) % 64 < 2112; omega⟩, back]

theorem dr_row (r : Fin 2064 → Fin 2048 → EReal) (i : Fin 2064) (j : Fin 2048) : drAt r (ch i).val (rw' i) j = r i j := by
  unfold drAt
  rw [dif_pos ⟨front i, by have := i.isLt; show 64 * ((48 + i.val) / 64) + (48 + i.val) % 64 < 2112; omega⟩, back]

/-- The backward loop's sum over the chunks, last chunk first, is the sum over the chunks. -/
theorem dwTo_sum (g : Fin 4) (r : Fin 128) (d : Fin 256) : ∀ n, dwTo A g n r d = ∑ j ∈ Finset.range (n + 1), A.dwAt (32 - j) g r d
  | 0 => by rw [Finset.sum_range_one]; rfl
  | n + 1 => by rw [Finset.sum_range_succ, ← dwTo_sum g r d n]; rfl

theorem dbTo_sum (g : Fin 4) (d : Fin 256) : ∀ n, dbTo A g n d = ∑ j ∈ Finset.range (n + 1), A.dbAt (32 - j) g d
  | 0 => by rw [Finset.sum_range_one]; rfl
  | n + 1 => by rw [Finset.sum_range_succ, ← dbTo_sum g d n]; rfl

theorem chunks_rows (f : ℕ → Fin 64 → ℝ) (h : ∀ n i, 64 * n + i.val < 48 → f n i = 0) :
    ∑ j ∈ Finset.range (32 + 1), ∑ i, f (32 - j) i = ∑ x : Fin 2064, f (ch x).val (rw' x) := by
  rw [Finset.sum_range_reflect (fun j => ∑ i, f j i) 33, Finset.sum_range (fun j => ∑ i, f j i)]
  have e := Fin.sum_mul_add_fin 33 64 (fun y : Fin 2112 => f (y.val / 64) ⟨y.val % 64, by omega⟩) rfl
  have e' := Lift.sum_pad (fun y : Fin 2112 => f (y.val / 64) ⟨y.val % 64, by omega⟩) fun y hy => h _ _ (by show 64 * (y.val / 64) + y.val % 64 < 48; omega)
  refine Eq.trans (Finset.sum_congr rfl fun n _ => Finset.sum_congr rfl fun i _ => ?_) (e.trans e')
  have h0 : (n.val * 64 + i.val) / 64 = n.val := by omega
  have h1 : (n.val * 64 + i.val) % 64 = i.val := by omega
  show _ = f ((n.val * 64 + i.val) / 64) ⟨(n.val * 64 + i.val) % 64, _⟩
  rw [h0]
  exact congrArg (f n.val) (Fin.ext h1.symm)

theorem dz_col (i : Fin 2064) (g : Fin 4) (d : Fin 256) : dzRow A i (kcol g d) = A.dz (ch i).val g (rw' i) d := by
  have h0 : kh (kcol g d) = g := Fin.ext (by show (256 * g.val + d.val) / 256 = g.val; omega)
  have h1 : kd (kcol g d) = d := Fin.ext (by show (256 * g.val + d.val) % 256 = d.val; omega)
  unfold dzRow
  rw [h0, h1]

theorem dw_rows (g : Fin 4) (r : Fin 128) (d : Fin 256) :
    (if h : r.val < 16 then ∑ x, dzRow A x (kcol g d) * A.P x ⟨4096 + r.val, by omega⟩ else 0) = dwTo A g 32 r d := by
  rw [dwTo_sum]
  unfold Args.dwAt
  rw [chunks_rows (fun n i => A.lr n i r * A.dz n g i d) fun n i h => by rw [dz_zero A g n i d h, mul_zero]]
  unfold Args.lr
  by_cases h : r.val < 16
  · rw [dif_pos h]
    refine Finset.sum_congr rfl fun x _ => ?_
    rw [dif_pos h, pad_row, dz_col, mul_comm]
  · rw [dif_neg h]
    exact (Finset.sum_eq_zero fun x _ => by rw [dif_neg h, zero_mul]).symm

theorem db_rows (g : Fin 4) (d : Fin 256) : ∑ x, dzRow A x (kcol g d) = dbTo A g 32 d := by
  rw [dbTo_sum]
  unfold Args.dbAt
  rw [chunks_rows (fun n i => A.dz n g i d) fun n i h => dz_zero A g n i d h]
  exact Finset.sum_congr rfl fun x _ => dz_col A x g d

theorem dlr_row (i : Fin 2064) (s : Fin 128) :
    A.dlr (ch i).val (rw' i) s = if h : s.val < 16 then ∑ x, dzRow A i x * A.W ⟨s.val, h⟩ x else 0 := by
  unfold Args.dlr Args.w
  by_cases h : s.val < 16
  · rw [dif_pos h]
    refine Eq.trans (Finset.sum_congr rfl fun g _ => Finset.sum_congr rfl fun d _ => ?_)
      (Fin.sum_mul_add_fin 4 256 (fun x : Fin 1024 => dzRow A i x * A.W ⟨s.val, h⟩ x) rfl)
    have e : (⟨g.val * 256 + d.val, by omega⟩ : Fin 1024) = kcol g d := Fin.ext (by show g.val * 256 + d.val = 256 * g.val + d.val; omega)
    rw [dif_pos h, ← dz_col]
    exact congrArg (fun x => dzRow A i x * A.W ⟨s.val, h⟩ x) e.symm
  · rw [dif_neg h]
    exact Finset.sum_eq_zero fun g _ => Finset.sum_eq_zero fun d _ => by rw [dif_neg h, mul_zero]

/-- A row in front has no gradient. -/
theorem dpv_zero (r : Fin 2064 → Fin 2048 → EReal) (n : ℕ) (a : Fin 64) (j : Fin 6272) (h : 64 * n + a.val < 48) :
    dpv A n (drAt r n) a j = (0 : EReal) := by
  have hn : ¬48 ≤ 64 * n + a.val := by omega
  unfold dpv
  split
  · unfold Args.dq; rw [if_neg hn]; rfl
  split
  · unfold Args.dk; rw [if_neg hn]; rfl
  split
  · unfold Args.dv; rw [if_neg hn]; rfl
  split
  · unfold drAt; rw [dif_neg (by omega)]
  · unfold Args.dlr
    rw [Finset.sum_eq_zero fun g _ => Finset.sum_eq_zero fun d _ => by rw [dz_zero A g n a d h, zero_mul]]
    rfl

end Cert.Gla.Rows
-- ==== Proof.Gla.RefVals.lean ====
module

public import proofs.«01_k».proof.Proof.Gla.Rows
public import proofs.«01_k».proof.Proof.Gla.RefRun

/-! The reference's four results, from its arguments. -/

@[expose] public section

set_option maxRecDepth 16384

noncomputable section

namespace Cert.GlaReferenceIdeal.Vals

open Idealize.ShloMosaic Idealize.ShloMosaic.TcCoe Idealize.ShloMosaic.StableHlo Cert.GlaReferenceIdeal Cert.GlaReferenceIdeal.Run Cert.Gla.Spec Cert.Gla
open Cert.GlaReferenceIdeal.Fwd (late early)
open Cert.GlaReferenceIdeal.Post Cert.Gla.Rows

variable {m : (ℓ : Loc nD τ sig) → Buf (Elt Ideal) ℓ} {c : Dev nD} {A : Args} {r : Fin 2064 → Fin 2048 → EReal}
  (M : Pre.Mem (launchContents m c) A r)

/-- What neither loop writes is after them as it was before the first. -/
theorem kept (b : Ref sig .tc) (h3 : b ∉ body1W ++ [main_while1c_c_42, main_while1c_v118]) (h2 : b ∉ midW)
    (h1 : b ∉ body0W ++ [main_while0c_c_39, main_while0c_v118]) : A3 m c (Proc.devRef .tc b) = A0 m c (Proc.devRef .tc b) :=
  (A3_keep m c b h3).trans ((mid_keep _ b h2).trans (A1_keep m c b h1))

include M

theorem fwd : Fwd.State A (A1 m c) 33 :=
  (Fwd.State.trips (A0 m) c (Pre.state M) 33 le_rfl).of_eq fun r hr => cond0_keep _ r (by revert r; decide)

theorem bwd0 : Bwd.State A (A2 m c) 0 := by
  have H := fwd M
  obtain ⟨c0, c1, c2, c3, c4, c5, c6, c7, c8⟩ := carried (A1 m c)
  have k (b : Ref sig .tc) (h : b ∉ body0W ++ [main_while0c_c_39, main_while0c_v118]) := A1_keep m c b h
  refine ⟨fun n g i e => ?_, fun n g d e => ?_, fun n g i d => ?_, fun n g i d => ?_, fun n g i e => ?_, fun n g i d => ?_, fun i j => ?_, c7,
    fun g d e => c8 g d e, fun n g i e h => absurd h (Nat.not_lt_zero _), fun n g i e h => absurd h (Nat.not_lt_zero _),
    fun n g i e h => absurd h (Nat.not_lt_zero _), fun n g i e h => absurd h (Nat.not_lt_zero _)⟩
  · refine (congrFun c0 _).trans (v60 (A1 m c) (O := A.O) (fun i j => ?_) n g i e)
    rw [k main_arg3 (by decide +kernel)]
    exact (congrFun (pre_keep (launchContents m c) main_arg3 (by decide +kernel)) _).trans (M.O i j)
  · exact (congrFun c1 _).trans (H.states n g d e n.isLt)
  · exact ((congrFun c2 _).trans (congrFun (k main_v38 (by decide +kernel)) _)).trans (Pre.e38 M n g i d)
  · exact ((congrFun c3 _).trans (congrFun (k main_v40 (by decide +kernel)) _)).trans (Pre.e40 M n g i d)
  · exact ((congrFun c4 _).trans (congrFun (k main_v42 (by decide +kernel)) _)).trans (Pre.e42 M n g i e)
  · exact ((congrFun c5 _).trans (congrFun (k main_v44 (by decide +kernel)) _)).trans (Pre.e44 M n g i d)
  · exact ((congrFun c6 _).trans (congrFun (k main_v35 (by decide +kernel)) _)).trans (Pre.e35 i j)

theorem bwd : Bwd.State A (A3 m c) 33 :=
  (Bwd.State.trips (A2 m) c (bwd0 M) 33 le_rfl).of_eq fun r hr => cond1_keep _ r (by revert r; decide)

local notation "X" => A3 (F := Ideal) m c

theorem x3 (i : Fin 2064) (j : Fin 16) : X (Proc.devRef .tc main_v3) (ix2 i j) = ((A.P i ⟨4096 + j.val, by omega⟩ : ℝ) : EReal) := by
  rw [kept main_v3 (by decide +kernel) (by decide +kernel) (by decide +kernel)]
  exact Pre.e3 M i j

theorem x9_1 (i : Fin 2064) (j : Fin 1024) : X (Proc.devRef .tc main_v9_1) (ix2 i j) = ((1 / (1 + Real.exp (Pre.zAt A i j)) : ℝ) : EReal) := by
  rw [kept main_v9_1 (by decide +kernel) (by decide +kernel) (by decide +kernel)]
  exact Pre.e9_1 M i j

theorem xW (i : Fin 16) (j : Fin 1024) : X (Proc.devRef .tc main_arg1) (ix2 i j) = ((A.W i j : ℝ) : EReal) := by
  rw [kept main_arg1 (by decide +kernel) (by decide +kernel) (by decide +kernel)]
  exact (congrFun (pre_keep (launchContents m c) main_arg1 (by decide +kernel)) _).trans (M.W i j)

theorem xr (i : Fin 2064) (j : Fin 2048) : X (Proc.devRef .tc main_arg4) (ix2 i j) = r i j := by
  rw [kept main_arg4 (by decide +kernel) (by decide +kernel) (by decide +kernel)]
  exact (congrFun (pre_keep (launchContents m c) main_arg4 (by decide +kernel)) _).trans (M.r i j)

theorem x54 (i : Fin 2064) (j : Fin 2048) : X (Proc.devRef .tc main_v54) (ix2 i j) = ((A.out (ch i).val (vh j) (rw' i) (vd j) : ℝ) : EReal) := by
  rw [A3_keep m c main_v54 (by decide +kernel)]
  exact (v54 (A1 m c) i j).trans ((fwd M).outs _ _ _ _ (ch i).isLt)

omit M
/-- The first two, the first three of the last stretches; -/
abbrev P2 (m : (ℓ : Loc nD τ sig) → Buf (Elt Ideal) ℓ) (c : Dev nD) : Valuation τ sig (Elt Ideal) := afterL (postI.take 2) (A3 m c)
abbrev P3 (m : (ℓ : Loc nD τ sig) → Buf (Elt Ideal) ℓ) (c : Dev nD) : Valuation τ sig (Elt Ideal) := afterL (postI.take 3) (A3 m c)

theorem P3_of_P2 (b : Ref sig .tc) (h : b ∉ (postW.take 33).drop 30) : P3 m c (Proc.devRef .tc b) = P2 m c (Proc.devRef .tc b) :=
  late (postI.take 3) (postW.take 33) 2 30 (A3 m c) rfl h
theorem P2_of_P1 (b : Ref sig .tc) (h : b ∉ (postW.take 30).drop 5) :
    P2 m c (Proc.devRef .tc b) = afterL (postI.take 1) (A3 m c) (Proc.devRef .tc b) :=
  late (postI.take 2) (postW.take 30) 1 5 (A3 m c) rfl h
theorem P3_of_X (b : Ref sig .tc) (h : b ∉ postW.take 33) : P3 m c (Proc.devRef .tc b) = X (Proc.devRef .tc b) :=
  early postI postW 3 33 (A3 m c) rfl h
theorem P2_of_X (b : Ref sig .tc) (h : b ∉ postW.take 30) : P2 m c (Proc.devRef .tc b) = X (Proc.devRef .tc b) :=
  early postI postW 2 30 (A3 m c) rfl h
theorem P1_of_X (b : Ref sig .tc) (h : b ∉ postW.take 5) : afterL (postI.take 1) (A3 m c) (Proc.devRef .tc b) = X (Proc.devRef .tc b) :=
  early postI postW 1 5 (A3 m c) rfl h

include M

theorem p95 (i : Fin 2064) (j : Fin 1024) : P3 m c (Proc.devRef .tc main_v95) (ix2 i j) = ((dzRow A i j : ℝ) : EReal) := by
  refine (v95 (P2 m c) i j (x := Bwd.gAt A (ch i).val (kh j) (rw' i) (kd j) * (1 / 16)) (y := 1 / (1 + Real.exp (Pre.zAt A i j))) ?_ ?_).trans
    (congrArg _ (dz_row A i j))
  · exact v94 (afterL (postI.take 1) (A3 m c)) i (G := fun g y d => Bwd.gAt A (y.val / 64) g ⟨y.val % 64, by omega⟩ d)
      (fun g y d => (v68 (A3 m c) g y d).trans ((bwd M).dg _ _ _ _ (by omega))) j
  · rw [P2_of_X main_v9_1 (by decide +kernel)]
    exact x9_1 M i j

theorem p92 (i : Fin 2064) (j : Fin 1024) : P3 m c (Proc.devRef .tc main_v92) (ix2 i j) = ((A.dq (ch i).val (kh j) (rw' i) (kd j) : ℝ) : EReal) := by
  rw [P3_of_P2 main_v92 (by decide +kernel)]
  refine (v92 (afterL (postI.take 1) (A3 m c)) i j (x := Bwd.qAt A (ch i).val (kh j) (rw' i) (kd j)) ?_).trans (congrArg _ (if_pos (front i)).symm)
  rw [P1_of_X main_v66_9 (by decide +kernel)]
  exact (bwd M).dq _ _ _ _ (by omega)

theorem p88 (i : Fin 2064) (j : Fin 1024) : P3 m c (Proc.devRef .tc main_v88) (ix2 i j) = ((A.dk (ch i).val (kh j) (rw' i) (kd j) : ℝ) : EReal) := by
  rw [P3_of_P2 main_v88 (by decide +kernel)]
  refine (v88 (afterL (postI.take 1) (A3 m c)) i j).trans ((v71 (A3 m c) _ _ _ _).trans (((bwd M).dk _ _ _ _ (by omega)).trans ?_))
  exact congrArg _ (if_pos (front i)).symm

theorem p86 (i : Fin 2064) (j : Fin 2048) : P3 m c (Proc.devRef .tc main_v86) (ix2 i j) = ((A.dv (ch i).val (vh j) (rw' i) (vd j) : ℝ) : EReal) := by
  rw [P3_of_P2 main_v86 (by decide +kernel)]
  refine (v86 (afterL (postI.take 1) (A3 m c)) i j).trans ((v70 (A3 m c) _ _ _).trans (((bwd M).dv _ _ _ _ (by omega)).trans ?_))
  exact congrArg _ (if_pos (front i)).symm

theorem res0 : A4 m c (Proc.devRef .tc main_v111) = Cert.GlaKernelIdeal.Arr.oArr A := by
  funext y
  obtain ⟨i, j, rfl⟩ : ∃ (i : Fin 2112) (j : Fin 2048), y = ix2 i j := ⟨y 0, y 1, eq_ix2 y⟩
  refine (v111 (P3 m c) i j).trans ?_
  by_cases h : i.val < 48
  · rw [dif_pos h]
    show (0 : EReal) = ((A.out (i.val / 64) _ ⟨i.val % 64, _⟩ _ : ℝ) : EReal)
    have h0 : i.val / 64 = 0 := by omega
    rw [h0, out_zero A _ _ _ (by show i.val % 64 < 48; omega)]
    rfl
  · rw [dif_neg h, P3_of_X main_v54 (by decide +kernel)]
    refine (x54 M _ j).trans ?_
    have e : 48 + (i.val - 48) = i.val := by omega
    show ((A.out ((48 + (i.val - 48)) / 64) _ ⟨(48 + (i.val - 48)) % 64, _⟩ _ : ℝ) : EReal) = ((A.out (i.val / 64) _ ⟨i.val % 64, _⟩ _ : ℝ) : EReal)
    congr 2
    · rw [e]
    · exact Fin.ext (by show (48 + (i.val - 48)) % 64 = i.val % 64; rw [e])

theorem res2 : A4 m c (Proc.devRef .tc main_v115) = Cert.GlaKernelIdeal.Arr.dwArr A := by
  funext y
  obtain ⟨g, i, d, rfl⟩ : ∃ (g : Fin 4) (i : Fin 128) (d : Fin 256), y = ix3 g i d := ⟨y 0, y 1, y 2, eq_ix3 y⟩
  refine (v115 (P3 m c) (p95 M) (l := fun i j => A.P i ⟨4096 + j.val, by omega⟩) (fun i j => ?_) g i d).trans (congrArg _ (dw_rows A g i d))
  rw [P3_of_X main_v3 (by decide +kernel)]
  exact x3 M i j

theorem res3 : A4 m c (Proc.devRef .tc main_v117) = Cert.GlaKernelIdeal.Arr.dbArr A := by
  funext y
  obtain ⟨g, i, d, rfl⟩ : ∃ (g : Fin 4) (i : Fin 1) (d : Fin 256), y = ix3 g i d := ⟨y 0, y 1, y 2, eq_ix3 y⟩
  exact (v117 (P3 m c) (p95 M) g i d).trans (congrArg _ (db_rows A g d))

/-- A row of the projections' gradient, column by column of the layer's input. -/
theorem low (i : Fin 2064) (s : Fin 16) (j : Fin 6160) (hj : j.val = 4096 + s.val) :
    dproj (P3 m c) i j = ((∑ x, dzRow A i x * A.W s x : ℝ) : EReal) := by
  unfold dproj
  rw [dif_neg (by omega), dif_neg (by omega), dif_neg (by omega), dif_pos (by omega), ← Lift.coe_sum]
  refine Finset.sum_congr rfl fun x _ => ?_
  rw [EReal.coe_mul]
  refine congr (congrArg HMul.hMul (p95 M i x)) ?_
  rw [P3_of_X main_arg1 (by decide +kernel)]
  exact (congrArg (fun y => X (Proc.devRef .tc main_arg1) (ix2 y x)) (Fin.ext (by show j.val - 1024 - 1024 - 2048 = s.val; omega))).trans (xW M s x)

theorem res1 : A4 m c (Proc.devRef .tc main_v116) = Cert.GlaKernelIdeal.Arr.dpArr A r := by
  funext y
  obtain ⟨i, j, rfl⟩ : ∃ (i : Fin 2112) (j : Fin 6272), y = ix2 i j := ⟨y 0, y 1, eq_ix2 y⟩
  refine (v116 (P3 m c) i j).trans ?_
  by_cases h : i.val < 48
  · rw [dif_pos h]
    exact (dpv_zero A r (i.val / 64) ⟨i.val % 64, by omega⟩ j (by show 64 * (i.val / 64) + i.val % 64 < 48; omega)).symm
  rw [dif_neg h]
  obtain ⟨x, rfl⟩ : ∃ x : Fin 2064, i = ⟨48 + x.val, Nat.add_lt_add_left x.isLt 48⟩ := ⟨⟨i.val - 48, by omega⟩, Fin.ext (by show i.val = 48 + (i.val - 48); omega)⟩
  have ex : (⟨48 + x.val - 48, by omega⟩ : Fin 2064) = x := Fin.ext (by show 48 + x.val - 48 = x.val; omega)
  show _ = Cert.GlaKernelIdeal.Head.dpv A (ch x).val (Cert.GlaKernelIdeal.Arr.drAt r (ch x).val) (rw' x) j
  rw [ex]
  by_cases h1 : j.val < 4096
  · rw [dif_pos h1]
    unfold dproj Cert.GlaKernelIdeal.Head.dpv
    by_cases h2 : j.val < 1024
    · rw [dif_pos h2, dif_pos h2]
      exact p92 M x _
    by_cases h3 : j.val < 2048
    · rw [dif_neg h2, dif_neg h2, dif_pos h3, dif_pos (show j.val - 1024 < 1024 by omega)]
      exact p88 M x _
    · rw [dif_neg h2, dif_neg h2, dif_neg h3, dif_neg (show ¬j.val - 1024 < 1024 by omega), dif_pos h1, dif_pos (show j.val - 1024 - 1024 < 2048 by omega)]
      exact p86 M x _
  rw [dif_neg h1]
  by_cases h2 : j.val < 6144
  · rw [dif_pos (show j.val - 4096 < 2048 by omega)]
    unfold dproj Cert.GlaKernelIdeal.Head.dpv
    rw [dif_neg (show ¬j.val < 1024 by omega), dif_neg (show ¬j.val < 2048 by omega), dif_neg h1, dif_pos h2, dr_row,
      dif_neg (show ¬4112 + (j.val - 4096) < 1024 by omega), dif_neg (show ¬4112 + (j.val - 4096) - 1024 < 1024 by omega),
      dif_neg (show ¬4112 + (j.val - 4096) - 1024 - 1024 < 2048 by omega), dif_neg (show ¬4112 + (j.val - 4096) - 1024 - 1024 - 2048 < 16 by omega),
      P3_of_X main_arg4 (by decide +kernel)]
    exact (xr M x _).trans (congrArg (r x) (Fin.ext (by show 4112 + (j.val - 4096) - 1024 - 1024 - 2048 - 16 = j.val - 4096; omega)))
  rw [dif_neg (show ¬j.val - 4096 < 2048 by omega)]
  unfold Cert.GlaKernelIdeal.Head.dpv
  rw [dif_neg (show ¬j.val < 1024 by omega), dif_neg (show ¬j.val < 2048 by omega), dif_neg h1, dif_neg h2, dlr_row]
  by_cases h3 : j.val - 4096 - 2048 < 16
  · have h4 : j.val - 6144 < 16 := by omega
    rw [dif_pos h3]
    refine (low M x ⟨j.val - 6144, h4⟩ _ (by show 4096 + (j.val - 4096 - 2048) = 4096 + (j.val - 6144); omega)).trans (congrArg Real.toEReal ?_)
    exact (dif_pos h4 : (if h : j.val - 6144 < 16 then ∑ y, dzRow A x y * A.W ⟨j.val - 6144, h⟩ y else 0) = _).symm
  · have h4 : ¬j.val - 6144 < 16 := by omega
    rw [dif_neg h3]
    exact congrArg Real.toEReal (dif_neg h4 : (if h : j.val - 6144 < 16 then ∑ y, dzRow A x y * A.W ⟨j.val - 6144, h⟩ y else 0) = _).symm

end Cert.GlaReferenceIdeal.Vals
-- ==== Proof.Gla.Claims.lean ====
module

public import proofs.«01_k».proof.Proof.Gla.Pre
public import proofs.«01_k».proof.Proof.Gla.Frames
public import proofs.«01_k».proof.Proof.Gla.RefFrame
public import proofs.«01_k».proof.Proof.Gla.RefVals

/-! The gated linear attention, forward and backward: the results of the kernel are those of the reference. -/

@[expose] public section

set_option maxRecDepth 16384

noncomputable section

namespace Cert.Gla

open Idealize.ShloMosaic Idealize.SL.Sem

theorem algebraic [Cert.Pre_gla_finite.Facts] : Cert.algebraic_GlaKernelIdeal_GlaReferenceIdeal_pre_gla_finite := by
  intro m g m' g' hpre hargs
  refine ⟨fun c => (Cert.GlaKernelIdeal.Run.dat0 (Cert.GlaKernelIdeal.Run.V1 m) c).arrAt 6 Cert.GlaKernelIdeal.cfg0.N,
    fun c => (Cert.GlaKernelIdeal.Run.dat1 (Cert.GlaKernelIdeal.Run.V3 m) c).arrAt 9 Cert.GlaKernelIdeal.cfg1.N,
    fun c => (Cert.GlaKernelIdeal.Run.dat1 (Cert.GlaKernelIdeal.Run.V3 m) c).arrAt 10 Cert.GlaKernelIdeal.cfg1.N,
    fun c => (Cert.GlaKernelIdeal.Run.dat1 (Cert.GlaKernelIdeal.Run.V3 m) c).arrAt 11 Cert.GlaKernelIdeal.cfg1.N,
    (θ_run Cert.GlaKernelIdeal.defs _ _).mono (fun r h c =>
      ⟨h.out c, h.dp c, h.dw c, h.db c, h.arg0 c, h.arg1 c, h.arg2 c, h.arg3 c, h.arg4 c⟩) (Cert.GlaKernelIdeal.Run.run_left (F := Ideal) m g), ?_⟩
  refine (θ_run Cert.GlaReferenceIdeal.defs _ _).mono (fun r h c => ?_) (Cert.GlaReferenceIdeal.Run.run (F := Ideal) m' g')
  obtain ⟨⟨P, hP⟩, ⟨W, hW⟩, ⟨B, hB⟩, ⟨O, hO⟩⟩ := Cert.Pre_gla_finite.finite _ _ _ _ _ (hpre c)
  obtain ⟨a0, a1, a2, a3, a4⟩ := hargs c
  let A : Spec.Args := ⟨fun i j => P (ix2 i j), fun i j => W (ix2 i j), fun j => B (ix1 j), fun i j => O (ix2 i j)⟩
  let dr : Fin 2064 → Fin 2048 → EReal := fun i j =>
    (m ((c.tc : Thread Cert.GlaKernelIdeal.nD Cert.GlaKernelIdeal.τ).loc Cert.GlaKernelIdeal.main_arg4) : Cert.GlaKernelIdeal.S2064x2048.Idx → EReal) (ix2 i j)
  have K : Cert.GlaKernelIdeal.Arr.Mem m c A dr :=
    ⟨fun i j => congrFun hP (ix2 i j), fun i j => congrFun hW (ix2 i j), fun j => congrFun hB (ix1 j), fun i j => congrFun hO (ix2 i j), fun i j => rfl⟩
  have R : Cert.GlaReferenceIdeal.Pre.Mem (StableHlo.launchContents m' c) A dr :=
    ⟨fun i j => (congrFun a0 (ix2 i j)).trans (K.P i j), fun i j => (congrFun a1 (ix2 i j)).trans (K.W i j),
      fun j => (congrFun a2 (ix1 j)).trans (K.B j), fun i j => (congrFun a3 (ix2 i j)).trans (K.O i j), fun i j => congrFun a4 (ix2 i j)⟩
  refine ⟨((h c _ rfl).trans (Cert.GlaReferenceIdeal.Vals.res0 R)).trans (Cert.GlaKernelIdeal.Arr.o_arr K).symm,
    ((h c _ rfl).trans (Cert.GlaReferenceIdeal.Vals.res1 R)).trans (Cert.GlaKernelIdeal.Arr.dp_arr K).symm,
    ((h c _ rfl).trans (Cert.GlaReferenceIdeal.Vals.res2 R)).trans (Cert.GlaKernelIdeal.Arr.dw_arr K).symm,
    ((h c _ rfl).trans (Cert.GlaReferenceIdeal.Vals.res3 R)).trans (Cert.GlaKernelIdeal.Arr.db_arr K).symm,
    (h c _ rfl).trans (Cert.GlaReferenceIdeal.Run.A4_arg m' c _ (by decide +kernel)),
    (h c _ rfl).trans (Cert.GlaReferenceIdeal.Run.A4_arg m' c _ (by decide +kernel)),
    (h c _ rfl).trans (Cert.GlaReferenceIdeal.Run.A4_arg m' c _ (by decide +kernel)),
    (h c _ rfl).trans (Cert.GlaReferenceIdeal.Run.A4_arg m' c _ (by decide +kernel)),
    (h c _ rfl).trans (Cert.GlaReferenceIdeal.Run.A4_arg m' c _ (by decide +kernel))⟩

end Cert.Gla
-- ==== Proof.Mix.Spec.lean ====
module

public import proofs.«01_k».proof.Proof.Lift
public import proofs.«01_k».proof.MixKernelIdeal

/-! The gradients of the pooling mixer's grouped product, its bias and its scale, in plain sums. -/

@[expose] public section

set_option maxRecDepth 16384

noncomputable section

namespace Cert.Mix

open Idealize.ShloMosaic Cert.MixKernelIdeal

variable (P : S2064x4x512.Idx → EReal) (W : S4x512x512.Idx → EReal) (B : S4x512.Idx → EReal) (S : S2048.Idx → EReal) (Y : S2064x2048.Idx → EReal)

/-- The column of the array at column `k` of group `g`. -/
abbrev col (g : Fin 4) (k : Fin 512) : Fin 2048 := ⟨g.val * 512 + k.val, by omega⟩

/-- The group of a column, and its place in the group. -/
abbrev grp (j : Fin 2048) : Fin 4 := ⟨j.val / 512, by omega⟩
abbrev loc (j : Fin 2048) : Fin 512 := ⟨j.val % 512, by omega⟩

theorem col_grp (j : Fin 2048) : col (grp j) (loc j) = j := Fin.ext (Nat.div_add_mod' _ _)
theorem grp_col (g : Fin 4) (k : Fin 512) : grp (col g k) = g := Fin.ext (by show (g.val * 512 + k.val) / 512 = g.val; omega)
theorem loc_col (g : Fin 4) (k : Fin 512) : loc (col g k) = k := Fin.ext (by show (g.val * 512 + k.val) % 512 = k.val; omega)

/-- The cotangent and the pooled rows with 48 rows of zeros in front. -/
def yp (i : Fin 2112) (j : Fin 2048) : EReal := if h : i.val < 48 then 0 else Y (ix2 ⟨i.val - 48, by omega⟩ j)
def pp (i : Fin 2112) (g : Fin 4) (k : Fin 512) : EReal := if h : i.val < 48 then 0 else P (ix3 ⟨i.val - 48, by omega⟩ g k)

/-- The gradient of the pooled rows. -/
def dp : S2112x2048.Idx → EReal := fun x =>
  ∑ k : Fin 512, yp Y (x 0) (col (grp (x 1)) k) * S (ix1 (col (grp (x 1)) k)) * W (ix3 (grp (x 1)) (loc (x 1)) k)

/-- The gradient of the weights. -/
def dw : S4x512x512.Idx → EReal := fun x =>
  ∑ i : Fin 2064, P (ix3 i (x 0) (x 1)) * (Y (ix2 i (col (x 0) (x 2))) * S (ix1 (col (x 0) (x 2))))

/-- The gradient of the bias. -/
def db : S1x2048.Idx → EReal := fun x => ∑ i : Fin 2064, Y (ix2 i (x 1)) * S (ix1 (x 1))

/-- The gradient of the scale. -/
def ds : S1x2048.Idx → EReal := fun x =>
  ∑ i : Fin 2064, Y (ix2 i (x 1)) * ((∑ k : Fin 512, P (ix3 i (grp (x 1)) k) * W (ix3 (grp (x 1)) k (loc (x 1)))) + B (ix2 (grp (x 1)) (loc (x 1))))

variable {P W B S Y}

theorem yp_lo {i : Fin 2112} (h : i.val < 48) (j : Fin 2048) : yp Y i j = 0 := dif_pos h
theorem yp_hi (i : Fin 2064) (j : Fin 2048) : yp Y ⟨48 + i.val, by omega⟩ j = Y (ix2 i j) := by
  unfold yp; rw [dif_neg (by simp)]; simp only [Nat.add_sub_cancel_left]
theorem pp_hi (i : Fin 2064) (g : Fin 4) (k : Fin 512) : pp P ⟨48 + i.val, by omega⟩ g k = P (ix3 i g k) := by
  unfold pp; rw [dif_neg (by simp)]; simp only [Nat.add_sub_cancel_left]

end Cert.Mix
-- ==== Proof.Words.lean ====
module

public import proofs.«01_k».proof.Proof.Lift

/-! The kernels' tests of a row number: blocks of 352 rows of which the first 48, or the first 64, are left out. -/

@[expose] public section

set_option maxRecDepth 16384

noncomputable section

namespace Cert.Words

open Idealize.ShloMosaic

theorem select_bool {α : Type} (p : Prop) [Decidable p] (x y : α) : Scalar.select (BitVec.ofBool (decide p)) x y = if p then x else y := by
  by_cases h : p
  · rw [decide_eq_true h, if_pos h]; rfl
  · rw [decide_eq_false h, if_neg h]; rfl

theorem ge48 : ∀ (n : Fin 6) (a : Fin 352), IntOp.cmpi .sge (IntOp.addi (BitVec.ofNat 32 a.val) (Scalar.muli (BitVec.ofNat 32 n.val) 352#32)) 48#32
    = BitVec.ofBool (decide (48 ≤ n.val * 352 + a.val)) := by decide +kernel

theorem ge64 : ∀ (n : Fin 6) (a : Fin 352), IntOp.cmpi .sge (IntOp.addi (BitVec.ofNat 32 a.val) (Scalar.muli (BitVec.ofNat 32 n.val) 352#32)) 64#32
    = BitVec.ofBool (decide (64 ≤ n.val * 352 + a.val)) := by decide +kernel

theorem live48 {α : Type} {n : Nat} (h : n < 6) (a : Fin 352) (x y : α) :
    Scalar.select (IntOp.cmpi .sge (IntOp.addi (BitVec.ofNat 32 a.val) (Scalar.muli (BitVec.ofNat 32 n) 352#32)) 48#32) x y
      = if 48 ≤ n * 352 + a.val then x else y := by
  rw [ge48 ⟨n, h⟩ a]; exact select_bool _ x y

theorem live64 {α : Type} {n : Nat} (h : n < 6) (a : Fin 352) (x y : α) :
    Scalar.select (IntOp.cmpi .sge (IntOp.addi (BitVec.ofNat 32 a.val) (Scalar.muli (BitVec.ofNat 32 n) 352#32)) 64#32) x y
      = if 64 ≤ n * 352 + a.val then x else y := by
  rw [ge64 ⟨n, h⟩ a]; exact select_bool _ x y

/-- The logistic function. -/
def sg (x : ℝ) : ℝ := 1 / (1 + Real.exp (-x))

theorem sg_real (x : ℝ) : Ideal.div 1 (1 + Ideal.exp (0 - (x : EReal))) = ((sg x : ℝ) : EReal) := by
  have e : (1 : EReal) + Ideal.exp (0 - (x : EReal)) = ((1 + Real.exp (-x) : ℝ) : EReal) := by
    rw [show (0 : EReal) - (x : EReal) = ((-x : ℝ) : EReal) by rw [zero_sub, EReal.coe_neg], EReal.coe_add]
    rfl
  rw [e, ← EReal.coe_one, Lift.div_real _ (by positivity)]
  rfl

theorem c512 : Ideal.ofBits .f32 0x44000000#32 = ((512 : ℝ) : EReal) := by
  simp [Ideal.ofBits, Ideal.ieee, -EReal.coe_mul]; norm_num

theorem zero_bits : FloatOps.ofBits (F := Ideal) .f32 0x00000000#32 = (0 : EReal) := Lift.c0

theorem one_bits : FloatOps.ofBits (F := Ideal) .f32 0x3F800000#32 = (1 : EReal) := by
  show Ideal.ofBits .f32 0x3F800000#32 = ((1 : ℝ) : EReal)
  simp [Ideal.ofBits, Ideal.ieee, -EReal.coe_mul, -EReal.coe_one]; norm_num

end Cert.Words
-- ==== Proof.Mix.Kernel.lean ====
module

public import proofs.«01_k».proof.Proof.Mix.Spec
public import proofs.«01_k».proof.Proof.Words
public import proofs.«01_k».proof.Proof.Gen.MixKernelIdeal.Value
public import Idealize.ShloMosaic.Lib.Pipeline.ValueKit
public import Idealize.ShloMosaic.Lib.StableHlo.ReadAt

/-! What the gradient kernel of the grouped product leaves in its four results. -/

@[expose] public section

set_option maxRecDepth 16384

noncomputable section

namespace Cert.MixKernelIdeal.Spec

open Cert.MixKernelIdeal Cert.MixKernelIdeal.Gen Idealize.ShloMosaic Idealize.ShloMosaic.TcCoe Idealize.SL.Sem
open Idealize.ShloMosaic.Pipeline (Dat)
open Cert.Mix

theorem idx : ∀ t : Fin cfg0.N, win0_0.index t = ![t.val % 6, t.val / 6] ∧ win0_1.index t = ![t.val % 6, t.val / 6] ∧ win0_2.index t = ![t.val / 6, 0, 0]
    ∧ win0_3.index t = ![0, t.val / 6] ∧ win0_4.index t = ![0, t.val / 6] ∧ win0_5.index t = ![t.val % 6, t.val / 6] ∧ win0_6.index t = ![t.val / 6, 0, 0]
    ∧ win0_7.index t = ![0, t.val / 6] ∧ win0_8.index t = ![0, t.val / 6] :=
  (by decide +kernel : ∀ t : Fin grid0.N, _)

/-- The row of the array at row `a` of block `t`, and the group of the block. -/
abbrev row (t : Fin cfg0.N) (a : Fin 352) : Fin 2112 := ⟨t.val % 6 * 352 + a.val, by omega⟩
abbrev gr (t : Fin cfg0.N) : Fin 4 := ⟨t.val / 6, by have := t.isLt; have : cfg0.N = 24 := rfl; omega⟩

variable (m : (ℓ : Loc nD τ sig) → Buf (Elt Ideal) ℓ) (c : Dev nD)

abbrev aP : S2064x4x512.Idx → EReal := m ((c.tc : Thread nD τ).loc main_arg0)
abbrev aW : S4x512x512.Idx → EReal := m ((c.tc : Thread nD τ).loc main_arg1)
abbrev aB : S4x512.Idx → EReal := m ((c.tc : Thread nD τ).loc main_arg2)
abbrev aS : S2048.Idx → EReal := m ((c.tc : Thread nD τ).loc main_arg3)
abbrev aY : S2064x2048.Idx → EReal := m ((c.tc : Thread nD τ).loc main_arg4)

/-- The blocks of a grid point, as plain functions. -/
abbrev b0 (t : Fin cfg0.N) : S352x512.Idx → EReal := iblk m c 0 t
abbrev b1 (t : Fin cfg0.N) : S352x512.Idx → EReal := iblk m c 1 t
abbrev b2 (t : Fin cfg0.N) : S1x512x512.Idx → EReal := iblk m c 2 t
abbrev b3 (t : Fin cfg0.N) : S1x512.Idx → EReal := iblk m c 3 t
abbrev b4 (t : Fin cfg0.N) : S1x512.Idx → EReal := iblk m c 4 t

theorem V_0 (i : Fin 2112) (j : Fin 2048) : V m c (Pipeline.arrRef spec0 0) (ix2 i j) = yp (aY m c) i j := by
  unfold V
  after_reads_at
  pointwise
  rfl

theorem V_1 (i : Fin 2112) (g : Fin 4) (k : Fin 512) : V m c (Pipeline.arrRef spec0 1) (ix2 i (col g k)) = pp (aP m c) i g k := by
  unfold V
  after_reads_at
  pointwise
  after_reads_at
  pointwise
  unfold pp
  refine dite_congr rfl (fun _ => rfl) fun _ => ?_
  pointwise

theorem V_2 (g : Fin 4) (j k : Fin 512) : V m c (Pipeline.arrRef spec0 2) (ix3 g j k) = aW m c (ix3 g j k) := by
  unfold V
  after_reads_at

theorem V_3 (g : Fin 4) (k : Fin 512) : V m c (Pipeline.arrRef spec0 3) (ix2 0 (col g k)) = aB m c (ix2 g k) := by
  unfold V
  after_reads_at
  pointwise
  refine congrArg (aB m c) (congrArg₂ ix2 (grp_col g k) (loc_col g k))

theorem V_4 (j : Fin 2048) : V m c (Pipeline.arrRef spec0 4) (ix2 0 j) = aS m c (ix1 j) := by
  unfold V
  after_reads_at

section Blocks
variable (t : Fin cfg0.N) (a : Fin 352) (b : Fin 512)
theorem iblk_0 : b0 m c t (ix2 a b) = yp (aY m c) (row t a) (col (gr t) b) := by
  rw [← V_0]; blk_ext [iblk, idx t]
theorem iblk_1 : b1 m c t (ix2 a b) = pp (aP m c) (row t a) (gr t) b := by
  rw [← V_1]; blk_ext [iblk, idx t]
theorem iblk_2 (b' : Fin 512) : b2 m c t (ix3 (0 : Fin 1) b' b) = aW m c (ix3 (gr t) b' b) := by
  rw [← V_2]; blk_ext [iblk, idx t]
theorem iblk_3 : b3 m c t (ix2 (0 : Fin 1) b) = aB m c (ix2 (gr t) b) := by
  rw [← V_3]; blk_ext [iblk, idx t]
theorem iblk_4 : b4 m c t (ix2 (0 : Fin 1) b) = aS m c (ix1 (col (gr t) b)) := by
  rw [← V_4]; blk_ext [iblk, idx t]
end Blocks

theorem coord : ∀ t : Fin cfg0.N, (grid0.coords t 1).val = t.val % 6 := (by decide +kernel : ∀ t : Fin grid0.N, _)

theorem live (t : Fin cfg0.N) (a : Fin 352) (x y : EReal) :
    Scalar.select (IntOp.cmpi .sge (IntOp.addi (BitVec.ofNat 32 a.val) (Scalar.muli (BitVec.ofNat 32 (grid0.coords t 1).val) 352#32)) 48#32) x y
      = if 48 ≤ (row t a).val then x else y := by
  rw [coord]; exact Words.live48 (Nat.mod_lt _ (by decide)) a x y

theorem dp_arr : (dats m 0 c).arrAt 5 cfg0.N = dp (aW m c) (aS m c) (aY m c) := by
  refine (dats m 0 c).arrAt_eq_of_covers 5 _ (by decide +kernel) fun t hf y => ?_
  obtain ⟨a, b, rfl⟩ : ∃ (a : Fin 352) (b : Fin 512), y = ix2 a b := ⟨y 0, y 1, eq_ix2 y⟩
  have key : (∑ x : Fin 512, Scalar.select (IntOp.cmpi .sge (IntOp.addi (BitVec.ofNat 32 a.val) (Scalar.muli (BitVec.ofNat 32 (grid0.coords t 1).val) 352#32)) 48#32)
        (b0 m c t (ix2 a x) * b4 m c t (ix2 0 x) * b2 m c t (ix3 0 b x)) 0)
      = dp (aW m c) (aS m c) (aY m c) (((View.whole main_v9_0).slice (win0_5.rect t)).emb (ix2 a b)) := by
    have e : ((View.whole main_v9_0).slice (win0_5.rect t)).emb (ix2 a b) = ix2 (row t a) (col (gr t) b) := by
      blk_ext [idx t]
    rw [e]
    unfold dp
    refine Finset.sum_congr rfl fun x _ => ?_
    rw [live, iblk_0, iblk_4, iblk_2]
    show _ = yp (aY m c) (row t a) (col (grp (col (gr t) b)) x) * aS m c (ix1 (col (grp (col (gr t) b)) x)) * aW m c (ix3 (grp (col (gr t) b)) (loc (col (gr t) b)) x)
    rw [grp_col, loc_col]
    split
    · rfl
    · rename_i h
      rw [yp_lo (Nat.lt_of_not_le h), zero_mul, zero_mul]
  blk_simp; rw [after0_5]
  by_cases h0 : t.val % 6 = 0
  · rw [outsAt0_A m c t h0 (by omega)]; frame_out; unfold_payloads; pointwise
    exact key
  · by_cases h1 : t.val % 6 = 5
    · rw [outsAt0_C m c t h0 h1]; frame_out; unfold_payloads; pointwise
      exact key
    · rw [outsAt0_B m c t h0 h1]; frame_out; unfold_payloads; pointwise
      exact key

/-- The rows of the six blocks of a group, one after the other. -/
theorem sum_rows (g : Fin 4) (f : Fin 2112 → EReal) (h : ∀ i : Fin 2112, i.val < 48 → f i = 0) (p : Fin 6 → Fin cfg0.N) (hp : ∀ s, (p s).val % 6 = s.val) :
    ∑ s : Fin 6, ∑ a : Fin 352, f (row (p s) a) = ∑ i : Fin 2064, f ⟨48 + i.val, by omega⟩ := by
  rw [← Lift.sum_pad f h, ← Lift.sum_blocks f]
  refine Finset.sum_congr rfl fun s _ => Finset.sum_congr rfl fun a _ => congrArg f (Fin.ext ?_)
  show (p s).val % 6 * 352 + a.val = _
  rw [hp]

theorem db_elt (t : Fin cfg0.N) (b : Fin 512) :
    (∑ x : Fin 352, Scalar.select (IntOp.cmpi .sge (IntOp.addi (BitVec.ofNat 32 x.val) (Scalar.muli (BitVec.ofNat 32 (grid0.coords t 1).val) 352#32)) 48#32)
        (b0 m c t (ix2 x b) * b4 m c t (ix2 0 b)) 0)
      = ∑ a : Fin 352, yp (aY m c) (row t a) (col (gr t) b) * aS m c (ix1 (col (gr t) b)) := by
  refine Finset.sum_congr rfl fun x _ => ?_
  rw [live, iblk_0, iblk_4]
  split
  · rfl
  · rename_i h
    rw [yp_lo (Nat.lt_of_not_le h), zero_mul]

theorem db_arr : (dats m 0 c).arrAt 7 cfg0.N = db (aS m c) (aY m c) := by
  refine (dats m 0 c).arrAt_eq_of_covers 7 _ (by decide +kernel) fun t hf y => ?_
  obtain ⟨b, rfl⟩ : ∃ (b : Fin 512), y = ix2 (0 : Fin 1) b := ⟨y 1, by rw [eq_ix2 y]; congr 1; exact Subsingleton.elim _ _⟩
  have hr : t.val % 6 = 6 - 1 := by
    revert hf; exact (by decide +kernel : ∀ t : Fin grid0.N, win0_7.flush t = true → t.val % 6 = 6 - 1) t
  have e : (win0_7.blk t).view.emb (ix2 (0 : Fin 1) b) = ix2 (0 : Fin 1) (col (gr t) b) := by blk_ext [idx t]
  blk_simp; rw [after0_7]
  refine (Pipeline.eq_sum_fin_of_reset_step_apply_of_flush (fun n hn => (outsAt0 m c n hn).2.2.1) 6 (fun _ => (0 : EReal))
    (fun t i => ∑ a : Fin 352, yp (aY m c) (row t a) (col (gr t) (i 1)) * aS m c (ix1 (col (gr t) (i 1)))) ?_ ?_ t hr _).trans ?_
  · intro t h0 i
    rw [outsAt0_A m c t h0 (by omega)]; frame_out; unfold_payloads; pointwise
    exact db_elt m c t (i 1)
  · intro t h0 i
    by_cases h1 : t.val % 6 = 5
    · rw [outsAt0_C m c t h0 h1]; frame_out; unfold_payloads; pointwise
      exact congrArg _ (db_elt m c t (i 1))
    · rw [outsAt0_B m c t h0 h1]; frame_out; unfold_payloads; pointwise
      exact congrArg _ (db_elt m c t (i 1))
  · rw [zero_add]
    refine Eq.trans ?_ (congrArg (db (aS m c) (aY m c)) e.symm)
    have hg : ∀ s : Fin 6, gr ⟨6 * (t.val / 6) + s.val, Pipeline.run_point_lt_of_flush t hr s⟩ = gr t := fun s => Fin.ext (by show (6 * (t.val / 6) + s.val) / 6 = t.val / 6; omega)
    simp only [hg]
    refine (sum_rows (gr t) (fun i => yp (aY m c) i (col (gr t) b) * aS m c (ix1 (col (gr t) b))) (fun i h => by rw [yp_lo h, zero_mul])
      (fun s => ⟨6 * (t.val / 6) + s.val, Pipeline.run_point_lt_of_flush t hr s⟩) (fun s => by show (6 * (t.val / 6) + s.val) % 6 = s.val; omega)).trans ?_
    exact Finset.sum_congr rfl fun i _ => by rw [yp_hi]; rfl

theorem ds_elt (t : Fin cfg0.N) (b : Fin 512) :
    (∑ x : Fin 352, Scalar.select (IntOp.cmpi .sge (IntOp.addi (BitVec.ofNat 32 x.val) (Scalar.muli (BitVec.ofNat 32 (grid0.coords t 1).val) 352#32)) 48#32)
        (b0 m c t (ix2 x b) * ((∑ k : Fin 512, b1 m c t (ix2 x k) * b2 m c t (ix3 0 k b)) + b3 m c t (ix2 0 b))) 0)
      = ∑ a : Fin 352, yp (aY m c) (row t a) (col (gr t) b) * ((∑ k : Fin 512, pp (aP m c) (row t a) (gr t) k * aW m c (ix3 (gr t) k b)) + aB m c (ix2 (gr t) b)) := by
  refine Finset.sum_congr rfl fun x _ => ?_
  rw [live, iblk_0, iblk_3]
  simp only [iblk_1, iblk_2]
  split
  · rfl
  · rename_i h
    rw [yp_lo (Nat.lt_of_not_le h), zero_mul]

theorem ds_arr : (dats m 0 c).arrAt 8 cfg0.N = ds (aP m c) (aW m c) (aB m c) (aY m c) := by
  refine (dats m 0 c).arrAt_eq_of_covers 8 _ (by decide +kernel) fun t hf y => ?_
  obtain ⟨b, rfl⟩ : ∃ (b : Fin 512), y = ix2 (0 : Fin 1) b := ⟨y 1, by rw [eq_ix2 y]; congr 1; exact Subsingleton.elim _ _⟩
  have hr : t.val % 6 = 6 - 1 := by
    revert hf; exact (by decide +kernel : ∀ t : Fin grid0.N, win0_8.flush t = true → t.val % 6 = 6 - 1) t
  have e : (win0_8.blk t).view.emb (ix2 (0 : Fin 1) b) = ix2 (0 : Fin 1) (col (gr t) b) := by blk_ext [idx t]
  blk_simp; rw [after0_8]
  refine (Pipeline.eq_sum_fin_of_reset_step_apply_of_flush (fun n hn => (outsAt0 m c n hn).2.2.2.1) 6 (fun _ => (0 : EReal))
    (fun t i => ∑ a : Fin 352, yp (aY m c) (row t a) (col (gr t) (i 1)) * ((∑ k : Fin 512, pp (aP m c) (row t a) (gr t) k * aW m c (ix3 (gr t) k (i 1))) + aB m c (ix2 (gr t) (i 1)))) ?_ ?_ t hr _).trans ?_
  · intro t h0 i
    rw [outsAt0_A m c t h0 (by omega)]; frame_out; unfold_payloads; pointwise
    exact ds_elt m c t (i 1)
  · intro t h0 i
    by_cases h1 : t.val % 6 = 5
    · rw [outsAt0_C m c t h0 h1]; frame_out; unfold_payloads; pointwise
      exact congrArg _ (ds_elt m c t (i 1))
    · rw [outsAt0_B m c t h0 h1]; frame_out; unfold_payloads; pointwise
      exact congrArg _ (ds_elt m c t (i 1))
  · rw [zero_add]
    refine Eq.trans ?_ (congrArg (ds (aP m c) (aW m c) (aB m c) (aY m c)) e.symm)
    have hg : ∀ s : Fin 6, gr ⟨6 * (t.val / 6) + s.val, Pipeline.run_point_lt_of_flush t hr s⟩ = gr t := fun s => Fin.ext (by show (6 * (t.val / 6) + s.val) / 6 = t.val / 6; omega)
    simp only [hg]
    refine (sum_rows (gr t) (fun i => yp (aY m c) i (col (gr t) b) * ((∑ k : Fin 512, pp (aP m c) i (gr t) k * aW m c (ix3 (gr t) k b)) + aB m c (ix2 (gr t) b))) (fun i h => by rw [yp_lo h, zero_mul])
      (fun s => ⟨6 * (t.val / 6) + s.val, Pipeline.run_point_lt_of_flush t hr s⟩) (fun s => by show (6 * (t.val / 6) + s.val) % 6 = s.val; omega)).trans ?_
    refine Finset.sum_congr rfl fun i _ => ?_
    simp only [yp_hi, pp_hi]
    show _ = aY m c (ix2 i (col (gr t) b)) * ((∑ k : Fin 512, aP m c (ix3 i (grp (col (gr t) b)) k) * aW m c (ix3 (grp (col (gr t) b)) k (loc (col (gr t) b)))) + aB m c (ix2 (grp (col (gr t) b)) (loc (col (gr t) b))))
    rw [grp_col, loc_col]

theorem dw_elt (t : Fin cfg0.N) (a b : Fin 512) :
    (∑ x : Fin 352, Scalar.select (IntOp.cmpi .sge (IntOp.addi (BitVec.ofNat 32 x.val) (Scalar.muli (BitVec.ofNat 32 (grid0.coords t 1).val) 352#32)) 48#32)
        (b1 m c t (ix2 x a) * (b0 m c t (ix2 x b) * b4 m c t (ix2 0 b))) 0)
      = ∑ r : Fin 352, pp (aP m c) (row t r) (gr t) a * (yp (aY m c) (row t r) (col (gr t) b) * aS m c (ix1 (col (gr t) b))) := by
  refine Finset.sum_congr rfl fun x _ => ?_
  rw [live, iblk_0, iblk_1, iblk_4]
  split
  · rfl
  · rename_i h
    rw [yp_lo (Nat.lt_of_not_le h), zero_mul, mul_zero]

theorem dw_arr : (dats m 0 c).arrAt 6 cfg0.N = dw (aP m c) (aS m c) (aY m c) := by
  refine (dats m 0 c).arrAt_eq_of_covers 6 _ (by decide +kernel) fun t hf y => ?_
  obtain ⟨a, b, rfl⟩ : ∃ (a b : Fin 512), y = ix3 (0 : Fin 1) a b := ⟨y 1, y 2, by rw [eq_ix3 y]; congr 1; exact Subsingleton.elim _ _⟩
  have hr : t.val % 6 = 6 - 1 := by
    revert hf; exact (by decide +kernel : ∀ t : Fin grid0.N, win0_6.flush t = true → t.val % 6 = 6 - 1) t
  have e : ((View.whole main_v9_1).slice (win0_6.rect t)).emb (ix3 (0 : Fin 1) a b) = ix3 (gr t) a b := by blk_ext [idx t]
  blk_simp; rw [after0_6]
  have hs : (outsAt0 m c t.val t.isLt).2.1 (ix3 (0 : Fin 1) a b) = (outsAt0 m c t.val t.isLt).2.2.2.2 (ix2 a b) := by
    rw [outsAt0_C m c t (by omega) hr]; frame_out; unfold_payloads; pointwise
  refine hs.trans ?_
  refine (Pipeline.eq_sum_fin_of_reset_step_apply_of_flush (fun n hn => (outsAt0 m c n hn).2.2.2.2) 6 (fun _ => (0 : EReal))
    (fun t i => ∑ r : Fin 352, pp (aP m c) (row t r) (gr t) (i 0) * (yp (aY m c) (row t r) (col (gr t) (i 1)) * aS m c (ix1 (col (gr t) (i 1))))) ?_ ?_ t hr _).trans ?_
  · intro t h0 i
    rw [outsAt0_A m c t h0 (by omega)]; frame_out; unfold_payloads; pointwise
    exact dw_elt m c t (i 0) (i 1)
  · intro t h0 i
    by_cases h1 : t.val % 6 = 5
    · rw [outsAt0_C m c t h0 h1]; frame_out; unfold_payloads; pointwise
      exact congrArg₂ (· + ·) (congrFun (Memref.IsWhole.read_unread _ _) i) (dw_elt m c t (i 0) (i 1))
    · rw [outsAt0_B m c t h0 h1]; frame_out; unfold_payloads; pointwise
      exact congrArg₂ (· + ·) (congrFun (Memref.IsWhole.read_unread _ _) i) (dw_elt m c t (i 0) (i 1))
  · rw [zero_add]
    refine Eq.trans ?_ (congrArg (dw (aP m c) (aS m c) (aY m c)) e.symm)
    have hg : ∀ s : Fin 6, gr ⟨6 * (t.val / 6) + s.val, Pipeline.run_point_lt_of_flush t hr s⟩ = gr t := fun s => Fin.ext (by show (6 * (t.val / 6) + s.val) / 6 = t.val / 6; omega)
    simp only [hg]
    refine (sum_rows (gr t) (fun i => pp (aP m c) i (gr t) a * (yp (aY m c) i (col (gr t) b) * aS m c (ix1 (col (gr t) b)))) (fun i h => by rw [yp_lo h, zero_mul, mul_zero])
      (fun s => ⟨6 * (t.val / 6) + s.val, Pipeline.run_point_lt_of_flush t hr s⟩) (fun s => by show (6 * (t.val / 6) + s.val) % 6 = s.val; omega)).trans ?_
    exact Finset.sum_congr rfl fun i _ => by rw [yp_hi, pp_hi]; rfl

end Cert.MixKernelIdeal.Spec
-- ==== Proof.Mix.Reference.lean ====
module

public import proofs.«01_k».proof.Proof.Mix.Spec
public import proofs.«01_k».proof.Proof.Gen.MixReferenceIdeal.Read

/-! What the derivative of the pooling mixer's plain lines is, read from the reference's stages. -/

@[expose] public section

set_option maxRecDepth 16384

noncomputable section

namespace Cert.MixReferenceIdeal.Spec

open Cert.MixReferenceIdeal Cert.Mix Idealize.ShloMosaic Idealize.ShloMosaic.TcCoe Idealize.SL.Sem

variable (P : S2064x4x512.Idx → EReal) (W : S4x512x512.Idx → EReal) (B : S4x512.Idx → EReal) (S : S2048.Idx → EReal) (Y : S2064x2048.Idx → EReal)

theorem zero_bits : FloatOps.ofBits (F := Ideal) .f32 0x00000000#32 = (0 : EReal) := Lift.c0

/-- A row of the array, as its groups. -/
theorem split_idx (i : Fin 2064) (g : Fin 4) (k : Fin 512) : Read.idx_main_v15 (ix3 i g k) = ix2 i (col g k) := by
  funext a
  match a with
  | ⟨0, _⟩ => exact Fin.ext (by show ((i.val * 4 + g.val) * 512 + k.val) / 2048 = i.val; omega)
  | ⟨1, _⟩ => exact Fin.ext (by show ((i.val * 4 + g.val) * 512 + k.val) % 2048 = g.val * 512 + k.val; omega)

theorem v15 (i : Fin 2064) (g : Fin 4) (k : Fin 512) : Read.val_main_v15 (F := Ideal) S Y (ix3 i g k) = Y (ix2 i (col g k)) * S (ix1 (col g k)) := by
  rw [Read.val_main_v15_apply, split_idx, Read.val_main_v13_apply, Read.val_main_v12_apply, Read.val_main_v6_apply, Ideal.mulf_def]
  exact congrArg₂ (· * ·) rfl (congrArg S (by rw [eq_ix1 (Read.idx_main_v6 _)]; rfl))

theorem v21 (i : Fin 2064) (g : Fin 4) (k : Fin 512) : Read.val_main_v21 (F := Ideal) W S Y (ix3 i g k)
    = ∑ n : Fin 512, Y (ix2 i (col g n)) * S (ix1 (col g n)) * W (ix3 g k n) := by
  rw [Read.val_main_v21_apply, Read.val_main_v20_apply]
  refine Finset.sum_congr rfl fun n _ => congrArg₂ (· * ·) ?_ ?_
  · rw [Read.val_main_v19_apply, ← v15]
    exact congrArg _ (by rw [eq_ix3 (Read.idx_main_v19 _)]; rfl)
  · exact congrArg W (by rw [eq_ix3 (Read.ridx_main_v20 _ n)]; rfl)

theorem v25 (i : Fin 2064) (j : Fin 2048) : Read.val_main_v25 (F := Ideal) W S Y (ix2 i j)
    = ∑ n : Fin 512, Y (ix2 i (col (grp j) n)) * S (ix1 (col (grp j) n)) * W (ix3 (grp j) (loc j) n) := by
  rw [Read.val_main_v25_apply, ← v21]
  refine congrArg _ ?_
  funext a
  match a with
  | ⟨0, _⟩ => exact Fin.ext (by show (i.val * 2048 + j.val) / 2048 = i.val; omega)
  | ⟨1, _⟩ => exact Fin.ext (by show (i.val * 2048 + j.val) / 512 % 4 = j.val / 512; omega)
  | ⟨2, _⟩ => exact Fin.ext (by show (i.val * 2048 + j.val) % 512 = j.val % 512; omega)

theorem dp_ref : Read.val_main_v26 (F := Ideal) W S Y = dp W S Y := by
  funext y
  idx_vars y
  unfold Read.val_main_v26 Read.val_main_v24 Read.val_main_cst_3
  pointwise
  by_cases h : y0.val < 48
  · rw [dif_pos h]
    refine (Finset.sum_eq_zero fun k _ => ?_).symm
    show yp Y y0 _ * _ * _ = 0
    rw [yp_lo h, zero_mul, zero_mul]
  · rw [dif_neg h, v25]
    refine Finset.sum_congr rfl fun k _ => ?_
    show _ = yp Y y0 _ * _ * _
    unfold yp
    rw [dif_neg h]
    rfl

theorem dw_ref : Read.val_main_v27 (F := Ideal) P S Y = dw P S Y := by
  funext y
  idx_vars y
  unfold Read.val_main_v27
  pointwise
  rw [Read.val_main_v23_apply, Read.val_main_v22_apply]
  refine Finset.sum_congr rfl fun n _ => ?_
  rw [Read.val_main_v19_apply, mul_comm]
  refine congrArg₂ (· * ·) (congrArg P (by rw [eq_ix3 (Read.ridx_main_v22 _ n)]; rfl)) (Eq.trans ?_ (v15 S Y n y0 y2))
  exact congrArg _ (by rw [eq_ix3 (Read.idx_main_v19 _)]; rfl)

theorem v16 (g : Fin 4) (k : Fin 512) : Read.val_main_v16 (F := Ideal) S Y (ix2 g k) = ∑ i : Fin 2064, Y (ix2 i (col g k)) * S (ix1 (col g k)) := by
  rw [Read.val_main_v16_apply, Read.val_main_cst_1_apply, zero_bits, zero_add]
  refine Finset.sum_congr rfl fun n _ => ?_
  rw [← v15]
  exact congrArg _ (by rw [eq_ix3 (Read.idx_main_v16 _ n)]; rfl)

theorem v18 (g : Fin 4) (k : Fin 512) : Read.val_main_v18 (F := Ideal) S Y (ix2 g k) = ∑ i : Fin 2064, Y (ix2 i (col g k)) * S (ix1 (col g k)) := by
  rw [Read.val_main_v18_apply, Read.val_main_cst_2_apply, zero_bits, zero_add, Fin.sum_univ_one, Read.val_main_v17_apply, ← v16]
  refine congrArg _ ?_
  funext a
  match a with
  | ⟨0, _⟩ => exact Fin.ext (by show ((0 * 4 + g.val) * 512 + k.val) / 512 = g.val; omega)
  | ⟨1, _⟩ => exact Fin.ext (by show ((0 * 4 + g.val) * 512 + k.val) % 512 = k.val; omega)

theorem db_ref : Read.val_main_v28 (F := Ideal) S Y = db S Y := by
  funext y
  obtain ⟨j, rfl⟩ : ∃ j : Fin 2048, y = ix2 (0 : Fin 1) j := ⟨y 1, by rw [eq_ix2 y]; congr 1; exact Subsingleton.elim _ _⟩
  rw [Read.val_main_v28_apply]
  have e : Read.idx_main_v28 (ix2 (0 : Fin 1) j) = ix2 (grp j) (loc j) := by
    funext a
    match a with
    | ⟨0, _⟩ => exact Fin.ext (by show (0 * 2048 + j.val) / 512 = j.val / 512; omega)
    | ⟨1, _⟩ => exact Fin.ext (by show (0 * 2048 + j.val) % 512 = j.val % 512; omega)
  rw [e, v18, col_grp]
  rfl

theorem v4 (i : Fin 2064) (g : Fin 4) (k : Fin 512) : Read.val_main_v4 (F := Ideal) P W B (ix3 i g k)
    = (∑ n : Fin 512, P (ix3 i g n) * W (ix3 g n k)) + B (ix2 g k) := by
  rw [Read.val_main_v4_apply, Read.val_main_v1_apply, Read.val_main_v0_apply, Read.val_main_v3_apply, Read.val_main_v2_apply, Ideal.addf_def]
  refine congrArg₂ (· + ·) (Finset.sum_congr rfl fun n _ => ?_) (congrArg B (by rw [eq_ix2 (Read.idx_main_v2 _)]; rfl))
  rw [mul_comm]
  exact congrArg₂ (· * ·) (congrArg P (by rw [eq_ix3 (Read.ridx_main_v0 _ n)]; rfl)) (congrArg W (by rw [eq_ix3 (Read.lidx_main_v0 _ n)]; rfl))

theorem v9 (i : Fin 2064) (j : Fin 2048) : Read.val_main_v9 (F := Ideal) P W B Y (ix2 i j)
    = Y (ix2 i j) * ((∑ n : Fin 512, P (ix3 i (grp j) n) * W (ix3 (grp j) n (loc j))) + B (ix2 (grp j) (loc j))) := by
  rw [Read.val_main_v9_apply, Read.val_main_v5_apply, Ideal.mulf_def, mul_comm, ← v4]
  refine congrArg₂ (· * ·) rfl (congrArg _ ?_)
  funext a
  match a with
  | ⟨0, _⟩ => exact Fin.ext (by show (i.val * 2048 + j.val) / 2048 = i.val; omega)
  | ⟨1, _⟩ => exact Fin.ext (by show (i.val * 2048 + j.val) / 512 % 4 = j.val / 512; omega)
  | ⟨2, _⟩ => exact Fin.ext (by show (i.val * 2048 + j.val) % 512 = j.val % 512; omega)

theorem ds_ref : Read.val_main_v29 (F := Ideal) P W B Y = ds P W B Y := by
  funext y
  obtain ⟨j, rfl⟩ : ∃ j : Fin 2048, y = ix2 (0 : Fin 1) j := ⟨y 1, by rw [eq_ix2 y]; congr 1; exact Subsingleton.elim _ _⟩
  rw [Read.val_main_v29_apply, Read.val_main_v14_apply, Read.val_main_cst_0_apply, zero_bits, zero_add, Fin.sum_univ_one, Read.val_main_v11_apply,
    Read.val_main_v10_apply, Read.val_main_cst_apply, zero_bits, zero_add]
  refine Finset.sum_congr rfl fun n _ => ?_
  refine Eq.trans (congrArg _ ?_) (v9 P W B Y n j)
  funext a
  match a with
  | ⟨0, _⟩ => rfl
  | ⟨1, _⟩ => exact Fin.ext (by show 0 * 2048 + (0 * 2048 + j.val) = j.val; omega)

end Cert.MixReferenceIdeal.Spec
-- ==== Proof.Mix.Claims.lean ====
module

public import proofs.«01_k».proof.Proof.Mix.Kernel
public import proofs.«01_k».proof.Proof.Mix.Reference
public import proofs.«01_k».proof.Defs
public import proofs.«01_k».proof.Proof.Gen.MixReferenceIdeal
public import proofs.«01_k».proof.Proof.Gen.MixReferenceIdeal.Run
public import Idealize.ShloMosaic.Lib.Quiescent

/-! The gradient of the pooling mixer: the reference's frame and the equality of the results. -/

@[expose] public section

set_option maxRecDepth 16384

noncomputable section

namespace Cert.Mix

open Idealize.ShloMosaic Idealize.SL.Sem

theorem frame_reference : Cert.quiescent_MixReferenceIdeal := fun m ρ _ =>
  (θ_run Cert.MixReferenceIdeal.defs _ _).mono (fun r h => ⟨fun c => (h c).2.2.2.2,
    Idealize.ShloMosaic.sem_eq_zero_of_no_sems (by decide) r.2⟩) (Cert.MixReferenceIdeal.Value.run (F := Ideal) m ρ)

theorem algebraic : Cert.algebraic_MixKernelIdeal_MixReferenceIdeal := by
  intro m g m' g' hpre hargs
  refine ⟨fun c => (Cert.MixKernelIdeal.Gen.dats m 0 c).arrAt 5 Cert.MixKernelIdeal.cfg0.N,
    fun c => (Cert.MixKernelIdeal.Gen.dats m 0 c).arrAt 6 Cert.MixKernelIdeal.cfg0.N,
    fun c => (Cert.MixKernelIdeal.Gen.dats m 0 c).arrAt 7 Cert.MixKernelIdeal.cfg0.N,
    fun c => (Cert.MixKernelIdeal.Gen.dats m 0 c).arrAt 8 Cert.MixKernelIdeal.cfg0.N,
    Cert.MixKernelIdeal.Value.run_blocks m g, ?_⟩
  refine (θ_run Cert.MixReferenceIdeal.defs _ _).mono (fun r h c => ?_) (Cert.MixReferenceIdeal.Value.run (F := Ideal) m' g')
  obtain ⟨h0, h1, h2, h3, hk⟩ := h c
  obtain ⟨a0, a1, a2, a3, a4⟩ := hargs c
  refine ⟨h0.trans ?_, h1.trans ?_, h2.trans ?_, h3.trans ?_, hk⟩
  · rw [Cert.MixReferenceIdeal.Read.val_main_v26_eq, a1, a3, a4]
    exact (Cert.MixReferenceIdeal.Spec.dp_ref _ _ _).trans (Cert.MixKernelIdeal.Spec.dp_arr m c).symm
  · rw [Cert.MixReferenceIdeal.Read.val_main_v27_eq, a0, a3, a4]
    exact (Cert.MixReferenceIdeal.Spec.dw_ref _ _ _).trans (Cert.MixKernelIdeal.Spec.dw_arr m c).symm
  · rw [Cert.MixReferenceIdeal.Read.val_main_v28_eq, a3, a4]
    exact (Cert.MixReferenceIdeal.Spec.db_ref _ _).trans (Cert.MixKernelIdeal.Spec.db_arr m c).symm
  · rw [Cert.MixReferenceIdeal.Read.val_main_v29_eq, a0, a1, a2, a4]
    exact (Cert.MixReferenceIdeal.Spec.ds_ref _ _ _ _).trans (Cert.MixKernelIdeal.Spec.ds_arr m c).symm

end Cert.Mix
-- ==== Proof.Post.Pre.lean ====
module

public import proofs.«01_k».proof.Proof.Lift
public import proofs.«01_k».proof.PostKernelIdeal
public import proofs.«01_k».proof.Pre_post_finite

/-! The precondition says that the arguments are finite. -/

@[expose] public section

set_option maxRecDepth 16384

noncomputable section

namespace Cert.Pre_post_finite

open Idealize.ShloMosaic

theorem finite [Facts] (o : S4x2064x512.Idx → EReal) (q : S2064x6160.Idx → EReal) (w : S512.Idx → EReal) (d : S2064x2048.Idx → EReal)
    (h : fn (F := Ideal) o q w d = fun _ => 1#1) :
    (∃ O : S4x2064x512.Idx → ℝ, o = fun i => ((O i : ℝ) : EReal)) ∧ (∃ Q : S2064x6160.Idx → ℝ, q = fun i => ((Q i : ℝ) : EReal))
      ∧ (∃ H : S512.Idx → ℝ, w = fun i => ((H i : ℝ) : EReal)) ∧ ∃ D : S2064x2048.Idx → ℝ, d = fun i => ((D i : ℝ) : EReal) := by
  have h0 := congrFun h ix0
  dsimp only [fn, fn_part1] at h0
  have h1 := Lift.and_one h0
  have h2 := Lift.and_one h1.1
  have h3 := Lift.and_one h2.1
  haveI : Subsingleton S_.Idx := ⟨fun a b => funext fun k => k.elim0⟩
  exact ⟨Lift.real_of_all o _ _ _ _ _ _ h3.1, Lift.real_of_all q _ _ _ _ _ _ h3.2, Lift.real_of_all w _ _ _ _ _ _ h2.2, Lift.real_of_all d _ _ _ _ _ _ h1.2⟩

end Cert.Pre_post_finite
-- ==== Proof.Post.Spec.lean ====
module

public import proofs.«01_k».proof.Proof.Words
public import proofs.«01_k».proof.PostKernelIdeal

/-! The gradient of the head norm and the output gate over the real numbers, one row of one head at a time. -/

@[expose] public section

set_option maxRecDepth 16384

noncomputable section

namespace Cert.Post

open Idealize.ShloMosaic Cert.PostKernelIdeal Words

section
variable (o r d h : Fin 512 → ℝ)

/-- The mean square of a row, with the small constant, and one over its root. -/
def ms : ℝ := (∑ k, o k * o k) / 512 + Lift.eps
def rs : ℝ := (Real.sqrt (ms o))⁻¹

theorem ms_pos : 0 < ms o :=
  add_pos_of_nonneg_of_pos (div_nonneg (Finset.sum_nonneg fun k _ => mul_self_nonneg _) (by norm_num)) Lift.eps_pos

theorem rs_sq : rs o * rs o = (ms o)⁻¹ := by
  unfold rs
  rw [← mul_inv, Real.mul_self_sqrt (ms_pos o).le]

/-- The gradient that reaches the normed row. -/
def don (k : Fin 512) : ℝ := d k * (r k * sg (r k))

/-- The gradients of the row, of its gate, and the row's part of the gradient of the weight. -/
def gO (k : Fin 512) : ℝ := rs o * (don r d k * h k - o k * rs o * ((∑ n, don r d n * h n * (o n * rs o)) / 512))
def gR (k : Fin 512) : ℝ := d k * (o k * rs o) * h k * (sg (r k) * (1 + r k * (1 - sg (r k))))
def gH (k : Fin 512) : ℝ := don r d k * (o k * rs o)

/-! The same lines on extended reals. -/

variable (O R D H : Fin 512 → EReal)

def eRs : EReal := Ideal.rsqrt (Ideal.div (∑ k, O k * O k) (Ideal.ofBits .f32 0x44000000#32) + Ideal.ofBits .f32 0x358637BD#32)
def eSg (x : EReal) : EReal := Ideal.div 1 (1 + Ideal.exp (0 - x))
def eDon (k : Fin 512) : EReal := D k * (R k * eSg (R k))
def eO (k : Fin 512) : EReal :=
  eRs O * (eDon R D k * H k - O k * eRs O * Ideal.div (∑ n, eDon R D n * H n * (O n * eRs O)) (Ideal.ofBits .f32 0x44000000#32))
def eR (k : Fin 512) : EReal := D k * (O k * eRs O) * H k * (eSg (R k) * (1 + R k * (1 - eSg (R k))))
def eH (k : Fin 512) : EReal := eDon R D k * (O k * eRs O)

variable {o r d h O R D H} (ho : ∀ k, O k = ((o k : ℝ) : EReal)) (hr : ∀ k, R k = ((r k : ℝ) : EReal))
  (hd : ∀ k, D k = ((d k : ℝ) : EReal)) (hh : ∀ k, H k = ((h k : ℝ) : EReal))

include ho in
theorem eRs_real : eRs O = ((rs o : ℝ) : EReal) := by
  unfold eRs
  simp only [ho, c512, Lift.ceps, ← EReal.coe_mul, Lift.coe_sum, ← EReal.coe_add, Lift.div_real _ (by norm_num : (512 : ℝ) ≠ 0)]
  exact Lift.rsqrt_real (ms_pos o)

theorem eSg_real (x : ℝ) : eSg (x : EReal) = ((sg x : ℝ) : EReal) := sg_real x

include hr hd in
theorem eDon_real (k : Fin 512) : eDon R D k = ((don r d k : ℝ) : EReal) := by
  unfold eDon
  rw [hr, hd, eSg_real, ← EReal.coe_mul, ← EReal.coe_mul]
  rfl

include ho hr hd hh in
theorem eO_real (k : Fin 512) : eO O R D H k = ((gO o r d h k : ℝ) : EReal) := by
  unfold eO
  simp only [eRs_real ho, eDon_real hr hd, ho, hh, c512, ← EReal.coe_mul, Lift.coe_sum, Lift.div_real _ (by norm_num : (512 : ℝ) ≠ 0), ← EReal.coe_sub]
  rfl

include ho hr hd hh in
theorem eR_real (k : Fin 512) : eR O R D H k = ((gR o r d h k : ℝ) : EReal) := by
  unfold eR
  rw [eRs_real ho, ho, hr, hd, hh, eSg_real, ← EReal.coe_one]
  simp only [← EReal.coe_mul, ← EReal.coe_sub, ← EReal.coe_add]
  rfl

include ho hr hd in
theorem eH_real (k : Fin 512) : eH O R D k = ((gH o r d k : ℝ) : EReal) := by
  unfold eH
  rw [eRs_real ho, eDon_real hr hd, ho, ← EReal.coe_mul, ← EReal.coe_mul]
  rfl
end

/-- The column of the array at column `k` of head `g`, the head of a column and its place there. -/
abbrev col (g : Fin 4) (k : Fin 512) : Fin 2048 := ⟨g.val * 512 + k.val, by omega⟩
abbrev grp (j : Fin 2048) : Fin 4 := ⟨j.val / 512, by omega⟩
abbrev loc (j : Fin 2048) : Fin 512 := ⟨j.val % 512, by omega⟩

theorem col_grp (j : Fin 2048) : col (grp j) (loc j) = j := Fin.ext (Nat.div_add_mod' _ _)
theorem grp_col (g : Fin 4) (k : Fin 512) : grp (col g k) = g := Fin.ext (by show (g.val * 512 + k.val) / 512 = g.val; omega)
theorem loc_col (g : Fin 4) (k : Fin 512) : loc (col g k) = k := Fin.ext (by show (g.val * 512 + k.val) % 512 = k.val; omega)

variable (O : S4x2064x512.Idx → ℝ) (Q : S2064x6160.Idx → ℝ) (H : S512.Idx → ℝ) (D : S2064x2048.Idx → ℝ)

/-- A head's row of the output, of the gate and of the cotangent. -/
def rO (i : Fin 2064) (g : Fin 4) (k : Fin 512) : ℝ := O (ix3 g i k)
def rR (i : Fin 2064) (g : Fin 4) (k : Fin 512) : ℝ := Q (ix2 i ⟨4112 + (g.val * 512 + k.val), by omega⟩)
def rD (i : Fin 2064) (g : Fin 4) (k : Fin 512) : ℝ := D (ix2 i (col g k))
def rH (k : Fin 512) : ℝ := H (ix1 k)

/-- Rows with 48 rows of zeros in front. -/
def padz (f : Fin 2064 → Fin 4 → Fin 512 → ℝ) (i : Fin 2112) (g : Fin 4) (k : Fin 512) : ℝ := if h : i.val < 48 then 0 else f ⟨i.val - 48, by omega⟩ g k

theorem padz_lo {f : Fin 2064 → Fin 4 → Fin 512 → ℝ} {i : Fin 2112} (h : i.val < 48) (g : Fin 4) : padz f i g = fun _ => 0 := funext fun _ => dif_pos h
theorem padz_ge {f : Fin 2064 → Fin 4 → Fin 512 → ℝ} {i : Fin 2112} (h : ¬ i.val < 48) (g : Fin 4) : padz f i g = f ⟨i.val - 48, by omega⟩ g := funext fun _ => dif_neg h
theorem padz_hi {f : Fin 2064 → Fin 4 → Fin 512 → ℝ} (i : Fin 2064) (g : Fin 4) : padz f ⟨48 + i.val, by omega⟩ g = f i g := by
  rw [padz_ge (by simp)]; simp only [Nat.add_sub_cancel_left]

/-- The gradient of the heads' outputs, with 48 rows of zeros in front. -/
def dO (y : S2112x2048.Idx) : EReal :=
  ((padz (fun i g => gO (rO O i g) (rR Q i g) (rD D i g) (rH H)) (y 0) (grp (y 1)) (loc (y 1)) : ℝ) : EReal)

/-- The gradient of the gate, with 48 rows of zeros in front. -/
def dR (y : S2112x2048.Idx) : EReal :=
  ((padz (fun i g => gR (rO O i g) (rR Q i g) (rD D i g) (rH H)) (y 0) (grp (y 1)) (loc (y 1)) : ℝ) : EReal)

/-- The gradient of the norm's weight. -/
def dH (y : S1x512.Idx) : EReal := ((∑ i : Fin 2064, ∑ g : Fin 4, gH (rO O i g) (rR Q i g) (rD D i g) (y 1) : ℝ) : EReal)

/-- The padded rows give the padded gradients. -/
theorem gO_pad (i : Fin 2112) (g : Fin 4) (k : Fin 512) : gO (padz (rO O) i g) (padz (rR Q) i g) (padz (rD D) i g) (rH H) k
    = padz (fun i g => gO (rO O i g) (rR Q i g) (rD D i g) (rH H)) i g k := by
  by_cases h : i.val < 48
  · simp only [padz_lo h]; simp [gO, don]
  · simp only [padz_ge h]

theorem gR_pad (i : Fin 2112) (g : Fin 4) (k : Fin 512) : gR (padz (rO O) i g) (padz (rR Q) i g) (padz (rD D) i g) (rH H) k
    = padz (fun i g => gR (rO O i g) (rR Q i g) (rD D i g) (rH H)) i g k := by
  by_cases h : i.val < 48
  · simp only [padz_lo h]; simp [gR]
  · simp only [padz_ge h]

theorem gH_lo {i : Fin 2112} (h : i.val < 48) (g : Fin 4) (k : Fin 512) : gH (padz (rO O) i g) (padz (rR Q) i g) (padz (rD D) i g) k = 0 := by
  simp only [padz_lo h]; simp [gH, don]

end Cert.Post
-- ==== Proof.Post.Kernel.lean ====
module

public import proofs.«01_k».proof.Proof.Post.Spec
public import proofs.«01_k».proof.Proof.Gen.PostKernelIdeal.Value
public import Idealize.ShloMosaic.Lib.Pipeline.ValueKit
public import Idealize.ShloMosaic.Lib.StableHlo.ReadAt
public import Idealize.ShloMosaic.Lib.Pipeline.ReadBack

/-! What the gradient kernel of the head norm and the output gate leaves in its three results. -/

@[expose] public section

set_option maxRecDepth 16384

noncomputable section

namespace Cert.PostKernelIdeal.Spec

open Cert.PostKernelIdeal Cert.PostKernelIdeal.Gen Cert.Post Idealize.ShloMosaic Idealize.ShloMosaic.TcCoe Idealize.SL.Sem
open Idealize.ShloMosaic.Pipeline (Dat)

theorem idx : ∀ t : Fin cfg0.N, win0_0.index t = ![t.val, 0] ∧ win0_1.index t = ![t.val, 0] ∧ win0_2.index t = ![t.val, 2]
    ∧ win0_3.index t = ![0, 0] ∧ win0_4.index t = ![t.val, 0] ∧ win0_5.index t = ![t.val, 0] ∧ win0_6.index t = ![0, 0] :=
  (by decide +kernel : ∀ t : Fin grid0.N, _)

/-- The row of the array at row `a` of block `t`. -/
abbrev row (t : Fin cfg0.N) (a : Fin 352) : Fin 2112 := ⟨t.val * 352 + a.val, by have := t.isLt; have : cfg0.N = 6 := rfl; omega⟩

variable (m : (ℓ : Loc nD τ sig) → Buf (Elt Ideal) ℓ) (c : Dev nD)

/-- The blocks of a grid point, as plain functions. -/
abbrev b0 (t : Fin cfg0.N) : S352x2048.Idx → EReal := iblk m c 0 t
abbrev b1 (t : Fin cfg0.N) : S352x2048.Idx → EReal := iblk m c 1 t
abbrev b2 (t : Fin cfg0.N) : S352x2048.Idx → EReal := X0_2 m c t
abbrev b3 (t : Fin cfg0.N) : S1x512.Idx → EReal := iblk m c 3 t

variable (O : S4x2064x512.Idx → ℝ) (Q : S2064x6160.Idx → ℝ) (H : S512.Idx → ℝ) (D : S2064x2048.Idx → ℝ)

/-- The arguments hold these numbers. -/
structure Args : Prop where
  o : m ((c.tc : Thread nD τ).loc main_arg0) = fun i => ((O i : ℝ) : EReal)
  q : m ((c.tc : Thread nD τ).loc main_arg1) = fun i => ((Q i : ℝ) : EReal)
  h : m ((c.tc : Thread nD τ).loc main_arg2) = fun i => ((H i : ℝ) : EReal)
  d : m ((c.tc : Thread nD τ).loc main_arg3) = fun i => ((D i : ℝ) : EReal)

variable {m c O Q H D} (A : Args m c O Q H D)
include A

theorem V_0 (i : Fin 2112) (g : Fin 4) (k : Fin 512) : V m c (Pipeline.arrRef spec0 0) (ix2 i (col g k)) = ((padz (rD D) i g k : ℝ) : EReal) := by
  have h := A.d
  unfold V
  after_reads_at
  pointwise
  unfold padz
  split
  · rfl
  · exact congrFun h _

theorem V_1 (i : Fin 2112) (g : Fin 4) (k : Fin 512) : V m c (Pipeline.arrRef spec0 1) (ix2 i (col g k)) = ((padz (rO O) i g k : ℝ) : EReal) := by
  have h := A.o
  unfold V
  after_reads_at
  pointwise
  unfold padz
  split
  · rfl
  · pointwise
    refine (congrFun h _).trans ?_
    exact congrArg (fun x => ((O x : ℝ) : EReal)) (congrArg₂ (fun (a : Fin 4) (b : Fin 512) => ix3 a (⟨i.val - 48, by omega⟩ : Fin 2064) b) (grp_col g k) (loc_col g k))

theorem V_2 (i : Fin 2112) (g : Fin 4) (k : Fin 512) : V m c (Pipeline.arrRef spec0 2) (ix2 i ⟨4096 + (g.val * 512 + k.val), by omega⟩) = ((padz (rR Q) i g k : ℝ) : EReal) := by
  have h := A.q
  unfold V
  after_reads_at
  pointwise
  unfold padz
  split
  · rfl
  · rw [dif_pos (by omega)]
    after_reads_at
    pointwise
    exact congrFun h _

theorem V_3 (k : Fin 512) : V m c (Pipeline.arrRef spec0 3) (ix2 0 k) = ((rH H k : ℝ) : EReal) := by
  have h := A.h
  unfold V
  after_reads_at
  pointwise
  exact congrFun h _

section Blocks
variable (t : Fin cfg0.N) (a : Fin 352) (g : Fin 4) (k : Fin 512)
theorem iblk_0 : b0 m c t (ix2 a (col g k)) = ((padz (rD D) (row t a) g k : ℝ) : EReal) := by
  rw [← V_0 A]; blk_ext [iblk, idx t]
theorem iblk_1 : b1 m c t (ix2 a (col g k)) = ((padz (rO O) (row t a) g k : ℝ) : EReal) := by
  rw [← V_1 A]; blk_ext [iblk, idx t]
theorem iblk_2 : b2 m c t (ix2 a (col g k)) = ((padz (rR Q) (row t a) g k : ℝ) : EReal) := by
  rw [← V_2 A]
  unfold b2 X0_2 Pipeline.Window.fill
  rw [dif_pos (moved0_2 t _)]
  blk_ext [iblk, idx t]
theorem iblk_3 : b3 m c t (ix2 0 k) = ((rH H k : ℝ) : EReal) := by
  rw [← V_3 A]; blk_ext [iblk, idx t]

/-- One element of each result, from the blocks; the columns of the head may be spelt another way. -/
theorem elt_O {f : Fin 512 → Fin 2048} (hf : ∀ n, f n = col g n) :
    eO (fun n => b1 m c t (ix2 a (f n))) (fun n => b2 m c t (ix2 a (f n))) (fun n => b0 m c t (ix2 a (f n))) (fun n => b3 m c t (ix2 0 n)) k
      = dO O Q H D (ix2 (row t a) (col g k)) := by
  obtain rfl : f = col g := funext hf
  rw [eO_real (iblk_1 A t a g) (iblk_2 A t a g) (iblk_0 A t a g) (iblk_3 A t), gO_pad]
  show _ = ((padz _ (row t a) (grp (col g k)) (loc (col g k)) : ℝ) : EReal)
  rw [grp_col, loc_col]

theorem elt_R {f : Fin 512 → Fin 2048} (hf : ∀ n, f n = col g n) :
    eR (fun n => b1 m c t (ix2 a (f n))) (fun n => b2 m c t (ix2 a (f n))) (fun n => b0 m c t (ix2 a (f n))) (fun n => b3 m c t (ix2 0 n)) k
      = dR O Q H D (ix2 (row t a) (col g k)) := by
  obtain rfl : f = col g := funext hf
  rw [eR_real (iblk_1 A t a g) (iblk_2 A t a g) (iblk_0 A t a g) (iblk_3 A t), gR_pad]
  show _ = ((padz _ (row t a) (grp (col g k)) (loc (col g k)) : ℝ) : EReal)
  rw [grp_col, loc_col]

/-- What head `g` of a row adds to the gradient of the weight. -/
def hrow (O : S4x2064x512.Idx → ℝ) (Q : S2064x6160.Idx → ℝ) (D : S2064x2048.Idx → ℝ) (i : Fin 2112) (g : Fin 4) (k : Fin 512) : ℝ :=
  gH (padz (rO O) i g) (padz (rR Q) i g) (padz (rD D) i g) k

theorem elt_H {f : Fin 512 → Fin 2048} (hf : ∀ n, f n = col g n) :
    ∑ a : Fin 352, eH (fun n => b1 m c t (ix2 a (f n))) (fun n => b2 m c t (ix2 a (f n))) (fun n => b0 m c t (ix2 a (f n))) k
      = ((∑ a : Fin 352, hrow O Q D (row t a) g k : ℝ) : EReal) := by
  obtain rfl : f = col g := funext hf
  rw [← Lift.coe_sum]
  exact Finset.sum_congr rfl fun a _ => eH_real (iblk_1 A t a g) (iblk_2 A t a g) (iblk_0 A t a g) k
end Blocks

omit A in
/-- Where a piece of four columns side by side is read. -/
theorem piece (n : Fin 4) (x : S352x512.Idx) {a : Fin 352} {g : Fin 4} {k : Fin 512} (h0 : a.val = (x 0).val) (h1 : g.val * 512 + k.val = n.val * 512 + (x 1).val) :
    x = ix2 a k ∧ g = n := by
  obtain ⟨b, f, rfl⟩ : ∃ (b : Fin 352) (f : Fin 512), x = ix2 b f := ⟨x 0, x 1, eq_ix2 x⟩
  replace h0 : a.val = b.val := h0
  replace h1 : g.val * 512 + k.val = n.val * 512 + f.val := h1
  obtain rfl : a = b := Fin.ext h0
  obtain rfl : k = f := Fin.ext (by omega)
  exact ⟨rfl, Fin.ext (by omega)⟩

theorem do_A (t : Fin cfg0.N) (h0 : t.val % 6 = 0) (a : Fin 352) (g : Fin 4) (k : Fin 512) :
    (outsAt0 m c t.val t.isLt).1 (ix2 a (col g k)) = dO O Q H D (ix2 (row t a) (col g k)) := by
  rw [outsAt0_A m c t h0]; dsimp only; unfold out0_A_4; frame_open; frame_out
  canon_tiles x hx
  · obtain ⟨rfl, rfl⟩ := piece 3 x hx0 hx1
    unfold_payloads; pointwise; exact elt_O A t a 3 k (f := fun n => ⟨1536 + n.val, by omega⟩) fun n => rfl
  · obtain ⟨rfl, rfl⟩ := piece 2 x hx0 hx1
    unfold_payloads; pointwise; exact elt_O A t a 2 k (f := fun n => ⟨1024 + n.val, by omega⟩) fun n => rfl
  · obtain ⟨rfl, rfl⟩ := piece 1 x hx0 hx1
    unfold_payloads; pointwise; exact elt_O A t a 1 k (f := fun n => ⟨512 + n.val, by omega⟩) fun n => rfl
  · obtain ⟨rfl, rfl⟩ := piece 0 x hx0 (by simpa using hx1)
    unfold_payloads; pointwise; exact elt_O A t a 0 k (f := fun n => ⟨n.val, by omega⟩) fun n => Fin.ext (by simp)

theorem do_B (t : Fin cfg0.N) (h0 : ¬ t.val % 6 = 0) (a : Fin 352) (g : Fin 4) (k : Fin 512) :
    (outsAt0 m c t.val t.isLt).1 (ix2 a (col g k)) = dO O Q H D (ix2 (row t a) (col g k)) := by
  rw [outsAt0_B m c t h0]; dsimp only; unfold out0_B_4; frame_open; frame_out
  canon_tiles x hx
  · obtain ⟨rfl, rfl⟩ := piece 3 x hx0 hx1
    unfold_payloads; pointwise; exact elt_O A t a 3 k (f := fun n => ⟨1536 + n.val, by omega⟩) fun n => rfl
  · obtain ⟨rfl, rfl⟩ := piece 2 x hx0 hx1
    unfold_payloads; pointwise; exact elt_O A t a 2 k (f := fun n => ⟨1024 + n.val, by omega⟩) fun n => rfl
  · obtain ⟨rfl, rfl⟩ := piece 1 x hx0 hx1
    unfold_payloads; pointwise; exact elt_O A t a 1 k (f := fun n => ⟨512 + n.val, by omega⟩) fun n => rfl
  · obtain ⟨rfl, rfl⟩ := piece 0 x hx0 (by simpa using hx1)
    unfold_payloads; pointwise; exact elt_O A t a 0 k (f := fun n => ⟨n.val, by omega⟩) fun n => Fin.ext (by simp)

theorem dr_A (t : Fin cfg0.N) (h0 : t.val % 6 = 0) (a : Fin 352) (g : Fin 4) (k : Fin 512) :
    (outsAt0 m c t.val t.isLt).2.1 (ix2 a (col g k)) = dR O Q H D (ix2 (row t a) (col g k)) := by
  rw [outsAt0_A m c t h0]; dsimp only; unfold out0_A_5; frame_open; frame_out
  canon_tiles x hx
  · obtain ⟨rfl, rfl⟩ := piece 3 x hx0 hx1
    unfold_payloads; pointwise; exact elt_R A t a 3 k (f := fun n => ⟨1536 + n.val, by omega⟩) fun n => rfl
  · obtain ⟨rfl, rfl⟩ := piece 2 x hx0 hx1
    unfold_payloads; pointwise; exact elt_R A t a 2 k (f := fun n => ⟨1024 + n.val, by omega⟩) fun n => rfl
  · obtain ⟨rfl, rfl⟩ := piece 1 x hx0 hx1
    unfold_payloads; pointwise; exact elt_R A t a 1 k (f := fun n => ⟨512 + n.val, by omega⟩) fun n => rfl
  · obtain ⟨rfl, rfl⟩ := piece 0 x hx0 (by simpa using hx1)
    unfold_payloads; pointwise; exact elt_R A t a 0 k (f := fun n => ⟨n.val, by omega⟩) fun n => Fin.ext (by simp)

theorem dr_B (t : Fin cfg0.N) (h0 : ¬ t.val % 6 = 0) (a : Fin 352) (g : Fin 4) (k : Fin 512) :
    (outsAt0 m c t.val t.isLt).2.1 (ix2 a (col g k)) = dR O Q H D (ix2 (row t a) (col g k)) := by
  rw [outsAt0_B m c t h0]; dsimp only; unfold out0_B_5; frame_open; frame_out
  canon_tiles x hx
  · obtain ⟨rfl, rfl⟩ := piece 3 x hx0 hx1
    unfold_payloads; pointwise; exact elt_R A t a 3 k (f := fun n => ⟨1536 + n.val, by omega⟩) fun n => rfl
  · obtain ⟨rfl, rfl⟩ := piece 2 x hx0 hx1
    unfold_payloads; pointwise; exact elt_R A t a 2 k (f := fun n => ⟨1024 + n.val, by omega⟩) fun n => rfl
  · obtain ⟨rfl, rfl⟩ := piece 1 x hx0 hx1
    unfold_payloads; pointwise; exact elt_R A t a 1 k (f := fun n => ⟨512 + n.val, by omega⟩) fun n => rfl
  · obtain ⟨rfl, rfl⟩ := piece 0 x hx0 (by simpa using hx1)
    unfold_payloads; pointwise; exact elt_R A t a 0 k (f := fun n => ⟨n.val, by omega⟩) fun n => Fin.ext (by simp)

set_option maxHeartbeats 2000000 in
theorem dhn_A (t : Fin cfg0.N) (h0 : t.val % 6 = 0) (k : Fin 512) :
    (outsAt0 m c t.val t.isLt).2.2 (ix2 0 k) = ((∑ a : Fin 352, ∑ g : Fin 4, hrow O Q D (row t a) g k : ℝ) : EReal) := by
  rw [outsAt0_A m c t h0]; dsimp only; unfold out0_A_6; frame_open
  simp (disch := decide) only [↓ View.readCov_skip, ↓ View.readCov_cons_toLoadRect, ↓ View.readCov_fill]
  frame_out; unfold_payloads; pointwise
  rw [Finset.sum_comm, Fin.sum_univ_four, EReal.coe_add, EReal.coe_add, EReal.coe_add]
  exact (congrArg₂ (· + ·) (congrArg₂ (· + ·) (congrArg₂ (· + ·)
    (elt_H A t 0 k (f := fun n => ⟨n.val, by omega⟩) fun n => Fin.ext (by simp))
    (elt_H A t 1 k (f := fun n => ⟨512 + n.val, by omega⟩) fun n => rfl))
    (elt_H A t 2 k (f := fun n => ⟨1024 + n.val, by omega⟩) fun n => rfl))
    (elt_H A t 3 k (f := fun n => ⟨1536 + n.val, by omega⟩) fun n => rfl))

theorem dhn_B (t : Fin cfg0.N) (h0 : ¬ t.val % 6 = 0) (k : Fin 512) :
    (outsAt0 m c t.val t.isLt).2.2 (ix2 0 k) = (outsAt0 m c (t.val - 1) (by omega)).2.2 (ix2 0 k) + ((∑ a : Fin 352, ∑ g : Fin 4, hrow O Q D (row t a) g k : ℝ) : EReal) := by
  rw [outsAt0_B m c t h0]; dsimp only; frame_out; unfold_payloads; pointwise
  rw [Finset.sum_comm, Fin.sum_univ_four, EReal.coe_add, EReal.coe_add, EReal.coe_add]
  exact congrArg _ (congrArg₂ (· + ·) (congrArg₂ (· + ·) (congrArg₂ (· + ·)
    (elt_H A t 0 k (f := fun n => ⟨n.val, by omega⟩) fun n => Fin.ext (by simp))
    (elt_H A t 1 k (f := fun n => ⟨512 + n.val, by omega⟩) fun n => rfl))
    (elt_H A t 2 k (f := fun n => ⟨1024 + n.val, by omega⟩) fun n => rfl))
    (elt_H A t 3 k (f := fun n => ⟨1536 + n.val, by omega⟩) fun n => rfl))

omit A in
theorem ix_split (y : S352x2048.Idx) : ∃ (a : Fin 352) (g : Fin 4) (k : Fin 512), y = ix2 a (col g k) :=
  ⟨y 0, grp (y 1), loc (y 1), (eq_ix2 y).trans (congrArg (ix2 (y 0)) (col_grp (y 1)).symm)⟩

theorem do_arr : (dats m 0 c).arrAt 4 cfg0.N = dO O Q H D := by
  refine (dats m 0 c).arrAt_eq_of_covers 4 _ (by decide +kernel) fun t hf y => ?_
  obtain ⟨a, g, k, rfl⟩ := ix_split y
  have e : ((View.whole main_v14_0).slice (win0_4.rect t)).emb (ix2 a (col g k)) = ix2 (row t a) (col g k) := by blk_ext [idx t]
  blk_simp; rw [after0_4]
  refine Eq.trans ?_ (congrArg (dO O Q H D) e.symm)
  by_cases h0 : t.val % 6 = 0
  · exact do_A A t h0 a g k
  · exact do_B A t h0 a g k

theorem dr_arr : (dats m 0 c).arrAt 5 cfg0.N = dR O Q H D := by
  refine (dats m 0 c).arrAt_eq_of_covers 5 _ (by decide +kernel) fun t hf y => ?_
  obtain ⟨a, g, k, rfl⟩ := ix_split y
  have e : ((View.whole main_v14_1).slice (win0_5.rect t)).emb (ix2 a (col g k)) = ix2 (row t a) (col g k) := by blk_ext [idx t]
  blk_simp; rw [after0_5]
  refine Eq.trans ?_ (congrArg (dR O Q H D) e.symm)
  by_cases h0 : t.val % 6 = 0
  · exact dr_A A t h0 a g k
  · exact dr_B A t h0 a g k

omit A in
theorem hrow_sum (k : Fin 512) : ∑ t : Fin 6, ∑ a : Fin 352, ∑ g : Fin 4, hrow O Q D (row t a) g k
    = ∑ i : Fin 2064, ∑ g : Fin 4, gH (rO O i g) (rR Q i g) (rD D i g) k := by
  refine (Lift.sum_blocks (fun i => ∑ g : Fin 4, hrow O Q D i g k)).trans ?_
  rw [Lift.sum_pad (fun i => ∑ g : Fin 4, hrow O Q D i g k) (fun i h => Finset.sum_eq_zero fun g _ => gH_lo O Q D h g k)]
  refine Finset.sum_congr rfl fun i _ => Finset.sum_congr rfl fun g _ => ?_
  unfold hrow
  simp only [padz_hi]

theorem dhn_arr : (dats m 0 c).arrAt 6 cfg0.N = dH O Q D := by
  refine (dats m 0 c).arrAt_eq_of_after_last 6 t0_5 (by decide +kernel) _ fun j => ?_
  obtain ⟨k, rfl⟩ : ∃ (k : Fin 512), j = ix2 (0 : Fin 1) k := ⟨j 1, by rw [eq_ix2 j]; congr 1; exact Subsingleton.elim _ _⟩
  rw [after0_6]
  blk_simp
  refine (Pipeline.eq_sum_fin_of_reset_step_apply_last (fun n hn (k : Fin 512) => (outsAt0 m c n hn).2.2 (ix2 0 k)) 6 (fun _ => (0 : EReal))
    (fun t k => ((∑ a : Fin 352, ∑ g : Fin 4, hrow O Q D (row t a) g k : ℝ) : EReal)) ?_ ?_ (le_of_eq rfl) t0_5 rfl k).trans ?_
  · intro t h0 k
    rw [zero_add]; exact dhn_A A t h0 k
  · intro t h0 k
    exact dhn_B A t h0 k
  · rw [zero_add, Lift.coe_sum]
    exact congrArg _ (hrow_sum k)

end Cert.PostKernelIdeal.Spec
-- ==== Proof.Post.Reference.lean ====
module

public import proofs.«01_k».proof.Proof.Post.Spec
public import proofs.«01_k».proof.Proof.Gen.PostReferenceIdeal.Read

/-! What the derivative of the head norm and the output gate is, read from the reference's stages. -/

@[expose] public section

set_option maxRecDepth 16384

noncomputable section

namespace Cert.PostReferenceIdeal.Spec

open Cert.PostReferenceIdeal Idealize.ShloMosaic Idealize.ShloMosaic.TcCoe Idealize.SL.Sem
open Cert.Post Words

variable (O : S4x2064x512.Idx → ℝ) (Q : S2064x6160.Idx → ℝ) (H : S512.Idx → ℝ) (D : S2064x2048.Idx → ℝ)

/-- The real numbers as an array of extended reals. -/
local notation "↟" X => fun i => ((X i : ℝ) : EReal)

theorem v11 (g : Fin 4) (i : Fin 2064) : Read.val_main_v11 (F := Ideal) (↟O) (ix3 g i (0 : Fin 1)) = ((ms (rO O i g) : ℝ) : EReal) := by
  unfold Read.val_main_v11 Read.val_main_v10 Read.val_main_v9 Read.val_main_v8 Read.val_main_v7 Read.val_main_v6 Read.val_main_v5 Read.val_main_cst Read.val_main_cst_0 Read.val_main_cst_1
  pointwise
  simp only [Lift.c0, c512, Lift.ceps, ← EReal.coe_mul, Lift.coe_sum, ← EReal.coe_add, Lift.div_real _ (by norm_num : (512 : ℝ) ≠ 0)]
  rfl

theorem v12 (g : Fin 4) (i : Fin 2064) : Read.val_main_v12 (F := Ideal) (↟O) (ix3 g i (0 : Fin 1)) = ((rs (rO O i g) : ℝ) : EReal) := by
  unfold Read.val_main_v12
  pointwise
  rw [v11]
  exact Lift.rsqrt_real (ms_pos _)

theorem v15 (g : Fin 4) (i : Fin 2064) : Read.val_main_v15 (F := Ideal) (↟O) (ix3 g i (0 : Fin 1)) = ((-1 / 2 * (rs (rO O i g) / ms (rO O i g)) : ℝ) : EReal) := by
  unfold Read.val_main_v15 Read.val_main_v14 Read.val_main_v13 Read.val_main_cst_2
  pointwise
  rw [v11, v12, Lift.cneghalf, Lift.div_real _ (ms_pos _).ne', ← EReal.coe_mul]

theorem v17 (g : Fin 4) (i : Fin 2064) (k : Fin 512) : Read.val_main_v17 (F := Ideal) (↟O) (ix3 g i k) = ((rO O i g k * rs (rO O i g) : ℝ) : EReal) := by
  unfold Read.val_main_v17 Read.val_main_v16
  pointwise
  rw [v12, ← EReal.coe_mul]
  rfl

theorem v4 (i : Fin 2064) (g : Fin 4) (k : Fin 512) : Read.val_main_v4 (F := Ideal) (↟Q) (ix2 i (col g k)) = ((rR Q i g k : ℝ) : EReal) := by
  unfold Read.val_main_v4
  pointwise
  rfl

theorem v23_2 (i : Fin 2064) (g : Fin 4) (k : Fin 512) : Read.val_main_v23_2 (F := Ideal) (↟Q) (ix2 i (col g k)) = ((sg (rR Q i g k) : ℝ) : EReal) := by
  unfold Read.val_main_v23_2 Read.val_main_call0_v4 Read.val_main_call0_v3 Read.val_main_call0_v2 Read.val_main_call0_v1 Read.val_main_call0_v0 Read.val_main_call0_cst Read.val_main_call0_cst_0
  pointwise
  rw [v4, ← zero_sub]
  exact sg_real _

theorem v22 (i : Fin 2064) (g : Fin 4) (k : Fin 512) : Read.val_main_v22 (F := Ideal) (↟O) (↟H) (ix2 i (col g k)) = ((rO O i g k * rs (rO O i g) * rH H k : ℝ) : EReal) := by
  unfold Read.val_main_v22 Read.val_main_v21 Read.val_main_v20 Read.val_main_v19 Read.val_main_v18
  pointwise
  refine Eq.trans (congrArg₂ (fun (a : Fin 4) (b : Fin 512) => Read.val_main_v17 (F := Ideal) (↟O) (ix3 a i b) * (H (ix1 b) : EReal)) (grp_col g k) (loc_col g k)) ?_
  show Read.val_main_v17 (F := Ideal) (↟O) (ix3 g i k) * _ = _
  rw [v17, ← EReal.coe_mul]
  rfl

theorem v26 (i : Fin 2064) (g : Fin 4) (k : Fin 512) : Read.val_main_v26 (F := Ideal) (↟Q) (↟D) (ix2 i (col g k)) = ((don (rR Q i g) (rD D i g) k : ℝ) : EReal) := by
  unfold Read.val_main_v26 Read.val_main_v23_0
  pointwise
  rw [v4, v23_2, ← EReal.coe_mul, ← EReal.coe_mul]
  rfl

theorem v29 (g : Fin 4) (i : Fin 2064) (k : Fin 512) : Read.val_main_v29 (F := Ideal) (↟Q) (↟D) (ix3 g i k) = ((don (rR Q i g) (rD D i g) k : ℝ) : EReal) := by
  rw [← v26, Read.val_main_v29_apply, Read.val_main_v28_apply]
  congr 1
  funext a
  match a with
  | ⟨0, _⟩ => exact Fin.ext (by show ((i.val * 4 + g.val) * 512 + k.val) / 2048 = i.val; omega)
  | ⟨1, _⟩ => exact Fin.ext (by show ((i.val * 4 + g.val) * 512 + k.val) % 2048 = g.val * 512 + k.val; omega)

theorem v27 (i : Fin 2064) (g : Fin 4) (k : Fin 512) : Read.val_main_v27 (F := Ideal) (↟O) (↟Q) (↟H) (↟D) (ix2 i (col g k))
    = ((gR (rO O i g) (rR Q i g) (rD D i g) (rH H) k : ℝ) : EReal) := by
  unfold Read.val_main_v27 Read.val_main_call1_v2 Read.val_main_call1_v1 Read.val_main_call1_v0 Read.val_main_v25 Read.val_main_v23_1 Read.val_main_call0_v7 Read.val_main_call0_v6 Read.val_main_call0_cst_1
  pointwise
  rw [v4, v22, v23_2, ← EReal.coe_one]
  simp only [← EReal.coe_mul, ← EReal.coe_sub, ← EReal.coe_add]
  refine congrArg _ ?_
  unfold gR rD
  ring

theorem v37 (g : Fin 4) (i : Fin 2064) : Read.val_main_v37 (F := Ideal) (↟O) (↟Q) (↟H) (↟D) (ix2 g i)
    = ((∑ k, rO O i g k * (don (rR Q i g) (rD D i g) k * rH H k) : ℝ) : EReal) := by
  unfold Read.val_main_v37 Read.val_main_v36 Read.val_main_v34 Read.val_main_v33 Read.val_main_v18 Read.val_main_cst_5
  pointwise
  simp only [v29, Lift.c0, ← EReal.coe_mul, Lift.coe_sum, ← EReal.coe_add]
  rfl

theorem v44 (g : Fin 4) (i : Fin 2064) : Read.val_main_v44 (F := Ideal) (↟O) (↟Q) (↟H) (↟D) (ix2 g i)
    = (((∑ k, rO O i g k * (don (rR Q i g) (rD D i g) k * rH H k)) * (-1 / 2 * (rs (rO O i g) / ms (rO O i g))) / 512 : ℝ) : EReal) := by
  unfold Read.val_main_v44 Read.val_main_v43 Read.val_main_v42 Read.val_main_v41 Read.val_main_v38 Read.val_main_cst_6 Read.val_main_cst_7
  pointwise
  rw [Fin.sum_univ_one, v37, v15, c512, ← EReal.coe_mul, Lift.div_real _ (by norm_num : (512 : ℝ) ≠ 0)]

theorem v49 (g : Fin 4) (i : Fin 2064) (k : Fin 512) : Read.val_main_v49 (F := Ideal) (↟O) (↟Q) (↟H) (↟D) (ix3 g i k)
    = ((gO (rO O i g) (rR Q i g) (rD D i g) (rH H) k : ℝ) : EReal) := by
  unfold Read.val_main_v49 Read.val_main_v48 Read.val_main_v47 Read.val_main_v46 Read.val_main_v45 Read.val_main_v40 Read.val_main_v39 Read.val_main_v34 Read.val_main_v33 Read.val_main_v18
  pointwise
  rw [v44, v12, v29]
  simp only [← EReal.coe_mul, ← EReal.coe_add]
  refine congrArg _ ?_
  show don (rR Q i g) (rD D i g) k * rH H k * rs (rO O i g) + rO O i g k * _ + _ * rO O i g k = _
  unfold gO
  rw [div_eq_mul_inv (rs (rO O i g)), ← rs_sq (rO O i g)]
  have hs : ∑ n, don (rR Q i g) (rD D i g) n * rH H n * (rO O i g n * rs (rO O i g)) = (∑ n, rO O i g n * (don (rR Q i g) (rD D i g) n * rH H n)) * rs (rO O i g) := by
    rw [Finset.sum_mul]
    exact Finset.sum_congr rfl fun k _ => by ring
  rw [hs]
  ring

theorem v54 (i : Fin 2064) (j : Fin 2048) : Read.val_main_v54 (F := Ideal) (↟O) (↟Q) (↟H) (↟D) (ix2 i ⟨4112 + j.val, by omega⟩)
    = Read.val_main_v27 (F := Ideal) (↟O) (↟Q) (↟H) (↟D) (ix2 i j) := by
  unfold Read.val_main_v54
  pointwise
  refine (dif_neg (by omega)).trans ((dif_neg (by omega)).trans ((dif_neg (by omega)).trans ((dif_neg (by omega)).trans ?_)))
  refine congrArg (fun n => Read.val_main_v27 (F := Ideal) (↟O) (↟Q) (↟H) (↟D) (ix2 i n)) ?_
  exact Fin.ext (by show 4112 + j.val - 1024 - 1024 - 2048 - 16 = j.val; omega)

theorem do_ref : Read.val_main_v58 (F := Ideal) (↟O) (↟Q) (↟H) (↟D) = dO O Q H D := by
  funext y
  idx_vars y
  unfold Read.val_main_v58 Read.val_main_v55 Read.val_main_cst_12
  pointwise
  refine Eq.trans ?_ (show ((padz (fun i g => gO (rO O i g) (rR Q i g) (rD D i g) (rH H)) y0 (grp y1) (loc y1) : ℝ) : EReal) = dO O Q H D (ix2 y0 y1) from rfl)
  by_cases h : y0.val < 48
  · rw [dif_pos h, padz_lo h]
    rfl
  · rw [dif_neg h, padz_ge h, ← v49, Read.val_main_v57_apply, Read.val_main_v56_apply]
    congr 1
    funext a
    match a with
    | ⟨0, _⟩ => exact Fin.ext (by show ((y0.val - 48) * 2048 + y1.val) / 512 % 4 = y1.val / 512; omega)
    | ⟨1, _⟩ => exact Fin.ext (by show ((y0.val - 48) * 2048 + y1.val) / 2048 = y0.val - 48; omega)
    | ⟨2, _⟩ => exact Fin.ext (by show ((y0.val - 48) * 2048 + y1.val) % 512 = y1.val % 512; omega)

theorem dr_ref : Read.val_main_v61 (F := Ideal) (↟O) (↟Q) (↟H) (↟D) = dR O Q H D := by
  funext y
  idx_vars y
  unfold Read.val_main_v61 Read.val_main_v60 Read.val_main_v55 Read.val_main_cst_12
  pointwise
  refine Eq.trans ?_ (show ((padz (fun i g => gR (rO O i g) (rR Q i g) (rD D i g) (rH H)) y0 (grp y1) (loc y1) : ℝ) : EReal) = dR O Q H D (ix2 y0 y1) from rfl)
  by_cases h : y0.val < 48
  · rw [dif_pos h, padz_lo h]
    rfl
  · rw [dif_neg h, padz_ge h, ← v27, Read.val_main_v59_apply]
    have e : Read.idx_main_v59 (ix2 (⟨y0.val - 48, by omega⟩ : Fin 2064) y1) = ix2 ⟨y0.val - 48, by omega⟩ ⟨4112 + y1.val, by omega⟩ := by
      funext a
      match a with
      | ⟨0, _⟩ => rfl
      | ⟨1, _⟩ => rfl
    rw [e, v54 O Q H D ⟨y0.val - 48, by omega⟩ y1]
    exact congrArg (fun j => Read.val_main_v27 (F := Ideal) (↟O) (↟Q) (↟H) (↟D) (ix2 _ j)) (col_grp y1).symm

/-- The sum over the first two axes. -/
theorem reduce_pair {p q n : Nat} (h : (⟨3, ![p, q, n]⟩ : Shape).ReducesTo [0, 1] ⟨1, ![n]⟩) (x : (⟨3, ![p, q, n]⟩ : Shape).Idx → EReal) (z : EReal) (k : Fin n) :
    Ideal.hostReduceAdd h x z (ix1 k) = z + ∑ g : Fin p, ∑ i : Fin q, x (ix3 g i k) := by
  unfold Ideal.hostReduceAdd
  refine congrArg (z + ·) ?_
  have hd (y : (⟨3, ![p, q, n]⟩ : Shape).Idx) : (h.drop y 0).val = (y 2).val := rfl
  rw [← Fintype.sum_prod_type' (f := fun (g : Fin p) (i : Fin q) => x (ix3 g i k))]
  refine (Finset.sum_bij' (fun (r : Fin p × Fin q) _ => (ix3 r.1 r.2 k : (⟨3, ![p, q, n]⟩ : Shape).Idx)) (fun y _ => ((y 0, y 1) : Fin p × Fin q)) ?_ ?_ ?_ ?_ ?_).symm
  · intro r _
    refine Finset.mem_filter.mpr ⟨Finset.mem_univ _, funext fun b => ?_⟩
    match b with | ⟨0, _⟩ => exact Fin.ext (hd _)
  · intro y _; exact Finset.mem_univ _
  · intro r _; rfl
  · intro y hy
    have e : y 2 = k := Fin.ext ((hd y).symm.trans (congrArg Fin.val (congrFun (Finset.mem_filter.mp hy).2 0)))
    exact ((eq_ix3 y).trans (congrArg (ix3 (y 0) (y 1)) e)).symm
  · intro r _; rfl

theorem dhn_ref : Read.val_main_v62 (F := Ideal) (↟O) (↟Q) (↟D) = dH O Q D := by
  funext y
  obtain ⟨k, rfl⟩ : ∃ k : Fin 512, y = ix2 (0 : Fin 1) k := ⟨y 1, by rw [eq_ix2 y]; congr 1; exact Subsingleton.elim _ _⟩
  unfold Read.val_main_v62 Read.val_main_v35 Read.val_main_v32 Read.val_main_v31 Read.val_main_cst_3 Read.val_main_cst_4
  pointwise
  rw [reduce_pair, Fin.sum_univ_one, Fin.sum_univ_one, shapeCast_apply _ Gen.shapeCasts_S512_S1x1x512 (ix3 0 0 k) (ix1 k) (by rw [Shape.rowMajor_val_one, Shape.rowMajor_val_three]; show k.val = (0 * 1 + 0) * 512 + k.val; omega)]
  show 0 + Ideal.hostReduceAdd Gen.reducesTo_S4x2064x512_S512_d0_1 (Read.val_main_v30 (F := Ideal) (↟O) (↟Q) (↟D)) (Ideal.ofBits .f32 0#32) (ix1 k) = _
  rw [Lift.c0, EReal.coe_zero, reduce_pair, zero_add, zero_add]
  unfold dH
  simp only [Read.val_main_v30_apply, Ideal.mulf_def, v17, v29, ← EReal.coe_mul, Lift.coe_sum]
  rw [Finset.sum_comm]
  exact congrArg _ (Finset.sum_congr rfl fun i _ => Finset.sum_congr rfl fun g _ => mul_comm _ _)

end Cert.PostReferenceIdeal.Spec
-- ==== Proof.Post.Claims.lean ====
module

public import proofs.«01_k».proof.Proof.Post.Pre
public import proofs.«01_k».proof.Proof.Post.Kernel
public import proofs.«01_k».proof.Proof.Post.Reference
public import proofs.«01_k».proof.Defs
public import proofs.«01_k».proof.Proof.Gen.PostReferenceIdeal
public import proofs.«01_k».proof.Proof.Gen.PostReferenceIdeal.Run
public import Idealize.ShloMosaic.Lib.Quiescent

/-! The gradient of the head norm and the output gate: the reference's frame and the equality of the results. -/

@[expose] public section

set_option maxRecDepth 16384

noncomputable section

namespace Cert.Post

open Idealize.ShloMosaic Idealize.SL.Sem

theorem frame_reference : Cert.quiescent_PostReferenceIdeal := fun m ρ _ =>
  (θ_run Cert.PostReferenceIdeal.defs _ _).mono (fun r h => ⟨fun c => (h c).2.2.2,
    Idealize.ShloMosaic.sem_eq_zero_of_no_sems (by decide) r.2⟩) (Cert.PostReferenceIdeal.Value.run (F := Ideal) m ρ)

theorem algebraic [Cert.Pre_post_finite.Facts] : Cert.algebraic_PostKernelIdeal_PostReferenceIdeal_pre_post_finite := by
  intro m g m' g' hpre hargs
  refine ⟨fun c => (Cert.PostKernelIdeal.Gen.dats m 0 c).arrAt 4 Cert.PostKernelIdeal.cfg0.N,
    fun c => (Cert.PostKernelIdeal.Gen.dats m 0 c).arrAt 5 Cert.PostKernelIdeal.cfg0.N,
    fun c => (Cert.PostKernelIdeal.Gen.dats m 0 c).arrAt 6 Cert.PostKernelIdeal.cfg0.N,
    Cert.PostKernelIdeal.Value.run_blocks m g, ?_⟩
  refine (θ_run Cert.PostReferenceIdeal.defs _ _).mono (fun r h c => ?_) (Cert.PostReferenceIdeal.Value.run (F := Ideal) m' g')
  obtain ⟨h0, h1, h2, hk⟩ := h c
  obtain ⟨⟨O, hO⟩, ⟨Q, hQ⟩, ⟨H, hH⟩, ⟨D, hD⟩⟩ := Cert.Pre_post_finite.finite _ _ _ _ (hpre c)
  obtain ⟨a0, a1, a2, a3⟩ := hargs c
  have A : Cert.PostKernelIdeal.Spec.Args m c O Q H D := ⟨hO, hQ, hH, hD⟩
  refine ⟨h0.trans ?_, h1.trans ?_, h2.trans ?_, hk⟩
  · rw [Cert.PostReferenceIdeal.Read.val_main_v58_eq, a0, a1, a2, a3, hO, hQ, hH, hD]
    exact (Cert.PostReferenceIdeal.Spec.do_ref O Q H D).trans (Cert.PostKernelIdeal.Spec.do_arr A).symm
  · rw [Cert.PostReferenceIdeal.Read.val_main_v61_eq, a0, a1, a2, a3, hO, hQ, hH, hD]
    exact (Cert.PostReferenceIdeal.Spec.dr_ref O Q H D).trans (Cert.PostKernelIdeal.Spec.dr_arr A).symm
  · rw [Cert.PostReferenceIdeal.Read.val_main_v62_eq, a0, a1, a3, hO, hQ, hD]
    exact (Cert.PostReferenceIdeal.Spec.dhn_ref O Q D).trans (Cert.PostKernelIdeal.Spec.dhn_arr A).symm

end Cert.Post
-- ==== Proof.Window.Pre.lean ====
module

public import proofs.«01_k».proof.Proof.Lift
public import proofs.«01_k».proof.WindowKernelIdeal
public import proofs.«01_k».proof.Pre_window_finite

/-! The precondition says that the cotangent is finite. -/

@[expose] public section

set_option maxRecDepth 16384

noncomputable section

namespace Cert.Pre_window_finite

open Idealize.ShloMosaic

/-- The shape relations that the precondition's operations take. -/
instance facts : Facts where
  bcast_S_S2064x4x512 := by decide
  reducesTo_S2064x4x512_S_d0_1_2 := by decide
  h_S_ := by decide

theorem finite [Facts] (h0 : S2064x2048.Idx → EReal) (d : S2064x4x512.Idx → EReal) (h : fn (F := Ideal) h0 d = fun _ => 1#1) :
    ∃ D : S2064x4x512.Idx → ℝ, d = fun i => ((D i : ℝ) : EReal) := by
  have h1 := congrFun h ix0
  dsimp only [fn] at h1
  haveI : Subsingleton S_.Idx := ⟨fun a b => funext fun k => k.elim0⟩
  exact Lift.real_of_all d _ _ _ _ _ _ h1

end Cert.Pre_window_finite
-- ==== Proof.Act.Spec.lean ====
module

public import proofs.«01_k».proof.Proof.Words
public import proofs.«01_k».proof.ActKernelIdeal

/-! The gradients of the gate and of the other factor of the gated product over the real numbers. -/

@[expose] public section

set_option maxRecDepth 16384

noncomputable section

namespace Cert.Act

open Idealize.ShloMosaic Cert.ActKernelIdeal Words

variable (A U : S2064x5632.Idx → ℝ) (W : S5632x2048.Idx → ℝ) (D : S2064x2048.Idx → ℝ)

/-- An array with 48 rows of zeros in front. -/
def padz {n : Nat} (f : Fin 2064 → Fin n → ℝ) (i : Fin 2112) (k : Fin n) : ℝ := if h : i.val < 48 then 0 else f ⟨i.val - 48, by omega⟩ k

variable {n : Nat} {f : Fin 2064 → Fin n → ℝ} {i : Fin 2112}
theorem padz_lo (h : i.val < 48) (k : Fin n) : padz f i k = 0 := dif_pos h
theorem padz_ge (h : ¬ i.val < 48) (k : Fin n) : padz f i k = f ⟨i.val - 48, by omega⟩ k := dif_neg h

/-- The rows of the arguments. -/
def rA (i : Fin 2064) (k : Fin 5632) : ℝ := A (ix2 i k)
def rD (i : Fin 2064) (k : Fin 2048) : ℝ := D (ix2 i k)

/-- The gradient of the gated product: half the cotangent times the transposed weight. -/
def prod (d : Fin 2048 → ℝ) (j : Fin 5632) : ℝ := ∑ k, 1 / 2 * d k * W (ix2 j k)

theorem prod_zero {d : Fin 2048 → ℝ} (h : ∀ k, d k = 0) (j : Fin 5632) : prod W d j = 0 := by simp [prod, h]

/-- The derivative of `x · sg x`. -/
def dsilu (x : ℝ) : ℝ := sg x * (1 + x * (1 - sg x))

def gA (i : Fin 2064) (j : Fin 5632) : ℝ := prod W (rD D i) j * rA U i j * dsilu (rA A i j)
def gU (i : Fin 2064) (j : Fin 5632) : ℝ := prod W (rD D i) j * (rA A i j * sg (rA A i j))

/-- The gradients of the gate and of the other factor, with 48 rows of zeros in front. -/
def dA (y : S2112x5632.Idx) : EReal := ((padz (gA A U W D) (y 0) (y 1) : ℝ) : EReal)
def dU (y : S2112x5632.Idx) : EReal := ((padz (gU A W D) (y 0) (y 1) : ℝ) : EReal)

theorem gA_pad (i : Fin 2112) (j : Fin 5632) :
    prod W (padz (rD D) i) j * padz (rA U) i j * dsilu (padz (rA A) i j) = padz (gA A U W D) i j := by
  by_cases h : i.val < 48
  · rw [prod_zero W (fun k => padz_lo h k), padz_lo (f := gA A U W D) h, zero_mul, zero_mul]
  · rw [padz_ge h, padz_ge h, padz_ge h, show padz (rD D) i = rD D ⟨i.val - 48, by omega⟩ from funext fun k => padz_ge h k]
    rfl

theorem gU_pad (i : Fin 2112) (j : Fin 5632) :
    prod W (padz (rD D) i) j * (padz (rA A) i j * sg (padz (rA A) i j)) = padz (gU A W D) i j := by
  by_cases h : i.val < 48
  · rw [prod_zero W (fun k => padz_lo h k), padz_lo (f := gU A W D) h, zero_mul]
  · rw [padz_ge h, padz_ge h, show padz (rD D) i = rD D ⟨i.val - 48, by omega⟩ from funext fun k => padz_ge h k]
    rfl

end Cert.Act
-- ==== Proof.Window.Spec.lean ====
module

public import proofs.«01_k».proof.Proof.Words
public import proofs.«01_k».proof.Proof.Act.Spec
public import proofs.«01_k».proof.WindowKernelIdeal

/-! The gradient of the causal windowed means over the real numbers. -/

@[expose] public section

set_option maxRecDepth 16384

noncomputable section

namespace Cert.Window

open Idealize.ShloMosaic Cert.WindowKernelIdeal
open Cert.Act (padz padz_lo padz_ge)

variable (D : S2064x4x512.Idx → ℝ) (j : Fin 2048)

/-- The cotangent of row `t`, zero past the last row. -/
def dz (t : ℕ) : ℝ := if h : t < 2064 then D (ix3 ⟨t, h⟩ ⟨j.val / 512, by omega⟩ ⟨j.val % 512, by omega⟩) else 0

/-- The number of rows in the window of a column's group: 2, 4, 8 or 16. -/
def win : ℕ := 2 ^ (j.val / 512 + 1)

/-- The cotangent divided by the number of rows that the mean at row `t` takes. -/
def u (w t : ℕ) : ℝ := dz D j t / ((min (t + 1) w : ℕ) : ℝ)

/-- A row's gradient: the means that take the row, less the row's own cotangent. -/
def grad (t : ℕ) : ℝ := ∑ b ∈ Finset.range (win j), u D j (win j) (t + b) - dz D j t

/-- The gradient, with 48 rows of zeros in front. -/
def res (y : S2112x2048.Idx) : EReal := ((padz (fun i j => grad D j i.val) (y 0) (y 1) : ℝ) : EReal)

theorem dz_past {t : ℕ} (h : 2064 ≤ t) : dz D j t = 0 := dif_neg (by omega)
theorem u_past {w t : ℕ} (h : 2064 ≤ t) : u D j w t = 0 := by unfold u; rw [dz_past D j h, zero_div]

/-- A sum of differences at a distance: what is left at its two ends. -/
theorem tele (h : ℕ → ℝ) (w N : ℕ) :
    ∑ n ∈ Finset.range N, (h n - h (n + w)) = ∑ b ∈ Finset.range w, h b - ∑ b ∈ Finset.range w, h (N + b) := by
  induction N with
  | zero => simp
  | succ N ih =>
    have e := Finset.sum_range_succ (fun b => h (N + b)) w
    rw [Finset.sum_range_succ' (fun b => h (N + b)) w] at e
    have e2 : ∀ b, h (N + (b + 1)) = h (N + 1 + b) := fun b => congrArg h (by omega)
    simp only [e2, Nat.add_zero] at e
    rw [Finset.sum_range_succ, ih]
    linarith

/-- The sum from row `i` on of the differences between a row and the row `w` later is the sum of the window that starts at `i`. -/
theorem tail (h : ℕ → ℝ) (hz : ∀ t, 2064 ≤ t → h t = 0) (w : ℕ) (i : Fin 2064) :
    (∑ y : Fin 2064, if i ≤ y then h y.val - h (y.val + w) else 0) = ∑ b ∈ Finset.range w, h (i.val + b) := by
  have e := tele (fun n => h (i.val + n)) w (2064 - i.val)
  rw [Finset.sum_eq_zero (s := Finset.range w) (f := fun b => h (i.val + (2064 - i.val + b))) fun b _ => hz _ (by omega), sub_zero] at e
  refine (Fin.sum_univ_eq_sum_range (fun n => if i.val ≤ n then h n - h (n + w) else 0) 2064).trans ?_
  rw [← e]
  rw [show Finset.range 2064 = Finset.range (i.val + (2064 - i.val)) by congr 1; omega, Finset.sum_range_add]
  rw [Finset.sum_eq_zero fun n hn => if_neg (by have := Finset.mem_range.1 hn; omega), zero_add]
  refine Finset.sum_congr rfl fun n _ => ?_
  rw [if_pos (by omega)]
  exact congrArg₂ _ rfl (congrArg h (by omega))

/-- The sum of a window is the sum of its two halves. -/
theorem halves (h : ℕ → ℝ) (w a : ℕ) :
    ∑ b ∈ Finset.range w, h (a + b) + ∑ b ∈ Finset.range w, h (a + w + b) = ∑ b ∈ Finset.range (w + w), h (a + b) := by
  rw [Finset.sum_range_add]
  simp only [Nat.add_assoc]

/-- The 2112 rows, without an end: row `n` holds what row `n mod 2112` does. -/
def ring (n : ℕ) : ℝ := if n % 2112 < 48 then 0 else u D j (win j) (n % 2112 - 48)

theorem ring_live {t b : ℕ} (ht : t < 2064) (hb : b < 48) : ring D j (48 + t + b) = u D j (win j) (t + b) := by
  unfold ring
  by_cases h : t + b < 2064
  · rw [Nat.mod_eq_of_lt (by omega), if_neg (by omega)]
    exact congrArg _ (by omega)
  · rw [if_pos (by omega), u_past D j (by omega)]

end Cert.Window
-- ==== Proof.Window.Kernel.lean ====
module

public import proofs.«01_k».proof.Proof.Window.Spec
public import proofs.«01_k».proof.Proof.Gen.WindowKernelIdeal.Value
public import Idealize.ShloMosaic.Lib.Pipeline.ValueKit
public import Idealize.ShloMosaic.Lib.StableHlo.ReadAt

/-! What the kernel of the windowed means' gradient leaves in its result. -/

@[expose] public section

set_option maxRecDepth 16384

noncomputable section

namespace Cert.WindowKernelIdeal.Spec

open Cert.WindowKernelIdeal Cert.WindowKernelIdeal.Gen Idealize.ShloMosaic Idealize.ShloMosaic.TcCoe Idealize.SL.Sem
open Idealize.ShloMosaic.Pipeline (Dat)
open Cert.Window Words
open Cert.Act (padz padz_lo padz_ge)

/-! The kernel's words: the group of a grid point, the number of rows of a mean, the rows in use. -/

/-- The group of a grid point: the quotient by four, rounded down. -/
abbrev grp (n : BitVec 32) : BitVec 32 :=
  Scalar.select (Scalar.andi (Scalar.cmpi .ne (Scalar.subi (Scalar.extui (Scalar.cmpi .sgt n 0#32)) (Scalar.extui (Scalar.cmpi .slt n 0#32))) (Scalar.subi (Scalar.extui (Scalar.cmpi .sgt 4#32 0#32)) (Scalar.extui (Scalar.cmpi .slt 4#32 0#32)))) (Scalar.cmpi .ne (Scalar.remsi n 4#32) 0#32)) (Scalar.subi (Scalar.divsi n 4#32) 1#32) (Scalar.divsi n 4#32)

theorem grp_eq : ∀ n : Fin 16, grp (BitVec.ofNat 32 n.val) = BitVec.ofNat 32 (n.val / 4) := by decide +kernel

theorem count : ∀ (g : Fin 4) (a : Fin 2112),
    (IntOp.maxsi (IntOp.minsi (IntOp.addi (IntOp.subi (BitVec.ofNat 32 a.val) 48#32) 1#32) (Scalar.shli 2#32 (BitVec.ofNat 32 g.val))) 1#32).toInt
      = ((max (min (a.val + 1 - 48) (2 ^ (g.val + 1))) 1 : ℕ) : ℤ) := by decide +kernel

theorem ge48 : ∀ a : Fin 2112, IntOp.cmpi .sge (IntOp.subi (BitVec.ofNat 32 a.val) 48#32) 0#32 = BitVec.ofBool (decide (48 ≤ a.val)) := by
  decide +kernel

theorem idx : ∀ t : Fin cfg0.N, win0_0.index t = ![0, t.val] ∧ win0_1.index t = ![0, t.val] ∧ ((grid0.coords t) 0).val = t.val :=
  (by decide +kernel : ∀ t : Fin grid0.N, _)

/-- The column of the array at column `b` of block `t`. -/
abbrev col (t : Fin cfg0.N) (b : Fin 128) : Fin 2048 := ⟨t.val * 128 + b.val, by have := t.isLt; have : cfg0.N = 16 := rfl; omega⟩

/-! The doubling steps. -/

section Steps
variable {x : S2112x128.Idx → EReal} {X : ℕ → ℝ} {b : Fin 128} {w : ℕ} (hw : 0 < w) (hw' : w < 2112)
  (hper : ∀ n, X (n % 2112) = X n)
  (hx : ∀ a : Fin 2112, x (ix2 a b) = ((∑ k ∈ Finset.range w, X (a.val + k) : ℝ) : EReal))
include hw hw' hper hx

/-- The rows rotated by `2112 - w` and added: windows of twice the length. -/
theorem double (n : BitVec 32) (hn : n.toNat = 2112 - w) (h : S2112x128.Rotates 0 none) (a : Fin 2112) :
    addf (F := Ideal) (φ := .f32) x (dynamicRotate 0 n none x h) (ix2 a b) = ((∑ k ∈ Finset.range (w + w), X (a.val + k) : ℝ) : EReal) := by
  have hr : ∀ c : ℕ, X ((a.val + w) % 2112 + c) = X (a.val + w + c) := fun c => by
    rw [← hper, ← hper (a.val + w + c), Nat.mod_add_mod]
  have e : dynamicRotate 0 n none x h (ix2 a b) = x (ix2 (⟨(a.val + w) % 2112, Nat.mod_lt _ (by omega)⟩ : Fin 2112) b) := by
    refine congrArg x ((eq_ix2 _).trans ?_)
    congr 1
    refine Fin.ext ?_
    show (a.val + 2112 - (n.toNat + 0) % 2112) % 2112 = (a.val + w) % 2112
    rw [hn]; omega
  rw [← halves, EReal.coe_add]
  refine (congrArg₂ (· + ·) (hx a) (e.trans (hx _)) : x (ix2 a b) + dynamicRotate 0 n none x h (ix2 a b) = _).trans ?_
  simp only [hr]
end Steps

variable (m : (ℓ : Loc nD τ sig) → Buf (Elt Ideal) ℓ) (c : Dev nD) (D : S2064x4x512.Idx → ℝ)

section Block
variable {x : S2112x128.Idx → EReal} {D} {j : Fin 2048} {b : Fin 128} {i : grid0.Coords} (hi : (i 0).val / 4 = j.val / 512)
  (hx : ∀ a : Fin 2112, x (ix2 a b) = ((padz (fun t j => dz D j t.val) a j : ℝ) : EReal))
include hx

/-- The rows in use; zero in the others. -/
theorem live (a : Fin 2112) : k0_pay4 (F := Ideal) x (ix2 a b) = ((padz (fun t j => dz D j t.val) a j : ℝ) : EReal) := by
  unfold_payloads
  pointwise
  refine (congrArg (fun w => Scalar.select w _ _) (ge48 a)).trans ((select_bool _ _ _).trans ?_)
  by_cases h : 48 ≤ a.val
  · rw [if_pos h]; exact hx a
  · rw [if_neg h, padz_lo (by omega)]
    exact EReal.coe_zero.symm

include hi

theorem two (a : Fin 2112) : k0_pay5 (F := Ideal) i x (ix2 a b) = ((∑ k ∈ Finset.range 2, ring D j (a.val + k) : ℝ) : EReal) := by
  unfold k0_pay5
  dsimp only
  refine double (w := 1) (by omega) (by omega) (fun n => by unfold ring; rw [Nat.mod_mod]) (fun a => ?_) 2111#32 (by decide) _ a
  rw [Finset.sum_range_one, Nat.add_zero]
  refine (congrArg₂ Ideal.div (live hx a) (?_ : _ = ((((max (min (a.val + 1 - 48) (2 ^ (j.val / 512 + 1))) 1 : ℕ) : ℝ)) : EReal))).trans ?_
  · unfold k0_pay2
    pointwise
    have hg := grp_eq (i 0)
    have hc := count ⟨j.val / 512, by omega⟩ a
    rw [hi] at hg
    dsimp only at hc
    rw [← hg] at hc
    exact (congrArg (fun z : ℤ => ((z : ℝ) : EReal)) hc).trans (congrArg _ (Int.cast_natCast _))
  · rw [Lift.div_real _ (by positivity)]
    refine congrArg _ ?_
    unfold ring
    rw [Nat.mod_eq_of_lt a.isLt]
    by_cases h : a.val < 48
    · rw [padz_lo h, if_pos h, zero_div]
    · rw [padz_ge h, if_neg h]
      unfold u win
      have : 1 ≤ 2 ^ (j.val / 512 + 1) := Nat.one_le_two_pow
      rw [show max (min (a.val + 1 - 48) (2 ^ (j.val / 512 + 1))) 1 = min (a.val - 48 + 1) (2 ^ (j.val / 512 + 1)) by omega]

theorem four (a : Fin 2112) : k0_pay6 (F := Ideal) i x (ix2 a b) = ((∑ k ∈ Finset.range 4, ring D j (a.val + k) : ℝ) : EReal) :=
  double (w := 2) (by omega) (by omega) (fun n => by unfold ring; rw [Nat.mod_mod]) (two hi hx) 2110#32 (by decide) _ a

omit hi in
/-- The chosen sum of a row, less the row's own cotangent. -/
theorem choose {q : S2112x128.Idx → EReal} {w : ℕ} (hw : win j = w) (a : Fin 2112) (hq : q (ix2 a b) = ((∑ k ∈ Finset.range w, ring D j (a.val + k) : ℝ) : EReal)) :
    Scalar.select (IntOp.cmpi .sge (IntOp.subi (BitVec.ofNat 32 a.val) 48#32) 0#32) (q (ix2 a b) - k0_pay4 (F := Ideal) x (ix2 a b)) 0
      = ((padz (fun t j => grad D j t.val) a j : ℝ) : EReal) := by
  rw [ge48 a, select_bool, hq, live hx, ← EReal.coe_sub]
  by_cases h : 48 ≤ a.val
  · rw [if_pos h, padz_ge (by omega), padz_ge (by omega)]
    unfold grad
    rw [hw]
    refine congrArg (fun z : ℝ => ((z - _ : ℝ) : EReal)) (Finset.sum_congr rfl fun k hk => ?_)
    have hk := Finset.mem_range.1 hk
    have hw' : w ≤ 16 := by
      rw [← hw]; exact Nat.pow_le_pow_right (by omega) (show j.val / 512 + 1 ≤ 4 by omega)
    have := ring_live D j (t := a.val - 48) (b := k) (by omega) (by omega)
    rw [hw, show 48 + (a.val - 48) + k = a.val + k by omega] at this
    exact this
  · rw [if_neg h, padz_lo (by omega), EReal.coe_zero]

/-- What the body stores, of the four sums the one of the column's group. -/
theorem pick (a : Fin 2112) :
    k0_pay1 (F := Ideal) (grp (BitVec.ofNat 32 (i 0).val)) k0_pay3 (k0_pay4 x) (k0_pay5 i x) (k0_pay6 i x) (ix2 a b)
      = ((padz (fun t j => grad D j t.val) a j : ℝ) : EReal) := by
  have h2 := two hi hx
  have h4 := four hi hx
  have h8 := double (w := 4) (by omega) (by omega) (fun n => by unfold ring; rw [Nat.mod_mod]) h4 2108#32 (by decide) rotates_S2112x128_d0
  have h16 := double (w := 8) (by omega) (by omega) (fun n => by unfold ring; rw [Nat.mod_mod]) h8 2104#32 (by decide) rotates_S2112x128_d0
  have hf := fun {q : S2112x128.Idx → EReal} {w : ℕ} => choose hx (q := q) (w := w)
  have hg := grp_eq (i 0)
  rw [hi] at hg
  rw [hg]
  unfold k0_pay1
  dsimp only
  generalize addf (F := Ideal) (φ := .f32) (k0_pay6 (F := Ideal) i x) (dynamicRotate 0 2108#32 none (k0_pay6 i x) rotates_S2112x128_d0) = q8 at h8 h16 ⊢
  generalize addf (F := Ideal) (φ := .f32) q8 (dynamicRotate 0 2104#32 none q8 rotates_S2112x128_d0) = q16 at h16 ⊢
  generalize k0_pay6 (F := Ideal) i x = q4 at h4 ⊢
  generalize k0_pay5 (F := Ideal) i x = q2 at h2 ⊢
  generalize k0_pay4 (F := Ideal) x = q0 at hf ⊢
  unfold_payloads
  pointwise
  have hj : j.val / 512 = 0 ∨ j.val / 512 = 1 ∨ j.val / 512 = 2 ∨ j.val / 512 = 3 := by omega
  rcases hj with e | e | e | e <;> rw [e]
  · exact hf (by unfold win; rw [e]; norm_num) a (h2 a)
  · exact hf (by unfold win; rw [e]; norm_num) a (h4 a)
  · exact hf (by unfold win; rw [e]; norm_num) a (h8 a)
  · exact hf (by unfold win; rw [e]; norm_num) a (h16 a)

end Block

variable (m : (ℓ : Loc nD τ sig) → Buf (Elt Ideal) ℓ) (c : Dev nD) (D : S2064x4x512.Idx → ℝ)
variable {m c D} (h : m ((c.tc : Thread nD τ).loc main_arg1) = fun i => ((D i : ℝ) : EReal))
include h

theorem V_0 (i : Fin 2112) (j : Fin 2048) :
    V m c (Pipeline.arrRef spec0 0) (ix2 i j) = ((padz (fun t j => dz D j t.val) i j : ℝ) : EReal) := by
  unfold V
  after_reads_at
  pointwise
  have e : ∀ h : ¬ i.val < 48, ((padz (fun t j => dz D j t.val) i j : ℝ) : EReal) = ((D (ix3 ⟨i.val - 48, by omega⟩ ⟨j.val / 512, by omega⟩ ⟨j.val % 512, by omega⟩) : ℝ) : EReal) :=
    fun h => by rw [padz_ge h]; exact congrArg _ (dif_pos (by omega))
  by_cases hi : i.val < 48
  · refine (dif_pos hi).trans ?_
    rw [padz_lo hi]
    exact EReal.coe_zero.symm
  · exact (dif_neg hi).trans ((congrFun h _).trans (e hi).symm)

/-- The block of a grid point, as a plain function. -/
abbrev b0 (m : (ℓ : Loc nD τ sig) → Buf (Elt Ideal) ℓ) (c : Dev nD) (t : Fin cfg0.N) : S2112x128.Idx → EReal := iblk m c 0 t

theorem iblk_0 (t : Fin cfg0.N) (b : Fin 128) (a : Fin 2112) : b0 m c t (ix2 a b) = ((padz (fun t j => dz D j t.val) a (col t b) : ℝ) : EReal) := by
  rw [← V_0 h]; blk_ext [iblk, idx t]

theorem res_at (t : Fin cfg0.N) (a : Fin 2112) (b : Fin 128) : out0_1 (F := Ideal) (grid0.coords t) (iblk m c 0 t) (ix2 a b) = res D (ix2 a (col t b)) := by
  unfold out0_1; frame_open; frame_out
  have hi : ((grid0.coords t) 0).val / 4 = (col t b).val / 512 := by
    rw [(idx t).2.2]; show t.val / 4 = (t.val * 128 + b.val) / 512; omega
  exact pick hi (iblk_0 h t b) a

theorem res_arr : (dats m 0 c).arrAt 1 cfg0.N = res D := by
  refine (dats m 0 c).arrAt_eq_of_covers 1 _ (by decide +kernel) fun t hf y => ?_
  obtain ⟨a, b, rfl⟩ : ∃ (a : Fin 2112) (b : Fin 128), y = ix2 a b := ⟨y 0, y 1, eq_ix2 y⟩
  blk_simp; rw [after0_1]
  refine (res_at h t a b).trans ?_
  blk_ext [idx t]

end Cert.WindowKernelIdeal.Spec
-- ==== Proof.Window.Reference.lean ====
module

public import proofs.«01_k».proof.Proof.Window.Spec
public import proofs.«01_k».proof.Proof.Gen.WindowReferenceIdeal.Read

/-! What the derivative of the windowed means is, read from the reference's stages. -/

@[expose] public section

set_option maxRecDepth 16384

noncomputable section

namespace Cert.WindowReferenceIdeal.Spec

open Cert.WindowReferenceIdeal Idealize.ShloMosaic Idealize.ShloMosaic.TcCoe Idealize.SL.Sem
open Cert.Window Words
open Cert.Act (padz padz_lo padz_ge)

variable (D : S2064x4x512.Idx → ℝ)

/-- The real numbers as an array of extended reals. -/
local notation "↟" X => fun i => ((X i : ℝ) : EReal)

/-- The cotangent of row `t` in a group's column, zero past the last row. -/
def e (g : Fin 4) (k : Fin 512) (t : ℕ) : ℝ := if h : t < 2064 then D (ix3 ⟨t, h⟩ g k) else 0

/-- The cotangent divided by the number of rows that the mean at row `t` takes. -/
def s (w : ℕ) (g : Fin 4) (k : Fin 512) (t : ℕ) : ℝ := e D g k t / ((min (t + 1) w : ℕ) : ℝ)

theorem s_past {w : ℕ} {g : Fin 4} {k : Fin 512} {t : ℕ} (h : 2064 ≤ t) : s D w g k t = 0 := by
  unfold s e; rw [dif_neg (by omega), zero_div]

/-- The number of rows before or at row `t`, at most `2 ^ (a + 1)`. -/
theorem count (a : Fin 4) : ∀ t : Fin 2064, (IntOp.minsi (IntOp.addi (BitVec.ofNat 32 t.val) 1#32) (BitVec.ofNat 32 (2 ^ (a.val + 1)))).toInt
    = ((min (t.val + 1) (2 ^ (a.val + 1)) : ℕ) : ℤ) := by
  fin_cases a <;> decide +kernel

theorem count_real {a : Fin 4} {t : Fin 2064} {x : BitVec 32}
    (h : x = IntOp.minsi (IntOp.addi (BitVec.ofNat 32 t.val) 1#32) (BitVec.ofNat 32 (2 ^ (a.val + 1)))) :
    ((x.toInt : ℝ) : EReal) = (((min (t.val + 1) (2 ^ (a.val + 1)) : ℕ) : ℝ) : EReal) := by
  rw [h, count a t]; exact congrArg _ (Int.cast_natCast _)

theorem quot (w : ℕ) (hw : 0 < w) (g : Fin 4) (k : Fin 512) (t : Fin 2064) :
    Ideal.div (((D (ix3 t g k) : ℝ)) : EReal) (((min (t.val + 1) w : ℕ) : ℝ) : EReal) = ((s D w g k t.val : ℝ) : EReal) := by
  rw [Lift.div_real _ (Nat.cast_ne_zero.2 (by omega))]
  unfold s e; rw [dif_pos t.isLt]

theorem minus (t : Fin 2064) (g : Fin 4) (k : Fin 512) : -((D (ix3 t g k) : ℝ) : EReal) = ((-e D g k t.val : ℝ) : EReal) := by
  unfold e; rw [dif_pos t.isLt]; exact (EReal.coe_neg _).symm

/-- A row's quotient less the quotient `w` rows later. -/
theorem diff {w : ℕ} {g : Fin 4} {k : Fin 512} {q : Fin 2064 → EReal} (hq : ∀ t, q t = ((s D w g k t.val : ℝ) : EReal)) (t : Fin 2064) :
    q t + (if h : w + t.val < 2064 then -q ⟨w + t.val, h⟩ else 0) = ((s D w g k t.val - s D w g k (t.val + w) : ℝ) : EReal) := by
  by_cases h : w + t.val < 2064
  · rw [dif_pos h, hq, hq, Nat.add_comm t.val w]; exact (EReal.coe_sub _ _).symm
  · rw [dif_neg h, hq, s_past D (t := t.val + w) (by omega), sub_zero, add_zero]

theorem n3 (t : Fin 2064) : Read.val_main_v68 (F := Ideal) (ix2 t 0) = (((min (t.val + 1) 16 : ℕ) : ℝ) : EReal) := by
  unfold Read.val_main_v68 Read.val_main_v67 Read.val_main_v66 Read.val_main_v64 Read.val_main_v63 Read.val_main_v65 Read.val_main_c_12 Read.val_main_c_13 Read.val_main_v2
  pointwise
  exact count_real (a := 3) rfl

theorem q3 (t : Fin 2064) (k : Fin 512) : Read.val_main_v92 (F := Ideal) (↟D) (ix2 t k) = ((s D 16 3 k t.val : ℝ) : EReal) := by
  unfold Read.val_main_v92 Read.val_main_v91 Read.val_main_v87 Read.val_main_v86
  pointwise
  rw [n3]
  exact quot D 16 (by decide) 3 k t

theorem d3 (t : Fin 2064) (g : Fin 4) (k : Fin 512) : Read.val_main_v99 (F := Ideal) (↟D) (ix3 t g k)
    = if g.val = 3 then ((s D 16 g k t.val - s D 16 g k (t.val + 16) : ℝ) : EReal) else 0 := by
  unfold Read.val_main_v99 Read.val_main_v98 Read.val_main_v97 Read.val_main_v96 Read.val_main_v94 Read.val_main_v93 Read.val_main_cst_16 Read.val_main_cst_15
  pointwise
  by_cases hg : g.val = 3
  · obtain rfl : g = 3 := Fin.ext hg
    exact (dif_pos (by decide)).trans ((diff D (q := fun t => Read.val_main_v92 (F := Ideal) (↟D) (ix2 t k)) (fun t => q3 D t k) t).trans
      (if_pos hg).symm)
  · rw [dif_neg (by omega), if_neg hg]

theorem m3 (t : Fin 2064) (g : Fin 4) (k : Fin 512) : Read.val_main_v90 (F := Ideal) (↟D) (ix3 t g k)
    = if g.val = 3 then ((-e D g k t.val : ℝ) : EReal) else 0 := by
  unfold Read.val_main_v90 Read.val_main_v89 Read.val_main_v88 Read.val_main_v87 Read.val_main_v86 Read.val_main_cst_14
  pointwise
  by_cases hg : g.val = 3
  · obtain rfl : g = 3 := Fin.ext hg
    exact (dif_pos (by decide)).trans ((minus D t 3 k).trans (if_pos hg).symm)
  · rw [dif_neg (by omega), if_neg hg]

theorem n2 (t : Fin 2064) : Read.val_main_v50 (F := Ideal) (ix2 t 0) = (((min (t.val + 1) 8 : ℕ) : ℝ) : EReal) := by
  unfold Read.val_main_v50 Read.val_main_v49 Read.val_main_v48 Read.val_main_v46 Read.val_main_v45 Read.val_main_v47 Read.val_main_c_8 Read.val_main_c_9 Read.val_main_v2
  pointwise
  exact count_real (a := 2) rfl

theorem q2 (t : Fin 2064) (k : Fin 512) : Read.val_main_v105 (F := Ideal) (↟D) (ix2 t k) = ((s D 8 2 k t.val : ℝ) : EReal) := by
  unfold Read.val_main_v105 Read.val_main_v104 Read.val_main_v85 Read.val_main_v84
  pointwise
  rw [n2]
  exact quot D 8 (by decide) 2 k t

theorem d2 (t : Fin 2064) (g : Fin 4) (k : Fin 512) : Read.val_main_v112 (F := Ideal) (↟D) (ix3 t g k)
    = if g.val = 2 then ((s D 8 g k t.val - s D 8 g k (t.val + 8) : ℝ) : EReal) else 0 := by
  unfold Read.val_main_v112 Read.val_main_v111 Read.val_main_v110 Read.val_main_v109 Read.val_main_v107 Read.val_main_v106 Read.val_main_cst_19 Read.val_main_cst_18
  pointwise
  by_cases hg : g.val = 2
  · obtain rfl : g = 2 := Fin.ext hg
    exact (dif_pos (by decide)).trans ((diff D (q := fun t => Read.val_main_v105 (F := Ideal) (↟D) (ix2 t k)) (fun t => q2 D t k) t).trans
      (if_pos hg).symm)
  · rw [dif_neg (by omega), if_neg hg]

theorem m2 (t : Fin 2064) (g : Fin 4) (k : Fin 512) : Read.val_main_v102 (F := Ideal) (↟D) (ix3 t g k)
    = if g.val = 2 then ((-e D g k t.val : ℝ) : EReal) else 0 := by
  unfold Read.val_main_v102 Read.val_main_v101 Read.val_main_v100 Read.val_main_v85 Read.val_main_v84 Read.val_main_cst_17
  pointwise
  by_cases hg : g.val = 2
  · obtain rfl : g = 2 := Fin.ext hg
    exact (dif_pos (by decide)).trans ((minus D t 2 k).trans (if_pos hg).symm)
  · rw [dif_neg (by omega), if_neg hg]

theorem n1 (t : Fin 2064) : Read.val_main_v32 (F := Ideal) (ix2 t 0) = (((min (t.val + 1) 4 : ℕ) : ℝ) : EReal) := by
  unfold Read.val_main_v32 Read.val_main_v31 Read.val_main_v30 Read.val_main_v28 Read.val_main_v27 Read.val_main_v29 Read.val_main_c_4 Read.val_main_c_5 Read.val_main_v2
  pointwise
  exact count_real (a := 1) rfl

theorem q1 (t : Fin 2064) (k : Fin 512) : Read.val_main_v119 (F := Ideal) (↟D) (ix2 t k) = ((s D 4 1 k t.val : ℝ) : EReal) := by
  unfold Read.val_main_v119 Read.val_main_v118 Read.val_main_v83 Read.val_main_v82
  pointwise
  rw [n1]
  exact quot D 4 (by decide) 1 k t

theorem d1 (t : Fin 2064) (g : Fin 4) (k : Fin 512) : Read.val_main_v126 (F := Ideal) (↟D) (ix3 t g k)
    = if g.val = 1 then ((s D 4 g k t.val - s D 4 g k (t.val + 4) : ℝ) : EReal) else 0 := by
  unfold Read.val_main_v126 Read.val_main_v125 Read.val_main_v124 Read.val_main_v123 Read.val_main_v121 Read.val_main_v120 Read.val_main_cst_22 Read.val_main_cst_21
  pointwise
  by_cases hg : g.val = 1
  · obtain rfl : g = 1 := Fin.ext hg
    exact (dif_pos (by decide)).trans ((diff D (q := fun t => Read.val_main_v119 (F := Ideal) (↟D) (ix2 t k)) (fun t => q1 D t k) t).trans
      (if_pos hg).symm)
  · rw [dif_neg (by omega), if_neg hg]

theorem m1 (t : Fin 2064) (g : Fin 4) (k : Fin 512) : Read.val_main_v116 (F := Ideal) (↟D) (ix3 t g k)
    = if g.val = 1 then ((-e D g k t.val : ℝ) : EReal) else 0 := by
  unfold Read.val_main_v116 Read.val_main_v115 Read.val_main_v114 Read.val_main_v83 Read.val_main_v82 Read.val_main_cst_20
  pointwise
  by_cases hg : g.val = 1
  · obtain rfl : g = 1 := Fin.ext hg
    exact (dif_pos (by decide)).trans ((minus D t 1 k).trans (if_pos hg).symm)
  · rw [dif_neg (by omega), if_neg hg]

theorem n0 (t : Fin 2064) : Read.val_main_v14 (F := Ideal) (ix2 t 0) = (((min (t.val + 1) 2 : ℕ) : ℝ) : EReal) := by
  unfold Read.val_main_v14 Read.val_main_v13 Read.val_main_v12 Read.val_main_v10 Read.val_main_v9 Read.val_main_v11 Read.val_main_c Read.val_main_c_1 Read.val_main_v2
  pointwise
  exact count_real (a := 0) rfl

theorem q0 (t : Fin 2064) (k : Fin 512) : Read.val_main_v133 (F := Ideal) (↟D) (ix2 t k) = ((s D 2 0 k t.val : ℝ) : EReal) := by
  unfold Read.val_main_v133 Read.val_main_v132 Read.val_main_v81 Read.val_main_v80
  pointwise
  rw [n0]
  exact quot D 2 (by decide) 0 k t

theorem d0 (t : Fin 2064) (g : Fin 4) (k : Fin 512) : Read.val_main_v140 (F := Ideal) (↟D) (ix3 t g k)
    = if g.val = 0 then ((s D 2 g k t.val - s D 2 g k (t.val + 2) : ℝ) : EReal) else 0 := by
  unfold Read.val_main_v140 Read.val_main_v139 Read.val_main_v138 Read.val_main_v137 Read.val_main_v135 Read.val_main_v134 Read.val_main_cst_25 Read.val_main_cst_24
  pointwise
  by_cases hg : g.val = 0
  · obtain rfl : g = 0 := Fin.ext hg
    exact (dif_pos (by decide)).trans ((diff D (q := fun t => Read.val_main_v133 (F := Ideal) (↟D) (ix2 t k)) (fun t => q0 D t k) t).trans
      (if_pos hg).symm)
  · rw [dif_neg (by omega), if_neg hg]

theorem m0 (t : Fin 2064) (g : Fin 4) (k : Fin 512) : Read.val_main_v130 (F := Ideal) (↟D) (ix3 t g k)
    = if g.val = 0 then ((-e D g k t.val : ℝ) : EReal) else 0 := by
  unfold Read.val_main_v130 Read.val_main_v129 Read.val_main_v128 Read.val_main_v81 Read.val_main_v80 Read.val_main_cst_23
  pointwise
  by_cases hg : g.val = 0
  · obtain rfl : g = 0 := Fin.ext hg
    exact (dif_pos (by decide)).trans ((minus D t 0 k).trans (if_pos hg).symm)
  · rw [dif_neg (by omega), if_neg hg]

theorem v141 (t : Fin 2064) (g : Fin 4) (k : Fin 512) : Read.val_main_v141 (F := Ideal) (↟D) (ix3 t g k)
    = ((s D (2 ^ (g.val + 1)) g k t.val - s D (2 ^ (g.val + 1)) g k (t.val + 2 ^ (g.val + 1)) : ℝ) : EReal) := by
  unfold Read.val_main_v141 Read.val_main_v127 Read.val_main_v113
  pointwise
  rw [d3, d2, d1, d0]
  fin_cases g <;> simp

theorem v131 (t : Fin 2064) (g : Fin 4) (k : Fin 512) : Read.val_main_v131 (F := Ideal) (↟D) (ix3 t g k) = ((-e D g k t.val : ℝ) : EReal) := by
  unfold Read.val_main_v131 Read.val_main_v117 Read.val_main_v103
  pointwise
  rw [m3, m2, m1, m0]
  fin_cases g <;> simp

/-- A window that starts at row `i` and is as long as the array: the sum of the rows from `i` on. -/
theorem cumsum_rev {x : S2064x4x512.Idx → EReal} {v : S_.Idx → EReal} {f : Fin 2064 → ℝ} {g : Fin 4} {d : Fin 512}
    (hx : ∀ i, x (ix3 i g d) = ((f i : ℝ) : EReal)) (hv : ∀ u, v u = 0)
    (h : S2064x4x512.ReduceWindows ![2064, 1, 1] ![1, 1, 1] ![0, 0, 0] ![2063, 0, 0] S2064x4x512) (hu : 0 < S_.numel) (i : Fin 2064) :
    Host.reduceWindowAdd (F := Ideal) (φ := .f32) ![2064, 1, 1] ![1, 1, 1] ![0, 0, 0] ![2063, 0, 0] x v h hu (ix3 i g d)
      = ((∑ y, if i ≤ y then f y else 0 : ℝ) : EReal) := by
  unfold Host.reduceWindowAdd
  rw [Ideal.hostReduceWindowAdd_def]
  unfold Ideal.hostReduceWindowAdd Host.reduceWindow
  simp only [hv]
  refine (sum_idx_eq_foldl (M := EReal) (⟨3, ![2064, 1, 1]⟩ : Shape) (fun w => if hin : ∀ a : Fin 3,
      (![0, 0, 0] : Fin 3 → ℕ) a ≤ (ix3 i g d a).val * (![1, 1, 1] : Fin 3 → ℕ) a + (w a).val
          ∧ (ix3 i g d a).val * (![1, 1, 1] : Fin 3 → ℕ) a + (w a).val - (![0, 0, 0] : Fin 3 → ℕ) a < S2064x4x512.size a
        then x (fun a => ⟨_, (hin a).2⟩) else 0)).symm.trans ?_
  rw [sum_idx3]
  simp only [Fin.sum_univ_one]
  rw [← Lift.coe_sum]
  refine Finset.sum_nbij' (fun b : Fin 2064 => (⟨(i.val + b.val) % 2064, by omega⟩ : Fin 2064))
    (fun y => (⟨(2064 + y.val - i.val) % 2064, by omega⟩ : Fin 2064)) (fun _ _ => Finset.mem_univ _) (fun _ _ => Finset.mem_univ _)
    (fun b _ => Fin.ext (by show (2064 + (i.val + b.val) % 2064 - i.val) % 2064 = b.val; omega))
    (fun y _ => Fin.ext (by show (i.val + (2064 + y.val - i.val) % 2064) % 2064 = y.val; omega)) fun b _ => ?_
  by_cases hb : i.val + b.val < 2064
  · have e : (⟨(i.val + b.val) % 2064, by omega⟩ : Fin 2064) = ⟨i.val + b.val, hb⟩ := Fin.ext (by show (i.val + b.val) % 2064 = i.val + b.val; omega)
    have hin : ∀ a : Fin 3, (![0, 0, 0] : Fin 3 → ℕ) a ≤ (ix3 i g d a).val * (![1, 1, 1] : Fin 3 → ℕ) a + (ix3 b (0 : Fin 1) (0 : Fin 1) a).val
          ∧ (ix3 i g d a).val * (![1, 1, 1] : Fin 3 → ℕ) a + (ix3 b (0 : Fin 1) (0 : Fin 1) a).val - (![0, 0, 0] : Fin 3 → ℕ) a < S2064x4x512.size a := by
      intro a
      fin_cases a
      · show 0 ≤ i.val * 1 + b.val ∧ i.val * 1 + b.val - 0 < 2064; omega
      · show 0 ≤ g.val * 1 + 0 ∧ g.val * 1 + 0 - 0 < 4; omega
      · show 0 ≤ d.val * 1 + 0 ∧ d.val * 1 + 0 - 0 < 512; omega
    rw [dif_pos hin, e, if_pos (show i ≤ (⟨i.val + b.val, hb⟩ : Fin 2064) from (show i.val ≤ i.val + b.val by omega)), ← hx]
    congr 1
    funext a
    fin_cases a
    · exact Fin.ext (show i.val * 1 + b.val - 0 = i.val + b.val by omega)
    · exact Fin.ext (show g.val * 1 + 0 - 0 = g.val by omega)
    · exact Fin.ext (show d.val * 1 + 0 - 0 = d.val by omega)
  · rw [dif_neg fun hin => hb (by have := (hin 0).2; have e : i.val * 1 + b.val - 0 < 2064 := this; omega),
      if_neg (fun hle => by have e : i.val ≤ (i.val + b.val) % 2064 := hle; omega)]
    rfl

theorem v142 (t : Fin 2064) (g : Fin 4) (k : Fin 512) : Read.val_main_v142 (F := Ideal) (↟D) (ix3 t g k)
    = ((∑ b ∈ Finset.range (2 ^ (g.val + 1)), s D (2 ^ (g.val + 1)) g k (t.val + b) : ℝ) : EReal) := by
  unfold Read.val_main_v142
  refine (cumsum_rev (fun i => v141 D i g k) (fun _ => zero_bits) _ _ t).trans ?_
  exact congrArg _ (tail (s D (2 ^ (g.val + 1)) g k) (fun t ht => s_past D ht) _ t)

theorem v144 (t : Fin 2064) (j : Fin 2048) : Read.val_main_v144 (F := Ideal) (↟D) (ix2 t j) = ((grad D j t.val : ℝ) : EReal) := by
  unfold Read.val_main_v144 Read.val_main_v143
  pointwise
  rw [v131, v142, ← EReal.coe_add, neg_add_eq_sub]
  rfl

theorem res_ref : Read.val_main_v146 (F := Ideal) (↟D) = res D := by
  funext y
  rw [eq_ix2 y]
  unfold Read.val_main_v146 Read.val_main_v145 Read.val_main_cst_26
  pointwise
  unfold res padz
  by_cases h : (y 0).val < 48
  · rw [dif_pos h, dif_pos h]; exact EReal.coe_zero.symm
  · rw [dif_neg h, dif_neg h]; exact v144 D _ _

end Cert.WindowReferenceIdeal.Spec
-- ==== Proof.Window.Claims.lean ====
module

public import proofs.«01_k».proof.Proof.Window.Pre
public import proofs.«01_k».proof.Proof.Window.Kernel
public import proofs.«01_k».proof.Proof.Window.Reference
public import proofs.«01_k».proof.Defs
public import proofs.«01_k».proof.Proof.Gen.WindowReferenceIdeal
public import proofs.«01_k».proof.Proof.Gen.WindowReferenceIdeal.Run
public import Idealize.ShloMosaic.Lib.Quiescent

/-! The gradient of the windowed means: the reference's frame and the equality of the results. -/

@[expose] public section

set_option maxRecDepth 16384

noncomputable section

namespace Cert.Window

open Idealize.ShloMosaic Idealize.SL.Sem

theorem frame_reference : Cert.quiescent_WindowReferenceIdeal := fun m ρ _ =>
  (θ_run Cert.WindowReferenceIdeal.defs _ _).mono (fun r h => ⟨fun c => (h c).2,
    Idealize.ShloMosaic.sem_eq_zero_of_no_sems (by decide) r.2⟩) (Cert.WindowReferenceIdeal.Value.run (F := Ideal) m ρ)

theorem algebraic [Cert.Pre_window_finite.Facts] : Cert.algebraic_WindowKernelIdeal_WindowReferenceIdeal_pre_window_finite := by
  intro m g m' g' hpre hargs
  refine ⟨fun c => (Cert.WindowKernelIdeal.Gen.dats m 0 c).arrAt 1 Cert.WindowKernelIdeal.cfg0.N, Cert.WindowKernelIdeal.Value.run_blocks m g, ?_⟩
  refine (θ_run Cert.WindowReferenceIdeal.defs _ _).mono (fun r h c => ?_) (Cert.WindowReferenceIdeal.Value.run (F := Ideal) m' g')
  obtain ⟨h0, hk⟩ := h c
  obtain ⟨D, hD⟩ := Cert.Pre_window_finite.finite _ _ (hpre c)
  obtain ⟨a0, a1⟩ := hargs c
  refine ⟨h0.trans ?_, hk⟩
  rw [Cert.WindowReferenceIdeal.Read.val_main_v146_eq, a1, hD]
  exact (Cert.WindowReferenceIdeal.Spec.res_ref D).trans (Cert.WindowKernelIdeal.Spec.res_arr hD).symm

end Cert.Window
-- ==== Proof.Loss.Pre.lean ====
module

public import proofs.«01_k».proof.Proof.Lift
public import proofs.«01_k».proof.LossKernelIdeal
public import proofs.«01_k».proof.Pre_loss_finite

/-! The precondition says that the arguments are finite. -/

@[expose] public section

set_option maxRecDepth 16384

noncomputable section

namespace Cert.Pre_loss_finite

open Idealize.ShloMosaic

theorem finite [Facts] (x : S2064x2048.Idx → EReal) (g : S2048.Idx → EReal) (t : S2048x2048.Idx → EReal)
    (h : fn (F := Ideal) x g t = fun _ => 1#1) :
    (∃ X : S2064x2048.Idx → ℝ, x = fun i => ((X i : ℝ) : EReal)) ∧ (∃ G : S2048.Idx → ℝ, g = fun i => ((G i : ℝ) : EReal))
      ∧ ∃ T : S2048x2048.Idx → ℝ, t = fun i => ((T i : ℝ) : EReal) := by
  have h0 := congrFun h ix0
  dsimp only [fn] at h0
  have h1 := Lift.and_one h0
  have h2 := Lift.and_one h1.1
  haveI : Subsingleton S_.Idx := ⟨fun a b => funext fun k => k.elim0⟩
  exact ⟨Lift.real_of_all x _ _ _ _ _ _ h2.1, Lift.real_of_all g _ _ _ _ _ _ h2.2, Lift.real_of_all t _ _ _ _ _ _ h1.2⟩

end Cert.Pre_loss_finite
-- ==== Proof.Loss.Spec.lean ====
module

public import proofs.«01_k».proof.Proof.Words
public import proofs.«01_k».proof.LossKernelIdeal

/-! The squared error after the last norm and its gradient over the real numbers, one row at a time. -/

@[expose] public section

set_option maxRecDepth 16384

noncomputable section

namespace Cert.Loss

open Idealize.ShloMosaic Cert.LossKernelIdeal Words

section
variable (x g e : Fin 2048 → ℝ)

/-- The mean square of a row, with the small constant, and one over its root. -/
def ms : ℝ := (∑ k, x k * x k) / 2048 + Lift.eps
def rs : ℝ := (Real.sqrt (ms x))⁻¹

theorem ms_pos : 0 < ms x :=
  add_pos_of_nonneg_of_pos (div_nonneg (Finset.sum_nonneg fun k _ => mul_self_nonneg _) (by norm_num)) Lift.eps_pos

theorem rs_sq : rs x * rs x = (ms x)⁻¹ := by
  unfold rs
  rw [← mul_inv, Real.mul_self_sqrt (ms_pos x).le]

/-- With the errors `e` of a row: its part of the loss, of the gradient of the weight, and the gradient of the row. -/
def gL : ℝ := 1 / 2 * ((∑ k, e k * e k) / 2048)
def gX (k : Fin 2048) : ℝ := rs x * (e k * (1 / 2048) * g k - x k * rs x * ((∑ n, e n * (1 / 2048) * g n * (x n * rs x)) / 2048))
def gG (k : Fin 2048) : ℝ := e k * (1 / 2048) * (x k * rs x)

theorem gL_zero : gL (fun _ => 0) = 0 := by simp [gL]
theorem gX_zero (k : Fin 2048) : gX x g (fun _ => 0) k = 0 := by simp [gX]
theorem gG_zero (k : Fin 2048) : gG x (fun _ => 0) k = 0 := by simp [gG]
end

variable (X : S2064x2048.Idx → ℝ) (G : S2048.Idx → ℝ) (T : S2048x2048.Idx → ℝ)

/-- A row, the weight, and the errors of a row: none in the first sixteen. -/
def rX (i : Fin 2064) (k : Fin 2048) : ℝ := X (ix2 i k)
def rG (k : Fin 2048) : ℝ := G (ix1 k)
def rE (i : Fin 2064) (k : Fin 2048) : ℝ := if h : i.val < 16 then 0 else rX X i k * rs (rX X i) * rG G k - T (ix2 ⟨i.val - 16, by omega⟩ k)

theorem rE_lo {i : Fin 2064} (h : i.val < 16) : rE X G T i = fun _ => 0 := funext fun _ => dif_pos h
theorem rE_hi (i : Fin 2048) (k : Fin 2048) : rE X G T ⟨16 + i.val, by omega⟩ k
    = rX X ⟨16 + i.val, by omega⟩ k * rs (rX X ⟨16 + i.val, by omega⟩) * rG G k - T (ix2 i k) := by
  unfold rE
  rw [dif_neg (by simp)]
  simp only [Nat.add_sub_cancel_left]

/-- Rows with 48 rows of zeros in front. -/
def padz (f : Fin 2064 → Fin 2048 → ℝ) (i : Fin 2112) (k : Fin 2048) : ℝ := if h : i.val < 48 then 0 else f ⟨i.val - 48, by omega⟩ k

theorem padz_lo {f : Fin 2064 → Fin 2048 → ℝ} {i : Fin 2112} (h : i.val < 48) : padz f i = fun _ => 0 := funext fun _ => dif_pos h
theorem padz_ge {f : Fin 2064 → Fin 2048 → ℝ} {i : Fin 2112} (h : ¬ i.val < 48) : padz f i = f ⟨i.val - 48, by omega⟩ := funext fun _ => dif_neg h
theorem padz_hi {f : Fin 2064 → Fin 2048 → ℝ} (i : Fin 2064) : padz f ⟨48 + i.val, by omega⟩ = f i := by
  rw [padz_ge (by simp)]; simp only [Nat.add_sub_cancel_left]

/-- The errors of a row of the padded arrays, as the row numbers above 63 select them. -/
theorem padz_E (i : Fin 2112) (k : Fin 2048) : padz (rE X G T) i k
    = if 64 ≤ i.val then padz (rX X) i k * rs (padz (rX X) i) * rG G k - (if h : i.val < 64 then 0 else T (ix2 ⟨i.val - 64, by omega⟩ k)) else 0 := by
  by_cases h : i.val < 64
  · rw [if_neg (by omega)]
    by_cases h' : i.val < 48
    · rw [padz_lo h']
    · rw [padz_ge h', rE_lo]
      show i.val - 48 < 16
      omega
  · have h' : ¬ i.val < 48 := by omega
    rw [if_pos (by omega), dif_neg h, padz_ge h', padz_ge h']
    unfold rE
    rw [dif_neg (show ¬ i.val - 48 < 16 by omega)]
    simp only [Nat.sub_sub]

/-- The loss. -/
def loss (_ : S1x1.Idx) : EReal := ((∑ i : Fin 2064, gL (rE X G T i) : ℝ) : EReal)

/-- The gradient of the input, with 48 rows of zeros in front, and half of it. -/
def dX (y : S2112x2048.Idx) : EReal := ((padz (fun i => gX (rX X i) (rG G) (rE X G T i)) (y 0) (y 1) : ℝ) : EReal)
def half (y : S2112x2048.Idx) : EReal := ((1 / 2 : ℝ) : EReal) * dX X G T y

/-- The gradient of the weight. -/
def dG (y : S1x2048.Idx) : EReal := ((∑ i : Fin 2064, gG (rX X i) (rE X G T i) (y 1) : ℝ) : EReal)

theorem gX_pad (i : Fin 2112) (k : Fin 2048) : gX (padz (rX X) i) (rG G) (padz (rE X G T) i) k
    = padz (fun i => gX (rX X i) (rG G) (rE X G T i)) i k := by
  by_cases h : i.val < 48
  · simp only [padz_lo h]; simp [gX]
  · simp only [padz_ge h]

end Cert.Loss
-- ==== Proof.Loss.Kernel.lean ====
module

public import proofs.«01_k».proof.Proof.Loss.Spec
public import proofs.«01_k».proof.Proof.Gen.LossKernelIdeal.Value
public import Idealize.ShloMosaic.Lib.Pipeline.ValueKit
public import Idealize.ShloMosaic.Lib.StableHlo.ReadAt

/-! What the kernel of the squared error and its gradient leaves in its four results. -/

@[expose] public section

set_option maxRecDepth 16384

noncomputable section

namespace Cert.LossKernelIdeal.Spec

open Cert.LossKernelIdeal Cert.LossKernelIdeal.Gen Idealize.ShloMosaic Idealize.ShloMosaic.TcCoe Idealize.SL.Sem
open Idealize.ShloMosaic.Pipeline (Dat)
open Cert.Loss Words

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0] :=
  (by decide +kernel : ∀ t : Fin grid0.N, _)

/-- The row of the array at row `a` of block `t`. -/
abbrev row (t : Fin cfg0.N) (a : Fin 352) : Fin 2112 := ⟨t.val * 352 + a.val, by have := t.isLt; have : cfg0.N = 6 := rfl; omega⟩

variable (m : (ℓ : Loc nD τ sig) → Buf (Elt Ideal) ℓ) (c : Dev nD)
variable (X : S2064x2048.Idx → ℝ) (G : S2048.Idx → ℝ) (T : S2048x2048.Idx → ℝ)

/-- The blocks of a grid point, as plain functions. -/
abbrev b0 (t : Fin cfg0.N) : S352x2048.Idx → EReal := iblk m c 0 t
abbrev b1 (t : Fin cfg0.N) : S1x2048.Idx → EReal := iblk m c 1 t
abbrev b2 (t : Fin cfg0.N) : S352x2048.Idx → EReal := iblk m c 2 t

/-- The arguments hold these numbers. -/
structure Args : Prop where
  x : m ((c.tc : Thread nD τ).loc main_arg0) = fun i => ((X i : ℝ) : EReal)
  g : m ((c.tc : Thread nD τ).loc main_arg1) = fun i => ((G i : ℝ) : EReal)
  t : m ((c.tc : Thread nD τ).loc main_arg2) = fun i => ((T i : ℝ) : EReal)

variable {m c X G T} (A : Args m c X G T)
include A

theorem V_0 (i : Fin 2112) (k : Fin 2048) : V m c (Pipeline.arrRef spec0 0) (ix2 i k) = ((padz (rX X) i k : ℝ) : EReal) := by
  have h := A.x
  unfold V
  after_reads_at
  pointwise
  unfold padz
  split
  · rfl
  · exact congrFun h _

theorem V_1 (k : Fin 2048) : V m c (Pipeline.arrRef spec0 1) (ix2 0 k) = ((rG G k : ℝ) : EReal) := by
  have h := A.g
  unfold V
  after_reads_at
  pointwise
  exact congrFun h _

theorem V_2 (i : Fin 2112) (k : Fin 2048) : V m c (Pipeline.arrRef spec0 2) (ix2 i k) = (((if h : i.val < 64 then 0 else T (ix2 ⟨i.val - 64, by omega⟩ k) : ℝ)) : EReal) := by
  have h := A.t
  unfold V
  after_reads_at
  pointwise
  split
  · rfl
  · exact congrFun h _

section Blocks
variable (t : Fin cfg0.N) (a : Fin 352) (k : Fin 2048)
theorem iblk_0 : b0 m c t (ix2 a k) = ((padz (rX X) (row t a) k : ℝ) : EReal) := by
  rw [← V_0 A]; blk_ext [iblk, idx t]
theorem iblk_1 : b1 m c t (ix2 (0 : Fin 1) k) = ((rG G k : ℝ) : EReal) := by
  rw [← V_1 A]; blk_ext [iblk, idx t]
theorem iblk_2 : b2 m c t (ix2 a k) = (((if h : (row t a).val < 64 then 0 else T (ix2 ⟨(row t a).val - 64, by omega⟩ k) : ℝ)) : EReal) := by
  rw [← V_2 A]; blk_ext [iblk, idx t]
end Blocks

/-- The mean square's root from the blocks. -/
theorem rs_blk (t : Fin cfg0.N) (a : Fin 352) :
    Ideal.rsqrt (Ideal.div (∑ k, b0 m c t (ix2 a k) * b0 m c t (ix2 a k)) (Ideal.ofBits FTy.f32 0x45000000#32) + Ideal.ofBits FTy.f32 0x358637BD#32)
      = ((rs (padz (rX X) (row t a)) : ℝ) : EReal) := by
  simp only [iblk_0 A, ← EReal.coe_mul, Lift.coe_sum, Lift.c2048, Lift.ceps, ← EReal.coe_add, Lift.div_real _ (by norm_num : (2048 : ℝ) ≠ 0)]
  exact Lift.rsqrt_real (ms_pos _)

omit A in
theorem coord : ∀ t : Fin cfg0.N, (grid0.coords t 0).val = t.val := (by decide +kernel : ∀ t : Fin grid0.N, _)

omit A in
/-- The kernel's selection of the rows that have an error. -/
theorem live (t : Fin cfg0.N) (a : Fin 352) (x y : EReal) :
    Scalar.select (IntOp.cmpi .sge (IntOp.addi (BitVec.ofNat 32 a.val) (Scalar.muli (BitVec.ofNat 32 (grid0.coords t 0).val) 352#32)) 64#32) x y
      = if 64 ≤ (row t a).val then x else y := by
  rw [coord t]; exact live64 (by have := t.isLt; have : cfg0.N = 6 := rfl; omega) a x y

omit A in
theorem cinv : Ideal.ofBits .f32 0x3A000000#32 = ((1 / 2048 : ℝ) : EReal) := by
  simp [Ideal.ofBits, Ideal.ieee, -EReal.coe_mul]; norm_num

/-- What the rows of one block add to the loss and to the gradient of the weight. -/
def partL (t : Fin cfg0.N) : ℝ := ∑ a : Fin 352, gL (padz (rE X G T) (row t a))
def partG (t : Fin cfg0.N) (k : Fin 2048) : ℝ := ∑ a : Fin 352, gG (padz (rX X) (row t a)) (padz (rE X G T) (row t a)) k

omit A in
theorem partL_sum : ∑ t, partL (X := X) (G := G) (T := T) t = ∑ i : Fin 2064, gL (rE X G T i) := by
  refine (Lift.sum_blocks (fun i => gL (padz (rE X G T) i))).trans ?_
  rw [Lift.sum_pad (fun i => gL (padz (rE X G T) i)) (fun i h => by rw [padz_lo h, gL_zero])]
  exact Finset.sum_congr rfl fun i _ => by rw [padz_hi]

omit A in
theorem partG_sum (k : Fin 2048) : ∑ t, partG (X := X) (G := G) (T := T) t k = ∑ i : Fin 2064, gG (rX X i) (rE X G T i) k := by
  refine (Lift.sum_blocks (fun i => gG (padz (rX X) i) (padz (rE X G T) i) k)).trans ?_
  rw [Lift.sum_pad (fun i => gG (padz (rX X) i) (padz (rE X G T) i) k) (fun i h => by rw [padz_lo (f := rE X G T) h, gG_zero])]
  exact Finset.sum_congr rfl fun i _ => by rw [padz_hi, padz_hi]

theorem err_blk (t : Fin cfg0.N) (a : Fin 352) (k : Fin 2048) :
    (if 64 ≤ (row t a).val then b0 m c t (ix2 a k) * ((rs (padz (rX X) (row t a)) : ℝ) : EReal) * b1 m c t (ix2 0 k) - b2 m c t (ix2 a k) else 0)
      = ((padz (rE X G T) (row t a) k : ℝ) : EReal) := by
  simp only [iblk_0 A, iblk_1 A, iblk_2 A, ← EReal.coe_mul, ← EReal.coe_sub]
  rw [padz_E]
  split <;> rfl

omit A in
theorem ite_mul {p : Prop} [Decidable p] (x y : EReal) : (if p then x * y else 0) = (if p then x else 0) * y := by
  split <;> simp
omit A in
theorem ite_sq {p : Prop} [Decidable p] (x : EReal) : (if p then (if p then x * x else 0) else 0) = (if p then x else 0) * (if p then x else 0) := by
  split <;> simp

theorem loss_elt (t : Fin cfg0.N) : Ideal.ofBits FTy.f32 0x3F000000#32 * ∑ a : Fin 352, Ideal.div (∑ k : Fin 2048,
      ((padz (rE X G T) (row t a) k : ℝ) : EReal) * ((padz (rE X G T) (row t a) k : ℝ) : EReal)) (Ideal.ofBits FTy.f32 0x45000000#32)
      = ((partL (X := X) (G := G) (T := T) t : ℝ) : EReal) := by
  simp only [← EReal.coe_mul, Lift.coe_sum, Lift.c2048, Lift.chalf, Lift.div_real _ (by norm_num : (2048 : ℝ) ≠ 0)]
  rw [Finset.mul_sum]; rfl

theorem loss_A (t : Fin cfg0.N) (h0 : t.val % 6 = 0) : (outsAt0 m c t.val t.isLt).1 (ix2 0 0) = ((partL (X := X) (G := G) (T := T) t : ℝ) : EReal) := by
  rw [outsAt0_A m c t h0]; dsimp only; frame_out; unfold_payloads; pointwise
  rw [← loss_elt A t]
  simp only [rs_blk A, live, ite_sq, err_blk A]

theorem loss_B (t : Fin cfg0.N) (h0 : ¬ t.val % 6 = 0) :
    (outsAt0 m c t.val t.isLt).1 (ix2 0 0) = (outsAt0 m c (t.val - 1) (by omega)).1 (ix2 0 0) + ((partL (X := X) (G := G) (T := T) t : ℝ) : EReal) := by
  rw [outsAt0_B m c t h0]; dsimp only; frame_out; unfold_payloads; pointwise
  rw [← loss_elt A t]
  simp only [rs_blk A, live, ite_sq, err_blk A]

theorem dg_elt (t : Fin cfg0.N) (k : Fin 2048) : ∑ a : Fin 352, ((padz (rE X G T) (row t a) k : ℝ) : EReal) * Ideal.ofBits FTy.f32 0x3A000000#32
      * (b0 m c t (ix2 a k) * ((rs (padz (rX X) (row t a)) : ℝ) : EReal)) = ((partG (X := X) (G := G) (T := T) t k : ℝ) : EReal) := by
  simp only [iblk_0 A, cinv, ← EReal.coe_mul, Lift.coe_sum]
  rfl

theorem dg_A (t : Fin cfg0.N) (h0 : t.val % 6 = 0) (k : Fin 2048) :
    (outsAt0 m c t.val t.isLt).2.2.1 (ix2 0 k) = ((partG (X := X) (G := G) (T := T) t k : ℝ) : EReal) := by
  rw [outsAt0_A m c t h0]; dsimp only; frame_out; unfold_payloads; pointwise
  rw [← dg_elt A t]
  simp only [rs_blk A, live, ite_mul, err_blk A]

theorem dg_B (t : Fin cfg0.N) (h0 : ¬ t.val % 6 = 0) (k : Fin 2048) :
    (outsAt0 m c t.val t.isLt).2.2.1 (ix2 0 k) = (outsAt0 m c (t.val - 1) (by omega)).2.2.1 (ix2 0 k) + ((partG (X := X) (G := G) (T := T) t k : ℝ) : EReal) := by
  rw [outsAt0_B m c t h0]; dsimp only; frame_out; unfold_payloads; pointwise
  rw [← dg_elt A t]
  simp only [rs_blk A, live, ite_mul, err_blk A]

theorem dx_elt (t : Fin cfg0.N) (a : Fin 352) (b : Fin 2048) : ((rs (padz (rX X) (row t a)) : ℝ) : EReal)
    * (((padz (rE X G T) (row t a) b : ℝ) : EReal) * Ideal.ofBits FTy.f32 0x3A000000#32 * b1 m c t (ix2 0 b)
      - b0 m c t (ix2 a b) * ((rs (padz (rX X) (row t a)) : ℝ) : EReal) * Ideal.div (∑ k, ((padz (rE X G T) (row t a) k : ℝ) : EReal)
        * Ideal.ofBits FTy.f32 0x3A000000#32 * b1 m c t (ix2 0 k) * (b0 m c t (ix2 a k) * ((rs (padz (rX X) (row t a)) : ℝ) : EReal)))
          (Ideal.ofBits FTy.f32 0x45000000#32)) = dX X G T (ix2 (row t a) b) := by
  simp only [iblk_0 A, iblk_1 A, cinv, ← EReal.coe_mul, ← EReal.coe_sub, Lift.coe_sum, Lift.c2048, Lift.div_real _ (by norm_num : (2048 : ℝ) ≠ 0)]
  exact congrArg _ (gX_pad X G T (row t a) b)

theorem dx_arr : (dats m 0 c).arrAt 4 cfg0.N = dX X G T := by
  refine (dats m 0 c).arrAt_eq_of_covers 4 _ (by decide +kernel) fun t hf y => ?_
  obtain ⟨a, b, rfl⟩ : ∃ (a : Fin 352) (b : Fin 2048), y = ix2 a b := ⟨y 0, y 1, eq_ix2 y⟩
  have key : ∀ P : EReal, P = dX X G T (ix2 (row t a) b) →
      P = dX X G T (((View.whole main_v5_1).slice (win0_4.rect t)).emb (ix2 a b)) := by
    intro P h; rw [h]; blk_ext [idx t]
  blk_simp; rw [after0_4]
  by_cases h0 : t.val % 6 = 0
  · rw [outsAt0_A m c t h0]; frame_out; unfold_payloads; pointwise
    apply key
    simp only [rs_blk A, live, ite_mul, err_blk A]
    exact dx_elt A t a b
  · rw [outsAt0_B m c t h0]; frame_out; unfold_payloads; pointwise
    apply key
    simp only [rs_blk A, live, ite_mul, err_blk A]
    exact dx_elt A t a b

theorem half_arr : (dats m 0 c).arrAt 6 cfg0.N = half X G T := by
  refine (dats m 0 c).arrAt_eq_of_covers 6 _ (by decide +kernel) fun t hf y => ?_
  obtain ⟨a, b, rfl⟩ : ∃ (a : Fin 352) (b : Fin 2048), y = ix2 a b := ⟨y 0, y 1, eq_ix2 y⟩
  have key : ∀ P : EReal, P = dX X G T (ix2 (row t a) b) →
      Ideal.ofBits FTy.f32 0x3F000000#32 * P = half X G T (((View.whole main_v5_3).slice (win0_6.rect t)).emb (ix2 a b)) := by
    intro P h; rw [h, Lift.chalf]; unfold half; congr 2; blk_ext [idx t]
  blk_simp; rw [after0_6]
  by_cases h0 : t.val % 6 = 0
  · rw [outsAt0_A m c t h0]; frame_out; unfold_payloads; pointwise
    apply key
    simp only [rs_blk A, live, ite_mul, err_blk A]
    exact dx_elt A t a b
  · rw [outsAt0_B m c t h0]; frame_out; unfold_payloads; pointwise
    apply key
    simp only [rs_blk A, live, ite_mul, err_blk A]
    exact dx_elt A t a b

theorem loss_arr : (dats m 0 c).arrAt 3 cfg0.N = loss X G T := by
  refine (dats m 0 c).arrAt_eq_of_after_last 3 t0_5 (by decide +kernel) _ fun j => ?_
  obtain rfl : j = ix2 (0 : Fin 1) (0 : Fin 1) := by rw [eq_ix2 j]; congr 1 <;> exact Subsingleton.elim _ _
  rw [after0_3]
  blk_simp
  refine (Pipeline.eq_sum_fin_of_reset_step_apply_last (fun n hn (_ : Fin 1) => (outsAt0 m c n hn).1 (ix2 0 0)) 6 (fun _ => (0 : EReal))
    (fun t _ => ((partL (X := X) (G := G) (T := T) t : ℝ) : EReal)) ?_ ?_ (le_of_eq rfl) t0_5 rfl 0).trans ?_
  · intro t h0 i; rw [zero_add]; exact loss_A A t h0
  · intro t h0 i; exact loss_B A t h0
  · rw [zero_add, Lift.coe_sum]
    exact congrArg _ partL_sum

theorem dg_arr : (dats m 0 c).arrAt 5 cfg0.N = dG X G T := by
  refine (dats m 0 c).arrAt_eq_of_after_last 5 t0_5 (by decide +kernel) _ fun j => ?_
  obtain ⟨k, rfl⟩ : ∃ (k : Fin 2048), j = ix2 (0 : Fin 1) k := ⟨j 1, by rw [eq_ix2 j]; congr 1; exact Subsingleton.elim _ _⟩
  rw [after0_5]
  blk_simp
  refine (Pipeline.eq_sum_fin_of_reset_step_apply_last (fun n hn (k : Fin 2048) => (outsAt0 m c n hn).2.2.1 (ix2 0 k)) 6 (fun _ => (0 : EReal))
    (fun t k => ((partG (X := X) (G := G) (T := T) t k : ℝ) : EReal)) ?_ ?_ (le_of_eq rfl) t0_5 rfl k).trans ?_
  · intro t h0 k; rw [zero_add]; exact dg_A A t h0 k
  · intro t h0 k; exact dg_B A t h0 k
  · rw [zero_add, Lift.coe_sum]
    exact congrArg _ (partG_sum k)

end Cert.LossKernelIdeal.Spec
-- ==== Proof.Loss.Reference.lean ====
module

public import proofs.«01_k».proof.Proof.Loss.Spec
public import proofs.«01_k».proof.Proof.Gen.LossReferenceIdeal.Read

/-! What the squared error after the last norm and its derivative are, read from the reference's stages. -/

@[expose] public section

set_option maxRecDepth 16384

noncomputable section

namespace Cert.LossReferenceIdeal.Spec

open Cert.LossReferenceIdeal Idealize.ShloMosaic Idealize.ShloMosaic.TcCoe Idealize.SL.Sem
open Cert.Loss Words

variable (X : S2064x2048.Idx → ℝ) (G : S2048.Idx → ℝ) (T : S2048x2048.Idx → ℝ)

/-- The real numbers as an array of extended reals. -/
local notation "↟" X => fun i => ((X i : ℝ) : EReal)

theorem v6 (i : Fin 2064) : Read.val_main_v6 (F := Ideal) (↟X) (ix2 i (0 : Fin 1)) = ((ms (rX X i) : ℝ) : EReal) := by
  unfold Read.val_main_v6 Read.val_main_v5 Read.val_main_v4 Read.val_main_v3 Read.val_main_v2 Read.val_main_v1 Read.val_main_v0 Read.val_main_cst Read.val_main_cst_0 Read.val_main_cst_1
  pointwise
  simp only [Lift.c0, Lift.c2048, Lift.ceps, ← EReal.coe_mul, Lift.coe_sum, ← EReal.coe_add, Lift.div_real _ (by norm_num : (2048 : ℝ) ≠ 0)]
  rfl

theorem v7 (i : Fin 2064) : Read.val_main_v7 (F := Ideal) (↟X) (ix2 i (0 : Fin 1)) = ((rs (rX X i) : ℝ) : EReal) := by
  unfold Read.val_main_v7
  pointwise
  rw [v6]
  exact Lift.rsqrt_real (ms_pos _)

theorem v10 (i : Fin 2064) : Read.val_main_v10 (F := Ideal) (↟X) (ix2 i (0 : Fin 1)) = ((-1 / 2 * (rs (rX X i) / ms (rX X i)) : ℝ) : EReal) := by
  unfold Read.val_main_v10 Read.val_main_v9 Read.val_main_v8 Read.val_main_cst_2
  pointwise
  rw [v6, v7, Lift.cneghalf, Lift.div_real _ (ms_pos _).ne', ← EReal.coe_mul]

theorem v17 (i : Fin 2048) (k : Fin 2048) : Read.val_main_v17 (F := Ideal) (↟X) (↟G) (↟T) (ix2 i k) = ((rE X G T ⟨16 + i.val, by omega⟩ k : ℝ) : EReal) := by
  unfold Read.val_main_v17 Read.val_main_v16 Read.val_main_v15 Read.val_main_v14 Read.val_main_v13 Read.val_main_v12 Read.val_main_v11
  pointwise
  rw [v7, rE_hi, ← EReal.coe_mul, ← EReal.coe_mul, ← EReal.coe_sub]
  rfl

/-- The first sixteen rows add nothing. -/
theorem sum_tail (f : Fin 2064 → ℝ) (h : ∀ i : Fin 2064, i.val < 16 → f i = 0) : ∑ i, f i = ∑ i : Fin 2048, f ⟨16 + i.val, by omega⟩ := by
  rw [show (∑ i, f i) = ∑ i : Fin (16 + 2048), f i from rfl, Fin.sum_univ_add]
  rw [Finset.sum_eq_zero (fun i _ => h _ (by simp)), zero_add]
  rfl

theorem v55 : Read.val_main_v55 (F := Ideal) (↟X) (↟G) (↟T) = loss X G T := by
  funext y
  unfold Read.val_main_v55 Read.val_main_v25 Read.val_main_v24 Read.val_main_v23 Read.val_main_v22 Read.val_main_v21 Read.val_main_v18 Read.val_main_cst_4 Read.val_main_cst_5 Read.val_main_cst_6 Read.val_main_cst_7
  pointwise
  simp only [v17, Lift.c2048, Lift.chalf, ← EReal.coe_mul, Lift.coe_sum, Lift.div_real _ (by norm_num : (2048 : ℝ) ≠ 0)]
  unfold loss
  rw [sum_tail (fun i => gL (rE X G T i)) (fun i h => by rw [rE_lo X G T h, gL_zero]), Finset.mul_sum]
  rfl

theorem c2 : Ideal.ofBits .f32 0x40000000#32 = ((2 : ℝ) : EReal) := by
  simp [Ideal.ofBits, Ideal.ieee, -EReal.coe_mul]; norm_num

theorem one_real : FloatOps.ofBits (F := Ideal) .f32 0x3F800000#32 = ((1 : ℝ) : EReal) := one_bits

theorem v32 (i : Fin 2064) (k : Fin 2048) : Read.val_main_v32 (F := Ideal) (↟X) (↟G) (↟T) (ix2 i k) = ((rE X G T i k * (1 / 2048) : ℝ) : EReal) := by
  unfold Read.val_main_v32 Read.val_main_v31 Read.val_main_v30 Read.val_main_v29 Read.val_main_v28 Read.val_main_v27 Read.val_main_v26 Read.val_main_v20 Read.val_main_v19 Read.val_main_cst_3 Read.val_main_cst_8 Read.val_main_cst_9 Read.val_main_cst_10 Read.val_main_cst_11
  pointwise
  by_cases h : i.val < 16
  · rw [dif_neg (by omega), rE_lo X G T h, zero_mul, EReal.coe_zero]
  · rw [dif_pos (by omega), v17]
    have e : (⟨16 + (i.val - 16), by omega⟩ : Fin 2064) = i := Fin.ext (by show 16 + (i.val - 16) = i.val; omega)
    simp only [e, c2, Lift.chalf, Lift.c2048, ← EReal.coe_mul, Lift.div_real _ (by norm_num : (2048 : ℝ) ≠ 0)]
    exact congrArg _ (by ring)

theorem v40 (i : Fin 2064) : Read.val_main_v40 (F := Ideal) (↟X) (↟G) (↟T) (ix1 i)
    = ((∑ k, rX X i k * (rE X G T i k * (1 / 2048) * rG G k) : ℝ) : EReal) := by
  unfold Read.val_main_v40 Read.val_main_v39 Read.val_main_v37 Read.val_main_v36 Read.val_main_v13 Read.val_main_cst_14
  pointwise
  simp only [v32, ← EReal.coe_mul, Lift.coe_sum]
  rfl

theorem v47 (i : Fin 2064) : Read.val_main_v47 (F := Ideal) (↟X) (↟G) (↟T) (ix1 i)
    = (((∑ k, rX X i k * (rE X G T i k * (1 / 2048) * rG G k)) * (-1 / 2 * (rs (rX X i) / ms (rX X i))) / 2048 : ℝ) : EReal) := by
  unfold Read.val_main_v47 Read.val_main_v46 Read.val_main_v45 Read.val_main_v44 Read.val_main_v41 Read.val_main_cst_15 Read.val_main_cst_16
  pointwise
  rw [Fin.sum_univ_one, v40, v10, Lift.c2048, ← EReal.coe_mul, Lift.div_real _ (by norm_num : (2048 : ℝ) ≠ 0)]

theorem v52 (i : Fin 2064) (k : Fin 2048) : Read.val_main_v52 (F := Ideal) (↟X) (↟G) (↟T) (ix2 i k) = ((gX (rX X i) (rG G) (rE X G T i) k : ℝ) : EReal) := by
  unfold Read.val_main_v52 Read.val_main_v51 Read.val_main_v50 Read.val_main_v49 Read.val_main_v48 Read.val_main_v43 Read.val_main_v42 Read.val_main_v37 Read.val_main_v36 Read.val_main_v13
  pointwise
  rw [v47, v7, v32]
  simp only [← EReal.coe_mul, ← EReal.coe_add]
  refine congrArg _ ?_
  unfold gX
  have hs : ∑ n, rE X G T i n * (1 / 2048) * rG G n * (rX X i n * rs (rX X i)) = (∑ n, rX X i n * (rE X G T i n * (1 / 2048) * rG G n)) * rs (rX X i) := by
    rw [Finset.sum_mul]
    exact Finset.sum_congr rfl fun n _ => by ring
  rw [hs, div_eq_mul_inv (rs (rX X i)), ← rs_sq]
  show rE X G T i k * (1 / 2048) * rG G k * rs (rX X i) + rX X i k * _ + _ * rX X i k = _
  ring

theorem v54 : Read.val_main_v54 (F := Ideal) (↟X) (↟G) (↟T) = dX X G T := by
  funext y
  idx_vars y
  unfold Read.val_main_v54 Read.val_main_v53 Read.val_main_cst_17
  pointwise
  refine Eq.trans ?_ (show ((padz (fun i => gX (rX X i) (rG G) (rE X G T i)) y0 y1 : ℝ) : EReal) = dX X G T (ix2 y0 y1) from rfl)
  by_cases h : y0.val < 48
  · rw [dif_pos h, padz_lo h]; rfl
  · rw [dif_neg h, padz_ge h, v52]

theorem v59 : Read.val_main_v59 (F := Ideal) (↟X) (↟G) (↟T) = half X G T := by
  funext y
  idx_vars y
  unfold Read.val_main_v59 Read.val_main_v58 Read.val_main_v57 Read.val_main_cst_18
  pointwise
  rw [v54, Lift.chalf]
  rfl

theorem v56 : Read.val_main_v56 (F := Ideal) (↟X) (↟G) (↟T) = dG X G T := by
  funext y
  idx_vars y
  unfold Read.val_main_v56 Read.val_main_v38 Read.val_main_v35 Read.val_main_v34 Read.val_main_v33 Read.val_main_v12 Read.val_main_v11 Read.val_main_cst_12 Read.val_main_cst_13
  pointwise
  rw [Fin.sum_univ_one]
  simp only [v7, v32, ← EReal.coe_mul, Lift.coe_sum]
  refine congrArg _ (Finset.sum_congr rfl fun i _ => ?_)
  show rX X i y1 * _ * _ = rE X G T i y1 * (1 / 2048) * (rX X i y1 * _)
  ring

end Cert.LossReferenceIdeal.Spec
-- ==== Proof.Loss.Claims.lean ====
module

public import proofs.«01_k».proof.Proof.Loss.Pre
public import proofs.«01_k».proof.Proof.Loss.Kernel
public import proofs.«01_k».proof.Proof.Loss.Reference
public import proofs.«01_k».proof.Defs
public import proofs.«01_k».proof.Proof.Gen.LossReferenceIdeal
public import proofs.«01_k».proof.Proof.Gen.LossReferenceIdeal.Run
public import Idealize.ShloMosaic.Lib.Quiescent

/-! The squared error and its gradient: the reference's frame and the equality of the results. -/

@[expose] public section

set_option maxRecDepth 16384

noncomputable section

namespace Cert.Loss

open Idealize.ShloMosaic Idealize.SL.Sem

theorem frame_reference : Cert.quiescent_LossReferenceIdeal := fun m ρ _ =>
  (θ_run Cert.LossReferenceIdeal.defs _ _).mono (fun r h => ⟨fun c => (h c).2.2.2.2,
    Idealize.ShloMosaic.sem_eq_zero_of_no_sems (by decide) r.2⟩) (Cert.LossReferenceIdeal.Value.run (F := Ideal) m ρ)

theorem algebraic [Cert.Pre_loss_finite.Facts] : Cert.algebraic_LossKernelIdeal_LossReferenceIdeal_pre_loss_finite := by
  intro m g m' g' hpre hargs
  refine ⟨fun c => (Cert.LossKernelIdeal.Gen.dats m 0 c).arrAt 3 Cert.LossKernelIdeal.cfg0.N,
    fun c => (Cert.LossKernelIdeal.Gen.dats m 0 c).arrAt 4 Cert.LossKernelIdeal.cfg0.N,
    fun c => (Cert.LossKernelIdeal.Gen.dats m 0 c).arrAt 5 Cert.LossKernelIdeal.cfg0.N,
    fun c => (Cert.LossKernelIdeal.Gen.dats m 0 c).arrAt 6 Cert.LossKernelIdeal.cfg0.N,
    Cert.LossKernelIdeal.Value.run_blocks m g, ?_⟩
  refine (θ_run Cert.LossReferenceIdeal.defs _ _).mono (fun r h c => ?_) (Cert.LossReferenceIdeal.Value.run (F := Ideal) m' g')
  obtain ⟨h0, h1, h2, h3, hk⟩ := h c
  obtain ⟨⟨X, hX⟩, ⟨G, hG⟩, ⟨T, hT⟩⟩ := Cert.Pre_loss_finite.finite _ _ _ (hpre c)
  obtain ⟨a0, a1, a2⟩ := hargs c
  have A : Cert.LossKernelIdeal.Spec.Args m c X G T := ⟨hX, hG, hT⟩
  refine ⟨h0.trans ?_, h1.trans ?_, h2.trans ?_, h3.trans ?_, hk⟩
  · rw [Cert.LossReferenceIdeal.Read.val_main_v55_eq, a0, a1, a2, hX, hG, hT]
    exact (Cert.LossReferenceIdeal.Spec.v55 X G T).trans (Cert.LossKernelIdeal.Spec.loss_arr A).symm
  · rw [Cert.LossReferenceIdeal.Read.val_main_v54_eq, a0, a1, a2, hX, hG, hT]
    exact (Cert.LossReferenceIdeal.Spec.v54 X G T).trans (Cert.LossKernelIdeal.Spec.dx_arr A).symm
  · rw [Cert.LossReferenceIdeal.Read.val_main_v56_eq, a0, a1, a2, hX, hG, hT]
    exact (Cert.LossReferenceIdeal.Spec.v56 X G T).trans (Cert.LossKernelIdeal.Spec.dg_arr A).symm
  · rw [Cert.LossReferenceIdeal.Read.val_main_v59_eq, a0, a1, a2, hX, hG, hT]
    exact (Cert.LossReferenceIdeal.Spec.v59 X G T).trans (Cert.LossKernelIdeal.Spec.half_arr A).symm

end Cert.Loss
-- ==== Proof.Act.Pre.lean ====
module

public import proofs.«01_k».proof.Proof.Lift
public import proofs.«01_k».proof.ActKernelIdeal
public import proofs.«01_k».proof.Pre_act_finite

/-! The precondition says that the arguments are finite. -/

@[expose] public section

set_option maxRecDepth 16384

noncomputable section

namespace Cert.Pre_act_finite

open Idealize.ShloMosaic

theorem finite [Facts] (a : S2064x5632.Idx → EReal) (u : S2064x5632.Idx → EReal) (w : S5632x2048.Idx → EReal) (d : S2064x2048.Idx → EReal)
    (h : fn (F := Ideal) a u w d = fun _ => 1#1) :
    (∃ A : S2064x5632.Idx → ℝ, a = fun i => ((A i : ℝ) : EReal)) ∧ (∃ U : S2064x5632.Idx → ℝ, u = fun i => ((U i : ℝ) : EReal))
      ∧ (∃ W : S5632x2048.Idx → ℝ, w = fun i => ((W i : ℝ) : EReal)) ∧ ∃ D : S2064x2048.Idx → ℝ, d = fun i => ((D i : ℝ) : EReal) := by
  have h0 := congrFun h ix0
  dsimp only [fn, fn_part1] at h0
  have h1 := Lift.and_one h0
  have h2 := Lift.and_one h1.1
  have h3 := Lift.and_one h2.1
  haveI : Subsingleton S_.Idx := ⟨fun a b => funext fun k => k.elim0⟩
  exact ⟨Lift.real_of_all a _ _ _ _ _ _ h3.1, Lift.real_of_all u _ _ _ _ _ _ h3.2, Lift.real_of_all w _ _ _ _ _ _ h2.2, Lift.real_of_all d _ _ _ _ _ _ h1.2⟩

end Cert.Pre_act_finite
-- ==== Proof.Act.Kernel.lean ====
module

public import proofs.«01_k».proof.Proof.Act.Spec
public import proofs.«01_k».proof.Proof.Gen.ActKernelIdeal.Value
public import Idealize.ShloMosaic.Lib.Pipeline.ValueKit
public import Idealize.ShloMosaic.Lib.StableHlo.ReadAt

/-! What the kernel of the gated product's gradient leaves in its two results. -/

@[expose] public section

set_option maxRecDepth 16384

noncomputable section

namespace Cert.ActKernelIdeal.Spec

open Cert.ActKernelIdeal Cert.ActKernelIdeal.Gen Idealize.ShloMosaic Idealize.ShloMosaic.TcCoe Idealize.SL.Sem
open Idealize.ShloMosaic.Pipeline (Dat)
open Cert.Act Words

theorem idx : ∀ t : Fin cfg0.N, win0_0.index t = ![t.val % 3, 0] ∧ win0_1.index t = ![t.val / 3, 0] ∧ win0_2.index t = ![t.val % 3, t.val / 3]
    ∧ win0_3.index t = ![t.val % 3, t.val / 3] ∧ win0_4.index t = ![t.val % 3, t.val / 3] ∧ win0_5.index t = ![t.val % 3, t.val / 3]
    ∧ win0_6.index t = ![t.val % 3, t.val / 3] :=
  (by decide +kernel : ∀ t : Fin grid0.N, _)

/-- The row and the column of the array at row `a` and column `b` of block `t`. -/
abbrev row (t : Fin cfg0.N) (a : Fin 704) : Fin 2112 := ⟨t.val % 3 * 704 + a.val, by omega⟩
abbrev col (t : Fin cfg0.N) (b : Fin 1408) : Fin 5632 := ⟨t.val / 3 * 1408 + b.val, by have := t.isLt; have : cfg0.N = 12 := rfl; omega⟩

variable (m : (ℓ : Loc nD τ sig) → Buf (Elt Ideal) ℓ) (c : Dev nD)
variable (A U : S2064x5632.Idx → ℝ) (W : S5632x2048.Idx → ℝ) (D : S2064x2048.Idx → ℝ)

/-- The blocks of a grid point, as plain functions. -/
abbrev b0 (t : Fin cfg0.N) : S704x2048.Idx → EReal := iblk m c 0 t
abbrev b1 (t : Fin cfg0.N) : S1408x2048.Idx → EReal := iblk m c 1 t
abbrev b2 (t : Fin cfg0.N) : S704x1408.Idx → EReal := iblk m c 2 t
abbrev b3 (t : Fin cfg0.N) : S704x1408.Idx → EReal := iblk m c 3 t
abbrev b4 (t : Fin cfg0.N) : S704x1408.Idx → EReal := iblk m c 4 t

/-- The arguments hold these numbers. -/
structure Args : Prop where
  a : m ((c.tc : Thread nD τ).loc main_arg0) = fun i => ((A i : ℝ) : EReal)
  u : m ((c.tc : Thread nD τ).loc main_arg1) = fun i => ((U i : ℝ) : EReal)
  w : m ((c.tc : Thread nD τ).loc main_arg2) = fun i => ((W i : ℝ) : EReal)
  d : m ((c.tc : Thread nD τ).loc main_arg3) = fun i => ((D i : ℝ) : EReal)

variable {m c A U W D} (H : Args m c A U W D)
include H

omit H in
/-- A reading of the zeros and the argument that are put together, at any time of the host lines. -/
theorem joined {n : Nat} {f : Fin 2064 → Fin n → ℝ} (i : Fin 2112) (k : Fin n) {x : EReal} {y : ¬ i.val < 48 → EReal}
    (hx : x = 0) (hy : ∀ h, y h = ((f ⟨i.val - 48, by omega⟩ k : ℝ) : EReal)) :
    (if h : i.val < 48 then x else y h) = ((padz f i k : ℝ) : EReal) := by
  by_cases h : i.val < 48
  · rw [dif_pos h, hx, padz_lo h, EReal.coe_zero]
  · rw [dif_neg h, hy, padz_ge h]

theorem V_0 (i : Fin 2112) (k : Fin 2048) : V m c (Pipeline.arrRef spec0 0) (ix2 i k) = ((1 / 2 * padz (rD D) i k : ℝ) : EReal) := by
  have h := H.d
  unfold V
  after_reads_at
  pointwise
  rw [Lift.chalf, EReal.coe_mul]
  refine congrArg _ (joined i k ?_ fun _ => ?_)
  · exact Lift.c0.trans EReal.coe_zero
  · exact congrFun h _

theorem V_1 (j : Fin 5632) (k : Fin 2048) : V m c (Pipeline.arrRef spec0 1) (ix2 j k) = ((W (ix2 j k) : ℝ) : EReal) := by
  have h := H.w
  unfold V
  after_reads_at
  pointwise
  exact congrFun h _

theorem V_2 (i : Fin 2112) (k : Fin 5632) : V m c (Pipeline.arrRef spec0 2) (ix2 i k) = ((padz (rA U) i k : ℝ) : EReal) := by
  have h := H.u
  unfold V
  after_reads_at
  pointwise
  refine joined i k ?_ fun _ => ?_
  · exact Lift.c0.trans EReal.coe_zero
  · exact congrFun h _

theorem gate (i : Fin 2112) (k : Fin 5632) : (if h : i.val < 48 then StableHlo.upto hostOps0 (fun b => m (c, b)) 2 (Proc.tc.devRef main_v0) (ix2 ⟨i.val, h⟩ k : S48x5632.Idx)
      else StableHlo.upto hostOps0 (fun b => m (c, b)) 2 (Proc.tc.devRef main_arg0) (ix2 ⟨i.val - 48, by omega⟩ k : S2064x5632.Idx) : EReal) = ((padz (rA A) i k : ℝ) : EReal) := by
  have h := H.a
  refine joined i k ?_ fun _ => ?_
  · exact Lift.c0.trans EReal.coe_zero
  · exact congrFun h _

omit H in
theorem sg_neg (x : ℝ) : Ideal.div 1 (1 + Ideal.exp (-(x : EReal))) = ((sg x : ℝ) : EReal) := by
  rw [← zero_sub]; exact sg_real _

theorem V_3 (i : Fin 2112) (k : Fin 5632) : V m c (Pipeline.arrRef spec0 3) (ix2 i k) = ((padz (rA A) i k * sg (padz (rA A) i k) : ℝ) : EReal) := by
  unfold V
  after_reads_at
  pointwise
  rw [gate H, sg_neg, EReal.coe_mul]

theorem V_4 (i : Fin 2112) (k : Fin 5632) : V m c (Pipeline.arrRef spec0 4) (ix2 i k) = ((dsilu (padz (rA A) i k) : ℝ) : EReal) := by
  unfold V
  after_reads_at
  pointwise
  rw [gate H, sg_neg]
  rfl

section Blocks
variable (t : Fin cfg0.N) (a : Fin 704) (b : Fin 1408) (k : Fin 2048)
theorem iblk_0 : b0 m c t (ix2 a k) = ((1 / 2 * padz (rD D) (row t a) k : ℝ) : EReal) := by
  rw [← V_0 H]; blk_ext [iblk, idx t]
theorem iblk_1 : b1 m c t (ix2 b k) = ((W (ix2 (col t b) k) : ℝ) : EReal) := by
  rw [← V_1 H]; blk_ext [iblk, idx t]
theorem iblk_2 : b2 m c t (ix2 a b) = ((padz (rA U) (row t a) (col t b) : ℝ) : EReal) := by
  rw [← V_2 H]; blk_ext [iblk, idx t]
theorem iblk_3 : b3 m c t (ix2 a b) = ((padz (rA A) (row t a) (col t b) * sg (padz (rA A) (row t a) (col t b)) : ℝ) : EReal) := by
  rw [← V_3 H]; blk_ext [iblk, idx t]
theorem iblk_4 : b4 m c t (ix2 a b) = ((dsilu (padz (rA A) (row t a) (col t b)) : ℝ) : EReal) := by
  rw [← V_4 H]; blk_ext [iblk, idx t]
end Blocks

theorem prod_elt (t : Fin cfg0.N) (a : Fin 704) (b : Fin 1408) :
    (∑ k, b0 m c t (ix2 a k) * b1 m c t (ix2 b k)) = ((prod W (padz (rD D) (row t a)) (col t b) : ℝ) : EReal) := by
  simp only [iblk_0 H, iblk_1 H, ← EReal.coe_mul, Lift.coe_sum]
  rfl

theorem elt_U (t : Fin cfg0.N) (a : Fin 704) (b : Fin 1408) (a' : Fin 704) (b' : Fin 1408) (ha : a.val = a'.val) (hb : b.val = b'.val) :
    (∑ k, b0 m c t (ix2 a' k) * b1 m c t (ix2 b' k)) * b3 m c t (ix2 a' b') = dU A W D (ix2 (row t a) (col t b)) := by
  obtain rfl := Fin.ext ha
  obtain rfl := Fin.ext hb
  rw [prod_elt H, iblk_3 H, ← EReal.coe_mul, gU_pad]
  rfl

theorem elt_A (t : Fin cfg0.N) (a : Fin 704) (b : Fin 1408) (a' : Fin 704) (b' : Fin 1408) (ha : a.val = a'.val) (hb : b.val = b'.val) :
    (∑ k, b0 m c t (ix2 a' k) * b1 m c t (ix2 b' k)) * b2 m c t (ix2 a' b') * b4 m c t (ix2 a' b') = dA A U W D (ix2 (row t a) (col t b)) := by
  obtain rfl := Fin.ext ha
  obtain rfl := Fin.ext hb
  rw [prod_elt H, iblk_2 H, iblk_4 H, ← EReal.coe_mul, ← EReal.coe_mul, gA_pad]
  rfl

theorem du_at (t : Fin cfg0.N) (a : Fin 704) (b : Fin 1408) : (outsAt0 m c t).2 (ix2 a b) = dU A W D (ix2 (row t a) (col t b)) := by
  unfold outsAt0; dsimp only; unfold out0_A_6; frame_open; frame_out
  canon_tiles x hx using (View.cover_of_tiledBy _ ![704, 128] (by sl_kernel_rfl) (ix2 a b))
  · unfold_payloads; pointwise; exact elt_U H t a b _ ⟨1280 + (x 1).val, by omega⟩ hx0 hx1
  · unfold_payloads; pointwise; exact elt_U H t a b _ ⟨1024 + (x 1).val, by omega⟩ hx0 hx1
  · unfold_payloads; pointwise; exact elt_U H t a b _ ⟨768 + (x 1).val, by omega⟩ hx0 hx1
  · unfold_payloads; pointwise; exact elt_U H t a b _ ⟨512 + (x 1).val, by omega⟩ hx0 hx1
  · unfold_payloads; pointwise; exact elt_U H t a b _ ⟨256 + (x 1).val, by omega⟩ hx0 hx1
  · unfold_payloads; pointwise; exact elt_U H t a b _ ⟨(x 1).val, by omega⟩ hx0 hx1

theorem da_at (t : Fin cfg0.N) (a : Fin 704) (b : Fin 1408) : (outsAt0 m c t).1 (ix2 a b) = dA A U W D (ix2 (row t a) (col t b)) := by
  unfold outsAt0; dsimp only; unfold out0_A_5; frame_open; frame_out
  canon_tiles x hx using (View.cover_of_tiledBy _ ![704, 128] (by sl_kernel_rfl) (ix2 a b))
  · unfold_payloads; pointwise; exact elt_A H t a b _ ⟨1280 + (x 1).val, by omega⟩ hx0 hx1
  · unfold_payloads; pointwise; exact elt_A H t a b _ ⟨1024 + (x 1).val, by omega⟩ hx0 hx1
  · unfold_payloads; pointwise; exact elt_A H t a b _ ⟨768 + (x 1).val, by omega⟩ hx0 hx1
  · unfold_payloads; pointwise; exact elt_A H t a b _ ⟨512 + (x 1).val, by omega⟩ hx0 hx1
  · unfold_payloads; pointwise; exact elt_A H t a b _ ⟨256 + (x 1).val, by omega⟩ hx0 hx1
  · unfold_payloads; pointwise; exact elt_A H t a b _ ⟨(x 1).val, by omega⟩ hx0 hx1

theorem da_arr : (dats m 0 c).arrAt 5 cfg0.N = dA A U W D := by
  refine (dats m 0 c).arrAt_eq_of_covers 5 _ (by decide +kernel) fun t hf y => ?_
  obtain ⟨a, b, rfl⟩ : ∃ (a : Fin 704) (b : Fin 1408), y = ix2 a b := ⟨y 0, y 1, eq_ix2 y⟩
  blk_simp; rw [after0_5]
  refine (da_at H t a b).trans ?_
  blk_ext [idx t]

theorem du_arr : (dats m 0 c).arrAt 6 cfg0.N = dU A W D := by
  refine (dats m 0 c).arrAt_eq_of_covers 6 _ (by decide +kernel) fun t hf y => ?_
  obtain ⟨a, b, rfl⟩ : ∃ (a : Fin 704) (b : Fin 1408), y = ix2 a b := ⟨y 0, y 1, eq_ix2 y⟩
  blk_simp; rw [after0_6]
  refine (du_at H t a b).trans ?_
  blk_ext [idx t]

end Cert.ActKernelIdeal.Spec
-- ==== Proof.Act.Reference.lean ====
module

public import proofs.«01_k».proof.Proof.Act.Spec
public import proofs.«01_k».proof.Proof.Gen.ActReferenceIdeal.Read

/-! What the derivative of the gated product is, read from the reference's stages. -/

@[expose] public section

set_option maxRecDepth 16384

noncomputable section

namespace Cert.ActReferenceIdeal.Spec

open Cert.ActReferenceIdeal Idealize.ShloMosaic Idealize.ShloMosaic.TcCoe Idealize.SL.Sem
open Cert.Act Words

variable (A U : S2064x5632.Idx → ℝ) (W : S5632x2048.Idx → ℝ) (D : S2064x2048.Idx → ℝ)

/-- The real numbers as an array of extended reals. -/
local notation "↟" X => fun i => ((X i : ℝ) : EReal)

theorem sig (i : Fin 2064) (j : Fin 5632) : Read.val_main_v0_2 (F := Ideal) (↟A) (ix2 i j) = ((sg (rA A i j) : ℝ) : EReal) := by
  unfold Read.val_main_v0_2 Read.val_main_call0_v4 Read.val_main_call0_v3 Read.val_main_call0_v2 Read.val_main_call0_v1 Read.val_main_call0_v0 Read.val_main_call0_cst Read.val_main_call0_cst_0
  pointwise
  rw [← zero_sub]
  exact sg_real _

theorem v7 (i : Fin 2064) (j : Fin 5632) : Read.val_main_v7 (F := Ideal) (↟W) (↟D) (ix2 i j) = ((prod W (rD D i) j : ℝ) : EReal) := by
  unfold Read.val_main_v7 Read.val_main_v6 Read.val_main_v5 Read.val_main_cst_0
  pointwise
  simp only [Lift.chalf, ← EReal.coe_mul, Lift.coe_sum]
  rfl

theorem v10 (i : Fin 2064) (j : Fin 5632) : Read.val_main_v10 (F := Ideal) (↟A) (↟U) (↟W) (↟D) (ix2 i j) = ((gA A U W D i j : ℝ) : EReal) := by
  unfold Read.val_main_v10 Read.val_main_call1_v2 Read.val_main_call1_v1 Read.val_main_call1_v0 Read.val_main_v9 Read.val_main_v0_1 Read.val_main_call0_v7 Read.val_main_call0_v6 Read.val_main_call0_cst_1
  pointwise
  rw [sig, v7, ← EReal.coe_one]
  simp only [← EReal.coe_mul, ← EReal.coe_sub, ← EReal.coe_add]
  refine congrArg _ ?_
  unfold gA dsilu
  show _ * rA U i j * _ + rA A i j * (_ * rA U i j) * _ = _
  ring

theorem v8 (i : Fin 2064) (j : Fin 5632) : Read.val_main_v8 (F := Ideal) (↟A) (↟W) (↟D) (ix2 i j) = ((gU A W D i j : ℝ) : EReal) := by
  unfold Read.val_main_v8 Read.val_main_v0_0
  pointwise
  rw [sig, v7]
  simp only [← EReal.coe_mul]
  refine congrArg _ ?_
  unfold gU
  show rA A i j * _ * _ = _
  ring

theorem da_ref : Read.val_main_v14 (F := Ideal) (↟A) (↟U) (↟W) (↟D) = dA A U W D := by
  funext y
  idx_vars y
  unfold Read.val_main_v14 Read.val_main_v12 Read.val_main_v11 Read.val_main_cst_1
  pointwise
  refine Eq.trans ?_ (show ((padz (gA A U W D) y0 y1 : ℝ) : EReal) = dA A U W D (ix2 y0 y1) from rfl)
  by_cases h : y0.val < 48
  · rw [dif_pos h, padz_lo h]; rfl
  · rw [dif_neg h, padz_ge h, v10]

theorem du_ref : Read.val_main_v15 (F := Ideal) (↟A) (↟W) (↟D) = dU A W D := by
  funext y
  idx_vars y
  unfold Read.val_main_v15 Read.val_main_v13 Read.val_main_v11 Read.val_main_cst_1
  pointwise
  refine Eq.trans ?_ (show ((padz (gU A W D) y0 y1 : ℝ) : EReal) = dU A W D (ix2 y0 y1) from rfl)
  by_cases h : y0.val < 48
  · rw [dif_pos h, padz_lo h]; rfl
  · rw [dif_neg h, padz_ge h, v8]

end Cert.ActReferenceIdeal.Spec
-- ==== Proof.Act.Claims.lean ====
module

public import proofs.«01_k».proof.Proof.Act.Pre
public import proofs.«01_k».proof.Proof.Act.Kernel
public import proofs.«01_k».proof.Proof.Act.Reference
public import proofs.«01_k».proof.Defs
public import proofs.«01_k».proof.Proof.Gen.ActReferenceIdeal
public import proofs.«01_k».proof.Proof.Gen.ActReferenceIdeal.Run
public import Idealize.ShloMosaic.Lib.Quiescent

/-! The gradient of the gated product: the reference's frame and the equality of the results. -/

@[expose] public section

set_option maxRecDepth 16384

noncomputable section

namespace Cert.Act

open Idealize.ShloMosaic Idealize.SL.Sem

theorem frame_reference : Cert.quiescent_ActReferenceIdeal := fun m ρ _ =>
  (θ_run Cert.ActReferenceIdeal.defs _ _).mono (fun r h => ⟨fun c => (h c).2.2,
    Idealize.ShloMosaic.sem_eq_zero_of_no_sems (by decide) r.2⟩) (Cert.ActReferenceIdeal.Value.run (F := Ideal) m ρ)

theorem algebraic [Cert.Pre_act_finite.Facts] : Cert.algebraic_ActKernelIdeal_ActReferenceIdeal_pre_act_finite := by
  intro m g m' g' hpre hargs
  refine ⟨fun c => (Cert.ActKernelIdeal.Gen.dats m 0 c).arrAt 5 Cert.ActKernelIdeal.cfg0.N,
    fun c => (Cert.ActKernelIdeal.Gen.dats m 0 c).arrAt 6 Cert.ActKernelIdeal.cfg0.N,
    Cert.ActKernelIdeal.Value.run_blocks m g, ?_⟩
  refine (θ_run Cert.ActReferenceIdeal.defs _ _).mono (fun r h c => ?_) (Cert.ActReferenceIdeal.Value.run (F := Ideal) m' g')
  obtain ⟨h0, h1, hk⟩ := h c
  obtain ⟨⟨A, hA⟩, ⟨U, hU⟩, ⟨W, hW⟩, ⟨D, hD⟩⟩ := Cert.Pre_act_finite.finite _ _ _ _ (hpre c)
  obtain ⟨a0, a1, a2, a3⟩ := hargs c
  have H : Cert.ActKernelIdeal.Spec.Args m c A U W D := ⟨hA, hU, hW, hD⟩
  refine ⟨h0.trans ?_, h1.trans ?_, hk⟩
  · rw [Cert.ActReferenceIdeal.Read.val_main_v14_eq, a0, a1, a2, a3, hA, hU, hW, hD]
    exact (Cert.ActReferenceIdeal.Spec.da_ref A U W D).trans (Cert.ActKernelIdeal.Spec.da_arr H).symm
  · rw [Cert.ActReferenceIdeal.Read.val_main_v15_eq, a0, a2, a3, hA, hW, hD]
    exact (Cert.ActReferenceIdeal.Spec.du_ref A W D).trans (Cert.ActKernelIdeal.Spec.du_arr H).symm

end Cert.Act
-- ==== Proof.Norm.Forward.lean ====
module

public import proofs.«01_k».proof.Defs
public import proofs.«01_k».proof.Proof.Lift
public import proofs.«01_k».proof.Proof.Gen.NormFwdKernelIdeal.Value
public import proofs.«01_k».proof.Proof.Gen.NormFwdReferenceIdeal
public import proofs.«01_k».proof.Proof.Gen.NormFwdReferenceIdeal.Read
public import proofs.«01_k».proof.Proof.Gen.NormFwdReferenceIdeal.Run
public import Idealize.ShloMosaic.Lib.Pipeline.ValueKit
public import Idealize.ShloMosaic.Lib.StableHlo.ReadAt
public import Idealize.ShloMosaic.Lib.Quiescent

/-! The normalisation itself: the kernel and the plain lines are the same expression of each row, finite or not. -/

@[expose] public section

set_option maxRecDepth 16384

noncomputable section

namespace Cert.NormFwdKernelIdeal.Spec

open Cert.NormFwdKernelIdeal Cert.NormFwdKernelIdeal.Gen Idealize.ShloMosaic Idealize.ShloMosaic.TcCoe Idealize.SL.Sem
open Idealize.ShloMosaic.Pipeline (Dat)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the array at row `a` of block `t`. -/
abbrev row (t : Fin cfg0.N) (a : Fin 352) : Fin 2112 := ⟨t.val * 352 + a.val, by have := t.isLt; have : cfg0.N = 6 := rfl; omega⟩

/-- One over the root mean square of a row, as both programs compute it. -/
def rs (X : S2112x2048.Idx → EReal) (i : Fin 2112) : EReal :=
  Ideal.rsqrt (Ideal.div (∑ k : Fin 2048, X (ix2 i k) * X (ix2 i k)) (Ideal.ofBits .f32 0x45000000#32) + Ideal.ofBits .f32 0x358637BD#32)

theorem r_ref (X : S2112x2048.Idx → EReal) (i : Fin 2112) : Cert.NormFwdReferenceIdeal.Read.val_main_v7 (F := Ideal) X (ix2 i (0 : Fin 1)) = rs X i := by
  unfold Cert.NormFwdReferenceIdeal.Read.val_main_v7 Cert.NormFwdReferenceIdeal.Read.val_main_v6 Cert.NormFwdReferenceIdeal.Read.val_main_v5
    Cert.NormFwdReferenceIdeal.Read.val_main_v4 Cert.NormFwdReferenceIdeal.Read.val_main_v3 Cert.NormFwdReferenceIdeal.Read.val_main_v2
    Cert.NormFwdReferenceIdeal.Read.val_main_v1 Cert.NormFwdReferenceIdeal.Read.val_main_v0 Cert.NormFwdReferenceIdeal.Read.val_main_cst
    Cert.NormFwdReferenceIdeal.Read.val_main_cst_0 Cert.NormFwdReferenceIdeal.Read.val_main_cst_1
  pointwise
  rfl

theorem h_ref (X : S2112x2048.Idx → EReal) (G : S2048.Idx → EReal) (i : Fin 2112) (j : Fin 2048) :
    Cert.NormFwdReferenceIdeal.Read.val_main_v13 (F := Ideal) X G (ix2 i j) = X (ix2 i j) * rs X i * G (ix1 j) := by
  unfold Cert.NormFwdReferenceIdeal.Read.val_main_v13 Cert.NormFwdReferenceIdeal.Read.val_main_v12 Cert.NormFwdReferenceIdeal.Read.val_main_v11
    Cert.NormFwdReferenceIdeal.Read.val_main_v10 Cert.NormFwdReferenceIdeal.Read.val_main_v9 Cert.NormFwdReferenceIdeal.Read.val_main_v8
  pointwise
  rw [r_ref]

variable (m : (ℓ : Loc nD τ sig) → Buf (Elt Ideal) ℓ) (c : Dev nD)

abbrev aX : S2112x2048.Idx → EReal := m ((c.tc : Thread nD τ).loc main_arg0)
abbrev aG : S2048.Idx → EReal := m ((c.tc : Thread nD τ).loc main_arg1)

/-- The blocks of a grid point, as plain functions. -/
abbrev b0 (t : Fin cfg0.N) : S352x2048.Idx → EReal := iblk m c 0 t
abbrev b1 (t : Fin cfg0.N) : S1x2048.Idx → EReal := iblk m c 1 t

theorem V_0 (i : Fin 2112) (j : Fin 2048) : V m c (Pipeline.arrRef spec0 0) (ix2 i j) = aX m c (ix2 i j) := by
  unfold V
  after_reads_at

theorem V_1 (j : Fin 2048) : V m c (Pipeline.arrRef spec0 1) (ix2 0 j) = aG m c (ix1 j) := by
  unfold V
  after_reads_at

theorem iblk_0 (t : Fin cfg0.N) (a : Fin 352) (b : Fin 2048) : b0 m c t (ix2 a b) = aX m c (ix2 (row t a) b) := by
  rw [← V_0]; blk_ext [iblk, idx t]

theorem iblk_1 (t : Fin cfg0.N) (b : Fin 2048) : b1 m c t (ix2 (0 : Fin 1) b) = aG m c (ix1 b) := by
  rw [← V_1]; blk_ext [iblk, idx t]

theorem rs_elt (t : Fin cfg0.N) (a : Fin 352) :
    Ideal.rsqrt (Ideal.div (∑ k : Fin 2048, b0 m c t (ix2 a k) * b0 m c t (ix2 a k)) (Ideal.ofBits .f32 0x45000000#32) + Ideal.ofBits .f32 0x358637BD#32)
      = rs (aX m c) (row t a) := by
  simp only [iblk_0]
  rfl

theorem h_arr : (dats m 0 c).arrAt 2 cfg0.N = Cert.NormFwdReferenceIdeal.Read.val_main_v13 (F := Ideal) (aX m c) (aG m c) := by
  refine (dats m 0 c).arrAt_eq_of_covers 2 _ (by decide +kernel) fun t hf y => ?_
  obtain ⟨a, b, rfl⟩ : ∃ (a : Fin 352) (b : Fin 2048), y = ix2 a b := ⟨y 0, y 1, eq_ix2 y⟩
  have e : ((View.whole main_v1_0).slice (win0_2.rect t)).emb (ix2 a b) = ix2 (row t a) b := by blk_ext [idx t]
  blk_simp; rw [after0_2]
  refine Eq.trans ?_ ((h_ref (aX m c) (aG m c) (row t a) b).symm.trans (congrArg _ e.symm))
  rw [← rs_elt, ← iblk_0, ← iblk_1 m c t]
  frame_out; unfold_payloads; pointwise

theorem r_arr : (dats m 0 c).arrAt 3 cfg0.N = Cert.NormFwdReferenceIdeal.Read.val_main_v7 (F := Ideal) (aX m c) := by
  refine (dats m 0 c).arrAt_eq_of_covers 3 _ (by decide +kernel) fun t hf y => ?_
  obtain ⟨a, rfl⟩ : ∃ (a : Fin 352), y = ix2 a (0 : Fin 1) := ⟨y 0, by rw [eq_ix2 y]; congr 1; exact Subsingleton.elim _ _⟩
  have e : ((View.whole main_v1_1).slice (win0_3.rect t)).emb (ix2 a (0 : Fin 1)) = ix2 (row t a) (0 : Fin 1) := by blk_ext [idx t]
  blk_simp; rw [after0_3]
  refine Eq.trans ?_ ((r_ref (aX m c) (row t a)).symm.trans (congrArg _ e.symm))
  rw [← rs_elt]
  frame_out; unfold_payloads; pointwise

end Cert.NormFwdKernelIdeal.Spec

namespace Cert.NormFwd

open Idealize.ShloMosaic Idealize.SL.Sem

theorem frame_reference : Cert.quiescent_NormFwdReferenceIdeal := fun m ρ _ =>
  (θ_run Cert.NormFwdReferenceIdeal.defs _ _).mono (fun r h => ⟨fun c => (h c).2.2,
    Idealize.ShloMosaic.sem_eq_zero_of_no_sems (by decide) r.2⟩) (Cert.NormFwdReferenceIdeal.Value.run (F := Ideal) m ρ)

theorem algebraic : Cert.algebraic_NormFwdKernelIdeal_NormFwdReferenceIdeal := by
  intro m g m' g' hpre hargs
  refine ⟨fun c => (Cert.NormFwdKernelIdeal.Gen.dats m 0 c).arrAt 2 Cert.NormFwdKernelIdeal.cfg0.N,
    fun c => (Cert.NormFwdKernelIdeal.Gen.dats m 0 c).arrAt 3 Cert.NormFwdKernelIdeal.cfg0.N,
    Cert.NormFwdKernelIdeal.Value.run_blocks m g, ?_⟩
  refine (θ_run Cert.NormFwdReferenceIdeal.defs _ _).mono (fun r h c => ?_) (Cert.NormFwdReferenceIdeal.Value.run (F := Ideal) m' g')
  obtain ⟨h0, h1, hk⟩ := h c
  obtain ⟨a0, a1⟩ := hargs c
  refine ⟨h0.trans ?_, h1.trans ?_, hk⟩
  · rw [Cert.NormFwdReferenceIdeal.Read.val_main_v13_eq, a0, a1]
    exact (Cert.NormFwdKernelIdeal.Spec.h_arr m c).symm
  · rw [Cert.NormFwdReferenceIdeal.Read.val_main_v7_eq, a0]
    exact (Cert.NormFwdKernelIdeal.Spec.r_arr m c).symm

end Cert.NormFwd
-- ==== Proof.Post.Forward.lean ====
module

public import proofs.«01_k».proof.Defs
public import proofs.«01_k».proof.Proof.Post.Spec
public import proofs.«01_k».proof.Proof.Gen.PostFwdKernelIdeal.Value
public import proofs.«01_k».proof.Proof.Gen.PostFwdReferenceIdeal
public import proofs.«01_k».proof.Proof.Gen.PostFwdReferenceIdeal.Read
public import proofs.«01_k».proof.Proof.Gen.PostFwdReferenceIdeal.Run
public import Idealize.ShloMosaic.Lib.Pipeline.ValueKit
public import Idealize.ShloMosaic.Lib.StableHlo.ReadAt
public import Idealize.ShloMosaic.Lib.Quiescent

/-! The head norm and the output gate on rows of four heads: the kernel and the plain lines, finite or not. -/

@[expose] public section

set_option maxRecDepth 16384

noncomputable section

namespace Cert.PostFwdReferenceIdeal.Spec

open Cert.PostFwdReferenceIdeal Cert.Post Idealize.ShloMosaic Idealize.ShloMosaic.TcCoe Idealize.SL.Sem

/-- A head's row, normed, weighted and gated. -/
def gated (o r h : Fin 512 → EReal) (k : Fin 512) : EReal := o k * eRs o * h k * (r k * eSg (r k))

variable (O : S4x2112x512.Idx → EReal) (Q : S2112x6160.Idx → EReal) (H : S512.Idx → EReal)

/-- The output, from the heads' rows, the gate's columns of the projection and the weight. -/
def out (i : Fin 2112) (g : Fin 4) (k : Fin 512) : EReal :=
  gated (fun n => O (ix3 g i n)) (fun n => Q (ix2 i ⟨4112 + (g.val * 512 + n.val), by omega⟩)) (fun n => H (ix1 n)) k

theorem v12 (g : Fin 4) (i : Fin 2112) : Read.val_main_v12 (F := Ideal) O (ix3 g i (0 : Fin 1)) = eRs (fun n => O (ix3 g i n)) := by
  unfold Read.val_main_v12 Read.val_main_v11 Read.val_main_v10 Read.val_main_v9 Read.val_main_v8 Read.val_main_v7 Read.val_main_v6 Read.val_main_v5 Read.val_main_cst Read.val_main_cst_0 Read.val_main_cst_1
  pointwise
  rfl

theorem v19 (i : Fin 2112) (g : Fin 4) (k : Fin 512) : Read.val_main_v19 (F := Ideal) O H (ix2 i (col g k))
    = O (ix3 g i k) * eRs (fun n => O (ix3 g i n)) * H (ix1 k) := by
  unfold Read.val_main_v19 Read.val_main_v18 Read.val_main_v17 Read.val_main_v16 Read.val_main_v15 Read.val_main_v14 Read.val_main_v13
  pointwise
  refine Eq.trans (congrArg₂ (fun (a : Fin 4) (b : Fin 512) => O (ix3 a i b) * Read.val_main_v12 (F := Ideal) O (ix3 a i (0 : Fin 1)) * H (ix1 b)) (grp_col g k) (loc_col g k)) ?_
  show O (ix3 g i k) * Read.val_main_v12 (F := Ideal) O (ix3 g i 0) * _ = _
  rw [v12]

theorem out_ref (i : Fin 2112) (g : Fin 4) (k : Fin 512) : Read.val_main_v22 (F := Ideal) O Q H (ix2 i (col g k)) = out O Q H i g k := by
  unfold Read.val_main_v22 Read.val_main_v21 Read.val_main_v20 Read.val_main_call0_v5 Read.val_main_call0_v4 Read.val_main_call0_v3 Read.val_main_call0_v2 Read.val_main_call0_v1 Read.val_main_call0_v0 Read.val_main_call0_cst Read.val_main_call0_cst_0 Read.val_main_v4
  pointwise
  rw [v19, ← zero_sub]
  rfl

end Cert.PostFwdReferenceIdeal.Spec

namespace Cert.PostFwdKernelIdeal.Spec

open Cert.PostFwdKernelIdeal Cert.PostFwdKernelIdeal.Gen Idealize.ShloMosaic Idealize.ShloMosaic.TcCoe Idealize.SL.Sem
open Idealize.ShloMosaic.Pipeline (Dat)
open Cert.Post Cert.PostFwdReferenceIdeal.Spec

theorem idx : ∀ t : Fin cfg0.N, win0_0.index t = ![t.val, 0] ∧ win0_1.index t = ![t.val, 2] ∧ win0_2.index t = ![0, 0] ∧ win0_3.index t = ![t.val, 0] :=
  (by decide +kernel : ∀ t : Fin grid0.N, _)

/-- The row of the array at row `a` of block `t`. -/
abbrev row (t : Fin cfg0.N) (a : Fin 352) : Fin 2112 := ⟨t.val * 352 + a.val, by have := t.isLt; have : cfg0.N = 6 := rfl; omega⟩

variable (m : (ℓ : Loc nD τ sig) → Buf (Elt Ideal) ℓ) (c : Dev nD)

abbrev aO : S4x2112x512.Idx → EReal := m ((c.tc : Thread nD τ).loc main_arg0)
abbrev aQ : S2112x6160.Idx → EReal := m ((c.tc : Thread nD τ).loc main_arg1)
abbrev aH : S512.Idx → EReal := m ((c.tc : Thread nD τ).loc main_arg2)

/-- The blocks of a grid point, as plain functions. -/
abbrev b0 (t : Fin cfg0.N) : S352x2048.Idx → EReal := iblk m c 0 t
abbrev b1 (t : Fin cfg0.N) : S352x2048.Idx → EReal := X0_1 m c t
abbrev b2 (t : Fin cfg0.N) : S1x512.Idx → EReal := iblk m c 2 t

theorem V_0 (i : Fin 2112) (g : Fin 4) (k : Fin 512) : V m c (Pipeline.arrRef spec0 0) (ix2 i (col g k)) = aO m c (ix3 g i k) := by
  unfold V
  after_reads_at
  pointwise
  exact congrArg₂ (fun (a : Fin 4) (b : Fin 512) => aO m c (ix3 a i b)) (grp_col g k) (loc_col g k)

theorem V_1 (i : Fin 2112) (g : Fin 4) (k : Fin 512) : V m c (Pipeline.arrRef spec0 1) (ix2 i ⟨4096 + (g.val * 512 + k.val), by omega⟩)
    = aQ m c (ix2 i ⟨4112 + (g.val * 512 + k.val), by omega⟩) := by
  unfold V
  after_reads_at
  pointwise
  rw [dif_pos (by omega)]
  after_reads_at

theorem V_2 (k : Fin 512) : V m c (Pipeline.arrRef spec0 2) (ix2 0 k) = aH m c (ix1 k) := by
  unfold V
  after_reads_at

section Blocks
variable (t : Fin cfg0.N) (a : Fin 352) (g : Fin 4) (k : Fin 512)
theorem iblk_0 : b0 m c t (ix2 a (col g k)) = aO m c (ix3 g (row t a) k) := by
  rw [← V_0]; blk_ext [iblk, idx t]
theorem iblk_1 : b1 m c t (ix2 a (col g k)) = aQ m c (ix2 (row t a) ⟨4112 + (g.val * 512 + k.val), by omega⟩) := by
  rw [← V_1]
  unfold b1 X0_1 Pipeline.Window.fill
  rw [dif_pos (moved0_1 t _)]
  blk_ext [iblk, idx t]
theorem iblk_2 : b2 m c t (ix2 0 k) = aH m c (ix1 k) := by
  rw [← V_2]; blk_ext [iblk, idx t]

/-- One element of the result, from the blocks; the columns of the head may be spelt another way. -/
theorem elt {f : Fin 512 → Fin 2048} (hf : ∀ n, f n = col g n) :
    gated (fun n => b0 m c t (ix2 a (f n))) (fun n => b1 m c t (ix2 a (f n))) (fun n => b2 m c t (ix2 0 n)) k = out (aO m c) (aQ m c) (aH m c) (row t a) g k := by
  obtain rfl : f = col g := funext hf
  simp only [iblk_0, iblk_1, iblk_2]
  rfl
end Blocks

/-- Where a piece of four columns side by side is read. -/
theorem piece (n : Fin 4) (x : S352x512.Idx) {a : Fin 352} {g : Fin 4} {k : Fin 512} (h0 : a.val = (x 0).val) (h1 : g.val * 512 + k.val = n.val * 512 + (x 1).val) :
    x = ix2 a k ∧ g = n := by
  obtain ⟨b, f, rfl⟩ : ∃ (b : Fin 352) (f : Fin 512), x = ix2 b f := ⟨x 0, x 1, eq_ix2 x⟩
  replace h0 : a.val = b.val := h0
  replace h1 : g.val * 512 + k.val = n.val * 512 + f.val := h1
  obtain rfl : a = b := Fin.ext h0
  obtain rfl : k = f := Fin.ext (by omega)
  exact ⟨rfl, Fin.ext (by omega)⟩

theorem out_blk (t : Fin cfg0.N) (a : Fin 352) (g : Fin 4) (k : Fin 512) : outsAt0 m c t (ix2 a (col g k)) = out (aO m c) (aQ m c) (aH m c) (row t a) g k := by
  unfold outsAt0 out0_A_3; frame_open; frame_out
  canon_tiles x hx
  · obtain ⟨rfl, rfl⟩ := piece 3 x hx0 hx1
    unfold_payloads; pointwise; exact elt m c t a 3 k (f := fun n => ⟨1536 + n.val, by omega⟩) fun n => rfl
  · obtain ⟨rfl, rfl⟩ := piece 2 x hx0 hx1
    unfold_payloads; pointwise; exact elt m c t a 2 k (f := fun n => ⟨1024 + n.val, by omega⟩) fun n => rfl
  · obtain ⟨rfl, rfl⟩ := piece 1 x hx0 hx1
    unfold_payloads; pointwise; exact elt m c t a 1 k (f := fun n => ⟨512 + n.val, by omega⟩) fun n => rfl
  · obtain ⟨rfl, rfl⟩ := piece 0 x hx0 (by simpa using hx1)
    unfold_payloads; pointwise; exact elt m c t a 0 k (f := fun n => ⟨n.val, by omega⟩) fun n => Fin.ext (by simp)

theorem out_arr : (dats m 0 c).arrAt 3 cfg0.N = Cert.PostFwdReferenceIdeal.Read.val_main_v22 (F := Ideal) (aO m c) (aQ m c) (aH m c) := by
  refine (dats m 0 c).arrAt_eq_of_covers 3 _ (by decide +kernel) fun t hf y => ?_
  obtain ⟨a, b, rfl⟩ : ∃ (a : Fin 352) (b : Fin 2048), y = ix2 a b := ⟨y 0, y 1, eq_ix2 y⟩
  have e : ((View.whole main_v8).slice (win0_3.rect t)).emb (ix2 a b) = ix2 (row t a) b := by blk_ext [idx t]
  have hb := col_grp b
  blk_simp; rw [after0_3]
  refine Eq.trans ?_ (congrArg _ e.symm)
  rw [← hb, out_ref, ← out_blk]

end Cert.PostFwdKernelIdeal.Spec

namespace Cert.PostFwd

open Idealize.ShloMosaic Idealize.SL.Sem

theorem frame_reference : Cert.quiescent_PostFwdReferenceIdeal := fun m ρ _ =>
  (θ_run Cert.PostFwdReferenceIdeal.defs _ _).mono (fun r h => ⟨fun c => (h c).2,
    Idealize.ShloMosaic.sem_eq_zero_of_no_sems (by decide) r.2⟩) (Cert.PostFwdReferenceIdeal.Value.run (F := Ideal) m ρ)

theorem algebraic : Cert.algebraic_PostFwdKernelIdeal_PostFwdReferenceIdeal := by
  intro m g m' g' hpre hargs
  refine ⟨fun c => (Cert.PostFwdKernelIdeal.Gen.dats m 0 c).arrAt 3 Cert.PostFwdKernelIdeal.cfg0.N,
    Cert.PostFwdKernelIdeal.Value.run_blocks m g, ?_⟩
  refine (θ_run Cert.PostFwdReferenceIdeal.defs _ _).mono (fun r h c => ?_) (Cert.PostFwdReferenceIdeal.Value.run (F := Ideal) m' g')
  obtain ⟨h0, hk⟩ := h c
  obtain ⟨a0, a1, a2⟩ := hargs c
  refine ⟨h0.trans ?_, hk⟩
  rw [Cert.PostFwdReferenceIdeal.Read.val_main_v22_eq, a0, a1, a2]
  exact (Cert.PostFwdKernelIdeal.Spec.out_arr m c).symm

end Cert.PostFwd
-- ==== Proof.Mix.Forward.lean ====
module

public import proofs.«01_k».proof.Defs
public import proofs.«01_k».proof.Proof.Mix.Spec
public import proofs.«01_k».proof.Proof.Words
public import proofs.«01_k».proof.Proof.Gen.MixFwdKernelIdeal.Value
public import proofs.«01_k».proof.Proof.Gen.MixFwdReferenceIdeal
public import proofs.«01_k».proof.Proof.Gen.MixFwdReferenceIdeal.Read
public import proofs.«01_k».proof.Proof.Gen.MixFwdReferenceIdeal.Run
public import Idealize.ShloMosaic.Lib.Pipeline.ValueKit
public import Idealize.ShloMosaic.Lib.StableHlo.ReadAt
public import Idealize.ShloMosaic.Lib.Quiescent

/-! The pooling mixer's grouped product with its bias and scale, added to the input: the kernel and the plain lines,
finite or not. -/

@[expose] public section

set_option maxRecDepth 16384

noncomputable section

namespace Cert.MixFwdReferenceIdeal.Spec

open Cert.MixFwdReferenceIdeal Cert.Mix Idealize.ShloMosaic Idealize.ShloMosaic.TcCoe Idealize.SL.Sem

variable (P : S2064x4x512.Idx → EReal) (X : S2064x2048.Idx → EReal) (W : S4x512x512.Idx → EReal) (B : S4x512.Idx → EReal) (S : S2048.Idx → EReal)

/-- What the mixer adds to the rows of a group, from the pooled rows of the group. -/
def mix (p : Fin 512 → EReal) (g : Fin 4) (k : Fin 512) : EReal :=
  ((∑ n : Fin 512, p n * W (ix3 g n k)) + B (ix2 g k)) * S (ix1 (col g k))

/-- The output, with 48 rows of zeros in front. -/
def out (i : Fin 2112) (g : Fin 4) (k : Fin 512) : EReal :=
  if 48 ≤ i.val then yp X i (col g k) + mix W B S (pp P i g) g k else 0

theorem v4 (i : Fin 2064) (g : Fin 4) (k : Fin 512) : Read.val_main_v4 (F := Ideal) P W B (ix3 i g k)
    = (∑ n : Fin 512, P (ix3 i g n) * W (ix3 g n k)) + B (ix2 g k) := by
  rw [Read.val_main_v4_apply, Read.val_main_v1_apply, Read.val_main_v0_apply, Read.val_main_v3_apply, Read.val_main_v2_apply, Ideal.addf_def]
  refine congrArg₂ (· + ·) (Finset.sum_congr rfl fun n _ => ?_) (congrArg B (by rw [eq_ix2 (Read.idx_main_v2 _)]; rfl))
  rw [mul_comm]
  exact congrArg₂ (· * ·) (congrArg P (by rw [eq_ix3 (Read.ridx_main_v0 _ n)]; rfl)) (congrArg W (by rw [eq_ix3 (Read.lidx_main_v0 _ n)]; rfl))

theorem v9 (i : Fin 2064) (g : Fin 4) (k : Fin 512) : Read.val_main_v9 (F := Ideal) P X W B S (ix2 i (col g k))
    = X (ix2 i (col g k)) + mix W B S (fun n => P (ix3 i g n)) g k := by
  rw [Read.val_main_v9_apply, Read.val_main_v8_apply, Read.val_main_v7_apply, Read.val_main_v6_apply, Read.val_main_v5_apply, Ideal.addf_def, Ideal.mulf_def]
  unfold mix
  rw [← v4]
  refine congrArg₂ (· + ·) rfl (congrArg₂ (· * ·) (congrArg _ ?_) (congrArg S (by rw [eq_ix1 (Read.idx_main_v6 _)]; rfl)))
  funext a
  match a with
  | ⟨0, _⟩ => exact Fin.ext (by show (i.val * 2048 + (g.val * 512 + k.val)) / 2048 = i.val; omega)
  | ⟨1, _⟩ => exact Fin.ext (by show (i.val * 2048 + (g.val * 512 + k.val)) / 512 % 4 = g.val; omega)
  | ⟨2, _⟩ => exact Fin.ext (by show (i.val * 2048 + (g.val * 512 + k.val)) % 512 = k.val; omega)

theorem out_ref (i : Fin 2112) (g : Fin 4) (k : Fin 512) : Read.val_main_v11 (F := Ideal) P X W B S (ix2 i (col g k)) = out P X W B S i g k := by
  unfold Read.val_main_v11 Read.val_main_v10 Read.val_main_cst
  pointwise
  unfold out
  by_cases h : i.val < 48
  · rw [dif_pos h, if_neg (by omega)]
  · refine (dif_neg h).trans ((v9 P X W B S ⟨i.val - 48, by omega⟩ g k).trans (Eq.trans ?_ (if_pos (Nat.le_of_not_lt h)).symm))
    unfold yp pp
    simp only [dif_neg h]

end Cert.MixFwdReferenceIdeal.Spec

namespace Cert.MixFwdKernelIdeal.Spec

open Cert.MixFwdKernelIdeal Cert.MixFwdKernelIdeal.Gen Idealize.ShloMosaic Idealize.ShloMosaic.TcCoe Idealize.SL.Sem
open Idealize.ShloMosaic.Pipeline (Dat)
open Cert.Mix Cert.MixFwdReferenceIdeal.Spec

theorem idx : ∀ t : Fin cfg0.N, win0_0.index t = ![t.val % 6, t.val / 6] ∧ win0_1.index t = ![t.val % 6, t.val / 6] ∧ win0_2.index t = ![t.val / 6, 0, 0]
    ∧ win0_3.index t = ![0, t.val / 6] ∧ win0_4.index t = ![0, t.val / 6] ∧ win0_5.index t = ![t.val % 6, t.val / 6] :=
  (by decide +kernel : ∀ t : Fin grid0.N, _)

/-- The row of the array at row `a` of block `t`, and the group of the block. -/
abbrev row (t : Fin cfg0.N) (a : Fin 352) : Fin 2112 := ⟨t.val % 6 * 352 + a.val, by omega⟩
abbrev gr (t : Fin cfg0.N) : Fin 4 := ⟨t.val / 6, by have := t.isLt; have : cfg0.N = 24 := rfl; omega⟩

variable (m : (ℓ : Loc nD τ sig) → Buf (Elt Ideal) ℓ) (c : Dev nD)

abbrev aP : S2064x4x512.Idx → EReal := m ((c.tc : Thread nD τ).loc main_arg0)
abbrev aX : S2064x2048.Idx → EReal := m ((c.tc : Thread nD τ).loc main_arg1)
abbrev aW : S4x512x512.Idx → EReal := m ((c.tc : Thread nD τ).loc main_arg2)
abbrev aB : S4x512.Idx → EReal := m ((c.tc : Thread nD τ).loc main_arg3)
abbrev aS : S2048.Idx → EReal := m ((c.tc : Thread nD τ).loc main_arg4)

/-- The blocks of a grid point, as plain functions. -/
abbrev b0 (t : Fin cfg0.N) : S352x512.Idx → EReal := iblk m c 0 t
abbrev b1 (t : Fin cfg0.N) : S352x512.Idx → EReal := iblk m c 1 t
abbrev b2 (t : Fin cfg0.N) : S1x512x512.Idx → EReal := iblk m c 2 t
abbrev b3 (t : Fin cfg0.N) : S1x512.Idx → EReal := iblk m c 3 t
abbrev b4 (t : Fin cfg0.N) : S1x512.Idx → EReal := iblk m c 4 t

theorem V_0 (i : Fin 2112) (g : Fin 4) (k : Fin 512) : V m c (Pipeline.arrRef spec0 0) (ix2 i (col g k)) = pp (aP m c) i g k := by
  unfold V
  after_reads_at
  pointwise
  after_reads_at
  pointwise
  unfold pp
  refine dite_congr rfl (fun _ => rfl) fun _ => ?_
  pointwise

theorem V_1 (i : Fin 2112) (j : Fin 2048) : V m c (Pipeline.arrRef spec0 1) (ix2 i j) = yp (aX m c) i j := by
  unfold V
  after_reads_at
  pointwise
  rfl

theorem V_2 (g : Fin 4) (j k : Fin 512) : V m c (Pipeline.arrRef spec0 2) (ix3 g j k) = aW m c (ix3 g j k) := by
  unfold V
  after_reads_at

theorem V_3 (g : Fin 4) (k : Fin 512) : V m c (Pipeline.arrRef spec0 3) (ix2 0 (col g k)) = aB m c (ix2 g k) := by
  unfold V
  after_reads_at
  pointwise
  refine congrArg (aB m c) (congrArg₂ ix2 (grp_col g k) (loc_col g k))

theorem V_4 (j : Fin 2048) : V m c (Pipeline.arrRef spec0 4) (ix2 0 j) = aS m c (ix1 j) := by
  unfold V
  after_reads_at

section Blocks
variable (t : Fin cfg0.N) (a : Fin 352) (b : Fin 512)
theorem iblk_0 : b0 m c t (ix2 a b) = pp (aP m c) (row t a) (gr t) b := by
  rw [← V_0]; blk_ext [iblk, idx t]
theorem iblk_1 : b1 m c t (ix2 a b) = yp (aX m c) (row t a) (col (gr t) b) := by
  rw [← V_1]; blk_ext [iblk, idx t]
theorem iblk_2 (b' : Fin 512) : b2 m c t (ix3 (0 : Fin 1) b' b) = aW m c (ix3 (gr t) b' b) := by
  rw [← V_2]; blk_ext [iblk, idx t]
theorem iblk_3 : b3 m c t (ix2 (0 : Fin 1) b) = aB m c (ix2 (gr t) b) := by
  rw [← V_3]; blk_ext [iblk, idx t]
theorem iblk_4 : b4 m c t (ix2 (0 : Fin 1) b) = aS m c (ix1 (col (gr t) b)) := by
  rw [← V_4]; blk_ext [iblk, idx t]
end Blocks

theorem coord : ∀ t : Fin cfg0.N, (grid0.coords t 1).val = t.val % 6 := (by decide +kernel : ∀ t : Fin grid0.N, _)

theorem out_arr : (dats m 0 c).arrAt 5 cfg0.N = Cert.MixFwdReferenceIdeal.Read.val_main_v11 (F := Ideal) (aP m c) (aX m c) (aW m c) (aB m c) (aS m c) := by
  refine (dats m 0 c).arrAt_eq_of_covers 5 _ (by decide +kernel) fun t hf y => ?_
  obtain ⟨a, b, rfl⟩ : ∃ (a : Fin 352) (b : Fin 512), y = ix2 a b := ⟨y 0, y 1, eq_ix2 y⟩
  have e : ((View.whole main_v9).slice (win0_5.rect t)).emb (ix2 a b) = ix2 (row t a) (col (gr t) b) := by blk_ext [idx t]
  have key : b1 m c t (ix2 a b) + Scalar.select (IntOp.cmpi .sge (IntOp.addi (BitVec.ofNat 32 a.val) (Scalar.muli (BitVec.ofNat 32 (grid0.coords t 1).val) 352#32)) 48#32)
        (((∑ x : Fin 512, b0 m c t (ix2 a x) * b2 m c t (ix3 0 x b)) + b3 m c t (ix2 0 b)) * b4 m c t (ix2 0 b)) 0
      = out (aP m c) (aX m c) (aW m c) (aB m c) (aS m c) (row t a) (gr t) b := by
    rw [coord, Words.live48 (Nat.mod_lt _ (by decide)) a, iblk_1, iblk_3, iblk_4]
    simp only [iblk_0, iblk_2]
    unfold out mix
    split
    · rfl
    · rename_i h
      rw [yp_lo (Nat.lt_of_not_le h), add_zero]
  blk_simp; rw [after0_5]
  refine Eq.trans ?_ ((out_ref _ _ _ _ _ (row t a) (gr t) b).symm.trans (congrArg _ e.symm))
  rw [← key]
  frame_out; unfold_payloads; pointwise

end Cert.MixFwdKernelIdeal.Spec

namespace Cert.MixFwd

open Idealize.ShloMosaic Idealize.SL.Sem

theorem frame_reference : Cert.quiescent_MixFwdReferenceIdeal := fun m ρ _ =>
  (θ_run Cert.MixFwdReferenceIdeal.defs _ _).mono (fun r h => ⟨fun c => (h c).2,
    Idealize.ShloMosaic.sem_eq_zero_of_no_sems (by decide) r.2⟩) (Cert.MixFwdReferenceIdeal.Value.run (F := Ideal) m ρ)

theorem algebraic : Cert.algebraic_MixFwdKernelIdeal_MixFwdReferenceIdeal := by
  intro m g m' g' hpre hargs
  refine ⟨fun c => (Cert.MixFwdKernelIdeal.Gen.dats m 0 c).arrAt 5 Cert.MixFwdKernelIdeal.cfg0.N,
    Cert.MixFwdKernelIdeal.Value.run_blocks m g, ?_⟩
  refine (θ_run Cert.MixFwdReferenceIdeal.defs _ _).mono (fun r h c => ?_) (Cert.MixFwdReferenceIdeal.Value.run (F := Ideal) m' g')
  obtain ⟨h0, hk⟩ := h c
  obtain ⟨a0, a1, a2, a3, a4⟩ := hargs c
  refine ⟨h0.trans ?_, hk⟩
  rw [Cert.MixFwdReferenceIdeal.Read.val_main_v11_eq, a0, a1, a2, a3, a4]
  exact (Cert.MixFwdKernelIdeal.Spec.out_arr m c).symm

end Cert.MixFwd
-- ==== Proof.Act.Forward.lean ====
module

public import proofs.«01_k».proof.Defs
public import proofs.«01_k».proof.Proof.Post.Spec
public import proofs.«01_k».proof.Proof.Gen.GateupFwdKernelIdeal.Value
public import proofs.«01_k».proof.Proof.Gen.GateupFwdReferenceIdeal
public import proofs.«01_k».proof.Proof.Gen.GateupFwdReferenceIdeal.Read
public import proofs.«01_k».proof.Proof.Gen.GateupFwdReferenceIdeal.Run
public import Idealize.ShloMosaic.Lib.Pipeline.ValueKit
public import Idealize.ShloMosaic.Lib.StableHlo.ReadAt
public import Idealize.ShloMosaic.Lib.Quiescent

/-! The gate and the up projection of the feed-forward half, with the silu, its derivative and the gated product: the
kernel and the plain lines, finite or not. -/

@[expose] public section

set_option maxRecDepth 16384

noncomputable section

namespace Cert.GateupFwdReferenceIdeal.Spec

open Cert.GateupFwdReferenceIdeal Idealize.ShloMosaic Idealize.ShloMosaic.TcCoe Idealize.SL.Sem
open Cert.Post (eSg)

/-- The derivative of `x · eSg x`, as the kernel has it. -/
def eDs (x : EReal) : EReal := eSg x * (1 + x * (1 - eSg x))

theorem eSg_top : eSg ⊤ = 1 := by
  have e : Ideal.exp (0 - ⊤) = ((0 : ℝ) : EReal) := by rw [zero_sub, EReal.neg_top]; rfl
  unfold eSg
  rw [e, ← EReal.coe_one, ← EReal.coe_add, Lift.div_real _ (by norm_num)]; norm_num

theorem eSg_bot : eSg ⊥ = 0 := by
  have e : Ideal.exp (0 - ⊥) = ⊤ := by rw [zero_sub, EReal.neg_bot]; rfl
  unfold eSg
  rw [e, ← EReal.coe_one, EReal.coe_add_top, EReal.coe_one]
  unfold Ideal.div
  rw [if_neg (by simp), EReal.inv_top, mul_zero]

/-- The derivative in two terms is the derivative in one, at the infinities too. -/
theorem dsilu_two (x : EReal) : eSg x + x * (eSg x * (1 - eSg x)) = eDs x := by
  unfold eDs
  induction x with
  | bot => rw [eSg_bot]; simp
  | top =>
    rw [eSg_top, show (1 : EReal) - 1 = 0 by rw [← EReal.coe_one, ← EReal.coe_sub, sub_self, EReal.coe_zero]]; simp
  | coe x =>
    rw [Cert.Post.eSg_real, ← EReal.coe_one]
    simp only [← EReal.coe_mul, ← EReal.coe_sub, ← EReal.coe_add]
    exact congrArg _ (by ring)

variable (H : S2112x2048.Idx → EReal) (G U : S2048x5632.Idx → EReal)

/-- A row times a column. -/
def dot (W : S2048x5632.Idx → EReal) (i : Fin 2112) (j : Fin 5632) : EReal := ∑ k : Fin 2048, H (ix2 i k) * W (ix2 k j)

theorem gate (i : Fin 2112) (j : Fin 5632) : Read.val_main_v0 (F := Ideal) H G (ix2 i j) = dot H G i j := by
  unfold Read.val_main_v0
  pointwise
  rfl

theorem up_ref (i : Fin 2112) (j : Fin 5632) : Read.val_main_v6 (F := Ideal) H U (ix2 i j) = dot H U i j := by
  unfold Read.val_main_v6 Read.val_main_v1
  pointwise
  rfl

theorem sig (i : Fin 2112) (j : Fin 5632) : Read.val_main_v2_2 (F := Ideal) H G (ix2 i j) = eSg (dot H G i j) := by
  unfold Read.val_main_v2_2 Read.val_main_call0_v4 Read.val_main_call0_v3 Read.val_main_call0_v2 Read.val_main_call0_v1 Read.val_main_call0_v0 Read.val_main_call0_cst Read.val_main_call0_cst_0
  pointwise
  rw [gate, ← zero_sub]
  rfl

theorem silu_ref (i : Fin 2112) (j : Fin 5632) : Read.val_main_v7 (F := Ideal) H G (ix2 i j) = dot H G i j * eSg (dot H G i j) := by
  unfold Read.val_main_v7 Read.val_main_v2_0
  pointwise
  rw [gate, sig]

theorem dsilu_ref (i : Fin 2112) (j : Fin 5632) : Read.val_main_v8 (F := Ideal) H G (ix2 i j) = eDs (dot H G i j) := by
  unfold Read.val_main_v8 Read.val_main_v4 Read.val_main_call1_v2 Read.val_main_call1_v1 Read.val_main_call1_v0 Read.val_main_v3 Read.val_main_cst Read.val_main_v2_1 Read.val_main_call0_v7 Read.val_main_call0_v6 Read.val_main_call0_cst_1
  pointwise
  rw [gate, sig]
  exact dsilu_two _

theorem act_ref (i : Fin 2112) (j : Fin 5632) : Read.val_main_v9 (F := Ideal) H G U (ix2 i j) = dot H G i j * eSg (dot H G i j) * dot H U i j := by
  unfold Read.val_main_v9 Read.val_main_v5 Read.val_main_v2_0 Read.val_main_v1
  pointwise
  rw [gate, sig]
  rfl

end Cert.GateupFwdReferenceIdeal.Spec

namespace Cert.GateupFwdKernelIdeal.Spec

open Cert.GateupFwdKernelIdeal Cert.GateupFwdKernelIdeal.Gen Idealize.ShloMosaic Idealize.ShloMosaic.TcCoe Idealize.SL.Sem
open Idealize.ShloMosaic.Pipeline (Dat)
open Cert.GateupFwdReferenceIdeal.Spec
open Cert.Post (eSg)

theorem idx : ∀ t : Fin cfg0.N, win0_0.index t = ![t.val % 6, 0] ∧ win0_1.index t = ![t.val / 6, 0, 0] ∧ win0_2.index t = ![t.val / 6, 0, 0]
    ∧ win0_3.index t = ![t.val % 6, t.val / 6] ∧ win0_4.index t = ![t.val % 6, t.val / 6] ∧ win0_5.index t = ![t.val % 6, t.val / 6]
    ∧ win0_6.index t = ![t.val % 6, t.val / 6] :=
  (by decide +kernel : ∀ t : Fin grid0.N, _)

/-- The row and the column of the array at row `a` and column `b` of block `t`, and the block's part of the columns. -/
abbrev row (t : Fin cfg0.N) (a : Fin 352) : Fin 2112 := ⟨t.val % 6 * 352 + a.val, by omega⟩
abbrev part (t : Fin cfg0.N) : Fin 4 := ⟨t.val / 6, by have := t.isLt; have : cfg0.N = 24 := rfl; omega⟩
abbrev col (s : Fin 4) (b : Fin 1408) : Fin 5632 := ⟨s.val * 1408 + b.val, by omega⟩

variable (m : (ℓ : Loc nD τ sig) → Buf (Elt Ideal) ℓ) (c : Dev nD)

abbrev aH : S2112x2048.Idx → EReal := m ((c.tc : Thread nD τ).loc main_arg0)
abbrev aG : S2048x5632.Idx → EReal := m ((c.tc : Thread nD τ).loc main_arg1)
abbrev aU : S2048x5632.Idx → EReal := m ((c.tc : Thread nD τ).loc main_arg2)

/-- The blocks of a grid point, as plain functions. -/
abbrev b0 (t : Fin cfg0.N) : S352x2048.Idx → EReal := iblk m c 0 t
abbrev b1 (t : Fin cfg0.N) : S1x2048x1408.Idx → EReal := iblk m c 1 t
abbrev b2 (t : Fin cfg0.N) : S1x2048x1408.Idx → EReal := iblk m c 2 t

theorem V_0 (i : Fin 2112) (k : Fin 2048) : V m c (Pipeline.arrRef spec0 0) (ix2 i k) = aH m c (ix2 i k) := by
  unfold V
  after_reads_at

/-- The weights lie in parts of their columns. -/
theorem V_1 (s : Fin 4) (k : Fin 2048) (b : Fin 1408) : V m c (Pipeline.arrRef spec0 1) (ix3 s k b) = aG m c (ix2 k (col s b)) := by
  unfold V
  after_reads_at

theorem V_2 (s : Fin 4) (k : Fin 2048) (b : Fin 1408) : V m c (Pipeline.arrRef spec0 2) (ix3 s k b) = aU m c (ix2 k (col s b)) := by
  unfold V
  after_reads_at

section Blocks
variable (t : Fin cfg0.N) (a : Fin 352) (b : Fin 1408) (k : Fin 2048)
theorem iblk_0 : b0 m c t (ix2 a k) = aH m c (ix2 (row t a) k) := by
  rw [← V_0]; blk_ext [iblk, idx t]
theorem iblk_1 : b1 m c t (ix3 (0 : Fin 1) k b) = aG m c (ix2 k (col (part t) b)) := by
  rw [← V_1]; blk_ext [iblk, idx t]
theorem iblk_2 : b2 m c t (ix3 (0 : Fin 1) k b) = aU m c (ix2 k (col (part t) b)) := by
  rw [← V_2]; blk_ext [iblk, idx t]

/-- One element of a result that is `f` of the gate and of the up projection, at a piece's row and column. -/
theorem elt (f : EReal → EReal → EReal) (a' : Fin 352) (b' : Fin 1408) (ha : a.val = a'.val) (hb : b.val = b'.val) :
    f (∑ k, b0 m c t (ix2 a' k) * b1 m c t (ix3 0 k b')) (∑ k, b0 m c t (ix2 a' k) * b2 m c t (ix3 0 k b'))
      = f (dot (aH m c) (aG m c) (row t a) (col (part t) b)) (dot (aH m c) (aU m c) (row t a) (col (part t) b)) := by
  obtain rfl := Fin.ext ha
  obtain rfl := Fin.ext hb
  simp only [iblk_0, iblk_1, iblk_2]
  rfl
end Blocks

variable (t : Fin cfg0.N) (a : Fin 352) (b : Fin 1408)

theorem up_at : (outsAt0 m c t).1 (ix2 a b) = dot (aH m c) (aU m c) (row t a) (col (part t) b) := by
  unfold outsAt0; dsimp only; unfold out0_A_3; frame_open; frame_out
  canon_tiles x hx using (View.cover_of_tiledBy _ ![352, 128] (by sl_kernel_rfl) (ix2 a b))
  · unfold_payloads; pointwise; exact elt m c t a b (fun _ u => u) _ ⟨1280 + (x 1).val, by omega⟩ hx0 hx1
  · unfold_payloads; pointwise; exact elt m c t a b (fun _ u => u) _ ⟨1024 + (x 1).val, by omega⟩ hx0 hx1
  · unfold_payloads; pointwise; exact elt m c t a b (fun _ u => u) _ ⟨768 + (x 1).val, by omega⟩ hx0 hx1
  · unfold_payloads; pointwise; exact elt m c t a b (fun _ u => u) _ ⟨512 + (x 1).val, by omega⟩ hx0 hx1
  · unfold_payloads; pointwise; exact elt m c t a b (fun _ u => u) _ ⟨256 + (x 1).val, by omega⟩ hx0 hx1
  · unfold_payloads; pointwise; exact elt m c t a b (fun _ u => u) _ ⟨(x 1).val, by omega⟩ hx0 hx1

theorem silu_at : (outsAt0 m c t).2.1 (ix2 a b) = dot (aH m c) (aG m c) (row t a) (col (part t) b) * eSg (dot (aH m c) (aG m c) (row t a) (col (part t) b)) := by
  unfold outsAt0; dsimp only; unfold out0_A_4; frame_open; frame_out
  canon_tiles x hx using (View.cover_of_tiledBy _ ![352, 128] (by sl_kernel_rfl) (ix2 a b))
  · unfold_payloads; pointwise; exact elt m c t a b (fun g _ => g * eSg g) _ ⟨1280 + (x 1).val, by omega⟩ hx0 hx1
  · unfold_payloads; pointwise; exact elt m c t a b (fun g _ => g * eSg g) _ ⟨1024 + (x 1).val, by omega⟩ hx0 hx1
  · unfold_payloads; pointwise; exact elt m c t a b (fun g _ => g * eSg g) _ ⟨768 + (x 1).val, by omega⟩ hx0 hx1
  · unfold_payloads; pointwise; exact elt m c t a b (fun g _ => g * eSg g) _ ⟨512 + (x 1).val, by omega⟩ hx0 hx1
  · unfold_payloads; pointwise; exact elt m c t a b (fun g _ => g * eSg g) _ ⟨256 + (x 1).val, by omega⟩ hx0 hx1
  · unfold_payloads; pointwise; exact elt m c t a b (fun g _ => g * eSg g) _ ⟨(x 1).val, by omega⟩ hx0 hx1

theorem dsilu_at : (outsAt0 m c t).2.2.1 (ix2 a b) = eDs (dot (aH m c) (aG m c) (row t a) (col (part t) b)) := by
  unfold outsAt0; dsimp only; unfold out0_A_5; frame_open; frame_out
  canon_tiles x hx using (View.cover_of_tiledBy _ ![352, 128] (by sl_kernel_rfl) (ix2 a b))
  · unfold_payloads; pointwise; exact elt m c t a b (fun g _ => eDs g) _ ⟨1280 + (x 1).val, by omega⟩ hx0 hx1
  · unfold_payloads; pointwise; exact elt m c t a b (fun g _ => eDs g) _ ⟨1024 + (x 1).val, by omega⟩ hx0 hx1
  · unfold_payloads; pointwise; exact elt m c t a b (fun g _ => eDs g) _ ⟨768 + (x 1).val, by omega⟩ hx0 hx1
  · unfold_payloads; pointwise; exact elt m c t a b (fun g _ => eDs g) _ ⟨512 + (x 1).val, by omega⟩ hx0 hx1
  · unfold_payloads; pointwise; exact elt m c t a b (fun g _ => eDs g) _ ⟨256 + (x 1).val, by omega⟩ hx0 hx1
  · unfold_payloads; pointwise; exact elt m c t a b (fun g _ => eDs g) _ ⟨(x 1).val, by omega⟩ hx0 hx1

theorem act_at : (outsAt0 m c t).2.2.2 (ix2 a b) = dot (aH m c) (aG m c) (row t a) (col (part t) b) * eSg (dot (aH m c) (aG m c) (row t a) (col (part t) b))
      * dot (aH m c) (aU m c) (row t a) (col (part t) b) := by
  unfold outsAt0; dsimp only; unfold out0_A_6; frame_open; frame_out
  canon_tiles x hx using (View.cover_of_tiledBy _ ![352, 128] (by sl_kernel_rfl) (ix2 a b))
  · unfold_payloads; pointwise; exact elt m c t a b (fun g u => g * eSg g * u) _ ⟨1280 + (x 1).val, by omega⟩ hx0 hx1
  · unfold_payloads; pointwise; exact elt m c t a b (fun g u => g * eSg g * u) _ ⟨1024 + (x 1).val, by omega⟩ hx0 hx1
  · unfold_payloads; pointwise; exact elt m c t a b (fun g u => g * eSg g * u) _ ⟨768 + (x 1).val, by omega⟩ hx0 hx1
  · unfold_payloads; pointwise; exact elt m c t a b (fun g u => g * eSg g * u) _ ⟨512 + (x 1).val, by omega⟩ hx0 hx1
  · unfold_payloads; pointwise; exact elt m c t a b (fun g u => g * eSg g * u) _ ⟨256 + (x 1).val, by omega⟩ hx0 hx1
  · unfold_payloads; pointwise; exact elt m c t a b (fun g u => g * eSg g * u) _ ⟨(x 1).val, by omega⟩ hx0 hx1

theorem up_arr : (dats m 0 c).arrAt 3 cfg0.N = Cert.GateupFwdReferenceIdeal.Read.val_main_v6 (F := Ideal) (aH m c) (aU m c) := by
  refine (dats m 0 c).arrAt_eq_of_covers 3 _ (by decide +kernel) fun t hf y => ?_
  obtain ⟨a, b, rfl⟩ : ∃ (a : Fin 352) (b : Fin 1408), y = ix2 a b := ⟨y 0, y 1, eq_ix2 y⟩
  have e : ((View.whole main_v7_0).slice (win0_3.rect t)).emb (ix2 a b) = ix2 (row t a) (col (part t) b) := by blk_ext [idx t]
  blk_simp; rw [after0_3]
  exact (up_at m c t a b).trans ((up_ref (aH m c) (aU m c) (row t a) (col (part t) b)).symm.trans (congrArg _ e.symm))

theorem silu_arr : (dats m 0 c).arrAt 4 cfg0.N = Cert.GateupFwdReferenceIdeal.Read.val_main_v7 (F := Ideal) (aH m c) (aG m c) := by
  refine (dats m 0 c).arrAt_eq_of_covers 4 _ (by decide +kernel) fun t hf y => ?_
  obtain ⟨a, b, rfl⟩ : ∃ (a : Fin 352) (b : Fin 1408), y = ix2 a b := ⟨y 0, y 1, eq_ix2 y⟩
  have e : ((View.whole main_v7_1).slice (win0_4.rect t)).emb (ix2 a b) = ix2 (row t a) (col (part t) b) := by blk_ext [idx t]
  blk_simp; rw [after0_4]
  exact (silu_at m c t a b).trans ((silu_ref (aH m c) (aG m c) (row t a) (col (part t) b)).symm.trans (congrArg _ e.symm))

theorem dsilu_arr : (dats m 0 c).arrAt 5 cfg0.N = Cert.GateupFwdReferenceIdeal.Read.val_main_v8 (F := Ideal) (aH m c) (aG m c) := by
  refine (dats m 0 c).arrAt_eq_of_covers 5 _ (by decide +kernel) fun t hf y => ?_
  obtain ⟨a, b, rfl⟩ : ∃ (a : Fin 352) (b : Fin 1408), y = ix2 a b := ⟨y 0, y 1, eq_ix2 y⟩
  have e : ((View.whole main_v7_2).slice (win0_5.rect t)).emb (ix2 a b) = ix2 (row t a) (col (part t) b) := by blk_ext [idx t]
  blk_simp; rw [after0_5]
  exact (dsilu_at m c t a b).trans ((dsilu_ref (aH m c) (aG m c) (row t a) (col (part t) b)).symm.trans (congrArg _ e.symm))

theorem act_arr : (dats m 0 c).arrAt 6 cfg0.N = Cert.GateupFwdReferenceIdeal.Read.val_main_v9 (F := Ideal) (aH m c) (aG m c) (aU m c) := by
  refine (dats m 0 c).arrAt_eq_of_covers 6 _ (by decide +kernel) fun t hf y => ?_
  obtain ⟨a, b, rfl⟩ : ∃ (a : Fin 352) (b : Fin 1408), y = ix2 a b := ⟨y 0, y 1, eq_ix2 y⟩
  have e : ((View.whole main_v7_3).slice (win0_6.rect t)).emb (ix2 a b) = ix2 (row t a) (col (part t) b) := by blk_ext [idx t]
  blk_simp; rw [after0_6]
  exact (act_at m c t a b).trans ((act_ref (aH m c) (aG m c) (aU m c) (row t a) (col (part t) b)).symm.trans (congrArg _ e.symm))

end Cert.GateupFwdKernelIdeal.Spec

namespace Cert.GateupFwd

open Idealize.ShloMosaic Idealize.SL.Sem

theorem frame_reference : Cert.quiescent_GateupFwdReferenceIdeal := fun m ρ _ =>
  (θ_run Cert.GateupFwdReferenceIdeal.defs _ _).mono (fun r h => ⟨fun c => (h c).2.2.2.2,
    Idealize.ShloMosaic.sem_eq_zero_of_no_sems (by decide) r.2⟩) (Cert.GateupFwdReferenceIdeal.Value.run (F := Ideal) m ρ)

theorem algebraic : Cert.algebraic_GateupFwdKernelIdeal_GateupFwdReferenceIdeal := by
  intro m g m' g' hpre hargs
  refine ⟨fun c => (Cert.GateupFwdKernelIdeal.Gen.dats m 0 c).arrAt 3 Cert.GateupFwdKernelIdeal.cfg0.N,
    fun c => (Cert.GateupFwdKernelIdeal.Gen.dats m 0 c).arrAt 4 Cert.GateupFwdKernelIdeal.cfg0.N,
    fun c => (Cert.GateupFwdKernelIdeal.Gen.dats m 0 c).arrAt 5 Cert.GateupFwdKernelIdeal.cfg0.N,
    fun c => (Cert.GateupFwdKernelIdeal.Gen.dats m 0 c).arrAt 6 Cert.GateupFwdKernelIdeal.cfg0.N,
    Cert.GateupFwdKernelIdeal.Value.run_blocks m g, ?_⟩
  refine (θ_run Cert.GateupFwdReferenceIdeal.defs _ _).mono (fun r h c => ?_) (Cert.GateupFwdReferenceIdeal.Value.run (F := Ideal) m' g')
  obtain ⟨h0, h1, h2, h3, hk⟩ := h c
  obtain ⟨a0, a1, a2⟩ := hargs c
  refine ⟨h0.trans ?_, h1.trans ?_, h2.trans ?_, h3.trans ?_, hk⟩
  · rw [Cert.GateupFwdReferenceIdeal.Read.val_main_v6_eq, a0, a2]
    exact (Cert.GateupFwdKernelIdeal.Spec.up_arr m c).symm
  · rw [Cert.GateupFwdReferenceIdeal.Read.val_main_v7_eq, a0, a1]
    exact (Cert.GateupFwdKernelIdeal.Spec.silu_arr m c).symm
  · rw [Cert.GateupFwdReferenceIdeal.Read.val_main_v8_eq, a0, a1]
    exact (Cert.GateupFwdKernelIdeal.Spec.dsilu_arr m c).symm
  · rw [Cert.GateupFwdReferenceIdeal.Read.val_main_v9_eq, a0, a1, a2]
    exact (Cert.GateupFwdKernelIdeal.Spec.act_arr m c).symm

end Cert.GateupFwd
-- ==== Proof.Window.Forward.lean ====
module

public import proofs.«01_k».proof.Defs
public import proofs.«01_k».proof.Proof.Window.Claims
public import proofs.«01_k».proof.Proof.Gen.Pre_window_fwd_finite
public import proofs.«01_k».proof.Proof.Gen.WindowFwdKernelIdeal.Value
public import proofs.«01_k».proof.Proof.Gen.WindowFwdReferenceIdeal
public import proofs.«01_k».proof.Proof.Gen.WindowFwdReferenceIdeal.Read
public import proofs.«01_k».proof.Proof.Gen.WindowFwdReferenceIdeal.Run

/-! The causal windowed means of the forward pass: the kernel and the plain lines, on finite rows. -/

@[expose] public section

set_option maxRecDepth 16384

noncomputable section

namespace Cert.WindowFwd

open Idealize.ShloMosaic Cert.WindowFwdReferenceIdeal
open Cert.Window (win)
open Cert.Act (padz padz_lo padz_ge)

variable (H : S2064x2048.Idx → ℝ) (j : Fin 2048)

/-- The input of row `t`, zero past the last row. -/
def hz (t : ℕ) : ℝ := if h : t < 2064 then H (ix2 ⟨t, h⟩ j) else 0

/-- The sum of the last `w` rows up to row `t`, of fewer at the beginning. -/
def acc (w t : ℕ) : ℝ := ∑ k ∈ Finset.range w, if k ≤ t then hz H j (t - k) else 0

/-- A row's mean less the row. -/
def mean (w t : ℕ) : ℝ := acc H j w t / ((min (t + 1) w : ℕ) : ℝ) - hz H j t

/-- The means, with 48 rows of zeros in front. -/
def res (y : S2112x2048.Idx) : EReal := ((padz (fun t j => mean H j (win j) t.val) (y 0) (y 1) : ℝ) : EReal)

/-- The difference of two sums from the first row on. -/
theorem acc_diff (w t : ℕ) :
    ∑ n ∈ Finset.range (t + 1), hz H j n - ∑ n ∈ Finset.range (t + 1 - w), hz H j n = acc H j w t := by
  unfold acc
  induction w with
  | zero => simp
  | succ w ih =>
    rw [Finset.sum_range_succ (n := w), ← ih]
    by_cases h : w ≤ t
    · rw [if_pos h, show t + 1 - w = t - w + 1 by omega, show t + 1 - (w + 1) = t - w by omega, Finset.sum_range_succ (n := t - w)]; ring
    · rw [if_neg h, show t + 1 - w = 0 by omega, show t + 1 - (w + 1) = 0 by omega, add_zero]

/-- The 2112 rows with those of zeros, without an end: row `n` holds what row `n mod 2112` does. -/
def ring (n : ℕ) : ℝ := if n % 2112 < 48 then 0 else hz H j (n % 2112 - 48)

theorem ring_mod (n : ℕ) : ring H j (n % 2112) = ring H j n := by unfold ring; rw [Nat.mod_mod]

theorem ring_acc {a w : ℕ} (ha : 48 ≤ a) (ha' : a < 2112) (hw : w ≤ 16) :
    ∑ k ∈ Finset.range w, ring H j (a + 2112 - k) = acc H j w (a - 48) := by
  unfold acc
  refine Finset.sum_congr rfl fun k hk => ?_
  have hk := Finset.mem_range.1 hk
  unfold ring
  rw [show (a + 2112 - k) % 2112 = a - k by omega]
  by_cases h : k ≤ a - 48
  · rw [if_pos h, if_neg (by omega)]; exact congrArg _ (by omega)
  · rw [if_neg h, if_pos (by omega)]

end Cert.WindowFwd

namespace Cert.Pre_window_fwd_finite

open Idealize.ShloMosaic

theorem finite [Facts] (h0 : S2064x2048.Idx → EReal) (h : fn (F := Ideal) h0 = fun _ => 1#1) :
    ∃ H : S2064x2048.Idx → ℝ, h0 = fun i => ((H i : ℝ) : EReal) := by
  have h1 := congrFun h ix0
  dsimp only [fn] at h1
  haveI : Subsingleton S_.Idx := ⟨fun a b => funext fun k => k.elim0⟩
  exact Lift.real_of_all h0 _ _ _ _ _ _ h1

end Cert.Pre_window_fwd_finite

namespace Cert.WindowFwdReferenceIdeal.Spec

open Cert.WindowFwdReferenceIdeal Idealize.ShloMosaic Idealize.ShloMosaic.TcCoe Idealize.SL.Sem
open Cert.WindowFwd Words
open Cert.WindowReferenceIdeal.Spec (count_real)
open Cert.Act (padz padz_lo padz_ge)

variable (H : S2064x2048.Idx → ℝ)

/-- The real numbers as an array of extended reals. -/
local notation "↟" X => fun i => ((X i : ℝ) : EReal)

/-- The column of the array at column `k` of group `g`. -/
abbrev col (g : Fin 4) (k : Fin 512) : Fin 2048 := ⟨g.val * 512 + k.val, by omega⟩

theorem v0 (t : Fin 2064) (g : Fin 4) (k : Fin 512) : Read.val_main_v0 (F := Ideal) (↟H) (ix3 t g k) = ((hz H (col g k) t.val : ℝ) : EReal) := by
  unfold Read.val_main_v0
  pointwise
  unfold hz
  rw [dif_pos t.isLt]

/-- A window that ends at row `i` and is as long as the array: the sum of the rows up to `i`. -/
theorem cumsum {x : S2064x4x512.Idx → EReal} {v : S_.Idx → EReal} {f : Fin 2064 → ℝ} {g : Fin 4} {d : Fin 512}
    (hx : ∀ i, x (ix3 i g d) = ((f i : ℝ) : EReal)) (hv : ∀ u, v u = 0)
    (h : S2064x4x512.ReduceWindows ![2064, 1, 1] ![1, 1, 1] ![2063, 0, 0] ![0, 0, 0] S2064x4x512) (hu : 0 < S_.numel) (i : Fin 2064) :
    Host.reduceWindowAdd (F := Ideal) (φ := .f32) ![2064, 1, 1] ![1, 1, 1] ![2063, 0, 0] ![0, 0, 0] x v h hu (ix3 i g d)
      = ((∑ y, if y ≤ i then f y else 0 : ℝ) : EReal) := by
  unfold Host.reduceWindowAdd
  rw [Ideal.hostReduceWindowAdd_def]
  unfold Ideal.hostReduceWindowAdd Host.reduceWindow
  simp only [hv]
  refine (sum_idx_eq_foldl (M := EReal) (⟨3, ![2064, 1, 1]⟩ : Shape) (fun w => if hin : ∀ a : Fin 3,
      (![2063, 0, 0] : Fin 3 → ℕ) a ≤ (ix3 i g d a).val * (![1, 1, 1] : Fin 3 → ℕ) a + (w a).val
          ∧ (ix3 i g d a).val * (![1, 1, 1] : Fin 3 → ℕ) a + (w a).val - (![2063, 0, 0] : Fin 3 → ℕ) a < S2064x4x512.size a
        then x (fun a => ⟨_, (hin a).2⟩) else 0)).symm.trans ?_
  rw [sum_idx3]
  simp only [Fin.sum_univ_one]
  rw [← Lift.coe_sum]
  refine Finset.sum_nbij' (fun b : Fin 2064 => (⟨(i.val + b.val + 1) % 2064, by omega⟩ : Fin 2064))
    (fun y => (⟨(y.val + 2063 - i.val) % 2064, by omega⟩ : Fin 2064)) (fun _ _ => Finset.mem_univ _) (fun _ _ => Finset.mem_univ _)
    (fun b _ => Fin.ext (by show ((i.val + b.val + 1) % 2064 + 2063 - i.val) % 2064 = b.val; omega))
    (fun y _ => Fin.ext (by show (i.val + (y.val + 2063 - i.val) % 2064 + 1) % 2064 = y.val; omega)) fun b _ => ?_
  by_cases hb : 2063 ≤ i.val + b.val
  · have e : (⟨(i.val + b.val + 1) % 2064, by omega⟩ : Fin 2064) = ⟨i.val + b.val - 2063, by omega⟩ :=
      Fin.ext (by show (i.val + b.val + 1) % 2064 = i.val + b.val - 2063; omega)
    have hin : ∀ a : Fin 3, (![2063, 0, 0] : Fin 3 → ℕ) a ≤ (ix3 i g d a).val * (![1, 1, 1] : Fin 3 → ℕ) a + (ix3 b (0 : Fin 1) (0 : Fin 1) a).val
          ∧ (ix3 i g d a).val * (![1, 1, 1] : Fin 3 → ℕ) a + (ix3 b (0 : Fin 1) (0 : Fin 1) a).val - (![2063, 0, 0] : Fin 3 → ℕ) a < S2064x4x512.size a := by
      intro a
      fin_cases a
      · show 2063 ≤ i.val * 1 + b.val ∧ i.val * 1 + b.val - 2063 < 2064; omega
      · show 0 ≤ g.val * 1 + 0 ∧ g.val * 1 + 0 - 0 < 4; omega
      · show 0 ≤ d.val * 1 + 0 ∧ d.val * 1 + 0 - 0 < 512; omega
    rw [dif_pos hin, e, if_pos (show (⟨i.val + b.val - 2063, by omega⟩ : Fin 2064) ≤ i from (show i.val + b.val - 2063 ≤ i.val by omega)), ← hx]
    congr 1
    funext a
    fin_cases a
    · exact Fin.ext (show i.val * 1 + b.val - 2063 = i.val + b.val - 2063 by omega)
    · exact Fin.ext (show g.val * 1 + 0 - 0 = g.val by omega)
    · exact Fin.ext (show d.val * 1 + 0 - 0 = d.val by omega)
  · rw [dif_neg fun hin => hb (by have := (hin 0).1; have e : 2063 ≤ i.val * 1 + b.val := this; omega),
      if_neg (fun hle => by have e : (i.val + b.val + 1) % 2064 ≤ i.val := hle; omega)]
    rfl

/-- The sum of the rows up to `t`. -/
theorem v1 (t : Fin 2064) (g : Fin 4) (k : Fin 512) : Read.val_main_v1 (F := Ideal) (↟H) (ix3 t g k)
    = ((∑ n ∈ Finset.range (t.val + 1), hz H (col g k) n : ℝ) : EReal) := by
  unfold Read.val_main_v1
  refine (cumsum (fun i => v0 H i g k) (fun _ => zero_bits) _ _ t).trans (congrArg _ ?_)
  refine (Fin.sum_univ_eq_sum_range (fun n => if n ≤ t.val then hz H (col g k) n else 0) 2064).trans ?_
  rw [show Finset.range 2064 = Finset.range (t.val + 1 + (2063 - t.val)) by congr 1; omega, Finset.sum_range_add,
    Finset.sum_eq_zero (f := fun n => if t.val + 1 + n ≤ t.val then hz H (col g k) (t.val + 1 + n) else 0) fun n _ => if_neg (by omega), add_zero]
  exact Finset.sum_congr rfl fun n hn => if_pos (by have := Finset.mem_range.1 hn; omega)

/-- The sum up to `t` less the sum up to `w` rows before, divided by the number of rows between, less the row. -/
theorem group (w : ℕ) (hw : 0 < w) (g : Fin 4) (k : Fin 512) (t : Fin 2064) {r : EReal}
    (hr : r = if h : t.val < w then 0 else Read.val_main_v1 (F := Ideal) (↟H) (ix3 ⟨t.val - w, by omega⟩ g k)) :
    Ideal.div (Read.val_main_v1 (F := Ideal) (↟H) (ix3 t g k) - r) (((min (t.val + 1) w : ℕ) : ℝ) : EReal) - Read.val_main_v0 (F := Ideal) (↟H) (ix3 t g k)
      = ((mean H (col g k) w t.val : ℝ) : EReal) := by
  have e : r = ((∑ n ∈ Finset.range (t.val + 1 - w), hz H (col g k) n : ℝ) : EReal) := by
    rw [hr]
    by_cases h : t.val < w
    · rw [dif_pos h, show t.val + 1 - w = 0 by omega, Finset.sum_range_zero, EReal.coe_zero]
    · rw [dif_neg h, v1]
      show ((∑ n ∈ Finset.range (t.val - w + 1), hz H (col g k) n : ℝ) : EReal) = _
      rw [show t.val - w + 1 = t.val + 1 - w by omega]
  rw [e, v1, v0, ← EReal.coe_sub, acc_diff, Lift.div_real _ (Nat.cast_ne_zero.2 (by omega)), ← EReal.coe_sub]
  rfl

theorem n0 (t : Fin 2064) : Read.val_main_v13 (F := Ideal) (ix2 t 0) = (((min (t.val + 1) 2 : ℕ) : ℝ) : EReal) := by
  unfold Read.val_main_v13 Read.val_main_v12 Read.val_main_v11 Read.val_main_v10 Read.val_main_v9 Read.val_main_v8 Read.val_main_c Read.val_main_c_0 Read.val_main_v2
  pointwise
  exact count_real (a := 0) rfl

theorem g0 (t : Fin 2064) (k : Fin 512) : Read.val_main_v19 (F := Ideal) (↟H) (ix2 t k) = ((mean H (col 0 k) 2 t.val : ℝ) : EReal) := by
  unfold Read.val_main_v19 Read.val_main_v18 Read.val_main_v17 Read.val_main_v16 Read.val_main_v15 Read.val_main_v14 Read.val_main_v7 Read.val_main_v6 Read.val_main_v5 Read.val_main_v4 Read.val_main_v3 Read.val_main_cst
  pointwise
  rw [n0]
  exact group H 2 (by decide) 0 k t rfl

theorem n1 (t : Fin 2064) : Read.val_main_v30 (F := Ideal) (ix2 t 0) = (((min (t.val + 1) 4 : ℕ) : ℝ) : EReal) := by
  unfold Read.val_main_v30 Read.val_main_v29 Read.val_main_v28 Read.val_main_v27 Read.val_main_v26 Read.val_main_v25 Read.val_main_c_2 Read.val_main_c_3 Read.val_main_v2
  pointwise
  exact count_real (a := 1) rfl

theorem g1 (t : Fin 2064) (k : Fin 512) : Read.val_main_v36 (F := Ideal) (↟H) (ix2 t k) = ((mean H (col 1 k) 4 t.val : ℝ) : EReal) := by
  unfold Read.val_main_v36 Read.val_main_v35 Read.val_main_v34 Read.val_main_v33 Read.val_main_v32 Read.val_main_v31 Read.val_main_v24 Read.val_main_v23 Read.val_main_v22 Read.val_main_v21 Read.val_main_v20 Read.val_main_cst_1
  pointwise
  rw [n1]
  exact group H 4 (by decide) 1 k t rfl

theorem n2 (t : Fin 2064) : Read.val_main_v47 (F := Ideal) (ix2 t 0) = (((min (t.val + 1) 8 : ℕ) : ℝ) : EReal) := by
  unfold Read.val_main_v47 Read.val_main_v46 Read.val_main_v45 Read.val_main_v44 Read.val_main_v43 Read.val_main_v42 Read.val_main_c_5 Read.val_main_c_6 Read.val_main_v2
  pointwise
  exact count_real (a := 2) rfl

theorem g2 (t : Fin 2064) (k : Fin 512) : Read.val_main_v53 (F := Ideal) (↟H) (ix2 t k) = ((mean H (col 2 k) 8 t.val : ℝ) : EReal) := by
  unfold Read.val_main_v53 Read.val_main_v52 Read.val_main_v51 Read.val_main_v50 Read.val_main_v49 Read.val_main_v48 Read.val_main_v41 Read.val_main_v40 Read.val_main_v39 Read.val_main_v38 Read.val_main_v37 Read.val_main_cst_4
  pointwise
  rw [n2]
  exact group H 8 (by decide) 2 k t rfl

theorem n3 (t : Fin 2064) : Read.val_main_v64 (F := Ideal) (ix2 t 0) = (((min (t.val + 1) 16 : ℕ) : ℝ) : EReal) := by
  unfold Read.val_main_v64 Read.val_main_v63 Read.val_main_v62 Read.val_main_v61 Read.val_main_v60 Read.val_main_v59 Read.val_main_c_8 Read.val_main_c_9 Read.val_main_v2
  pointwise
  exact count_real (a := 3) rfl

theorem g3 (t : Fin 2064) (k : Fin 512) : Read.val_main_v70 (F := Ideal) (↟H) (ix2 t k) = ((mean H (col 3 k) 16 t.val : ℝ) : EReal) := by
  unfold Read.val_main_v70 Read.val_main_v69 Read.val_main_v68 Read.val_main_v67 Read.val_main_v66 Read.val_main_v65 Read.val_main_v58 Read.val_main_v57 Read.val_main_v56 Read.val_main_v55 Read.val_main_v54 Read.val_main_cst_7
  pointwise
  rw [n3]
  exact group H 16 (by decide) 3 k t rfl

theorem v75 (t : Fin 2064) (g : Fin 4) (k : Fin 512) : Read.val_main_v75 (F := Ideal) (↟H) (ix3 t g k)
    = ((mean H (col g k) (2 ^ (g.val + 1)) t.val : ℝ) : EReal) := by
  unfold Read.val_main_v75 Read.val_main_v71 Read.val_main_v72 Read.val_main_v73 Read.val_main_v74
  pointwise
  fin_cases g
  · exact g0 H t k
  · exact g1 H t k
  · exact g2 H t k
  · exact g3 H t k

theorem v76 (t : Fin 2064) (j : Fin 2048) : Read.val_main_v76 (F := Ideal) (↟H) (ix2 t j) = ((mean H j (Cert.Window.win j) t.val : ℝ) : EReal) := by
  unfold Read.val_main_v76
  pointwise
  rw [v75]
  exact congrArg (fun j' => ((mean H j' (Cert.Window.win j) t.val : ℝ) : EReal)) (Fin.ext (by show j.val / 512 * 512 + j.val % 512 = j.val; omega))

theorem res_ref : Read.val_main_v79 (F := Ideal) (↟H) = res H := by
  funext y
  rw [eq_ix2 y]
  unfold Read.val_main_v79 Read.val_main_v78 Read.val_main_v77 Read.val_main_cst_10
  pointwise
  unfold res padz
  by_cases h : (y 0).val < 48
  · rw [dif_pos h, dif_pos h]; exact EReal.coe_zero.symm
  · rw [dif_neg h, dif_neg h]; exact v76 H _ _

end Cert.WindowFwdReferenceIdeal.Spec

namespace Cert.WindowFwdKernelIdeal.Spec

open Cert.WindowFwdKernelIdeal Cert.WindowFwdKernelIdeal.Gen Idealize.ShloMosaic Idealize.ShloMosaic.TcCoe Idealize.SL.Sem
open Idealize.ShloMosaic.Pipeline (Dat)
open Cert.WindowFwd Words
open Cert.Window (win)
open Cert.WindowKernelIdeal.Spec (grp grp_eq count ge48)
open Cert.Act (padz padz_lo padz_ge)

theorem idx : ∀ t : Fin cfg0.N, win0_0.index t = ![0, t.val] ∧ win0_1.index t = ![0, t.val] ∧ ((grid0.coords t) 0).val = t.val :=
  (by decide +kernel : ∀ t : Fin grid0.N, _)

/-- The column of the array at column `b` of block `t`. -/
abbrev col (t : Fin cfg0.N) (b : Fin 128) : Fin 2048 := ⟨t.val * 128 + b.val, by have := t.isLt; have : cfg0.N = 16 := rfl; omega⟩

section Block
variable {H : S2064x2048.Idx → ℝ} {j : Fin 2048} {b : Fin 128}

/-- The rows rotated by `w` and added: windows of twice the length. -/
theorem double {x : S2112x128.Idx → EReal} {w : ℕ} (hw : w ≤ 8)
    (hx : ∀ a : Fin 2112, x (ix2 a b) = ((∑ k ∈ Finset.range w, ring H j (a.val + 2112 - k) : ℝ) : EReal))
    (n : BitVec 32) (hn : n.toNat = w) (h : S2112x128.Rotates 0 none) (a : Fin 2112) :
    addf (F := Ideal) (φ := .f32) x (dynamicRotate 0 n none x h) (ix2 a b)
      = ((∑ k ∈ Finset.range (w + w), ring H j (a.val + 2112 - k) : ℝ) : EReal) := by
  have hr : ∀ k ∈ Finset.range w, ring H j ((a.val + 2112 - w) % 2112 + 2112 - k) = ring H j (a.val + 2112 - (w + k)) := fun k hk => by
    have := Finset.mem_range.1 hk
    rw [← ring_mod, ← ring_mod H j (a.val + 2112 - (w + k))]
    exact congrArg _ (by omega)
  have e : dynamicRotate 0 n none x h (ix2 a b) = x (ix2 (⟨(a.val + 2112 - w) % 2112, Nat.mod_lt _ (by omega)⟩ : Fin 2112) b) := by
    refine congrArg x ((eq_ix2 _).trans ?_)
    congr 1
    refine Fin.ext ?_
    show (a.val + 2112 - (n.toNat + 0) % 2112) % 2112 = (a.val + 2112 - w) % 2112
    rw [hn]; omega
  rw [Finset.sum_range_add, EReal.coe_add, ← Finset.sum_congr rfl hr]
  exact congrArg₂ (· + ·) (hx a) (e.trans (hx _))

/-- The chosen sum of a row, divided by the number of its rows, less the row itself. -/
theorem choose {q q0 : S2112x128.Idx → EReal} {d : S2112x1.Idx → EReal} {a : Fin 2112} {w : ℕ} (hw : win j = w)
    (hd : d (ix2 a 0) = ((((max (min (a.val + 1 - 48) (win j)) 1 : ℕ) : ℝ)) : EReal))
    (hx : q0 (ix2 a b) = ((padz (fun t j => hz H j t.val) a j : ℝ) : EReal))
    (hq : q (ix2 a b) = ((∑ k ∈ Finset.range w, ring H j (a.val + 2112 - k) : ℝ) : EReal)) :
    Scalar.select (IntOp.cmpi .sge (IntOp.subi (BitVec.ofNat 32 a.val) 48#32) 0#32) (Ideal.div (q (ix2 a b)) (d (ix2 a 0)) - q0 (ix2 a b)) 0
      = ((padz (fun t j => mean H j (win j) t.val) a j : ℝ) : EReal) := by
  rw [ge48 a, select_bool]
  by_cases h : 48 ≤ a.val
  · have h1 : 1 ≤ win j := Nat.one_le_two_pow
    have h16 : win j ≤ 16 := Nat.pow_le_pow_right (by omega) (show j.val / 512 + 1 ≤ 4 by omega)
    rw [if_pos h, hd, hq, hx, Lift.div_real _ (Nat.cast_ne_zero.2 (by omega)), ← EReal.coe_sub, padz_ge (by omega), padz_ge (by omega), ← hw,
      ring_acc H j h a.isLt h16]
    unfold mean
    rw [show max (min (a.val + 1 - 48) (win j)) 1 = min (a.val - 48 + 1) (win j) by omega]
  · rw [if_neg h, padz_lo (by omega), EReal.coe_zero]

variable {x : S2112x128.Idx → EReal} {i : grid0.Coords} (hi : (i 0).val / 4 = j.val / 512)
  (hx : ∀ a : Fin 2112, x (ix2 a b) = ((padz (fun t j => hz H j t.val) a j : ℝ) : EReal))
include hi hx

/-- What the body stores, of the four sums the one of the column's group. -/
theorem pick (a : Fin 2112) :
    k0_pay1 (F := Ideal) (grp (BitVec.ofNat 32 (i 0).val)) k0_pay3 (k0_pay4 i) (k0_pay5 x) (k0_pay6 x) (k0_pay7 x) (k0_pay8 x) (k0_pay9 x) 0#32 (ix2 a b)
      = ((padz (fun t j => mean H j (win j) t.val) a j : ℝ) : EReal) := by
  have hg := grp_eq (i 0)
  rw [hi] at hg
  have h0 : ∀ a : Fin 2112, k0_pay5 (F := Ideal) x (ix2 a b) = ((padz (fun t j => hz H j t.val) a j : ℝ) : EReal) := fun a => by
    unfold_payloads
    pointwise
    exact hx a
  have h1 : ∀ a : Fin 2112, k0_pay5 (F := Ideal) x (ix2 a b) = ((∑ k ∈ Finset.range 1, ring H j (a.val + 2112 - k) : ℝ) : EReal) := fun a => by
    rw [h0 a, Finset.sum_range_one]
    unfold ring
    rw [show (a.val + 2112 - 0) % 2112 = a.val by omega]
    by_cases h : a.val < 48
    · rw [padz_lo h, if_pos h]
    · rw [padz_ge h, if_neg h]
  have h2 := double (w := 1) (by omega) h1 1#32 (by decide) rotates_S2112x128_d0
  have h4 := double (w := 2) (by omega) h2 2#32 (by decide) rotates_S2112x128_d0
  have h8 := double (w := 4) (by omega) h4 4#32 (by decide) rotates_S2112x128_d0
  have h16 := double (w := 8) (by omega) h8 8#32 (by decide) rotates_S2112x128_d0
  have hd : k0_pay4 (F := Ideal) i (ix2 a 0) = ((((max (min (a.val + 1 - 48) (win j)) 1 : ℕ) : ℝ)) : EReal) := by
    unfold_payloads
    pointwise
    have hc := count ⟨j.val / 512, by omega⟩ a
    dsimp only at hc
    rw [← hg] at hc
    exact (congrArg (fun z : ℤ => ((z : ℝ) : EReal)) hc).trans (congrArg _ (Int.cast_natCast _))
  rw [hg]
  unfold k0_pay9 k0_pay8 k0_pay7 k0_pay6 k0_pay1
  dsimp only
  have h0 := h0 a
  have h2 := h2 a
  have h4 := h4 a
  have h8 := h8 a
  have h16 := h16 a
  generalize k0_pay5 (F := Ideal) x = q0 at *
  generalize addf (F := Ideal) (φ := .f32) q0 (dynamicRotate 0 1#32 none q0 rotates_S2112x128_d0) = q2 at *
  generalize addf (F := Ideal) (φ := .f32) q2 (dynamicRotate 0 2#32 none q2 rotates_S2112x128_d0) = q4 at *
  generalize addf (F := Ideal) (φ := .f32) q4 (dynamicRotate 0 4#32 none q4 rotates_S2112x128_d0) = q8 at *
  generalize addf (F := Ideal) (φ := .f32) q8 (dynamicRotate 0 8#32 none q8 rotates_S2112x128_d0) = q16 at *
  generalize k0_pay4 (F := Ideal) i = d at *
  unfold_payloads
  pointwise
  have hj : j.val / 512 = 0 ∨ j.val / 512 = 1 ∨ j.val / 512 = 2 ∨ j.val / 512 = 3 := by omega
  rcases hj with e | e | e | e <;> rw [e]
  · exact choose (by unfold win; rw [e]; norm_num) hd h0 h2
  · exact choose (by unfold win; rw [e]; norm_num) hd h0 h4
  · exact choose (by unfold win; rw [e]; norm_num) hd h0 h8
  · exact choose (by unfold win; rw [e]; norm_num) hd h0 h16

end Block

variable {m : (ℓ : Loc nD τ sig) → Buf (Elt Ideal) ℓ} {c : Dev nD} {H : S2064x2048.Idx → ℝ}
  (h : m ((c.tc : Thread nD τ).loc main_arg0) = fun i => ((H i : ℝ) : EReal))
include h

theorem V_0 (i : Fin 2112) (j : Fin 2048) :
    V m c (Pipeline.arrRef spec0 0) (ix2 i j) = ((padz (fun t j => hz H j t.val) i j : ℝ) : EReal) := by
  unfold V
  after_reads_at
  pointwise
  by_cases hi : i.val < 48
  · refine (dif_pos hi).trans ?_
    rw [padz_lo hi]
    exact EReal.coe_zero.symm
  · refine (dif_neg hi).trans ((congrFun h _).trans ?_)
    rw [padz_ge hi]
    unfold hz
    rw [dif_pos (show i.val - 48 < 2064 by omega)]

/-- The block of a grid point, as a plain function. -/
abbrev b0 (m : (ℓ : Loc nD τ sig) → Buf (Elt Ideal) ℓ) (c : Dev nD) (t : Fin cfg0.N) : S2112x128.Idx → EReal := iblk m c 0 t

theorem iblk_0 (t : Fin cfg0.N) (b : Fin 128) (a : Fin 2112) : b0 m c t (ix2 a b) = ((padz (fun t j => hz H j t.val) a (col t b) : ℝ) : EReal) := by
  rw [← V_0 h]; blk_ext [iblk, idx t]

theorem res_at (t : Fin cfg0.N) (a : Fin 2112) (b : Fin 128) : out0_1 (F := Ideal) (grid0.coords t) (iblk m c 0 t) (ix2 a b) = res H (ix2 a (col t b)) := by
  unfold out0_1; frame_open; frame_out
  have hi : ((grid0.coords t) 0).val / 4 = (col t b).val / 512 := by
    rw [(idx t).2.2]; show t.val / 4 = (t.val * 128 + b.val) / 512; omega
  exact pick hi (iblk_0 h t b) a

theorem res_arr : (dats m 0 c).arrAt 1 cfg0.N = res H := by
  refine (dats m 0 c).arrAt_eq_of_covers 1 _ (by decide +kernel) fun t hf y => ?_
  obtain ⟨a, b, rfl⟩ : ∃ (a : Fin 2112) (b : Fin 128), y = ix2 a b := ⟨y 0, y 1, eq_ix2 y⟩
  blk_simp; rw [after0_1]
  refine (res_at h t a b).trans ?_
  blk_ext [idx t]

end Cert.WindowFwdKernelIdeal.Spec

namespace Cert.WindowFwd

open Idealize.ShloMosaic Idealize.SL.Sem

theorem frame_reference : Cert.quiescent_WindowFwdReferenceIdeal := fun m ρ _ =>
  (θ_run Cert.WindowFwdReferenceIdeal.defs _ _).mono (fun r h => ⟨fun c => (h c).2,
    Idealize.ShloMosaic.sem_eq_zero_of_no_sems (by decide) r.2⟩) (Cert.WindowFwdReferenceIdeal.Value.run (F := Ideal) m ρ)

theorem algebraic [Cert.Pre_window_fwd_finite.Facts] : Cert.algebraic_WindowFwdKernelIdeal_WindowFwdReferenceIdeal_pre_window_fwd_finite := by
  intro m g m' g' hpre hargs
  refine ⟨fun c => (Cert.WindowFwdKernelIdeal.Gen.dats m 0 c).arrAt 1 Cert.WindowFwdKernelIdeal.cfg0.N,
    Cert.WindowFwdKernelIdeal.Value.run_blocks m g, ?_⟩
  refine (θ_run Cert.WindowFwdReferenceIdeal.defs _ _).mono (fun r h c => ?_) (Cert.WindowFwdReferenceIdeal.Value.run (F := Ideal) m' g')
  obtain ⟨h0, hk⟩ := h c
  obtain ⟨H, hH⟩ := Cert.Pre_window_fwd_finite.finite _ (hpre c)
  refine ⟨h0.trans ?_, hk⟩
  rw [Cert.WindowFwdReferenceIdeal.Read.val_main_v79_eq, hargs c, hH]
  exact (Cert.WindowFwdReferenceIdeal.Spec.res_ref H).trans (Cert.WindowFwdKernelIdeal.Spec.res_arr hH).symm

end Cert.WindowFwd
-- ==== Proof.Plain.lean ====
module

public import proofs.«01_k».proof.Defs
public import proofs.«01_k».proof.Proof.Gen.ProjKernelIdeal.Value
public import proofs.«01_k».proof.Proof.Gen.ProjReferenceIdeal
public import proofs.«01_k».proof.Proof.Gen.ProjReferenceIdeal.Read
public import proofs.«01_k».proof.Proof.Gen.ProjReferenceIdeal.Run
public import proofs.«01_k».proof.Proof.Gen.WgradKernelIdeal.Value
public import proofs.«01_k».proof.Proof.Gen.WgradReferenceIdeal
public import proofs.«01_k».proof.Proof.Gen.WgradReferenceIdeal.Read
public import proofs.«01_k».proof.Proof.Gen.WgradReferenceIdeal.Run
public import proofs.«01_k».proof.Proof.Gen.ResidKernelIdeal.Value
public import proofs.«01_k».proof.Proof.Gen.ResidReferenceIdeal
public import proofs.«01_k».proof.Proof.Gen.ResidReferenceIdeal.Read
public import proofs.«01_k».proof.Proof.Gen.ResidReferenceIdeal.Run
public import proofs.«01_k».proof.Proof.Gen.BackKernelIdeal.Value
public import proofs.«01_k».proof.Proof.Gen.BackReferenceIdeal
public import proofs.«01_k».proof.Proof.Gen.BackReferenceIdeal.Read
public import proofs.«01_k».proof.Proof.Gen.BackReferenceIdeal.Run
public import proofs.«01_k».proof.Proof.Gen.TotalKernelIdeal.Value
public import proofs.«01_k».proof.Proof.Gen.TotalReferenceIdeal
public import proofs.«01_k».proof.Proof.Gen.TotalReferenceIdeal.Read
public import proofs.«01_k».proof.Proof.Gen.TotalReferenceIdeal.Run
public import proofs.«01_k».proof.Proof.Gen.AdamKernelIdeal.Value
public import proofs.«01_k».proof.Proof.Gen.AdamReferenceIdeal
public import proofs.«01_k».proof.Proof.Gen.AdamReferenceIdeal.Read
public import proofs.«01_k».proof.Proof.Gen.AdamReferenceIdeal.Run
public import proofs.«01_k».proof.Proof.Mix.Spec
public import Idealize.ShloMosaic.Lib.Pipeline.ValueKit
public import Idealize.ShloMosaic.Lib.StableHlo.ReadAt
public import Idealize.ShloMosaic.Lib.Quiescent

/-! The calls that are one plain product (of the projection, of the output projection with the input added, of their
gradients), the sum over the devices and the optimiser: the kernel and the plain lines, finite or not. -/

@[expose] public section

set_option maxRecDepth 16384

noncomputable section

namespace Cert.ProjReferenceIdeal.Spec

open Cert.ProjReferenceIdeal Idealize.ShloMosaic Idealize.ShloMosaic.TcCoe Idealize.SL.Sem

/-- The product of the rows with the projection. -/
def out (A : S2112x2048.Idx → EReal) (B : S2048x6272.Idx → EReal) (i : Fin 2112) (j : Fin 6272) : EReal :=
  ∑ k : Fin 2048, A (ix2 i k) * B (ix2 k j)

theorem out_ref (A : S2112x2048.Idx → EReal) (B : S2048x6272.Idx → EReal) (i : Fin 2112) (j : Fin 6272) :
    Read.val_main_v0 (F := Ideal) A B (ix2 i j) = out A B i j := by
  rw [Read.val_main_v0_apply]
  exact Finset.sum_congr rfl fun k _ => congrArg₂ (· * ·) (congrArg A (eq_ix2 (Read.lidx_main_v0 _ k))) (congrArg B (eq_ix2 (Read.ridx_main_v0 _ k)))

end Cert.ProjReferenceIdeal.Spec

namespace Cert.ProjKernelIdeal.Spec

open Cert.ProjKernelIdeal Cert.ProjKernelIdeal.Gen Idealize.ShloMosaic Idealize.ShloMosaic.TcCoe Idealize.SL.Sem
open Idealize.ShloMosaic.Pipeline (Dat)
open Cert.ProjReferenceIdeal.Spec

theorem idx : ∀ t : Fin cfg0.N, win0_0.index t = ![t.val % 3, 0] ∧ win0_1.index t = ![0, t.val / 3] ∧ win0_2.index t = ![t.val % 3, t.val / 3] :=
  (by decide +kernel : ∀ t : Fin grid0.N, _)

/-- The row and the column of the result at row `a` and column `b` of block `t`. -/
abbrev row (t : Fin cfg0.N) (a : Fin 704) : Fin 2112 := ⟨t.val % 3 * 704 + a.val, by have := t.isLt; have : cfg0.N = 21 := rfl; omega⟩
abbrev col (t : Fin cfg0.N) (b : Fin 896) : Fin 6272 := ⟨t.val / 3 * 896 + b.val, by have := t.isLt; have : cfg0.N = 21 := rfl; omega⟩

variable (m : (ℓ : Loc nD τ sig) → Buf (Elt Ideal) ℓ) (c : Dev nD)

abbrev aA : S2112x2048.Idx → EReal := m ((c.tc : Thread nD τ).loc main_arg0)
abbrev aB : S2048x6272.Idx → EReal := m ((c.tc : Thread nD τ).loc main_arg1)

/-- The blocks of a grid point, as plain functions. -/
abbrev b0 (t : Fin cfg0.N) : S704x2048.Idx → EReal := iblk m c 0 t
abbrev b1 (t : Fin cfg0.N) : S2048x896.Idx → EReal := iblk m c 1 t

theorem V_0 (i : S2112x2048.Idx) : V m c (Pipeline.arrRef spec0 0) i = aA m c i := by
  unfold V
  after_reads_at

theorem V_1 (i : S2048x6272.Idx) : V m c (Pipeline.arrRef spec0 1) i = aB m c i := by
  unfold V
  after_reads_at

section Blocks
variable (t : Fin cfg0.N) (a : Fin 704) (b : Fin 896) (k : Fin 2048)
theorem iblk_0 : b0 m c t (ix2 a k) = aA m c (ix2 (row t a) k) := by
  rw [← V_0]; blk_ext [iblk, idx t]
theorem iblk_1 : b1 m c t (ix2 k b) = aB m c (ix2 k (col t b)) := by
  rw [← V_1]; blk_ext [iblk, idx t]

theorem out_at : (out0_2 (iblk m c 0 t) (iblk m c 1 t)) (ix2 a b) = out (aA m c) (aB m c) (row t a) (col t b) := by
  have key : ∑ k, b0 m c t (ix2 a k) * b1 m c t (ix2 k b) = out (aA m c) (aB m c) (row t a) (col t b) := by
    simp only [iblk_0, iblk_1]
    rfl
  rw [← key]
  frame_out; unfold_payloads; pointwise
end Blocks

theorem out_arr : (dats m 0 c).arrAt 2 cfg0.N = Cert.ProjReferenceIdeal.Read.val_main_v0 (F := Ideal) (aA m c) (aB m c) := by
  refine (dats m 0 c).arrAt_eq_of_covers 2 _ (by decide +kernel) fun t hf y => ?_
  obtain ⟨a, b, rfl⟩ : ∃ (a : Fin 704) (b : Fin 896), y = ix2 a b := ⟨y 0, y 1, eq_ix2 y⟩
  have e : ((View.whole main_v2).slice (win0_2.rect t)).emb (ix2 a b) = ix2 (row t a) (col t b) := by blk_ext [idx t]
  blk_simp; rw [after0_2]
  exact (out_at m c t a b).trans ((out_ref _ _ (row t a) (col t b)).symm.trans (congrArg _ e.symm))

end Cert.ProjKernelIdeal.Spec

namespace Cert.Proj

open Idealize.ShloMosaic Idealize.SL.Sem

theorem frame_reference : Cert.quiescent_ProjReferenceIdeal := fun m ρ _ =>
  (θ_run Cert.ProjReferenceIdeal.defs _ _).mono (fun r h => ⟨fun c => (h c).2,
    Idealize.ShloMosaic.sem_eq_zero_of_no_sems (by decide) r.2⟩) (Cert.ProjReferenceIdeal.Value.run (F := Ideal) m ρ)

theorem algebraic : Cert.algebraic_ProjKernelIdeal_ProjReferenceIdeal := by
  intro m g m' g' hpre hargs
  refine ⟨fun c => (Cert.ProjKernelIdeal.Gen.dats m 0 c).arrAt 2 Cert.ProjKernelIdeal.cfg0.N,
    Cert.ProjKernelIdeal.Value.run_blocks m g, ?_⟩
  refine (θ_run Cert.ProjReferenceIdeal.defs _ _).mono (fun r h c => ?_) (Cert.ProjReferenceIdeal.Value.run (F := Ideal) m' g')
  obtain ⟨h0, hk⟩ := h c
  obtain ⟨a0, a1⟩ := hargs c
  refine ⟨h0.trans ?_, hk⟩
  rw [Cert.ProjReferenceIdeal.Read.val_main_v0_eq, a0, a1]
  exact (Cert.ProjKernelIdeal.Spec.out_arr m c).symm

end Cert.Proj

namespace Cert.WgradReferenceIdeal.Spec

open Cert.WgradReferenceIdeal Idealize.ShloMosaic Idealize.ShloMosaic.TcCoe Idealize.SL.Sem

/-- The product, over the rows, of one array with another. -/
def out (A : S2112x2048.Idx → EReal) (B : S2112x2048.Idx → EReal) (i : Fin 2048) (j : Fin 2048) : EReal :=
  ∑ k : Fin 2112, A (ix2 k i) * B (ix2 k j)

theorem out_ref (A : S2112x2048.Idx → EReal) (B : S2112x2048.Idx → EReal) (i : Fin 2048) (j : Fin 2048) :
    Read.val_main_v2 (F := Ideal) A B (ix2 i j) = out A B i j := by
  refine (Read.val_main_v1_apply A B _).trans (Finset.sum_congr rfl fun k _ => congrArg₂ (· * ·) ?_ (congrArg B (eq_ix2 (Read.ridx_main_v1 _ k))))
  exact (Read.val_main_v0_apply (F := Ideal) A _).trans (congrArg A (eq_ix2 (Read.idx_main_v0 _)))

end Cert.WgradReferenceIdeal.Spec

namespace Cert.WgradKernelIdeal.Spec

open Cert.WgradKernelIdeal Cert.WgradKernelIdeal.Gen Idealize.ShloMosaic Idealize.ShloMosaic.TcCoe Idealize.SL.Sem
open Idealize.ShloMosaic.Pipeline (Dat)
open Cert.WgradReferenceIdeal.Spec

theorem idx : ∀ t : Fin cfg0.N, win0_0.index t = ![0, t.val % 4] ∧ win0_1.index t = ![0, t.val / 4] ∧ win0_2.index t = ![t.val % 4, t.val / 4] :=
  (by decide +kernel : ∀ t : Fin grid0.N, _)

/-- The row and the column of the result at row `a` and column `b` of block `t`. -/
abbrev row (t : Fin cfg0.N) (a : Fin 512) : Fin 2048 := ⟨t.val % 4 * 512 + a.val, by have := t.isLt; have : cfg0.N = 16 := rfl; omega⟩
abbrev col (t : Fin cfg0.N) (b : Fin 512) : Fin 2048 := ⟨t.val / 4 * 512 + b.val, by have := t.isLt; have : cfg0.N = 16 := rfl; omega⟩

variable (m : (ℓ : Loc nD τ sig) → Buf (Elt Ideal) ℓ) (c : Dev nD)

abbrev aA : S2112x2048.Idx → EReal := m ((c.tc : Thread nD τ).loc main_arg0)
abbrev aB : S2112x2048.Idx → EReal := m ((c.tc : Thread nD τ).loc main_arg1)

/-- The blocks of a grid point, as plain functions. -/
abbrev b0 (t : Fin cfg0.N) : S2112x512.Idx → EReal := iblk m c 0 t
abbrev b1 (t : Fin cfg0.N) : S2112x512.Idx → EReal := iblk m c 1 t

theorem V_0 (i : S2112x2048.Idx) : V m c (Pipeline.arrRef spec0 0) i = aA m c i := by
  unfold V
  after_reads_at

theorem V_1 (i : S2112x2048.Idx) : V m c (Pipeline.arrRef spec0 1) i = aB m c i := by
  unfold V
  after_reads_at

section Blocks
variable (t : Fin cfg0.N) (a : Fin 512) (b : Fin 512) (k : Fin 2112)
theorem iblk_0 : b0 m c t (ix2 k a) = aA m c (ix2 k (row t a)) := by
  rw [← V_0]; blk_ext [iblk, idx t]
theorem iblk_1 : b1 m c t (ix2 k b) = aB m c (ix2 k (col t b)) := by
  rw [← V_1]; blk_ext [iblk, idx t]

theorem out_at : (out0_2 (iblk m c 0 t) (iblk m c 1 t)) (ix2 a b) = out (aA m c) (aB m c) (row t a) (col t b) := by
  have key : ∑ k, b0 m c t (ix2 k a) * b1 m c t (ix2 k b) = out (aA m c) (aB m c) (row t a) (col t b) := by
    simp only [iblk_0, iblk_1]
    rfl
  rw [← key]
  frame_out; unfold_payloads; pointwise
end Blocks

theorem out_arr : (dats m 0 c).arrAt 2 cfg0.N = Cert.WgradReferenceIdeal.Read.val_main_v2 (F := Ideal) (aA m c) (aB m c) := by
  refine (dats m 0 c).arrAt_eq_of_covers 2 _ (by decide +kernel) fun t hf y => ?_
  obtain ⟨a, b, rfl⟩ : ∃ (a : Fin 512) (b : Fin 512), y = ix2 a b := ⟨y 0, y 1, eq_ix2 y⟩
  have e : ((View.whole main_v1).slice (win0_2.rect t)).emb (ix2 a b) = ix2 (row t a) (col t b) := by blk_ext [idx t]
  blk_simp; rw [after0_2]
  exact (out_at m c t a b).trans ((out_ref _ _ (row t a) (col t b)).symm.trans (congrArg _ e.symm))

end Cert.WgradKernelIdeal.Spec

namespace Cert.Wgrad

open Idealize.ShloMosaic Idealize.SL.Sem

theorem frame_reference : Cert.quiescent_WgradReferenceIdeal := fun m ρ _ =>
  (θ_run Cert.WgradReferenceIdeal.defs _ _).mono (fun r h => ⟨fun c => (h c).2,
    Idealize.ShloMosaic.sem_eq_zero_of_no_sems (by decide) r.2⟩) (Cert.WgradReferenceIdeal.Value.run (F := Ideal) m ρ)

theorem algebraic : Cert.algebraic_WgradKernelIdeal_WgradReferenceIdeal := by
  intro m g m' g' hpre hargs
  refine ⟨fun c => (Cert.WgradKernelIdeal.Gen.dats m 0 c).arrAt 2 Cert.WgradKernelIdeal.cfg0.N,
    Cert.WgradKernelIdeal.Value.run_blocks m g, ?_⟩
  refine (θ_run Cert.WgradReferenceIdeal.defs _ _).mono (fun r h c => ?_) (Cert.WgradReferenceIdeal.Value.run (F := Ideal) m' g')
  obtain ⟨h0, hk⟩ := h c
  obtain ⟨a0, a1⟩ := hargs c
  refine ⟨h0.trans ?_, hk⟩
  rw [Cert.WgradReferenceIdeal.Read.val_main_v2_eq, a0, a1]
  exact (Cert.WgradKernelIdeal.Spec.out_arr m c).symm

end Cert.Wgrad

namespace Cert.ResidReferenceIdeal.Spec

open Cert.ResidReferenceIdeal Idealize.ShloMosaic Idealize.ShloMosaic.TcCoe Idealize.SL.Sem

/-- The input with the product of the rows and the output projection added. -/
def out (A : S2112x2048.Idx → EReal) (B : S2048x2048.Idx → EReal) (X : S2112x2048.Idx → EReal) (i : Fin 2112) (j : Fin 2048) : EReal :=
  X (ix2 i j) + ∑ k : Fin 2048, A (ix2 i k) * B (ix2 k j)

theorem out_ref (A : S2112x2048.Idx → EReal) (B : S2048x2048.Idx → EReal) (X : S2112x2048.Idx → EReal) (i : Fin 2112) (j : Fin 2048) :
    Read.val_main_v1 (F := Ideal) A B X (ix2 i j) = out A B X i j := by
  rw [Read.val_main_v1_apply, Read.val_main_v0_apply, Ideal.addf_def]
  exact congrArg (X (ix2 i j) + ·) (Finset.sum_congr rfl fun k _ => congrArg₂ (· * ·) (congrArg A (eq_ix2 (Read.lidx_main_v0 _ k))) (congrArg B (eq_ix2 (Read.ridx_main_v0 _ k))))

end Cert.ResidReferenceIdeal.Spec

namespace Cert.ResidKernelIdeal.Spec

open Cert.ResidKernelIdeal Cert.ResidKernelIdeal.Gen Idealize.ShloMosaic Idealize.ShloMosaic.TcCoe Idealize.SL.Sem
open Idealize.ShloMosaic.Pipeline (Dat)
open Cert.ResidReferenceIdeal.Spec

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row and the column of the result at row `a` and column `b` of block `t`. -/
abbrev row (t : Fin cfg0.N) (a : Fin 352) : Fin 2112 := ⟨t.val * 352 + a.val, by have := t.isLt; have : cfg0.N = 6 := rfl; omega⟩
abbrev col (t : Fin cfg0.N) (b : Fin 2048) : Fin 2048 := b

variable (m : (ℓ : Loc nD τ sig) → Buf (Elt Ideal) ℓ) (c : Dev nD)

abbrev aA : S2112x2048.Idx → EReal := m ((c.tc : Thread nD τ).loc main_arg0)
abbrev aB : S2048x2048.Idx → EReal := m ((c.tc : Thread nD τ).loc main_arg1)
abbrev aX : S2112x2048.Idx → EReal := m ((c.tc : Thread nD τ).loc main_arg2)

/-- The blocks of a grid point, as plain functions. -/
abbrev b0 (t : Fin cfg0.N) : S352x2048.Idx → EReal := iblk m c 0 t
abbrev b1 (t : Fin cfg0.N) : S2048x2048.Idx → EReal := iblk m c 1 t
abbrev b2 (t : Fin cfg0.N) : S352x2048.Idx → EReal := iblk m c 2 t

theorem V_0 (i : S2112x2048.Idx) : V m c (Pipeline.arrRef spec0 0) i = aA m c i := by
  unfold V
  after_reads_at

theorem V_1 (i : S2048x2048.Idx) : V m c (Pipeline.arrRef spec0 1) i = aB m c i := by
  unfold V
  after_reads_at

theorem V_2 (i : S2112x2048.Idx) : V m c (Pipeline.arrRef spec0 2) i = aX m c i := by
  unfold V
  after_reads_at

section Blocks
variable (t : Fin cfg0.N) (a : Fin 352) (b : Fin 2048) (k : Fin 2048)
theorem iblk_0 : b0 m c t (ix2 a k) = aA m c (ix2 (row t a) k) := by
  rw [← V_0]; blk_ext [iblk, idx t]
theorem iblk_1 : b1 m c t (ix2 k b) = aB m c (ix2 k (col t b)) := by
  rw [← V_1]; blk_ext [iblk, idx t]
theorem iblk_2 : b2 m c t (ix2 a b) = aX m c (ix2 (row t a) (col t b)) := by
  rw [← V_2]; blk_ext [iblk, idx t]

theorem out_at : (outsAt0 m c t) (ix2 a b) = out (aA m c) (aB m c) (aX m c) (row t a) (col t b) := by
  have key : b2 m c t (ix2 a b) + ∑ k, b0 m c t (ix2 a k) * b1 m c t (ix2 k b) = out (aA m c) (aB m c) (aX m c) (row t a) (col t b) := by
    simp only [iblk_0, iblk_1, iblk_2]
    rfl
  rw [← key]
  unfold outsAt0 out0_A_3; frame_open; frame_out; unfold_payloads; pointwise
end Blocks

theorem out_arr : (dats m 0 c).arrAt 3 cfg0.N = Cert.ResidReferenceIdeal.Read.val_main_v1 (F := Ideal) (aA m c) (aB m c) (aX m c) := by
  refine (dats m 0 c).arrAt_eq_of_covers 3 _ (by decide +kernel) fun t hf y => ?_
  obtain ⟨a, b, rfl⟩ : ∃ (a : Fin 352) (b : Fin 2048), y = ix2 a b := ⟨y 0, y 1, eq_ix2 y⟩
  have e : ((View.whole main_v2).slice (win0_3.rect t)).emb (ix2 a b) = ix2 (row t a) (col t b) := by blk_ext [idx t]
  blk_simp; rw [after0_3]
  exact (out_at m c t a b).trans ((out_ref _ _ _ (row t a) (col t b)).symm.trans (congrArg _ e.symm))

end Cert.ResidKernelIdeal.Spec

namespace Cert.Resid

open Idealize.ShloMosaic Idealize.SL.Sem

theorem frame_reference : Cert.quiescent_ResidReferenceIdeal := fun m ρ _ =>
  (θ_run Cert.ResidReferenceIdeal.defs _ _).mono (fun r h => ⟨fun c => (h c).2,
    Idealize.ShloMosaic.sem_eq_zero_of_no_sems (by decide) r.2⟩) (Cert.ResidReferenceIdeal.Value.run (F := Ideal) m ρ)

theorem algebraic : Cert.algebraic_ResidKernelIdeal_ResidReferenceIdeal := by
  intro m g m' g' hpre hargs
  refine ⟨fun c => (Cert.ResidKernelIdeal.Gen.dats m 0 c).arrAt 3 Cert.ResidKernelIdeal.cfg0.N,
    Cert.ResidKernelIdeal.Value.run_blocks m g, ?_⟩
  refine (θ_run Cert.ResidReferenceIdeal.defs _ _).mono (fun r h c => ?_) (Cert.ResidReferenceIdeal.Value.run (F := Ideal) m' g')
  obtain ⟨h0, hk⟩ := h c
  obtain ⟨a0, a1, a2⟩ := hargs c
  refine ⟨h0.trans ?_, hk⟩
  rw [Cert.ResidReferenceIdeal.Read.val_main_v1_eq, a0, a1, a2]
  exact (Cert.ResidKernelIdeal.Spec.out_arr m c).symm

end Cert.Resid

namespace Cert.BackReferenceIdeal.Spec

open Cert.BackReferenceIdeal Idealize.ShloMosaic Idealize.ShloMosaic.TcCoe Idealize.SL.Sem

/-- The product of the rows with the transposed output projection. -/
def out (A : S2112x2048.Idx → EReal) (B : S2048x2048.Idx → EReal) (i : Fin 2112) (j : Fin 2048) : EReal :=
  ∑ k : Fin 2048, A (ix2 i k) * B (ix2 j k)

theorem out_ref (A : S2112x2048.Idx → EReal) (B : S2048x2048.Idx → EReal) (i : Fin 2112) (j : Fin 2048) :
    Read.val_main_v1 (F := Ideal) A B (ix2 i j) = out A B i j := by
  refine (Read.val_main_v1_apply A B _).trans (Finset.sum_congr rfl fun k _ => congrArg₂ (· * ·) (congrArg A (eq_ix2 (Read.lidx_main_v1 _ k))) ?_)
  exact (Read.val_main_v0_apply (F := Ideal) B _).trans (congrArg B (eq_ix2 (Read.idx_main_v0 _)))

end Cert.BackReferenceIdeal.Spec

namespace Cert.BackKernelIdeal.Spec

open Cert.BackKernelIdeal Cert.BackKernelIdeal.Gen Idealize.ShloMosaic Idealize.ShloMosaic.TcCoe Idealize.SL.Sem
open Idealize.ShloMosaic.Pipeline (Dat)
open Cert.BackReferenceIdeal.Spec

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The row and the column of the result at row `a` and column `b` of block `t`. -/
abbrev row (t : Fin cfg0.N) (a : Fin 352) : Fin 2112 := ⟨t.val / 4 * 352 + a.val, by have := t.isLt; have : cfg0.N = 24 := rfl; omega⟩
abbrev col (t : Fin cfg0.N) (b : Fin 512) : Fin 2048 := ⟨t.val % 4 * 512 + b.val, by have := t.isLt; have : cfg0.N = 24 := rfl; omega⟩

variable (m : (ℓ : Loc nD τ sig) → Buf (Elt Ideal) ℓ) (c : Dev nD)

abbrev aA : S2112x2048.Idx → EReal := m ((c.tc : Thread nD τ).loc main_arg0)
abbrev aB : S2048x2048.Idx → EReal := m ((c.tc : Thread nD τ).loc main_arg1)

/-- The blocks of a grid point, as plain functions. -/
abbrev b0 (t : Fin cfg0.N) : S352x2048.Idx → EReal := iblk m c 0 t
abbrev b1 (t : Fin cfg0.N) : S512x2048.Idx → EReal := iblk m c 1 t

theorem V_0 (i : S2112x2048.Idx) : V m c (Pipeline.arrRef spec0 0) i = aA m c i := by
  unfold V
  after_reads_at

theorem V_1 (i : S2048x2048.Idx) : V m c (Pipeline.arrRef spec0 1) i = aB m c i := by
  unfold V
  after_reads_at

section Blocks
variable (t : Fin cfg0.N) (a : Fin 352) (b : Fin 512) (k : Fin 2048)
theorem iblk_0 : b0 m c t (ix2 a k) = aA m c (ix2 (row t a) k) := by
  rw [← V_0]; blk_ext [iblk, idx t]
theorem iblk_1 : b1 m c t (ix2 b k) = aB m c (ix2 (col t b) k) := by
  rw [← V_1]; blk_ext [iblk, idx t]

theorem out_at : (outsAt0 m c t) (ix2 a b) = out (aA m c) (aB m c) (row t a) (col t b) := by
  have key : ∑ k, b0 m c t (ix2 a k) * b1 m c t (ix2 b k) = out (aA m c) (aB m c) (row t a) (col t b) := by
    simp only [iblk_0, iblk_1]
    rfl
  rw [← key]
  unfold outsAt0 out0_A_2; frame_open; frame_out; unfold_payloads; pointwise
end Blocks

theorem out_arr : (dats m 0 c).arrAt 2 cfg0.N = Cert.BackReferenceIdeal.Read.val_main_v1 (F := Ideal) (aA m c) (aB m c) := by
  refine (dats m 0 c).arrAt_eq_of_covers 2 _ (by decide +kernel) fun t hf y => ?_
  obtain ⟨a, b, rfl⟩ : ∃ (a : Fin 352) (b : Fin 512), y = ix2 a b := ⟨y 0, y 1, eq_ix2 y⟩
  have e : ((View.whole main_v1).slice (win0_2.rect t)).emb (ix2 a b) = ix2 (row t a) (col t b) := by blk_ext [idx t]
  blk_simp; rw [after0_2]
  exact (out_at m c t a b).trans ((out_ref _ _ (row t a) (col t b)).symm.trans (congrArg _ e.symm))

end Cert.BackKernelIdeal.Spec

namespace Cert.Back

open Idealize.ShloMosaic Idealize.SL.Sem

theorem frame_reference : Cert.quiescent_BackReferenceIdeal := fun m ρ _ =>
  (θ_run Cert.BackReferenceIdeal.defs _ _).mono (fun r h => ⟨fun c => (h c).2,
    Idealize.ShloMosaic.sem_eq_zero_of_no_sems (by decide) r.2⟩) (Cert.BackReferenceIdeal.Value.run (F := Ideal) m ρ)

theorem algebraic : Cert.algebraic_BackKernelIdeal_BackReferenceIdeal := by
  intro m g m' g' hpre hargs
  refine ⟨fun c => (Cert.BackKernelIdeal.Gen.dats m 0 c).arrAt 2 Cert.BackKernelIdeal.cfg0.N,
    Cert.BackKernelIdeal.Value.run_blocks m g, ?_⟩
  refine (θ_run Cert.BackReferenceIdeal.defs _ _).mono (fun r h c => ?_) (Cert.BackReferenceIdeal.Value.run (F := Ideal) m' g')
  obtain ⟨h0, hk⟩ := h c
  obtain ⟨a0, a1⟩ := hargs c
  refine ⟨h0.trans ?_, hk⟩
  rw [Cert.BackReferenceIdeal.Read.val_main_v1_eq, a0, a1]
  exact (Cert.BackKernelIdeal.Spec.out_arr m c).symm

end Cert.Back

namespace Cert.TotalKernelIdeal.Spec

open Cert.TotalKernelIdeal Cert.TotalKernelIdeal.Gen Idealize.ShloMosaic Idealize.ShloMosaic.TcCoe Idealize.SL.Sem

/-- The kernel adds the devices' parts one after another; the plain line is their sum. -/
theorem total (x : S8x184x512.Idx → EReal) : Value.G1 (F := Ideal) x = Cert.TotalReferenceIdeal.Read.val_main_v0 (F := Ideal) x := by
  funext y
  obtain ⟨a, b, rfl⟩ : ∃ (a : Fin 184) (b : Fin 512), y = ix2 a b := ⟨y 0, y 1, eq_ix2 y⟩
  rw [Cert.TotalReferenceIdeal.Read.val_main_v0_apply, Fin.sum_univ_eight]
  have e : ∀ k : Fin 8, Cert.TotalReferenceIdeal.Read.idx_main_v0 (ix2 a b) k = ix3 k a b := fun k => eq_ix3 _
  simp only [e]
  unfold Cert.TotalReferenceIdeal.Read.val_main_cst Value.G1
  unfold_payloads
  pointwise

end Cert.TotalKernelIdeal.Spec

namespace Cert.Total

open Idealize.ShloMosaic Idealize.SL.Sem

theorem frame_reference : Cert.quiescent_TotalReferenceIdeal := fun m ρ _ =>
  (θ_run Cert.TotalReferenceIdeal.defs _ _).mono (fun r h => ⟨fun c => (h c).2,
    Idealize.ShloMosaic.sem_eq_zero_of_no_sems (by decide) r.2⟩) (Cert.TotalReferenceIdeal.Value.run (F := Ideal) m ρ)

theorem algebraic : Cert.algebraic_TotalKernelIdeal_TotalReferenceIdeal := by
  intro m g m' g' hpre hargs
  refine ⟨fun c => Cert.TotalKernelIdeal.Value.G1 (F := Ideal) (m ((c.tc : Thread Cert.TotalKernelIdeal.nD Cert.TotalKernelIdeal.τ).loc Cert.TotalKernelIdeal.main_arg0)),
    Cert.TotalKernelIdeal.Value.run m g, ?_⟩
  refine (θ_run Cert.TotalReferenceIdeal.defs _ _).mono (fun r h c => ?_) (Cert.TotalReferenceIdeal.Value.run (F := Ideal) m' g')
  obtain ⟨h0, hk⟩ := h c
  have a0 := hargs c
  refine ⟨h0.trans ?_, hk⟩
  rw [Cert.TotalReferenceIdeal.Read.val_main_v0_eq, a0]
  exact (Cert.TotalKernelIdeal.Spec.total _).symm

end Cert.Total

namespace Cert.AdamKernelIdeal.Spec

open Cert.AdamKernelIdeal Cert.AdamKernelIdeal.Gen Idealize.ShloMosaic Idealize.ShloMosaic.TcCoe Idealize.SL.Sem

variable (w g p q : S16x512.Idx → EReal)

/-- The change of the weights and the two running means: the kernel's lines are the plain ones, one element at a time. -/
theorem delta : Value.G4 (F := Ideal) g p q w = Cert.AdamReferenceIdeal.Read.val_main_v23 (F := Ideal) w g p q := by
  funext y; rfl

theorem mean : Value.G5 (F := Ideal) g p = Cert.AdamReferenceIdeal.Read.val_main_v4 (F := Ideal) g p := by
  funext y; rfl

theorem mean_sq : Value.G6 (F := Ideal) g q = Cert.AdamReferenceIdeal.Read.val_main_v10 (F := Ideal) g q := by
  funext y; rfl

end Cert.AdamKernelIdeal.Spec

namespace Cert.Adam

open Idealize.ShloMosaic Idealize.SL.Sem

theorem frame_reference : Cert.quiescent_AdamReferenceIdeal := fun m ρ _ =>
  (θ_run Cert.AdamReferenceIdeal.defs _ _).mono (fun r h => ⟨fun c => (h c).2.2.2,
    Idealize.ShloMosaic.sem_eq_zero_of_no_sems (by decide) r.2⟩) (Cert.AdamReferenceIdeal.Value.run (F := Ideal) m ρ)

theorem algebraic : Cert.algebraic_AdamKernelIdeal_AdamReferenceIdeal := by
  intro m g m' g' hpre hargs
  refine ⟨fun c => Cert.AdamKernelIdeal.Value.G4 (F := Ideal) (m ((c.tc : Thread Cert.AdamKernelIdeal.nD Cert.AdamKernelIdeal.τ).loc Cert.AdamKernelIdeal.main_arg1)) (m ((c.tc : Thread Cert.AdamKernelIdeal.nD Cert.AdamKernelIdeal.τ).loc Cert.AdamKernelIdeal.main_arg2)) (m ((c.tc : Thread Cert.AdamKernelIdeal.nD Cert.AdamKernelIdeal.τ).loc Cert.AdamKernelIdeal.main_arg3)) (m ((c.tc : Thread Cert.AdamKernelIdeal.nD Cert.AdamKernelIdeal.τ).loc Cert.AdamKernelIdeal.main_arg0)),
    fun c => Cert.AdamKernelIdeal.Value.G5 (F := Ideal) (m ((c.tc : Thread Cert.AdamKernelIdeal.nD Cert.AdamKernelIdeal.τ).loc Cert.AdamKernelIdeal.main_arg1)) (m ((c.tc : Thread Cert.AdamKernelIdeal.nD Cert.AdamKernelIdeal.τ).loc Cert.AdamKernelIdeal.main_arg2)),
    fun c => Cert.AdamKernelIdeal.Value.G6 (F := Ideal) (m ((c.tc : Thread Cert.AdamKernelIdeal.nD Cert.AdamKernelIdeal.τ).loc Cert.AdamKernelIdeal.main_arg1)) (m ((c.tc : Thread Cert.AdamKernelIdeal.nD Cert.AdamKernelIdeal.τ).loc Cert.AdamKernelIdeal.main_arg3)),
    Cert.AdamKernelIdeal.Value.run m g, ?_⟩
  refine (θ_run Cert.AdamReferenceIdeal.defs _ _).mono (fun r h c => ?_) (Cert.AdamReferenceIdeal.Value.run (F := Ideal) m' g')
  obtain ⟨h0, h1, h2, hk⟩ := h c
  obtain ⟨a0, a1, a2, a3⟩ := hargs c
  refine ⟨h0.trans ?_, h1.trans ?_, h2.trans ?_, hk⟩
  · rw [Cert.AdamReferenceIdeal.Read.val_main_v23_eq, a0, a1, a2, a3]
    exact (Cert.AdamKernelIdeal.Spec.delta _ _ _ _).symm
  · rw [Cert.AdamReferenceIdeal.Read.val_main_v4_eq, a1, a2]
    exact (Cert.AdamKernelIdeal.Spec.mean _ _).symm
  · rw [Cert.AdamReferenceIdeal.Read.val_main_v10_eq, a1, a3]
    exact (Cert.AdamKernelIdeal.Spec.mean_sq _ _).symm

end Cert.Adam
-- ==== Proof.Steps.lean ====
module

public import proofs.«01_k».proof.Defs
public import proofs.«01_k».proof.Proof.Gen.ProjBackKernelIdeal.Value
public import proofs.«01_k».proof.Proof.Gen.ProjBackReferenceIdeal
public import proofs.«01_k».proof.Proof.Gen.ProjBackReferenceIdeal.Read
public import proofs.«01_k».proof.Proof.Gen.ProjBackReferenceIdeal.Run
public import proofs.«01_k».proof.Proof.Mix.Spec
public import Idealize.ShloMosaic.Lib.Pipeline.ValueKit
public import Idealize.ShloMosaic.Lib.StableHlo.ReadAt
public import Idealize.ShloMosaic.Lib.Quiescent

/-! The gradient of the rows that the attention's projection takes: a plain product which the kernel adds up over seven
blocks of the contracted dimension. -/

@[expose] public section

set_option maxRecDepth 16384

noncomputable section

namespace Cert.ProjBackReferenceIdeal.Spec

open Cert.ProjBackReferenceIdeal Idealize.ShloMosaic Idealize.ShloMosaic.TcCoe Idealize.SL.Sem

/-- The product of the rows with the transposed projection. -/
def out (A : S2112x6272.Idx → EReal) (B : S2048x6272.Idx → EReal) (i : Fin 2112) (j : Fin 2048) : EReal :=
  ∑ k : Fin 6272, A (ix2 i k) * B (ix2 j k)

theorem out_ref (A : S2112x6272.Idx → EReal) (B : S2048x6272.Idx → EReal) (i : Fin 2112) (j : Fin 2048) :
    Read.val_main_v1 (F := Ideal) A B (ix2 i j) = out A B i j := by
  refine (Read.val_main_v1_apply A B _).trans (Finset.sum_congr rfl fun k _ => congrArg₂ (· * ·) (congrArg A (eq_ix2 (Read.lidx_main_v1 _ k))) ?_)
  exact (Read.val_main_v0_apply (F := Ideal) B _).trans (congrArg B (eq_ix2 (Read.idx_main_v0 _)))

/-- The sum in seven blocks. -/
theorem sum_blocks (f : Fin 6272 → EReal) : ∑ s : Fin 7, ∑ k : Fin 896, f ⟨s.val * 896 + k.val, by omega⟩ = ∑ i, f i :=
  Fin.sum_mul_add_fin 7 896 f rfl

end Cert.ProjBackReferenceIdeal.Spec

namespace Cert.ProjBackKernelIdeal.Spec

open Cert.ProjBackKernelIdeal Cert.ProjBackKernelIdeal.Gen Idealize.ShloMosaic Idealize.ShloMosaic.TcCoe Idealize.SL.Sem
open Idealize.ShloMosaic.Pipeline (Dat)
open Cert.ProjBackReferenceIdeal.Spec

theorem idx : ∀ t : Fin cfg0.N, win0_0.index t = ![t.val / 7, t.val % 7] ∧ win0_1.index t = ![0, t.val % 7] ∧ win0_2.index t = ![t.val / 7, 0] :=
  (by decide +kernel : ∀ t : Fin grid0.N, _)

/-- The row of the result at row `a` of block `t`, and the place of the block's `k` in the contracted dimension. -/
abbrev row (t : Fin cfg0.N) (a : Fin 704) : Fin 2112 := ⟨t.val / 7 * 704 + a.val, by have := t.isLt; have : cfg0.N = 21 := rfl; omega⟩
abbrev con (t : Fin cfg0.N) (k : Fin 896) : Fin 6272 := ⟨t.val % 7 * 896 + k.val, by omega⟩

variable (m : (ℓ : Loc nD τ sig) → Buf (Elt Ideal) ℓ) (c : Dev nD)

abbrev aA : S2112x6272.Idx → EReal := m ((c.tc : Thread nD τ).loc main_arg0)
abbrev aB : S2048x6272.Idx → EReal := m ((c.tc : Thread nD τ).loc main_arg1)

/-- The blocks of a grid point, as plain functions. -/
abbrev b0 (t : Fin cfg0.N) : S704x896.Idx → EReal := iblk m c 0 t
abbrev b1 (t : Fin cfg0.N) : S2048x896.Idx → EReal := iblk m c 1 t

theorem V_0 (i : S2112x6272.Idx) : V m c (Pipeline.arrRef spec0 0) i = aA m c i := by
  unfold V
  after_reads_at

theorem V_1 (i : S2048x6272.Idx) : V m c (Pipeline.arrRef spec0 1) i = aB m c i := by
  unfold V
  after_reads_at

section Blocks
variable (t : Fin cfg0.N) (a : Fin 704) (b : Fin 2048) (k : Fin 896)
theorem iblk_0 : b0 m c t (ix2 a k) = aA m c (ix2 (row t a) (con t k)) := by
  rw [← V_0]; blk_ext [iblk, idx t]
theorem iblk_1 : b1 m c t (ix2 b k) = aB m c (ix2 b (con t k)) := by
  rw [← V_1]; blk_ext [iblk, idx t]

/-- What one step adds. -/
theorem elt : ∑ k, b0 m c t (ix2 a k) * b1 m c t (ix2 b k) = ∑ k, aA m c (ix2 (row t a) (con t k)) * aB m c (ix2 b (con t k)) := by
  simp only [iblk_0, iblk_1]
end Blocks

theorem out_arr : (dats m 0 c).arrAt 2 cfg0.N = Cert.ProjBackReferenceIdeal.Read.val_main_v1 (F := Ideal) (aA m c) (aB m c) := by
  refine (dats m 0 c).arrAt_eq_of_covers 2 _ (by decide +kernel) fun t hf y => ?_
  obtain ⟨a, b, rfl⟩ : ∃ (a : Fin 704) (b : Fin 2048), y = ix2 a b := ⟨y 0, y 1, eq_ix2 y⟩
  have hr : t.val % 7 = 7 - 1 := by
    revert hf; exact (by decide +kernel : ∀ t : Fin grid0.N, win0_2.flush t = true → t.val % 7 = 7 - 1) t
  have e : ((View.whole main_v1).slice (win0_2.rect t)).emb (ix2 a b) = ix2 (row t a) b := by blk_ext [idx t]
  blk_simp; rw [after0_2]
  have hs : (outsAt0 m c t.val t.isLt).1 (ix2 a b) = (outsAt0 m c t.val t.isLt).2 (ix2 a b) := by
    rw [outsAt0_C m c t (by omega) hr]; frame_out
  refine hs.trans ?_
  refine (Pipeline.eq_sum_fin_of_reset_step_apply_of_flush (fun n hn => (outsAt0 m c n hn).2) 7 (fun _ => (0 : EReal))
    (fun t i => ∑ k : Fin 896, aA m c (ix2 (row t (i 0)) (con t k)) * aB m c (ix2 (i 1) (con t k))) ?_ ?_ t hr _).trans ?_
  · intro t h0 i
    rw [outsAt0_A m c t h0 (by omega)]; frame_out; unfold_payloads; pointwise
    exact elt m c t (i 0) (i 1)
  · intro t h0 i
    by_cases h1 : t.val % 7 = 6
    · rw [outsAt0_C m c t h0 h1]; frame_out; unfold_payloads; pointwise
      exact congrArg₂ (· + ·) (congrFun (Memref.IsWhole.read_unread _ _) i) (elt m c t (i 0) (i 1))
    · rw [outsAt0_B m c t h0 h1]; frame_out; unfold_payloads; pointwise
      exact congrArg₂ (· + ·) (congrFun (Memref.IsWhole.read_unread _ _) i) (elt m c t (i 0) (i 1))
  · rw [zero_add]
    refine Eq.trans ?_ ((out_ref _ _ (row t a) b).symm.trans (congrArg _ e.symm))
    refine Eq.trans ?_ (sum_blocks fun k => aA m c (ix2 (row t a) k) * aB m c (ix2 b k))
    refine Finset.sum_congr rfl fun s _ => Finset.sum_congr rfl fun k _ => ?_
    have hg : row ⟨7 * (t.val / 7) + s.val, Pipeline.run_point_lt_of_flush t hr s⟩ a = row t a := Fin.ext (by show (7 * (t.val / 7) + s.val) / 7 * 704 + a.val = t.val / 7 * 704 + a.val; omega)
    have hk : con ⟨7 * (t.val / 7) + s.val, Pipeline.run_point_lt_of_flush t hr s⟩ k = ⟨s.val * 896 + k.val, by omega⟩ := Fin.ext (by show (7 * (t.val / 7) + s.val) % 7 * 896 + k.val = s.val * 896 + k.val; omega)
    show aA m c (ix2 (row _ a) (con _ k)) * aB m c (ix2 b (con _ k)) = _
    rw [hg, hk]

end Cert.ProjBackKernelIdeal.Spec

namespace Cert.ProjBack

open Idealize.ShloMosaic Idealize.SL.Sem

theorem frame_reference : Cert.quiescent_ProjBackReferenceIdeal := fun m ρ _ =>
  (θ_run Cert.ProjBackReferenceIdeal.defs _ _).mono (fun r h => ⟨fun c => (h c).2,
    Idealize.ShloMosaic.sem_eq_zero_of_no_sems (by decide) r.2⟩) (Cert.ProjBackReferenceIdeal.Value.run (F := Ideal) m ρ)

theorem algebraic : Cert.algebraic_ProjBackKernelIdeal_ProjBackReferenceIdeal := by
  intro m g m' g' hpre hargs
  refine ⟨fun c => (Cert.ProjBackKernelIdeal.Gen.dats m 0 c).arrAt 2 Cert.ProjBackKernelIdeal.cfg0.N,
    Cert.ProjBackKernelIdeal.Value.run_blocks m g, ?_⟩
  refine (θ_run Cert.ProjBackReferenceIdeal.defs _ _).mono (fun r h c => ?_) (Cert.ProjBackReferenceIdeal.Value.run (F := Ideal) m' g')
  obtain ⟨h0, hk⟩ := h c
  obtain ⟨a0, a1⟩ := hargs c
  refine ⟨h0.trans ?_, hk⟩
  rw [Cert.ProjBackReferenceIdeal.Read.val_main_v1_eq, a0, a1]
  exact (Cert.ProjBackKernelIdeal.Spec.out_arr m c).symm

end Cert.ProjBack
-- ==== Proof.Weights.lean ====
module

public import proofs.«01_k».proof.Defs
public import proofs.«01_k».proof.Proof.Gen.WprojKernelIdeal.Value
public import proofs.«01_k».proof.Proof.Gen.WprojReferenceIdeal
public import proofs.«01_k».proof.Proof.Gen.WprojReferenceIdeal.Read
public import proofs.«01_k».proof.Proof.Gen.WprojReferenceIdeal.Run
public import proofs.«01_k».proof.Proof.Gen.WdownKernelIdeal.Value
public import proofs.«01_k».proof.Proof.Gen.WdownReferenceIdeal
public import proofs.«01_k».proof.Proof.Gen.WdownReferenceIdeal.Read
public import proofs.«01_k».proof.Proof.Gen.WdownReferenceIdeal.Run
public import proofs.«01_k».proof.Proof.Gen.WgateKernelIdeal.Value
public import proofs.«01_k».proof.Proof.Gen.WgateReferenceIdeal
public import proofs.«01_k».proof.Proof.Gen.WgateReferenceIdeal.Read
public import proofs.«01_k».proof.Proof.Gen.WgateReferenceIdeal.Run
public import proofs.«01_k».proof.Proof.Gen.AdamGateKernelIdeal.Value
public import proofs.«01_k».proof.Proof.Gen.AdamGateReferenceIdeal
public import proofs.«01_k».proof.Proof.Gen.AdamGateReferenceIdeal.Read
public import proofs.«01_k».proof.Proof.Gen.AdamGateReferenceIdeal.Run
public import proofs.«01_k».proof.Proof.Mix.Spec
public import Idealize.ShloMosaic.Lib.Pipeline.ValueKit
public import Idealize.ShloMosaic.Lib.StableHlo.ReadAt
public import Idealize.ShloMosaic.Lib.Quiescent

/-! The gradients of the attention's projection and of the feed-forward weights, each one plain product over the rows, and
the optimiser of the gate's weights: the kernel and the plain lines, finite or not. -/

@[expose] public section

set_option maxRecDepth 16384

noncomputable section

namespace Cert.WprojReferenceIdeal.Spec

open Cert.WprojReferenceIdeal Idealize.ShloMosaic Idealize.ShloMosaic.TcCoe Idealize.SL.Sem

/-- The gradient of the attention's projection: the product over the rows. -/
def out (A : S2112x2048.Idx → EReal) (B : S2112x6272.Idx → EReal) (i : Fin 2048) (j : Fin 6272) : EReal :=
  ∑ k : Fin 2112, A (ix2 k i) * B (ix2 k j)

theorem out_ref (A : S2112x2048.Idx → EReal) (B : S2112x6272.Idx → EReal) (i : Fin 2048) (j : Fin 6272) :
    Read.val_main_v2 (F := Ideal) A B (ix2 i j) = out A B i j := by
  refine (Read.val_main_v1_apply A B _).trans (Finset.sum_congr rfl fun k _ => congrArg₂ (· * ·) ?_ (congrArg B (eq_ix2 (Read.ridx_main_v1 _ k))))
  exact (Read.val_main_v0_apply (F := Ideal) A _).trans (congrArg A (eq_ix2 (Read.idx_main_v0 _)))

end Cert.WprojReferenceIdeal.Spec

namespace Cert.WprojKernelIdeal.Spec

open Cert.WprojKernelIdeal Cert.WprojKernelIdeal.Gen Idealize.ShloMosaic Idealize.ShloMosaic.TcCoe Idealize.SL.Sem
open Idealize.ShloMosaic.Pipeline (Dat)
open Cert.WprojReferenceIdeal.Spec

theorem idx : ∀ t : Fin cfg0.N, win0_0.index t = ![0, t.val % 4] ∧ win0_1.index t = ![0, t.val / 4] ∧ win0_2.index t = ![t.val % 4, t.val / 4] :=
  (by decide +kernel : ∀ t : Fin grid0.N, _)

/-- The row and the column of the result at row `a` and column `b` of block `t`. -/
abbrev row (t : Fin cfg0.N) (a : Fin 512) : Fin 2048 := ⟨t.val % 4 * 512 + a.val, by have := t.isLt; have : cfg0.N = 28 := rfl; omega⟩
abbrev col (t : Fin cfg0.N) (b : Fin 896) : Fin 6272 := ⟨t.val / 4 * 896 + b.val, by have := t.isLt; have : cfg0.N = 28 := rfl; omega⟩

variable (m : (ℓ : Loc nD τ sig) → Buf (Elt Ideal) ℓ) (c : Dev nD)

abbrev aA : S2112x2048.Idx → EReal := m ((c.tc : Thread nD τ).loc main_arg0)
abbrev aB : S2112x6272.Idx → EReal := m ((c.tc : Thread nD τ).loc main_arg1)

/-- The blocks of a grid point, as plain functions. -/
abbrev b0 (t : Fin cfg0.N) : S2112x512.Idx → EReal := iblk m c 0 t
abbrev b1 (t : Fin cfg0.N) : S2112x896.Idx → EReal := iblk m c 1 t

theorem V_0 (i : S2112x2048.Idx) : V m c (Pipeline.arrRef spec0 0) i = aA m c i := by
  unfold V
  after_reads_at

theorem V_1 (i : S2112x6272.Idx) : V m c (Pipeline.arrRef spec0 1) i = aB m c i := by
  unfold V
  after_reads_at

section Blocks
variable (t : Fin cfg0.N) (a : Fin 512) (b : Fin 896) (k : Fin 2112)
theorem iblk_0 : b0 m c t (ix2 k a) = aA m c (ix2 k (row t a)) := by
  rw [← V_0]; blk_ext [iblk, idx t]
theorem iblk_1 : b1 m c t (ix2 k b) = aB m c (ix2 k (col t b)) := by
  rw [← V_1]; blk_ext [iblk, idx t]

theorem out_at : (out0_2 (iblk m c 0 t) (iblk m c 1 t)) (ix2 a b) = out (aA m c) (aB m c) (row t a) (col t b) := by
  have key : ∑ k, b0 m c t (ix2 k a) * b1 m c t (ix2 k b) = out (aA m c) (aB m c) (row t a) (col t b) := by
    simp only [iblk_0, iblk_1]
    rfl
  rw [← key]
  frame_out; unfold_payloads; pointwise
end Blocks

theorem out_arr : (dats m 0 c).arrAt 2 cfg0.N = Cert.WprojReferenceIdeal.Read.val_main_v2 (F := Ideal) (aA m c) (aB m c) := by
  refine (dats m 0 c).arrAt_eq_of_covers 2 _ (by decide +kernel) fun t hf y => ?_
  obtain ⟨a, b, rfl⟩ : ∃ (a : Fin 512) (b : Fin 896), y = ix2 a b := ⟨y 0, y 1, eq_ix2 y⟩
  have e : ((View.whole main_v1).slice (win0_2.rect t)).emb (ix2 a b) = ix2 (row t a) (col t b) := by blk_ext [idx t]
  blk_simp; rw [after0_2]
  exact (out_at m c t a b).trans ((out_ref _ _ (row t a) (col t b)).symm.trans (congrArg _ e.symm))

end Cert.WprojKernelIdeal.Spec

namespace Cert.Wproj

open Idealize.ShloMosaic Idealize.SL.Sem

theorem frame_reference : Cert.quiescent_WprojReferenceIdeal := fun m ρ _ =>
  (θ_run Cert.WprojReferenceIdeal.defs _ _).mono (fun r h => ⟨fun c => (h c).2,
    Idealize.ShloMosaic.sem_eq_zero_of_no_sems (by decide) r.2⟩) (Cert.WprojReferenceIdeal.Value.run (F := Ideal) m ρ)

theorem algebraic : Cert.algebraic_WprojKernelIdeal_WprojReferenceIdeal := by
  intro m g m' g' hpre hargs
  refine ⟨fun c => (Cert.WprojKernelIdeal.Gen.dats m 0 c).arrAt 2 Cert.WprojKernelIdeal.cfg0.N,
    Cert.WprojKernelIdeal.Value.run_blocks m g, ?_⟩
  refine (θ_run Cert.WprojReferenceIdeal.defs _ _).mono (fun r h c => ?_) (Cert.WprojReferenceIdeal.Value.run (F := Ideal) m' g')
  obtain ⟨h0, hk⟩ := h c
  obtain ⟨a0, a1⟩ := hargs c
  refine ⟨h0.trans ?_, hk⟩
  rw [Cert.WprojReferenceIdeal.Read.val_main_v2_eq, a0, a1]
  exact (Cert.WprojKernelIdeal.Spec.out_arr m c).symm

end Cert.Wproj

namespace Cert.WdownReferenceIdeal.Spec

open Cert.WdownReferenceIdeal Idealize.ShloMosaic Idealize.ShloMosaic.TcCoe Idealize.SL.Sem

/-- The gradient of the down projection: the product over the rows. -/
def out (A : S2112x5632.Idx → EReal) (B : S2112x2048.Idx → EReal) (i : Fin 5632) (j : Fin 2048) : EReal :=
  ∑ k : Fin 2112, A (ix2 k i) * B (ix2 k j)

theorem out_ref (A : S2112x5632.Idx → EReal) (B : S2112x2048.Idx → EReal) (i : Fin 5632) (j : Fin 2048) :
    Read.val_main_v2 (F := Ideal) A B (ix2 i j) = out A B i j := by
  refine (Read.val_main_v1_apply A B _).trans (Finset.sum_congr rfl fun k _ => congrArg₂ (· * ·) ?_ (congrArg B (eq_ix2 (Read.ridx_main_v1 _ k))))
  exact (Read.val_main_v0_apply (F := Ideal) A _).trans (congrArg A (eq_ix2 (Read.idx_main_v0 _)))

end Cert.WdownReferenceIdeal.Spec

namespace Cert.WdownKernelIdeal.Spec

open Cert.WdownKernelIdeal Cert.WdownKernelIdeal.Gen Idealize.ShloMosaic Idealize.ShloMosaic.TcCoe Idealize.SL.Sem
open Idealize.ShloMosaic.Pipeline (Dat)
open Cert.WdownReferenceIdeal.Spec

theorem idx : ∀ t : Fin cfg0.N, win0_0.index t = ![0, t.val % 4] ∧ win0_1.index t = ![0, t.val / 4] ∧ win0_2.index t = ![t.val % 4, t.val / 4] :=
  (by decide +kernel : ∀ t : Fin grid0.N, _)

/-- The row and the column of the result at row `a` and column `b` of block `t`. -/
abbrev row (t : Fin cfg0.N) (a : Fin 1408) : Fin 5632 := ⟨t.val % 4 * 1408 + a.val, by have := t.isLt; have : cfg0.N = 8 := rfl; omega⟩
abbrev col (t : Fin cfg0.N) (b : Fin 1024) : Fin 2048 := ⟨t.val / 4 * 1024 + b.val, by have := t.isLt; have : cfg0.N = 8 := rfl; omega⟩

variable (m : (ℓ : Loc nD τ sig) → Buf (Elt Ideal) ℓ) (c : Dev nD)

abbrev aA : S2112x5632.Idx → EReal := m ((c.tc : Thread nD τ).loc main_arg0)
abbrev aB : S2112x2048.Idx → EReal := m ((c.tc : Thread nD τ).loc main_arg1)

/-- The blocks of a grid point, as plain functions. -/
abbrev b0 (t : Fin cfg0.N) : S2112x1408.Idx → EReal := iblk m c 0 t
abbrev b1 (t : Fin cfg0.N) : S2112x1024.Idx → EReal := iblk m c 1 t

theorem V_0 (i : S2112x5632.Idx) : V m c (Pipeline.arrRef spec0 0) i = aA m c i := by
  unfold V
  after_reads_at

theorem V_1 (i : S2112x2048.Idx) : V m c (Pipeline.arrRef spec0 1) i = aB m c i := by
  unfold V
  after_reads_at

section Blocks
variable (t : Fin cfg0.N) (a : Fin 1408) (b : Fin 1024) (k : Fin 2112)
theorem iblk_0 : b0 m c t (ix2 k a) = aA m c (ix2 k (row t a)) := by
  rw [← V_0]; blk_ext [iblk, idx t]
theorem iblk_1 : b1 m c t (ix2 k b) = aB m c (ix2 k (col t b)) := by
  rw [← V_1]; blk_ext [iblk, idx t]

theorem out_at : (out0_2 (iblk m c 0 t) (iblk m c 1 t)) (ix2 a b) = out (aA m c) (aB m c) (row t a) (col t b) := by
  have key : ∑ k, b0 m c t (ix2 k a) * b1 m c t (ix2 k b) = out (aA m c) (aB m c) (row t a) (col t b) := by
    simp only [iblk_0, iblk_1]
    rfl
  rw [← key]
  frame_out; unfold_payloads; pointwise
end Blocks

theorem out_arr : (dats m 0 c).arrAt 2 cfg0.N = Cert.WdownReferenceIdeal.Read.val_main_v2 (F := Ideal) (aA m c) (aB m c) := by
  refine (dats m 0 c).arrAt_eq_of_covers 2 _ (by decide +kernel) fun t hf y => ?_
  obtain ⟨a, b, rfl⟩ : ∃ (a : Fin 1408) (b : Fin 1024), y = ix2 a b := ⟨y 0, y 1, eq_ix2 y⟩
  have e : ((View.whole main_v2).slice (win0_2.rect t)).emb (ix2 a b) = ix2 (row t a) (col t b) := by blk_ext [idx t]
  blk_simp; rw [after0_2]
  exact (out_at m c t a b).trans ((out_ref _ _ (row t a) (col t b)).symm.trans (congrArg _ e.symm))

end Cert.WdownKernelIdeal.Spec

namespace Cert.Wdown

open Idealize.ShloMosaic Idealize.SL.Sem

theorem frame_reference : Cert.quiescent_WdownReferenceIdeal := fun m ρ _ =>
  (θ_run Cert.WdownReferenceIdeal.defs _ _).mono (fun r h => ⟨fun c => (h c).2,
    Idealize.ShloMosaic.sem_eq_zero_of_no_sems (by decide) r.2⟩) (Cert.WdownReferenceIdeal.Value.run (F := Ideal) m ρ)

theorem algebraic : Cert.algebraic_WdownKernelIdeal_WdownReferenceIdeal := by
  intro m g m' g' hpre hargs
  refine ⟨fun c => (Cert.WdownKernelIdeal.Gen.dats m 0 c).arrAt 2 Cert.WdownKernelIdeal.cfg0.N,
    Cert.WdownKernelIdeal.Value.run_blocks m g, ?_⟩
  refine (θ_run Cert.WdownReferenceIdeal.defs _ _).mono (fun r h c => ?_) (Cert.WdownReferenceIdeal.Value.run (F := Ideal) m' g')
  obtain ⟨h0, hk⟩ := h c
  obtain ⟨a0, a1⟩ := hargs c
  refine ⟨h0.trans ?_, hk⟩
  rw [Cert.WdownReferenceIdeal.Read.val_main_v2_eq, a0, a1]
  exact (Cert.WdownKernelIdeal.Spec.out_arr m c).symm

end Cert.Wdown

namespace Cert.WgateReferenceIdeal.Spec

open Cert.WgateReferenceIdeal Idealize.ShloMosaic Idealize.ShloMosaic.TcCoe Idealize.SL.Sem

/-- The gradient of the gate's or the up projection's weights: the product over the rows. -/
def out (A : S2112x2048.Idx → EReal) (B : S2112x5632.Idx → EReal) (i : Fin 2048) (j : Fin 5632) : EReal :=
  ∑ k : Fin 2112, A (ix2 k i) * B (ix2 k j)

theorem out_ref (A : S2112x2048.Idx → EReal) (B : S2112x5632.Idx → EReal) (i : Fin 2048) (j : Fin 5632) :
    Read.val_main_v2 (F := Ideal) A B (ix2 i j) = out A B i j := by
  refine (Read.val_main_v1_apply A B _).trans (Finset.sum_congr rfl fun k _ => congrArg₂ (· * ·) ?_ (congrArg B (eq_ix2 (Read.ridx_main_v1 _ k))))
  exact (Read.val_main_v0_apply (F := Ideal) A _).trans (congrArg A (eq_ix2 (Read.idx_main_v0 _)))

/-- The result lies in four parts of its columns. -/
theorem out_part (A : S2112x2048.Idx → EReal) (B : S2112x5632.Idx → EReal) (s : Fin 4) (i : Fin 2048) (j : Fin 1408) :
    Read.val_main_v4 (F := Ideal) A B (ix3 s i j) = out A B i ⟨s.val * 1408 + j.val, by omega⟩ := by
  rw [Read.val_main_v4_apply, Read.val_main_v3_apply, ← out_ref]
  refine congrArg _ ?_
  funext a
  match a with
  | ⟨0, _⟩ => exact Fin.ext (by show ((i.val * 4 + s.val) * 1408 + j.val) / 5632 = i.val; omega)
  | ⟨1, _⟩ => exact Fin.ext (by show ((i.val * 4 + s.val) * 1408 + j.val) % 5632 = s.val * 1408 + j.val; omega)

end Cert.WgateReferenceIdeal.Spec

namespace Cert.WgateKernelIdeal.Spec

open Cert.WgateKernelIdeal Cert.WgateKernelIdeal.Gen Idealize.ShloMosaic Idealize.ShloMosaic.TcCoe Idealize.SL.Sem
open Idealize.ShloMosaic.Pipeline (Dat)
open Cert.WgateReferenceIdeal.Spec

theorem idx : ∀ t : Fin cfg0.N, win0_0.index t = ![0, t.val % 2] ∧ win0_1.index t = ![0, t.val / 2] ∧ win0_2.index t = ![t.val / 2, t.val % 2, 0] :=
  (by decide +kernel : ∀ t : Fin grid0.N, _)

/-- The row and the column of the product at row `a` and column `b` of block `t`, and the block's part of the columns. -/
abbrev row (t : Fin cfg0.N) (a : Fin 1024) : Fin 2048 := ⟨t.val % 2 * 1024 + a.val, by have := t.isLt; have : cfg0.N = 8 := rfl; omega⟩
abbrev part (t : Fin cfg0.N) : Fin 4 := ⟨t.val / 2, by have := t.isLt; have : cfg0.N = 8 := rfl; omega⟩
abbrev col (t : Fin cfg0.N) (b : Fin 1408) : Fin 5632 := ⟨t.val / 2 * 1408 + b.val, by have := t.isLt; have : cfg0.N = 8 := rfl; omega⟩

variable (m : (ℓ : Loc nD τ sig) → Buf (Elt Ideal) ℓ) (c : Dev nD)

abbrev aA : S2112x2048.Idx → EReal := m ((c.tc : Thread nD τ).loc main_arg0)
abbrev aB : S2112x5632.Idx → EReal := m ((c.tc : Thread nD τ).loc main_arg1)

/-- The blocks of a grid point, as plain functions. -/
abbrev b0 (t : Fin cfg0.N) : S2112x1024.Idx → EReal := iblk m c 0 t
abbrev b1 (t : Fin cfg0.N) : S2112x1408.Idx → EReal := iblk m c 1 t

theorem V_0 (i : S2112x2048.Idx) : V m c (Pipeline.arrRef spec0 0) i = aA m c i := by
  unfold V
  after_reads_at

theorem V_1 (i : S2112x5632.Idx) : V m c (Pipeline.arrRef spec0 1) i = aB m c i := by
  unfold V
  after_reads_at

section Blocks
variable (t : Fin cfg0.N) (a : Fin 1024) (b : Fin 1408) (k : Fin 2112)
theorem iblk_0 : b0 m c t (ix2 k a) = aA m c (ix2 k (row t a)) := by
  rw [← V_0]; blk_ext [iblk, idx t]
theorem iblk_1 : b1 m c t (ix2 k b) = aB m c (ix2 k (col t b)) := by
  rw [← V_1]; blk_ext [iblk, idx t]

theorem out_at : (out0_2 (iblk m c 0 t) (iblk m c 1 t)) (ix3 (0 : Fin 1) a b) = out (aA m c) (aB m c) (row t a) (col t b) := by
  have key : ∑ k, b0 m c t (ix2 k a) * b1 m c t (ix2 k b) = out (aA m c) (aB m c) (row t a) (col t b) := by
    simp only [iblk_0, iblk_1]
    rfl
  rw [← key]
  frame_out; unfold_payloads; pointwise
end Blocks

theorem out_arr : (dats m 0 c).arrAt 2 cfg0.N = Cert.WgateReferenceIdeal.Read.val_main_v4 (F := Ideal) (aA m c) (aB m c) := by
  refine (dats m 0 c).arrAt_eq_of_covers 2 _ (by decide +kernel) fun t hf y => ?_
  obtain ⟨z, a, b, rfl⟩ : ∃ (z : Fin 1) (a : Fin 1024) (b : Fin 1408), y = ix3 z a b := ⟨y 0, y 1, y 2, eq_ix3 y⟩
  obtain rfl : z = 0 := Subsingleton.elim _ _
  have e : ((View.whole main_v2).slice (win0_2.rect t)).emb (ix3 (0 : Fin 1) a b) = ix3 (part t) (row t a) b := by blk_ext [idx t]
  blk_simp; rw [after0_2]
  exact (out_at m c t a b).trans ((out_part _ _ (part t) (row t a) b).symm.trans (congrArg _ e.symm))

end Cert.WgateKernelIdeal.Spec

namespace Cert.Wgate

open Idealize.ShloMosaic Idealize.SL.Sem

theorem frame_reference : Cert.quiescent_WgateReferenceIdeal := fun m ρ _ =>
  (θ_run Cert.WgateReferenceIdeal.defs _ _).mono (fun r h => ⟨fun c => (h c).2,
    Idealize.ShloMosaic.sem_eq_zero_of_no_sems (by decide) r.2⟩) (Cert.WgateReferenceIdeal.Value.run (F := Ideal) m ρ)

theorem algebraic : Cert.algebraic_WgateKernelIdeal_WgateReferenceIdeal := by
  intro m g m' g' hpre hargs
  refine ⟨fun c => (Cert.WgateKernelIdeal.Gen.dats m 0 c).arrAt 2 Cert.WgateKernelIdeal.cfg0.N,
    Cert.WgateKernelIdeal.Value.run_blocks m g, ?_⟩
  refine (θ_run Cert.WgateReferenceIdeal.defs _ _).mono (fun r h c => ?_) (Cert.WgateReferenceIdeal.Value.run (F := Ideal) m' g')
  obtain ⟨h0, hk⟩ := h c
  obtain ⟨a0, a1⟩ := hargs c
  refine ⟨h0.trans ?_, hk⟩
  rw [Cert.WgateReferenceIdeal.Read.val_main_v4_eq, a0, a1]
  exact (Cert.WgateKernelIdeal.Spec.out_arr m c).symm

end Cert.Wgate

namespace Cert.AdamGateReferenceIdeal.Spec

open Cert.AdamGateReferenceIdeal Idealize.ShloMosaic Idealize.ShloMosaic.TcCoe Idealize.SL.Sem

/-- One element of the change of the weights and of the two running means, as the plain lines have it: no element reads
another. -/
def delta (w g p q : EReal) : EReal := Read.val_main_v23 (F := Ideal) (fun _ => w) (fun _ => g) (fun _ => p) (fun _ => q) (ix2 0 0)
def mean (g p : EReal) : EReal := Read.val_main_v4 (F := Ideal) (fun _ => g) (fun _ => p) (ix2 0 0)
def meanSq (g q : EReal) : EReal := Read.val_main_v10 (F := Ideal) (fun _ => g) (fun _ => q) (ix2 0 0)

end Cert.AdamGateReferenceIdeal.Spec

namespace Cert.AdamGateKernelIdeal.Spec

open Cert.AdamGateKernelIdeal Cert.AdamGateKernelIdeal.Gen Idealize.ShloMosaic Idealize.ShloMosaic.TcCoe Idealize.SL.Sem
open Idealize.ShloMosaic.Pipeline (Dat)
open Cert.AdamGateReferenceIdeal.Spec

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The row of the arrays at row `a` of block `t`. -/
abbrev row (t : Fin cfg0.N) (a : Fin 256) : Fin 8192 := ⟨t.val * 256 + a.val, by have := t.isLt; have : cfg0.N = 32 := rfl; omega⟩

variable (m : (ℓ : Loc nD τ sig) → Buf (Elt Ideal) ℓ) (c : Dev nD)

/-- The weights, their gradient and the two running means. -/
abbrev aW : S8192x1408.Idx → EReal := m ((c.tc : Thread nD τ).loc main_arg0)
abbrev aG : S8192x1408.Idx → EReal := m ((c.tc : Thread nD τ).loc main_arg1)
abbrev aP : S8192x1408.Idx → EReal := m ((c.tc : Thread nD τ).loc main_arg2)
abbrev aQ : S8192x1408.Idx → EReal := m ((c.tc : Thread nD τ).loc main_arg3)

/-- The blocks of a grid point, as plain functions. -/
abbrev b0 (t : Fin cfg0.N) : S256x1408.Idx → EReal := iblk m c 0 t
abbrev b1 (t : Fin cfg0.N) : S256x1408.Idx → EReal := iblk m c 1 t
abbrev b2 (t : Fin cfg0.N) : S256x1408.Idx → EReal := iblk m c 2 t
abbrev b3 (t : Fin cfg0.N) : S256x1408.Idx → EReal := iblk m c 3 t

theorem V_0 (i : S8192x1408.Idx) : V m c (Pipeline.arrRef spec0 0) i = aW m c i := by
  unfold V
  after_reads_at

theorem V_1 (i : S8192x1408.Idx) : V m c (Pipeline.arrRef spec0 1) i = aG m c i := by
  unfold V
  after_reads_at

theorem V_2 (i : S8192x1408.Idx) : V m c (Pipeline.arrRef spec0 2) i = aP m c i := by
  unfold V
  after_reads_at

theorem V_3 (i : S8192x1408.Idx) : V m c (Pipeline.arrRef spec0 3) i = aQ m c i := by
  unfold V
  after_reads_at

section Blocks
variable (t : Fin cfg0.N) (a : Fin 256) (b : Fin 1408)
theorem iblk_0 : b0 m c t (ix2 a b) = aW m c (ix2 (row t a) b) := by
  rw [← V_0]; blk_ext [iblk, idx t]
theorem iblk_1 : b1 m c t (ix2 a b) = aG m c (ix2 (row t a) b) := by
  rw [← V_1]; blk_ext [iblk, idx t]
theorem iblk_2 : b2 m c t (ix2 a b) = aP m c (ix2 (row t a) b) := by
  rw [← V_2]; blk_ext [iblk, idx t]
theorem iblk_3 : b3 m c t (ix2 a b) = aQ m c (ix2 (row t a) b) := by
  rw [← V_3]; blk_ext [iblk, idx t]
end Blocks

theorem delta_arr : (dats m 0 c).arrAt 4 cfg0.N = Cert.AdamGateReferenceIdeal.Read.val_main_v23 (F := Ideal) (aW m c) (aG m c) (aP m c) (aQ m c) := by
  refine (dats m 0 c).arrAt_eq_of_covers 4 _ (by decide +kernel) fun t hf y => ?_
  obtain ⟨a, b, rfl⟩ : ∃ (a : Fin 256) (b : Fin 1408), y = ix2 a b := ⟨y 0, y 1, eq_ix2 y⟩
  have e : ((View.whole main_v0_0).slice (win0_4.rect t)).emb (ix2 a b) = ix2 (row t a) b := by blk_ext [idx t]
  have key : delta (b0 m c t (ix2 a b)) (b1 m c t (ix2 a b)) (b2 m c t (ix2 a b)) (b3 m c t (ix2 a b)) = delta (aW m c (ix2 (row t a) b)) (aG m c (ix2 (row t a) b)) (aP m c (ix2 (row t a) b)) (aQ m c (ix2 (row t a) b)) := by rw [iblk_0, iblk_1, iblk_2, iblk_3]
  blk_simp; rw [after0_4]
  refine Eq.trans ?_ (key.trans (congrArg (Cert.AdamGateReferenceIdeal.Read.val_main_v23 (F := Ideal) (aW m c) (aG m c) (aP m c) (aQ m c)) e.symm))
  frame_out; rfl

theorem mean_arr : (dats m 0 c).arrAt 5 cfg0.N = Cert.AdamGateReferenceIdeal.Read.val_main_v4 (F := Ideal) (aG m c) (aP m c) := by
  refine (dats m 0 c).arrAt_eq_of_covers 5 _ (by decide +kernel) fun t hf y => ?_
  obtain ⟨a, b, rfl⟩ : ∃ (a : Fin 256) (b : Fin 1408), y = ix2 a b := ⟨y 0, y 1, eq_ix2 y⟩
  have e : ((View.whole main_v0_1).slice (win0_5.rect t)).emb (ix2 a b) = ix2 (row t a) b := by blk_ext [idx t]
  have key : mean (b1 m c t (ix2 a b)) (b2 m c t (ix2 a b)) = mean (aG m c (ix2 (row t a) b)) (aP m c (ix2 (row t a) b)) := by rw [iblk_1, iblk_2]
  blk_simp; rw [after0_5]
  refine Eq.trans ?_ (key.trans (congrArg (Cert.AdamGateReferenceIdeal.Read.val_main_v4 (F := Ideal) (aG m c) (aP m c)) e.symm))
  frame_out; rfl

theorem mean_sq_arr : (dats m 0 c).arrAt 6 cfg0.N = Cert.AdamGateReferenceIdeal.Read.val_main_v10 (F := Ideal) (aG m c) (aQ m c) := by
  refine (dats m 0 c).arrAt_eq_of_covers 6 _ (by decide +kernel) fun t hf y => ?_
  obtain ⟨a, b, rfl⟩ : ∃ (a : Fin 256) (b : Fin 1408), y = ix2 a b := ⟨y 0, y 1, eq_ix2 y⟩
  have e : ((View.whole main_v0_2).slice (win0_6.rect t)).emb (ix2 a b) = ix2 (row t a) b := by blk_ext [idx t]
  have key : meanSq (b1 m c t (ix2 a b)) (b3 m c t (ix2 a b)) = meanSq (aG m c (ix2 (row t a) b)) (aQ m c (ix2 (row t a) b)) := by rw [iblk_1, iblk_3]
  blk_simp; rw [after0_6]
  refine Eq.trans ?_ (key.trans (congrArg (Cert.AdamGateReferenceIdeal.Read.val_main_v10 (F := Ideal) (aG m c) (aQ m c)) e.symm))
  frame_out; rfl

theorem grad_arr : (dats m 0 c).arrAt 7 cfg0.N = aG m c := by
  refine (dats m 0 c).arrAt_eq_of_covers 7 _ (by decide +kernel) fun t hf y => ?_
  obtain ⟨a, b, rfl⟩ : ∃ (a : Fin 256) (b : Fin 1408), y = ix2 a b := ⟨y 0, y 1, eq_ix2 y⟩
  have e : ((View.whole main_v0_3).slice (win0_7.rect t)).emb (ix2 a b) = ix2 (row t a) b := by blk_ext [idx t]
  have key : (b1 m c t (ix2 a b)) = (aG m c (ix2 (row t a) b)) := by rw [iblk_1]
  blk_simp; rw [after0_7]
  refine Eq.trans ?_ (key.trans (congrArg (aG m c) e.symm))
  frame_out

end Cert.AdamGateKernelIdeal.Spec

namespace Cert.AdamGate

open Idealize.ShloMosaic Idealize.SL.Sem

theorem frame_reference : Cert.quiescent_AdamGateReferenceIdeal := fun m ρ _ =>
  (θ_run Cert.AdamGateReferenceIdeal.defs _ _).mono (fun r h => ⟨fun c => (h c).2.2.2.2,
    Idealize.ShloMosaic.sem_eq_zero_of_no_sems (by decide) r.2⟩) (Cert.AdamGateReferenceIdeal.Value.run (F := Ideal) m ρ)

theorem algebraic : Cert.algebraic_AdamGateKernelIdeal_AdamGateReferenceIdeal := by
  intro m g m' g' hpre hargs
  refine ⟨fun c => (Cert.AdamGateKernelIdeal.Gen.dats m 0 c).arrAt 4 Cert.AdamGateKernelIdeal.cfg0.N,
    fun c => (Cert.AdamGateKernelIdeal.Gen.dats m 0 c).arrAt 5 Cert.AdamGateKernelIdeal.cfg0.N,
    fun c => (Cert.AdamGateKernelIdeal.Gen.dats m 0 c).arrAt 6 Cert.AdamGateKernelIdeal.cfg0.N,
    fun c => (Cert.AdamGateKernelIdeal.Gen.dats m 0 c).arrAt 7 Cert.AdamGateKernelIdeal.cfg0.N,
    Cert.AdamGateKernelIdeal.Value.run_blocks m g, ?_⟩
  refine (θ_run Cert.AdamGateReferenceIdeal.defs _ _).mono (fun r h c => ?_) (Cert.AdamGateReferenceIdeal.Value.run (F := Ideal) m' g')
  obtain ⟨h0, h1, h2, h3, hk⟩ := h c
  obtain ⟨a0, a1, a2, a3⟩ := hargs c
  refine ⟨h0.trans ?_, h1.trans ?_, h2.trans ?_, h3.trans ?_, hk⟩
  · rw [Cert.AdamGateReferenceIdeal.Read.val_main_v23_eq, a0, a1, a2, a3]
    exact (Cert.AdamGateKernelIdeal.Spec.delta_arr m c).symm
  · rw [Cert.AdamGateReferenceIdeal.Read.val_main_v4_eq, a1, a2]
    exact (Cert.AdamGateKernelIdeal.Spec.mean_arr m c).symm
  · rw [Cert.AdamGateReferenceIdeal.Read.val_main_v10_eq, a1, a3]
    exact (Cert.AdamGateKernelIdeal.Spec.mean_sq_arr m c).symm
  · exact a1.trans (Cert.AdamGateKernelIdeal.Spec.grad_arr m c).symm

end Cert.AdamGate
-- ==== Proof.lean ====
module

public import proofs.«01_k».proof.Defs

public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.Gen.Pre_norm_finite
public import proofs.«01_k».proof.Proof.Gen.GlaKernel
public import proofs.«01_k».proof.Proof.Gen.GlaKernel.Skeleton
public import proofs.«01_k».proof.Proof.Gen.GlaKernel.Launch
public import proofs.«01_k».proof.Proof.Gen.GlaKernelIdeal.Regions
public import proofs.«01_k».proof.Proof.Gen.Pre_gla_finite
public import proofs.«01_k».proof.Proof.Gen.MixKernel.Frame
public import proofs.«01_k».proof.Proof.Gen.MixKernelIdeal.Frame
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Gen.PostKernel.Frame
public import proofs.«01_k».proof.Proof.Gen.PostKernelIdeal.Frame
public import proofs.«01_k».proof.Proof.Gen.PostKernelIdeal.Value
public import proofs.«01_k».proof.Proof.Gen.PostReferenceIdeal.Run
public import proofs.«01_k».proof.Proof.Gen.PostReferenceIdeal.Read
public import proofs.«01_k».proof.Proof.Gen.Pre_post_finite
public import proofs.«01_k».proof.Proof.Gen.WindowKernel.Frame
public import proofs.«01_k».proof.Proof.Gen.WindowKernelIdeal.Frame
public import proofs.«01_k».proof.Proof.Gen.WindowKernelIdeal.Value
public import proofs.«01_k».proof.Proof.Gen.WindowReferenceIdeal.Run
public import proofs.«01_k».proof.Proof.Gen.WindowReferenceIdeal.Read
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.Pre_loss_finite
public import proofs.«01_k».proof.Proof.Gen.ActKernel.Frame
public import proofs.«01_k».proof.Proof.Gen.ActKernelIdeal.Frame
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.Gen.Pre_act_finite
public import proofs.«01_k».proof.Proof.Gen.NormFwdKernel.Frame
public import proofs.«01_k».proof.Proof.Gen.NormFwdKernelIdeal.Frame
public import proofs.«01_k».proof.Proof.Gen.NormFwdKernelIdeal.Value
public import proofs.«01_k».proof.Proof.Gen.NormFwdReferenceIdeal.Run
public import proofs.«01_k».proof.Proof.Gen.NormFwdReferenceIdeal.Read
public import proofs.«01_k».proof.Proof.Gen.PostFwdKernel.Frame
public import proofs.«01_k».proof.Proof.Gen.PostFwdKernelIdeal.Frame
public import proofs.«01_k».proof.Proof.Gen.PostFwdKernelIdeal.Value
public import proofs.«01_k».proof.Proof.Gen.PostFwdReferenceIdeal.Run
public import proofs.«01_k».proof.Proof.Gen.PostFwdReferenceIdeal.Read
public import proofs.«01_k».proof.Proof.Gen.MixFwdKernel.Frame
public import proofs.«01_k».proof.Proof.Gen.MixFwdKernelIdeal.Frame
public import proofs.«01_k».proof.Proof.Gen.MixFwdKernelIdeal.Value
public import proofs.«01_k».proof.Proof.Gen.MixFwdReferenceIdeal.Run
public import proofs.«01_k».proof.Proof.Gen.MixFwdReferenceIdeal.Read
public import proofs.«01_k».proof.Proof.Gen.GateupFwdKernel.Frame
public import proofs.«01_k».proof.Proof.Gen.GateupFwdKernelIdeal.Frame
public import proofs.«01_k».proof.Proof.Gen.GateupFwdKernelIdeal.Value
public import proofs.«01_k».proof.Proof.Gen.GateupFwdReferenceIdeal.Run
public import proofs.«01_k».proof.Proof.Gen.GateupFwdReferenceIdeal.Read
public import proofs.«01_k».proof.Proof.Gen.WindowFwdKernel.Frame
public import proofs.«01_k».proof.Proof.Gen.WindowFwdKernelIdeal.Frame
public import proofs.«01_k».proof.Proof.Gen.WindowFwdKernelIdeal.Value
public import proofs.«01_k».proof.Proof.Gen.WindowFwdReferenceIdeal.Run
public import proofs.«01_k».proof.Proof.Gen.WindowFwdReferenceIdeal.Read
public import proofs.«01_k».proof.Proof.Gen.Pre_window_fwd_finite
public import proofs.«01_k».proof.Proof.Gen.ProjKernel.Frame
public import proofs.«01_k».proof.Proof.Gen.ProjKernelIdeal.Frame
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.WgradKernel.Frame
public import proofs.«01_k».proof.Proof.Gen.WgradKernelIdeal.Frame
public import proofs.«01_k».proof.Proof.Gen.WgradKernelIdeal.Value
public import proofs.«01_k».proof.Proof.Gen.WgradReferenceIdeal.Run
public import proofs.«01_k».proof.Proof.Gen.WgradReferenceIdeal.Read
public import proofs.«01_k».proof.Proof.Gen.ResidKernel.Frame
public import proofs.«01_k».proof.Proof.Gen.ResidKernelIdeal.Frame
public import proofs.«01_k».proof.Proof.Gen.ResidKernelIdeal.Value
public import proofs.«01_k».proof.Proof.Gen.ResidReferenceIdeal.Run
public import proofs.«01_k».proof.Proof.Gen.ResidReferenceIdeal.Read
public import proofs.«01_k».proof.Proof.Gen.BackKernel.Frame
public import proofs.«01_k».proof.Proof.Gen.BackKernelIdeal.Frame
public import proofs.«01_k».proof.Proof.Gen.BackKernelIdeal.Value
public import proofs.«01_k».proof.Proof.Gen.BackReferenceIdeal.Run
public import proofs.«01_k».proof.Proof.Gen.BackReferenceIdeal.Read
public import proofs.«01_k».proof.Proof.Gen.TotalKernel.Frame
public import proofs.«01_k».proof.Proof.Gen.TotalKernelIdeal.Frame
public import proofs.«01_k».proof.Proof.Gen.TotalKernelIdeal.Value
public import proofs.«01_k».proof.Proof.Gen.TotalReferenceIdeal.Run
public import proofs.«01_k».proof.Proof.Gen.TotalReferenceIdeal.Read
public import proofs.«01_k».proof.Proof.Gen.AdamKernel.Frame
public import proofs.«01_k».proof.Proof.Gen.AdamKernelIdeal.Frame
public import proofs.«01_k».proof.Proof.Gen.AdamKernelIdeal.Value
public import proofs.«01_k».proof.Proof.Gen.AdamReferenceIdeal.Run
public import proofs.«01_k».proof.Proof.Gen.AdamReferenceIdeal.Read
public import proofs.«01_k».proof.Proof.Gen.WprojKernel.Frame
public import proofs.«01_k».proof.Proof.Gen.WprojKernelIdeal.Frame
public import proofs.«01_k».proof.Proof.Gen.WprojKernelIdeal.Value
public import proofs.«01_k».proof.Proof.Gen.WprojReferenceIdeal.Run
public import proofs.«01_k».proof.Proof.Gen.WprojReferenceIdeal.Read
public import proofs.«01_k».proof.Proof.Gen.WdownKernel.Frame
public import proofs.«01_k».proof.Proof.Gen.WdownKernelIdeal.Frame
public import proofs.«01_k».proof.Proof.Gen.WdownKernelIdeal.Value
public import proofs.«01_k».proof.Proof.Gen.WdownReferenceIdeal.Run
public import proofs.«01_k».proof.Proof.Gen.WdownReferenceIdeal.Read
public import proofs.«01_k».proof.Proof.Gen.WgateKernel.Frame
public import proofs.«01_k».proof.Proof.Gen.WgateKernelIdeal.Frame
public import proofs.«01_k».proof.Proof.Gen.WgateKernelIdeal.Value
public import proofs.«01_k».proof.Proof.Gen.WgateReferenceIdeal.Run
public import proofs.«01_k».proof.Proof.Gen.WgateReferenceIdeal.Read
public import proofs.«01_k».proof.Proof.Gen.AdamGateKernel.Frame
public import proofs.«01_k».proof.Proof.Gen.AdamGateKernelIdeal.Frame
public import proofs.«01_k».proof.Proof.Gen.AdamGateKernelIdeal.Value
public import proofs.«01_k».proof.Proof.Gen.AdamGateReferenceIdeal.Run
public import proofs.«01_k».proof.Proof.Gen.AdamGateReferenceIdeal.Read
public import proofs.«01_k».proof.Proof.Gen.ProjBackKernel.Frame
public import proofs.«01_k».proof.Proof.Gen.ProjBackKernelIdeal.Frame
public import proofs.«01_k».proof.Proof.Gen.ProjBackKernelIdeal.Value
public import proofs.«01_k».proof.Proof.Gen.ProjBackReferenceIdeal.Run
public import proofs.«01_k».proof.Proof.Gen.ProjBackReferenceIdeal.Read
public import proofs.«01_k».proof.Proof.Norm.Claims
public import proofs.«01_k».proof.Proof.Gla.Claims
public import proofs.«01_k».proof.Proof.Mix.Claims
public import proofs.«01_k».proof.Proof.Post.Claims
public import proofs.«01_k».proof.Proof.Window.Claims
public import proofs.«01_k».proof.Proof.Loss.Claims
public import proofs.«01_k».proof.Proof.Act.Claims
public import proofs.«01_k».proof.Proof.Norm.Forward
public import proofs.«01_k».proof.Proof.Post.Forward
public import proofs.«01_k».proof.Proof.Mix.Forward
public import proofs.«01_k».proof.Proof.Act.Forward
public import proofs.«01_k».proof.Proof.Window.Forward
public import proofs.«01_k».proof.Proof.Plain
public import proofs.«01_k».proof.Proof.Steps
public import proofs.«01_k».proof.Proof.Weights

@[expose] public section

noncomputable section

namespace Cert.Proof

open Idealize.ShloMosaic Idealize.SL.Sem

theorem claim : Cert.Claim :=
  ⟨Cert.NormKernel.Gen.facts, Cert.NormKernelIdeal.Gen.facts, Cert.NormReferenceIdeal.Gen.facts,
    Cert.GlaKernel.Gen.facts, Cert.GlaKernelIdeal.Gen.facts, Cert.GlaReferenceIdeal.Gen.facts,
    Cert.MixKernel.Gen.facts, Cert.MixKernelIdeal.Gen.facts, Cert.MixReferenceIdeal.Gen.facts,
    Cert.PostKernel.Gen.facts, Cert.PostKernelIdeal.Gen.facts, Cert.PostReferenceIdeal.Gen.facts,
    Cert.WindowKernel.Gen.facts, Cert.WindowKernelIdeal.Gen.facts, Cert.WindowReferenceIdeal.Gen.facts,
    Cert.LossKernel.Gen.facts, Cert.LossKernelIdeal.Gen.facts, Cert.LossReferenceIdeal.Gen.facts,
    Cert.ActKernel.Gen.facts, Cert.ActKernelIdeal.Gen.facts, Cert.ActReferenceIdeal.Gen.facts,
    Cert.NormFwdKernel.Gen.facts, Cert.NormFwdKernelIdeal.Gen.facts, Cert.NormFwdReferenceIdeal.Gen.facts,
    Cert.PostFwdKernel.Gen.facts, Cert.PostFwdKernelIdeal.Gen.facts, Cert.PostFwdReferenceIdeal.Gen.facts,
    Cert.MixFwdKernel.Gen.facts, Cert.MixFwdKernelIdeal.Gen.facts, Cert.MixFwdReferenceIdeal.Gen.facts,
    Cert.GateupFwdKernel.Gen.facts, Cert.GateupFwdKernelIdeal.Gen.facts, Cert.GateupFwdReferenceIdeal.Gen.facts,
    Cert.WindowFwdKernel.Gen.facts, Cert.WindowFwdKernelIdeal.Gen.facts, Cert.WindowFwdReferenceIdeal.Gen.facts,
    Cert.ProjKernel.Gen.facts, Cert.ProjKernelIdeal.Gen.facts, Cert.ProjReferenceIdeal.Gen.facts,
    Cert.WgradKernel.Gen.facts, Cert.WgradKernelIdeal.Gen.facts, Cert.WgradReferenceIdeal.Gen.facts,
    Cert.ResidKernel.Gen.facts, Cert.ResidKernelIdeal.Gen.facts, Cert.ResidReferenceIdeal.Gen.facts,
    Cert.BackKernel.Gen.facts, Cert.BackKernelIdeal.Gen.facts, Cert.BackReferenceIdeal.Gen.facts,
    Cert.TotalKernel.Gen.facts, Cert.TotalKernelIdeal.Gen.facts, Cert.TotalReferenceIdeal.Gen.facts,
    Cert.AdamKernel.Gen.facts, Cert.AdamKernelIdeal.Gen.facts, Cert.AdamReferenceIdeal.Gen.facts,
    Cert.WprojKernel.Gen.facts, Cert.WprojKernelIdeal.Gen.facts, Cert.WprojReferenceIdeal.Gen.facts,
    Cert.WdownKernel.Gen.facts, Cert.WdownKernelIdeal.Gen.facts, Cert.WdownReferenceIdeal.Gen.facts,
    Cert.WgateKernel.Gen.facts, Cert.WgateKernelIdeal.Gen.facts, Cert.WgateReferenceIdeal.Gen.facts,
    Cert.AdamGateKernel.Gen.facts, Cert.AdamGateKernelIdeal.Gen.facts, Cert.AdamGateReferenceIdeal.Gen.facts,
    Cert.ProjBackKernel.Gen.facts, Cert.ProjBackKernelIdeal.Gen.facts, Cert.ProjBackReferenceIdeal.Gen.facts,
    Cert.Pre_norm_finite.Gen.facts, Cert.Pre_gla_finite.Gen.facts, Cert.Pre_post_finite.Gen.facts, Cert.Pre_window_finite.facts, Cert.Pre_loss_finite.Gen.facts, Cert.Pre_act_finite.Gen.facts, Cert.Pre_window_fwd_finite.Gen.facts,
    fun m ρ _ => Cert.NormKernel.Gen.frame m ρ, fun m ρ _ => Cert.NormKernelIdeal.Gen.frame m ρ, fun m ρ _ => Cert.NormKernelIdeal.Gen.frame m ρ, Cert.Norm.frame_reference, fun m ρ _ => Cert.Norm.frame_reference m ρ trivial,
    Cert.Gla.frame_kernel, Cert.Gla.frame_kernel_ideal, fun m ρ _ => Cert.Gla.frame_kernel_ideal m ρ trivial, Cert.Gla.frame_reference, fun m ρ _ => Cert.Gla.frame_reference m ρ trivial,
    fun m ρ _ => Cert.MixKernel.Gen.frame m ρ, fun m ρ _ => Cert.MixKernelIdeal.Gen.frame m ρ, Cert.Mix.frame_reference,
    fun m ρ _ => Cert.PostKernel.Gen.frame m ρ, fun m ρ _ => Cert.PostKernelIdeal.Gen.frame m ρ, fun m ρ _ => Cert.PostKernelIdeal.Gen.frame m ρ, Cert.Post.frame_reference, fun m ρ _ => Cert.Post.frame_reference m ρ trivial,
    fun m ρ _ => Cert.WindowKernel.Gen.frame m ρ, fun m ρ _ => Cert.WindowKernelIdeal.Gen.frame m ρ, fun m ρ _ => Cert.WindowKernelIdeal.Gen.frame m ρ, Cert.Window.frame_reference, fun m ρ _ => Cert.Window.frame_reference m ρ trivial,
    fun m ρ _ => Cert.LossKernel.Gen.frame m ρ, fun m ρ _ => Cert.LossKernelIdeal.Gen.frame m ρ, fun m ρ _ => Cert.LossKernelIdeal.Gen.frame m ρ, Cert.Loss.frame_reference, fun m ρ _ => Cert.Loss.frame_reference m ρ trivial,
    fun m ρ _ => Cert.ActKernel.Gen.frame m ρ, fun m ρ _ => Cert.ActKernelIdeal.Gen.frame m ρ, fun m ρ _ => Cert.ActKernelIdeal.Gen.frame m ρ, Cert.Act.frame_reference, fun m ρ _ => Cert.Act.frame_reference m ρ trivial,
    fun m ρ _ => Cert.NormFwdKernel.Gen.frame m ρ, fun m ρ _ => Cert.NormFwdKernelIdeal.Gen.frame m ρ, Cert.NormFwd.frame_reference,
    fun m ρ _ => Cert.PostFwdKernel.Gen.frame m ρ, fun m ρ _ => Cert.PostFwdKernelIdeal.Gen.frame m ρ, Cert.PostFwd.frame_reference,
    fun m ρ _ => Cert.MixFwdKernel.Gen.frame m ρ, fun m ρ _ => Cert.MixFwdKernelIdeal.Gen.frame m ρ, Cert.MixFwd.frame_reference,
    fun m ρ _ => Cert.GateupFwdKernel.Gen.frame m ρ, fun m ρ _ => Cert.GateupFwdKernelIdeal.Gen.frame m ρ, Cert.GateupFwd.frame_reference,
    fun m ρ _ => Cert.WindowFwdKernel.Gen.frame m ρ, fun m ρ _ => Cert.WindowFwdKernelIdeal.Gen.frame m ρ, fun m ρ _ => Cert.WindowFwdKernelIdeal.Gen.frame m ρ, Cert.WindowFwd.frame_reference, fun m ρ _ => Cert.WindowFwd.frame_reference m ρ trivial,
    fun m ρ _ => Cert.ProjKernel.Gen.frame m ρ, fun m ρ _ => Cert.ProjKernelIdeal.Gen.frame m ρ, Cert.Proj.frame_reference,
    fun m ρ _ => Cert.WgradKernel.Gen.frame m ρ, fun m ρ _ => Cert.WgradKernelIdeal.Gen.frame m ρ, Cert.Wgrad.frame_reference,
    fun m ρ _ => Cert.ResidKernel.Gen.frame m ρ, fun m ρ _ => Cert.ResidKernelIdeal.Gen.frame m ρ, Cert.Resid.frame_reference,
    fun m ρ _ => Cert.BackKernel.Gen.frame m ρ, fun m ρ _ => Cert.BackKernelIdeal.Gen.frame m ρ, Cert.Back.frame_reference,
    fun m ρ _ => Cert.TotalKernel.Gen.frame m ρ, fun m ρ _ => Cert.TotalKernelIdeal.Gen.frame m ρ, Cert.Total.frame_reference,
    fun m ρ _ => Cert.AdamKernel.Gen.frame m ρ, fun m ρ _ => Cert.AdamKernelIdeal.Gen.frame m ρ, Cert.Adam.frame_reference,
    fun m ρ _ => Cert.WprojKernel.Gen.frame m ρ, fun m ρ _ => Cert.WprojKernelIdeal.Gen.frame m ρ, Cert.Wproj.frame_reference,
    fun m ρ _ => Cert.WdownKernel.Gen.frame m ρ, fun m ρ _ => Cert.WdownKernelIdeal.Gen.frame m ρ, Cert.Wdown.frame_reference,
    fun m ρ _ => Cert.WgateKernel.Gen.frame m ρ, fun m ρ _ => Cert.WgateKernelIdeal.Gen.frame m ρ, Cert.Wgate.frame_reference,
    fun m ρ _ => Cert.AdamGateKernel.Gen.frame m ρ, fun m ρ _ => Cert.AdamGateKernelIdeal.Gen.frame m ρ, Cert.AdamGate.frame_reference,
    fun m ρ _ => Cert.ProjBackKernel.Gen.frame m ρ, fun m ρ _ => Cert.ProjBackKernelIdeal.Gen.frame m ρ, Cert.ProjBack.frame_reference,
    trivial, Cert.Norm.algebraic, trivial, Cert.Gla.algebraic, trivial, Cert.Mix.algebraic, trivial, Cert.Post.algebraic, trivial, Cert.Window.algebraic, trivial, Cert.Loss.algebraic, trivial, Cert.Act.algebraic, trivial, Cert.NormFwd.algebraic, trivial, Cert.PostFwd.algebraic, trivial, Cert.MixFwd.algebraic, trivial, Cert.GateupFwd.algebraic, trivial, Cert.WindowFwd.algebraic, trivial, Cert.Proj.algebraic, trivial, Cert.Wgrad.algebraic, trivial, Cert.Resid.algebraic, trivial, Cert.Back.algebraic, trivial, Cert.Total.algebraic, trivial, Cert.Adam.algebraic, trivial, Cert.Wproj.algebraic, trivial, Cert.Wdown.algebraic, trivial, Cert.Wgate.algebraic, trivial, Cert.AdamGate.algebraic, trivial, Cert.ProjBack.algebraic⟩

end Cert.Proof

end
